-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_UpGradA (m : (ℓ : Loc Cert.UpGradA.nD Cert.UpGradA.τ Cert.UpGradA.sig) → Buf (Elt Bits) ℓ) : Prop :=
  True

def Pre_UpGradAIdeal (m : (ℓ : Loc Cert.UpGradAIdeal.nD Cert.UpGradAIdeal.τ Cert.UpGradAIdeal.sig) → Buf (Elt Ideal) ℓ) : Prop :=
  True

def Pre_UpGradARefIdeal (m : (ℓ : Loc Cert.UpGradARefIdeal.nD Cert.UpGradARefIdeal.τ Cert.UpGradARefIdeal.sig) → Buf (Elt Ideal) ℓ) : Prop :=
  True

def Pre_UpGradW (m : (ℓ : Loc Cert.UpGradW.nD Cert.UpGradW.τ Cert.UpGradW.sig) → Buf (Elt Bits) ℓ) : Prop :=
  True

def Pre_UpGradWIdeal (m : (ℓ : Loc Cert.UpGradWIdeal.nD Cert.UpGradWIdeal.τ Cert.UpGradWIdeal.sig) → Buf (Elt Ideal) ℓ) : Prop :=
  True

def Pre_UpGradWRefIdeal (m : (ℓ : Loc Cert.UpGradWRefIdeal.nD Cert.UpGradWRefIdeal.τ Cert.UpGradWRefIdeal.sig) → Buf (Elt Ideal) ℓ) : Prop :=
  True

def Pre_DownGradA (m : (ℓ : Loc Cert.DownGradA.nD Cert.DownGradA.τ Cert.DownGradA.sig) → Buf (Elt Bits) ℓ) : Prop :=
  True

def Pre_DownGradAIdeal (m : (ℓ : Loc Cert.DownGradAIdeal.nD Cert.DownGradAIdeal.τ Cert.DownGradAIdeal.sig) → Buf (Elt Ideal) ℓ) : Prop :=
  True

def Pre_DownGradARefIdeal (m : (ℓ : Loc Cert.DownGradARefIdeal.nD Cert.DownGradARefIdeal.τ Cert.DownGradARefIdeal.sig) → Buf (Elt Ideal) ℓ) : Prop :=
  True

def Pre_DownGradW (m : (ℓ : Loc Cert.DownGradW.nD Cert.DownGradW.τ Cert.DownGradW.sig) → Buf (Elt Bits) ℓ) : Prop :=
  True

def Pre_DownGradWIdeal (m : (ℓ : Loc Cert.DownGradWIdeal.nD Cert.DownGradWIdeal.τ Cert.DownGradWIdeal.sig) → Buf (Elt Ideal) ℓ) : Prop :=
  True

def Pre_DownGradWRefIdeal (m : (ℓ : Loc Cert.DownGradWRefIdeal.nD Cert.DownGradWRefIdeal.τ Cert.DownGradWRefIdeal.sig) → Buf (Elt Ideal) ℓ) : Prop :=
  True

def Pre_InGradA (m : (ℓ : Loc Cert.InGradA.nD Cert.InGradA.τ Cert.InGradA.sig) → Buf (Elt Bits) ℓ) : Prop :=
  True

def Pre_InGradAIdeal (m : (ℓ : Loc Cert.InGradAIdeal.nD Cert.InGradAIdeal.τ Cert.InGradAIdeal.sig) → Buf (Elt Ideal) ℓ) : Prop :=
  True

def Pre_InGradARefIdeal (m : (ℓ : Loc Cert.InGradARefIdeal.nD Cert.InGradARefIdeal.τ Cert.InGradARefIdeal.sig) → Buf (Elt Ideal) ℓ) : Prop :=
  True

def Pre_InGradW (m : (ℓ : Loc Cert.InGradW.nD Cert.InGradW.τ Cert.InGradW.sig) → Buf (Elt Bits) ℓ) : Prop :=
  True

def Pre_InGradWIdeal (m : (ℓ : Loc Cert.InGradWIdeal.nD Cert.InGradWIdeal.τ Cert.InGradWIdeal.sig) → Buf (Elt Ideal) ℓ) : Prop :=
  True

def Pre_InGradWRefIdeal (m : (ℓ : Loc Cert.InGradWRefIdeal.nD Cert.InGradWRefIdeal.τ Cert.InGradWRefIdeal.sig) → Buf (Elt Ideal) ℓ) : Prop :=
  True

def Pre_OutGradA (m : (ℓ : Loc Cert.OutGradA.nD Cert.OutGradA.τ Cert.OutGradA.sig) → Buf (Elt Bits) ℓ) : Prop :=
  True

def Pre_OutGradAIdeal (m : (ℓ : Loc Cert.OutGradAIdeal.nD Cert.OutGradAIdeal.τ Cert.OutGradAIdeal.sig) → Buf (Elt Ideal) ℓ) : Prop :=
  True

def Pre_OutGradARefIdeal (m : (ℓ : Loc Cert.OutGradARefIdeal.nD Cert.OutGradARefIdeal.τ Cert.OutGradARefIdeal.sig) → Buf (Elt Ideal) ℓ) : Prop :=
  True

def Pre_OutGradW (m : (ℓ : Loc Cert.OutGradW.nD Cert.OutGradW.τ Cert.OutGradW.sig) → Buf (Elt Bits) ℓ) : Prop :=
  True

def Pre_OutGradWIdeal (m : (ℓ : Loc Cert.OutGradWIdeal.nD Cert.OutGradWIdeal.τ Cert.OutGradWIdeal.sig) → Buf (Elt Ideal) ℓ) : Prop :=
  True

def Pre_OutGradWRefIdeal (m : (ℓ : Loc Cert.OutGradWRefIdeal.nD Cert.OutGradWRefIdeal.τ Cert.OutGradWRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_qkv [hPre_finite_qkv : Cert.Pre_finite_qkv.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_qkv.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_qkv [hPre_finite_qkv : Cert.Pre_finite_qkv.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_qkv.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))) = (fun _ => 1#1)

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_finite_conv [hPre_finite_conv : Cert.Pre_finite_conv.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))) = (fun _ => 1#1)

def Pre_ConvBwdRefIdeal (m : (ℓ : Loc Cert.ConvBwdRefIdeal.nD Cert.ConvBwdRefIdeal.τ Cert.ConvBwdRefIdeal.sig) → Buf (Elt Ideal) ℓ) : Prop :=
  True

def Pre_ConvBwdRefIdeal_finite_conv [hPre_finite_conv : Cert.Pre_finite_conv.Facts] (m : (ℓ : Loc Cert.ConvBwdRefIdeal.nD Cert.ConvBwdRefIdeal.τ Cert.ConvBwdRefIdeal.sig) → Buf (Elt Ideal) ℓ) : Prop :=
  ∀ c : Dev Cert.ConvBwdRefIdeal.nD,
    (Cert.Pre_finite_conv.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3))) = (fun _ => 1#1)

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_HgGateBwd (m : (ℓ : Loc Cert.HgGateBwd.nD Cert.HgGateBwd.τ Cert.HgGateBwd.sig) → Buf (Elt Bits) ℓ) : Prop :=
  True

def Pre_HgGateBwdIdeal (m : (ℓ : Loc Cert.HgGateBwdIdeal.nD Cert.HgGateBwdIdeal.τ Cert.HgGateBwdIdeal.sig) → Buf (Elt Ideal) ℓ) : Prop :=
  True

def Pre_HgGateBwdRefIdeal (m : (ℓ : Loc Cert.HgGateBwdRefIdeal.nD Cert.HgGateBwdRefIdeal.τ Cert.HgGateBwdRefIdeal.sig) → Buf (Elt Ideal) ℓ) : Prop :=
  True

def Pre_FinalBwd (m : (ℓ : Loc Cert.FinalBwd.nD Cert.FinalBwd.τ Cert.FinalBwd.sig) → Buf (Elt Bits) ℓ) : Prop :=
  True

def Pre_FinalBwdIdeal (m : (ℓ : Loc Cert.FinalBwdIdeal.nD Cert.FinalBwdIdeal.τ Cert.FinalBwdIdeal.sig) → Buf (Elt Ideal) ℓ) : Prop :=
  True

def Pre_FinalBwdRefIdeal (m : (ℓ : Loc Cert.FinalBwdRefIdeal.nD Cert.FinalBwdRefIdeal.τ Cert.FinalBwdRefIdeal.sig) → Buf (Elt Ideal) ℓ) : Prop :=
  True

def Pre_HgGateFwd (m : (ℓ : Loc Cert.HgGateFwd.nD Cert.HgGateFwd.τ Cert.HgGateFwd.sig) → Buf (Elt Bits) ℓ) : Prop :=
  True

def Pre_HgGateFwdIdeal (m : (ℓ : Loc Cert.HgGateFwdIdeal.nD Cert.HgGateFwdIdeal.τ Cert.HgGateFwdIdeal.sig) → Buf (Elt Ideal) ℓ) : Prop :=
  True

def Pre_HgGateFwdRefIdeal (m : (ℓ : Loc Cert.HgGateFwdRefIdeal.nD Cert.HgGateFwdRefIdeal.τ Cert.HgGateFwdRefIdeal.sig) → Buf (Elt Ideal) ℓ) : Prop :=
  True

def Pre_FinalFwd (m : (ℓ : Loc Cert.FinalFwd.nD Cert.FinalFwd.τ Cert.FinalFwd.sig) → Buf (Elt Bits) ℓ) : Prop :=
  True

def Pre_FinalFwdIdeal (m : (ℓ : Loc Cert.FinalFwdIdeal.nD Cert.FinalFwdIdeal.τ Cert.FinalFwdIdeal.sig) → Buf (Elt Ideal) ℓ) : Prop :=
  True

def Pre_FinalFwdRefIdeal (m : (ℓ : Loc Cert.FinalFwdRefIdeal.nD Cert.FinalFwdRefIdeal.τ Cert.FinalFwdRefIdeal.sig) → Buf (Elt Ideal) ℓ) : Prop :=
  True

def Pre_ResidFwd (m : (ℓ : Loc Cert.ResidFwd.nD Cert.ResidFwd.τ Cert.ResidFwd.sig) → Buf (Elt Bits) ℓ) : Prop :=
  True

def Pre_ResidFwdIdeal (m : (ℓ : Loc Cert.ResidFwdIdeal.nD Cert.ResidFwdIdeal.τ Cert.ResidFwdIdeal.sig) → Buf (Elt Ideal) ℓ) : Prop :=
  True

def Pre_ResidFwdRefIdeal (m : (ℓ : Loc Cert.ResidFwdRefIdeal.nD Cert.ResidFwdRefIdeal.τ Cert.ResidFwdRefIdeal.sig) → Buf (Elt Ideal) ℓ) : Prop :=
  True

def Pre_ModNormFwd (m : (ℓ : Loc Cert.ModNormFwd.nD Cert.ModNormFwd.τ Cert.ModNormFwd.sig) → Buf (Elt Bits) ℓ) : Prop :=
  True

def Pre_ModNormFwdIdeal (m : (ℓ : Loc Cert.ModNormFwdIdeal.nD Cert.ModNormFwdIdeal.τ Cert.ModNormFwdIdeal.sig) → Buf (Elt Ideal) ℓ) : Prop :=
  True

def Pre_ModNormFwdRefIdeal (m : (ℓ : Loc Cert.ModNormFwdRefIdeal.nD Cert.ModNormFwdRefIdeal.τ Cert.ModNormFwdRefIdeal.sig) → Buf (Elt Ideal) ℓ) : Prop :=
  True

def Pre_QkBwd (m : (ℓ : Loc Cert.QkBwd.nD Cert.QkBwd.τ Cert.QkBwd.sig) → Buf (Elt Bits) ℓ) : Prop :=
  True

def Pre_QkBwdIdeal (m : (ℓ : Loc Cert.QkBwdIdeal.nD Cert.QkBwdIdeal.τ Cert.QkBwdIdeal.sig) → Buf (Elt Ideal) ℓ) : Prop :=
  True

def Pre_QkBwdRefIdeal (m : (ℓ : Loc Cert.QkBwdRefIdeal.nD Cert.QkBwdRefIdeal.τ Cert.QkBwdRefIdeal.sig) → Buf (Elt Ideal) ℓ) : Prop :=
  True

def Pre_QkFwd (m : (ℓ : Loc Cert.QkFwd.nD Cert.QkFwd.τ Cert.QkFwd.sig) → Buf (Elt Bits) ℓ) : Prop :=
  True

def Pre_QkFwdIdeal (m : (ℓ : Loc Cert.QkFwdIdeal.nD Cert.QkFwdIdeal.τ Cert.QkFwdIdeal.sig) → Buf (Elt Ideal) ℓ) : Prop :=
  True

def Pre_QkFwdRefIdeal (m : (ℓ : Loc Cert.QkFwdRefIdeal.nD Cert.QkFwdRefIdeal.τ Cert.QkFwdRefIdeal.sig) → Buf (Elt Ideal) ℓ) : Prop :=
  True

def Pre_SgateFwd (m : (ℓ : Loc Cert.SgateFwd.nD Cert.SgateFwd.τ Cert.SgateFwd.sig) → Buf (Elt Bits) ℓ) : Prop :=
  True

def Pre_SgateFwdIdeal (m : (ℓ : Loc Cert.SgateFwdIdeal.nD Cert.SgateFwdIdeal.τ Cert.SgateFwdIdeal.sig) → Buf (Elt Ideal) ℓ) : Prop :=
  True

def Pre_SgateFwdRefIdeal (m : (ℓ : Loc Cert.SgateFwdRefIdeal.nD Cert.SgateFwdRefIdeal.τ Cert.SgateFwdRefIdeal.sig) → Buf (Elt Ideal) ℓ) : Prop :=
  True

def Pre_SgateBwd (m : (ℓ : Loc Cert.SgateBwd.nD Cert.SgateBwd.τ Cert.SgateBwd.sig) → Buf (Elt Bits) ℓ) : Prop :=
  True

def Pre_SgateBwdIdeal (m : (ℓ : Loc Cert.SgateBwdIdeal.nD Cert.SgateBwdIdeal.τ Cert.SgateBwdIdeal.sig) → Buf (Elt Ideal) ℓ) : Prop :=
  True

def Pre_SgateBwdRefIdeal (m : (ℓ : Loc Cert.SgateBwdRefIdeal.nD Cert.SgateBwdRefIdeal.τ Cert.SgateBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UpGradA [hUpGradA : Cert.UpGradA.Facts] : Prop :=
  ∀ (m : (ℓ : Loc Cert.UpGradA.nD Cert.UpGradA.τ Cert.UpGradA.sig) → Buf (Elt Bits) ℓ) (g : Dev Cert.UpGradA.nD → PrngReg), Pre_UpGradA m →
    θ_run (Cert.UpGradA.defs (F := Bits)) (onTc (τ := Cert.UpGradA.τ) (Cert.UpGradA.main (F := Bits))) ⟨m, fun _ => 0, g⟩ (fun r => (∀ c : Dev Cert.UpGradA.nD,
      r.2.mem ((c.tc : Thread Cert.UpGradA.nD Cert.UpGradA.τ).loc Cert.UpGradA.main_arg0) = m ((c.tc : Thread Cert.UpGradA.nD Cert.UpGradA.τ).loc Cert.UpGradA.main_arg0)
      ∧ r.2.mem ((c.tc : Thread Cert.UpGradA.nD Cert.UpGradA.τ).loc Cert.UpGradA.main_arg1) = m ((c.tc : Thread Cert.UpGradA.nD Cert.UpGradA.τ).loc Cert.UpGradA.main_arg1))
      ∧ r.2.sem = fun _ => 0)

def quiescent_UpGradAIdeal [hUpGradAIdeal : Cert.UpGradAIdeal.Facts] : Prop :=
  ∀ (m : (ℓ : Loc Cert.UpGradAIdeal.nD Cert.UpGradAIdeal.τ Cert.UpGradAIdeal.sig) → Buf (Elt Ideal) ℓ) (g : Dev Cert.UpGradAIdeal.nD → PrngReg), Pre_UpGradAIdeal m →
    θ_run (Cert.UpGradAIdeal.defs (F := Ideal)) (onTc (τ := Cert.UpGradAIdeal.τ) (Cert.UpGradAIdeal.main (F := Ideal))) ⟨m, fun _ => 0, g⟩ (fun r => (∀ c : Dev Cert.UpGradAIdeal.nD,
      r.2.mem ((c.tc : Thread Cert.UpGradAIdeal.nD Cert.UpGradAIdeal.τ).loc Cert.UpGradAIdeal.main_arg0) = m ((c.tc : Thread Cert.UpGradAIdeal.nD Cert.UpGradAIdeal.τ).loc Cert.UpGradAIdeal.main_arg0)
      ∧ r.2.mem ((c.tc : Thread Cert.UpGradAIdeal.nD Cert.UpGradAIdeal.τ).loc Cert.UpGradAIdeal.main_arg1) = m ((c.tc : Thread Cert.UpGradAIdeal.nD Cert.UpGradAIdeal.τ).loc Cert.UpGradAIdeal.main_arg1))
      ∧ r.2.sem = fun _ => 0)

def quiescent_UpGradARefIdeal [hUpGradARefIdeal : Cert.UpGradARefIdeal.Facts] : Prop :=
  ∀ (m : (ℓ : Loc Cert.UpGradARefIdeal.nD Cert.UpGradARefIdeal.τ Cert.UpGradARefIdeal.sig) → Buf (Elt Ideal) ℓ) (g : Dev Cert.UpGradARefIdeal.nD → PrngReg), Pre_UpGradARefIdeal m →
    θ_run (Cert.UpGradARefIdeal.defs (F := Ideal)) (onTc (τ := Cert.UpGradARefIdeal.τ) (Cert.UpGradARefIdeal.main (F := Ideal))) ⟨m, fun _ => 0, g⟩ (fun r => (∀ c : Dev Cert.UpGradARefIdeal.nD,
      r.2.mem ((c.tc : Thread Cert.UpGradARefIdeal.nD Cert.UpGradARefIdeal.τ).loc Cert.UpGradARefIdeal.main_arg0) = m ((c.tc : Thread Cert.UpGradARefIdeal.nD Cert.UpGradARefIdeal.τ).loc Cert.UpGradARefIdeal.main_arg0)
      ∧ r.2.mem ((c.tc : Thread Cert.UpGradARefIdeal.nD Cert.UpGradARefIdeal.τ).loc Cert.UpGradARefIdeal.main_arg1) = m ((c.tc : Thread Cert.UpGradARefIdeal.nD Cert.UpGradARefIdeal.τ).loc Cert.UpGradARefIdeal.main_arg1))
      ∧ r.2.sem = fun _ => 0)

def quiescent_UpGradW [hUpGradW : Cert.UpGradW.Facts] : Prop :=
  ∀ (m : (ℓ : Loc Cert.UpGradW.nD Cert.UpGradW.τ Cert.UpGradW.sig) → Buf (Elt Bits) ℓ) (g : Dev Cert.UpGradW.nD → PrngReg), Pre_UpGradW m →
    θ_run (Cert.UpGradW.defs (F := Bits)) (onTc (τ := Cert.UpGradW.τ) (Cert.UpGradW.main (F := Bits))) ⟨m, fun _ => 0, g⟩ (fun r => (∀ c : Dev Cert.UpGradW.nD,
      r.2.mem ((c.tc : Thread Cert.UpGradW.nD Cert.UpGradW.τ).loc Cert.UpGradW.main_arg0) = m ((c.tc : Thread Cert.UpGradW.nD Cert.UpGradW.τ).loc Cert.UpGradW.main_arg0)
      ∧ r.2.mem ((c.tc : Thread Cert.UpGradW.nD Cert.UpGradW.τ).loc Cert.UpGradW.main_arg1) = m ((c.tc : Thread Cert.UpGradW.nD Cert.UpGradW.τ).loc Cert.UpGradW.main_arg1))
      ∧ r.2.sem = fun _ => 0)

def quiescent_UpGradWIdeal [hUpGradWIdeal : Cert.UpGradWIdeal.Facts] : Prop :=
  ∀ (m : (ℓ : Loc Cert.UpGradWIdeal.nD Cert.UpGradWIdeal.τ Cert.UpGradWIdeal.sig) → Buf (Elt Ideal) ℓ) (g : Dev Cert.UpGradWIdeal.nD → PrngReg), Pre_UpGradWIdeal m →
    θ_run (Cert.UpGradWIdeal.defs (F := Ideal)) (onTc (τ := Cert.UpGradWIdeal.τ) (Cert.UpGradWIdeal.main (F := Ideal))) ⟨m, fun _ => 0, g⟩ (fun r => (∀ c : Dev Cert.UpGradWIdeal.nD,
      r.2.mem ((c.tc : Thread Cert.UpGradWIdeal.nD Cert.UpGradWIdeal.τ).loc Cert.UpGradWIdeal.main_arg0) = m ((c.tc : Thread Cert.UpGradWIdeal.nD Cert.UpGradWIdeal.τ).loc Cert.UpGradWIdeal.main_arg0)
      ∧ r.2.mem ((c.tc : Thread Cert.UpGradWIdeal.nD Cert.UpGradWIdeal.τ).loc Cert.UpGradWIdeal.main_arg1) = m ((c.tc : Thread Cert.UpGradWIdeal.nD Cert.UpGradWIdeal.τ).loc Cert.UpGradWIdeal.main_arg1))
      ∧ r.2.sem = fun _ => 0)

def quiescent_UpGradWRefIdeal [hUpGradWRefIdeal : Cert.UpGradWRefIdeal.Facts] : Prop :=
  ∀ (m : (ℓ : Loc Cert.UpGradWRefIdeal.nD Cert.UpGradWRefIdeal.τ Cert.UpGradWRefIdeal.sig) → Buf (Elt Ideal) ℓ) (g : Dev Cert.UpGradWRefIdeal.nD → PrngReg), Pre_UpGradWRefIdeal m →
    θ_run (Cert.UpGradWRefIdeal.defs (F := Ideal)) (onTc (τ := Cert.UpGradWRefIdeal.τ) (Cert.UpGradWRefIdeal.main (F := Ideal))) ⟨m, fun _ => 0, g⟩ (fun r => (∀ c : Dev Cert.UpGradWRefIdeal.nD,
      r.2.mem ((c.tc : Thread Cert.UpGradWRefIdeal.nD Cert.UpGradWRefIdeal.τ).loc Cert.UpGradWRefIdeal.main_arg0) = m ((c.tc : Thread Cert.UpGradWRefIdeal.nD Cert.UpGradWRefIdeal.τ).loc Cert.UpGradWRefIdeal.main_arg0)
      ∧ r.2.mem ((c.tc : Thread Cert.UpGradWRefIdeal.nD Cert.UpGradWRefIdeal.τ).loc Cert.UpGradWRefIdeal.main_arg1) = m ((c.tc : Thread Cert.UpGradWRefIdeal.nD Cert.UpGradWRefIdeal.τ).loc Cert.UpGradWRefIdeal.main_arg1))
      ∧ r.2.sem = fun _ => 0)

def quiescent_DownGradA [hDownGradA : Cert.DownGradA.Facts] : Prop :=
  ∀ (m : (ℓ : Loc Cert.DownGradA.nD Cert.DownGradA.τ Cert.DownGradA.sig) → Buf (Elt Bits) ℓ) (g : Dev Cert.DownGradA.nD → PrngReg), Pre_DownGradA m →
    θ_run (Cert.DownGradA.defs (F := Bits)) (onTc (τ := Cert.DownGradA.τ) (Cert.DownGradA.main (F := Bits))) ⟨m, fun _ => 0, g⟩ (fun r => (∀ c : Dev Cert.DownGradA.nD,
      r.2.mem ((c.tc : Thread Cert.DownGradA.nD Cert.DownGradA.τ).loc Cert.DownGradA.main_arg0) = m ((c.tc : Thread Cert.DownGradA.nD Cert.DownGradA.τ).loc Cert.DownGradA.main_arg0)
      ∧ r.2.mem ((c.tc : Thread Cert.DownGradA.nD Cert.DownGradA.τ).loc Cert.DownGradA.main_arg1) = m ((c.tc : Thread Cert.DownGradA.nD Cert.DownGradA.τ).loc Cert.DownGradA.main_arg1))
      ∧ r.2.sem = fun _ => 0)

def quiescent_DownGradAIdeal [hDownGradAIdeal : Cert.DownGradAIdeal.Facts] : Prop :=
  ∀ (m : (ℓ : Loc Cert.DownGradAIdeal.nD Cert.DownGradAIdeal.τ Cert.DownGradAIdeal.sig) → Buf (Elt Ideal) ℓ) (g : Dev Cert.DownGradAIdeal.nD → PrngReg), Pre_DownGradAIdeal m →
    θ_run (Cert.DownGradAIdeal.defs (F := Ideal)) (onTc (τ := Cert.DownGradAIdeal.τ) (Cert.DownGradAIdeal.main (F := Ideal))) ⟨m, fun _ => 0, g⟩ (fun r => (∀ c : Dev Cert.DownGradAIdeal.nD,
      r.2.mem ((c.tc : Thread Cert.DownGradAIdeal.nD Cert.DownGradAIdeal.τ).loc Cert.DownGradAIdeal.main_arg0) = m ((c.tc : Thread Cert.DownGradAIdeal.nD Cert.DownGradAIdeal.τ).loc Cert.DownGradAIdeal.main_arg0)
      ∧ r.2.mem ((c.tc : Thread Cert.DownGradAIdeal.nD Cert.DownGradAIdeal.τ).loc Cert.DownGradAIdeal.main_arg1) = m ((c.tc : Thread Cert.DownGradAIdeal.nD Cert.DownGradAIdeal.τ).loc Cert.DownGradAIdeal.main_arg1))
      ∧ r.2.sem = fun _ => 0)

def quiescent_DownGradARefIdeal [hDownGradARefIdeal : Cert.DownGradARefIdeal.Facts] : Prop :=
  ∀ (m : (ℓ : Loc Cert.DownGradARefIdeal.nD Cert.DownGradARefIdeal.τ Cert.DownGradARefIdeal.sig) → Buf (Elt Ideal) ℓ) (g : Dev Cert.DownGradARefIdeal.nD → PrngReg), Pre_DownGradARefIdeal m →
    θ_run (Cert.DownGradARefIdeal.defs (F := Ideal)) (onTc (τ := Cert.DownGradARefIdeal.τ) (Cert.DownGradARefIdeal.main (F := Ideal))) ⟨m, fun _ => 0, g⟩ (fun r => (∀ c : Dev Cert.DownGradARefIdeal.nD,
      r.2.mem ((c.tc : Thread Cert.DownGradARefIdeal.nD Cert.DownGradARefIdeal.τ).loc Cert.DownGradARefIdeal.main_arg0) = m ((c.tc : Thread Cert.DownGradARefIdeal.nD Cert.DownGradARefIdeal.τ).loc Cert.DownGradARefIdeal.main_arg0)
      ∧ r.2.mem ((c.tc : Thread Cert.DownGradARefIdeal.nD Cert.DownGradARefIdeal.τ).loc Cert.DownGradARefIdeal.main_arg1) = m ((c.tc : Thread Cert.DownGradARefIdeal.nD Cert.DownGradARefIdeal.τ).loc Cert.DownGradARefIdeal.main_arg1))
      ∧ r.2.sem = fun _ => 0)

def quiescent_DownGradW [hDownGradW : Cert.DownGradW.Facts] : Prop :=
  ∀ (m : (ℓ : Loc Cert.DownGradW.nD Cert.DownGradW.τ Cert.DownGradW.sig) → Buf (Elt Bits) ℓ) (g : Dev Cert.DownGradW.nD → PrngReg), Pre_DownGradW m →
    θ_run (Cert.DownGradW.defs (F := Bits)) (onTc (τ := Cert.DownGradW.τ) (Cert.DownGradW.main (F := Bits))) ⟨m, fun _ => 0, g⟩ (fun r => (∀ c : Dev Cert.DownGradW.nD,
      r.2.mem ((c.tc : Thread Cert.DownGradW.nD Cert.DownGradW.τ).loc Cert.DownGradW.main_arg0) = m ((c.tc : Thread Cert.DownGradW.nD Cert.DownGradW.τ).loc Cert.DownGradW.main_arg0)
      ∧ r.2.mem ((c.tc : Thread Cert.DownGradW.nD Cert.DownGradW.τ).loc Cert.DownGradW.main_arg1) = m ((c.tc : Thread Cert.DownGradW.nD Cert.DownGradW.τ).loc Cert.DownGradW.main_arg1))
      ∧ r.2.sem = fun _ => 0)

def quiescent_DownGradWIdeal [hDownGradWIdeal : Cert.DownGradWIdeal.Facts] : Prop :=
  ∀ (m : (ℓ : Loc Cert.DownGradWIdeal.nD Cert.DownGradWIdeal.τ Cert.DownGradWIdeal.sig) → Buf (Elt Ideal) ℓ) (g : Dev Cert.DownGradWIdeal.nD → PrngReg), Pre_DownGradWIdeal m →
    θ_run (Cert.DownGradWIdeal.defs (F := Ideal)) (onTc (τ := Cert.DownGradWIdeal.τ) (Cert.DownGradWIdeal.main (F := Ideal))) ⟨m, fun _ => 0, g⟩ (fun r => (∀ c : Dev Cert.DownGradWIdeal.nD,
      r.2.mem ((c.tc : Thread Cert.DownGradWIdeal.nD Cert.DownGradWIdeal.τ).loc Cert.DownGradWIdeal.main_arg0) = m ((c.tc : Thread Cert.DownGradWIdeal.nD Cert.DownGradWIdeal.τ).loc Cert.DownGradWIdeal.main_arg0)
      ∧ r.2.mem ((c.tc : Thread Cert.DownGradWIdeal.nD Cert.DownGradWIdeal.τ).loc Cert.DownGradWIdeal.main_arg1) = m ((c.tc : Thread Cert.DownGradWIdeal.nD Cert.DownGradWIdeal.τ).loc Cert.DownGradWIdeal.main_arg1))
      ∧ r.2.sem = fun _ => 0)

def quiescent_DownGradWRefIdeal [hDownGradWRefIdeal : Cert.DownGradWRefIdeal.Facts] : Prop :=
  ∀ (m : (ℓ : Loc Cert.DownGradWRefIdeal.nD Cert.DownGradWRefIdeal.τ Cert.DownGradWRefIdeal.sig) → Buf (Elt Ideal) ℓ) (g : Dev Cert.DownGradWRefIdeal.nD → PrngReg), Pre_DownGradWRefIdeal m →
    θ_run (Cert.DownGradWRefIdeal.defs (F := Ideal)) (onTc (τ := Cert.DownGradWRefIdeal.τ) (Cert.DownGradWRefIdeal.main (F := Ideal))) ⟨m, fun _ => 0, g⟩ (fun r => (∀ c : Dev Cert.DownGradWRefIdeal.nD,
      r.2.mem ((c.tc : Thread Cert.DownGradWRefIdeal.nD Cert.DownGradWRefIdeal.τ).loc Cert.DownGradWRefIdeal.main_arg0) = m ((c.tc : Thread Cert.DownGradWRefIdeal.nD Cert.DownGradWRefIdeal.τ).loc Cert.DownGradWRefIdeal.main_arg0)
      ∧ r.2.mem ((c.tc : Thread Cert.DownGradWRefIdeal.nD Cert.DownGradWRefIdeal.τ).loc Cert.DownGradWRefIdeal.main_arg1) = m ((c.tc : Thread Cert.DownGradWRefIdeal.nD Cert.DownGradWRefIdeal.τ).loc Cert.DownGradWRefIdeal.main_arg1))
      ∧ r.2.sem = fun _ => 0)

def quiescent_InGradA [hInGradA : Cert.InGradA.Facts] : Prop :=
  ∀ (m : (ℓ : Loc Cert.InGradA.nD Cert.InGradA.τ Cert.InGradA.sig) → Buf (Elt Bits) ℓ) (g : Dev Cert.InGradA.nD → PrngReg), Pre_InGradA m →
    θ_run (Cert.InGradA.defs (F := Bits)) (onTc (τ := Cert.InGradA.τ) (Cert.InGradA.main (F := Bits))) ⟨m, fun _ => 0, g⟩ (fun r => (∀ c : Dev Cert.InGradA.nD,
      r.2.mem ((c.tc : Thread Cert.InGradA.nD Cert.InGradA.τ).loc Cert.InGradA.main_arg0) = m ((c.tc : Thread Cert.InGradA.nD Cert.InGradA.τ).loc Cert.InGradA.main_arg0)
      ∧ r.2.mem ((c.tc : Thread Cert.InGradA.nD Cert.InGradA.τ).loc Cert.InGradA.main_arg1) = m ((c.tc : Thread Cert.InGradA.nD Cert.InGradA.τ).loc Cert.InGradA.main_arg1))
      ∧ r.2.sem = fun _ => 0)

def quiescent_InGradAIdeal [hInGradAIdeal : Cert.InGradAIdeal.Facts] : Prop :=
  ∀ (m : (ℓ : Loc Cert.InGradAIdeal.nD Cert.InGradAIdeal.τ Cert.InGradAIdeal.sig) → Buf (Elt Ideal) ℓ) (g : Dev Cert.InGradAIdeal.nD → PrngReg), Pre_InGradAIdeal m →
    θ_run (Cert.InGradAIdeal.defs (F := Ideal)) (onTc (τ := Cert.InGradAIdeal.τ) (Cert.InGradAIdeal.main (F := Ideal))) ⟨m, fun _ => 0, g⟩ (fun r => (∀ c : Dev Cert.InGradAIdeal.nD,
      r.2.mem ((c.tc : Thread Cert.InGradAIdeal.nD Cert.InGradAIdeal.τ).loc Cert.InGradAIdeal.main_arg0) = m ((c.tc : Thread Cert.InGradAIdeal.nD Cert.InGradAIdeal.τ).loc Cert.InGradAIdeal.main_arg0)
      ∧ r.2.mem ((c.tc : Thread Cert.InGradAIdeal.nD Cert.InGradAIdeal.τ).loc Cert.InGradAIdeal.main_arg1) = m ((c.tc : Thread Cert.InGradAIdeal.nD Cert.InGradAIdeal.τ).loc Cert.InGradAIdeal.main_arg1))
      ∧ r.2.sem = fun _ => 0)

def quiescent_InGradARefIdeal [hInGradARefIdeal : Cert.InGradARefIdeal.Facts] : Prop :=
  ∀ (m : (ℓ : Loc Cert.InGradARefIdeal.nD Cert.InGradARefIdeal.τ Cert.InGradARefIdeal.sig) → Buf (Elt Ideal) ℓ) (g : Dev Cert.InGradARefIdeal.nD → PrngReg), Pre_InGradARefIdeal m →
    θ_run (Cert.InGradARefIdeal.defs (F := Ideal)) (onTc (τ := Cert.InGradARefIdeal.τ) (Cert.InGradARefIdeal.main (F := Ideal))) ⟨m, fun _ => 0, g⟩ (fun r => (∀ c : Dev Cert.InGradARefIdeal.nD,
      r.2.mem ((c.tc : Thread Cert.InGradARefIdeal.nD Cert.InGradARefIdeal.τ).loc Cert.InGradARefIdeal.main_arg0) = m ((c.tc : Thread Cert.InGradARefIdeal.nD Cert.InGradARefIdeal.τ).loc Cert.InGradARefIdeal.main_arg0)
      ∧ r.2.mem ((c.tc : Thread Cert.InGradARefIdeal.nD Cert.InGradARefIdeal.τ).loc Cert.InGradARefIdeal.main_arg1) = m ((c.tc : Thread Cert.InGradARefIdeal.nD Cert.InGradARefIdeal.τ).loc Cert.InGradARefIdeal.main_arg1))
      ∧ r.2.sem = fun _ => 0)

def quiescent_InGradW [hInGradW : Cert.InGradW.Facts] : Prop :=
  ∀ (m : (ℓ : Loc Cert.InGradW.nD Cert.InGradW.τ Cert.InGradW.sig) → Buf (Elt Bits) ℓ) (g : Dev Cert.InGradW.nD → PrngReg), Pre_InGradW m →
    θ_run (Cert.InGradW.defs (F := Bits)) (onTc (τ := Cert.InGradW.τ) (Cert.InGradW.main (F := Bits))) ⟨m, fun _ => 0, g⟩ (fun r => (∀ c : Dev Cert.InGradW.nD,
      r.2.mem ((c.tc : Thread Cert.InGradW.nD Cert.InGradW.τ).loc Cert.InGradW.main_arg0) = m ((c.tc : Thread Cert.InGradW.nD Cert.InGradW.τ).loc Cert.InGradW.main_arg0)
      ∧ r.2.mem ((c.tc : Thread Cert.InGradW.nD Cert.InGradW.τ).loc Cert.InGradW.main_arg1) = m ((c.tc : Thread Cert.InGradW.nD Cert.InGradW.τ).loc Cert.InGradW.main_arg1))
      ∧ r.2.sem = fun _ => 0)

def quiescent_InGradWIdeal [hInGradWIdeal : Cert.InGradWIdeal.Facts] : Prop :=
  ∀ (m : (ℓ : Loc Cert.InGradWIdeal.nD Cert.InGradWIdeal.τ Cert.InGradWIdeal.sig) → Buf (Elt Ideal) ℓ) (g : Dev Cert.InGradWIdeal.nD → PrngReg), Pre_InGradWIdeal m →
    θ_run (Cert.InGradWIdeal.defs (F := Ideal)) (onTc (τ := Cert.InGradWIdeal.τ) (Cert.InGradWIdeal.main (F := Ideal))) ⟨m, fun _ => 0, g⟩ (fun r => (∀ c : Dev Cert.InGradWIdeal.nD,
      r.2.mem ((c.tc : Thread Cert.InGradWIdeal.nD Cert.InGradWIdeal.τ).loc Cert.InGradWIdeal.main_arg0) = m ((c.tc : Thread Cert.InGradWIdeal.nD Cert.InGradWIdeal.τ).loc Cert.InGradWIdeal.main_arg0)
      ∧ r.2.mem ((c.tc : Thread Cert.InGradWIdeal.nD Cert.InGradWIdeal.τ).loc Cert.InGradWIdeal.main_arg1) = m ((c.tc : Thread Cert.InGradWIdeal.nD Cert.InGradWIdeal.τ).loc Cert.InGradWIdeal.main_arg1))
      ∧ r.2.sem = fun _ => 0)

def quiescent_InGradWRefIdeal [hInGradWRefIdeal : Cert.InGradWRefIdeal.Facts] : Prop :=
  ∀ (m : (ℓ : Loc Cert.InGradWRefIdeal.nD Cert.InGradWRefIdeal.τ Cert.InGradWRefIdeal.sig) → Buf (Elt Ideal) ℓ) (g : Dev Cert.InGradWRefIdeal.nD → PrngReg), Pre_InGradWRefIdeal m →
    θ_run (Cert.InGradWRefIdeal.defs (F := Ideal)) (onTc (τ := Cert.InGradWRefIdeal.τ) (Cert.InGradWRefIdeal.main (F := Ideal))) ⟨m, fun _ => 0, g⟩ (fun r => (∀ c : Dev Cert.InGradWRefIdeal.nD,
      r.2.mem ((c.tc : Thread Cert.InGradWRefIdeal.nD Cert.InGradWRefIdeal.τ).loc Cert.InGradWRefIdeal.main_arg0) = m ((c.tc : Thread Cert.InGradWRefIdeal.nD Cert.InGradWRefIdeal.τ).loc Cert.InGradWRefIdeal.main_arg0)
      ∧ r.2.mem ((c.tc : Thread Cert.InGradWRefIdeal.nD Cert.InGradWRefIdeal.τ).loc Cert.InGradWRefIdeal.main_arg1) = m ((c.tc : Thread Cert.InGradWRefIdeal.nD Cert.InGradWRefIdeal.τ).loc Cert.InGradWRefIdeal.main_arg1))
      ∧ r.2.sem = fun _ => 0)

def quiescent_OutGradA [hOutGradA : Cert.OutGradA.Facts] : Prop :=
  ∀ (m : (ℓ : Loc Cert.OutGradA.nD Cert.OutGradA.τ Cert.OutGradA.sig) → Buf (Elt Bits) ℓ) (g : Dev Cert.OutGradA.nD → PrngReg), Pre_OutGradA m →
    θ_run (Cert.OutGradA.defs (F := Bits)) (onTc (τ := Cert.OutGradA.τ) (Cert.OutGradA.main (F := Bits))) ⟨m, fun _ => 0, g⟩ (fun r => (∀ c : Dev Cert.OutGradA.nD,
      r.2.mem ((c.tc : Thread Cert.OutGradA.nD Cert.OutGradA.τ).loc Cert.OutGradA.main_arg0) = m ((c.tc : Thread Cert.OutGradA.nD Cert.OutGradA.τ).loc Cert.OutGradA.main_arg0)
      ∧ r.2.mem ((c.tc : Thread Cert.OutGradA.nD Cert.OutGradA.τ).loc Cert.OutGradA.main_arg1) = m ((c.tc : Thread Cert.OutGradA.nD Cert.OutGradA.τ).loc Cert.OutGradA.main_arg1))
      ∧ r.2.sem = fun _ => 0)

def quiescent_OutGradAIdeal [hOutGradAIdeal : Cert.OutGradAIdeal.Facts] : Prop :=
  ∀ (m : (ℓ : Loc Cert.OutGradAIdeal.nD Cert.OutGradAIdeal.τ Cert.OutGradAIdeal.sig) → Buf (Elt Ideal) ℓ) (g : Dev Cert.OutGradAIdeal.nD → PrngReg), Pre_OutGradAIdeal m →
    θ_run (Cert.OutGradAIdeal.defs (F := Ideal)) (onTc (τ := Cert.OutGradAIdeal.τ) (Cert.OutGradAIdeal.main (F := Ideal))) ⟨m, fun _ => 0, g⟩ (fun r => (∀ c : Dev Cert.OutGradAIdeal.nD,
      r.2.mem ((c.tc : Thread Cert.OutGradAIdeal.nD Cert.OutGradAIdeal.τ).loc Cert.OutGradAIdeal.main_arg0) = m ((c.tc : Thread Cert.OutGradAIdeal.nD Cert.OutGradAIdeal.τ).loc Cert.OutGradAIdeal.main_arg0)
      ∧ r.2.mem ((c.tc : Thread Cert.OutGradAIdeal.nD Cert.OutGradAIdeal.τ).loc Cert.OutGradAIdeal.main_arg1) = m ((c.tc : Thread Cert.OutGradAIdeal.nD Cert.OutGradAIdeal.τ).loc Cert.OutGradAIdeal.main_arg1))
      ∧ r.2.sem = fun _ => 0)

def quiescent_OutGradARefIdeal [hOutGradARefIdeal : Cert.OutGradARefIdeal.Facts] : Prop :=
  ∀ (m : (ℓ : Loc Cert.OutGradARefIdeal.nD Cert.OutGradARefIdeal.τ Cert.OutGradARefIdeal.sig) → Buf (Elt Ideal) ℓ) (g : Dev Cert.OutGradARefIdeal.nD → PrngReg), Pre_OutGradARefIdeal m →
    θ_run (Cert.OutGradARefIdeal.defs (F := Ideal)) (onTc (τ := Cert.OutGradARefIdeal.τ) (Cert.OutGradARefIdeal.main (F := Ideal))) ⟨m, fun _ => 0, g⟩ (fun r => (∀ c : Dev Cert.OutGradARefIdeal.nD,
      r.2.mem ((c.tc : Thread Cert.OutGradARefIdeal.nD Cert.OutGradARefIdeal.τ).loc Cert.OutGradARefIdeal.main_arg0) = m ((c.tc : Thread Cert.OutGradARefIdeal.nD Cert.OutGradARefIdeal.τ).loc Cert.OutGradARefIdeal.main_arg0)
      ∧ r.2.mem ((c.tc : Thread Cert.OutGradARefIdeal.nD Cert.OutGradARefIdeal.τ).loc Cert.OutGradARefIdeal.main_arg1) = m ((c.tc : Thread Cert.OutGradARefIdeal.nD Cert.OutGradARefIdeal.τ).loc Cert.OutGradARefIdeal.main_arg1))
      ∧ r.2.sem = fun _ => 0)

def quiescent_OutGradW [hOutGradW : Cert.OutGradW.Facts] : Prop :=
  ∀ (m : (ℓ : Loc Cert.OutGradW.nD Cert.OutGradW.τ Cert.OutGradW.sig) → Buf (Elt Bits) ℓ) (g : Dev Cert.OutGradW.nD → PrngReg), Pre_OutGradW m →
    θ_run (Cert.OutGradW.defs (F := Bits)) (onTc (τ := Cert.OutGradW.τ) (Cert.OutGradW.main (F := Bits))) ⟨m, fun _ => 0, g⟩ (fun r => (∀ c : Dev Cert.OutGradW.nD,
      r.2.mem ((c.tc : Thread Cert.OutGradW.nD Cert.OutGradW.τ).loc Cert.OutGradW.main_arg0) = m ((c.tc : Thread Cert.OutGradW.nD Cert.OutGradW.τ).loc Cert.OutGradW.main_arg0)
      ∧ r.2.mem ((c.tc : Thread Cert.OutGradW.nD Cert.OutGradW.τ).loc Cert.OutGradW.main_arg1) = m ((c.tc : Thread Cert.OutGradW.nD Cert.OutGradW.τ).loc Cert.OutGradW.main_arg1))
      ∧ r.2.sem = fun _ => 0)

def quiescent_OutGradWIdeal [hOutGradWIdeal : Cert.OutGradWIdeal.Facts] : Prop :=
  ∀ (m : (ℓ : Loc Cert.OutGradWIdeal.nD Cert.OutGradWIdeal.τ Cert.OutGradWIdeal.sig) → Buf (Elt Ideal) ℓ) (g : Dev Cert.OutGradWIdeal.nD → PrngReg), Pre_OutGradWIdeal m →
    θ_run (Cert.OutGradWIdeal.defs (F := Ideal)) (onTc (τ := Cert.OutGradWIdeal.τ) (Cert.OutGradWIdeal.main (F := Ideal))) ⟨m, fun _ => 0, g⟩ (fun r => (∀ c : Dev Cert.OutGradWIdeal.nD,
      r.2.mem ((c.tc : Thread Cert.OutGradWIdeal.nD Cert.OutGradWIdeal.τ).loc Cert.OutGradWIdeal.main_arg0) = m ((c.tc : Thread Cert.OutGradWIdeal.nD Cert.OutGradWIdeal.τ).loc Cert.OutGradWIdeal.main_arg0)
      ∧ r.2.mem ((c.tc : Thread Cert.OutGradWIdeal.nD Cert.OutGradWIdeal.τ).loc Cert.OutGradWIdeal.main_arg1) = m ((c.tc : Thread Cert.OutGradWIdeal.nD Cert.OutGradWIdeal.τ).loc Cert.OutGradWIdeal.main_arg1))
      ∧ r.2.sem = fun _ => 0)

def quiescent_OutGradWRefIdeal [hOutGradWRefIdeal : Cert.OutGradWRefIdeal.Facts] : Prop :=
  ∀ (m : (ℓ : Loc Cert.OutGradWRefIdeal.nD Cert.OutGradWRefIdeal.τ Cert.OutGradWRefIdeal.sig) → Buf (Elt Ideal) ℓ) (g : Dev Cert.OutGradWRefIdeal.nD → PrngReg), Pre_OutGradWRefIdeal m →
    θ_run (Cert.OutGradWRefIdeal.defs (F := Ideal)) (onTc (τ := Cert.OutGradWRefIdeal.τ) (Cert.OutGradWRefIdeal.main (F := Ideal))) ⟨m, fun _ => 0, g⟩ (fun r => (∀ c : Dev Cert.OutGradWRefIdeal.nD,
      r.2.mem ((c.tc : Thread Cert.OutGradWRefIdeal.nD Cert.OutGradWRefIdeal.τ).loc Cert.OutGradWRefIdeal.main_arg0) = m ((c.tc : Thread Cert.OutGradWRefIdeal.nD Cert.OutGradWRefIdeal.τ).loc Cert.OutGradWRefIdeal.main_arg0)
      ∧ r.2.mem ((c.tc : Thread Cert.OutGradWRefIdeal.nD Cert.OutGradWRefIdeal.τ).loc Cert.OutGradWRefIdeal.main_arg1) = m ((c.tc : Thread Cert.OutGradWRefIdeal.nD Cert.OutGradWRefIdeal.τ).loc Cert.OutGradWRefIdeal.main_arg1))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_finite_qkv [hAttnFwdIdeal : Cert.AttnFwdIdeal.Facts] [hPre_finite_qkv : Cert.Pre_finite_qkv.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_qkv m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_finite_qkv [hAttnFwdRefIdeal : Cert.AttnFwdRefIdeal.Facts] [hPre_finite_qkv : Cert.Pre_finite_qkv.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_qkv m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdIdeal_pre_finite_conv [hConvBwdIdeal : Cert.ConvBwdIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_finite_conv m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_ConvBwdRefIdeal_pre_finite_conv [hConvBwdRefIdeal : Cert.ConvBwdRefIdeal.Facts] [hPre_finite_conv : Cert.Pre_finite_conv.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal_finite_conv m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_HgGateBwd [hHgGateBwd : Cert.HgGateBwd.Facts] : Prop :=
  ∀ (m : (ℓ : Loc Cert.HgGateBwd.nD Cert.HgGateBwd.τ Cert.HgGateBwd.sig) → Buf (Elt Bits) ℓ) (g : Dev Cert.HgGateBwd.nD → PrngReg), Pre_HgGateBwd m →
    θ_run (Cert.HgGateBwd.defs (F := Bits)) (onTc (τ := Cert.HgGateBwd.τ) (Cert.HgGateBwd.main (F := Bits))) ⟨m, fun _ => 0, g⟩ (fun r => (∀ c : Dev Cert.HgGateBwd.nD,
      r.2.mem ((c.tc : Thread Cert.HgGateBwd.nD Cert.HgGateBwd.τ).loc Cert.HgGateBwd.main_arg0) = m ((c.tc : Thread Cert.HgGateBwd.nD Cert.HgGateBwd.τ).loc Cert.HgGateBwd.main_arg0)
      ∧ r.2.mem ((c.tc : Thread Cert.HgGateBwd.nD Cert.HgGateBwd.τ).loc Cert.HgGateBwd.main_arg1) = m ((c.tc : Thread Cert.HgGateBwd.nD Cert.HgGateBwd.τ).loc Cert.HgGateBwd.main_arg1)
      ∧ r.2.mem ((c.tc : Thread Cert.HgGateBwd.nD Cert.HgGateBwd.τ).loc Cert.HgGateBwd.main_arg2) = m ((c.tc : Thread Cert.HgGateBwd.nD Cert.HgGateBwd.τ).loc Cert.HgGateBwd.main_arg2)
      ∧ r.2.mem ((c.tc : Thread Cert.HgGateBwd.nD Cert.HgGateBwd.τ).loc Cert.HgGateBwd.main_arg3) = m ((c.tc : Thread Cert.HgGateBwd.nD Cert.HgGateBwd.τ).loc Cert.HgGateBwd.main_arg3)
      ∧ r.2.mem ((c.tc : Thread Cert.HgGateBwd.nD Cert.HgGateBwd.τ).loc Cert.HgGateBwd.main_arg4) = m ((c.tc : Thread Cert.HgGateBwd.nD Cert.HgGateBwd.τ).loc Cert.HgGateBwd.main_arg4))
      ∧ r.2.sem = fun _ => 0)

def quiescent_HgGateBwdIdeal [hHgGateBwdIdeal : Cert.HgGateBwdIdeal.Facts] : Prop :=
  ∀ (m : (ℓ : Loc Cert.HgGateBwdIdeal.nD Cert.HgGateBwdIdeal.τ Cert.HgGateBwdIdeal.sig) → Buf (Elt Ideal) ℓ) (g : Dev Cert.HgGateBwdIdeal.nD → PrngReg), Pre_HgGateBwdIdeal m →
    θ_run (Cert.HgGateBwdIdeal.defs (F := Ideal)) (onTc (τ := Cert.HgGateBwdIdeal.τ) (Cert.HgGateBwdIdeal.main (F := Ideal))) ⟨m, fun _ => 0, g⟩ (fun r => (∀ c : Dev Cert.HgGateBwdIdeal.nD,
      r.2.mem ((c.tc : Thread Cert.HgGateBwdIdeal.nD Cert.HgGateBwdIdeal.τ).loc Cert.HgGateBwdIdeal.main_arg0) = m ((c.tc : Thread Cert.HgGateBwdIdeal.nD Cert.HgGateBwdIdeal.τ).loc Cert.HgGateBwdIdeal.main_arg0)
      ∧ r.2.mem ((c.tc : Thread Cert.HgGateBwdIdeal.nD Cert.HgGateBwdIdeal.τ).loc Cert.HgGateBwdIdeal.main_arg1) = m ((c.tc : Thread Cert.HgGateBwdIdeal.nD Cert.HgGateBwdIdeal.τ).loc Cert.HgGateBwdIdeal.main_arg1)
      ∧ r.2.mem ((c.tc : Thread Cert.HgGateBwdIdeal.nD Cert.HgGateBwdIdeal.τ).loc Cert.HgGateBwdIdeal.main_arg2) = m ((c.tc : Thread Cert.HgGateBwdIdeal.nD Cert.HgGateBwdIdeal.τ).loc Cert.HgGateBwdIdeal.main_arg2)
      ∧ r.2.mem ((c.tc : Thread Cert.HgGateBwdIdeal.nD Cert.HgGateBwdIdeal.τ).loc Cert.HgGateBwdIdeal.main_arg3) = m ((c.tc : Thread Cert.HgGateBwdIdeal.nD Cert.HgGateBwdIdeal.τ).loc Cert.HgGateBwdIdeal.main_arg3)
      ∧ r.2.mem ((c.tc : Thread Cert.HgGateBwdIdeal.nD Cert.HgGateBwdIdeal.τ).loc Cert.HgGateBwdIdeal.main_arg4) = m ((c.tc : Thread Cert.HgGateBwdIdeal.nD Cert.HgGateBwdIdeal.τ).loc Cert.HgGateBwdIdeal.main_arg4))
      ∧ r.2.sem = fun _ => 0)

def quiescent_HgGateBwdRefIdeal [hHgGateBwdRefIdeal : Cert.HgGateBwdRefIdeal.Facts] : Prop :=
  ∀ (m : (ℓ : Loc Cert.HgGateBwdRefIdeal.nD Cert.HgGateBwdRefIdeal.τ Cert.HgGateBwdRefIdeal.sig) → Buf (Elt Ideal) ℓ) (g : Dev Cert.HgGateBwdRefIdeal.nD → PrngReg), Pre_HgGateBwdRefIdeal m →
    θ_run (Cert.HgGateBwdRefIdeal.defs (F := Ideal)) (onTc (τ := Cert.HgGateBwdRefIdeal.τ) (Cert.HgGateBwdRefIdeal.main (F := Ideal))) ⟨m, fun _ => 0, g⟩ (fun r => (∀ c : Dev Cert.HgGateBwdRefIdeal.nD,
      r.2.mem ((c.tc : Thread Cert.HgGateBwdRefIdeal.nD Cert.HgGateBwdRefIdeal.τ).loc Cert.HgGateBwdRefIdeal.main_arg0) = m ((c.tc : Thread Cert.HgGateBwdRefIdeal.nD Cert.HgGateBwdRefIdeal.τ).loc Cert.HgGateBwdRefIdeal.main_arg0)
      ∧ r.2.mem ((c.tc : Thread Cert.HgGateBwdRefIdeal.nD Cert.HgGateBwdRefIdeal.τ).loc Cert.HgGateBwdRefIdeal.main_arg1) = m ((c.tc : Thread Cert.HgGateBwdRefIdeal.nD Cert.HgGateBwdRefIdeal.τ).loc Cert.HgGateBwdRefIdeal.main_arg1)
      ∧ r.2.mem ((c.tc : Thread Cert.HgGateBwdRefIdeal.nD Cert.HgGateBwdRefIdeal.τ).loc Cert.HgGateBwdRefIdeal.main_arg2) = m ((c.tc : Thread Cert.HgGateBwdRefIdeal.nD Cert.HgGateBwdRefIdeal.τ).loc Cert.HgGateBwdRefIdeal.main_arg2)
      ∧ r.2.mem ((c.tc : Thread Cert.HgGateBwdRefIdeal.nD Cert.HgGateBwdRefIdeal.τ).loc Cert.HgGateBwdRefIdeal.main_arg3) = m ((c.tc : Thread Cert.HgGateBwdRefIdeal.nD Cert.HgGateBwdRefIdeal.τ).loc Cert.HgGateBwdRefIdeal.main_arg3)
      ∧ r.2.mem ((c.tc : Thread Cert.HgGateBwdRefIdeal.nD Cert.HgGateBwdRefIdeal.τ).loc Cert.HgGateBwdRefIdeal.main_arg4) = m ((c.tc : Thread Cert.HgGateBwdRefIdeal.nD Cert.HgGateBwdRefIdeal.τ).loc Cert.HgGateBwdRefIdeal.main_arg4))
      ∧ r.2.sem = fun _ => 0)

def quiescent_FinalBwd [hFinalBwd : Cert.FinalBwd.Facts] : Prop :=
  ∀ (m : (ℓ : Loc Cert.FinalBwd.nD Cert.FinalBwd.τ Cert.FinalBwd.sig) → Buf (Elt Bits) ℓ) (g : Dev Cert.FinalBwd.nD → PrngReg), Pre_FinalBwd m →
    θ_run (Cert.FinalBwd.defs (F := Bits)) (onTc (τ := Cert.FinalBwd.τ) (Cert.FinalBwd.main (F := Bits))) ⟨m, fun _ => 0, g⟩ (fun r => (∀ c : Dev Cert.FinalBwd.nD,
      r.2.mem ((c.tc : Thread Cert.FinalBwd.nD Cert.FinalBwd.τ).loc Cert.FinalBwd.main_arg0) = m ((c.tc : Thread Cert.FinalBwd.nD Cert.FinalBwd.τ).loc Cert.FinalBwd.main_arg0)
      ∧ r.2.mem ((c.tc : Thread Cert.FinalBwd.nD Cert.FinalBwd.τ).loc Cert.FinalBwd.main_arg1) = m ((c.tc : Thread Cert.FinalBwd.nD Cert.FinalBwd.τ).loc Cert.FinalBwd.main_arg1)
      ∧ r.2.mem ((c.tc : Thread Cert.FinalBwd.nD Cert.FinalBwd.τ).loc Cert.FinalBwd.main_arg2) = m ((c.tc : Thread Cert.FinalBwd.nD Cert.FinalBwd.τ).loc Cert.FinalBwd.main_arg2)
      ∧ r.2.mem ((c.tc : Thread Cert.FinalBwd.nD Cert.FinalBwd.τ).loc Cert.FinalBwd.main_arg3) = m ((c.tc : Thread Cert.FinalBwd.nD Cert.FinalBwd.τ).loc Cert.FinalBwd.main_arg3)
      ∧ r.2.mem ((c.tc : Thread Cert.FinalBwd.nD Cert.FinalBwd.τ).loc Cert.FinalBwd.main_arg4) = m ((c.tc : Thread Cert.FinalBwd.nD Cert.FinalBwd.τ).loc Cert.FinalBwd.main_arg4)
      ∧ r.2.mem ((c.tc : Thread Cert.FinalBwd.nD Cert.FinalBwd.τ).loc Cert.FinalBwd.main_arg5) = m ((c.tc : Thread Cert.FinalBwd.nD Cert.FinalBwd.τ).loc Cert.FinalBwd.main_arg5))
      ∧ r.2.sem = fun _ => 0)

def quiescent_FinalBwdIdeal [hFinalBwdIdeal : Cert.FinalBwdIdeal.Facts] : Prop :=
  ∀ (m : (ℓ : Loc Cert.FinalBwdIdeal.nD Cert.FinalBwdIdeal.τ Cert.FinalBwdIdeal.sig) → Buf (Elt Ideal) ℓ) (g : Dev Cert.FinalBwdIdeal.nD → PrngReg), Pre_FinalBwdIdeal m →
    θ_run (Cert.FinalBwdIdeal.defs (F := Ideal)) (onTc (τ := Cert.FinalBwdIdeal.τ) (Cert.FinalBwdIdeal.main (F := Ideal))) ⟨m, fun _ => 0, g⟩ (fun r => (∀ c : Dev Cert.FinalBwdIdeal.nD,
      r.2.mem ((c.tc : Thread Cert.FinalBwdIdeal.nD Cert.FinalBwdIdeal.τ).loc Cert.FinalBwdIdeal.main_arg0) = m ((c.tc : Thread Cert.FinalBwdIdeal.nD Cert.FinalBwdIdeal.τ).loc Cert.FinalBwdIdeal.main_arg0)
      ∧ r.2.mem ((c.tc : Thread Cert.FinalBwdIdeal.nD Cert.FinalBwdIdeal.τ).loc Cert.FinalBwdIdeal.main_arg1) = m ((c.tc : Thread Cert.FinalBwdIdeal.nD Cert.FinalBwdIdeal.τ).loc Cert.FinalBwdIdeal.main_arg1)
      ∧ r.2.mem ((c.tc : Thread Cert.FinalBwdIdeal.nD Cert.FinalBwdIdeal.τ).loc Cert.FinalBwdIdeal.main_arg2) = m ((c.tc : Thread Cert.FinalBwdIdeal.nD Cert.FinalBwdIdeal.τ).loc Cert.FinalBwdIdeal.main_arg2)
      ∧ r.2.mem ((c.tc : Thread Cert.FinalBwdIdeal.nD Cert.FinalBwdIdeal.τ).loc Cert.FinalBwdIdeal.main_arg3) = m ((c.tc : Thread Cert.FinalBwdIdeal.nD Cert.FinalBwdIdeal.τ).loc Cert.FinalBwdIdeal.main_arg3)
      ∧ r.2.mem ((c.tc : Thread Cert.FinalBwdIdeal.nD Cert.FinalBwdIdeal.τ).loc Cert.FinalBwdIdeal.main_arg4) = m ((c.tc : Thread Cert.FinalBwdIdeal.nD Cert.FinalBwdIdeal.τ).loc Cert.FinalBwdIdeal.main_arg4)
      ∧ r.2.mem ((c.tc : Thread Cert.FinalBwdIdeal.nD Cert.FinalBwdIdeal.τ).loc Cert.FinalBwdIdeal.main_arg5) = m ((c.tc : Thread Cert.FinalBwdIdeal.nD Cert.FinalBwdIdeal.τ).loc Cert.FinalBwdIdeal.main_arg5))
      ∧ r.2.sem = fun _ => 0)

def quiescent_FinalBwdRefIdeal [hFinalBwdRefIdeal : Cert.FinalBwdRefIdeal.Facts] : Prop :=
  ∀ (m : (ℓ : Loc Cert.FinalBwdRefIdeal.nD Cert.FinalBwdRefIdeal.τ Cert.FinalBwdRefIdeal.sig) → Buf (Elt Ideal) ℓ) (g : Dev Cert.FinalBwdRefIdeal.nD → PrngReg), Pre_FinalBwdRefIdeal m →
    θ_run (Cert.FinalBwdRefIdeal.defs (F := Ideal)) (onTc (τ := Cert.FinalBwdRefIdeal.τ) (Cert.FinalBwdRefIdeal.main (F := Ideal))) ⟨m, fun _ => 0, g⟩ (fun r => (∀ c : Dev Cert.FinalBwdRefIdeal.nD,
      r.2.mem ((c.tc : Thread Cert.FinalBwdRefIdeal.nD Cert.FinalBwdRefIdeal.τ).loc Cert.FinalBwdRefIdeal.main_arg0) = m ((c.tc : Thread Cert.FinalBwdRefIdeal.nD Cert.FinalBwdRefIdeal.τ).loc Cert.FinalBwdRefIdeal.main_arg0)
      ∧ r.2.mem ((c.tc : Thread Cert.FinalBwdRefIdeal.nD Cert.FinalBwdRefIdeal.τ).loc Cert.FinalBwdRefIdeal.main_arg1) = m ((c.tc : Thread Cert.FinalBwdRefIdeal.nD Cert.FinalBwdRefIdeal.τ).loc Cert.FinalBwdRefIdeal.main_arg1)
      ∧ r.2.mem ((c.tc : Thread Cert.FinalBwdRefIdeal.nD Cert.FinalBwdRefIdeal.τ).loc Cert.FinalBwdRefIdeal.main_arg2) = m ((c.tc : Thread Cert.FinalBwdRefIdeal.nD Cert.FinalBwdRefIdeal.τ).loc Cert.FinalBwdRefIdeal.main_arg2)
      ∧ r.2.mem ((c.tc : Thread Cert.FinalBwdRefIdeal.nD Cert.FinalBwdRefIdeal.τ).loc Cert.FinalBwdRefIdeal.main_arg3) = m ((c.tc : Thread Cert.FinalBwdRefIdeal.nD Cert.FinalBwdRefIdeal.τ).loc Cert.FinalBwdRefIdeal.main_arg3)
      ∧ r.2.mem ((c.tc : Thread Cert.FinalBwdRefIdeal.nD Cert.FinalBwdRefIdeal.τ).loc Cert.FinalBwdRefIdeal.main_arg4) = m ((c.tc : Thread Cert.FinalBwdRefIdeal.nD Cert.FinalBwdRefIdeal.τ).loc Cert.FinalBwdRefIdeal.main_arg4)
      ∧ r.2.mem ((c.tc : Thread Cert.FinalBwdRefIdeal.nD Cert.FinalBwdRefIdeal.τ).loc Cert.FinalBwdRefIdeal.main_arg5) = m ((c.tc : Thread Cert.FinalBwdRefIdeal.nD Cert.FinalBwdRefIdeal.τ).loc Cert.FinalBwdRefIdeal.main_arg5))
      ∧ r.2.sem = fun _ => 0)

def quiescent_HgGateFwd [hHgGateFwd : Cert.HgGateFwd.Facts] : Prop :=
  ∀ (m : (ℓ : Loc Cert.HgGateFwd.nD Cert.HgGateFwd.τ Cert.HgGateFwd.sig) → Buf (Elt Bits) ℓ) (g : Dev Cert.HgGateFwd.nD → PrngReg), Pre_HgGateFwd m →
    θ_run (Cert.HgGateFwd.defs (F := Bits)) (onTc (τ := Cert.HgGateFwd.τ) (Cert.HgGateFwd.main (F := Bits))) ⟨m, fun _ => 0, g⟩ (fun r => (∀ c : Dev Cert.HgGateFwd.nD,
      r.2.mem ((c.tc : Thread Cert.HgGateFwd.nD Cert.HgGateFwd.τ).loc Cert.HgGateFwd.main_arg0) = m ((c.tc : Thread Cert.HgGateFwd.nD Cert.HgGateFwd.τ).loc Cert.HgGateFwd.main_arg0)
      ∧ r.2.mem ((c.tc : Thread Cert.HgGateFwd.nD Cert.HgGateFwd.τ).loc Cert.HgGateFwd.main_arg1) = m ((c.tc : Thread Cert.HgGateFwd.nD Cert.HgGateFwd.τ).loc Cert.HgGateFwd.main_arg1)
      ∧ r.2.mem ((c.tc : Thread Cert.HgGateFwd.nD Cert.HgGateFwd.τ).loc Cert.HgGateFwd.main_arg2) = m ((c.tc : Thread Cert.HgGateFwd.nD Cert.HgGateFwd.τ).loc Cert.HgGateFwd.main_arg2)
      ∧ r.2.mem ((c.tc : Thread Cert.HgGateFwd.nD Cert.HgGateFwd.τ).loc Cert.HgGateFwd.main_arg3) = m ((c.tc : Thread Cert.HgGateFwd.nD Cert.HgGateFwd.τ).loc Cert.HgGateFwd.main_arg3))
      ∧ r.2.sem = fun _ => 0)

def quiescent_HgGateFwdIdeal [hHgGateFwdIdeal : Cert.HgGateFwdIdeal.Facts] : Prop :=
  ∀ (m : (ℓ : Loc Cert.HgGateFwdIdeal.nD Cert.HgGateFwdIdeal.τ Cert.HgGateFwdIdeal.sig) → Buf (Elt Ideal) ℓ) (g : Dev Cert.HgGateFwdIdeal.nD → PrngReg), Pre_HgGateFwdIdeal m →
    θ_run (Cert.HgGateFwdIdeal.defs (F := Ideal)) (onTc (τ := Cert.HgGateFwdIdeal.τ) (Cert.HgGateFwdIdeal.main (F := Ideal))) ⟨m, fun _ => 0, g⟩ (fun r => (∀ c : Dev Cert.HgGateFwdIdeal.nD,
      r.2.mem ((c.tc : Thread Cert.HgGateFwdIdeal.nD Cert.HgGateFwdIdeal.τ).loc Cert.HgGateFwdIdeal.main_arg0) = m ((c.tc : Thread Cert.HgGateFwdIdeal.nD Cert.HgGateFwdIdeal.τ).loc Cert.HgGateFwdIdeal.main_arg0)
      ∧ r.2.mem ((c.tc : Thread Cert.HgGateFwdIdeal.nD Cert.HgGateFwdIdeal.τ).loc Cert.HgGateFwdIdeal.main_arg1) = m ((c.tc : Thread Cert.HgGateFwdIdeal.nD Cert.HgGateFwdIdeal.τ).loc Cert.HgGateFwdIdeal.main_arg1)
      ∧ r.2.mem ((c.tc : Thread Cert.HgGateFwdIdeal.nD Cert.HgGateFwdIdeal.τ).loc Cert.HgGateFwdIdeal.main_arg2) = m ((c.tc : Thread Cert.HgGateFwdIdeal.nD Cert.HgGateFwdIdeal.τ).loc Cert.HgGateFwdIdeal.main_arg2)
      ∧ r.2.mem ((c.tc : Thread Cert.HgGateFwdIdeal.nD Cert.HgGateFwdIdeal.τ).loc Cert.HgGateFwdIdeal.main_arg3) = m ((c.tc : Thread Cert.HgGateFwdIdeal.nD Cert.HgGateFwdIdeal.τ).loc Cert.HgGateFwdIdeal.main_arg3))
      ∧ r.2.sem = fun _ => 0)

def quiescent_HgGateFwdRefIdeal [hHgGateFwdRefIdeal : Cert.HgGateFwdRefIdeal.Facts] : Prop :=
  ∀ (m : (ℓ : Loc Cert.HgGateFwdRefIdeal.nD Cert.HgGateFwdRefIdeal.τ Cert.HgGateFwdRefIdeal.sig) → Buf (Elt Ideal) ℓ) (g : Dev Cert.HgGateFwdRefIdeal.nD → PrngReg), Pre_HgGateFwdRefIdeal m →
    θ_run (Cert.HgGateFwdRefIdeal.defs (F := Ideal)) (onTc (τ := Cert.HgGateFwdRefIdeal.τ) (Cert.HgGateFwdRefIdeal.main (F := Ideal))) ⟨m, fun _ => 0, g⟩ (fun r => (∀ c : Dev Cert.HgGateFwdRefIdeal.nD,
      r.2.mem ((c.tc : Thread Cert.HgGateFwdRefIdeal.nD Cert.HgGateFwdRefIdeal.τ).loc Cert.HgGateFwdRefIdeal.main_arg0) = m ((c.tc : Thread Cert.HgGateFwdRefIdeal.nD Cert.HgGateFwdRefIdeal.τ).loc Cert.HgGateFwdRefIdeal.main_arg0)
      ∧ r.2.mem ((c.tc : Thread Cert.HgGateFwdRefIdeal.nD Cert.HgGateFwdRefIdeal.τ).loc Cert.HgGateFwdRefIdeal.main_arg1) = m ((c.tc : Thread Cert.HgGateFwdRefIdeal.nD Cert.HgGateFwdRefIdeal.τ).loc Cert.HgGateFwdRefIdeal.main_arg1)
      ∧ r.2.mem ((c.tc : Thread Cert.HgGateFwdRefIdeal.nD Cert.HgGateFwdRefIdeal.τ).loc Cert.HgGateFwdRefIdeal.main_arg2) = m ((c.tc : Thread Cert.HgGateFwdRefIdeal.nD Cert.HgGateFwdRefIdeal.τ).loc Cert.HgGateFwdRefIdeal.main_arg2)
      ∧ r.2.mem ((c.tc : Thread Cert.HgGateFwdRefIdeal.nD Cert.HgGateFwdRefIdeal.τ).loc Cert.HgGateFwdRefIdeal.main_arg3) = m ((c.tc : Thread Cert.HgGateFwdRefIdeal.nD Cert.HgGateFwdRefIdeal.τ).loc Cert.HgGateFwdRefIdeal.main_arg3))
      ∧ r.2.sem = fun _ => 0)

def quiescent_FinalFwd [hFinalFwd : Cert.FinalFwd.Facts] : Prop :=
  ∀ (m : (ℓ : Loc Cert.FinalFwd.nD Cert.FinalFwd.τ Cert.FinalFwd.sig) → Buf (Elt Bits) ℓ) (g : Dev Cert.FinalFwd.nD → PrngReg), Pre_FinalFwd m →
    θ_run (Cert.FinalFwd.defs (F := Bits)) (onTc (τ := Cert.FinalFwd.τ) (Cert.FinalFwd.main (F := Bits))) ⟨m, fun _ => 0, g⟩ (fun r => (∀ c : Dev Cert.FinalFwd.nD,
      r.2.mem ((c.tc : Thread Cert.FinalFwd.nD Cert.FinalFwd.τ).loc Cert.FinalFwd.main_arg0) = m ((c.tc : Thread Cert.FinalFwd.nD Cert.FinalFwd.τ).loc Cert.FinalFwd.main_arg0)
      ∧ r.2.mem ((c.tc : Thread Cert.FinalFwd.nD Cert.FinalFwd.τ).loc Cert.FinalFwd.main_arg1) = m ((c.tc : Thread Cert.FinalFwd.nD Cert.FinalFwd.τ).loc Cert.FinalFwd.main_arg1)
      ∧ r.2.mem ((c.tc : Thread Cert.FinalFwd.nD Cert.FinalFwd.τ).loc Cert.FinalFwd.main_arg2) = m ((c.tc : Thread Cert.FinalFwd.nD Cert.FinalFwd.τ).loc Cert.FinalFwd.main_arg2)
      ∧ r.2.mem ((c.tc : Thread Cert.FinalFwd.nD Cert.FinalFwd.τ).loc Cert.FinalFwd.main_arg3) = m ((c.tc : Thread Cert.FinalFwd.nD Cert.FinalFwd.τ).loc Cert.FinalFwd.main_arg3)
      ∧ r.2.mem ((c.tc : Thread Cert.FinalFwd.nD Cert.FinalFwd.τ).loc Cert.FinalFwd.main_arg4) = m ((c.tc : Thread Cert.FinalFwd.nD Cert.FinalFwd.τ).loc Cert.FinalFwd.main_arg4))
      ∧ r.2.sem = fun _ => 0)

def quiescent_FinalFwdIdeal [hFinalFwdIdeal : Cert.FinalFwdIdeal.Facts] : Prop :=
  ∀ (m : (ℓ : Loc Cert.FinalFwdIdeal.nD Cert.FinalFwdIdeal.τ Cert.FinalFwdIdeal.sig) → Buf (Elt Ideal) ℓ) (g : Dev Cert.FinalFwdIdeal.nD → PrngReg), Pre_FinalFwdIdeal m →
    θ_run (Cert.FinalFwdIdeal.defs (F := Ideal)) (onTc (τ := Cert.FinalFwdIdeal.τ) (Cert.FinalFwdIdeal.main (F := Ideal))) ⟨m, fun _ => 0, g⟩ (fun r => (∀ c : Dev Cert.FinalFwdIdeal.nD,
      r.2.mem ((c.tc : Thread Cert.FinalFwdIdeal.nD Cert.FinalFwdIdeal.τ).loc Cert.FinalFwdIdeal.main_arg0) = m ((c.tc : Thread Cert.FinalFwdIdeal.nD Cert.FinalFwdIdeal.τ).loc Cert.FinalFwdIdeal.main_arg0)
      ∧ r.2.mem ((c.tc : Thread Cert.FinalFwdIdeal.nD Cert.FinalFwdIdeal.τ).loc Cert.FinalFwdIdeal.main_arg1) = m ((c.tc : Thread Cert.FinalFwdIdeal.nD Cert.FinalFwdIdeal.τ).loc Cert.FinalFwdIdeal.main_arg1)
      ∧ r.2.mem ((c.tc : Thread Cert.FinalFwdIdeal.nD Cert.FinalFwdIdeal.τ).loc Cert.FinalFwdIdeal.main_arg2) = m ((c.tc : Thread Cert.FinalFwdIdeal.nD Cert.FinalFwdIdeal.τ).loc Cert.FinalFwdIdeal.main_arg2)
      ∧ r.2.mem ((c.tc : Thread Cert.FinalFwdIdeal.nD Cert.FinalFwdIdeal.τ).loc Cert.FinalFwdIdeal.main_arg3) = m ((c.tc : Thread Cert.FinalFwdIdeal.nD Cert.FinalFwdIdeal.τ).loc Cert.FinalFwdIdeal.main_arg3)
      ∧ r.2.mem ((c.tc : Thread Cert.FinalFwdIdeal.nD Cert.FinalFwdIdeal.τ).loc Cert.FinalFwdIdeal.main_arg4) = m ((c.tc : Thread Cert.FinalFwdIdeal.nD Cert.FinalFwdIdeal.τ).loc Cert.FinalFwdIdeal.main_arg4))
      ∧ r.2.sem = fun _ => 0)

def quiescent_FinalFwdRefIdeal [hFinalFwdRefIdeal : Cert.FinalFwdRefIdeal.Facts] : Prop :=
  ∀ (m : (ℓ : Loc Cert.FinalFwdRefIdeal.nD Cert.FinalFwdRefIdeal.τ Cert.FinalFwdRefIdeal.sig) → Buf (Elt Ideal) ℓ) (g : Dev Cert.FinalFwdRefIdeal.nD → PrngReg), Pre_FinalFwdRefIdeal m →
    θ_run (Cert.FinalFwdRefIdeal.defs (F := Ideal)) (onTc (τ := Cert.FinalFwdRefIdeal.τ) (Cert.FinalFwdRefIdeal.main (F := Ideal))) ⟨m, fun _ => 0, g⟩ (fun r => (∀ c : Dev Cert.FinalFwdRefIdeal.nD,
      r.2.mem ((c.tc : Thread Cert.FinalFwdRefIdeal.nD Cert.FinalFwdRefIdeal.τ).loc Cert.FinalFwdRefIdeal.main_arg0) = m ((c.tc : Thread Cert.FinalFwdRefIdeal.nD Cert.FinalFwdRefIdeal.τ).loc Cert.FinalFwdRefIdeal.main_arg0)
      ∧ r.2.mem ((c.tc : Thread Cert.FinalFwdRefIdeal.nD Cert.FinalFwdRefIdeal.τ).loc Cert.FinalFwdRefIdeal.main_arg1) = m ((c.tc : Thread Cert.FinalFwdRefIdeal.nD Cert.FinalFwdRefIdeal.τ).loc Cert.FinalFwdRefIdeal.main_arg1)
      ∧ r.2.mem ((c.tc : Thread Cert.FinalFwdRefIdeal.nD Cert.FinalFwdRefIdeal.τ).loc Cert.FinalFwdRefIdeal.main_arg2) = m ((c.tc : Thread Cert.FinalFwdRefIdeal.nD Cert.FinalFwdRefIdeal.τ).loc Cert.FinalFwdRefIdeal.main_arg2)
      ∧ r.2.mem ((c.tc : Thread Cert.FinalFwdRefIdeal.nD Cert.FinalFwdRefIdeal.τ).loc Cert.FinalFwdRefIdeal.main_arg3) = m ((c.tc : Thread Cert.FinalFwdRefIdeal.nD Cert.FinalFwdRefIdeal.τ).loc Cert.FinalFwdRefIdeal.main_arg3)
      ∧ r.2.mem ((c.tc : Thread Cert.FinalFwdRefIdeal.nD Cert.FinalFwdRefIdeal.τ).loc Cert.FinalFwdRefIdeal.main_arg4) = m ((c.tc : Thread Cert.FinalFwdRefIdeal.nD Cert.FinalFwdRefIdeal.τ).loc Cert.FinalFwdRefIdeal.main_arg4))
      ∧ r.2.sem = fun _ => 0)

def quiescent_ResidFwd [hResidFwd : Cert.ResidFwd.Facts] : Prop :=
  ∀ (m : (ℓ : Loc Cert.ResidFwd.nD Cert.ResidFwd.τ Cert.ResidFwd.sig) → Buf (Elt Bits) ℓ) (g : Dev Cert.ResidFwd.nD → PrngReg), Pre_ResidFwd m →
    θ_run (Cert.ResidFwd.defs (F := Bits)) (onTc (τ := Cert.ResidFwd.τ) (Cert.ResidFwd.main (F := Bits))) ⟨m, fun _ => 0, g⟩ (fun r => (∀ c : Dev Cert.ResidFwd.nD,
      r.2.mem ((c.tc : Thread Cert.ResidFwd.nD Cert.ResidFwd.τ).loc Cert.ResidFwd.main_arg0) = m ((c.tc : Thread Cert.ResidFwd.nD Cert.ResidFwd.τ).loc Cert.ResidFwd.main_arg0)
      ∧ r.2.mem ((c.tc : Thread Cert.ResidFwd.nD Cert.ResidFwd.τ).loc Cert.ResidFwd.main_arg1) = m ((c.tc : Thread Cert.ResidFwd.nD Cert.ResidFwd.τ).loc Cert.ResidFwd.main_arg1)
      ∧ r.2.mem ((c.tc : Thread Cert.ResidFwd.nD Cert.ResidFwd.τ).loc Cert.ResidFwd.main_arg2) = m ((c.tc : Thread Cert.ResidFwd.nD Cert.ResidFwd.τ).loc Cert.ResidFwd.main_arg2)
      ∧ r.2.mem ((c.tc : Thread Cert.ResidFwd.nD Cert.ResidFwd.τ).loc Cert.ResidFwd.main_arg3) = m ((c.tc : Thread Cert.ResidFwd.nD Cert.ResidFwd.τ).loc Cert.ResidFwd.main_arg3))
      ∧ r.2.sem = fun _ => 0)

def quiescent_ResidFwdIdeal [hResidFwdIdeal : Cert.ResidFwdIdeal.Facts] : Prop :=
  ∀ (m : (ℓ : Loc Cert.ResidFwdIdeal.nD Cert.ResidFwdIdeal.τ Cert.ResidFwdIdeal.sig) → Buf (Elt Ideal) ℓ) (g : Dev Cert.ResidFwdIdeal.nD → PrngReg), Pre_ResidFwdIdeal m →
    θ_run (Cert.ResidFwdIdeal.defs (F := Ideal)) (onTc (τ := Cert.ResidFwdIdeal.τ) (Cert.ResidFwdIdeal.main (F := Ideal))) ⟨m, fun _ => 0, g⟩ (fun r => (∀ c : Dev Cert.ResidFwdIdeal.nD,
      r.2.mem ((c.tc : Thread Cert.ResidFwdIdeal.nD Cert.ResidFwdIdeal.τ).loc Cert.ResidFwdIdeal.main_arg0) = m ((c.tc : Thread Cert.ResidFwdIdeal.nD Cert.ResidFwdIdeal.τ).loc Cert.ResidFwdIdeal.main_arg0)
      ∧ r.2.mem ((c.tc : Thread Cert.ResidFwdIdeal.nD Cert.ResidFwdIdeal.τ).loc Cert.ResidFwdIdeal.main_arg1) = m ((c.tc : Thread Cert.ResidFwdIdeal.nD Cert.ResidFwdIdeal.τ).loc Cert.ResidFwdIdeal.main_arg1)
      ∧ r.2.mem ((c.tc : Thread Cert.ResidFwdIdeal.nD Cert.ResidFwdIdeal.τ).loc Cert.ResidFwdIdeal.main_arg2) = m ((c.tc : Thread Cert.ResidFwdIdeal.nD Cert.ResidFwdIdeal.τ).loc Cert.ResidFwdIdeal.main_arg2)
      ∧ r.2.mem ((c.tc : Thread Cert.ResidFwdIdeal.nD Cert.ResidFwdIdeal.τ).loc Cert.ResidFwdIdeal.main_arg3) = m ((c.tc : Thread Cert.ResidFwdIdeal.nD Cert.ResidFwdIdeal.τ).loc Cert.ResidFwdIdeal.main_arg3))
      ∧ r.2.sem = fun _ => 0)

def quiescent_ResidFwdRefIdeal [hResidFwdRefIdeal : Cert.ResidFwdRefIdeal.Facts] : Prop :=
  ∀ (m : (ℓ : Loc Cert.ResidFwdRefIdeal.nD Cert.ResidFwdRefIdeal.τ Cert.ResidFwdRefIdeal.sig) → Buf (Elt Ideal) ℓ) (g : Dev Cert.ResidFwdRefIdeal.nD → PrngReg), Pre_ResidFwdRefIdeal m →
    θ_run (Cert.ResidFwdRefIdeal.defs (F := Ideal)) (onTc (τ := Cert.ResidFwdRefIdeal.τ) (Cert.ResidFwdRefIdeal.main (F := Ideal))) ⟨m, fun _ => 0, g⟩ (fun r => (∀ c : Dev Cert.ResidFwdRefIdeal.nD,
      r.2.mem ((c.tc : Thread Cert.ResidFwdRefIdeal.nD Cert.ResidFwdRefIdeal.τ).loc Cert.ResidFwdRefIdeal.main_arg0) = m ((c.tc : Thread Cert.ResidFwdRefIdeal.nD Cert.ResidFwdRefIdeal.τ).loc Cert.ResidFwdRefIdeal.main_arg0)
      ∧ r.2.mem ((c.tc : Thread Cert.ResidFwdRefIdeal.nD Cert.ResidFwdRefIdeal.τ).loc Cert.ResidFwdRefIdeal.main_arg1) = m ((c.tc : Thread Cert.ResidFwdRefIdeal.nD Cert.ResidFwdRefIdeal.τ).loc Cert.ResidFwdRefIdeal.main_arg1)
      ∧ r.2.mem ((c.tc : Thread Cert.ResidFwdRefIdeal.nD Cert.ResidFwdRefIdeal.τ).loc Cert.ResidFwdRefIdeal.main_arg2) = m ((c.tc : Thread Cert.ResidFwdRefIdeal.nD Cert.ResidFwdRefIdeal.τ).loc Cert.ResidFwdRefIdeal.main_arg2)
      ∧ r.2.mem ((c.tc : Thread Cert.ResidFwdRefIdeal.nD Cert.ResidFwdRefIdeal.τ).loc Cert.ResidFwdRefIdeal.main_arg3) = m ((c.tc : Thread Cert.ResidFwdRefIdeal.nD Cert.ResidFwdRefIdeal.τ).loc Cert.ResidFwdRefIdeal.main_arg3))
      ∧ r.2.sem = fun _ => 0)

def quiescent_ModNormFwd [hModNormFwd : Cert.ModNormFwd.Facts] : Prop :=
  ∀ (m : (ℓ : Loc Cert.ModNormFwd.nD Cert.ModNormFwd.τ Cert.ModNormFwd.sig) → Buf (Elt Bits) ℓ) (g : Dev Cert.ModNormFwd.nD → PrngReg), Pre_ModNormFwd m →
    θ_run (Cert.ModNormFwd.defs (F := Bits)) (onTc (τ := Cert.ModNormFwd.τ) (Cert.ModNormFwd.main (F := Bits))) ⟨m, fun _ => 0, g⟩ (fun r => (∀ c : Dev Cert.ModNormFwd.nD,
      r.2.mem ((c.tc : Thread Cert.ModNormFwd.nD Cert.ModNormFwd.τ).loc Cert.ModNormFwd.main_arg0) = m ((c.tc : Thread Cert.ModNormFwd.nD Cert.ModNormFwd.τ).loc Cert.ModNormFwd.main_arg0)
      ∧ r.2.mem ((c.tc : Thread Cert.ModNormFwd.nD Cert.ModNormFwd.τ).loc Cert.ModNormFwd.main_arg1) = m ((c.tc : Thread Cert.ModNormFwd.nD Cert.ModNormFwd.τ).loc Cert.ModNormFwd.main_arg1)
      ∧ r.2.mem ((c.tc : Thread Cert.ModNormFwd.nD Cert.ModNormFwd.τ).loc Cert.ModNormFwd.main_arg2) = m ((c.tc : Thread Cert.ModNormFwd.nD Cert.ModNormFwd.τ).loc Cert.ModNormFwd.main_arg2))
      ∧ r.2.sem = fun _ => 0)

def quiescent_ModNormFwdIdeal [hModNormFwdIdeal : Cert.ModNormFwdIdeal.Facts] : Prop :=
  ∀ (m : (ℓ : Loc Cert.ModNormFwdIdeal.nD Cert.ModNormFwdIdeal.τ Cert.ModNormFwdIdeal.sig) → Buf (Elt Ideal) ℓ) (g : Dev Cert.ModNormFwdIdeal.nD → PrngReg), Pre_ModNormFwdIdeal m →
    θ_run (Cert.ModNormFwdIdeal.defs (F := Ideal)) (onTc (τ := Cert.ModNormFwdIdeal.τ) (Cert.ModNormFwdIdeal.main (F := Ideal))) ⟨m, fun _ => 0, g⟩ (fun r => (∀ c : Dev Cert.ModNormFwdIdeal.nD,
      r.2.mem ((c.tc : Thread Cert.ModNormFwdIdeal.nD Cert.ModNormFwdIdeal.τ).loc Cert.ModNormFwdIdeal.main_arg0) = m ((c.tc : Thread Cert.ModNormFwdIdeal.nD Cert.ModNormFwdIdeal.τ).loc Cert.ModNormFwdIdeal.main_arg0)
      ∧ r.2.mem ((c.tc : Thread Cert.ModNormFwdIdeal.nD Cert.ModNormFwdIdeal.τ).loc Cert.ModNormFwdIdeal.main_arg1) = m ((c.tc : Thread Cert.ModNormFwdIdeal.nD Cert.ModNormFwdIdeal.τ).loc Cert.ModNormFwdIdeal.main_arg1)
      ∧ r.2.mem ((c.tc : Thread Cert.ModNormFwdIdeal.nD Cert.ModNormFwdIdeal.τ).loc Cert.ModNormFwdIdeal.main_arg2) = m ((c.tc : Thread Cert.ModNormFwdIdeal.nD Cert.ModNormFwdIdeal.τ).loc Cert.ModNormFwdIdeal.main_arg2))
      ∧ r.2.sem = fun _ => 0)

def quiescent_ModNormFwdRefIdeal [hModNormFwdRefIdeal : Cert.ModNormFwdRefIdeal.Facts] : Prop :=
  ∀ (m : (ℓ : Loc Cert.ModNormFwdRefIdeal.nD Cert.ModNormFwdRefIdeal.τ Cert.ModNormFwdRefIdeal.sig) → Buf (Elt Ideal) ℓ) (g : Dev Cert.ModNormFwdRefIdeal.nD → PrngReg), Pre_ModNormFwdRefIdeal m →
    θ_run (Cert.ModNormFwdRefIdeal.defs (F := Ideal)) (onTc (τ := Cert.ModNormFwdRefIdeal.τ) (Cert.ModNormFwdRefIdeal.main (F := Ideal))) ⟨m, fun _ => 0, g⟩ (fun r => (∀ c : Dev Cert.ModNormFwdRefIdeal.nD,
      r.2.mem ((c.tc : Thread Cert.ModNormFwdRefIdeal.nD Cert.ModNormFwdRefIdeal.τ).loc Cert.ModNormFwdRefIdeal.main_arg0) = m ((c.tc : Thread Cert.ModNormFwdRefIdeal.nD Cert.ModNormFwdRefIdeal.τ).loc Cert.ModNormFwdRefIdeal.main_arg0)
      ∧ r.2.mem ((c.tc : Thread Cert.ModNormFwdRefIdeal.nD Cert.ModNormFwdRefIdeal.τ).loc Cert.ModNormFwdRefIdeal.main_arg1) = m ((c.tc : Thread Cert.ModNormFwdRefIdeal.nD Cert.ModNormFwdRefIdeal.τ).loc Cert.ModNormFwdRefIdeal.main_arg1)
      ∧ r.2.mem ((c.tc : Thread Cert.ModNormFwdRefIdeal.nD Cert.ModNormFwdRefIdeal.τ).loc Cert.ModNormFwdRefIdeal.main_arg2) = m ((c.tc : Thread Cert.ModNormFwdRefIdeal.nD Cert.ModNormFwdRefIdeal.τ).loc Cert.ModNormFwdRefIdeal.main_arg2))
      ∧ r.2.sem = fun _ => 0)

def quiescent_QkBwd [hQkBwd : Cert.QkBwd.Facts] : Prop :=
  ∀ (m : (ℓ : Loc Cert.QkBwd.nD Cert.QkBwd.τ Cert.QkBwd.sig) → Buf (Elt Bits) ℓ) (g : Dev Cert.QkBwd.nD → PrngReg), Pre_QkBwd m →
    θ_run (Cert.QkBwd.defs (F := Bits)) (onTc (τ := Cert.QkBwd.τ) (Cert.QkBwd.main (F := Bits))) ⟨m, fun _ => 0, g⟩ (fun r => (∀ c : Dev Cert.QkBwd.nD,
      r.2.mem ((c.tc : Thread Cert.QkBwd.nD Cert.QkBwd.τ).loc Cert.QkBwd.main_arg0) = m ((c.tc : Thread Cert.QkBwd.nD Cert.QkBwd.τ).loc Cert.QkBwd.main_arg0)
      ∧ r.2.mem ((c.tc : Thread Cert.QkBwd.nD Cert.QkBwd.τ).loc Cert.QkBwd.main_arg1) = m ((c.tc : Thread Cert.QkBwd.nD Cert.QkBwd.τ).loc Cert.QkBwd.main_arg1)
      ∧ r.2.mem ((c.tc : Thread Cert.QkBwd.nD Cert.QkBwd.τ).loc Cert.QkBwd.main_arg2) = m ((c.tc : Thread Cert.QkBwd.nD Cert.QkBwd.τ).loc Cert.QkBwd.main_arg2)
      ∧ r.2.mem ((c.tc : Thread Cert.QkBwd.nD Cert.QkBwd.τ).loc Cert.QkBwd.main_arg3) = m ((c.tc : Thread Cert.QkBwd.nD Cert.QkBwd.τ).loc Cert.QkBwd.main_arg3)
      ∧ r.2.mem ((c.tc : Thread Cert.QkBwd.nD Cert.QkBwd.τ).loc Cert.QkBwd.main_arg4) = m ((c.tc : Thread Cert.QkBwd.nD Cert.QkBwd.τ).loc Cert.QkBwd.main_arg4)
      ∧ r.2.mem ((c.tc : Thread Cert.QkBwd.nD Cert.QkBwd.τ).loc Cert.QkBwd.main_arg5) = m ((c.tc : Thread Cert.QkBwd.nD Cert.QkBwd.τ).loc Cert.QkBwd.main_arg5)
      ∧ r.2.mem ((c.tc : Thread Cert.QkBwd.nD Cert.QkBwd.τ).loc Cert.QkBwd.main_arg6) = m ((c.tc : Thread Cert.QkBwd.nD Cert.QkBwd.τ).loc Cert.QkBwd.main_arg6)
      ∧ r.2.mem ((c.tc : Thread Cert.QkBwd.nD Cert.QkBwd.τ).loc Cert.QkBwd.main_arg7) = m ((c.tc : Thread Cert.QkBwd.nD Cert.QkBwd.τ).loc Cert.QkBwd.main_arg7)
      ∧ r.2.mem ((c.tc : Thread Cert.QkBwd.nD Cert.QkBwd.τ).loc Cert.QkBwd.main_arg8) = m ((c.tc : Thread Cert.QkBwd.nD Cert.QkBwd.τ).loc Cert.QkBwd.main_arg8)
      ∧ r.2.mem ((c.tc : Thread Cert.QkBwd.nD Cert.QkBwd.τ).loc Cert.QkBwd.main_arg9) = m ((c.tc : Thread Cert.QkBwd.nD Cert.QkBwd.τ).loc Cert.QkBwd.main_arg9))
      ∧ r.2.sem = fun _ => 0)

def quiescent_QkBwdIdeal [hQkBwdIdeal : Cert.QkBwdIdeal.Facts] : Prop :=
  ∀ (m : (ℓ : Loc Cert.QkBwdIdeal.nD Cert.QkBwdIdeal.τ Cert.QkBwdIdeal.sig) → Buf (Elt Ideal) ℓ) (g : Dev Cert.QkBwdIdeal.nD → PrngReg), Pre_QkBwdIdeal m →
    θ_run (Cert.QkBwdIdeal.defs (F := Ideal)) (onTc (τ := Cert.QkBwdIdeal.τ) (Cert.QkBwdIdeal.main (F := Ideal))) ⟨m, fun _ => 0, g⟩ (fun r => (∀ c : Dev Cert.QkBwdIdeal.nD,
      r.2.mem ((c.tc : Thread Cert.QkBwdIdeal.nD Cert.QkBwdIdeal.τ).loc Cert.QkBwdIdeal.main_arg0) = m ((c.tc : Thread Cert.QkBwdIdeal.nD Cert.QkBwdIdeal.τ).loc Cert.QkBwdIdeal.main_arg0)
      ∧ r.2.mem ((c.tc : Thread Cert.QkBwdIdeal.nD Cert.QkBwdIdeal.τ).loc Cert.QkBwdIdeal.main_arg1) = m ((c.tc : Thread Cert.QkBwdIdeal.nD Cert.QkBwdIdeal.τ).loc Cert.QkBwdIdeal.main_arg1)
      ∧ r.2.mem ((c.tc : Thread Cert.QkBwdIdeal.nD Cert.QkBwdIdeal.τ).loc Cert.QkBwdIdeal.main_arg2) = m ((c.tc : Thread Cert.QkBwdIdeal.nD Cert.QkBwdIdeal.τ).loc Cert.QkBwdIdeal.main_arg2)
      ∧ r.2.mem ((c.tc : Thread Cert.QkBwdIdeal.nD Cert.QkBwdIdeal.τ).loc Cert.QkBwdIdeal.main_arg3) = m ((c.tc : Thread Cert.QkBwdIdeal.nD Cert.QkBwdIdeal.τ).loc Cert.QkBwdIdeal.main_arg3)
      ∧ r.2.mem ((c.tc : Thread Cert.QkBwdIdeal.nD Cert.QkBwdIdeal.τ).loc Cert.QkBwdIdeal.main_arg4) = m ((c.tc : Thread Cert.QkBwdIdeal.nD Cert.QkBwdIdeal.τ).loc Cert.QkBwdIdeal.main_arg4)
      ∧ r.2.mem ((c.tc : Thread Cert.QkBwdIdeal.nD Cert.QkBwdIdeal.τ).loc Cert.QkBwdIdeal.main_arg5) = m ((c.tc : Thread Cert.QkBwdIdeal.nD Cert.QkBwdIdeal.τ).loc Cert.QkBwdIdeal.main_arg5)
      ∧ r.2.mem ((c.tc : Thread Cert.QkBwdIdeal.nD Cert.QkBwdIdeal.τ).loc Cert.QkBwdIdeal.main_arg6) = m ((c.tc : Thread Cert.QkBwdIdeal.nD Cert.QkBwdIdeal.τ).loc Cert.QkBwdIdeal.main_arg6)
      ∧ r.2.mem ((c.tc : Thread Cert.QkBwdIdeal.nD Cert.QkBwdIdeal.τ).loc Cert.QkBwdIdeal.main_arg7) = m ((c.tc : Thread Cert.QkBwdIdeal.nD Cert.QkBwdIdeal.τ).loc Cert.QkBwdIdeal.main_arg7)
      ∧ r.2.mem ((c.tc : Thread Cert.QkBwdIdeal.nD Cert.QkBwdIdeal.τ).loc Cert.QkBwdIdeal.main_arg8) = m ((c.tc : Thread Cert.QkBwdIdeal.nD Cert.QkBwdIdeal.τ).loc Cert.QkBwdIdeal.main_arg8)
      ∧ r.2.mem ((c.tc : Thread Cert.QkBwdIdeal.nD Cert.QkBwdIdeal.τ).loc Cert.QkBwdIdeal.main_arg9) = m ((c.tc : Thread Cert.QkBwdIdeal.nD Cert.QkBwdIdeal.τ).loc Cert.QkBwdIdeal.main_arg9))
      ∧ r.2.sem = fun _ => 0)

def quiescent_QkBwdRefIdeal [hQkBwdRefIdeal : Cert.QkBwdRefIdeal.Facts] : Prop :=
  ∀ (m : (ℓ : Loc Cert.QkBwdRefIdeal.nD Cert.QkBwdRefIdeal.τ Cert.QkBwdRefIdeal.sig) → Buf (Elt Ideal) ℓ) (g : Dev Cert.QkBwdRefIdeal.nD → PrngReg), Pre_QkBwdRefIdeal m →
    θ_run (Cert.QkBwdRefIdeal.defs (F := Ideal)) (onTc (τ := Cert.QkBwdRefIdeal.τ) (Cert.QkBwdRefIdeal.main (F := Ideal))) ⟨m, fun _ => 0, g⟩ (fun r => (∀ c : Dev Cert.QkBwdRefIdeal.nD,
      r.2.mem ((c.tc : Thread Cert.QkBwdRefIdeal.nD Cert.QkBwdRefIdeal.τ).loc Cert.QkBwdRefIdeal.main_arg0) = m ((c.tc : Thread Cert.QkBwdRefIdeal.nD Cert.QkBwdRefIdeal.τ).loc Cert.QkBwdRefIdeal.main_arg0)
      ∧ r.2.mem ((c.tc : Thread Cert.QkBwdRefIdeal.nD Cert.QkBwdRefIdeal.τ).loc Cert.QkBwdRefIdeal.main_arg1) = m ((c.tc : Thread Cert.QkBwdRefIdeal.nD Cert.QkBwdRefIdeal.τ).loc Cert.QkBwdRefIdeal.main_arg1)
      ∧ r.2.mem ((c.tc : Thread Cert.QkBwdRefIdeal.nD Cert.QkBwdRefIdeal.τ).loc Cert.QkBwdRefIdeal.main_arg2) = m ((c.tc : Thread Cert.QkBwdRefIdeal.nD Cert.QkBwdRefIdeal.τ).loc Cert.QkBwdRefIdeal.main_arg2)
      ∧ r.2.mem ((c.tc : Thread Cert.QkBwdRefIdeal.nD Cert.QkBwdRefIdeal.τ).loc Cert.QkBwdRefIdeal.main_arg3) = m ((c.tc : Thread Cert.QkBwdRefIdeal.nD Cert.QkBwdRefIdeal.τ).loc Cert.QkBwdRefIdeal.main_arg3)
      ∧ r.2.mem ((c.tc : Thread Cert.QkBwdRefIdeal.nD Cert.QkBwdRefIdeal.τ).loc Cert.QkBwdRefIdeal.main_arg4) = m ((c.tc : Thread Cert.QkBwdRefIdeal.nD Cert.QkBwdRefIdeal.τ).loc Cert.QkBwdRefIdeal.main_arg4)
      ∧ r.2.mem ((c.tc : Thread Cert.QkBwdRefIdeal.nD Cert.QkBwdRefIdeal.τ).loc Cert.QkBwdRefIdeal.main_arg5) = m ((c.tc : Thread Cert.QkBwdRefIdeal.nD Cert.QkBwdRefIdeal.τ).loc Cert.QkBwdRefIdeal.main_arg5)
      ∧ r.2.mem ((c.tc : Thread Cert.QkBwdRefIdeal.nD Cert.QkBwdRefIdeal.τ).loc Cert.QkBwdRefIdeal.main_arg6) = m ((c.tc : Thread Cert.QkBwdRefIdeal.nD Cert.QkBwdRefIdeal.τ).loc Cert.QkBwdRefIdeal.main_arg6)
      ∧ r.2.mem ((c.tc : Thread Cert.QkBwdRefIdeal.nD Cert.QkBwdRefIdeal.τ).loc Cert.QkBwdRefIdeal.main_arg7) = m ((c.tc : Thread Cert.QkBwdRefIdeal.nD Cert.QkBwdRefIdeal.τ).loc Cert.QkBwdRefIdeal.main_arg7)
      ∧ r.2.mem ((c.tc : Thread Cert.QkBwdRefIdeal.nD Cert.QkBwdRefIdeal.τ).loc Cert.QkBwdRefIdeal.main_arg8) = m ((c.tc : Thread Cert.QkBwdRefIdeal.nD Cert.QkBwdRefIdeal.τ).loc Cert.QkBwdRefIdeal.main_arg8)
      ∧ r.2.mem ((c.tc : Thread Cert.QkBwdRefIdeal.nD Cert.QkBwdRefIdeal.τ).loc Cert.QkBwdRefIdeal.main_arg9) = m ((c.tc : Thread Cert.QkBwdRefIdeal.nD Cert.QkBwdRefIdeal.τ).loc Cert.QkBwdRefIdeal.main_arg9))
      ∧ r.2.sem = fun _ => 0)

def quiescent_QkFwd [hQkFwd : Cert.QkFwd.Facts] : Prop :=
  ∀ (m : (ℓ : Loc Cert.QkFwd.nD Cert.QkFwd.τ Cert.QkFwd.sig) → Buf (Elt Bits) ℓ) (g : Dev Cert.QkFwd.nD → PrngReg), Pre_QkFwd m →
    θ_run (Cert.QkFwd.defs (F := Bits)) (onTc (τ := Cert.QkFwd.τ) (Cert.QkFwd.main (F := Bits))) ⟨m, fun _ => 0, g⟩ (fun r => (∀ c : Dev Cert.QkFwd.nD,
      r.2.mem ((c.tc : Thread Cert.QkFwd.nD Cert.QkFwd.τ).loc Cert.QkFwd.main_arg0) = m ((c.tc : Thread Cert.QkFwd.nD Cert.QkFwd.τ).loc Cert.QkFwd.main_arg0)
      ∧ r.2.mem ((c.tc : Thread Cert.QkFwd.nD Cert.QkFwd.τ).loc Cert.QkFwd.main_arg1) = m ((c.tc : Thread Cert.QkFwd.nD Cert.QkFwd.τ).loc Cert.QkFwd.main_arg1)
      ∧ r.2.mem ((c.tc : Thread Cert.QkFwd.nD Cert.QkFwd.τ).loc Cert.QkFwd.main_arg2) = m ((c.tc : Thread Cert.QkFwd.nD Cert.QkFwd.τ).loc Cert.QkFwd.main_arg2)
      ∧ r.2.mem ((c.tc : Thread Cert.QkFwd.nD Cert.QkFwd.τ).loc Cert.QkFwd.main_arg3) = m ((c.tc : Thread Cert.QkFwd.nD Cert.QkFwd.τ).loc Cert.QkFwd.main_arg3)
      ∧ r.2.mem ((c.tc : Thread Cert.QkFwd.nD Cert.QkFwd.τ).loc Cert.QkFwd.main_arg4) = m ((c.tc : Thread Cert.QkFwd.nD Cert.QkFwd.τ).loc Cert.QkFwd.main_arg4)
      ∧ r.2.mem ((c.tc : Thread Cert.QkFwd.nD Cert.QkFwd.τ).loc Cert.QkFwd.main_arg5) = m ((c.tc : Thread Cert.QkFwd.nD Cert.QkFwd.τ).loc Cert.QkFwd.main_arg5)
      ∧ r.2.mem ((c.tc : Thread Cert.QkFwd.nD Cert.QkFwd.τ).loc Cert.QkFwd.main_arg6) = m ((c.tc : Thread Cert.QkFwd.nD Cert.QkFwd.τ).loc Cert.QkFwd.main_arg6))
      ∧ r.2.sem = fun _ => 0)

def quiescent_QkFwdIdeal [hQkFwdIdeal : Cert.QkFwdIdeal.Facts] : Prop :=
  ∀ (m : (ℓ : Loc Cert.QkFwdIdeal.nD Cert.QkFwdIdeal.τ Cert.QkFwdIdeal.sig) → Buf (Elt Ideal) ℓ) (g : Dev Cert.QkFwdIdeal.nD → PrngReg), Pre_QkFwdIdeal m →
    θ_run (Cert.QkFwdIdeal.defs (F := Ideal)) (onTc (τ := Cert.QkFwdIdeal.τ) (Cert.QkFwdIdeal.main (F := Ideal))) ⟨m, fun _ => 0, g⟩ (fun r => (∀ c : Dev Cert.QkFwdIdeal.nD,
      r.2.mem ((c.tc : Thread Cert.QkFwdIdeal.nD Cert.QkFwdIdeal.τ).loc Cert.QkFwdIdeal.main_arg0) = m ((c.tc : Thread Cert.QkFwdIdeal.nD Cert.QkFwdIdeal.τ).loc Cert.QkFwdIdeal.main_arg0)
      ∧ r.2.mem ((c.tc : Thread Cert.QkFwdIdeal.nD Cert.QkFwdIdeal.τ).loc Cert.QkFwdIdeal.main_arg1) = m ((c.tc : Thread Cert.QkFwdIdeal.nD Cert.QkFwdIdeal.τ).loc Cert.QkFwdIdeal.main_arg1)
      ∧ r.2.mem ((c.tc : Thread Cert.QkFwdIdeal.nD Cert.QkFwdIdeal.τ).loc Cert.QkFwdIdeal.main_arg2) = m ((c.tc : Thread Cert.QkFwdIdeal.nD Cert.QkFwdIdeal.τ).loc Cert.QkFwdIdeal.main_arg2)
      ∧ r.2.mem ((c.tc : Thread Cert.QkFwdIdeal.nD Cert.QkFwdIdeal.τ).loc Cert.QkFwdIdeal.main_arg3) = m ((c.tc : Thread Cert.QkFwdIdeal.nD Cert.QkFwdIdeal.τ).loc Cert.QkFwdIdeal.main_arg3)
      ∧ r.2.mem ((c.tc : Thread Cert.QkFwdIdeal.nD Cert.QkFwdIdeal.τ).loc Cert.QkFwdIdeal.main_arg4) = m ((c.tc : Thread Cert.QkFwdIdeal.nD Cert.QkFwdIdeal.τ).loc Cert.QkFwdIdeal.main_arg4)
      ∧ r.2.mem ((c.tc : Thread Cert.QkFwdIdeal.nD Cert.QkFwdIdeal.τ).loc Cert.QkFwdIdeal.main_arg5) = m ((c.tc : Thread Cert.QkFwdIdeal.nD Cert.QkFwdIdeal.τ).loc Cert.QkFwdIdeal.main_arg5)
      ∧ r.2.mem ((c.tc : Thread Cert.QkFwdIdeal.nD Cert.QkFwdIdeal.τ).loc Cert.QkFwdIdeal.main_arg6) = m ((c.tc : Thread Cert.QkFwdIdeal.nD Cert.QkFwdIdeal.τ).loc Cert.QkFwdIdeal.main_arg6))
      ∧ r.2.sem = fun _ => 0)

def quiescent_QkFwdRefIdeal [hQkFwdRefIdeal : Cert.QkFwdRefIdeal.Facts] : Prop :=
  ∀ (m : (ℓ : Loc Cert.QkFwdRefIdeal.nD Cert.QkFwdRefIdeal.τ Cert.QkFwdRefIdeal.sig) → Buf (Elt Ideal) ℓ) (g : Dev Cert.QkFwdRefIdeal.nD → PrngReg), Pre_QkFwdRefIdeal m →
    θ_run (Cert.QkFwdRefIdeal.defs (F := Ideal)) (onTc (τ := Cert.QkFwdRefIdeal.τ) (Cert.QkFwdRefIdeal.main (F := Ideal))) ⟨m, fun _ => 0, g⟩ (fun r => (∀ c : Dev Cert.QkFwdRefIdeal.nD,
      r.2.mem ((c.tc : Thread Cert.QkFwdRefIdeal.nD Cert.QkFwdRefIdeal.τ).loc Cert.QkFwdRefIdeal.main_arg0) = m ((c.tc : Thread Cert.QkFwdRefIdeal.nD Cert.QkFwdRefIdeal.τ).loc Cert.QkFwdRefIdeal.main_arg0)
      ∧ r.2.mem ((c.tc : Thread Cert.QkFwdRefIdeal.nD Cert.QkFwdRefIdeal.τ).loc Cert.QkFwdRefIdeal.main_arg1) = m ((c.tc : Thread Cert.QkFwdRefIdeal.nD Cert.QkFwdRefIdeal.τ).loc Cert.QkFwdRefIdeal.main_arg1)
      ∧ r.2.mem ((c.tc : Thread Cert.QkFwdRefIdeal.nD Cert.QkFwdRefIdeal.τ).loc Cert.QkFwdRefIdeal.main_arg2) = m ((c.tc : Thread Cert.QkFwdRefIdeal.nD Cert.QkFwdRefIdeal.τ).loc Cert.QkFwdRefIdeal.main_arg2)
      ∧ r.2.mem ((c.tc : Thread Cert.QkFwdRefIdeal.nD Cert.QkFwdRefIdeal.τ).loc Cert.QkFwdRefIdeal.main_arg3) = m ((c.tc : Thread Cert.QkFwdRefIdeal.nD Cert.QkFwdRefIdeal.τ).loc Cert.QkFwdRefIdeal.main_arg3)
      ∧ r.2.mem ((c.tc : Thread Cert.QkFwdRefIdeal.nD Cert.QkFwdRefIdeal.τ).loc Cert.QkFwdRefIdeal.main_arg4) = m ((c.tc : Thread Cert.QkFwdRefIdeal.nD Cert.QkFwdRefIdeal.τ).loc Cert.QkFwdRefIdeal.main_arg4)
      ∧ r.2.mem ((c.tc : Thread Cert.QkFwdRefIdeal.nD Cert.QkFwdRefIdeal.τ).loc Cert.QkFwdRefIdeal.main_arg5) = m ((c.tc : Thread Cert.QkFwdRefIdeal.nD Cert.QkFwdRefIdeal.τ).loc Cert.QkFwdRefIdeal.main_arg5)
      ∧ r.2.mem ((c.tc : Thread Cert.QkFwdRefIdeal.nD Cert.QkFwdRefIdeal.τ).loc Cert.QkFwdRefIdeal.main_arg6) = m ((c.tc : Thread Cert.QkFwdRefIdeal.nD Cert.QkFwdRefIdeal.τ).loc Cert.QkFwdRefIdeal.main_arg6))
      ∧ r.2.sem = fun _ => 0)

def quiescent_SgateFwd [hSgateFwd : Cert.SgateFwd.Facts] : Prop :=
  ∀ (m : (ℓ : Loc Cert.SgateFwd.nD Cert.SgateFwd.τ Cert.SgateFwd.sig) → Buf (Elt Bits) ℓ) (g : Dev Cert.SgateFwd.nD → PrngReg), Pre_SgateFwd m →
    θ_run (Cert.SgateFwd.defs (F := Bits)) (onTc (τ := Cert.SgateFwd.τ) (Cert.SgateFwd.main (F := Bits))) ⟨m, fun _ => 0, g⟩ (fun r => (∀ c : Dev Cert.SgateFwd.nD,
      r.2.mem ((c.tc : Thread Cert.SgateFwd.nD Cert.SgateFwd.τ).loc Cert.SgateFwd.main_arg0) = m ((c.tc : Thread Cert.SgateFwd.nD Cert.SgateFwd.τ).loc Cert.SgateFwd.main_arg0)
      ∧ r.2.mem ((c.tc : Thread Cert.SgateFwd.nD Cert.SgateFwd.τ).loc Cert.SgateFwd.main_arg1) = m ((c.tc : Thread Cert.SgateFwd.nD Cert.SgateFwd.τ).loc Cert.SgateFwd.main_arg1)
      ∧ r.2.mem ((c.tc : Thread Cert.SgateFwd.nD Cert.SgateFwd.τ).loc Cert.SgateFwd.main_arg2) = m ((c.tc : Thread Cert.SgateFwd.nD Cert.SgateFwd.τ).loc Cert.SgateFwd.main_arg2)
      ∧ r.2.mem ((c.tc : Thread Cert.SgateFwd.nD Cert.SgateFwd.τ).loc Cert.SgateFwd.main_arg3) = m ((c.tc : Thread Cert.SgateFwd.nD Cert.SgateFwd.τ).loc Cert.SgateFwd.main_arg3)
      ∧ r.2.mem ((c.tc : Thread Cert.SgateFwd.nD Cert.SgateFwd.τ).loc Cert.SgateFwd.main_arg4) = m ((c.tc : Thread Cert.SgateFwd.nD Cert.SgateFwd.τ).loc Cert.SgateFwd.main_arg4)
      ∧ r.2.mem ((c.tc : Thread Cert.SgateFwd.nD Cert.SgateFwd.τ).loc Cert.SgateFwd.main_arg5) = m ((c.tc : Thread Cert.SgateFwd.nD Cert.SgateFwd.τ).loc Cert.SgateFwd.main_arg5)
      ∧ r.2.mem ((c.tc : Thread Cert.SgateFwd.nD Cert.SgateFwd.τ).loc Cert.SgateFwd.main_arg6) = m ((c.tc : Thread Cert.SgateFwd.nD Cert.SgateFwd.τ).loc Cert.SgateFwd.main_arg6)
      ∧ r.2.mem ((c.tc : Thread Cert.SgateFwd.nD Cert.SgateFwd.τ).loc Cert.SgateFwd.main_arg7) = m ((c.tc : Thread Cert.SgateFwd.nD Cert.SgateFwd.τ).loc Cert.SgateFwd.main_arg7))
      ∧ r.2.sem = fun _ => 0)

def quiescent_SgateFwdIdeal [hSgateFwdIdeal : Cert.SgateFwdIdeal.Facts] : Prop :=
  ∀ (m : (ℓ : Loc Cert.SgateFwdIdeal.nD Cert.SgateFwdIdeal.τ Cert.SgateFwdIdeal.sig) → Buf (Elt Ideal) ℓ) (g : Dev Cert.SgateFwdIdeal.nD → PrngReg), Pre_SgateFwdIdeal m →
    θ_run (Cert.SgateFwdIdeal.defs (F := Ideal)) (onTc (τ := Cert.SgateFwdIdeal.τ) (Cert.SgateFwdIdeal.main (F := Ideal))) ⟨m, fun _ => 0, g⟩ (fun r => (∀ c : Dev Cert.SgateFwdIdeal.nD,
      r.2.mem ((c.tc : Thread Cert.SgateFwdIdeal.nD Cert.SgateFwdIdeal.τ).loc Cert.SgateFwdIdeal.main_arg0) = m ((c.tc : Thread Cert.SgateFwdIdeal.nD Cert.SgateFwdIdeal.τ).loc Cert.SgateFwdIdeal.main_arg0)
      ∧ r.2.mem ((c.tc : Thread Cert.SgateFwdIdeal.nD Cert.SgateFwdIdeal.τ).loc Cert.SgateFwdIdeal.main_arg1) = m ((c.tc : Thread Cert.SgateFwdIdeal.nD Cert.SgateFwdIdeal.τ).loc Cert.SgateFwdIdeal.main_arg1)
      ∧ r.2.mem ((c.tc : Thread Cert.SgateFwdIdeal.nD Cert.SgateFwdIdeal.τ).loc Cert.SgateFwdIdeal.main_arg2) = m ((c.tc : Thread Cert.SgateFwdIdeal.nD Cert.SgateFwdIdeal.τ).loc Cert.SgateFwdIdeal.main_arg2)
      ∧ r.2.mem ((c.tc : Thread Cert.SgateFwdIdeal.nD Cert.SgateFwdIdeal.τ).loc Cert.SgateFwdIdeal.main_arg3) = m ((c.tc : Thread Cert.SgateFwdIdeal.nD Cert.SgateFwdIdeal.τ).loc Cert.SgateFwdIdeal.main_arg3)
      ∧ r.2.mem ((c.tc : Thread Cert.SgateFwdIdeal.nD Cert.SgateFwdIdeal.τ).loc Cert.SgateFwdIdeal.main_arg4) = m ((c.tc : Thread Cert.SgateFwdIdeal.nD Cert.SgateFwdIdeal.τ).loc Cert.SgateFwdIdeal.main_arg4)
      ∧ r.2.mem ((c.tc : Thread Cert.SgateFwdIdeal.nD Cert.SgateFwdIdeal.τ).loc Cert.SgateFwdIdeal.main_arg5) = m ((c.tc : Thread Cert.SgateFwdIdeal.nD Cert.SgateFwdIdeal.τ).loc Cert.SgateFwdIdeal.main_arg5)
      ∧ r.2.mem ((c.tc : Thread Cert.SgateFwdIdeal.nD Cert.SgateFwdIdeal.τ).loc Cert.SgateFwdIdeal.main_arg6) = m ((c.tc : Thread Cert.SgateFwdIdeal.nD Cert.SgateFwdIdeal.τ).loc Cert.SgateFwdIdeal.main_arg6)
      ∧ r.2.mem ((c.tc : Thread Cert.SgateFwdIdeal.nD Cert.SgateFwdIdeal.τ).loc Cert.SgateFwdIdeal.main_arg7) = m ((c.tc : Thread Cert.SgateFwdIdeal.nD Cert.SgateFwdIdeal.τ).loc Cert.SgateFwdIdeal.main_arg7))
      ∧ r.2.sem = fun _ => 0)

def quiescent_SgateFwdRefIdeal [hSgateFwdRefIdeal : Cert.SgateFwdRefIdeal.Facts] : Prop :=
  ∀ (m : (ℓ : Loc Cert.SgateFwdRefIdeal.nD Cert.SgateFwdRefIdeal.τ Cert.SgateFwdRefIdeal.sig) → Buf (Elt Ideal) ℓ) (g : Dev Cert.SgateFwdRefIdeal.nD → PrngReg), Pre_SgateFwdRefIdeal m →
    θ_run (Cert.SgateFwdRefIdeal.defs (F := Ideal)) (onTc (τ := Cert.SgateFwdRefIdeal.τ) (Cert.SgateFwdRefIdeal.main (F := Ideal))) ⟨m, fun _ => 0, g⟩ (fun r => (∀ c : Dev Cert.SgateFwdRefIdeal.nD,
      r.2.mem ((c.tc : Thread Cert.SgateFwdRefIdeal.nD Cert.SgateFwdRefIdeal.τ).loc Cert.SgateFwdRefIdeal.main_arg0) = m ((c.tc : Thread Cert.SgateFwdRefIdeal.nD Cert.SgateFwdRefIdeal.τ).loc Cert.SgateFwdRefIdeal.main_arg0)
      ∧ r.2.mem ((c.tc : Thread Cert.SgateFwdRefIdeal.nD Cert.SgateFwdRefIdeal.τ).loc Cert.SgateFwdRefIdeal.main_arg1) = m ((c.tc : Thread Cert.SgateFwdRefIdeal.nD Cert.SgateFwdRefIdeal.τ).loc Cert.SgateFwdRefIdeal.main_arg1)
      ∧ r.2.mem ((c.tc : Thread Cert.SgateFwdRefIdeal.nD Cert.SgateFwdRefIdeal.τ).loc Cert.SgateFwdRefIdeal.main_arg2) = m ((c.tc : Thread Cert.SgateFwdRefIdeal.nD Cert.SgateFwdRefIdeal.τ).loc Cert.SgateFwdRefIdeal.main_arg2)
      ∧ r.2.mem ((c.tc : Thread Cert.SgateFwdRefIdeal.nD Cert.SgateFwdRefIdeal.τ).loc Cert.SgateFwdRefIdeal.main_arg3) = m ((c.tc : Thread Cert.SgateFwdRefIdeal.nD Cert.SgateFwdRefIdeal.τ).loc Cert.SgateFwdRefIdeal.main_arg3)
      ∧ r.2.mem ((c.tc : Thread Cert.SgateFwdRefIdeal.nD Cert.SgateFwdRefIdeal.τ).loc Cert.SgateFwdRefIdeal.main_arg4) = m ((c.tc : Thread Cert.SgateFwdRefIdeal.nD Cert.SgateFwdRefIdeal.τ).loc Cert.SgateFwdRefIdeal.main_arg4)
      ∧ r.2.mem ((c.tc : Thread Cert.SgateFwdRefIdeal.nD Cert.SgateFwdRefIdeal.τ).loc Cert.SgateFwdRefIdeal.main_arg5) = m ((c.tc : Thread Cert.SgateFwdRefIdeal.nD Cert.SgateFwdRefIdeal.τ).loc Cert.SgateFwdRefIdeal.main_arg5)
      ∧ r.2.mem ((c.tc : Thread Cert.SgateFwdRefIdeal.nD Cert.SgateFwdRefIdeal.τ).loc Cert.SgateFwdRefIdeal.main_arg6) = m ((c.tc : Thread Cert.SgateFwdRefIdeal.nD Cert.SgateFwdRefIdeal.τ).loc Cert.SgateFwdRefIdeal.main_arg6)
      ∧ r.2.mem ((c.tc : Thread Cert.SgateFwdRefIdeal.nD Cert.SgateFwdRefIdeal.τ).loc Cert.SgateFwdRefIdeal.main_arg7) = m ((c.tc : Thread Cert.SgateFwdRefIdeal.nD Cert.SgateFwdRefIdeal.τ).loc Cert.SgateFwdRefIdeal.main_arg7))
      ∧ r.2.sem = fun _ => 0)

def quiescent_SgateBwd [hSgateBwd : Cert.SgateBwd.Facts] : Prop :=
  ∀ (m : (ℓ : Loc Cert.SgateBwd.nD Cert.SgateBwd.τ Cert.SgateBwd.sig) → Buf (Elt Bits) ℓ) (g : Dev Cert.SgateBwd.nD → PrngReg), Pre_SgateBwd m →
    θ_run (Cert.SgateBwd.defs (F := Bits)) (onTc (τ := Cert.SgateBwd.τ) (Cert.SgateBwd.main (F := Bits))) ⟨m, fun _ => 0, g⟩ (fun r => (∀ c : Dev Cert.SgateBwd.nD,
      r.2.mem ((c.tc : Thread Cert.SgateBwd.nD Cert.SgateBwd.τ).loc Cert.SgateBwd.main_arg0) = m ((c.tc : Thread Cert.SgateBwd.nD Cert.SgateBwd.τ).loc Cert.SgateBwd.main_arg0)
      ∧ r.2.mem ((c.tc : Thread Cert.SgateBwd.nD Cert.SgateBwd.τ).loc Cert.SgateBwd.main_arg1) = m ((c.tc : Thread Cert.SgateBwd.nD Cert.SgateBwd.τ).loc Cert.SgateBwd.main_arg1)
      ∧ r.2.mem ((c.tc : Thread Cert.SgateBwd.nD Cert.SgateBwd.τ).loc Cert.SgateBwd.main_arg2) = m ((c.tc : Thread Cert.SgateBwd.nD Cert.SgateBwd.τ).loc Cert.SgateBwd.main_arg2)
      ∧ r.2.mem ((c.tc : Thread Cert.SgateBwd.nD Cert.SgateBwd.τ).loc Cert.SgateBwd.main_arg3) = m ((c.tc : Thread Cert.SgateBwd.nD Cert.SgateBwd.τ).loc Cert.SgateBwd.main_arg3)
      ∧ r.2.mem ((c.tc : Thread Cert.SgateBwd.nD Cert.SgateBwd.τ).loc Cert.SgateBwd.main_arg4) = m ((c.tc : Thread Cert.SgateBwd.nD Cert.SgateBwd.τ).loc Cert.SgateBwd.main_arg4)
      ∧ r.2.mem ((c.tc : Thread Cert.SgateBwd.nD Cert.SgateBwd.τ).loc Cert.SgateBwd.main_arg5) = m ((c.tc : Thread Cert.SgateBwd.nD Cert.SgateBwd.τ).loc Cert.SgateBwd.main_arg5)
      ∧ r.2.mem ((c.tc : Thread Cert.SgateBwd.nD Cert.SgateBwd.τ).loc Cert.SgateBwd.main_arg6) = m ((c.tc : Thread Cert.SgateBwd.nD Cert.SgateBwd.τ).loc Cert.SgateBwd.main_arg6)
      ∧ r.2.mem ((c.tc : Thread Cert.SgateBwd.nD Cert.SgateBwd.τ).loc Cert.SgateBwd.main_arg7) = m ((c.tc : Thread Cert.SgateBwd.nD Cert.SgateBwd.τ).loc Cert.SgateBwd.main_arg7)
      ∧ r.2.mem ((c.tc : Thread Cert.SgateBwd.nD Cert.SgateBwd.τ).loc Cert.SgateBwd.main_arg8) = m ((c.tc : Thread Cert.SgateBwd.nD Cert.SgateBwd.τ).loc Cert.SgateBwd.main_arg8))
      ∧ r.2.sem = fun _ => 0)

def quiescent_SgateBwdIdeal [hSgateBwdIdeal : Cert.SgateBwdIdeal.Facts] : Prop :=
  ∀ (m : (ℓ : Loc Cert.SgateBwdIdeal.nD Cert.SgateBwdIdeal.τ Cert.SgateBwdIdeal.sig) → Buf (Elt Ideal) ℓ) (g : Dev Cert.SgateBwdIdeal.nD → PrngReg), Pre_SgateBwdIdeal m →
    θ_run (Cert.SgateBwdIdeal.defs (F := Ideal)) (onTc (τ := Cert.SgateBwdIdeal.τ) (Cert.SgateBwdIdeal.main (F := Ideal))) ⟨m, fun _ => 0, g⟩ (fun r => (∀ c : Dev Cert.SgateBwdIdeal.nD,
      r.2.mem ((c.tc : Thread Cert.SgateBwdIdeal.nD Cert.SgateBwdIdeal.τ).loc Cert.SgateBwdIdeal.main_arg0) = m ((c.tc : Thread Cert.SgateBwdIdeal.nD Cert.SgateBwdIdeal.τ).loc Cert.SgateBwdIdeal.main_arg0)
      ∧ r.2.mem ((c.tc : Thread Cert.SgateBwdIdeal.nD Cert.SgateBwdIdeal.τ).loc Cert.SgateBwdIdeal.main_arg1) = m ((c.tc : Thread Cert.SgateBwdIdeal.nD Cert.SgateBwdIdeal.τ).loc Cert.SgateBwdIdeal.main_arg1)
      ∧ r.2.mem ((c.tc : Thread Cert.SgateBwdIdeal.nD Cert.SgateBwdIdeal.τ).loc Cert.SgateBwdIdeal.main_arg2) = m ((c.tc : Thread Cert.SgateBwdIdeal.nD Cert.SgateBwdIdeal.τ).loc Cert.SgateBwdIdeal.main_arg2)
      ∧ r.2.mem ((c.tc : Thread Cert.SgateBwdIdeal.nD Cert.SgateBwdIdeal.τ).loc Cert.SgateBwdIdeal.main_arg3) = m ((c.tc : Thread Cert.SgateBwdIdeal.nD Cert.SgateBwdIdeal.τ).loc Cert.SgateBwdIdeal.main_arg3)
      ∧ r.2.mem ((c.tc : Thread Cert.SgateBwdIdeal.nD Cert.SgateBwdIdeal.τ).loc Cert.SgateBwdIdeal.main_arg4) = m ((c.tc : Thread Cert.SgateBwdIdeal.nD Cert.SgateBwdIdeal.τ).loc Cert.SgateBwdIdeal.main_arg4)
      ∧ r.2.mem ((c.tc : Thread Cert.SgateBwdIdeal.nD Cert.SgateBwdIdeal.τ).loc Cert.SgateBwdIdeal.main_arg5) = m ((c.tc : Thread Cert.SgateBwdIdeal.nD Cert.SgateBwdIdeal.τ).loc Cert.SgateBwdIdeal.main_arg5)
      ∧ r.2.mem ((c.tc : Thread Cert.SgateBwdIdeal.nD Cert.SgateBwdIdeal.τ).loc Cert.SgateBwdIdeal.main_arg6) = m ((c.tc : Thread Cert.SgateBwdIdeal.nD Cert.SgateBwdIdeal.τ).loc Cert.SgateBwdIdeal.main_arg6)
      ∧ r.2.mem ((c.tc : Thread Cert.SgateBwdIdeal.nD Cert.SgateBwdIdeal.τ).loc Cert.SgateBwdIdeal.main_arg7) = m ((c.tc : Thread Cert.SgateBwdIdeal.nD Cert.SgateBwdIdeal.τ).loc Cert.SgateBwdIdeal.main_arg7)
      ∧ r.2.mem ((c.tc : Thread Cert.SgateBwdIdeal.nD Cert.SgateBwdIdeal.τ).loc Cert.SgateBwdIdeal.main_arg8) = m ((c.tc : Thread Cert.SgateBwdIdeal.nD Cert.SgateBwdIdeal.τ).loc Cert.SgateBwdIdeal.main_arg8))
      ∧ r.2.sem = fun _ => 0)

def quiescent_SgateBwdRefIdeal [hSgateBwdRefIdeal : Cert.SgateBwdRefIdeal.Facts] : Prop :=
  ∀ (m : (ℓ : Loc Cert.SgateBwdRefIdeal.nD Cert.SgateBwdRefIdeal.τ Cert.SgateBwdRefIdeal.sig) → Buf (Elt Ideal) ℓ) (g : Dev Cert.SgateBwdRefIdeal.nD → PrngReg), Pre_SgateBwdRefIdeal m →
    θ_run (Cert.SgateBwdRefIdeal.defs (F := Ideal)) (onTc (τ := Cert.SgateBwdRefIdeal.τ) (Cert.SgateBwdRefIdeal.main (F := Ideal))) ⟨m, fun _ => 0, g⟩ (fun r => (∀ c : Dev Cert.SgateBwdRefIdeal.nD,
      r.2.mem ((c.tc : Thread Cert.SgateBwdRefIdeal.nD Cert.SgateBwdRefIdeal.τ).loc Cert.SgateBwdRefIdeal.main_arg0) = m ((c.tc : Thread Cert.SgateBwdRefIdeal.nD Cert.SgateBwdRefIdeal.τ).loc Cert.SgateBwdRefIdeal.main_arg0)
      ∧ r.2.mem ((c.tc : Thread Cert.SgateBwdRefIdeal.nD Cert.SgateBwdRefIdeal.τ).loc Cert.SgateBwdRefIdeal.main_arg1) = m ((c.tc : Thread Cert.SgateBwdRefIdeal.nD Cert.SgateBwdRefIdeal.τ).loc Cert.SgateBwdRefIdeal.main_arg1)
      ∧ r.2.mem ((c.tc : Thread Cert.SgateBwdRefIdeal.nD Cert.SgateBwdRefIdeal.τ).loc Cert.SgateBwdRefIdeal.main_arg2) = m ((c.tc : Thread Cert.SgateBwdRefIdeal.nD Cert.SgateBwdRefIdeal.τ).loc Cert.SgateBwdRefIdeal.main_arg2)
      ∧ r.2.mem ((c.tc : Thread Cert.SgateBwdRefIdeal.nD Cert.SgateBwdRefIdeal.τ).loc Cert.SgateBwdRefIdeal.main_arg3) = m ((c.tc : Thread Cert.SgateBwdRefIdeal.nD Cert.SgateBwdRefIdeal.τ).loc Cert.SgateBwdRefIdeal.main_arg3)
      ∧ r.2.mem ((c.tc : Thread Cert.SgateBwdRefIdeal.nD Cert.SgateBwdRefIdeal.τ).loc Cert.SgateBwdRefIdeal.main_arg4) = m ((c.tc : Thread Cert.SgateBwdRefIdeal.nD Cert.SgateBwdRefIdeal.τ).loc Cert.SgateBwdRefIdeal.main_arg4)
      ∧ r.2.mem ((c.tc : Thread Cert.SgateBwdRefIdeal.nD Cert.SgateBwdRefIdeal.τ).loc Cert.SgateBwdRefIdeal.main_arg5) = m ((c.tc : Thread Cert.SgateBwdRefIdeal.nD Cert.SgateBwdRefIdeal.τ).loc Cert.SgateBwdRefIdeal.main_arg5)
      ∧ r.2.mem ((c.tc : Thread Cert.SgateBwdRefIdeal.nD Cert.SgateBwdRefIdeal.τ).loc Cert.SgateBwdRefIdeal.main_arg6) = m ((c.tc : Thread Cert.SgateBwdRefIdeal.nD Cert.SgateBwdRefIdeal.τ).loc Cert.SgateBwdRefIdeal.main_arg6)
      ∧ r.2.mem ((c.tc : Thread Cert.SgateBwdRefIdeal.nD Cert.SgateBwdRefIdeal.τ).loc Cert.SgateBwdRefIdeal.main_arg7) = m ((c.tc : Thread Cert.SgateBwdRefIdeal.nD Cert.SgateBwdRefIdeal.τ).loc Cert.SgateBwdRefIdeal.main_arg7)
      ∧ r.2.mem ((c.tc : Thread Cert.SgateBwdRefIdeal.nD Cert.SgateBwdRefIdeal.τ).loc Cert.SgateBwdRefIdeal.main_arg8) = m ((c.tc : Thread Cert.SgateBwdRefIdeal.nD Cert.SgateBwdRefIdeal.τ).loc Cert.SgateBwdRefIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v140) = v1 c
          ∧ r.2.mem ((c.tc : Thread Cert.ReferenceIdeal.nD Cert.ReferenceIdeal.τ).loc Cert.ReferenceIdeal.main_v139) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_UpGradA_UpGradAIdeal : Prop :=
  True

def algebraic_UpGradAIdeal_UpGradARefIdeal [hUpGradAIdeal : Cert.UpGradAIdeal.Facts] [hUpGradARefIdeal : Cert.UpGradARefIdeal.Facts] : Prop :=
  ∀ (m : (ℓ : Loc Cert.UpGradAIdeal.nD Cert.UpGradAIdeal.τ Cert.UpGradAIdeal.sig) → Buf (Elt Ideal) ℓ) (g : Dev Cert.UpGradAIdeal.nD → PrngReg)
    (m' : (ℓ : Loc Cert.UpGradARefIdeal.nD Cert.UpGradARefIdeal.τ Cert.UpGradARefIdeal.sig) → Buf (Elt Ideal) ℓ) (g' : Dev Cert.UpGradARefIdeal.nD → PrngReg), Pre_UpGradAIdeal m →
    (∀ c : Dev Cert.UpGradAIdeal.nD,
      m' ((c.tc : Thread Cert.UpGradARefIdeal.nD Cert.UpGradARefIdeal.τ).loc Cert.UpGradARefIdeal.main_arg0) = m ((c.tc : Thread Cert.UpGradAIdeal.nD Cert.UpGradAIdeal.τ).loc Cert.UpGradAIdeal.main_arg0)
      ∧ m' ((c.tc : Thread Cert.UpGradARefIdeal.nD Cert.UpGradARefIdeal.τ).loc Cert.UpGradARefIdeal.main_arg1) = m ((c.tc : Thread Cert.UpGradAIdeal.nD Cert.UpGradAIdeal.τ).loc Cert.UpGradAIdeal.main_arg1)) →
    ∃ (v0 : (c : Dev Cert.UpGradAIdeal.nD) → Buf (Elt Ideal) ((c.tc : Thread Cert.UpGradAIdeal.nD Cert.UpGradAIdeal.τ).loc Cert.UpGradAIdeal.main_v0)),
      θ_run (Cert.UpGradAIdeal.defs (F := Ideal)) (onTc (τ := Cert.UpGradAIdeal.τ) (Cert.UpGradAIdeal.main (F := Ideal))) ⟨m, fun _ => 0, g⟩ (fun r => ∀ c : Dev Cert.UpGradAIdeal.nD,
          r.2.mem ((c.tc : Thread Cert.UpGradAIdeal.nD Cert.UpGradAIdeal.τ).loc Cert.UpGradAIdeal.main_v0) = v0 c
          ∧ r.2.mem ((c.tc : Thread Cert.UpGradAIdeal.nD Cert.UpGradAIdeal.τ).loc Cert.UpGradAIdeal.main_arg0) = m ((c.tc : Thread Cert.UpGradAIdeal.nD Cert.UpGradAIdeal.τ).loc Cert.UpGradAIdeal.main_arg0)
          ∧ r.2.mem ((c.tc : Thread Cert.UpGradAIdeal.nD Cert.UpGradAIdeal.τ).loc Cert.UpGradAIdeal.main_arg1) = m ((c.tc : Thread Cert.UpGradAIdeal.nD Cert.UpGradAIdeal.τ).loc Cert.UpGradAIdeal.main_arg1))
      ∧ θ_run (Cert.UpGradARefIdeal.defs (F := Ideal)) (onTc (τ := Cert.UpGradARefIdeal.τ) (Cert.UpGradARefIdeal.main (F := Ideal))) ⟨m', fun _ => 0, g'⟩ (fun r => ∀ c : Dev Cert.UpGradARefIdeal.nD,
          r.2.mem ((c.tc : Thread Cert.UpGradARefIdeal.nD Cert.UpGradARefIdeal.τ).loc Cert.UpGradARefIdeal.main_v6) = v0 c
          ∧ r.2.mem ((c.tc : Thread Cert.UpGradARefIdeal.nD Cert.UpGradARefIdeal.τ).loc Cert.UpGradARefIdeal.main_arg0) = m' ((c.tc : Thread Cert.UpGradARefIdeal.nD Cert.UpGradARefIdeal.τ).loc Cert.UpGradARefIdeal.main_arg0)
          ∧ r.2.mem ((c.tc : Thread Cert.UpGradARefIdeal.nD Cert.UpGradARefIdeal.τ).loc Cert.UpGradARefIdeal.main_arg1) = m' ((c.tc : Thread Cert.UpGradARefIdeal.nD Cert.UpGradARefIdeal.τ).loc Cert.UpGradARefIdeal.main_arg1))

def preserves_UpGradW_UpGradWIdeal : Prop :=
  True

def algebraic_UpGradWIdeal_UpGradWRefIdeal [hUpGradWIdeal : Cert.UpGradWIdeal.Facts] [hUpGradWRefIdeal : Cert.UpGradWRefIdeal.Facts] : Prop :=
  ∀ (m : (ℓ : Loc Cert.UpGradWIdeal.nD Cert.UpGradWIdeal.τ Cert.UpGradWIdeal.sig) → Buf (Elt Ideal) ℓ) (g : Dev Cert.UpGradWIdeal.nD → PrngReg)
    (m' : (ℓ : Loc Cert.UpGradWRefIdeal.nD Cert.UpGradWRefIdeal.τ Cert.UpGradWRefIdeal.sig) → Buf (Elt Ideal) ℓ) (g' : Dev Cert.UpGradWRefIdeal.nD → PrngReg), Pre_UpGradWIdeal m →
    (∀ c : Dev Cert.UpGradWIdeal.nD,
      m' ((c.tc : Thread Cert.UpGradWRefIdeal.nD Cert.UpGradWRefIdeal.τ).loc Cert.UpGradWRefIdeal.main_arg0) = m ((c.tc : Thread Cert.UpGradWIdeal.nD Cert.UpGradWIdeal.τ).loc Cert.UpGradWIdeal.main_arg0)
      ∧ m' ((c.tc : Thread Cert.UpGradWRefIdeal.nD Cert.UpGradWRefIdeal.τ).loc Cert.UpGradWRefIdeal.main_arg1) = m ((c.tc : Thread Cert.UpGradWIdeal.nD Cert.UpGradWIdeal.τ).loc Cert.UpGradWIdeal.main_arg1)) →
    ∃ (v0 : (c : Dev Cert.UpGradWIdeal.nD) → Buf (Elt Ideal) ((c.tc : Thread Cert.UpGradWIdeal.nD Cert.UpGradWIdeal.τ).loc Cert.UpGradWIdeal.main_v0)),
      θ_run (Cert.UpGradWIdeal.defs (F := Ideal)) (onTc (τ := Cert.UpGradWIdeal.τ) (Cert.UpGradWIdeal.main (F := Ideal))) ⟨m, fun _ => 0, g⟩ (fun r => ∀ c : Dev Cert.UpGradWIdeal.nD,
          r.2.mem ((c.tc : Thread Cert.UpGradWIdeal.nD Cert.UpGradWIdeal.τ).loc Cert.UpGradWIdeal.main_v0) = v0 c
          ∧ r.2.mem ((c.tc : Thread Cert.UpGradWIdeal.nD Cert.UpGradWIdeal.τ).loc Cert.UpGradWIdeal.main_arg0) = m ((c.tc : Thread Cert.UpGradWIdeal.nD Cert.UpGradWIdeal.τ).loc Cert.UpGradWIdeal.main_arg0)
          ∧ r.2.mem ((c.tc : Thread Cert.UpGradWIdeal.nD Cert.UpGradWIdeal.τ).loc Cert.UpGradWIdeal.main_arg1) = m ((c.tc : Thread Cert.UpGradWIdeal.nD Cert.UpGradWIdeal.τ).loc Cert.UpGradWIdeal.main_arg1))
      ∧ θ_run (Cert.UpGradWRefIdeal.defs (F := Ideal)) (onTc (τ := Cert.UpGradWRefIdeal.τ) (Cert.UpGradWRefIdeal.main (F := Ideal))) ⟨m', fun _ => 0, g'⟩ (fun r => ∀ c : Dev Cert.UpGradWRefIdeal.nD,
          r.2.mem ((c.tc : Thread Cert.UpGradWRefIdeal.nD Cert.UpGradWRefIdeal.τ).loc Cert.UpGradWRefIdeal.main_v7) = v0 c
          ∧ r.2.mem ((c.tc : Thread Cert.UpGradWRefIdeal.nD Cert.UpGradWRefIdeal.τ).loc Cert.UpGradWRefIdeal.main_arg0) = m' ((c.tc : Thread Cert.UpGradWRefIdeal.nD Cert.UpGradWRefIdeal.τ).loc Cert.UpGradWRefIdeal.main_arg0)
          ∧ r.2.mem ((c.tc : Thread Cert.UpGradWRefIdeal.nD Cert.UpGradWRefIdeal.τ).loc Cert.UpGradWRefIdeal.main_arg1) = m' ((c.tc : Thread Cert.UpGradWRefIdeal.nD Cert.UpGradWRefIdeal.τ).loc Cert.UpGradWRefIdeal.main_arg1))

def preserves_DownGradA_DownGradAIdeal : Prop :=
  True

def algebraic_DownGradAIdeal_DownGradARefIdeal [hDownGradAIdeal : Cert.DownGradAIdeal.Facts] [hDownGradARefIdeal : Cert.DownGradARefIdeal.Facts] : Prop :=
  ∀ (m : (ℓ : Loc Cert.DownGradAIdeal.nD Cert.DownGradAIdeal.τ Cert.DownGradAIdeal.sig) → Buf (Elt Ideal) ℓ) (g : Dev Cert.DownGradAIdeal.nD → PrngReg)
    (m' : (ℓ : Loc Cert.DownGradARefIdeal.nD Cert.DownGradARefIdeal.τ Cert.DownGradARefIdeal.sig) → Buf (Elt Ideal) ℓ) (g' : Dev Cert.DownGradARefIdeal.nD → PrngReg), Pre_DownGradAIdeal m →
    (∀ c : Dev Cert.DownGradAIdeal.nD,
      m' ((c.tc : Thread Cert.DownGradARefIdeal.nD Cert.DownGradARefIdeal.τ).loc Cert.DownGradARefIdeal.main_arg0) = m ((c.tc : Thread Cert.DownGradAIdeal.nD Cert.DownGradAIdeal.τ).loc Cert.DownGradAIdeal.main_arg0)
      ∧ m' ((c.tc : Thread Cert.DownGradARefIdeal.nD Cert.DownGradARefIdeal.τ).loc Cert.DownGradARefIdeal.main_arg1) = m ((c.tc : Thread Cert.DownGradAIdeal.nD Cert.DownGradAIdeal.τ).loc Cert.DownGradAIdeal.main_arg1)) →
    ∃ (v0 : (c : Dev Cert.DownGradAIdeal.nD) → Buf (Elt Ideal) ((c.tc : Thread Cert.DownGradAIdeal.nD Cert.DownGradAIdeal.τ).loc Cert.DownGradAIdeal.main_v0)),
      θ_run (Cert.DownGradAIdeal.defs (F := Ideal)) (onTc (τ := Cert.DownGradAIdeal.τ) (Cert.DownGradAIdeal.main (F := Ideal))) ⟨m, fun _ => 0, g⟩ (fun r => ∀ c : Dev Cert.DownGradAIdeal.nD,
          r.2.mem ((c.tc : Thread Cert.DownGradAIdeal.nD Cert.DownGradAIdeal.τ).loc Cert.DownGradAIdeal.main_v0) = v0 c
          ∧ r.2.mem ((c.tc : Thread Cert.DownGradAIdeal.nD Cert.DownGradAIdeal.τ).loc Cert.DownGradAIdeal.main_arg0) = m ((c.tc : Thread Cert.DownGradAIdeal.nD Cert.DownGradAIdeal.τ).loc Cert.DownGradAIdeal.main_arg0)
          ∧ r.2.mem ((c.tc : Thread Cert.DownGradAIdeal.nD Cert.DownGradAIdeal.τ).loc Cert.DownGradAIdeal.main_arg1) = m ((c.tc : Thread Cert.DownGradAIdeal.nD Cert.DownGradAIdeal.τ).loc Cert.DownGradAIdeal.main_arg1))
      ∧ θ_run (Cert.DownGradARefIdeal.defs (F := Ideal)) (onTc (τ := Cert.DownGradARefIdeal.τ) (Cert.DownGradARefIdeal.main (F := Ideal))) ⟨m', fun _ => 0, g'⟩ (fun r => ∀ c : Dev Cert.DownGradARefIdeal.nD,
          r.2.mem ((c.tc : Thread Cert.DownGradARefIdeal.nD Cert.DownGradARefIdeal.τ).loc Cert.DownGradARefIdeal.main_v6) = v0 c
          ∧ r.2.mem ((c.tc : Thread Cert.DownGradARefIdeal.nD Cert.DownGradARefIdeal.τ).loc Cert.DownGradARefIdeal.main_arg0) = m' ((c.tc : Thread Cert.DownGradARefIdeal.nD Cert.DownGradARefIdeal.τ).loc Cert.DownGradARefIdeal.main_arg0)
          ∧ r.2.mem ((c.tc : Thread Cert.DownGradARefIdeal.nD Cert.DownGradARefIdeal.τ).loc Cert.DownGradARefIdeal.main_arg1) = m' ((c.tc : Thread Cert.DownGradARefIdeal.nD Cert.DownGradARefIdeal.τ).loc Cert.DownGradARefIdeal.main_arg1))

def preserves_DownGradW_DownGradWIdeal : Prop :=
  True

def algebraic_DownGradWIdeal_DownGradWRefIdeal [hDownGradWIdeal : Cert.DownGradWIdeal.Facts] [hDownGradWRefIdeal : Cert.DownGradWRefIdeal.Facts] : Prop :=
  ∀ (m : (ℓ : Loc Cert.DownGradWIdeal.nD Cert.DownGradWIdeal.τ Cert.DownGradWIdeal.sig) → Buf (Elt Ideal) ℓ) (g : Dev Cert.DownGradWIdeal.nD → PrngReg)
    (m' : (ℓ : Loc Cert.DownGradWRefIdeal.nD Cert.DownGradWRefIdeal.τ Cert.DownGradWRefIdeal.sig) → Buf (Elt Ideal) ℓ) (g' : Dev Cert.DownGradWRefIdeal.nD → PrngReg), Pre_DownGradWIdeal m →
    (∀ c : Dev Cert.DownGradWIdeal.nD,
      m' ((c.tc : Thread Cert.DownGradWRefIdeal.nD Cert.DownGradWRefIdeal.τ).loc Cert.DownGradWRefIdeal.main_arg0) = m ((c.tc : Thread Cert.DownGradWIdeal.nD Cert.DownGradWIdeal.τ).loc Cert.DownGradWIdeal.main_arg0)
      ∧ m' ((c.tc : Thread Cert.DownGradWRefIdeal.nD Cert.DownGradWRefIdeal.τ).loc Cert.DownGradWRefIdeal.main_arg1) = m ((c.tc : Thread Cert.DownGradWIdeal.nD Cert.DownGradWIdeal.τ).loc Cert.DownGradWIdeal.main_arg1)) →
    ∃ (v0 : (c : Dev Cert.DownGradWIdeal.nD) → Buf (Elt Ideal) ((c.tc : Thread Cert.DownGradWIdeal.nD Cert.DownGradWIdeal.τ).loc Cert.DownGradWIdeal.main_v0)),
      θ_run (Cert.DownGradWIdeal.defs (F := Ideal)) (onTc (τ := Cert.DownGradWIdeal.τ) (Cert.DownGradWIdeal.main (F := Ideal))) ⟨m, fun _ => 0, g⟩ (fun r => ∀ c : Dev Cert.DownGradWIdeal.nD,
          r.2.mem ((c.tc : Thread Cert.DownGradWIdeal.nD Cert.DownGradWIdeal.τ).loc Cert.DownGradWIdeal.main_v0) = v0 c
          ∧ r.2.mem ((c.tc : Thread Cert.DownGradWIdeal.nD Cert.DownGradWIdeal.τ).loc Cert.DownGradWIdeal.main_arg0) = m ((c.tc : Thread Cert.DownGradWIdeal.nD Cert.DownGradWIdeal.τ).loc Cert.DownGradWIdeal.main_arg0)
          ∧ r.2.mem ((c.tc : Thread Cert.DownGradWIdeal.nD Cert.DownGradWIdeal.τ).loc Cert.DownGradWIdeal.main_arg1) = m ((c.tc : Thread Cert.DownGradWIdeal.nD Cert.DownGradWIdeal.τ).loc Cert.DownGradWIdeal.main_arg1))
      ∧ θ_run (Cert.DownGradWRefIdeal.defs (F := Ideal)) (onTc (τ := Cert.DownGradWRefIdeal.τ) (Cert.DownGradWRefIdeal.main (F := Ideal))) ⟨m', fun _ => 0, g'⟩ (fun r => ∀ c : Dev Cert.DownGradWRefIdeal.nD,
          r.2.mem ((c.tc : Thread Cert.DownGradWRefIdeal.nD Cert.DownGradWRefIdeal.τ).loc Cert.DownGradWRefIdeal.main_v7) = v0 c
          ∧ r.2.mem ((c.tc : Thread Cert.DownGradWRefIdeal.nD Cert.DownGradWRefIdeal.τ).loc Cert.DownGradWRefIdeal.main_arg0) = m' ((c.tc : Thread Cert.DownGradWRefIdeal.nD Cert.DownGradWRefIdeal.τ).loc Cert.DownGradWRefIdeal.main_arg0)
          ∧ r.2.mem ((c.tc : Thread Cert.DownGradWRefIdeal.nD Cert.DownGradWRefIdeal.τ).loc Cert.DownGradWRefIdeal.main_arg1) = m' ((c.tc : Thread Cert.DownGradWRefIdeal.nD Cert.DownGradWRefIdeal.τ).loc Cert.DownGradWRefIdeal.main_arg1))

def preserves_InGradA_InGradAIdeal : Prop :=
  True

def algebraic_InGradAIdeal_InGradARefIdeal [hInGradAIdeal : Cert.InGradAIdeal.Facts] [hInGradARefIdeal : Cert.InGradARefIdeal.Facts] : Prop :=
  ∀ (m : (ℓ : Loc Cert.InGradAIdeal.nD Cert.InGradAIdeal.τ Cert.InGradAIdeal.sig) → Buf (Elt Ideal) ℓ) (g : Dev Cert.InGradAIdeal.nD → PrngReg)
    (m' : (ℓ : Loc Cert.InGradARefIdeal.nD Cert.InGradARefIdeal.τ Cert.InGradARefIdeal.sig) → Buf (Elt Ideal) ℓ) (g' : Dev Cert.InGradARefIdeal.nD → PrngReg), Pre_InGradAIdeal m →
    (∀ c : Dev Cert.InGradAIdeal.nD,
      m' ((c.tc : Thread Cert.InGradARefIdeal.nD Cert.InGradARefIdeal.τ).loc Cert.InGradARefIdeal.main_arg0) = m ((c.tc : Thread Cert.InGradAIdeal.nD Cert.InGradAIdeal.τ).loc Cert.InGradAIdeal.main_arg0)
      ∧ m' ((c.tc : Thread Cert.InGradARefIdeal.nD Cert.InGradARefIdeal.τ).loc Cert.InGradARefIdeal.main_arg1) = m ((c.tc : Thread Cert.InGradAIdeal.nD Cert.InGradAIdeal.τ).loc Cert.InGradAIdeal.main_arg1)) →
    ∃ (v0 : (c : Dev Cert.InGradAIdeal.nD) → Buf (Elt Ideal) ((c.tc : Thread Cert.InGradAIdeal.nD Cert.InGradAIdeal.τ).loc Cert.InGradAIdeal.main_v0)),
      θ_run (Cert.InGradAIdeal.defs (F := Ideal)) (onTc (τ := Cert.InGradAIdeal.τ) (Cert.InGradAIdeal.main (F := Ideal))) ⟨m, fun _ => 0, g⟩ (fun r => ∀ c : Dev Cert.InGradAIdeal.nD,
          r.2.mem ((c.tc : Thread Cert.InGradAIdeal.nD Cert.InGradAIdeal.τ).loc Cert.InGradAIdeal.main_v0) = v0 c
          ∧ r.2.mem ((c.tc : Thread Cert.InGradAIdeal.nD Cert.InGradAIdeal.τ).loc Cert.InGradAIdeal.main_arg0) = m ((c.tc : Thread Cert.InGradAIdeal.nD Cert.InGradAIdeal.τ).loc Cert.InGradAIdeal.main_arg0)
          ∧ r.2.mem ((c.tc : Thread Cert.InGradAIdeal.nD Cert.InGradAIdeal.τ).loc Cert.InGradAIdeal.main_arg1) = m ((c.tc : Thread Cert.InGradAIdeal.nD Cert.InGradAIdeal.τ).loc Cert.InGradAIdeal.main_arg1))
      ∧ θ_run (Cert.InGradARefIdeal.defs (F := Ideal)) (onTc (τ := Cert.InGradARefIdeal.τ) (Cert.InGradARefIdeal.main (F := Ideal))) ⟨m', fun _ => 0, g'⟩ (fun r => ∀ c : Dev Cert.InGradARefIdeal.nD,
          r.2.mem ((c.tc : Thread Cert.InGradARefIdeal.nD Cert.InGradARefIdeal.τ).loc Cert.InGradARefIdeal.main_v6) = v0 c
          ∧ r.2.mem ((c.tc : Thread Cert.InGradARefIdeal.nD Cert.InGradARefIdeal.τ).loc Cert.InGradARefIdeal.main_arg0) = m' ((c.tc : Thread Cert.InGradARefIdeal.nD Cert.InGradARefIdeal.τ).loc Cert.InGradARefIdeal.main_arg0)
          ∧ r.2.mem ((c.tc : Thread Cert.InGradARefIdeal.nD Cert.InGradARefIdeal.τ).loc Cert.InGradARefIdeal.main_arg1) = m' ((c.tc : Thread Cert.InGradARefIdeal.nD Cert.InGradARefIdeal.τ).loc Cert.InGradARefIdeal.main_arg1))

def preserves_InGradW_InGradWIdeal : Prop :=
  True

def algebraic_InGradWIdeal_InGradWRefIdeal [hInGradWIdeal : Cert.InGradWIdeal.Facts] [hInGradWRefIdeal : Cert.InGradWRefIdeal.Facts] : Prop :=
  ∀ (m : (ℓ : Loc Cert.InGradWIdeal.nD Cert.InGradWIdeal.τ Cert.InGradWIdeal.sig) → Buf (Elt Ideal) ℓ) (g : Dev Cert.InGradWIdeal.nD → PrngReg)
    (m' : (ℓ : Loc Cert.InGradWRefIdeal.nD Cert.InGradWRefIdeal.τ Cert.InGradWRefIdeal.sig) → Buf (Elt Ideal) ℓ) (g' : Dev Cert.InGradWRefIdeal.nD → PrngReg), Pre_InGradWIdeal m →
    (∀ c : Dev Cert.InGradWIdeal.nD,
      m' ((c.tc : Thread Cert.InGradWRefIdeal.nD Cert.InGradWRefIdeal.τ).loc Cert.InGradWRefIdeal.main_arg0) = m ((c.tc : Thread Cert.InGradWIdeal.nD Cert.InGradWIdeal.τ).loc Cert.InGradWIdeal.main_arg0)
      ∧ m' ((c.tc : Thread Cert.InGradWRefIdeal.nD Cert.InGradWRefIdeal.τ).loc Cert.InGradWRefIdeal.main_arg1) = m ((c.tc : Thread Cert.InGradWIdeal.nD Cert.InGradWIdeal.τ).loc Cert.InGradWIdeal.main_arg1)) →
    ∃ (v0 : (c : Dev Cert.InGradWIdeal.nD) → Buf (Elt Ideal) ((c.tc : Thread Cert.InGradWIdeal.nD Cert.InGradWIdeal.τ).loc Cert.InGradWIdeal.main_v0)),
      θ_run (Cert.InGradWIdeal.defs (F := Ideal)) (onTc (τ := Cert.InGradWIdeal.τ) (Cert.InGradWIdeal.main (F := Ideal))) ⟨m, fun _ => 0, g⟩ (fun r => ∀ c : Dev Cert.InGradWIdeal.nD,
          r.2.mem ((c.tc : Thread Cert.InGradWIdeal.nD Cert.InGradWIdeal.τ).loc Cert.InGradWIdeal.main_v0) = v0 c
          ∧ r.2.mem ((c.tc : Thread Cert.InGradWIdeal.nD Cert.InGradWIdeal.τ).loc Cert.InGradWIdeal.main_arg0) = m ((c.tc : Thread Cert.InGradWIdeal.nD Cert.InGradWIdeal.τ).loc Cert.InGradWIdeal.main_arg0)
          ∧ r.2.mem ((c.tc : Thread Cert.InGradWIdeal.nD Cert.InGradWIdeal.τ).loc Cert.InGradWIdeal.main_arg1) = m ((c.tc : Thread Cert.InGradWIdeal.nD Cert.InGradWIdeal.τ).loc Cert.InGradWIdeal.main_arg1))
      ∧ θ_run (Cert.InGradWRefIdeal.defs (F := Ideal)) (onTc (τ := Cert.InGradWRefIdeal.τ) (Cert.InGradWRefIdeal.main (F := Ideal))) ⟨m', fun _ => 0, g'⟩ (fun r => ∀ c : Dev Cert.InGradWRefIdeal.nD,
          r.2.mem ((c.tc : Thread Cert.InGradWRefIdeal.nD Cert.InGradWRefIdeal.τ).loc Cert.InGradWRefIdeal.main_v7) = v0 c
          ∧ r.2.mem ((c.tc : Thread Cert.InGradWRefIdeal.nD Cert.InGradWRefIdeal.τ).loc Cert.InGradWRefIdeal.main_arg0) = m' ((c.tc : Thread Cert.InGradWRefIdeal.nD Cert.InGradWRefIdeal.τ).loc Cert.InGradWRefIdeal.main_arg0)
          ∧ r.2.mem ((c.tc : Thread Cert.InGradWRefIdeal.nD Cert.InGradWRefIdeal.τ).loc Cert.InGradWRefIdeal.main_arg1) = m' ((c.tc : Thread Cert.InGradWRefIdeal.nD Cert.InGradWRefIdeal.τ).loc Cert.InGradWRefIdeal.main_arg1))

def preserves_OutGradA_OutGradAIdeal : Prop :=
  True

def algebraic_OutGradAIdeal_OutGradARefIdeal [hOutGradAIdeal : Cert.OutGradAIdeal.Facts] [hOutGradARefIdeal : Cert.OutGradARefIdeal.Facts] : Prop :=
  ∀ (m : (ℓ : Loc Cert.OutGradAIdeal.nD Cert.OutGradAIdeal.τ Cert.OutGradAIdeal.sig) → Buf (Elt Ideal) ℓ) (g : Dev Cert.OutGradAIdeal.nD → PrngReg)
    (m' : (ℓ : Loc Cert.OutGradARefIdeal.nD Cert.OutGradARefIdeal.τ Cert.OutGradARefIdeal.sig) → Buf (Elt Ideal) ℓ) (g' : Dev Cert.OutGradARefIdeal.nD → PrngReg), Pre_OutGradAIdeal m →
    (∀ c : Dev Cert.OutGradAIdeal.nD,
      m' ((c.tc : Thread Cert.OutGradARefIdeal.nD Cert.OutGradARefIdeal.τ).loc Cert.OutGradARefIdeal.main_arg0) = m ((c.tc : Thread Cert.OutGradAIdeal.nD Cert.OutGradAIdeal.τ).loc Cert.OutGradAIdeal.main_arg0)
      ∧ m' ((c.tc : Thread Cert.OutGradARefIdeal.nD Cert.OutGradARefIdeal.τ).loc Cert.OutGradARefIdeal.main_arg1) = m ((c.tc : Thread Cert.OutGradAIdeal.nD Cert.OutGradAIdeal.τ).loc Cert.OutGradAIdeal.main_arg1)) →
    ∃ (v0 : (c : Dev Cert.OutGradAIdeal.nD) → Buf (Elt Ideal) ((c.tc : Thread Cert.OutGradAIdeal.nD Cert.OutGradAIdeal.τ).loc Cert.OutGradAIdeal.main_v0)),
      θ_run (Cert.OutGradAIdeal.defs (F := Ideal)) (onTc (τ := Cert.OutGradAIdeal.τ) (Cert.OutGradAIdeal.main (F := Ideal))) ⟨m, fun _ => 0, g⟩ (fun r => ∀ c : Dev Cert.OutGradAIdeal.nD,
          r.2.mem ((c.tc : Thread Cert.OutGradAIdeal.nD Cert.OutGradAIdeal.τ).loc Cert.OutGradAIdeal.main_v0) = v0 c
          ∧ r.2.mem ((c.tc : Thread Cert.OutGradAIdeal.nD Cert.OutGradAIdeal.τ).loc Cert.OutGradAIdeal.main_arg0) = m ((c.tc : Thread Cert.OutGradAIdeal.nD Cert.OutGradAIdeal.τ).loc Cert.OutGradAIdeal.main_arg0)
          ∧ r.2.mem ((c.tc : Thread Cert.OutGradAIdeal.nD Cert.OutGradAIdeal.τ).loc Cert.OutGradAIdeal.main_arg1) = m ((c.tc : Thread Cert.OutGradAIdeal.nD Cert.OutGradAIdeal.τ).loc Cert.OutGradAIdeal.main_arg1))
      ∧ θ_run (Cert.OutGradARefIdeal.defs (F := Ideal)) (onTc (τ := Cert.OutGradARefIdeal.τ) (Cert.OutGradARefIdeal.main (F := Ideal))) ⟨m', fun _ => 0, g'⟩ (fun r => ∀ c : Dev Cert.OutGradARefIdeal.nD,
          r.2.mem ((c.tc : Thread Cert.OutGradARefIdeal.nD Cert.OutGradARefIdeal.τ).loc Cert.OutGradARefIdeal.main_v6) = v0 c
          ∧ r.2.mem ((c.tc : Thread Cert.OutGradARefIdeal.nD Cert.OutGradARefIdeal.τ).loc Cert.OutGradARefIdeal.main_arg0) = m' ((c.tc : Thread Cert.OutGradARefIdeal.nD Cert.OutGradARefIdeal.τ).loc Cert.OutGradARefIdeal.main_arg0)
          ∧ r.2.mem ((c.tc : Thread Cert.OutGradARefIdeal.nD Cert.OutGradARefIdeal.τ).loc Cert.OutGradARefIdeal.main_arg1) = m' ((c.tc : Thread Cert.OutGradARefIdeal.nD Cert.OutGradARefIdeal.τ).loc Cert.OutGradARefIdeal.main_arg1))

def preserves_OutGradW_OutGradWIdeal : Prop :=
  True

def algebraic_OutGradWIdeal_OutGradWRefIdeal [hOutGradWIdeal : Cert.OutGradWIdeal.Facts] [hOutGradWRefIdeal : Cert.OutGradWRefIdeal.Facts] : Prop :=
  ∀ (m : (ℓ : Loc Cert.OutGradWIdeal.nD Cert.OutGradWIdeal.τ Cert.OutGradWIdeal.sig) → Buf (Elt Ideal) ℓ) (g : Dev Cert.OutGradWIdeal.nD → PrngReg)
    (m' : (ℓ : Loc Cert.OutGradWRefIdeal.nD Cert.OutGradWRefIdeal.τ Cert.OutGradWRefIdeal.sig) → Buf (Elt Ideal) ℓ) (g' : Dev Cert.OutGradWRefIdeal.nD → PrngReg), Pre_OutGradWIdeal m →
    (∀ c : Dev Cert.OutGradWIdeal.nD,
      m' ((c.tc : Thread Cert.OutGradWRefIdeal.nD Cert.OutGradWRefIdeal.τ).loc Cert.OutGradWRefIdeal.main_arg0) = m ((c.tc : Thread Cert.OutGradWIdeal.nD Cert.OutGradWIdeal.τ).loc Cert.OutGradWIdeal.main_arg0)
      ∧ m' ((c.tc : Thread Cert.OutGradWRefIdeal.nD Cert.OutGradWRefIdeal.τ).loc Cert.OutGradWRefIdeal.main_arg1) = m ((c.tc : Thread Cert.OutGradWIdeal.nD Cert.OutGradWIdeal.τ).loc Cert.OutGradWIdeal.main_arg1)) →
    ∃ (v0 : (c : Dev Cert.OutGradWIdeal.nD) → Buf (Elt Ideal) ((c.tc : Thread Cert.OutGradWIdeal.nD Cert.OutGradWIdeal.τ).loc Cert.OutGradWIdeal.main_v0)),
      θ_run (Cert.OutGradWIdeal.defs (F := Ideal)) (onTc (τ := Cert.OutGradWIdeal.τ) (Cert.OutGradWIdeal.main (F := Ideal))) ⟨m, fun _ => 0, g⟩ (fun r => ∀ c : Dev Cert.OutGradWIdeal.nD,
          r.2.mem ((c.tc : Thread Cert.OutGradWIdeal.nD Cert.OutGradWIdeal.τ).loc Cert.OutGradWIdeal.main_v0) = v0 c
          ∧ r.2.mem ((c.tc : Thread Cert.OutGradWIdeal.nD Cert.OutGradWIdeal.τ).loc Cert.OutGradWIdeal.main_arg0) = m ((c.tc : Thread Cert.OutGradWIdeal.nD Cert.OutGradWIdeal.τ).loc Cert.OutGradWIdeal.main_arg0)
          ∧ r.2.mem ((c.tc : Thread Cert.OutGradWIdeal.nD Cert.OutGradWIdeal.τ).loc Cert.OutGradWIdeal.main_arg1) = m ((c.tc : Thread Cert.OutGradWIdeal.nD Cert.OutGradWIdeal.τ).loc Cert.OutGradWIdeal.main_arg1))
      ∧ θ_run (Cert.OutGradWRefIdeal.defs (F := Ideal)) (onTc (τ := Cert.OutGradWRefIdeal.τ) (Cert.OutGradWRefIdeal.main (F := Ideal))) ⟨m', fun _ => 0, g'⟩ (fun r => ∀ c : Dev Cert.OutGradWRefIdeal.nD,
          r.2.mem ((c.tc : Thread Cert.OutGradWRefIdeal.nD Cert.OutGradWRefIdeal.τ).loc Cert.OutGradWRefIdeal.main_v7) = v0 c
          ∧ r.2.mem ((c.tc : Thread Cert.OutGradWRefIdeal.nD Cert.OutGradWRefIdeal.τ).loc Cert.OutGradWRefIdeal.main_arg0) = m' ((c.tc : Thread Cert.OutGradWRefIdeal.nD Cert.OutGradWRefIdeal.τ).loc Cert.OutGradWRefIdeal.main_arg0)
          ∧ r.2.mem ((c.tc : Thread Cert.OutGradWRefIdeal.nD Cert.OutGradWRefIdeal.τ).loc Cert.OutGradWRefIdeal.main_arg1) = m' ((c.tc : Thread Cert.OutGradWRefIdeal.nD Cert.OutGradWRefIdeal.τ).loc Cert.OutGradWRefIdeal.main_arg1))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v0)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0) = v0 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v3) = v0 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v2) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v2) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v2) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1))

def preserves_AttnFwd_AttnFwdIdeal : Prop :=
  True

def algebraic_AttnFwdIdeal_AttnFwdRefIdeal_pre_finite_qkv [hAttnFwdIdeal : Cert.AttnFwdIdeal.Facts] [hAttnFwdRefIdeal : Cert.AttnFwdRefIdeal.Facts] [hPre_finite_qkv : Cert.Pre_finite_qkv.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_qkv m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v0_0)) (v1 : (c : Dev Cert.AttnFwdIdeal.nD) → Buf (Elt Ideal) ((c.tc : Thread Cert.AttnFwdIdeal.nD Cert.AttnFwdIdeal.τ).loc Cert.AttnFwdIdeal.main_v0_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0_0) = v0 c
          ∧ r.2.mem ((c.tc : Thread Cert.AttnFwdIdeal.nD Cert.AttnFwdIdeal.τ).loc Cert.AttnFwdIdeal.main_v0_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v47) = v0 c
          ∧ r.2.mem ((c.tc : Thread Cert.AttnFwdRefIdeal.nD Cert.AttnFwdRefIdeal.τ).loc Cert.AttnFwdRefIdeal.main_v80) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_ConvBwd_ConvBwdIdeal : Prop :=
  True

def algebraic_ConvBwdIdeal_ConvBwdRefIdeal_pre_finite_conv [hConvBwdIdeal : Cert.ConvBwdIdeal.Facts] [hConvBwdRefIdeal : Cert.ConvBwdRefIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal_finite_conv m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)) (v2 : (c : Dev Cert.ConvBwdIdeal.nD) → Buf (Elt Ideal) ((c.tc : Thread Cert.ConvBwdIdeal.nD Cert.ConvBwdIdeal.τ).loc Cert.ConvBwdIdeal.main_v0_2)) (v3 : (c : Dev Cert.ConvBwdIdeal.nD) → Buf (Elt Ideal) ((c.tc : Thread Cert.ConvBwdIdeal.nD Cert.ConvBwdIdeal.τ).loc Cert.ConvBwdIdeal.main_v0_3)) (v4 : (c : Dev Cert.ConvBwdIdeal.nD) → Buf (Elt Ideal) ((c.tc : Thread Cert.ConvBwdIdeal.nD Cert.ConvBwdIdeal.τ).loc Cert.ConvBwdIdeal.main_v0_4)) (v5 : (c : Dev Cert.ConvBwdIdeal.nD) → Buf (Elt Ideal) ((c.tc : Thread Cert.ConvBwdIdeal.nD Cert.ConvBwdIdeal.τ).loc Cert.ConvBwdIdeal.main_v0_5)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_v0_2) = v2 c
          ∧ r.2.mem ((c.tc : Thread Cert.ConvBwdIdeal.nD Cert.ConvBwdIdeal.τ).loc Cert.ConvBwdIdeal.main_v0_3) = v3 c
          ∧ r.2.mem ((c.tc : Thread Cert.ConvBwdIdeal.nD Cert.ConvBwdIdeal.τ).loc Cert.ConvBwdIdeal.main_v0_4) = v4 c
          ∧ r.2.mem ((c.tc : Thread Cert.ConvBwdIdeal.nD Cert.ConvBwdIdeal.τ).loc Cert.ConvBwdIdeal.main_v0_5) = v5 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v165) = v0 c
          ∧ r.2.mem ((c.tc : Thread Cert.ConvBwdRefIdeal.nD Cert.ConvBwdRefIdeal.τ).loc Cert.ConvBwdRefIdeal.main_v166) = v1 c
          ∧ r.2.mem ((c.tc : Thread Cert.ConvBwdRefIdeal.nD Cert.ConvBwdRefIdeal.τ).loc Cert.ConvBwdRefIdeal.main_v167) = v2 c
          ∧ r.2.mem ((c.tc : Thread Cert.ConvBwdRefIdeal.nD Cert.ConvBwdRefIdeal.τ).loc Cert.ConvBwdRefIdeal.main_v168) = v3 c
          ∧ r.2.mem ((c.tc : Thread Cert.ConvBwdRefIdeal.nD Cert.ConvBwdRefIdeal.τ).loc Cert.ConvBwdRefIdeal.main_v169) = v4 c
          ∧ r.2.mem ((c.tc : Thread Cert.ConvBwdRefIdeal.nD Cert.ConvBwdRefIdeal.τ).loc Cert.ConvBwdRefIdeal.main_v170) = v5 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v68) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_HgGateBwd_HgGateBwdIdeal : Prop :=
  True

def algebraic_HgGateBwdIdeal_HgGateBwdRefIdeal [hHgGateBwdIdeal : Cert.HgGateBwdIdeal.Facts] [hHgGateBwdRefIdeal : Cert.HgGateBwdRefIdeal.Facts] : Prop :=
  ∀ (m : (ℓ : Loc Cert.HgGateBwdIdeal.nD Cert.HgGateBwdIdeal.τ Cert.HgGateBwdIdeal.sig) → Buf (Elt Ideal) ℓ) (g : Dev Cert.HgGateBwdIdeal.nD → PrngReg)
    (m' : (ℓ : Loc Cert.HgGateBwdRefIdeal.nD Cert.HgGateBwdRefIdeal.τ Cert.HgGateBwdRefIdeal.sig) → Buf (Elt Ideal) ℓ) (g' : Dev Cert.HgGateBwdRefIdeal.nD → PrngReg), Pre_HgGateBwdIdeal m →
    (∀ c : Dev Cert.HgGateBwdIdeal.nD,
      m' ((c.tc : Thread Cert.HgGateBwdRefIdeal.nD Cert.HgGateBwdRefIdeal.τ).loc Cert.HgGateBwdRefIdeal.main_arg0) = m ((c.tc : Thread Cert.HgGateBwdIdeal.nD Cert.HgGateBwdIdeal.τ).loc Cert.HgGateBwdIdeal.main_arg0)
      ∧ m' ((c.tc : Thread Cert.HgGateBwdRefIdeal.nD Cert.HgGateBwdRefIdeal.τ).loc Cert.HgGateBwdRefIdeal.main_arg1) = m ((c.tc : Thread Cert.HgGateBwdIdeal.nD Cert.HgGateBwdIdeal.τ).loc Cert.HgGateBwdIdeal.main_arg1)
      ∧ m' ((c.tc : Thread Cert.HgGateBwdRefIdeal.nD Cert.HgGateBwdRefIdeal.τ).loc Cert.HgGateBwdRefIdeal.main_arg2) = m ((c.tc : Thread Cert.HgGateBwdIdeal.nD Cert.HgGateBwdIdeal.τ).loc Cert.HgGateBwdIdeal.main_arg2)
      ∧ m' ((c.tc : Thread Cert.HgGateBwdRefIdeal.nD Cert.HgGateBwdRefIdeal.τ).loc Cert.HgGateBwdRefIdeal.main_arg3) = m ((c.tc : Thread Cert.HgGateBwdIdeal.nD Cert.HgGateBwdIdeal.τ).loc Cert.HgGateBwdIdeal.main_arg3)
      ∧ m' ((c.tc : Thread Cert.HgGateBwdRefIdeal.nD Cert.HgGateBwdRefIdeal.τ).loc Cert.HgGateBwdRefIdeal.main_arg4) = m ((c.tc : Thread Cert.HgGateBwdIdeal.nD Cert.HgGateBwdIdeal.τ).loc Cert.HgGateBwdIdeal.main_arg4)) →
    ∃ (v0 : (c : Dev Cert.HgGateBwdIdeal.nD) → Buf (Elt Ideal) ((c.tc : Thread Cert.HgGateBwdIdeal.nD Cert.HgGateBwdIdeal.τ).loc Cert.HgGateBwdIdeal.main_v0_0)) (v1 : (c : Dev Cert.HgGateBwdIdeal.nD) → Buf (Elt Ideal) ((c.tc : Thread Cert.HgGateBwdIdeal.nD Cert.HgGateBwdIdeal.τ).loc Cert.HgGateBwdIdeal.main_v0_1)) (v2 : (c : Dev Cert.HgGateBwdIdeal.nD) → Buf (Elt Ideal) ((c.tc : Thread Cert.HgGateBwdIdeal.nD Cert.HgGateBwdIdeal.τ).loc Cert.HgGateBwdIdeal.main_v0_2)) (v3 : (c : Dev Cert.HgGateBwdIdeal.nD) → Buf (Elt Ideal) ((c.tc : Thread Cert.HgGateBwdIdeal.nD Cert.HgGateBwdIdeal.τ).loc Cert.HgGateBwdIdeal.main_v0_3)),
      θ_run (Cert.HgGateBwdIdeal.defs (F := Ideal)) (onTc (τ := Cert.HgGateBwdIdeal.τ) (Cert.HgGateBwdIdeal.main (F := Ideal))) ⟨m, fun _ => 0, g⟩ (fun r => ∀ c : Dev Cert.HgGateBwdIdeal.nD,
          r.2.mem ((c.tc : Thread Cert.HgGateBwdIdeal.nD Cert.HgGateBwdIdeal.τ).loc Cert.HgGateBwdIdeal.main_v0_0) = v0 c
          ∧ r.2.mem ((c.tc : Thread Cert.HgGateBwdIdeal.nD Cert.HgGateBwdIdeal.τ).loc Cert.HgGateBwdIdeal.main_v0_1) = v1 c
          ∧ r.2.mem ((c.tc : Thread Cert.HgGateBwdIdeal.nD Cert.HgGateBwdIdeal.τ).loc Cert.HgGateBwdIdeal.main_v0_2) = v2 c
          ∧ r.2.mem ((c.tc : Thread Cert.HgGateBwdIdeal.nD Cert.HgGateBwdIdeal.τ).loc Cert.HgGateBwdIdeal.main_v0_3) = v3 c
          ∧ r.2.mem ((c.tc : Thread Cert.HgGateBwdIdeal.nD Cert.HgGateBwdIdeal.τ).loc Cert.HgGateBwdIdeal.main_arg0) = m ((c.tc : Thread Cert.HgGateBwdIdeal.nD Cert.HgGateBwdIdeal.τ).loc Cert.HgGateBwdIdeal.main_arg0)
          ∧ r.2.mem ((c.tc : Thread Cert.HgGateBwdIdeal.nD Cert.HgGateBwdIdeal.τ).loc Cert.HgGateBwdIdeal.main_arg1) = m ((c.tc : Thread Cert.HgGateBwdIdeal.nD Cert.HgGateBwdIdeal.τ).loc Cert.HgGateBwdIdeal.main_arg1)
          ∧ r.2.mem ((c.tc : Thread Cert.HgGateBwdIdeal.nD Cert.HgGateBwdIdeal.τ).loc Cert.HgGateBwdIdeal.main_arg2) = m ((c.tc : Thread Cert.HgGateBwdIdeal.nD Cert.HgGateBwdIdeal.τ).loc Cert.HgGateBwdIdeal.main_arg2)
          ∧ r.2.mem ((c.tc : Thread Cert.HgGateBwdIdeal.nD Cert.HgGateBwdIdeal.τ).loc Cert.HgGateBwdIdeal.main_arg3) = m ((c.tc : Thread Cert.HgGateBwdIdeal.nD Cert.HgGateBwdIdeal.τ).loc Cert.HgGateBwdIdeal.main_arg3)
          ∧ r.2.mem ((c.tc : Thread Cert.HgGateBwdIdeal.nD Cert.HgGateBwdIdeal.τ).loc Cert.HgGateBwdIdeal.main_arg4) = m ((c.tc : Thread Cert.HgGateBwdIdeal.nD Cert.HgGateBwdIdeal.τ).loc Cert.HgGateBwdIdeal.main_arg4))
      ∧ θ_run (Cert.HgGateBwdRefIdeal.defs (F := Ideal)) (onTc (τ := Cert.HgGateBwdRefIdeal.τ) (Cert.HgGateBwdRefIdeal.main (F := Ideal))) ⟨m', fun _ => 0, g'⟩ (fun r => ∀ c : Dev Cert.HgGateBwdRefIdeal.nD,
          r.2.mem ((c.tc : Thread Cert.HgGateBwdRefIdeal.nD Cert.HgGateBwdRefIdeal.τ).loc Cert.HgGateBwdRefIdeal.main_v49) = v0 c
          ∧ r.2.mem ((c.tc : Thread Cert.HgGateBwdRefIdeal.nD Cert.HgGateBwdRefIdeal.τ).loc Cert.HgGateBwdRefIdeal.main_v49) = v1 c
          ∧ r.2.mem ((c.tc : Thread Cert.HgGateBwdRefIdeal.nD Cert.HgGateBwdRefIdeal.τ).loc Cert.HgGateBwdRefIdeal.main_v26) = v2 c
          ∧ r.2.mem ((c.tc : Thread Cert.HgGateBwdRefIdeal.nD Cert.HgGateBwdRefIdeal.τ).loc Cert.HgGateBwdRefIdeal.main_v48) = v3 c
          ∧ r.2.mem ((c.tc : Thread Cert.HgGateBwdRefIdeal.nD Cert.HgGateBwdRefIdeal.τ).loc Cert.HgGateBwdRefIdeal.main_arg0) = m' ((c.tc : Thread Cert.HgGateBwdRefIdeal.nD Cert.HgGateBwdRefIdeal.τ).loc Cert.HgGateBwdRefIdeal.main_arg0)
          ∧ r.2.mem ((c.tc : Thread Cert.HgGateBwdRefIdeal.nD Cert.HgGateBwdRefIdeal.τ).loc Cert.HgGateBwdRefIdeal.main_arg1) = m' ((c.tc : Thread Cert.HgGateBwdRefIdeal.nD Cert.HgGateBwdRefIdeal.τ).loc Cert.HgGateBwdRefIdeal.main_arg1)
          ∧ r.2.mem ((c.tc : Thread Cert.HgGateBwdRefIdeal.nD Cert.HgGateBwdRefIdeal.τ).loc Cert.HgGateBwdRefIdeal.main_arg2) = m' ((c.tc : Thread Cert.HgGateBwdRefIdeal.nD Cert.HgGateBwdRefIdeal.τ).loc Cert.HgGateBwdRefIdeal.main_arg2)
          ∧ r.2.mem ((c.tc : Thread Cert.HgGateBwdRefIdeal.nD Cert.HgGateBwdRefIdeal.τ).loc Cert.HgGateBwdRefIdeal.main_arg3) = m' ((c.tc : Thread Cert.HgGateBwdRefIdeal.nD Cert.HgGateBwdRefIdeal.τ).loc Cert.HgGateBwdRefIdeal.main_arg3)
          ∧ r.2.mem ((c.tc : Thread Cert.HgGateBwdRefIdeal.nD Cert.HgGateBwdRefIdeal.τ).loc Cert.HgGateBwdRefIdeal.main_arg4) = m' ((c.tc : Thread Cert.HgGateBwdRefIdeal.nD Cert.HgGateBwdRefIdeal.τ).loc Cert.HgGateBwdRefIdeal.main_arg4))

def preserves_FinalBwd_FinalBwdIdeal : Prop :=
  True

def algebraic_FinalBwdIdeal_FinalBwdRefIdeal [hFinalBwdIdeal : Cert.FinalBwdIdeal.Facts] [hFinalBwdRefIdeal : Cert.FinalBwdRefIdeal.Facts] : Prop :=
  ∀ (m : (ℓ : Loc Cert.FinalBwdIdeal.nD Cert.FinalBwdIdeal.τ Cert.FinalBwdIdeal.sig) → Buf (Elt Ideal) ℓ) (g : Dev Cert.FinalBwdIdeal.nD → PrngReg)
    (m' : (ℓ : Loc Cert.FinalBwdRefIdeal.nD Cert.FinalBwdRefIdeal.τ Cert.FinalBwdRefIdeal.sig) → Buf (Elt Ideal) ℓ) (g' : Dev Cert.FinalBwdRefIdeal.nD → PrngReg), Pre_FinalBwdIdeal m →
    (∀ c : Dev Cert.FinalBwdIdeal.nD,
      m' ((c.tc : Thread Cert.FinalBwdRefIdeal.nD Cert.FinalBwdRefIdeal.τ).loc Cert.FinalBwdRefIdeal.main_arg0) = m ((c.tc : Thread Cert.FinalBwdIdeal.nD Cert.FinalBwdIdeal.τ).loc Cert.FinalBwdIdeal.main_arg0)
      ∧ m' ((c.tc : Thread Cert.FinalBwdRefIdeal.nD Cert.FinalBwdRefIdeal.τ).loc Cert.FinalBwdRefIdeal.main_arg1) = m ((c.tc : Thread Cert.FinalBwdIdeal.nD Cert.FinalBwdIdeal.τ).loc Cert.FinalBwdIdeal.main_arg1)
      ∧ m' ((c.tc : Thread Cert.FinalBwdRefIdeal.nD Cert.FinalBwdRefIdeal.τ).loc Cert.FinalBwdRefIdeal.main_arg2) = m ((c.tc : Thread Cert.FinalBwdIdeal.nD Cert.FinalBwdIdeal.τ).loc Cert.FinalBwdIdeal.main_arg2)
      ∧ m' ((c.tc : Thread Cert.FinalBwdRefIdeal.nD Cert.FinalBwdRefIdeal.τ).loc Cert.FinalBwdRefIdeal.main_arg3) = m ((c.tc : Thread Cert.FinalBwdIdeal.nD Cert.FinalBwdIdeal.τ).loc Cert.FinalBwdIdeal.main_arg3)
      ∧ m' ((c.tc : Thread Cert.FinalBwdRefIdeal.nD Cert.FinalBwdRefIdeal.τ).loc Cert.FinalBwdRefIdeal.main_arg4) = m ((c.tc : Thread Cert.FinalBwdIdeal.nD Cert.FinalBwdIdeal.τ).loc Cert.FinalBwdIdeal.main_arg4)
      ∧ m' ((c.tc : Thread Cert.FinalBwdRefIdeal.nD Cert.FinalBwdRefIdeal.τ).loc Cert.FinalBwdRefIdeal.main_arg5) = m ((c.tc : Thread Cert.FinalBwdIdeal.nD Cert.FinalBwdIdeal.τ).loc Cert.FinalBwdIdeal.main_arg5)) →
    ∃ (v0 : (c : Dev Cert.FinalBwdIdeal.nD) → Buf (Elt Ideal) ((c.tc : Thread Cert.FinalBwdIdeal.nD Cert.FinalBwdIdeal.τ).loc Cert.FinalBwdIdeal.main_v0_0)) (v1 : (c : Dev Cert.FinalBwdIdeal.nD) → Buf (Elt Ideal) ((c.tc : Thread Cert.FinalBwdIdeal.nD Cert.FinalBwdIdeal.τ).loc Cert.FinalBwdIdeal.main_v0_1)) (v2 : (c : Dev Cert.FinalBwdIdeal.nD) → Buf (Elt Ideal) ((c.tc : Thread Cert.FinalBwdIdeal.nD Cert.FinalBwdIdeal.τ).loc Cert.FinalBwdIdeal.main_v0_2)) (v3 : (c : Dev Cert.FinalBwdIdeal.nD) → Buf (Elt Ideal) ((c.tc : Thread Cert.FinalBwdIdeal.nD Cert.FinalBwdIdeal.τ).loc Cert.FinalBwdIdeal.main_v0_3)),
      θ_run (Cert.FinalBwdIdeal.defs (F := Ideal)) (onTc (τ := Cert.FinalBwdIdeal.τ) (Cert.FinalBwdIdeal.main (F := Ideal))) ⟨m, fun _ => 0, g⟩ (fun r => ∀ c : Dev Cert.FinalBwdIdeal.nD,
          r.2.mem ((c.tc : Thread Cert.FinalBwdIdeal.nD Cert.FinalBwdIdeal.τ).loc Cert.FinalBwdIdeal.main_v0_0) = v0 c
          ∧ r.2.mem ((c.tc : Thread Cert.FinalBwdIdeal.nD Cert.FinalBwdIdeal.τ).loc Cert.FinalBwdIdeal.main_v0_1) = v1 c
          ∧ r.2.mem ((c.tc : Thread Cert.FinalBwdIdeal.nD Cert.FinalBwdIdeal.τ).loc Cert.FinalBwdIdeal.main_v0_2) = v2 c
          ∧ r.2.mem ((c.tc : Thread Cert.FinalBwdIdeal.nD Cert.FinalBwdIdeal.τ).loc Cert.FinalBwdIdeal.main_v0_3) = v3 c
          ∧ r.2.mem ((c.tc : Thread Cert.FinalBwdIdeal.nD Cert.FinalBwdIdeal.τ).loc Cert.FinalBwdIdeal.main_arg0) = m ((c.tc : Thread Cert.FinalBwdIdeal.nD Cert.FinalBwdIdeal.τ).loc Cert.FinalBwdIdeal.main_arg0)
          ∧ r.2.mem ((c.tc : Thread Cert.FinalBwdIdeal.nD Cert.FinalBwdIdeal.τ).loc Cert.FinalBwdIdeal.main_arg1) = m ((c.tc : Thread Cert.FinalBwdIdeal.nD Cert.FinalBwdIdeal.τ).loc Cert.FinalBwdIdeal.main_arg1)
          ∧ r.2.mem ((c.tc : Thread Cert.FinalBwdIdeal.nD Cert.FinalBwdIdeal.τ).loc Cert.FinalBwdIdeal.main_arg2) = m ((c.tc : Thread Cert.FinalBwdIdeal.nD Cert.FinalBwdIdeal.τ).loc Cert.FinalBwdIdeal.main_arg2)
          ∧ r.2.mem ((c.tc : Thread Cert.FinalBwdIdeal.nD Cert.FinalBwdIdeal.τ).loc Cert.FinalBwdIdeal.main_arg3) = m ((c.tc : Thread Cert.FinalBwdIdeal.nD Cert.FinalBwdIdeal.τ).loc Cert.FinalBwdIdeal.main_arg3)
          ∧ r.2.mem ((c.tc : Thread Cert.FinalBwdIdeal.nD Cert.FinalBwdIdeal.τ).loc Cert.FinalBwdIdeal.main_arg4) = m ((c.tc : Thread Cert.FinalBwdIdeal.nD Cert.FinalBwdIdeal.τ).loc Cert.FinalBwdIdeal.main_arg4)
          ∧ r.2.mem ((c.tc : Thread Cert.FinalBwdIdeal.nD Cert.FinalBwdIdeal.τ).loc Cert.FinalBwdIdeal.main_arg5) = m ((c.tc : Thread Cert.FinalBwdIdeal.nD Cert.FinalBwdIdeal.τ).loc Cert.FinalBwdIdeal.main_arg5))
      ∧ θ_run (Cert.FinalBwdRefIdeal.defs (F := Ideal)) (onTc (τ := Cert.FinalBwdRefIdeal.τ) (Cert.FinalBwdRefIdeal.main (F := Ideal))) ⟨m', fun _ => 0, g'⟩ (fun r => ∀ c : Dev Cert.FinalBwdRefIdeal.nD,
          r.2.mem ((c.tc : Thread Cert.FinalBwdRefIdeal.nD Cert.FinalBwdRefIdeal.τ).loc Cert.FinalBwdRefIdeal.main_v54) = v0 c
          ∧ r.2.mem ((c.tc : Thread Cert.FinalBwdRefIdeal.nD Cert.FinalBwdRefIdeal.τ).loc Cert.FinalBwdRefIdeal.main_v57) = v1 c
          ∧ r.2.mem ((c.tc : Thread Cert.FinalBwdRefIdeal.nD Cert.FinalBwdRefIdeal.τ).loc Cert.FinalBwdRefIdeal.main_v62) = v2 c
          ∧ r.2.mem ((c.tc : Thread Cert.FinalBwdRefIdeal.nD Cert.FinalBwdRefIdeal.τ).loc Cert.FinalBwdRefIdeal.main_v55) = v3 c
          ∧ r.2.mem ((c.tc : Thread Cert.FinalBwdRefIdeal.nD Cert.FinalBwdRefIdeal.τ).loc Cert.FinalBwdRefIdeal.main_arg0) = m' ((c.tc : Thread Cert.FinalBwdRefIdeal.nD Cert.FinalBwdRefIdeal.τ).loc Cert.FinalBwdRefIdeal.main_arg0)
          ∧ r.2.mem ((c.tc : Thread Cert.FinalBwdRefIdeal.nD Cert.FinalBwdRefIdeal.τ).loc Cert.FinalBwdRefIdeal.main_arg1) = m' ((c.tc : Thread Cert.FinalBwdRefIdeal.nD Cert.FinalBwdRefIdeal.τ).loc Cert.FinalBwdRefIdeal.main_arg1)
          ∧ r.2.mem ((c.tc : Thread Cert.FinalBwdRefIdeal.nD Cert.FinalBwdRefIdeal.τ).loc Cert.FinalBwdRefIdeal.main_arg2) = m' ((c.tc : Thread Cert.FinalBwdRefIdeal.nD Cert.FinalBwdRefIdeal.τ).loc Cert.FinalBwdRefIdeal.main_arg2)
          ∧ r.2.mem ((c.tc : Thread Cert.FinalBwdRefIdeal.nD Cert.FinalBwdRefIdeal.τ).loc Cert.FinalBwdRefIdeal.main_arg3) = m' ((c.tc : Thread Cert.FinalBwdRefIdeal.nD Cert.FinalBwdRefIdeal.τ).loc Cert.FinalBwdRefIdeal.main_arg3)
          ∧ r.2.mem ((c.tc : Thread Cert.FinalBwdRefIdeal.nD Cert.FinalBwdRefIdeal.τ).loc Cert.FinalBwdRefIdeal.main_arg4) = m' ((c.tc : Thread Cert.FinalBwdRefIdeal.nD Cert.FinalBwdRefIdeal.τ).loc Cert.FinalBwdRefIdeal.main_arg4)
          ∧ r.2.mem ((c.tc : Thread Cert.FinalBwdRefIdeal.nD Cert.FinalBwdRefIdeal.τ).loc Cert.FinalBwdRefIdeal.main_arg5) = m' ((c.tc : Thread Cert.FinalBwdRefIdeal.nD Cert.FinalBwdRefIdeal.τ).loc Cert.FinalBwdRefIdeal.main_arg5))

def preserves_HgGateFwd_HgGateFwdIdeal : Prop :=
  True

def algebraic_HgGateFwdIdeal_HgGateFwdRefIdeal [hHgGateFwdIdeal : Cert.HgGateFwdIdeal.Facts] [hHgGateFwdRefIdeal : Cert.HgGateFwdRefIdeal.Facts] : Prop :=
  ∀ (m : (ℓ : Loc Cert.HgGateFwdIdeal.nD Cert.HgGateFwdIdeal.τ Cert.HgGateFwdIdeal.sig) → Buf (Elt Ideal) ℓ) (g : Dev Cert.HgGateFwdIdeal.nD → PrngReg)
    (m' : (ℓ : Loc Cert.HgGateFwdRefIdeal.nD Cert.HgGateFwdRefIdeal.τ Cert.HgGateFwdRefIdeal.sig) → Buf (Elt Ideal) ℓ) (g' : Dev Cert.HgGateFwdRefIdeal.nD → PrngReg), Pre_HgGateFwdIdeal m →
    (∀ c : Dev Cert.HgGateFwdIdeal.nD,
      m' ((c.tc : Thread Cert.HgGateFwdRefIdeal.nD Cert.HgGateFwdRefIdeal.τ).loc Cert.HgGateFwdRefIdeal.main_arg0) = m ((c.tc : Thread Cert.HgGateFwdIdeal.nD Cert.HgGateFwdIdeal.τ).loc Cert.HgGateFwdIdeal.main_arg0)
      ∧ m' ((c.tc : Thread Cert.HgGateFwdRefIdeal.nD Cert.HgGateFwdRefIdeal.τ).loc Cert.HgGateFwdRefIdeal.main_arg1) = m ((c.tc : Thread Cert.HgGateFwdIdeal.nD Cert.HgGateFwdIdeal.τ).loc Cert.HgGateFwdIdeal.main_arg1)
      ∧ m' ((c.tc : Thread Cert.HgGateFwdRefIdeal.nD Cert.HgGateFwdRefIdeal.τ).loc Cert.HgGateFwdRefIdeal.main_arg2) = m ((c.tc : Thread Cert.HgGateFwdIdeal.nD Cert.HgGateFwdIdeal.τ).loc Cert.HgGateFwdIdeal.main_arg2)
      ∧ m' ((c.tc : Thread Cert.HgGateFwdRefIdeal.nD Cert.HgGateFwdRefIdeal.τ).loc Cert.HgGateFwdRefIdeal.main_arg3) = m ((c.tc : Thread Cert.HgGateFwdIdeal.nD Cert.HgGateFwdIdeal.τ).loc Cert.HgGateFwdIdeal.main_arg3)) →
    ∃ (v0 : (c : Dev Cert.HgGateFwdIdeal.nD) → Buf (Elt Ideal) ((c.tc : Thread Cert.HgGateFwdIdeal.nD Cert.HgGateFwdIdeal.τ).loc Cert.HgGateFwdIdeal.main_v0)),
      θ_run (Cert.HgGateFwdIdeal.defs (F := Ideal)) (onTc (τ := Cert.HgGateFwdIdeal.τ) (Cert.HgGateFwdIdeal.main (F := Ideal))) ⟨m, fun _ => 0, g⟩ (fun r => ∀ c : Dev Cert.HgGateFwdIdeal.nD,
          r.2.mem ((c.tc : Thread Cert.HgGateFwdIdeal.nD Cert.HgGateFwdIdeal.τ).loc Cert.HgGateFwdIdeal.main_v0) = v0 c
          ∧ r.2.mem ((c.tc : Thread Cert.HgGateFwdIdeal.nD Cert.HgGateFwdIdeal.τ).loc Cert.HgGateFwdIdeal.main_arg0) = m ((c.tc : Thread Cert.HgGateFwdIdeal.nD Cert.HgGateFwdIdeal.τ).loc Cert.HgGateFwdIdeal.main_arg0)
          ∧ r.2.mem ((c.tc : Thread Cert.HgGateFwdIdeal.nD Cert.HgGateFwdIdeal.τ).loc Cert.HgGateFwdIdeal.main_arg1) = m ((c.tc : Thread Cert.HgGateFwdIdeal.nD Cert.HgGateFwdIdeal.τ).loc Cert.HgGateFwdIdeal.main_arg1)
          ∧ r.2.mem ((c.tc : Thread Cert.HgGateFwdIdeal.nD Cert.HgGateFwdIdeal.τ).loc Cert.HgGateFwdIdeal.main_arg2) = m ((c.tc : Thread Cert.HgGateFwdIdeal.nD Cert.HgGateFwdIdeal.τ).loc Cert.HgGateFwdIdeal.main_arg2)
          ∧ r.2.mem ((c.tc : Thread Cert.HgGateFwdIdeal.nD Cert.HgGateFwdIdeal.τ).loc Cert.HgGateFwdIdeal.main_arg3) = m ((c.tc : Thread Cert.HgGateFwdIdeal.nD Cert.HgGateFwdIdeal.τ).loc Cert.HgGateFwdIdeal.main_arg3))
      ∧ θ_run (Cert.HgGateFwdRefIdeal.defs (F := Ideal)) (onTc (τ := Cert.HgGateFwdRefIdeal.τ) (Cert.HgGateFwdRefIdeal.main (F := Ideal))) ⟨m', fun _ => 0, g'⟩ (fun r => ∀ c : Dev Cert.HgGateFwdRefIdeal.nD,
          r.2.mem ((c.tc : Thread Cert.HgGateFwdRefIdeal.nD Cert.HgGateFwdRefIdeal.τ).loc Cert.HgGateFwdRefIdeal.main_v19) = v0 c
          ∧ r.2.mem ((c.tc : Thread Cert.HgGateFwdRefIdeal.nD Cert.HgGateFwdRefIdeal.τ).loc Cert.HgGateFwdRefIdeal.main_arg0) = m' ((c.tc : Thread Cert.HgGateFwdRefIdeal.nD Cert.HgGateFwdRefIdeal.τ).loc Cert.HgGateFwdRefIdeal.main_arg0)
          ∧ r.2.mem ((c.tc : Thread Cert.HgGateFwdRefIdeal.nD Cert.HgGateFwdRefIdeal.τ).loc Cert.HgGateFwdRefIdeal.main_arg1) = m' ((c.tc : Thread Cert.HgGateFwdRefIdeal.nD Cert.HgGateFwdRefIdeal.τ).loc Cert.HgGateFwdRefIdeal.main_arg1)
          ∧ r.2.mem ((c.tc : Thread Cert.HgGateFwdRefIdeal.nD Cert.HgGateFwdRefIdeal.τ).loc Cert.HgGateFwdRefIdeal.main_arg2) = m' ((c.tc : Thread Cert.HgGateFwdRefIdeal.nD Cert.HgGateFwdRefIdeal.τ).loc Cert.HgGateFwdRefIdeal.main_arg2)
          ∧ r.2.mem ((c.tc : Thread Cert.HgGateFwdRefIdeal.nD Cert.HgGateFwdRefIdeal.τ).loc Cert.HgGateFwdRefIdeal.main_arg3) = m' ((c.tc : Thread Cert.HgGateFwdRefIdeal.nD Cert.HgGateFwdRefIdeal.τ).loc Cert.HgGateFwdRefIdeal.main_arg3))

def preserves_FinalFwd_FinalFwdIdeal : Prop :=
  True

def algebraic_FinalFwdIdeal_FinalFwdRefIdeal [hFinalFwdIdeal : Cert.FinalFwdIdeal.Facts] [hFinalFwdRefIdeal : Cert.FinalFwdRefIdeal.Facts] : Prop :=
  ∀ (m : (ℓ : Loc Cert.FinalFwdIdeal.nD Cert.FinalFwdIdeal.τ Cert.FinalFwdIdeal.sig) → Buf (Elt Ideal) ℓ) (g : Dev Cert.FinalFwdIdeal.nD → PrngReg)
    (m' : (ℓ : Loc Cert.FinalFwdRefIdeal.nD Cert.FinalFwdRefIdeal.τ Cert.FinalFwdRefIdeal.sig) → Buf (Elt Ideal) ℓ) (g' : Dev Cert.FinalFwdRefIdeal.nD → PrngReg), Pre_FinalFwdIdeal m →
    (∀ c : Dev Cert.FinalFwdIdeal.nD,
      m' ((c.tc : Thread Cert.FinalFwdRefIdeal.nD Cert.FinalFwdRefIdeal.τ).loc Cert.FinalFwdRefIdeal.main_arg0) = m ((c.tc : Thread Cert.FinalFwdIdeal.nD Cert.FinalFwdIdeal.τ).loc Cert.FinalFwdIdeal.main_arg0)
      ∧ m' ((c.tc : Thread Cert.FinalFwdRefIdeal.nD Cert.FinalFwdRefIdeal.τ).loc Cert.FinalFwdRefIdeal.main_arg1) = m ((c.tc : Thread Cert.FinalFwdIdeal.nD Cert.FinalFwdIdeal.τ).loc Cert.FinalFwdIdeal.main_arg1)
      ∧ m' ((c.tc : Thread Cert.FinalFwdRefIdeal.nD Cert.FinalFwdRefIdeal.τ).loc Cert.FinalFwdRefIdeal.main_arg2) = m ((c.tc : Thread Cert.FinalFwdIdeal.nD Cert.FinalFwdIdeal.τ).loc Cert.FinalFwdIdeal.main_arg2)
      ∧ m' ((c.tc : Thread Cert.FinalFwdRefIdeal.nD Cert.FinalFwdRefIdeal.τ).loc Cert.FinalFwdRefIdeal.main_arg3) = m ((c.tc : Thread Cert.FinalFwdIdeal.nD Cert.FinalFwdIdeal.τ).loc Cert.FinalFwdIdeal.main_arg3)
      ∧ m' ((c.tc : Thread Cert.FinalFwdRefIdeal.nD Cert.FinalFwdRefIdeal.τ).loc Cert.FinalFwdRefIdeal.main_arg4) = m ((c.tc : Thread Cert.FinalFwdIdeal.nD Cert.FinalFwdIdeal.τ).loc Cert.FinalFwdIdeal.main_arg4)) →
    ∃ (v0 : (c : Dev Cert.FinalFwdIdeal.nD) → Buf (Elt Ideal) ((c.tc : Thread Cert.FinalFwdIdeal.nD Cert.FinalFwdIdeal.τ).loc Cert.FinalFwdIdeal.main_v0)),
      θ_run (Cert.FinalFwdIdeal.defs (F := Ideal)) (onTc (τ := Cert.FinalFwdIdeal.τ) (Cert.FinalFwdIdeal.main (F := Ideal))) ⟨m, fun _ => 0, g⟩ (fun r => ∀ c : Dev Cert.FinalFwdIdeal.nD,
          r.2.mem ((c.tc : Thread Cert.FinalFwdIdeal.nD Cert.FinalFwdIdeal.τ).loc Cert.FinalFwdIdeal.main_v0) = v0 c
          ∧ r.2.mem ((c.tc : Thread Cert.FinalFwdIdeal.nD Cert.FinalFwdIdeal.τ).loc Cert.FinalFwdIdeal.main_arg0) = m ((c.tc : Thread Cert.FinalFwdIdeal.nD Cert.FinalFwdIdeal.τ).loc Cert.FinalFwdIdeal.main_arg0)
          ∧ r.2.mem ((c.tc : Thread Cert.FinalFwdIdeal.nD Cert.FinalFwdIdeal.τ).loc Cert.FinalFwdIdeal.main_arg1) = m ((c.tc : Thread Cert.FinalFwdIdeal.nD Cert.FinalFwdIdeal.τ).loc Cert.FinalFwdIdeal.main_arg1)
          ∧ r.2.mem ((c.tc : Thread Cert.FinalFwdIdeal.nD Cert.FinalFwdIdeal.τ).loc Cert.FinalFwdIdeal.main_arg2) = m ((c.tc : Thread Cert.FinalFwdIdeal.nD Cert.FinalFwdIdeal.τ).loc Cert.FinalFwdIdeal.main_arg2)
          ∧ r.2.mem ((c.tc : Thread Cert.FinalFwdIdeal.nD Cert.FinalFwdIdeal.τ).loc Cert.FinalFwdIdeal.main_arg3) = m ((c.tc : Thread Cert.FinalFwdIdeal.nD Cert.FinalFwdIdeal.τ).loc Cert.FinalFwdIdeal.main_arg3)
          ∧ r.2.mem ((c.tc : Thread Cert.FinalFwdIdeal.nD Cert.FinalFwdIdeal.τ).loc Cert.FinalFwdIdeal.main_arg4) = m ((c.tc : Thread Cert.FinalFwdIdeal.nD Cert.FinalFwdIdeal.τ).loc Cert.FinalFwdIdeal.main_arg4))
      ∧ θ_run (Cert.FinalFwdRefIdeal.defs (F := Ideal)) (onTc (τ := Cert.FinalFwdRefIdeal.τ) (Cert.FinalFwdRefIdeal.main (F := Ideal))) ⟨m', fun _ => 0, g'⟩ (fun r => ∀ c : Dev Cert.FinalFwdRefIdeal.nD,
          r.2.mem ((c.tc : Thread Cert.FinalFwdRefIdeal.nD Cert.FinalFwdRefIdeal.τ).loc Cert.FinalFwdRefIdeal.main_v24) = v0 c
          ∧ r.2.mem ((c.tc : Thread Cert.FinalFwdRefIdeal.nD Cert.FinalFwdRefIdeal.τ).loc Cert.FinalFwdRefIdeal.main_arg0) = m' ((c.tc : Thread Cert.FinalFwdRefIdeal.nD Cert.FinalFwdRefIdeal.τ).loc Cert.FinalFwdRefIdeal.main_arg0)
          ∧ r.2.mem ((c.tc : Thread Cert.FinalFwdRefIdeal.nD Cert.FinalFwdRefIdeal.τ).loc Cert.FinalFwdRefIdeal.main_arg1) = m' ((c.tc : Thread Cert.FinalFwdRefIdeal.nD Cert.FinalFwdRefIdeal.τ).loc Cert.FinalFwdRefIdeal.main_arg1)
          ∧ r.2.mem ((c.tc : Thread Cert.FinalFwdRefIdeal.nD Cert.FinalFwdRefIdeal.τ).loc Cert.FinalFwdRefIdeal.main_arg2) = m' ((c.tc : Thread Cert.FinalFwdRefIdeal.nD Cert.FinalFwdRefIdeal.τ).loc Cert.FinalFwdRefIdeal.main_arg2)
          ∧ r.2.mem ((c.tc : Thread Cert.FinalFwdRefIdeal.nD Cert.FinalFwdRefIdeal.τ).loc Cert.FinalFwdRefIdeal.main_arg3) = m' ((c.tc : Thread Cert.FinalFwdRefIdeal.nD Cert.FinalFwdRefIdeal.τ).loc Cert.FinalFwdRefIdeal.main_arg3)
          ∧ r.2.mem ((c.tc : Thread Cert.FinalFwdRefIdeal.nD Cert.FinalFwdRefIdeal.τ).loc Cert.FinalFwdRefIdeal.main_arg4) = m' ((c.tc : Thread Cert.FinalFwdRefIdeal.nD Cert.FinalFwdRefIdeal.τ).loc Cert.FinalFwdRefIdeal.main_arg4))

def preserves_ResidFwd_ResidFwdIdeal : Prop :=
  True

def algebraic_ResidFwdIdeal_ResidFwdRefIdeal [hResidFwdIdeal : Cert.ResidFwdIdeal.Facts] [hResidFwdRefIdeal : Cert.ResidFwdRefIdeal.Facts] : Prop :=
  ∀ (m : (ℓ : Loc Cert.ResidFwdIdeal.nD Cert.ResidFwdIdeal.τ Cert.ResidFwdIdeal.sig) → Buf (Elt Ideal) ℓ) (g : Dev Cert.ResidFwdIdeal.nD → PrngReg)
    (m' : (ℓ : Loc Cert.ResidFwdRefIdeal.nD Cert.ResidFwdRefIdeal.τ Cert.ResidFwdRefIdeal.sig) → Buf (Elt Ideal) ℓ) (g' : Dev Cert.ResidFwdRefIdeal.nD → PrngReg), Pre_ResidFwdIdeal m →
    (∀ c : Dev Cert.ResidFwdIdeal.nD,
      m' ((c.tc : Thread Cert.ResidFwdRefIdeal.nD Cert.ResidFwdRefIdeal.τ).loc Cert.ResidFwdRefIdeal.main_arg0) = m ((c.tc : Thread Cert.ResidFwdIdeal.nD Cert.ResidFwdIdeal.τ).loc Cert.ResidFwdIdeal.main_arg0)
      ∧ m' ((c.tc : Thread Cert.ResidFwdRefIdeal.nD Cert.ResidFwdRefIdeal.τ).loc Cert.ResidFwdRefIdeal.main_arg1) = m ((c.tc : Thread Cert.ResidFwdIdeal.nD Cert.ResidFwdIdeal.τ).loc Cert.ResidFwdIdeal.main_arg1)
      ∧ m' ((c.tc : Thread Cert.ResidFwdRefIdeal.nD Cert.ResidFwdRefIdeal.τ).loc Cert.ResidFwdRefIdeal.main_arg2) = m ((c.tc : Thread Cert.ResidFwdIdeal.nD Cert.ResidFwdIdeal.τ).loc Cert.ResidFwdIdeal.main_arg2)
      ∧ m' ((c.tc : Thread Cert.ResidFwdRefIdeal.nD Cert.ResidFwdRefIdeal.τ).loc Cert.ResidFwdRefIdeal.main_arg3) = m ((c.tc : Thread Cert.ResidFwdIdeal.nD Cert.ResidFwdIdeal.τ).loc Cert.ResidFwdIdeal.main_arg3)) →
    ∃ (v0 : (c : Dev Cert.ResidFwdIdeal.nD) → Buf (Elt Ideal) ((c.tc : Thread Cert.ResidFwdIdeal.nD Cert.ResidFwdIdeal.τ).loc Cert.ResidFwdIdeal.main_v0_0)) (v1 : (c : Dev Cert.ResidFwdIdeal.nD) → Buf (Elt Ideal) ((c.tc : Thread Cert.ResidFwdIdeal.nD Cert.ResidFwdIdeal.τ).loc Cert.ResidFwdIdeal.main_v0_1)),
      θ_run (Cert.ResidFwdIdeal.defs (F := Ideal)) (onTc (τ := Cert.ResidFwdIdeal.τ) (Cert.ResidFwdIdeal.main (F := Ideal))) ⟨m, fun _ => 0, g⟩ (fun r => ∀ c : Dev Cert.ResidFwdIdeal.nD,
          r.2.mem ((c.tc : Thread Cert.ResidFwdIdeal.nD Cert.ResidFwdIdeal.τ).loc Cert.ResidFwdIdeal.main_v0_0) = v0 c
          ∧ r.2.mem ((c.tc : Thread Cert.ResidFwdIdeal.nD Cert.ResidFwdIdeal.τ).loc Cert.ResidFwdIdeal.main_v0_1) = v1 c
          ∧ r.2.mem ((c.tc : Thread Cert.ResidFwdIdeal.nD Cert.ResidFwdIdeal.τ).loc Cert.ResidFwdIdeal.main_arg0) = m ((c.tc : Thread Cert.ResidFwdIdeal.nD Cert.ResidFwdIdeal.τ).loc Cert.ResidFwdIdeal.main_arg0)
          ∧ r.2.mem ((c.tc : Thread Cert.ResidFwdIdeal.nD Cert.ResidFwdIdeal.τ).loc Cert.ResidFwdIdeal.main_arg1) = m ((c.tc : Thread Cert.ResidFwdIdeal.nD Cert.ResidFwdIdeal.τ).loc Cert.ResidFwdIdeal.main_arg1)
          ∧ r.2.mem ((c.tc : Thread Cert.ResidFwdIdeal.nD Cert.ResidFwdIdeal.τ).loc Cert.ResidFwdIdeal.main_arg2) = m ((c.tc : Thread Cert.ResidFwdIdeal.nD Cert.ResidFwdIdeal.τ).loc Cert.ResidFwdIdeal.main_arg2)
          ∧ r.2.mem ((c.tc : Thread Cert.ResidFwdIdeal.nD Cert.ResidFwdIdeal.τ).loc Cert.ResidFwdIdeal.main_arg3) = m ((c.tc : Thread Cert.ResidFwdIdeal.nD Cert.ResidFwdIdeal.τ).loc Cert.ResidFwdIdeal.main_arg3))
      ∧ θ_run (Cert.ResidFwdRefIdeal.defs (F := Ideal)) (onTc (τ := Cert.ResidFwdRefIdeal.τ) (Cert.ResidFwdRefIdeal.main (F := Ideal))) ⟨m', fun _ => 0, g'⟩ (fun r => ∀ c : Dev Cert.ResidFwdRefIdeal.nD,
          r.2.mem ((c.tc : Thread Cert.ResidFwdRefIdeal.nD Cert.ResidFwdRefIdeal.τ).loc Cert.ResidFwdRefIdeal.main_v8) = v0 c
          ∧ r.2.mem ((c.tc : Thread Cert.ResidFwdRefIdeal.nD Cert.ResidFwdRefIdeal.τ).loc Cert.ResidFwdRefIdeal.main_v42) = v1 c
          ∧ r.2.mem ((c.tc : Thread Cert.ResidFwdRefIdeal.nD Cert.ResidFwdRefIdeal.τ).loc Cert.ResidFwdRefIdeal.main_arg0) = m' ((c.tc : Thread Cert.ResidFwdRefIdeal.nD Cert.ResidFwdRefIdeal.τ).loc Cert.ResidFwdRefIdeal.main_arg0)
          ∧ r.2.mem ((c.tc : Thread Cert.ResidFwdRefIdeal.nD Cert.ResidFwdRefIdeal.τ).loc Cert.ResidFwdRefIdeal.main_arg1) = m' ((c.tc : Thread Cert.ResidFwdRefIdeal.nD Cert.ResidFwdRefIdeal.τ).loc Cert.ResidFwdRefIdeal.main_arg1)
          ∧ r.2.mem ((c.tc : Thread Cert.ResidFwdRefIdeal.nD Cert.ResidFwdRefIdeal.τ).loc Cert.ResidFwdRefIdeal.main_arg2) = m' ((c.tc : Thread Cert.ResidFwdRefIdeal.nD Cert.ResidFwdRefIdeal.τ).loc Cert.ResidFwdRefIdeal.main_arg2)
          ∧ r.2.mem ((c.tc : Thread Cert.ResidFwdRefIdeal.nD Cert.ResidFwdRefIdeal.τ).loc Cert.ResidFwdRefIdeal.main_arg3) = m' ((c.tc : Thread Cert.ResidFwdRefIdeal.nD Cert.ResidFwdRefIdeal.τ).loc Cert.ResidFwdRefIdeal.main_arg3))

def preserves_ModNormFwd_ModNormFwdIdeal : Prop :=
  True

def algebraic_ModNormFwdIdeal_ModNormFwdRefIdeal [hModNormFwdIdeal : Cert.ModNormFwdIdeal.Facts] [hModNormFwdRefIdeal : Cert.ModNormFwdRefIdeal.Facts] : Prop :=
  ∀ (m : (ℓ : Loc Cert.ModNormFwdIdeal.nD Cert.ModNormFwdIdeal.τ Cert.ModNormFwdIdeal.sig) → Buf (Elt Ideal) ℓ) (g : Dev Cert.ModNormFwdIdeal.nD → PrngReg)
    (m' : (ℓ : Loc Cert.ModNormFwdRefIdeal.nD Cert.ModNormFwdRefIdeal.τ Cert.ModNormFwdRefIdeal.sig) → Buf (Elt Ideal) ℓ) (g' : Dev Cert.ModNormFwdRefIdeal.nD → PrngReg), Pre_ModNormFwdIdeal m →
    (∀ c : Dev Cert.ModNormFwdIdeal.nD,
      m' ((c.tc : Thread Cert.ModNormFwdRefIdeal.nD Cert.ModNormFwdRefIdeal.τ).loc Cert.ModNormFwdRefIdeal.main_arg0) = m ((c.tc : Thread Cert.ModNormFwdIdeal.nD Cert.ModNormFwdIdeal.τ).loc Cert.ModNormFwdIdeal.main_arg0)
      ∧ m' ((c.tc : Thread Cert.ModNormFwdRefIdeal.nD Cert.ModNormFwdRefIdeal.τ).loc Cert.ModNormFwdRefIdeal.main_arg1) = m ((c.tc : Thread Cert.ModNormFwdIdeal.nD Cert.ModNormFwdIdeal.τ).loc Cert.ModNormFwdIdeal.main_arg1)
      ∧ m' ((c.tc : Thread Cert.ModNormFwdRefIdeal.nD Cert.ModNormFwdRefIdeal.τ).loc Cert.ModNormFwdRefIdeal.main_arg2) = m ((c.tc : Thread Cert.ModNormFwdIdeal.nD Cert.ModNormFwdIdeal.τ).loc Cert.ModNormFwdIdeal.main_arg2)) →
    ∃ (v0 : (c : Dev Cert.ModNormFwdIdeal.nD) → Buf (Elt Ideal) ((c.tc : Thread Cert.ModNormFwdIdeal.nD Cert.ModNormFwdIdeal.τ).loc Cert.ModNormFwdIdeal.main_v0)),
      θ_run (Cert.ModNormFwdIdeal.defs (F := Ideal)) (onTc (τ := Cert.ModNormFwdIdeal.τ) (Cert.ModNormFwdIdeal.main (F := Ideal))) ⟨m, fun _ => 0, g⟩ (fun r => ∀ c : Dev Cert.ModNormFwdIdeal.nD,
          r.2.mem ((c.tc : Thread Cert.ModNormFwdIdeal.nD Cert.ModNormFwdIdeal.τ).loc Cert.ModNormFwdIdeal.main_v0) = v0 c
          ∧ r.2.mem ((c.tc : Thread Cert.ModNormFwdIdeal.nD Cert.ModNormFwdIdeal.τ).loc Cert.ModNormFwdIdeal.main_arg0) = m ((c.tc : Thread Cert.ModNormFwdIdeal.nD Cert.ModNormFwdIdeal.τ).loc Cert.ModNormFwdIdeal.main_arg0)
          ∧ r.2.mem ((c.tc : Thread Cert.ModNormFwdIdeal.nD Cert.ModNormFwdIdeal.τ).loc Cert.ModNormFwdIdeal.main_arg1) = m ((c.tc : Thread Cert.ModNormFwdIdeal.nD Cert.ModNormFwdIdeal.τ).loc Cert.ModNormFwdIdeal.main_arg1)
          ∧ r.2.mem ((c.tc : Thread Cert.ModNormFwdIdeal.nD Cert.ModNormFwdIdeal.τ).loc Cert.ModNormFwdIdeal.main_arg2) = m ((c.tc : Thread Cert.ModNormFwdIdeal.nD Cert.ModNormFwdIdeal.τ).loc Cert.ModNormFwdIdeal.main_arg2))
      ∧ θ_run (Cert.ModNormFwdRefIdeal.defs (F := Ideal)) (onTc (τ := Cert.ModNormFwdRefIdeal.τ) (Cert.ModNormFwdRefIdeal.main (F := Ideal))) ⟨m', fun _ => 0, g'⟩ (fun r => ∀ c : Dev Cert.ModNormFwdRefIdeal.nD,
          r.2.mem ((c.tc : Thread Cert.ModNormFwdRefIdeal.nD Cert.ModNormFwdRefIdeal.τ).loc Cert.ModNormFwdRefIdeal.main_v32) = v0 c
          ∧ r.2.mem ((c.tc : Thread Cert.ModNormFwdRefIdeal.nD Cert.ModNormFwdRefIdeal.τ).loc Cert.ModNormFwdRefIdeal.main_arg0) = m' ((c.tc : Thread Cert.ModNormFwdRefIdeal.nD Cert.ModNormFwdRefIdeal.τ).loc Cert.ModNormFwdRefIdeal.main_arg0)
          ∧ r.2.mem ((c.tc : Thread Cert.ModNormFwdRefIdeal.nD Cert.ModNormFwdRefIdeal.τ).loc Cert.ModNormFwdRefIdeal.main_arg1) = m' ((c.tc : Thread Cert.ModNormFwdRefIdeal.nD Cert.ModNormFwdRefIdeal.τ).loc Cert.ModNormFwdRefIdeal.main_arg1)
          ∧ r.2.mem ((c.tc : Thread Cert.ModNormFwdRefIdeal.nD Cert.ModNormFwdRefIdeal.τ).loc Cert.ModNormFwdRefIdeal.main_arg2) = m' ((c.tc : Thread Cert.ModNormFwdRefIdeal.nD Cert.ModNormFwdRefIdeal.τ).loc Cert.ModNormFwdRefIdeal.main_arg2))

def preserves_QkBwd_QkBwdIdeal : Prop :=
  True

def algebraic_QkBwdIdeal_QkBwdRefIdeal [hQkBwdIdeal : Cert.QkBwdIdeal.Facts] [hQkBwdRefIdeal : Cert.QkBwdRefIdeal.Facts] : Prop :=
  ∀ (m : (ℓ : Loc Cert.QkBwdIdeal.nD Cert.QkBwdIdeal.τ Cert.QkBwdIdeal.sig) → Buf (Elt Ideal) ℓ) (g : Dev Cert.QkBwdIdeal.nD → PrngReg)
    (m' : (ℓ : Loc Cert.QkBwdRefIdeal.nD Cert.QkBwdRefIdeal.τ Cert.QkBwdRefIdeal.sig) → Buf (Elt Ideal) ℓ) (g' : Dev Cert.QkBwdRefIdeal.nD → PrngReg), Pre_QkBwdIdeal m →
    (∀ c : Dev Cert.QkBwdIdeal.nD,
      m' ((c.tc : Thread Cert.QkBwdRefIdeal.nD Cert.QkBwdRefIdeal.τ).loc Cert.QkBwdRefIdeal.main_arg0) = m ((c.tc : Thread Cert.QkBwdIdeal.nD Cert.QkBwdIdeal.τ).loc Cert.QkBwdIdeal.main_arg0)
      ∧ m' ((c.tc : Thread Cert.QkBwdRefIdeal.nD Cert.QkBwdRefIdeal.τ).loc Cert.QkBwdRefIdeal.main_arg1) = m ((c.tc : Thread Cert.QkBwdIdeal.nD Cert.QkBwdIdeal.τ).loc Cert.QkBwdIdeal.main_arg1)
      ∧ m' ((c.tc : Thread Cert.QkBwdRefIdeal.nD Cert.QkBwdRefIdeal.τ).loc Cert.QkBwdRefIdeal.main_arg2) = m ((c.tc : Thread Cert.QkBwdIdeal.nD Cert.QkBwdIdeal.τ).loc Cert.QkBwdIdeal.main_arg2)
      ∧ m' ((c.tc : Thread Cert.QkBwdRefIdeal.nD Cert.QkBwdRefIdeal.τ).loc Cert.QkBwdRefIdeal.main_arg3) = m ((c.tc : Thread Cert.QkBwdIdeal.nD Cert.QkBwdIdeal.τ).loc Cert.QkBwdIdeal.main_arg3)
      ∧ m' ((c.tc : Thread Cert.QkBwdRefIdeal.nD Cert.QkBwdRefIdeal.τ).loc Cert.QkBwdRefIdeal.main_arg4) = m ((c.tc : Thread Cert.QkBwdIdeal.nD Cert.QkBwdIdeal.τ).loc Cert.QkBwdIdeal.main_arg4)
      ∧ m' ((c.tc : Thread Cert.QkBwdRefIdeal.nD Cert.QkBwdRefIdeal.τ).loc Cert.QkBwdRefIdeal.main_arg5) = m ((c.tc : Thread Cert.QkBwdIdeal.nD Cert.QkBwdIdeal.τ).loc Cert.QkBwdIdeal.main_arg5)
      ∧ m' ((c.tc : Thread Cert.QkBwdRefIdeal.nD Cert.QkBwdRefIdeal.τ).loc Cert.QkBwdRefIdeal.main_arg6) = m ((c.tc : Thread Cert.QkBwdIdeal.nD Cert.QkBwdIdeal.τ).loc Cert.QkBwdIdeal.main_arg6)
      ∧ m' ((c.tc : Thread Cert.QkBwdRefIdeal.nD Cert.QkBwdRefIdeal.τ).loc Cert.QkBwdRefIdeal.main_arg7) = m ((c.tc : Thread Cert.QkBwdIdeal.nD Cert.QkBwdIdeal.τ).loc Cert.QkBwdIdeal.main_arg7)
      ∧ m' ((c.tc : Thread Cert.QkBwdRefIdeal.nD Cert.QkBwdRefIdeal.τ).loc Cert.QkBwdRefIdeal.main_arg8) = m ((c.tc : Thread Cert.QkBwdIdeal.nD Cert.QkBwdIdeal.τ).loc Cert.QkBwdIdeal.main_arg8)
      ∧ m' ((c.tc : Thread Cert.QkBwdRefIdeal.nD Cert.QkBwdRefIdeal.τ).loc Cert.QkBwdRefIdeal.main_arg9) = m ((c.tc : Thread Cert.QkBwdIdeal.nD Cert.QkBwdIdeal.τ).loc Cert.QkBwdIdeal.main_arg9)) →
    ∃ (v0 : (c : Dev Cert.QkBwdIdeal.nD) → Buf (Elt Ideal) ((c.tc : Thread Cert.QkBwdIdeal.nD Cert.QkBwdIdeal.τ).loc Cert.QkBwdIdeal.main_v14_0)) (v1 : (c : Dev Cert.QkBwdIdeal.nD) → Buf (Elt Ideal) ((c.tc : Thread Cert.QkBwdIdeal.nD Cert.QkBwdIdeal.τ).loc Cert.QkBwdIdeal.main_v14_1)) (v2 : (c : Dev Cert.QkBwdIdeal.nD) → Buf (Elt Ideal) ((c.tc : Thread Cert.QkBwdIdeal.nD Cert.QkBwdIdeal.τ).loc Cert.QkBwdIdeal.main_v14_2)) (v3 : (c : Dev Cert.QkBwdIdeal.nD) → Buf (Elt Ideal) ((c.tc : Thread Cert.QkBwdIdeal.nD Cert.QkBwdIdeal.τ).loc Cert.QkBwdIdeal.main_v14_3)) (v4 : (c : Dev Cert.QkBwdIdeal.nD) → Buf (Elt Ideal) ((c.tc : Thread Cert.QkBwdIdeal.nD Cert.QkBwdIdeal.τ).loc Cert.QkBwdIdeal.main_v14_4)),
      θ_run (Cert.QkBwdIdeal.defs (F := Ideal)) (onTc (τ := Cert.QkBwdIdeal.τ) (Cert.QkBwdIdeal.main (F := Ideal))) ⟨m, fun _ => 0, g⟩ (fun r => ∀ c : Dev Cert.QkBwdIdeal.nD,
          r.2.mem ((c.tc : Thread Cert.QkBwdIdeal.nD Cert.QkBwdIdeal.τ).loc Cert.QkBwdIdeal.main_v14_0) = v0 c
          ∧ r.2.mem ((c.tc : Thread Cert.QkBwdIdeal.nD Cert.QkBwdIdeal.τ).loc Cert.QkBwdIdeal.main_v14_1) = v1 c
          ∧ r.2.mem ((c.tc : Thread Cert.QkBwdIdeal.nD Cert.QkBwdIdeal.τ).loc Cert.QkBwdIdeal.main_v14_2) = v2 c
          ∧ r.2.mem ((c.tc : Thread Cert.QkBwdIdeal.nD Cert.QkBwdIdeal.τ).loc Cert.QkBwdIdeal.main_v14_3) = v3 c
          ∧ r.2.mem ((c.tc : Thread Cert.QkBwdIdeal.nD Cert.QkBwdIdeal.τ).loc Cert.QkBwdIdeal.main_v14_4) = v4 c
          ∧ r.2.mem ((c.tc : Thread Cert.QkBwdIdeal.nD Cert.QkBwdIdeal.τ).loc Cert.QkBwdIdeal.main_arg0) = m ((c.tc : Thread Cert.QkBwdIdeal.nD Cert.QkBwdIdeal.τ).loc Cert.QkBwdIdeal.main_arg0)
          ∧ r.2.mem ((c.tc : Thread Cert.QkBwdIdeal.nD Cert.QkBwdIdeal.τ).loc Cert.QkBwdIdeal.main_arg1) = m ((c.tc : Thread Cert.QkBwdIdeal.nD Cert.QkBwdIdeal.τ).loc Cert.QkBwdIdeal.main_arg1)
          ∧ r.2.mem ((c.tc : Thread Cert.QkBwdIdeal.nD Cert.QkBwdIdeal.τ).loc Cert.QkBwdIdeal.main_arg2) = m ((c.tc : Thread Cert.QkBwdIdeal.nD Cert.QkBwdIdeal.τ).loc Cert.QkBwdIdeal.main_arg2)
          ∧ r.2.mem ((c.tc : Thread Cert.QkBwdIdeal.nD Cert.QkBwdIdeal.τ).loc Cert.QkBwdIdeal.main_arg3) = m ((c.tc : Thread Cert.QkBwdIdeal.nD Cert.QkBwdIdeal.τ).loc Cert.QkBwdIdeal.main_arg3)
          ∧ r.2.mem ((c.tc : Thread Cert.QkBwdIdeal.nD Cert.QkBwdIdeal.τ).loc Cert.QkBwdIdeal.main_arg4) = m ((c.tc : Thread Cert.QkBwdIdeal.nD Cert.QkBwdIdeal.τ).loc Cert.QkBwdIdeal.main_arg4)
          ∧ r.2.mem ((c.tc : Thread Cert.QkBwdIdeal.nD Cert.QkBwdIdeal.τ).loc Cert.QkBwdIdeal.main_arg5) = m ((c.tc : Thread Cert.QkBwdIdeal.nD Cert.QkBwdIdeal.τ).loc Cert.QkBwdIdeal.main_arg5)
          ∧ r.2.mem ((c.tc : Thread Cert.QkBwdIdeal.nD Cert.QkBwdIdeal.τ).loc Cert.QkBwdIdeal.main_arg6) = m ((c.tc : Thread Cert.QkBwdIdeal.nD Cert.QkBwdIdeal.τ).loc Cert.QkBwdIdeal.main_arg6)
          ∧ r.2.mem ((c.tc : Thread Cert.QkBwdIdeal.nD Cert.QkBwdIdeal.τ).loc Cert.QkBwdIdeal.main_arg7) = m ((c.tc : Thread Cert.QkBwdIdeal.nD Cert.QkBwdIdeal.τ).loc Cert.QkBwdIdeal.main_arg7)
          ∧ r.2.mem ((c.tc : Thread Cert.QkBwdIdeal.nD Cert.QkBwdIdeal.τ).loc Cert.QkBwdIdeal.main_arg8) = m ((c.tc : Thread Cert.QkBwdIdeal.nD Cert.QkBwdIdeal.τ).loc Cert.QkBwdIdeal.main_arg8)
          ∧ r.2.mem ((c.tc : Thread Cert.QkBwdIdeal.nD Cert.QkBwdIdeal.τ).loc Cert.QkBwdIdeal.main_arg9) = m ((c.tc : Thread Cert.QkBwdIdeal.nD Cert.QkBwdIdeal.τ).loc Cert.QkBwdIdeal.main_arg9))
      ∧ θ_run (Cert.QkBwdRefIdeal.defs (F := Ideal)) (onTc (τ := Cert.QkBwdRefIdeal.τ) (Cert.QkBwdRefIdeal.main (F := Ideal))) ⟨m', fun _ => 0, g'⟩ (fun r => ∀ c : Dev Cert.QkBwdRefIdeal.nD,
          r.2.mem ((c.tc : Thread Cert.QkBwdRefIdeal.nD Cert.QkBwdRefIdeal.τ).loc Cert.QkBwdRefIdeal.main_v167) = v0 c
          ∧ r.2.mem ((c.tc : Thread Cert.QkBwdRefIdeal.nD Cert.QkBwdRefIdeal.τ).loc Cert.QkBwdRefIdeal.main_v124) = v1 c
          ∧ r.2.mem ((c.tc : Thread Cert.QkBwdRefIdeal.nD Cert.QkBwdRefIdeal.τ).loc Cert.QkBwdRefIdeal.main_v81) = v2 c
          ∧ r.2.mem ((c.tc : Thread Cert.QkBwdRefIdeal.nD Cert.QkBwdRefIdeal.τ).loc Cert.QkBwdRefIdeal.main_v166) = v3 c
          ∧ r.2.mem ((c.tc : Thread Cert.QkBwdRefIdeal.nD Cert.QkBwdRefIdeal.τ).loc Cert.QkBwdRefIdeal.main_v123) = v4 c
          ∧ r.2.mem ((c.tc : Thread Cert.QkBwdRefIdeal.nD Cert.QkBwdRefIdeal.τ).loc Cert.QkBwdRefIdeal.main_arg0) = m' ((c.tc : Thread Cert.QkBwdRefIdeal.nD Cert.QkBwdRefIdeal.τ).loc Cert.QkBwdRefIdeal.main_arg0)
          ∧ r.2.mem ((c.tc : Thread Cert.QkBwdRefIdeal.nD Cert.QkBwdRefIdeal.τ).loc Cert.QkBwdRefIdeal.main_arg1) = m' ((c.tc : Thread Cert.QkBwdRefIdeal.nD Cert.QkBwdRefIdeal.τ).loc Cert.QkBwdRefIdeal.main_arg1)
          ∧ r.2.mem ((c.tc : Thread Cert.QkBwdRefIdeal.nD Cert.QkBwdRefIdeal.τ).loc Cert.QkBwdRefIdeal.main_arg2) = m' ((c.tc : Thread Cert.QkBwdRefIdeal.nD Cert.QkBwdRefIdeal.τ).loc Cert.QkBwdRefIdeal.main_arg2)
          ∧ r.2.mem ((c.tc : Thread Cert.QkBwdRefIdeal.nD Cert.QkBwdRefIdeal.τ).loc Cert.QkBwdRefIdeal.main_arg3) = m' ((c.tc : Thread Cert.QkBwdRefIdeal.nD Cert.QkBwdRefIdeal.τ).loc Cert.QkBwdRefIdeal.main_arg3)
          ∧ r.2.mem ((c.tc : Thread Cert.QkBwdRefIdeal.nD Cert.QkBwdRefIdeal.τ).loc Cert.QkBwdRefIdeal.main_arg4) = m' ((c.tc : Thread Cert.QkBwdRefIdeal.nD Cert.QkBwdRefIdeal.τ).loc Cert.QkBwdRefIdeal.main_arg4)
          ∧ r.2.mem ((c.tc : Thread Cert.QkBwdRefIdeal.nD Cert.QkBwdRefIdeal.τ).loc Cert.QkBwdRefIdeal.main_arg5) = m' ((c.tc : Thread Cert.QkBwdRefIdeal.nD Cert.QkBwdRefIdeal.τ).loc Cert.QkBwdRefIdeal.main_arg5)
          ∧ r.2.mem ((c.tc : Thread Cert.QkBwdRefIdeal.nD Cert.QkBwdRefIdeal.τ).loc Cert.QkBwdRefIdeal.main_arg6) = m' ((c.tc : Thread Cert.QkBwdRefIdeal.nD Cert.QkBwdRefIdeal.τ).loc Cert.QkBwdRefIdeal.main_arg6)
          ∧ r.2.mem ((c.tc : Thread Cert.QkBwdRefIdeal.nD Cert.QkBwdRefIdeal.τ).loc Cert.QkBwdRefIdeal.main_arg7) = m' ((c.tc : Thread Cert.QkBwdRefIdeal.nD Cert.QkBwdRefIdeal.τ).loc Cert.QkBwdRefIdeal.main_arg7)
          ∧ r.2.mem ((c.tc : Thread Cert.QkBwdRefIdeal.nD Cert.QkBwdRefIdeal.τ).loc Cert.QkBwdRefIdeal.main_arg8) = m' ((c.tc : Thread Cert.QkBwdRefIdeal.nD Cert.QkBwdRefIdeal.τ).loc Cert.QkBwdRefIdeal.main_arg8)
          ∧ r.2.mem ((c.tc : Thread Cert.QkBwdRefIdeal.nD Cert.QkBwdRefIdeal.τ).loc Cert.QkBwdRefIdeal.main_arg9) = m' ((c.tc : Thread Cert.QkBwdRefIdeal.nD Cert.QkBwdRefIdeal.τ).loc Cert.QkBwdRefIdeal.main_arg9))

def preserves_QkFwd_QkFwdIdeal : Prop :=
  True

def algebraic_QkFwdIdeal_QkFwdRefIdeal [hQkFwdIdeal : Cert.QkFwdIdeal.Facts] [hQkFwdRefIdeal : Cert.QkFwdRefIdeal.Facts] : Prop :=
  ∀ (m : (ℓ : Loc Cert.QkFwdIdeal.nD Cert.QkFwdIdeal.τ Cert.QkFwdIdeal.sig) → Buf (Elt Ideal) ℓ) (g : Dev Cert.QkFwdIdeal.nD → PrngReg)
    (m' : (ℓ : Loc Cert.QkFwdRefIdeal.nD Cert.QkFwdRefIdeal.τ Cert.QkFwdRefIdeal.sig) → Buf (Elt Ideal) ℓ) (g' : Dev Cert.QkFwdRefIdeal.nD → PrngReg), Pre_QkFwdIdeal m →
    (∀ c : Dev Cert.QkFwdIdeal.nD,
      m' ((c.tc : Thread Cert.QkFwdRefIdeal.nD Cert.QkFwdRefIdeal.τ).loc Cert.QkFwdRefIdeal.main_arg0) = m ((c.tc : Thread Cert.QkFwdIdeal.nD Cert.QkFwdIdeal.τ).loc Cert.QkFwdIdeal.main_arg0)
      ∧ m' ((c.tc : Thread Cert.QkFwdRefIdeal.nD Cert.QkFwdRefIdeal.τ).loc Cert.QkFwdRefIdeal.main_arg1) = m ((c.tc : Thread Cert.QkFwdIdeal.nD Cert.QkFwdIdeal.τ).loc Cert.QkFwdIdeal.main_arg1)
      ∧ m' ((c.tc : Thread Cert.QkFwdRefIdeal.nD Cert.QkFwdRefIdeal.τ).loc Cert.QkFwdRefIdeal.main_arg2) = m ((c.tc : Thread Cert.QkFwdIdeal.nD Cert.QkFwdIdeal.τ).loc Cert.QkFwdIdeal.main_arg2)
      ∧ m' ((c.tc : Thread Cert.QkFwdRefIdeal.nD Cert.QkFwdRefIdeal.τ).loc Cert.QkFwdRefIdeal.main_arg3) = m ((c.tc : Thread Cert.QkFwdIdeal.nD Cert.QkFwdIdeal.τ).loc Cert.QkFwdIdeal.main_arg3)
      ∧ m' ((c.tc : Thread Cert.QkFwdRefIdeal.nD Cert.QkFwdRefIdeal.τ).loc Cert.QkFwdRefIdeal.main_arg4) = m ((c.tc : Thread Cert.QkFwdIdeal.nD Cert.QkFwdIdeal.τ).loc Cert.QkFwdIdeal.main_arg4)
      ∧ m' ((c.tc : Thread Cert.QkFwdRefIdeal.nD Cert.QkFwdRefIdeal.τ).loc Cert.QkFwdRefIdeal.main_arg5) = m ((c.tc : Thread Cert.QkFwdIdeal.nD Cert.QkFwdIdeal.τ).loc Cert.QkFwdIdeal.main_arg5)
      ∧ m' ((c.tc : Thread Cert.QkFwdRefIdeal.nD Cert.QkFwdRefIdeal.τ).loc Cert.QkFwdRefIdeal.main_arg6) = m ((c.tc : Thread Cert.QkFwdIdeal.nD Cert.QkFwdIdeal.τ).loc Cert.QkFwdIdeal.main_arg6)) →
    ∃ (v0 : (c : Dev Cert.QkFwdIdeal.nD) → Buf (Elt Ideal) ((c.tc : Thread Cert.QkFwdIdeal.nD Cert.QkFwdIdeal.τ).loc Cert.QkFwdIdeal.main_v14_0)) (v1 : (c : Dev Cert.QkFwdIdeal.nD) → Buf (Elt Ideal) ((c.tc : Thread Cert.QkFwdIdeal.nD Cert.QkFwdIdeal.τ).loc Cert.QkFwdIdeal.main_v14_1)) (v2 : (c : Dev Cert.QkFwdIdeal.nD) → Buf (Elt Ideal) ((c.tc : Thread Cert.QkFwdIdeal.nD Cert.QkFwdIdeal.τ).loc Cert.QkFwdIdeal.main_v14_2)),
      θ_run (Cert.QkFwdIdeal.defs (F := Ideal)) (onTc (τ := Cert.QkFwdIdeal.τ) (Cert.QkFwdIdeal.main (F := Ideal))) ⟨m, fun _ => 0, g⟩ (fun r => ∀ c : Dev Cert.QkFwdIdeal.nD,
          r.2.mem ((c.tc : Thread Cert.QkFwdIdeal.nD Cert.QkFwdIdeal.τ).loc Cert.QkFwdIdeal.main_v14_0) = v0 c
          ∧ r.2.mem ((c.tc : Thread Cert.QkFwdIdeal.nD Cert.QkFwdIdeal.τ).loc Cert.QkFwdIdeal.main_v14_1) = v1 c
          ∧ r.2.mem ((c.tc : Thread Cert.QkFwdIdeal.nD Cert.QkFwdIdeal.τ).loc Cert.QkFwdIdeal.main_v14_2) = v2 c
          ∧ r.2.mem ((c.tc : Thread Cert.QkFwdIdeal.nD Cert.QkFwdIdeal.τ).loc Cert.QkFwdIdeal.main_arg0) = m ((c.tc : Thread Cert.QkFwdIdeal.nD Cert.QkFwdIdeal.τ).loc Cert.QkFwdIdeal.main_arg0)
          ∧ r.2.mem ((c.tc : Thread Cert.QkFwdIdeal.nD Cert.QkFwdIdeal.τ).loc Cert.QkFwdIdeal.main_arg1) = m ((c.tc : Thread Cert.QkFwdIdeal.nD Cert.QkFwdIdeal.τ).loc Cert.QkFwdIdeal.main_arg1)
          ∧ r.2.mem ((c.tc : Thread Cert.QkFwdIdeal.nD Cert.QkFwdIdeal.τ).loc Cert.QkFwdIdeal.main_arg2) = m ((c.tc : Thread Cert.QkFwdIdeal.nD Cert.QkFwdIdeal.τ).loc Cert.QkFwdIdeal.main_arg2)
          ∧ r.2.mem ((c.tc : Thread Cert.QkFwdIdeal.nD Cert.QkFwdIdeal.τ).loc Cert.QkFwdIdeal.main_arg3) = m ((c.tc : Thread Cert.QkFwdIdeal.nD Cert.QkFwdIdeal.τ).loc Cert.QkFwdIdeal.main_arg3)
          ∧ r.2.mem ((c.tc : Thread Cert.QkFwdIdeal.nD Cert.QkFwdIdeal.τ).loc Cert.QkFwdIdeal.main_arg4) = m ((c.tc : Thread Cert.QkFwdIdeal.nD Cert.QkFwdIdeal.τ).loc Cert.QkFwdIdeal.main_arg4)
          ∧ r.2.mem ((c.tc : Thread Cert.QkFwdIdeal.nD Cert.QkFwdIdeal.τ).loc Cert.QkFwdIdeal.main_arg5) = m ((c.tc : Thread Cert.QkFwdIdeal.nD Cert.QkFwdIdeal.τ).loc Cert.QkFwdIdeal.main_arg5)
          ∧ r.2.mem ((c.tc : Thread Cert.QkFwdIdeal.nD Cert.QkFwdIdeal.τ).loc Cert.QkFwdIdeal.main_arg6) = m ((c.tc : Thread Cert.QkFwdIdeal.nD Cert.QkFwdIdeal.τ).loc Cert.QkFwdIdeal.main_arg6))
      ∧ θ_run (Cert.QkFwdRefIdeal.defs (F := Ideal)) (onTc (τ := Cert.QkFwdRefIdeal.τ) (Cert.QkFwdRefIdeal.main (F := Ideal))) ⟨m', fun _ => 0, g'⟩ (fun r => ∀ c : Dev Cert.QkFwdRefIdeal.nD,
          r.2.mem ((c.tc : Thread Cert.QkFwdRefIdeal.nD Cert.QkFwdRefIdeal.τ).loc Cert.QkFwdRefIdeal.main_v36) = v0 c
          ∧ r.2.mem ((c.tc : Thread Cert.QkFwdRefIdeal.nD Cert.QkFwdRefIdeal.τ).loc Cert.QkFwdRefIdeal.main_v73) = v1 c
          ∧ r.2.mem ((c.tc : Thread Cert.QkFwdRefIdeal.nD Cert.QkFwdRefIdeal.τ).loc Cert.QkFwdRefIdeal.main_v74) = v2 c
          ∧ r.2.mem ((c.tc : Thread Cert.QkFwdRefIdeal.nD Cert.QkFwdRefIdeal.τ).loc Cert.QkFwdRefIdeal.main_arg0) = m' ((c.tc : Thread Cert.QkFwdRefIdeal.nD Cert.QkFwdRefIdeal.τ).loc Cert.QkFwdRefIdeal.main_arg0)
          ∧ r.2.mem ((c.tc : Thread Cert.QkFwdRefIdeal.nD Cert.QkFwdRefIdeal.τ).loc Cert.QkFwdRefIdeal.main_arg1) = m' ((c.tc : Thread Cert.QkFwdRefIdeal.nD Cert.QkFwdRefIdeal.τ).loc Cert.QkFwdRefIdeal.main_arg1)
          ∧ r.2.mem ((c.tc : Thread Cert.QkFwdRefIdeal.nD Cert.QkFwdRefIdeal.τ).loc Cert.QkFwdRefIdeal.main_arg2) = m' ((c.tc : Thread Cert.QkFwdRefIdeal.nD Cert.QkFwdRefIdeal.τ).loc Cert.QkFwdRefIdeal.main_arg2)
          ∧ r.2.mem ((c.tc : Thread Cert.QkFwdRefIdeal.nD Cert.QkFwdRefIdeal.τ).loc Cert.QkFwdRefIdeal.main_arg3) = m' ((c.tc : Thread Cert.QkFwdRefIdeal.nD Cert.QkFwdRefIdeal.τ).loc Cert.QkFwdRefIdeal.main_arg3)
          ∧ r.2.mem ((c.tc : Thread Cert.QkFwdRefIdeal.nD Cert.QkFwdRefIdeal.τ).loc Cert.QkFwdRefIdeal.main_arg4) = m' ((c.tc : Thread Cert.QkFwdRefIdeal.nD Cert.QkFwdRefIdeal.τ).loc Cert.QkFwdRefIdeal.main_arg4)
          ∧ r.2.mem ((c.tc : Thread Cert.QkFwdRefIdeal.nD Cert.QkFwdRefIdeal.τ).loc Cert.QkFwdRefIdeal.main_arg5) = m' ((c.tc : Thread Cert.QkFwdRefIdeal.nD Cert.QkFwdRefIdeal.τ).loc Cert.QkFwdRefIdeal.main_arg5)
          ∧ r.2.mem ((c.tc : Thread Cert.QkFwdRefIdeal.nD Cert.QkFwdRefIdeal.τ).loc Cert.QkFwdRefIdeal.main_arg6) = m' ((c.tc : Thread Cert.QkFwdRefIdeal.nD Cert.QkFwdRefIdeal.τ).loc Cert.QkFwdRefIdeal.main_arg6))

def preserves_SgateFwd_SgateFwdIdeal : Prop :=
  True

def algebraic_SgateFwdIdeal_SgateFwdRefIdeal [hSgateFwdIdeal : Cert.SgateFwdIdeal.Facts] [hSgateFwdRefIdeal : Cert.SgateFwdRefIdeal.Facts] : Prop :=
  ∀ (m : (ℓ : Loc Cert.SgateFwdIdeal.nD Cert.SgateFwdIdeal.τ Cert.SgateFwdIdeal.sig) → Buf (Elt Ideal) ℓ) (g : Dev Cert.SgateFwdIdeal.nD → PrngReg)
    (m' : (ℓ : Loc Cert.SgateFwdRefIdeal.nD Cert.SgateFwdRefIdeal.τ Cert.SgateFwdRefIdeal.sig) → Buf (Elt Ideal) ℓ) (g' : Dev Cert.SgateFwdRefIdeal.nD → PrngReg), Pre_SgateFwdIdeal m →
    (∀ c : Dev Cert.SgateFwdIdeal.nD,
      m' ((c.tc : Thread Cert.SgateFwdRefIdeal.nD Cert.SgateFwdRefIdeal.τ).loc Cert.SgateFwdRefIdeal.main_arg0) = m ((c.tc : Thread Cert.SgateFwdIdeal.nD Cert.SgateFwdIdeal.τ).loc Cert.SgateFwdIdeal.main_arg0)
      ∧ m' ((c.tc : Thread Cert.SgateFwdRefIdeal.nD Cert.SgateFwdRefIdeal.τ).loc Cert.SgateFwdRefIdeal.main_arg1) = m ((c.tc : Thread Cert.SgateFwdIdeal.nD Cert.SgateFwdIdeal.τ).loc Cert.SgateFwdIdeal.main_arg1)
      ∧ m' ((c.tc : Thread Cert.SgateFwdRefIdeal.nD Cert.SgateFwdRefIdeal.τ).loc Cert.SgateFwdRefIdeal.main_arg2) = m ((c.tc : Thread Cert.SgateFwdIdeal.nD Cert.SgateFwdIdeal.τ).loc Cert.SgateFwdIdeal.main_arg2)
      ∧ m' ((c.tc : Thread Cert.SgateFwdRefIdeal.nD Cert.SgateFwdRefIdeal.τ).loc Cert.SgateFwdRefIdeal.main_arg3) = m ((c.tc : Thread Cert.SgateFwdIdeal.nD Cert.SgateFwdIdeal.τ).loc Cert.SgateFwdIdeal.main_arg3)
      ∧ m' ((c.tc : Thread Cert.SgateFwdRefIdeal.nD Cert.SgateFwdRefIdeal.τ).loc Cert.SgateFwdRefIdeal.main_arg4) = m ((c.tc : Thread Cert.SgateFwdIdeal.nD Cert.SgateFwdIdeal.τ).loc Cert.SgateFwdIdeal.main_arg4)
      ∧ m' ((c.tc : Thread Cert.SgateFwdRefIdeal.nD Cert.SgateFwdRefIdeal.τ).loc Cert.SgateFwdRefIdeal.main_arg5) = m ((c.tc : Thread Cert.SgateFwdIdeal.nD Cert.SgateFwdIdeal.τ).loc Cert.SgateFwdIdeal.main_arg5)
      ∧ m' ((c.tc : Thread Cert.SgateFwdRefIdeal.nD Cert.SgateFwdRefIdeal.τ).loc Cert.SgateFwdRefIdeal.main_arg6) = m ((c.tc : Thread Cert.SgateFwdIdeal.nD Cert.SgateFwdIdeal.τ).loc Cert.SgateFwdIdeal.main_arg6)
      ∧ m' ((c.tc : Thread Cert.SgateFwdRefIdeal.nD Cert.SgateFwdRefIdeal.τ).loc Cert.SgateFwdRefIdeal.main_arg7) = m ((c.tc : Thread Cert.SgateFwdIdeal.nD Cert.SgateFwdIdeal.τ).loc Cert.SgateFwdIdeal.main_arg7)) →
    ∃ (v0 : (c : Dev Cert.SgateFwdIdeal.nD) → Buf (Elt Ideal) ((c.tc : Thread Cert.SgateFwdIdeal.nD Cert.SgateFwdIdeal.τ).loc Cert.SgateFwdIdeal.main_v0)),
      θ_run (Cert.SgateFwdIdeal.defs (F := Ideal)) (onTc (τ := Cert.SgateFwdIdeal.τ) (Cert.SgateFwdIdeal.main (F := Ideal))) ⟨m, fun _ => 0, g⟩ (fun r => ∀ c : Dev Cert.SgateFwdIdeal.nD,
          r.2.mem ((c.tc : Thread Cert.SgateFwdIdeal.nD Cert.SgateFwdIdeal.τ).loc Cert.SgateFwdIdeal.main_v0) = v0 c
          ∧ r.2.mem ((c.tc : Thread Cert.SgateFwdIdeal.nD Cert.SgateFwdIdeal.τ).loc Cert.SgateFwdIdeal.main_arg0) = m ((c.tc : Thread Cert.SgateFwdIdeal.nD Cert.SgateFwdIdeal.τ).loc Cert.SgateFwdIdeal.main_arg0)
          ∧ r.2.mem ((c.tc : Thread Cert.SgateFwdIdeal.nD Cert.SgateFwdIdeal.τ).loc Cert.SgateFwdIdeal.main_arg1) = m ((c.tc : Thread Cert.SgateFwdIdeal.nD Cert.SgateFwdIdeal.τ).loc Cert.SgateFwdIdeal.main_arg1)
          ∧ r.2.mem ((c.tc : Thread Cert.SgateFwdIdeal.nD Cert.SgateFwdIdeal.τ).loc Cert.SgateFwdIdeal.main_arg2) = m ((c.tc : Thread Cert.SgateFwdIdeal.nD Cert.SgateFwdIdeal.τ).loc Cert.SgateFwdIdeal.main_arg2)
          ∧ r.2.mem ((c.tc : Thread Cert.SgateFwdIdeal.nD Cert.SgateFwdIdeal.τ).loc Cert.SgateFwdIdeal.main_arg3) = m ((c.tc : Thread Cert.SgateFwdIdeal.nD Cert.SgateFwdIdeal.τ).loc Cert.SgateFwdIdeal.main_arg3)
          ∧ r.2.mem ((c.tc : Thread Cert.SgateFwdIdeal.nD Cert.SgateFwdIdeal.τ).loc Cert.SgateFwdIdeal.main_arg4) = m ((c.tc : Thread Cert.SgateFwdIdeal.nD Cert.SgateFwdIdeal.τ).loc Cert.SgateFwdIdeal.main_arg4)
          ∧ r.2.mem ((c.tc : Thread Cert.SgateFwdIdeal.nD Cert.SgateFwdIdeal.τ).loc Cert.SgateFwdIdeal.main_arg5) = m ((c.tc : Thread Cert.SgateFwdIdeal.nD Cert.SgateFwdIdeal.τ).loc Cert.SgateFwdIdeal.main_arg5)
          ∧ r.2.mem ((c.tc : Thread Cert.SgateFwdIdeal.nD Cert.SgateFwdIdeal.τ).loc Cert.SgateFwdIdeal.main_arg6) = m ((c.tc : Thread Cert.SgateFwdIdeal.nD Cert.SgateFwdIdeal.τ).loc Cert.SgateFwdIdeal.main_arg6)
          ∧ r.2.mem ((c.tc : Thread Cert.SgateFwdIdeal.nD Cert.SgateFwdIdeal.τ).loc Cert.SgateFwdIdeal.main_arg7) = m ((c.tc : Thread Cert.SgateFwdIdeal.nD Cert.SgateFwdIdeal.τ).loc Cert.SgateFwdIdeal.main_arg7))
      ∧ θ_run (Cert.SgateFwdRefIdeal.defs (F := Ideal)) (onTc (τ := Cert.SgateFwdRefIdeal.τ) (Cert.SgateFwdRefIdeal.main (F := Ideal))) ⟨m', fun _ => 0, g'⟩ (fun r => ∀ c : Dev Cert.SgateFwdRefIdeal.nD,
          r.2.mem ((c.tc : Thread Cert.SgateFwdRefIdeal.nD Cert.SgateFwdRefIdeal.τ).loc Cert.SgateFwdRefIdeal.main_v51) = v0 c
          ∧ r.2.mem ((c.tc : Thread Cert.SgateFwdRefIdeal.nD Cert.SgateFwdRefIdeal.τ).loc Cert.SgateFwdRefIdeal.main_arg0) = m' ((c.tc : Thread Cert.SgateFwdRefIdeal.nD Cert.SgateFwdRefIdeal.τ).loc Cert.SgateFwdRefIdeal.main_arg0)
          ∧ r.2.mem ((c.tc : Thread Cert.SgateFwdRefIdeal.nD Cert.SgateFwdRefIdeal.τ).loc Cert.SgateFwdRefIdeal.main_arg1) = m' ((c.tc : Thread Cert.SgateFwdRefIdeal.nD Cert.SgateFwdRefIdeal.τ).loc Cert.SgateFwdRefIdeal.main_arg1)
          ∧ r.2.mem ((c.tc : Thread Cert.SgateFwdRefIdeal.nD Cert.SgateFwdRefIdeal.τ).loc Cert.SgateFwdRefIdeal.main_arg2) = m' ((c.tc : Thread Cert.SgateFwdRefIdeal.nD Cert.SgateFwdRefIdeal.τ).loc Cert.SgateFwdRefIdeal.main_arg2)
          ∧ r.2.mem ((c.tc : Thread Cert.SgateFwdRefIdeal.nD Cert.SgateFwdRefIdeal.τ).loc Cert.SgateFwdRefIdeal.main_arg3) = m' ((c.tc : Thread Cert.SgateFwdRefIdeal.nD Cert.SgateFwdRefIdeal.τ).loc Cert.SgateFwdRefIdeal.main_arg3)
          ∧ r.2.mem ((c.tc : Thread Cert.SgateFwdRefIdeal.nD Cert.SgateFwdRefIdeal.τ).loc Cert.SgateFwdRefIdeal.main_arg4) = m' ((c.tc : Thread Cert.SgateFwdRefIdeal.nD Cert.SgateFwdRefIdeal.τ).loc Cert.SgateFwdRefIdeal.main_arg4)
          ∧ r.2.mem ((c.tc : Thread Cert.SgateFwdRefIdeal.nD Cert.SgateFwdRefIdeal.τ).loc Cert.SgateFwdRefIdeal.main_arg5) = m' ((c.tc : Thread Cert.SgateFwdRefIdeal.nD Cert.SgateFwdRefIdeal.τ).loc Cert.SgateFwdRefIdeal.main_arg5)
          ∧ r.2.mem ((c.tc : Thread Cert.SgateFwdRefIdeal.nD Cert.SgateFwdRefIdeal.τ).loc Cert.SgateFwdRefIdeal.main_arg6) = m' ((c.tc : Thread Cert.SgateFwdRefIdeal.nD Cert.SgateFwdRefIdeal.τ).loc Cert.SgateFwdRefIdeal.main_arg6)
          ∧ r.2.mem ((c.tc : Thread Cert.SgateFwdRefIdeal.nD Cert.SgateFwdRefIdeal.τ).loc Cert.SgateFwdRefIdeal.main_arg7) = m' ((c.tc : Thread Cert.SgateFwdRefIdeal.nD Cert.SgateFwdRefIdeal.τ).loc Cert.SgateFwdRefIdeal.main_arg7))

def preserves_SgateBwd_SgateBwdIdeal : Prop :=
  True

def algebraic_SgateBwdIdeal_SgateBwdRefIdeal [hSgateBwdIdeal : Cert.SgateBwdIdeal.Facts] [hSgateBwdRefIdeal : Cert.SgateBwdRefIdeal.Facts] : Prop :=
  ∀ (m : (ℓ : Loc Cert.SgateBwdIdeal.nD Cert.SgateBwdIdeal.τ Cert.SgateBwdIdeal.sig) → Buf (Elt Ideal) ℓ) (g : Dev Cert.SgateBwdIdeal.nD → PrngReg)
    (m' : (ℓ : Loc Cert.SgateBwdRefIdeal.nD Cert.SgateBwdRefIdeal.τ Cert.SgateBwdRefIdeal.sig) → Buf (Elt Ideal) ℓ) (g' : Dev Cert.SgateBwdRefIdeal.nD → PrngReg), Pre_SgateBwdIdeal m →
    (∀ c : Dev Cert.SgateBwdIdeal.nD,
      m' ((c.tc : Thread Cert.SgateBwdRefIdeal.nD Cert.SgateBwdRefIdeal.τ).loc Cert.SgateBwdRefIdeal.main_arg0) = m ((c.tc : Thread Cert.SgateBwdIdeal.nD Cert.SgateBwdIdeal.τ).loc Cert.SgateBwdIdeal.main_arg0)
      ∧ m' ((c.tc : Thread Cert.SgateBwdRefIdeal.nD Cert.SgateBwdRefIdeal.τ).loc Cert.SgateBwdRefIdeal.main_arg1) = m ((c.tc : Thread Cert.SgateBwdIdeal.nD Cert.SgateBwdIdeal.τ).loc Cert.SgateBwdIdeal.main_arg1)
      ∧ m' ((c.tc : Thread Cert.SgateBwdRefIdeal.nD Cert.SgateBwdRefIdeal.τ).loc Cert.SgateBwdRefIdeal.main_arg2) = m ((c.tc : Thread Cert.SgateBwdIdeal.nD Cert.SgateBwdIdeal.τ).loc Cert.SgateBwdIdeal.main_arg2)
      ∧ m' ((c.tc : Thread Cert.SgateBwdRefIdeal.nD Cert.SgateBwdRefIdeal.τ).loc Cert.SgateBwdRefIdeal.main_arg3) = m ((c.tc : Thread Cert.SgateBwdIdeal.nD Cert.SgateBwdIdeal.τ).loc Cert.SgateBwdIdeal.main_arg3)
      ∧ m' ((c.tc : Thread Cert.SgateBwdRefIdeal.nD Cert.SgateBwdRefIdeal.τ).loc Cert.SgateBwdRefIdeal.main_arg4) = m ((c.tc : Thread Cert.SgateBwdIdeal.nD Cert.SgateBwdIdeal.τ).loc Cert.SgateBwdIdeal.main_arg4)
      ∧ m' ((c.tc : Thread Cert.SgateBwdRefIdeal.nD Cert.SgateBwdRefIdeal.τ).loc Cert.SgateBwdRefIdeal.main_arg5) = m ((c.tc : Thread Cert.SgateBwdIdeal.nD Cert.SgateBwdIdeal.τ).loc Cert.SgateBwdIdeal.main_arg5)
      ∧ m' ((c.tc : Thread Cert.SgateBwdRefIdeal.nD Cert.SgateBwdRefIdeal.τ).loc Cert.SgateBwdRefIdeal.main_arg6) = m ((c.tc : Thread Cert.SgateBwdIdeal.nD Cert.SgateBwdIdeal.τ).loc Cert.SgateBwdIdeal.main_arg6)
      ∧ m' ((c.tc : Thread Cert.SgateBwdRefIdeal.nD Cert.SgateBwdRefIdeal.τ).loc Cert.SgateBwdRefIdeal.main_arg7) = m ((c.tc : Thread Cert.SgateBwdIdeal.nD Cert.SgateBwdIdeal.τ).loc Cert.SgateBwdIdeal.main_arg7)
      ∧ m' ((c.tc : Thread Cert.SgateBwdRefIdeal.nD Cert.SgateBwdRefIdeal.τ).loc Cert.SgateBwdRefIdeal.main_arg8) = m ((c.tc : Thread Cert.SgateBwdIdeal.nD Cert.SgateBwdIdeal.τ).loc Cert.SgateBwdIdeal.main_arg8)) →
    ∃ (v0 : (c : Dev Cert.SgateBwdIdeal.nD) → Buf (Elt Ideal) ((c.tc : Thread Cert.SgateBwdIdeal.nD Cert.SgateBwdIdeal.τ).loc Cert.SgateBwdIdeal.main_v0_0)) (v1 : (c : Dev Cert.SgateBwdIdeal.nD) → Buf (Elt Ideal) ((c.tc : Thread Cert.SgateBwdIdeal.nD Cert.SgateBwdIdeal.τ).loc Cert.SgateBwdIdeal.main_v0_1)) (v2 : (c : Dev Cert.SgateBwdIdeal.nD) → Buf (Elt Ideal) ((c.tc : Thread Cert.SgateBwdIdeal.nD Cert.SgateBwdIdeal.τ).loc Cert.SgateBwdIdeal.main_v0_2)) (v3 : (c : Dev Cert.SgateBwdIdeal.nD) → Buf (Elt Ideal) ((c.tc : Thread Cert.SgateBwdIdeal.nD Cert.SgateBwdIdeal.τ).loc Cert.SgateBwdIdeal.main_v0_3)) (v4 : (c : Dev Cert.SgateBwdIdeal.nD) → Buf (Elt Ideal) ((c.tc : Thread Cert.SgateBwdIdeal.nD Cert.SgateBwdIdeal.τ).loc Cert.SgateBwdIdeal.main_v0_4)) (v5 : (c : Dev Cert.SgateBwdIdeal.nD) → Buf (Elt Ideal) ((c.tc : Thread Cert.SgateBwdIdeal.nD Cert.SgateBwdIdeal.τ).loc Cert.SgateBwdIdeal.main_v0_5)) (v6 : (c : Dev Cert.SgateBwdIdeal.nD) → Buf (Elt Ideal) ((c.tc : Thread Cert.SgateBwdIdeal.nD Cert.SgateBwdIdeal.τ).loc Cert.SgateBwdIdeal.main_v0_6)) (v7 : (c : Dev Cert.SgateBwdIdeal.nD) → Buf (Elt Ideal) ((c.tc : Thread Cert.SgateBwdIdeal.nD Cert.SgateBwdIdeal.τ).loc Cert.SgateBwdIdeal.main_v0_7)),
      θ_run (Cert.SgateBwdIdeal.defs (F := Ideal)) (onTc (τ := Cert.SgateBwdIdeal.τ) (Cert.SgateBwdIdeal.main (F := Ideal))) ⟨m, fun _ => 0, g⟩ (fun r => ∀ c : Dev Cert.SgateBwdIdeal.nD,
          r.2.mem ((c.tc : Thread Cert.SgateBwdIdeal.nD Cert.SgateBwdIdeal.τ).loc Cert.SgateBwdIdeal.main_v0_0) = v0 c
          ∧ r.2.mem ((c.tc : Thread Cert.SgateBwdIdeal.nD Cert.SgateBwdIdeal.τ).loc Cert.SgateBwdIdeal.main_v0_1) = v1 c
          ∧ r.2.mem ((c.tc : Thread Cert.SgateBwdIdeal.nD Cert.SgateBwdIdeal.τ).loc Cert.SgateBwdIdeal.main_v0_2) = v2 c
          ∧ r.2.mem ((c.tc : Thread Cert.SgateBwdIdeal.nD Cert.SgateBwdIdeal.τ).loc Cert.SgateBwdIdeal.main_v0_3) = v3 c
          ∧ r.2.mem ((c.tc : Thread Cert.SgateBwdIdeal.nD Cert.SgateBwdIdeal.τ).loc Cert.SgateBwdIdeal.main_v0_4) = v4 c
          ∧ r.2.mem ((c.tc : Thread Cert.SgateBwdIdeal.nD Cert.SgateBwdIdeal.τ).loc Cert.SgateBwdIdeal.main_v0_5) = v5 c
          ∧ r.2.mem ((c.tc : Thread Cert.SgateBwdIdeal.nD Cert.SgateBwdIdeal.τ).loc Cert.SgateBwdIdeal.main_v0_6) = v6 c
          ∧ r.2.mem ((c.tc : Thread Cert.SgateBwdIdeal.nD Cert.SgateBwdIdeal.τ).loc Cert.SgateBwdIdeal.main_v0_7) = v7 c
          ∧ r.2.mem ((c.tc : Thread Cert.SgateBwdIdeal.nD Cert.SgateBwdIdeal.τ).loc Cert.SgateBwdIdeal.main_arg0) = m ((c.tc : Thread Cert.SgateBwdIdeal.nD Cert.SgateBwdIdeal.τ).loc Cert.SgateBwdIdeal.main_arg0)
          ∧ r.2.mem ((c.tc : Thread Cert.SgateBwdIdeal.nD Cert.SgateBwdIdeal.τ).loc Cert.SgateBwdIdeal.main_arg1) = m ((c.tc : Thread Cert.SgateBwdIdeal.nD Cert.SgateBwdIdeal.τ).loc Cert.SgateBwdIdeal.main_arg1)
          ∧ r.2.mem ((c.tc : Thread Cert.SgateBwdIdeal.nD Cert.SgateBwdIdeal.τ).loc Cert.SgateBwdIdeal.main_arg2) = m ((c.tc : Thread Cert.SgateBwdIdeal.nD Cert.SgateBwdIdeal.τ).loc Cert.SgateBwdIdeal.main_arg2)
          ∧ r.2.mem ((c.tc : Thread Cert.SgateBwdIdeal.nD Cert.SgateBwdIdeal.τ).loc Cert.SgateBwdIdeal.main_arg3) = m ((c.tc : Thread Cert.SgateBwdIdeal.nD Cert.SgateBwdIdeal.τ).loc Cert.SgateBwdIdeal.main_arg3)
          ∧ r.2.mem ((c.tc : Thread Cert.SgateBwdIdeal.nD Cert.SgateBwdIdeal.τ).loc Cert.SgateBwdIdeal.main_arg4) = m ((c.tc : Thread Cert.SgateBwdIdeal.nD Cert.SgateBwdIdeal.τ).loc Cert.SgateBwdIdeal.main_arg4)
          ∧ r.2.mem ((c.tc : Thread Cert.SgateBwdIdeal.nD Cert.SgateBwdIdeal.τ).loc Cert.SgateBwdIdeal.main_arg5) = m ((c.tc : Thread Cert.SgateBwdIdeal.nD Cert.SgateBwdIdeal.τ).loc Cert.SgateBwdIdeal.main_arg5)
          ∧ r.2.mem ((c.tc : Thread Cert.SgateBwdIdeal.nD Cert.SgateBwdIdeal.τ).loc Cert.SgateBwdIdeal.main_arg6) = m ((c.tc : Thread Cert.SgateBwdIdeal.nD Cert.SgateBwdIdeal.τ).loc Cert.SgateBwdIdeal.main_arg6)
          ∧ r.2.mem ((c.tc : Thread Cert.SgateBwdIdeal.nD Cert.SgateBwdIdeal.τ).loc Cert.SgateBwdIdeal.main_arg7) = m ((c.tc : Thread Cert.SgateBwdIdeal.nD Cert.SgateBwdIdeal.τ).loc Cert.SgateBwdIdeal.main_arg7)
          ∧ r.2.mem ((c.tc : Thread Cert.SgateBwdIdeal.nD Cert.SgateBwdIdeal.τ).loc Cert.SgateBwdIdeal.main_arg8) = m ((c.tc : Thread Cert.SgateBwdIdeal.nD Cert.SgateBwdIdeal.τ).loc Cert.SgateBwdIdeal.main_arg8))
      ∧ θ_run (Cert.SgateBwdRefIdeal.defs (F := Ideal)) (onTc (τ := Cert.SgateBwdRefIdeal.τ) (Cert.SgateBwdRefIdeal.main (F := Ideal))) ⟨m', fun _ => 0, g'⟩ (fun r => ∀ c : Dev Cert.SgateBwdRefIdeal.nD,
          r.2.mem ((c.tc : Thread Cert.SgateBwdRefIdeal.nD Cert.SgateBwdRefIdeal.τ).loc Cert.SgateBwdRefIdeal.main_v134) = v0 c
          ∧ r.2.mem ((c.tc : Thread Cert.SgateBwdRefIdeal.nD Cert.SgateBwdRefIdeal.τ).loc Cert.SgateBwdRefIdeal.main_v122) = v1 c
          ∧ r.2.mem ((c.tc : Thread Cert.SgateBwdRefIdeal.nD Cert.SgateBwdRefIdeal.τ).loc Cert.SgateBwdRefIdeal.main_v109) = v2 c
          ∧ r.2.mem ((c.tc : Thread Cert.SgateBwdRefIdeal.nD Cert.SgateBwdRefIdeal.τ).loc Cert.SgateBwdRefIdeal.main_v85) = v3 c
          ∧ r.2.mem ((c.tc : Thread Cert.SgateBwdRefIdeal.nD Cert.SgateBwdRefIdeal.τ).loc Cert.SgateBwdRefIdeal.main_v80) = v4 c
          ∧ r.2.mem ((c.tc : Thread Cert.SgateBwdRefIdeal.nD Cert.SgateBwdRefIdeal.τ).loc Cert.SgateBwdRefIdeal.main_v81) = v5 c
          ∧ r.2.mem ((c.tc : Thread Cert.SgateBwdRefIdeal.nD Cert.SgateBwdRefIdeal.τ).loc Cert.SgateBwdRefIdeal.main_v82) = v6 c
          ∧ r.2.mem ((c.tc : Thread Cert.SgateBwdRefIdeal.nD Cert.SgateBwdRefIdeal.τ).loc Cert.SgateBwdRefIdeal.main_v83) = v7 c
          ∧ r.2.mem ((c.tc : Thread Cert.SgateBwdRefIdeal.nD Cert.SgateBwdRefIdeal.τ).loc Cert.SgateBwdRefIdeal.main_arg0) = m' ((c.tc : Thread Cert.SgateBwdRefIdeal.nD Cert.SgateBwdRefIdeal.τ).loc Cert.SgateBwdRefIdeal.main_arg0)
          ∧ r.2.mem ((c.tc : Thread Cert.SgateBwdRefIdeal.nD Cert.SgateBwdRefIdeal.τ).loc Cert.SgateBwdRefIdeal.main_arg1) = m' ((c.tc : Thread Cert.SgateBwdRefIdeal.nD Cert.SgateBwdRefIdeal.τ).loc Cert.SgateBwdRefIdeal.main_arg1)
          ∧ r.2.mem ((c.tc : Thread Cert.SgateBwdRefIdeal.nD Cert.SgateBwdRefIdeal.τ).loc Cert.SgateBwdRefIdeal.main_arg2) = m' ((c.tc : Thread Cert.SgateBwdRefIdeal.nD Cert.SgateBwdRefIdeal.τ).loc Cert.SgateBwdRefIdeal.main_arg2)
          ∧ r.2.mem ((c.tc : Thread Cert.SgateBwdRefIdeal.nD Cert.SgateBwdRefIdeal.τ).loc Cert.SgateBwdRefIdeal.main_arg3) = m' ((c.tc : Thread Cert.SgateBwdRefIdeal.nD Cert.SgateBwdRefIdeal.τ).loc Cert.SgateBwdRefIdeal.main_arg3)
          ∧ r.2.mem ((c.tc : Thread Cert.SgateBwdRefIdeal.nD Cert.SgateBwdRefIdeal.τ).loc Cert.SgateBwdRefIdeal.main_arg4) = m' ((c.tc : Thread Cert.SgateBwdRefIdeal.nD Cert.SgateBwdRefIdeal.τ).loc Cert.SgateBwdRefIdeal.main_arg4)
          ∧ r.2.mem ((c.tc : Thread Cert.SgateBwdRefIdeal.nD Cert.SgateBwdRefIdeal.τ).loc Cert.SgateBwdRefIdeal.main_arg5) = m' ((c.tc : Thread Cert.SgateBwdRefIdeal.nD Cert.SgateBwdRefIdeal.τ).loc Cert.SgateBwdRefIdeal.main_arg5)
          ∧ r.2.mem ((c.tc : Thread Cert.SgateBwdRefIdeal.nD Cert.SgateBwdRefIdeal.τ).loc Cert.SgateBwdRefIdeal.main_arg6) = m' ((c.tc : Thread Cert.SgateBwdRefIdeal.nD Cert.SgateBwdRefIdeal.τ).loc Cert.SgateBwdRefIdeal.main_arg6)
          ∧ r.2.mem ((c.tc : Thread Cert.SgateBwdRefIdeal.nD Cert.SgateBwdRefIdeal.τ).loc Cert.SgateBwdRefIdeal.main_arg7) = m' ((c.tc : Thread Cert.SgateBwdRefIdeal.nD Cert.SgateBwdRefIdeal.τ).loc Cert.SgateBwdRefIdeal.main_arg7)
          ∧ r.2.mem ((c.tc : Thread Cert.SgateBwdRefIdeal.nD Cert.SgateBwdRefIdeal.τ).loc Cert.SgateBwdRefIdeal.main_arg8) = m' ((c.tc : Thread Cert.SgateBwdRefIdeal.nD Cert.SgateBwdRefIdeal.τ).loc Cert.SgateBwdRefIdeal.main_arg8))

def Claim : Prop :=
  ∃ (hKernel : Cert.Kernel.Facts) (hKernelIdeal : Cert.KernelIdeal.Facts) (hReferenceIdeal : Cert.ReferenceIdeal.Facts) (hUpGradA : Cert.UpGradA.Facts) (hUpGradAIdeal : Cert.UpGradAIdeal.Facts) (hUpGradARefIdeal : Cert.UpGradARefIdeal.Facts) (hUpGradW : Cert.UpGradW.Facts) (hUpGradWIdeal : Cert.UpGradWIdeal.Facts) (hUpGradWRefIdeal : Cert.UpGradWRefIdeal.Facts) (hDownGradA : Cert.DownGradA.Facts) (hDownGradAIdeal : Cert.DownGradAIdeal.Facts) (hDownGradARefIdeal : Cert.DownGradARefIdeal.Facts) (hDownGradW : Cert.DownGradW.Facts) (hDownGradWIdeal : Cert.DownGradWIdeal.Facts) (hDownGradWRefIdeal : Cert.DownGradWRefIdeal.Facts) (hInGradA : Cert.InGradA.Facts) (hInGradAIdeal : Cert.InGradAIdeal.Facts) (hInGradARefIdeal : Cert.InGradARefIdeal.Facts) (hInGradW : Cert.InGradW.Facts) (hInGradWIdeal : Cert.InGradWIdeal.Facts) (hInGradWRefIdeal : Cert.InGradWRefIdeal.Facts) (hOutGradA : Cert.OutGradA.Facts) (hOutGradAIdeal : Cert.OutGradAIdeal.Facts) (hOutGradARefIdeal : Cert.OutGradARefIdeal.Facts) (hOutGradW : Cert.OutGradW.Facts) (hOutGradWIdeal : Cert.OutGradWIdeal.Facts) (hOutGradWRefIdeal : Cert.OutGradWRefIdeal.Facts) (hUpFwd : Cert.UpFwd.Facts) (hUpFwdIdeal : Cert.UpFwdIdeal.Facts) (hUpFwdRefIdeal : Cert.UpFwdRefIdeal.Facts) (hDownFwd : Cert.DownFwd.Facts) (hDownFwdIdeal : Cert.DownFwdIdeal.Facts) (hDownFwdRefIdeal : Cert.DownFwdRefIdeal.Facts) (hInFwd : Cert.InFwd.Facts) (hInFwdIdeal : Cert.InFwdIdeal.Facts) (hInFwdRefIdeal : Cert.InFwdRefIdeal.Facts) (hOutFwd : Cert.OutFwd.Facts) (hOutFwdIdeal : Cert.OutFwdIdeal.Facts) (hOutFwdRefIdeal : Cert.OutFwdRefIdeal.Facts) (hAttnFwd : Cert.AttnFwd.Facts) (hAttnFwdIdeal : Cert.AttnFwdIdeal.Facts) (hAttnFwdRefIdeal : Cert.AttnFwdRefIdeal.Facts) (hConvBwd : Cert.ConvBwd.Facts) (hConvBwdIdeal : Cert.ConvBwdIdeal.Facts) (hConvBwdRefIdeal : Cert.ConvBwdRefIdeal.Facts) (hConvFwd : Cert.ConvFwd.Facts) (hConvFwdIdeal : Cert.ConvFwdIdeal.Facts) (hConvFwdRefIdeal : Cert.ConvFwdRefIdeal.Facts) (hHgGateBwd : Cert.HgGateBwd.Facts) (hHgGateBwdIdeal : Cert.HgGateBwdIdeal.Facts) (hHgGateBwdRefIdeal : Cert.HgGateBwdRefIdeal.Facts) (hFinalBwd : Cert.FinalBwd.Facts) (hFinalBwdIdeal : Cert.FinalBwdIdeal.Facts) (hFinalBwdRefIdeal : Cert.FinalBwdRefIdeal.Facts) (hHgGateFwd : Cert.HgGateFwd.Facts) (hHgGateFwdIdeal : Cert.HgGateFwdIdeal.Facts) (hHgGateFwdRefIdeal : Cert.HgGateFwdRefIdeal.Facts) (hFinalFwd : Cert.FinalFwd.Facts) (hFinalFwdIdeal : Cert.FinalFwdIdeal.Facts) (hFinalFwdRefIdeal : Cert.FinalFwdRefIdeal.Facts) (hResidFwd : Cert.ResidFwd.Facts) (hResidFwdIdeal : Cert.ResidFwdIdeal.Facts) (hResidFwdRefIdeal : Cert.ResidFwdRefIdeal.Facts) (hModNormFwd : Cert.ModNormFwd.Facts) (hModNormFwdIdeal : Cert.ModNormFwdIdeal.Facts) (hModNormFwdRefIdeal : Cert.ModNormFwdRefIdeal.Facts) (hQkBwd : Cert.QkBwd.Facts) (hQkBwdIdeal : Cert.QkBwdIdeal.Facts) (hQkBwdRefIdeal : Cert.QkBwdRefIdeal.Facts) (hQkFwd : Cert.QkFwd.Facts) (hQkFwdIdeal : Cert.QkFwdIdeal.Facts) (hQkFwdRefIdeal : Cert.QkFwdRefIdeal.Facts) (hSgateFwd : Cert.SgateFwd.Facts) (hSgateFwdIdeal : Cert.SgateFwdIdeal.Facts) (hSgateFwdRefIdeal : Cert.SgateFwdRefIdeal.Facts) (hSgateBwd : Cert.SgateBwd.Facts) (hSgateBwdIdeal : Cert.SgateBwdIdeal.Facts) (hSgateBwdRefIdeal : Cert.SgateBwdRefIdeal.Facts) (hPre_finite : Cert.Pre_finite.Facts) (hPre_finite_qkv : Cert.Pre_finite_qkv.Facts) (hPre_finite_conv : Cert.Pre_finite_conv.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpGradA (hUpGradA := hUpGradA)
    ∧ quiescent_UpGradAIdeal (hUpGradAIdeal := hUpGradAIdeal)
    ∧ quiescent_UpGradARefIdeal (hUpGradARefIdeal := hUpGradARefIdeal)
    ∧ quiescent_UpGradW (hUpGradW := hUpGradW)
    ∧ quiescent_UpGradWIdeal (hUpGradWIdeal := hUpGradWIdeal)
    ∧ quiescent_UpGradWRefIdeal (hUpGradWRefIdeal := hUpGradWRefIdeal)
    ∧ quiescent_DownGradA (hDownGradA := hDownGradA)
    ∧ quiescent_DownGradAIdeal (hDownGradAIdeal := hDownGradAIdeal)
    ∧ quiescent_DownGradARefIdeal (hDownGradARefIdeal := hDownGradARefIdeal)
    ∧ quiescent_DownGradW (hDownGradW := hDownGradW)
    ∧ quiescent_DownGradWIdeal (hDownGradWIdeal := hDownGradWIdeal)
    ∧ quiescent_DownGradWRefIdeal (hDownGradWRefIdeal := hDownGradWRefIdeal)
    ∧ quiescent_InGradA (hInGradA := hInGradA)
    ∧ quiescent_InGradAIdeal (hInGradAIdeal := hInGradAIdeal)
    ∧ quiescent_InGradARefIdeal (hInGradARefIdeal := hInGradARefIdeal)
    ∧ quiescent_InGradW (hInGradW := hInGradW)
    ∧ quiescent_InGradWIdeal (hInGradWIdeal := hInGradWIdeal)
    ∧ quiescent_InGradWRefIdeal (hInGradWRefIdeal := hInGradWRefIdeal)
    ∧ quiescent_OutGradA (hOutGradA := hOutGradA)
    ∧ quiescent_OutGradAIdeal (hOutGradAIdeal := hOutGradAIdeal)
    ∧ quiescent_OutGradARefIdeal (hOutGradARefIdeal := hOutGradARefIdeal)
    ∧ quiescent_OutGradW (hOutGradW := hOutGradW)
    ∧ quiescent_OutGradWIdeal (hOutGradWIdeal := hOutGradWIdeal)
    ∧ quiescent_OutGradWRefIdeal (hOutGradWRefIdeal := hOutGradWRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_AttnFwd (hAttnFwd := hAttnFwd)
    ∧ quiescent_AttnFwdIdeal (hAttnFwdIdeal := hAttnFwdIdeal)
    ∧ quiescent_AttnFwdIdeal_pre_finite_qkv (hAttnFwdIdeal := hAttnFwdIdeal) (hPre_finite_qkv := hPre_finite_qkv)
    ∧ quiescent_AttnFwdRefIdeal (hAttnFwdRefIdeal := hAttnFwdRefIdeal)
    ∧ quiescent_AttnFwdRefIdeal_pre_finite_qkv (hAttnFwdRefIdeal := hAttnFwdRefIdeal) (hPre_finite_qkv := hPre_finite_qkv)
    ∧ quiescent_ConvBwd (hConvBwd := hConvBwd)
    ∧ quiescent_ConvBwdIdeal (hConvBwdIdeal := hConvBwdIdeal)
    ∧ quiescent_ConvBwdIdeal_pre_finite_conv (hConvBwdIdeal := hConvBwdIdeal) (hPre_finite_conv := hPre_finite_conv)
    ∧ quiescent_ConvBwdRefIdeal (hConvBwdRefIdeal := hConvBwdRefIdeal)
    ∧ quiescent_ConvBwdRefIdeal_pre_finite_conv (hConvBwdRefIdeal := hConvBwdRefIdeal) (hPre_finite_conv := hPre_finite_conv)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_HgGateBwd (hHgGateBwd := hHgGateBwd)
    ∧ quiescent_HgGateBwdIdeal (hHgGateBwdIdeal := hHgGateBwdIdeal)
    ∧ quiescent_HgGateBwdRefIdeal (hHgGateBwdRefIdeal := hHgGateBwdRefIdeal)
    ∧ quiescent_FinalBwd (hFinalBwd := hFinalBwd)
    ∧ quiescent_FinalBwdIdeal (hFinalBwdIdeal := hFinalBwdIdeal)
    ∧ quiescent_FinalBwdRefIdeal (hFinalBwdRefIdeal := hFinalBwdRefIdeal)
    ∧ quiescent_HgGateFwd (hHgGateFwd := hHgGateFwd)
    ∧ quiescent_HgGateFwdIdeal (hHgGateFwdIdeal := hHgGateFwdIdeal)
    ∧ quiescent_HgGateFwdRefIdeal (hHgGateFwdRefIdeal := hHgGateFwdRefIdeal)
    ∧ quiescent_FinalFwd (hFinalFwd := hFinalFwd)
    ∧ quiescent_FinalFwdIdeal (hFinalFwdIdeal := hFinalFwdIdeal)
    ∧ quiescent_FinalFwdRefIdeal (hFinalFwdRefIdeal := hFinalFwdRefIdeal)
    ∧ quiescent_ResidFwd (hResidFwd := hResidFwd)
    ∧ quiescent_ResidFwdIdeal (hResidFwdIdeal := hResidFwdIdeal)
    ∧ quiescent_ResidFwdRefIdeal (hResidFwdRefIdeal := hResidFwdRefIdeal)
    ∧ quiescent_ModNormFwd (hModNormFwd := hModNormFwd)
    ∧ quiescent_ModNormFwdIdeal (hModNormFwdIdeal := hModNormFwdIdeal)
    ∧ quiescent_ModNormFwdRefIdeal (hModNormFwdRefIdeal := hModNormFwdRefIdeal)
    ∧ quiescent_QkBwd (hQkBwd := hQkBwd)
    ∧ quiescent_QkBwdIdeal (hQkBwdIdeal := hQkBwdIdeal)
    ∧ quiescent_QkBwdRefIdeal (hQkBwdRefIdeal := hQkBwdRefIdeal)
    ∧ quiescent_QkFwd (hQkFwd := hQkFwd)
    ∧ quiescent_QkFwdIdeal (hQkFwdIdeal := hQkFwdIdeal)
    ∧ quiescent_QkFwdRefIdeal (hQkFwdRefIdeal := hQkFwdRefIdeal)
    ∧ quiescent_SgateFwd (hSgateFwd := hSgateFwd)
    ∧ quiescent_SgateFwdIdeal (hSgateFwdIdeal := hSgateFwdIdeal)
    ∧ quiescent_SgateFwdRefIdeal (hSgateFwdRefIdeal := hSgateFwdRefIdeal)
    ∧ quiescent_SgateBwd (hSgateBwd := hSgateBwd)
    ∧ quiescent_SgateBwdIdeal (hSgateBwdIdeal := hSgateBwdIdeal)
    ∧ quiescent_SgateBwdRefIdeal (hSgateBwdRefIdeal := hSgateBwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpGradA_UpGradAIdeal
    ∧ algebraic_UpGradAIdeal_UpGradARefIdeal (hUpGradAIdeal := hUpGradAIdeal) (hUpGradARefIdeal := hUpGradARefIdeal)
    ∧ preserves_UpGradW_UpGradWIdeal
    ∧ algebraic_UpGradWIdeal_UpGradWRefIdeal (hUpGradWIdeal := hUpGradWIdeal) (hUpGradWRefIdeal := hUpGradWRefIdeal)
    ∧ preserves_DownGradA_DownGradAIdeal
    ∧ algebraic_DownGradAIdeal_DownGradARefIdeal (hDownGradAIdeal := hDownGradAIdeal) (hDownGradARefIdeal := hDownGradARefIdeal)
    ∧ preserves_DownGradW_DownGradWIdeal
    ∧ algebraic_DownGradWIdeal_DownGradWRefIdeal (hDownGradWIdeal := hDownGradWIdeal) (hDownGradWRefIdeal := hDownGradWRefIdeal)
    ∧ preserves_InGradA_InGradAIdeal
    ∧ algebraic_InGradAIdeal_InGradARefIdeal (hInGradAIdeal := hInGradAIdeal) (hInGradARefIdeal := hInGradARefIdeal)
    ∧ preserves_InGradW_InGradWIdeal
    ∧ algebraic_InGradWIdeal_InGradWRefIdeal (hInGradWIdeal := hInGradWIdeal) (hInGradWRefIdeal := hInGradWRefIdeal)
    ∧ preserves_OutGradA_OutGradAIdeal
    ∧ algebraic_OutGradAIdeal_OutGradARefIdeal (hOutGradAIdeal := hOutGradAIdeal) (hOutGradARefIdeal := hOutGradARefIdeal)
    ∧ preserves_OutGradW_OutGradWIdeal
    ∧ algebraic_OutGradWIdeal_OutGradWRefIdeal (hOutGradWIdeal := hOutGradWIdeal) (hOutGradWRefIdeal := hOutGradWRefIdeal)
    ∧ preserves_UpFwd_UpFwdIdeal
    ∧ algebraic_UpFwdIdeal_UpFwdRefIdeal (hUpFwdIdeal := hUpFwdIdeal) (hUpFwdRefIdeal := hUpFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_InFwd_InFwdIdeal
    ∧ algebraic_InFwdIdeal_InFwdRefIdeal (hInFwdIdeal := hInFwdIdeal) (hInFwdRefIdeal := hInFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_AttnFwd_AttnFwdIdeal
    ∧ algebraic_AttnFwdIdeal_AttnFwdRefIdeal_pre_finite_qkv (hAttnFwdIdeal := hAttnFwdIdeal) (hAttnFwdRefIdeal := hAttnFwdRefIdeal) (hPre_finite_qkv := hPre_finite_qkv)
    ∧ preserves_ConvBwd_ConvBwdIdeal
    ∧ algebraic_ConvBwdIdeal_ConvBwdRefIdeal_pre_finite_conv (hConvBwdIdeal := hConvBwdIdeal) (hConvBwdRefIdeal := hConvBwdRefIdeal) (hPre_finite_conv := hPre_finite_conv)
    ∧ preserves_ConvFwd_ConvFwdIdeal
    ∧ algebraic_ConvFwdIdeal_ConvFwdRefIdeal (hConvFwdIdeal := hConvFwdIdeal) (hConvFwdRefIdeal := hConvFwdRefIdeal)
    ∧ preserves_HgGateBwd_HgGateBwdIdeal
    ∧ algebraic_HgGateBwdIdeal_HgGateBwdRefIdeal (hHgGateBwdIdeal := hHgGateBwdIdeal) (hHgGateBwdRefIdeal := hHgGateBwdRefIdeal)
    ∧ preserves_FinalBwd_FinalBwdIdeal
    ∧ algebraic_FinalBwdIdeal_FinalBwdRefIdeal (hFinalBwdIdeal := hFinalBwdIdeal) (hFinalBwdRefIdeal := hFinalBwdRefIdeal)
    ∧ preserves_HgGateFwd_HgGateFwdIdeal
    ∧ algebraic_HgGateFwdIdeal_HgGateFwdRefIdeal (hHgGateFwdIdeal := hHgGateFwdIdeal) (hHgGateFwdRefIdeal := hHgGateFwdRefIdeal)
    ∧ preserves_FinalFwd_FinalFwdIdeal
    ∧ algebraic_FinalFwdIdeal_FinalFwdRefIdeal (hFinalFwdIdeal := hFinalFwdIdeal) (hFinalFwdRefIdeal := hFinalFwdRefIdeal)
    ∧ preserves_ResidFwd_ResidFwdIdeal
    ∧ algebraic_ResidFwdIdeal_ResidFwdRefIdeal (hResidFwdIdeal := hResidFwdIdeal) (hResidFwdRefIdeal := hResidFwdRefIdeal)
    ∧ preserves_ModNormFwd_ModNormFwdIdeal
    ∧ algebraic_ModNormFwdIdeal_ModNormFwdRefIdeal (hModNormFwdIdeal := hModNormFwdIdeal) (hModNormFwdRefIdeal := hModNormFwdRefIdeal)
    ∧ preserves_QkBwd_QkBwdIdeal
    ∧ algebraic_QkBwdIdeal_QkBwdRefIdeal (hQkBwdIdeal := hQkBwdIdeal) (hQkBwdRefIdeal := hQkBwdRefIdeal)
    ∧ preserves_QkFwd_QkFwdIdeal
    ∧ algebraic_QkFwdIdeal_QkFwdRefIdeal (hQkFwdIdeal := hQkFwdIdeal) (hQkFwdRefIdeal := hQkFwdRefIdeal)
    ∧ preserves_SgateFwd_SgateFwdIdeal
    ∧ algebraic_SgateFwdIdeal_SgateFwdRefIdeal (hSgateFwdIdeal := hSgateFwdIdeal) (hSgateFwdRefIdeal := hSgateFwdRefIdeal)
    ∧ preserves_SgateBwd_SgateBwdIdeal
    ∧ algebraic_SgateBwdIdeal_SgateBwdRefIdeal (hSgateBwdIdeal := hSgateBwdIdeal) (hSgateBwdRefIdeal := hSgateBwdRefIdeal)
-- ==== Pre_finite.lean ====
abbrev S4352x1024 : Shape := ⟨2, ![4352, 1024]⟩
abbrev S4352x256 : Shape := ⟨2, ![4352, 256]⟩
abbrev S4352x2560 : Shape := ⟨2, ![4352, 2560]⟩
abbrev S_ : Shape := ⟨0, ![]⟩

class Facts : Prop where
  concatenates_S4352x1024_S4352x256_S4352x256_S4352x1024_S4352x2560_d1 : Shape.Concatenates [S4352x1024, S4352x256, S4352x256, S4352x1024] S4352x2560 1
  bitsLt_bf16_f32 : FTy.bits .bf16 < FTy.bits .f32
  bcast_S_S4352x2560 : S_.BroadcastsInDim S4352x2560 (![] : Fin 0 → Fin S4352x2560.rank)

variable [Facts]

def fn {F : FTy → Type} [FloatOps F] (main_arg0 : FVec F S4352x1024 .bf16) (main_arg1 : FVec F S4352x256 .bf16) (main_arg2 : FVec F S4352x256 .bf16) (main_arg3 : FVec F S4352x1024 .bf16) : IVec S4352x2560 1 :=
  let main_v0 : FVec F S4352x2560 .bf16 := concatenate S4352x2560 1 [⟨S4352x1024, main_arg0⟩, ⟨S4352x256, main_arg1⟩, ⟨S4352x256, main_arg2⟩, ⟨S4352x1024, main_arg3⟩] concatenates_S4352x1024_S4352x256_S4352x256_S4352x1024_S4352x2560_d1
  let main_v1 : FVec F S4352x2560 .f32 := (extf .f32 · bitsLt_bf16_f32) main_v0
  let main_v2 : FVec F S4352x2560 .f32 := Host.absf main_v1
  let main_cst : FVec F S_ .f32 := constant S_ .f32 0x7F800000#32
  let main_v3 : FVec F S4352x2560 .f32 := broadcastInDim S4352x2560 ![] bcast_S_S4352x2560 main_cst
  let main_v4 : IVec S4352x2560 1 := cmpf .olt main_v2 main_v3
  main_v4
-- ==== Pre_finite_conv.lean ====
abbrev S4352x11264 : Shape := ⟨2, ![4352, 11264]⟩
abbrev S3x11264 : Shape := ⟨2, ![3, 11264]⟩
abbrev S1x11264 : Shape := ⟨2, ![1, 11264]⟩
abbrev S4352x5632 : Shape := ⟨2, ![4352, 5632]⟩
abbrev S8708x11264 : Shape := ⟨2, ![8708, 11264]⟩
abbrev S_ : Shape := ⟨0, ![]⟩

class Facts : Prop where
  bitsLt_bf16_f32 : FTy.bits .bf16 < FTy.bits .f32
  concatenates_S4352x5632_S4352x5632_S4352x11264_d1 : Shape.Concatenates [S4352x5632, S4352x5632] S4352x11264 1
  concatenates_S4352x11264_S3x11264_S1x11264_S4352x11264_S8708x11264_d0 : Shape.Concatenates [S4352x11264, S3x11264, S1x11264, S4352x11264] S8708x11264 0
  bcast_S_S8708x11264 : S_.BroadcastsInDim S8708x11264 (![] : Fin 0 → Fin S8708x11264.rank)

variable [Facts]

def fn {F : FTy → Type} [FloatOps F] (main_arg0 : FVec F S4352x11264 .bf16) (main_arg1 : FVec F S3x11264 .f32) (main_arg2 : FVec F S1x11264 .f32) (main_arg3 : FVec F S4352x5632 .bf16) : IVec S8708x11264 1 :=
  let main_v0 : FVec F S4352x11264 .f32 := (extf .f32 · bitsLt_bf16_f32) main_arg0
  let main_v1 : FVec F S4352x11264 .bf16 := (fun a b => concatenate S4352x11264 1 [⟨S4352x5632, a⟩, ⟨S4352x5632, b⟩] concatenates_S4352x5632_S4352x5632_S4352x11264_d1) main_arg3 main_arg3
  let main_v2 : FVec F S4352x11264 .f32 := (extf .f32 · bitsLt_bf16_f32) main_v1
  let main_v3 : FVec F S8708x11264 .f32 := concatenate S8708x11264 0 [⟨S4352x11264, main_v0⟩, ⟨S3x11264, main_arg1⟩, ⟨S1x11264, main_arg2⟩, ⟨S4352x11264, main_v2⟩] concatenates_S4352x11264_S3x11264_S1x11264_S4352x11264_S8708x11264_d0
  let main_v4 : FVec F S8708x11264 .f32 := Host.absf main_v3
  let main_cst : FVec F S_ .f32 := constant S_ .f32 0x7F800000#32
  let main_v5 : FVec F S8708x11264 .f32 := broadcastInDim S8708x11264 ![] bcast_S_S8708x11264 main_cst
  let main_v6 : IVec S8708x11264 1 := cmpf .olt main_v4 main_v5
  main_v6
-- ==== Pre_finite_qkv.lean ====
abbrev S4352x1024 : Shape := ⟨2, ![4352, 1024]⟩
abbrev S4352x256 : Shape := ⟨2, ![4352, 256]⟩
abbrev S4352x1536 : Shape := ⟨2, ![4352, 1536]⟩
abbrev S_ : Shape := ⟨0, ![]⟩

class Facts : Prop where
  concatenates_S4352x1024_S4352x256_S4352x256_S4352x1536_d1 : Shape.Concatenates [S4352x1024, S4352x256, S4352x256] S4352x1536 1
  bitsLt_bf16_f32 : FTy.bits .bf16 < FTy.bits .f32
  bcast_S_S4352x1536 : S_.BroadcastsInDim S4352x1536 (![] : Fin 0 → Fin S4352x1536.rank)

variable [Facts]

def fn {F : FTy → Type} [FloatOps F] (main_arg0 : FVec F S4352x1024 .bf16) (main_arg1 : FVec F S4352x256 .bf16) (main_arg2 : FVec F S4352x256 .bf16) : IVec S4352x1536 1 :=
  let main_v0 : FVec F S4352x1536 .bf16 := concatenate S4352x1536 1 [⟨S4352x1024, main_arg0⟩, ⟨S4352x256, main_arg1⟩, ⟨S4352x256, main_arg2⟩] concatenates_S4352x1024_S4352x256_S4352x256_S4352x1536_d1
  let main_v1 : FVec F S4352x1536 .f32 := (extf .f32 · bitsLt_bf16_f32) main_v0
  let main_v2 : FVec F S4352x1536 .f32 := Host.absf main_v1
  let main_cst : FVec F S_ .f32 := constant S_ .f32 0x7F800000#32
  let main_v3 : FVec F S4352x1536 .f32 := broadcastInDim S4352x1536 ![] bcast_S_S4352x1536 main_cst
  let main_v4 : IVec S4352x1536 1 := cmpf .olt main_v2 main_v3
  main_v4
-- ==== Kernel.lean ====
abbrev S4352x1024 : Shape := ⟨2, ![4352, 1024]⟩
abbrev S4352x256 : Shape := ⟨2, ![4352, 256]⟩
abbrev S4352x2x4x128 : Shape := ⟨4, ![4352, 2, 4, 128]⟩
abbrev S4352x2x128 : Shape := ⟨3, ![4352, 2, 128]⟩
abbrev S4096x2x4x128 : Shape := ⟨4, ![4096, 2, 4, 128]⟩
abbrev S2x4352x4096x4 : Shape := ⟨4, ![2, 4352, 4096, 4]⟩
abbrev S2x4x4096x4352 : Shape := ⟨4, ![2, 4, 4096, 4352]⟩
abbrev S_ : Shape := ⟨0, ![]⟩
abbrev S2x4x4096 : Shape := ⟨3, ![2, 4, 4096]⟩
abbrev S2x4x4096x1 : Shape := ⟨4, ![2, 4, 4096, 1]⟩
abbrev S256x2x4x128 : Shape := ⟨4, ![256, 2, 4, 128]⟩
abbrev S256x2x128 : Shape := ⟨3, ![256, 2, 128]⟩
abbrev S2x256x256x4 : Shape := ⟨4, ![2, 256, 256, 4]⟩
abbrev S2x4x256x256 : Shape := ⟨4, ![2, 4, 256, 256]⟩
abbrev S2x4x256 : Shape := ⟨3, ![2, 4, 256]⟩
abbrev S2x4x256x1 : Shape := ⟨4, ![2, 4, 256, 1]⟩
abbrev S2x4x4352x1 : Shape := ⟨4, ![2, 4, 4352, 1]⟩
abbrev S8x4352x1 : Shape := ⟨3, ![8, 4352, 1]⟩
abbrev S256x128 : Shape := ⟨2, ![256, 128]⟩
abbrev S4352x128 : Shape := ⟨2, ![4352, 128]⟩
abbrev S1x256x1 : Shape := ⟨3, ![1, 256, 1]⟩
abbrev S256x4352 : Shape := ⟨2, ![256, 4352]⟩
abbrev S256x1 : Shape := ⟨2, ![256, 1]⟩
abbrev S256 : Shape := ⟨1, ![256]⟩
abbrev S256x256 : Shape := ⟨2, ![256, 256]⟩

abbrev nBuf : Space → Nat
  | .hbm => 48
  | .vmem => 16
  | .smem => 0
  | _ => 0

abbrev bufTy : (tb : Table) → Fin (tcTables nBuf tb) → BufTy
  | .hbm, ⟨0, _⟩ => ⟨S4352x1024, .bf16⟩
  | .hbm, ⟨1, _⟩ => ⟨S4352x256, .bf16⟩
  | .hbm, ⟨2, _⟩ => ⟨S4352x256, .bf16⟩
  | .hbm, ⟨3, _⟩ => ⟨S4352x1024, .bf16⟩
  | .hbm, ⟨4, _⟩ => ⟨S4352x1024, .f32⟩
  | .hbm, ⟨5, _⟩ => ⟨S4352x2x4x128, .f32⟩
  | .hbm, ⟨6, _⟩ => ⟨S4352x256, .f32⟩
  | .hbm, ⟨7, _⟩ => ⟨S4352x2x128, .f32⟩
  | .hbm, ⟨8, _⟩ => ⟨S4096x2x4x128, .f32⟩
  | .hbm, ⟨9, _⟩ => ⟨S2x4352x4096x4, .f32⟩
  | .hbm, ⟨10, _⟩ => ⟨S2x4x4096x4352, .f32⟩
  | .hbm, ⟨11, _⟩ => ⟨S_, .f32⟩
  | .hbm, ⟨12, _⟩ => ⟨S2x4x4096x4352, .f32⟩
  | .hbm, ⟨13, _⟩ => ⟨S2x4x4096x4352, .f32⟩
  | .hbm, ⟨14, _⟩ => ⟨S_, .f32⟩
  | .hbm, ⟨15, _⟩ => ⟨S2x4x4096, .f32⟩
  | .hbm, ⟨16, _⟩ => ⟨S2x4x4096x1, .f32⟩
  | .hbm, ⟨17, _⟩ => ⟨S2x4x4096x4352, .f32⟩
  | .hbm, ⟨18, _⟩ => ⟨S2x4x4096x4352, .f32⟩
  | .hbm, ⟨19, _⟩ => ⟨S2x4x4096x4352, .f32⟩
  | .hbm, ⟨20, _⟩ => ⟨S_, .f32⟩
  | .hbm, ⟨21, _⟩ => ⟨S2x4x4096, .f32⟩
  | .hbm, ⟨22, _⟩ => ⟨S2x4x4096x1, .f32⟩
  | .hbm, ⟨23, _⟩ => ⟨S2x4x4096x1, .f32⟩
  | .hbm, ⟨24, _⟩ => ⟨S2x4x4096x1, .f32⟩
  | .hbm, ⟨25, _⟩ => ⟨S256x2x4x128, .f32⟩
  | .hbm, ⟨26, _⟩ => ⟨S256x2x128, .f32⟩
  | .hbm, ⟨27, _⟩ => ⟨S2x256x256x4, .f32⟩
  | .hbm, ⟨28, _⟩ => ⟨S2x4x256x256, .f32⟩
  | .hbm, ⟨29, _⟩ => ⟨S_, .f32⟩
  | .hbm, ⟨30, _⟩ => ⟨S2x4x256x256, .f32⟩
  | .hbm, ⟨31, _⟩ => ⟨S2x4x256x256, .f32⟩
  | .hbm, ⟨32, _⟩ => ⟨S_, .f32⟩
  | .hbm, ⟨33, _⟩ => ⟨S2x4x256, .f32⟩
  | .hbm, ⟨34, _⟩ => ⟨S2x4x256x1, .f32⟩
  | .hbm, ⟨35, _⟩ => ⟨S2x4x256x256, .f32⟩
  | .hbm, ⟨36, _⟩ => ⟨S2x4x256x256, .f32⟩
  | .hbm, ⟨37, _⟩ => ⟨S2x4x256x256, .f32⟩
  | .hbm, ⟨38, _⟩ => ⟨S_, .f32⟩
  | .hbm, ⟨39, _⟩ => ⟨S2x4x256, .f32⟩
  | .hbm, ⟨40, _⟩ => ⟨S2x4x256x1, .f32⟩
  | .hbm, ⟨41, _⟩ => ⟨S2x4x256x1, .f32⟩
  | .hbm, ⟨42, _⟩ => ⟨S2x4x256x1, .f32⟩
  | .hbm, ⟨43, _⟩ => ⟨S2x4x4352x1, .f32⟩
  | .hbm, ⟨44, _⟩ => ⟨S8x4352x1, .f32⟩
  | .hbm, ⟨45, _⟩ => ⟨S4352x1024, .bf16⟩
  | .hbm, ⟨46, _⟩ => ⟨S4352x256, .f32⟩
  | .hbm, ⟨47, _⟩ => ⟨S4352x256, .f32⟩
  | .local _ .vmem, ⟨0, _⟩ => ⟨S256x128, .bf16⟩
  | .local _ .vmem, ⟨1, _⟩ => ⟨S256x128, .bf16⟩
  | .local _ .vmem, ⟨2, _⟩ => ⟨S4352x128, .bf16⟩
  | .local _ .vmem, ⟨3, _⟩ => ⟨S4352x128, .bf16⟩
  | .local _ .vmem, ⟨4, _⟩ => ⟨S4352x128, .bf16⟩
  | .local _ .vmem, ⟨5, _⟩ => ⟨S4352x128, .bf16⟩
  | .local _ .vmem, ⟨6, _⟩ => ⟨S1x256x1, .f32⟩
  | .local _ .vmem, ⟨7, _⟩ => ⟨S1x256x1, .f32⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S4352x128, .f32⟩
  | .local _ .vmem, ⟨13, _⟩ => ⟨S4352x128, .f32⟩
  | .local _ .vmem, ⟨14, _⟩ => ⟨S4352x128, .f32⟩
  | .local _ .vmem, ⟨15, _⟩ => ⟨S4352x128, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35_0 : Ref sig .tc := ⟨.hbm, 45, rfl⟩
abbrev main_v35_1 : Ref sig .tc := ⟨.hbm, 46, rfl⟩
abbrev main_v35_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 4, 17], ![false, false, false]⟩

def k0_cond2 (i : grid0.Coords) : BitVec 1 :=
  let arg2 : BitVec 32 := BitVec.ofNat 32 (i 2).val
  let c16_i32 : BitVec 32 := 16#32
  let v5 : BitVec 1 := Scalar.cmpi .slt arg2 c16_i32
  let v6 : BitVec 32 := Scalar.extui v5
  let c0_i32_2 : BitVec 32 := 0#32
  let v7 : BitVec 1 := Scalar.cmpi .ne v6 c0_i32_2
  v7

def k0_cond3 (i : grid0.Coords) : BitVec 1 :=
  let arg2 : BitVec 32 := BitVec.ofNat 32 (i 2).val
  let c16_i32_3 : BitVec 32 := 16#32
  let v8 : BitVec 1 := Scalar.cmpi .sge arg2 c16_i32_3
  let v9 : BitVec 32 := Scalar.extui v8
  let c0_i32_4 : BitVec 32 := 0#32
  let v10 : BitVec 1 := Scalar.cmpi .ne v9 c0_i32_4
  v10

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S4352x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S4352x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== ReferenceIdeal.lean ====
abbrev S4352x1024 : Shape := ⟨2, ![4352, 1024]⟩
abbrev S4352x256 : Shape := ⟨2, ![4352, 256]⟩
abbrev S4352x2x4x128 : Shape := ⟨4, ![4352, 2, 4, 128]⟩
abbrev S4352x2x128 : Shape := ⟨3, ![4352, 2, 128]⟩
abbrev S4096x2x4x128 : Shape := ⟨4, ![4096, 2, 4, 128]⟩
abbrev S2x4352x4096x4 : Shape := ⟨4, ![2, 4352, 4096, 4]⟩
abbrev S2x4x4096x4352 : Shape := ⟨4, ![2, 4, 4096, 4352]⟩
abbrev S_ : Shape := ⟨0, ![]⟩
abbrev S2x4x4096 : Shape := ⟨3, ![2, 4, 4096]⟩
abbrev S2x4x4096x1 : Shape := ⟨4, ![2, 4, 4096, 1]⟩
abbrev S2x128x4x4096 : Shape := ⟨4, ![2, 128, 4, 4096]⟩
abbrev S4096x1024 : Shape := ⟨2, ![4096, 1024]⟩
abbrev S256x2x4x128 : Shape := ⟨4, ![256, 2, 4, 128]⟩
abbrev S256x2x128 : Shape := ⟨3, ![256, 2, 128]⟩
abbrev S2x256x256x4 : Shape := ⟨4, ![2, 256, 256, 4]⟩
abbrev S2x4x256x256 : Shape := ⟨4, ![2, 4, 256, 256]⟩
abbrev S2x4x256 : Shape := ⟨3, ![2, 4, 256]⟩
abbrev S2x4x256x1 : Shape := ⟨4, ![2, 4, 256, 1]⟩
abbrev S2x128x4x256 : Shape := ⟨4, ![2, 128, 4, 256]⟩
abbrev S256x1024 : Shape := ⟨2, ![256, 1024]⟩
abbrev S2x128x256 : Shape := ⟨3, ![2, 128, 256]⟩
abbrev S2x256x4x128 : Shape := ⟨4, ![2, 256, 4, 128]⟩
abbrev S2x256x128 : Shape := ⟨3, ![2, 256, 128]⟩
abbrev S2x128x4352 : Shape := ⟨3, ![2, 128, 4352]⟩
abbrev S2x4096x4x128 : Shape := ⟨4, ![2, 4096, 4, 128]⟩
abbrev S2x4352x128 : Shape := ⟨3, ![2, 4352, 128]⟩

abbrev nBuf : Space → Nat
  | .hbm => 179
  | .vmem => 0
  | .smem => 0
  | _ => 0

abbrev hbmTy0_0 (i : Nat) : BufTy := match i % 128 with
  | 0 => ⟨S4352x1024, .bf16⟩
  | 1 => ⟨S4352x256, .bf16⟩
  | 2 => ⟨S4352x256, .bf16⟩
  | 3 => ⟨S4352x1024, .bf16⟩
  | 4 => ⟨S4352x1024, .f32⟩
  | 5 => ⟨S4352x256, .f32⟩
  | 6 => ⟨S4352x256, .f32⟩
  | 7 => ⟨S4352x1024, .f32⟩
  | 8 => ⟨S4352x2x4x128, .f32⟩
  | 9 => ⟨S4352x2x128, .f32⟩
  | 10 => ⟨S4352x2x128, .f32⟩
  | 11 => ⟨S4096x2x4x128, .f32⟩
  | 12 => ⟨S2x4352x4096x4, .f32⟩
  | 13 => ⟨S2x4x4096x4352, .f32⟩
  | 14 => ⟨S_, .f32⟩
  | 15 => ⟨S2x4x4096x4352, .f32⟩
  | 16 => ⟨S2x4x4096x4352, .f32⟩
  | 17 => ⟨S_, .f32⟩
  | 18 => ⟨S2x4x4096, .f32⟩
  | 19 => ⟨S2x4x4096x1, .f32⟩
  | 20 => ⟨S2x4x4096x4352, .f32⟩
  | 21 => ⟨S2x4x4096x4352, .i1⟩
  | 22 => ⟨S2x4x4096x4352, .f32⟩
  | 23 => ⟨S_, .f32⟩
  | 24 => ⟨S2x4x4096, .f32⟩
  | 25 => ⟨S_, .f32⟩
  | 26 => ⟨S2x4x4096, .f32⟩
  | 27 => ⟨S2x4x4096, .f32⟩
  | 28 => ⟨S_, .f32⟩
  | 29 => ⟨S2x4x4096, .f32⟩
  | 30 => ⟨S2x4x4096, .i1⟩
  | 31 => ⟨S_, .f32⟩
  | 32 => ⟨S2x4x4096, .f32⟩
  | 33 => ⟨S2x4x4096, .i1⟩
  | 34 => ⟨S_, .f32⟩
  | 35 => ⟨S2x4x4096, .f32⟩
  | 36 => ⟨S_, .f32⟩
  | 37 => ⟨S2x4x4096, .f32⟩
  | 38 => ⟨S_, .f32⟩
  | 39 => ⟨S2x4x4096, .f32⟩
  | 40 => ⟨S2x4x4096, .f32⟩
  | 41 => ⟨S2x4x4096, .f32⟩
  | 42 => ⟨S2x4x4096x1, .f32⟩
  | 43 => ⟨S2x4x4096x4352, .f32⟩
  | 44 => ⟨S2x4x4096x4352, .f32⟩
  | 45 => ⟨S2x4x4096x4352, .f32⟩
  | 46 => ⟨S_, .f32⟩
  | 47 => ⟨S2x4x4096, .f32⟩
  | 48 => ⟨S2x4x4096x1, .f32⟩
  | 49 => ⟨S2x4x4096x4352, .f32⟩
  | 50 => ⟨S2x4x4096x4352, .f32⟩
  | 51 => ⟨S2x4x4096x1, .f32⟩
  | 52 => ⟨S_, .f32⟩
  | 53 => ⟨S2x4x4096x1, .f32⟩
  | 54 => ⟨S2x4x4096x1, .f32⟩
  | 55 => ⟨S2x128x4x4096, .f32⟩
  | 56 => ⟨S4096x2x4x128, .f32⟩
  | 57 => ⟨S4096x1024, .f32⟩
  | 58 => ⟨S256x2x4x128, .f32⟩
  | 59 => ⟨S256x2x128, .f32⟩
  | 60 => ⟨S256x2x128, .f32⟩
  | 61 => ⟨S2x256x256x4, .f32⟩
  | 62 => ⟨S2x4x256x256, .f32⟩
  | 63 => ⟨S_, .f32⟩
  | 64 => ⟨S2x4x256x256, .f32⟩
  | 65 => ⟨S2x4x256x256, .f32⟩
  | 66 => ⟨S_, .f32⟩
  | 67 => ⟨S2x4x256, .f32⟩
  | 68 => ⟨S2x4x256x1, .f32⟩
  | 69 => ⟨S2x4x256x256, .f32⟩
  | 70 => ⟨S2x4x256x256, .i1⟩
  | 71 => ⟨S2x4x256x256, .f32⟩
  | 72 => ⟨S_, .f32⟩
  | 73 => ⟨S2x4x256, .f32⟩
  | 74 => ⟨S_, .f32⟩
  | 75 => ⟨S2x4x256, .f32⟩
  | 76 => ⟨S2x4x256, .f32⟩
  | 77 => ⟨S_, .f32⟩
  | 78 => ⟨S2x4x256, .f32⟩
  | 79 => ⟨S2x4x256, .i1⟩
  | 80 => ⟨S_, .f32⟩
  | 81 => ⟨S2x4x256, .f32⟩
  | 82 => ⟨S2x4x256, .i1⟩
  | 83 => ⟨S_, .f32⟩
  | 84 => ⟨S2x4x256, .f32⟩
  | 85 => ⟨S_, .f32⟩
  | 86 => ⟨S2x4x256, .f32⟩
  | 87 => ⟨S_, .f32⟩
  | 88 => ⟨S2x4x256, .f32⟩
  | 89 => ⟨S2x4x256, .f32⟩
  | 90 => ⟨S2x4x256, .f32⟩
  | 91 => ⟨S2x4x256x1, .f32⟩
  | 92 => ⟨S2x4x256x256, .f32⟩
  | 93 => ⟨S2x4x256x256, .f32⟩
  | 94 => ⟨S2x4x256x256, .f32⟩
  | 95 => ⟨S_, .f32⟩
  | 96 => ⟨S2x4x256, .f32⟩
  | 97 => ⟨S2x4x256x1, .f32⟩
  | 98 => ⟨S2x4x256x256, .f32⟩
  | 99 => ⟨S2x4x256x256, .f32⟩
  | 100 => ⟨S2x4x256x1, .f32⟩
  | 101 => ⟨S_, .f32⟩
  | 102 => ⟨S2x4x256x1, .f32⟩
  | 103 => ⟨S2x4x256x1, .f32⟩
  | 104 => ⟨S2x128x4x256, .f32⟩
  | 105 => ⟨S256x2x4x128, .f32⟩
  | 106 => ⟨S256x1024, .f32⟩
  | 107 => ⟨S4352x1024, .f32⟩
  | 108 => ⟨S4096x1024, .f32⟩
  | 109 => ⟨S256x1024, .f32⟩
  | 110 => ⟨S256x2x4x128, .f32⟩
  | 111 => ⟨S2x128x4x256, .f32⟩
  | 112 => ⟨S2x4x256x256, .f32⟩
  | 113 => ⟨S2x128x256, .f32⟩
  | 114 => ⟨S256x2x128, .f32⟩
  | 115 => ⟨S2x4x256x256, .f32⟩
  | 116 => ⟨S2x4x256x256, .f32⟩
  | 117 => ⟨S2x4x256x256, .f32⟩
  | 118 => ⟨S_, .f32⟩
  | 119 => ⟨S2x4x256, .f32⟩
  | 120 => ⟨S2x4x256x1, .f32⟩
  | 121 => ⟨S2x4x256x1, .f32⟩
  | 122 => ⟨S2x4x256x256, .f32⟩
  | 123 => ⟨S2x4x256x256, .f32⟩
  | 124 => ⟨S_, .f32⟩
  | 125 => ⟨S2x4x256, .f32⟩
  | 126 => ⟨S2x4x256x256, .f32⟩
  | 127 => ⟨S2x4x256x256, .f32⟩
  | _ => ⟨S4352x1024, .bf16⟩

abbrev hbmTy0_1 (i : Nat) : BufTy := match i % 128 with
  | 0 => ⟨S2x4x256x256, .f32⟩
  | 1 => ⟨S_, .f32⟩
  | 2 => ⟨S2x4x256x256, .f32⟩
  | 3 => ⟨S2x4x256x256, .f32⟩
  | 4 => ⟨S2x256x256x4, .f32⟩
  | 5 => ⟨S2x256x4x128, .f32⟩
  | 6 => ⟨S256x2x4x128, .f32⟩
  | 7 => ⟨S2x256x128, .f32⟩
  | 8 => ⟨S256x2x128, .f32⟩
  | 9 => ⟨S_, .f32⟩
  | 10 => ⟨S4352x2x128, .f32⟩
  | 11 => ⟨S_, .f32⟩
  | 12 => ⟨S4352x2x128, .f32⟩
  | 13 => ⟨S_, .f32⟩
  | 14 => ⟨S4352x2x4x128, .f32⟩
  | 15 => ⟨S4096x2x4x128, .f32⟩
  | 16 => ⟨S2x128x4x4096, .f32⟩
  | 17 => ⟨S2x4x4096x4352, .f32⟩
  | 18 => ⟨S2x128x4352, .f32⟩
  | 19 => ⟨S4352x2x128, .f32⟩
  | 20 => ⟨S4352x2x128, .f32⟩
  | 21 => ⟨S2x4x4096x4352, .f32⟩
  | 22 => ⟨S2x4x4096x4352, .f32⟩
  | 23 => ⟨S2x4x4096x4352, .f32⟩
  | 24 => ⟨S_, .f32⟩
  | 25 => ⟨S2x4x4096, .f32⟩
  | 26 => ⟨S2x4x4096x1, .f32⟩
  | 27 => ⟨S2x4x4096x1, .f32⟩
  | 28 => ⟨S2x4x4096x4352, .f32⟩
  | 29 => ⟨S2x4x4096x4352, .f32⟩
  | 30 => ⟨S_, .f32⟩
  | 31 => ⟨S2x4x4096, .f32⟩
  | 32 => ⟨S2x4x4096x4352, .f32⟩
  | 33 => ⟨S2x4x4096x4352, .f32⟩
  | 34 => ⟨S2x4x4096x4352, .f32⟩
  | 35 => ⟨S_, .f32⟩
  | 36 => ⟨S2x4x4096x4352, .f32⟩
  | 37 => ⟨S2x4x4096x4352, .f32⟩
  | 38 => ⟨S2x4352x4096x4, .f32⟩
  | 39 => ⟨S2x4096x4x128, .f32⟩
  | 40 => ⟨S4096x2x4x128, .f32⟩
  | 41 => ⟨S2x4352x128, .f32⟩
  | 42 => ⟨S4352x2x128, .f32⟩
  | 43 => ⟨S4352x2x128, .f32⟩
  | 44 => ⟨S_, .f32⟩
  | 45 => ⟨S4352x2x4x128, .f32⟩
  | 46 => ⟨S4352x2x4x128, .f32⟩
  | 47 => ⟨S4352x256, .f32⟩
  | 48 => ⟨S4352x256, .f32⟩
  | 49 => ⟨S4352x1024, .f32⟩
  | 50 => ⟨S4352x1024, .bf16⟩
  | _ => ⟨S4352x1024, .bf16⟩

abbrev hbmTy (i : Nat) : BufTy := match i / 128 with
  | 0 => hbmTy0_0 i
  | 1 => hbmTy0_1 i
  | _ => ⟨S4352x1024, .bf16⟩

abbrev bufTy : (tb : Table) → Fin (tcTables nBuf tb) → BufTy
  | .hbm, ⟨i, _⟩ => hbmTy i
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_10 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_cst_13 : Ref sig .tc := ⟨.hbm, 74, rfl⟩
abbrev main_v56 : Ref sig .tc := ⟨.hbm, 75, rfl⟩
abbrev main_v57 : Ref sig .tc := ⟨.hbm, 76, rfl⟩
abbrev main_cst_14 : Ref sig .tc := ⟨.hbm, 77, rfl⟩
abbrev main_v58 : Ref sig .tc := ⟨.hbm, 78, rfl⟩
abbrev main_v59 : Ref sig .tc := ⟨.hbm, 79, rfl⟩
abbrev main_cst_15 : Ref sig .tc := ⟨.hbm, 80, rfl⟩
abbrev main_v60 : Ref sig .tc := ⟨.hbm, 81, rfl⟩
abbrev main_v61 : Ref sig .tc := ⟨.hbm, 82, rfl⟩
abbrev main_cst_16 : Ref sig .tc := ⟨.hbm, 83, rfl⟩
abbrev main_v62 : Ref sig .tc := ⟨.hbm, 84, rfl⟩
abbrev main_cst_17 : Ref sig .tc := ⟨.hbm, 85, rfl⟩
abbrev main_v63 : Ref sig .tc := ⟨.hbm, 86, rfl⟩
abbrev main_cst_18 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_19 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_20 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_21 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_22 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_23 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_24 : Ref sig .tc := ⟨.hbm, 137, rfl⟩
abbrev main_v108 : Ref sig .tc := ⟨.hbm, 138, rfl⟩
abbrev main_cst_25 : Ref sig .tc := ⟨.hbm, 139, rfl⟩
abbrev main_v109 : Ref sig .tc := ⟨.hbm, 140, rfl⟩
abbrev main_cst_26 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_27 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_cst_28 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_cst_29 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_cst_30 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩

abbrev nD : Nat := 1
abbrev τ : Topo := Topo.v7x

variable {F : FTy → Type} [FloatOps F]
-- ==== UpGradA.lean ====
abbrev S4352x11264 : Shape := ⟨2, ![4352, 11264]⟩
abbrev S2048x11264 : Shape := ⟨2, ![2048, 11264]⟩
abbrev S4352x2048 : Shape := ⟨2, ![4352, 2048]⟩
abbrev S1088x2816 : Shape := ⟨2, ![1088, 2816]⟩
abbrev S1024x2816 : Shape := ⟨2, ![1024, 2816]⟩
abbrev S1088x1024 : Shape := ⟨2, ![1088, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x11264, .bf16⟩
  | .hbm, ⟨1, _⟩ => ⟨S2048x11264, .bf16⟩
  | .hbm, ⟨2, _⟩ => ⟨S4352x2048, .bf16⟩
  | .local _ .vmem, ⟨0, _⟩ => ⟨S1088x2816, .bf16⟩
  | .local _ .vmem, ⟨1, _⟩ => ⟨S1088x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1088x1024, .bf16⟩
  | .local _ .vmem, ⟨5, _⟩ => ⟨S1088x1024, .bf16⟩
  | .local _ .vmem, ⟨6, _⟩ => ⟨S1088x1024, .f32⟩
  | _, _ => ⟨S4352x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGradARefIdeal.lean ====
abbrev S4352x11264 : Shape := ⟨2, ![4352, 11264]⟩
abbrev S2048x11264 : Shape := ⟨2, ![2048, 11264]⟩
abbrev S_ : Shape := ⟨0, ![]⟩
abbrev S4352x2048 : Shape := ⟨2, ![4352, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x11264, .bf16⟩
  | .hbm, ⟨1, _⟩ => ⟨S2048x11264, .bf16⟩
  | .hbm, ⟨2, _⟩ => ⟨S_, .bf16⟩
  | .hbm, ⟨3, _⟩ => ⟨S4352x2048, .bf16⟩
  | .hbm, ⟨4, _⟩ => ⟨S4352x2048, .f32⟩
  | .hbm, ⟨5, _⟩ => ⟨S2048x11264, .f32⟩
  | .hbm, ⟨6, _⟩ => ⟨S4352x11264, .f32⟩
  | .hbm, ⟨7, _⟩ => ⟨S4352x11264, .f32⟩
  | .hbm, ⟨8, _⟩ => ⟨S4352x2048, .f32⟩
  | .hbm, ⟨9, _⟩ => ⟨S4352x2048, .bf16⟩
  | _, _ => ⟨S4352x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpGradW.lean ====
abbrev S4352x2048 : Shape := ⟨2, ![4352, 2048]⟩
abbrev S4352x11264 : Shape := ⟨2, ![4352, 11264]⟩
abbrev S2048x11264 : Shape := ⟨2, ![2048, 11264]⟩
abbrev S2176x1024 : Shape := ⟨2, ![2176, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x11264, .bf16⟩
  | .hbm, ⟨2, _⟩ => ⟨S2048x11264, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGradWRefIdeal.lean ====
abbrev S4352x2048 : Shape := ⟨2, ![4352, 2048]⟩
abbrev S4352x11264 : Shape := ⟨2, ![4352, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x11264, .bf16⟩
  | .hbm, ⟨2, _⟩ => ⟨S_, .bf16⟩
  | .hbm, ⟨3, _⟩ => ⟨S2048x11264, .bf16⟩
  | .hbm, ⟨4, _⟩ => ⟨S4352x2048, .f32⟩
  | .hbm, ⟨5, _⟩ => ⟨S2048x11264, .f32⟩
  | .hbm, ⟨6, _⟩ => ⟨S4352x11264, .f32⟩
  | .hbm, ⟨7, _⟩ => ⟨S4352x11264, .f32⟩
  | .hbm, ⟨8, _⟩ => ⟨S11264x2048, .f32⟩
  | .hbm, ⟨9, _⟩ => ⟨S2048x11264, .f32⟩
  | .hbm, ⟨10, _⟩ => ⟨S2048x11264, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownGradA.lean ====
abbrev S4352x2048 : Shape := ⟨2, ![4352, 2048]⟩
abbrev S5632x2048 : Shape := ⟨2, ![5632, 2048]⟩
abbrev S4352x5632 : Shape := ⟨2, ![4352, 5632]⟩
abbrev S1088x2048 : Shape := ⟨2, ![1088, 2048]⟩
abbrev S512x2048 : Shape := ⟨2, ![512, 2048]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S5632x2048, .bf16⟩
  | .hbm, ⟨2, _⟩ => ⟨S4352x5632, .bf16⟩
  | .local _ .vmem, ⟨0, _⟩ => ⟨S1088x2048, .bf16⟩
  | .local _ .vmem, ⟨1, _⟩ => ⟨S1088x2048, .bf16⟩
  | .local _ .vmem, ⟨2, _⟩ => ⟨S512x2048, .bf16⟩
  | .local _ .vmem, ⟨3, _⟩ => ⟨S512x2048, .bf16⟩
  | .local _ .vmem, ⟨4, _⟩ => ⟨S1088x512, .bf16⟩
  | .local _ .vmem, ⟨5, _⟩ => ⟨S1088x512, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradARefIdeal.lean ====
abbrev S4352x2048 : Shape := ⟨2, ![4352, 2048]⟩
abbrev S5632x2048 : Shape := ⟨2, ![5632, 2048]⟩
abbrev S_ : Shape := ⟨0, ![]⟩
abbrev S4352x5632 : Shape := ⟨2, ![4352, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S5632x2048, .bf16⟩
  | .hbm, ⟨2, _⟩ => ⟨S_, .bf16⟩
  | .hbm, ⟨3, _⟩ => ⟨S4352x5632, .bf16⟩
  | .hbm, ⟨4, _⟩ => ⟨S4352x5632, .f32⟩
  | .hbm, ⟨5, _⟩ => ⟨S5632x2048, .f32⟩
  | .hbm, ⟨6, _⟩ => ⟨S4352x2048, .f32⟩
  | .hbm, ⟨7, _⟩ => ⟨S4352x2048, .f32⟩
  | .hbm, ⟨8, _⟩ => ⟨S4352x5632, .f32⟩
  | .hbm, ⟨9, _⟩ => ⟨S4352x5632, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownGradW.lean ====
abbrev S4352x5632 : Shape := ⟨2, ![4352, 5632]⟩
abbrev S4352x2048 : Shape := ⟨2, ![4352, 2048]⟩
abbrev S5632x2048 : Shape := ⟨2, ![5632, 2048]⟩
abbrev S2176x512 : Shape := ⟨2, ![2176, 512]⟩
abbrev S2176x1024 : Shape := ⟨2, ![2176, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x5632, .bf16⟩
  | .hbm, ⟨1, _⟩ => ⟨S4352x2048, .bf16⟩
  | .hbm, ⟨2, _⟩ => ⟨S5632x2048, .bf16⟩
  | .local _ .vmem, ⟨0, _⟩ => ⟨S2176x512, .bf16⟩
  | .local _ .vmem, ⟨1, _⟩ => ⟨S2176x512, .bf16⟩
  | .local _ .vmem, ⟨2, _⟩ => ⟨S2176x1024, .bf16⟩
  | .local _ .vmem, ⟨3, _⟩ => ⟨S2176x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradWRefIdeal.lean ====
abbrev S4352x5632 : Shape := ⟨2, ![4352, 5632]⟩
abbrev S4352x2048 : Shape := ⟨2, ![4352, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S4352x2048, .bf16⟩
  | .hbm, ⟨2, _⟩ => ⟨S_, .bf16⟩
  | .hbm, ⟨3, _⟩ => ⟨S5632x2048, .bf16⟩
  | .hbm, ⟨4, _⟩ => ⟨S4352x5632, .f32⟩
  | .hbm, ⟨5, _⟩ => ⟨S5632x2048, .f32⟩
  | .hbm, ⟨6, _⟩ => ⟨S4352x2048, .f32⟩
  | .hbm, ⟨7, _⟩ => ⟨S4352x2048, .f32⟩
  | .hbm, ⟨8, _⟩ => ⟨S2048x5632, .f32⟩
  | .hbm, ⟨9, _⟩ => ⟨S5632x2048, .f32⟩
  | .hbm, ⟨10, _⟩ => ⟨S5632x2048, .bf16⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InGradA.lean ====
abbrev S4352x5120 : Shape := ⟨2, ![4352, 5120]⟩
abbrev S2048x5120 : Shape := ⟨2, ![2048, 5120]⟩
abbrev S4352x2048 : Shape := ⟨2, ![4352, 2048]⟩
abbrev S1088x2560 : Shape := ⟨2, ![1088, 2560]⟩
abbrev S1024x2560 : Shape := ⟨2, ![1024, 2560]⟩
abbrev S1088x1024 : Shape := ⟨2, ![1088, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x5120, .bf16⟩
  | .hbm, ⟨1, _⟩ => ⟨S2048x5120, .bf16⟩
  | .hbm, ⟨2, _⟩ => ⟨S4352x2048, .bf16⟩
  | .local _ .vmem, ⟨0, _⟩ => ⟨S1088x2560, .bf16⟩
  | .local _ .vmem, ⟨1, _⟩ => ⟨S1088x2560, .bf16⟩
  | .local _ .vmem, ⟨2, _⟩ => ⟨S1024x2560, .bf16⟩
  | .local _ .vmem, ⟨3, _⟩ => ⟨S1024x2560, .bf16⟩
  | .local _ .vmem, ⟨4, _⟩ => ⟨S1088x1024, .bf16⟩
  | .local _ .vmem, ⟨5, _⟩ => ⟨S1088x1024, .bf16⟩
  | .local _ .vmem, ⟨6, _⟩ => ⟨S1088x1024, .f32⟩
  | _, _ => ⟨S4352x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGradARefIdeal.lean ====
abbrev S4352x5120 : Shape := ⟨2, ![4352, 5120]⟩
abbrev S2048x5120 : Shape := ⟨2, ![2048, 5120]⟩
abbrev S_ : Shape := ⟨0, ![]⟩
abbrev S4352x2048 : Shape := ⟨2, ![4352, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x5120, .bf16⟩
  | .hbm, ⟨1, _⟩ => ⟨S2048x5120, .bf16⟩
  | .hbm, ⟨2, _⟩ => ⟨S_, .bf16⟩
  | .hbm, ⟨3, _⟩ => ⟨S4352x2048, .bf16⟩
  | .hbm, ⟨4, _⟩ => ⟨S4352x2048, .f32⟩
  | .hbm, ⟨5, _⟩ => ⟨S2048x5120, .f32⟩
  | .hbm, ⟨6, _⟩ => ⟨S4352x5120, .f32⟩
  | .hbm, ⟨7, _⟩ => ⟨S4352x5120, .f32⟩
  | .hbm, ⟨8, _⟩ => ⟨S4352x2048, .f32⟩
  | .hbm, ⟨9, _⟩ => ⟨S4352x2048, .bf16⟩
  | _, _ => ⟨S4352x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InGradW.lean ====
abbrev S4352x2048 : Shape := ⟨2, ![4352, 2048]⟩
abbrev S4352x5120 : Shape := ⟨2, ![4352, 5120]⟩
abbrev S2048x5120 : Shape := ⟨2, ![2048, 5120]⟩
abbrev S2176x1024 : Shape := ⟨2, ![2176, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x5120, .bf16⟩
  | .hbm, ⟨2, _⟩ => ⟨S2048x5120, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGradWRefIdeal.lean ====
abbrev S4352x2048 : Shape := ⟨2, ![4352, 2048]⟩
abbrev S4352x5120 : Shape := ⟨2, ![4352, 5120]⟩
abbrev S_ : Shape := ⟨0, ![]⟩
abbrev S2048x5120 : Shape := ⟨2, ![2048, 5120]⟩
abbrev S5120x2048 : Shape := ⟨2, ![5120, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x5120, .bf16⟩
  | .hbm, ⟨2, _⟩ => ⟨S_, .bf16⟩
  | .hbm, ⟨3, _⟩ => ⟨S2048x5120, .bf16⟩
  | .hbm, ⟨4, _⟩ => ⟨S4352x2048, .f32⟩
  | .hbm, ⟨5, _⟩ => ⟨S2048x5120, .f32⟩
  | .hbm, ⟨6, _⟩ => ⟨S4352x5120, .f32⟩
  | .hbm, ⟨7, _⟩ => ⟨S4352x5120, .f32⟩
  | .hbm, ⟨8, _⟩ => ⟨S5120x2048, .f32⟩
  | .hbm, ⟨9, _⟩ => ⟨S2048x5120, .f32⟩
  | .hbm, ⟨10, _⟩ => ⟨S2048x5120, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutGradA.lean ====
abbrev S4352x2048 : Shape := ⟨2, ![4352, 2048]⟩
abbrev S2048x2048 : Shape := ⟨2, ![2048, 2048]⟩
abbrev S1088x2048 : Shape := ⟨2, ![1088, 2048]⟩
abbrev S1024x2048 : Shape := ⟨2, ![1024, 2048]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .bf16⟩
  | .local _ .vmem, ⟨0, _⟩ => ⟨S1088x2048, .bf16⟩
  | .local _ .vmem, ⟨1, _⟩ => ⟨S1088x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1088x1024, .bf16⟩
  | .local _ .vmem, ⟨5, _⟩ => ⟨S1088x1024, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutGradARefIdeal.lean ====
abbrev S4352x2048 : Shape := ⟨2, ![4352, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S_, .bf16⟩
  | .hbm, ⟨3, _⟩ => ⟨S4352x2048, .bf16⟩
  | .hbm, ⟨4, _⟩ => ⟨S4352x2048, .f32⟩
  | .hbm, ⟨5, _⟩ => ⟨S2048x2048, .f32⟩
  | .hbm, ⟨6, _⟩ => ⟨S4352x2048, .f32⟩
  | .hbm, ⟨7, _⟩ => ⟨S4352x2048, .f32⟩
  | .hbm, ⟨8, _⟩ => ⟨S4352x2048, .f32⟩
  | .hbm, ⟨9, _⟩ => ⟨S4352x2048, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutGradW.lean ====
abbrev S4352x2048 : Shape := ⟨2, ![4352, 2048]⟩
abbrev S2048x2048 : Shape := ⟨2, ![2048, 2048]⟩
abbrev S2176x1024 : Shape := ⟨2, ![2176, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S2048x2048, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutGradWRefIdeal.lean ====
abbrev S4352x2048 : Shape := ⟨2, ![4352, 2048]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S_, .bf16⟩
  | .hbm, ⟨3, _⟩ => ⟨S2048x2048, .bf16⟩
  | .hbm, ⟨4, _⟩ => ⟨S4352x2048, .f32⟩
  | .hbm, ⟨5, _⟩ => ⟨S2048x2048, .f32⟩
  | .hbm, ⟨6, _⟩ => ⟨S4352x2048, .f32⟩
  | .hbm, ⟨7, _⟩ => ⟨S4352x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpFwd.lean ====
abbrev S4352x2048 : Shape := ⟨2, ![4352, 2048]⟩
abbrev S2048x11264 : Shape := ⟨2, ![2048, 11264]⟩
abbrev S4352x11264 : Shape := ⟨2, ![4352, 11264]⟩
abbrev S1088x2048 : Shape := ⟨2, ![1088, 2048]⟩
abbrev S2048x1024 : Shape := ⟨2, ![2048, 1024]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x11264, .bf16⟩
  | .hbm, ⟨2, _⟩ => ⟨S4352x11264, .bf16⟩
  | .local _ .vmem, ⟨0, _⟩ => ⟨S1088x2048, .bf16⟩
  | .local _ .vmem, ⟨1, _⟩ => ⟨S1088x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1088x1024, .bf16⟩
  | .local _ .vmem, ⟨5, _⟩ => ⟨S1088x1024, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwdRefIdeal.lean ====
abbrev S4352x2048 : Shape := ⟨2, ![4352, 2048]⟩
abbrev S2048x11264 : Shape := ⟨2, ![2048, 11264]⟩
abbrev S4352x11264 : Shape := ⟨2, ![4352, 11264]⟩

abbrev nBuf : Space → Nat
  | .hbm => 6
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x11264, .bf16⟩
  | .hbm, ⟨2, _⟩ => ⟨S4352x2048, .f32⟩
  | .hbm, ⟨3, _⟩ => ⟨S2048x11264, .f32⟩
  | .hbm, ⟨4, _⟩ => ⟨S4352x11264, .f32⟩
  | .hbm, ⟨5, _⟩ => ⟨S4352x11264, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownFwd.lean ====
abbrev S4352x5632 : Shape := ⟨2, ![4352, 5632]⟩
abbrev S5632x2048 : Shape := ⟨2, ![5632, 2048]⟩
abbrev S4352x2048 : Shape := ⟨2, ![4352, 2048]⟩
abbrev S1088x2816 : Shape := ⟨2, ![1088, 2816]⟩
abbrev S2816x1024 : Shape := ⟨2, ![2816, 1024]⟩
abbrev S1088x1024 : Shape := ⟨2, ![1088, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x5632, .bf16⟩
  | .hbm, ⟨1, _⟩ => ⟨S5632x2048, .bf16⟩
  | .hbm, ⟨2, _⟩ => ⟨S4352x2048, .f32⟩
  | .local _ .vmem, ⟨0, _⟩ => ⟨S1088x2816, .bf16⟩
  | .local _ .vmem, ⟨1, _⟩ => ⟨S1088x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFwdRefIdeal.lean ====
abbrev S4352x5632 : Shape := ⟨2, ![4352, 5632]⟩
abbrev S5632x2048 : Shape := ⟨2, ![5632, 2048]⟩
abbrev S4352x2048 : Shape := ⟨2, ![4352, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S5632x2048, .bf16⟩
  | .hbm, ⟨2, _⟩ => ⟨S4352x5632, .f32⟩
  | .hbm, ⟨3, _⟩ => ⟨S5632x2048, .f32⟩
  | .hbm, ⟨4, _⟩ => ⟨S4352x2048, .f32⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InFwd.lean ====
abbrev S4352x2048 : Shape := ⟨2, ![4352, 2048]⟩
abbrev S2048x5120 : Shape := ⟨2, ![2048, 5120]⟩
abbrev S4352x5120 : Shape := ⟨2, ![4352, 5120]⟩
abbrev S1088x2048 : Shape := ⟨2, ![1088, 2048]⟩
abbrev S2048x1024 : Shape := ⟨2, ![2048, 1024]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x5120, .bf16⟩
  | .hbm, ⟨2, _⟩ => ⟨S4352x5120, .f32⟩
  | .local _ .vmem, ⟨0, _⟩ => ⟨S1088x2048, .bf16⟩
  | .local _ .vmem, ⟨1, _⟩ => ⟨S1088x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1088x1024, .f32⟩
  | .local _ .vmem, ⟨5, _⟩ => ⟨S1088x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdRefIdeal.lean ====
abbrev S4352x2048 : Shape := ⟨2, ![4352, 2048]⟩
abbrev S2048x5120 : Shape := ⟨2, ![2048, 5120]⟩
abbrev S4352x5120 : Shape := ⟨2, ![4352, 5120]⟩

abbrev nBuf : Space → Nat
  | .hbm => 5
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x5120, .bf16⟩
  | .hbm, ⟨2, _⟩ => ⟨S4352x2048, .f32⟩
  | .hbm, ⟨3, _⟩ => ⟨S2048x5120, .f32⟩
  | .hbm, ⟨4, _⟩ => ⟨S4352x5120, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutFwd.lean ====
abbrev S4352x2048 : Shape := ⟨2, ![4352, 2048]⟩
abbrev S2048x2048 : Shape := ⟨2, ![2048, 2048]⟩
abbrev S1088x2048 : Shape := ⟨2, ![1088, 2048]⟩
abbrev S2048x1024 : Shape := ⟨2, ![2048, 1024]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .local _ .vmem, ⟨0, _⟩ => ⟨S1088x2048, .bf16⟩
  | .local _ .vmem, ⟨1, _⟩ => ⟨S1088x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1088x1024, .f32⟩
  | .local _ .vmem, ⟨5, _⟩ => ⟨S1088x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutFwdRefIdeal.lean ====
abbrev S4352x2048 : Shape := ⟨2, ![4352, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .hbm, ⟨3, _⟩ => ⟨S2048x2048, .f32⟩
  | .hbm, ⟨4, _⟩ => ⟨S4352x2048, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AttnFwd.lean ====
abbrev S4352x1024 : Shape := ⟨2, ![4352, 1024]⟩
abbrev S4352x256 : Shape := ⟨2, ![4352, 256]⟩
abbrev S8x4352x1 : Shape := ⟨3, ![8, 4352, 1]⟩
abbrev S256x128 : Shape := ⟨2, ![256, 128]⟩
abbrev S4352x128 : Shape := ⟨2, ![4352, 128]⟩
abbrev S1x256x1 : Shape := ⟨3, ![1, 256, 1]⟩
abbrev S256x4352 : Shape := ⟨2, ![256, 4352]⟩
abbrev S256 : Shape := ⟨1, ![256]⟩
abbrev S256x1 : Shape := ⟨2, ![256, 1]⟩
abbrev S256x256 : Shape := ⟨2, ![256, 256]⟩

abbrev nBuf : Space → Nat
  | .hbm => 5
  | .vmem => 10
  | .smem => 0
  | _ => 0

abbrev bufTy : (tb : Table) → Fin (tcTables nBuf tb) → BufTy
  | .hbm, ⟨0, _⟩ => ⟨S4352x1024, .bf16⟩
  | .hbm, ⟨1, _⟩ => ⟨S4352x256, .bf16⟩
  | .hbm, ⟨2, _⟩ => ⟨S4352x256, .bf16⟩
  | .hbm, ⟨3, _⟩ => ⟨S4352x1024, .bf16⟩
  | .hbm, ⟨4, _⟩ => ⟨S8x4352x1, .f32⟩
  | .local _ .vmem, ⟨0, _⟩ => ⟨S256x128, .bf16⟩
  | .local _ .vmem, ⟨1, _⟩ => ⟨S256x128, .bf16⟩
  | .local _ .vmem, ⟨2, _⟩ => ⟨S4352x128, .bf16⟩
  | .local _ .vmem, ⟨3, _⟩ => ⟨S4352x128, .bf16⟩
  | .local _ .vmem, ⟨4, _⟩ => ⟨S4352x128, .bf16⟩
  | .local _ .vmem, ⟨5, _⟩ => ⟨S4352x128, .bf16⟩
  | .local _ .vmem, ⟨6, _⟩ => ⟨S256x128, .bf16⟩
  | .local _ .vmem, ⟨7, _⟩ => ⟨S256x128, .bf16⟩
  | .local _ .vmem, ⟨8, _⟩ => ⟨S1x256x1, .f32⟩
  | .local _ .vmem, ⟨9, _⟩ => ⟨S1x256x1, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 17], ![false, false, false]⟩

def k0_cond1 (i : grid0.Coords) : BitVec 1 :=
  let arg2 : BitVec 32 := BitVec.ofNat 32 (i 2).val
  let c16_i32 : BitVec 32 := 16#32
  let v0 : BitVec 1 := Scalar.cmpi .slt arg2 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c16_i32_0 : BitVec 32 := 16#32
  let v3 : BitVec 1 := Scalar.cmpi .sge arg2 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, arg2.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttnFwdRefIdeal.lean ====
abbrev S4352x1024 : Shape := ⟨2, ![4352, 1024]⟩
abbrev S4352x256 : Shape := ⟨2, ![4352, 256]⟩
abbrev S4352x2x4x128 : Shape := ⟨4, ![4352, 2, 4, 128]⟩
abbrev S4352x2x128 : Shape := ⟨3, ![4352, 2, 128]⟩
abbrev S4096x2x4x128 : Shape := ⟨4, ![4096, 2, 4, 128]⟩
abbrev S2x4352x4096x4 : Shape := ⟨4, ![2, 4352, 4096, 4]⟩
abbrev S2x4x4096x4352 : Shape := ⟨4, ![2, 4, 4096, 4352]⟩
abbrev S_ : Shape := ⟨0, ![]⟩
abbrev S2x4x4096 : Shape := ⟨3, ![2, 4, 4096]⟩
abbrev S2x4x4096x1 : Shape := ⟨4, ![2, 4, 4096, 1]⟩
abbrev S2x128x4x4096 : Shape := ⟨4, ![2, 128, 4, 4096]⟩
abbrev S4096x1024 : Shape := ⟨2, ![4096, 1024]⟩
abbrev S256x2x4x128 : Shape := ⟨4, ![256, 2, 4, 128]⟩
abbrev S256x2x128 : Shape := ⟨3, ![256, 2, 128]⟩
abbrev S2x256x256x4 : Shape := ⟨4, ![2, 256, 256, 4]⟩
abbrev S2x4x256x256 : Shape := ⟨4, ![2, 4, 256, 256]⟩
abbrev S2x4x256 : Shape := ⟨3, ![2, 4, 256]⟩
abbrev S2x4x256x1 : Shape := ⟨4, ![2, 4, 256, 1]⟩
abbrev S2x128x4x256 : Shape := ⟨4, ![2, 128, 4, 256]⟩
abbrev S256x1024 : Shape := ⟨2, ![256, 1024]⟩
abbrev S2x4x4352x1 : Shape := ⟨4, ![2, 4, 4352, 1]⟩
abbrev S8x4352x1 : Shape := ⟨3, ![8, 4352, 1]⟩

abbrev nBuf : Space → Nat
  | .hbm => 98
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x256, .bf16⟩
  | .hbm, ⟨2, _⟩ => ⟨S4352x256, .bf16⟩
  | .hbm, ⟨3, _⟩ => ⟨S4352x1024, .f32⟩
  | .hbm, ⟨4, _⟩ => ⟨S4352x256, .f32⟩
  | .hbm, ⟨5, _⟩ => ⟨S4352x256, .f32⟩
  | .hbm, ⟨6, _⟩ => ⟨S4352x2x4x128, .f32⟩
  | .hbm, ⟨7, _⟩ => ⟨S4352x2x128, .f32⟩
  | .hbm, ⟨8, _⟩ => ⟨S4352x2x128, .f32⟩
  | .hbm, ⟨9, _⟩ => ⟨S4096x2x4x128, .f32⟩
  | .hbm, ⟨10, _⟩ => ⟨S2x4352x4096x4, .f32⟩
  | .hbm, ⟨11, _⟩ => ⟨S2x4x4096x4352, .f32⟩
  | .hbm, ⟨12, _⟩ => ⟨S_, .f32⟩
  | .hbm, ⟨13, _⟩ => ⟨S2x4x4096x4352, .f32⟩
  | .hbm, ⟨14, _⟩ => ⟨S2x4x4096x4352, .f32⟩
  | .hbm, ⟨15, _⟩ => ⟨S_, .f32⟩
  | .hbm, ⟨16, _⟩ => ⟨S2x4x4096, .f32⟩
  | .hbm, ⟨17, _⟩ => ⟨S_, .f32⟩
  | .hbm, ⟨18, _⟩ => ⟨S2x4x4096, .f32⟩
  | .hbm, ⟨19, _⟩ => ⟨S2x4x4096, .f32⟩
  | .hbm, ⟨20, _⟩ => ⟨S2x4x4096x1, .f32⟩
  | .hbm, ⟨21, _⟩ => ⟨S2x4x4096x4352, .f32⟩
  | .hbm, ⟨22, _⟩ => ⟨S2x4x4096x4352, .f32⟩
  | .hbm, ⟨23, _⟩ => ⟨S2x4x4096x4352, .f32⟩
  | .hbm, ⟨24, _⟩ => ⟨S_, .f32⟩
  | .hbm, ⟨25, _⟩ => ⟨S2x4x4096, .f32⟩
  | .hbm, ⟨26, _⟩ => ⟨S2x4x4096x1, .f32⟩
  | .hbm, ⟨27, _⟩ => ⟨S2x4x4096x4352, .f32⟩
  | .hbm, ⟨28, _⟩ => ⟨S2x4x4096x4352, .f32⟩
  | .hbm, ⟨29, _⟩ => ⟨S2x128x4x4096, .f32⟩
  | .hbm, ⟨30, _⟩ => ⟨S4096x2x4x128, .f32⟩
  | .hbm, ⟨31, _⟩ => ⟨S4096x1024, .f32⟩
  | .hbm, ⟨32, _⟩ => ⟨S256x2x4x128, .f32⟩
  | .hbm, ⟨33, _⟩ => ⟨S256x2x128, .f32⟩
  | .hbm, ⟨34, _⟩ => ⟨S256x2x128, .f32⟩
  | .hbm, ⟨35, _⟩ => ⟨S2x256x256x4, .f32⟩
  | .hbm, ⟨36, _⟩ => ⟨S2x4x256x256, .f32⟩
  | .hbm, ⟨37, _⟩ => ⟨S_, .f32⟩
  | .hbm, ⟨38, _⟩ => ⟨S2x4x256x256, .f32⟩
  | .hbm, ⟨39, _⟩ => ⟨S2x4x256x256, .f32⟩
  | .hbm, ⟨40, _⟩ => ⟨S_, .f32⟩
  | .hbm, ⟨41, _⟩ => ⟨S2x4x256, .f32⟩
  | .hbm, ⟨42, _⟩ => ⟨S_, .f32⟩
  | .hbm, ⟨43, _⟩ => ⟨S2x4x256, .f32⟩
  | .hbm, ⟨44, _⟩ => ⟨S2x4x256, .f32⟩
  | .hbm, ⟨45, _⟩ => ⟨S2x4x256x1, .f32⟩
  | .hbm, ⟨46, _⟩ => ⟨S2x4x256x256, .f32⟩
  | .hbm, ⟨47, _⟩ => ⟨S2x4x256x256, .f32⟩
  | .hbm, ⟨48, _⟩ => ⟨S2x4x256x256, .f32⟩
  | .hbm, ⟨49, _⟩ => ⟨S_, .f32⟩
  | .hbm, ⟨50, _⟩ => ⟨S2x4x256, .f32⟩
  | .hbm, ⟨51, _⟩ => ⟨S2x4x256x1, .f32⟩
  | .hbm, ⟨52, _⟩ => ⟨S2x4x256x256, .f32⟩
  | .hbm, ⟨53, _⟩ => ⟨S2x4x256x256, .f32⟩
  | .hbm, ⟨54, _⟩ => ⟨S2x128x4x256, .f32⟩
  | .hbm, ⟨55, _⟩ => ⟨S256x2x4x128, .f32⟩
  | .hbm, ⟨56, _⟩ => ⟨S256x1024, .f32⟩
  | .hbm, ⟨57, _⟩ => ⟨S4352x1024, .f32⟩
  | .hbm, ⟨58, _⟩ => ⟨S4352x1024, .bf16⟩
  | .hbm, ⟨59, _⟩ => ⟨S4352x2x4x128, .f32⟩
  | .hbm, ⟨60, _⟩ => ⟨S4352x2x128, .f32⟩
  | .hbm, ⟨61, _⟩ => ⟨S4096x2x4x128, .f32⟩
  | .hbm, ⟨62, _⟩ => ⟨S2x4352x4096x4, .f32⟩
  | .hbm, ⟨63, _⟩ => ⟨S2x4x4096x4352, .f32⟩
  | .hbm, ⟨64, _⟩ => ⟨S_, .f32⟩
  | .hbm, ⟨65, _⟩ => ⟨S2x4x4096x4352, .f32⟩
  | .hbm, ⟨66, _⟩ => ⟨S2x4x4096x4352, .f32⟩
  | .hbm, ⟨67, _⟩ => ⟨S_, .f32⟩
  | .hbm, ⟨68, _⟩ => ⟨S2x4x4096, .f32⟩
  | .hbm, ⟨69, _⟩ => ⟨S2x4x4096x1, .f32⟩
  | .hbm, ⟨70, _⟩ => ⟨S2x4x4096x4352, .f32⟩
  | .hbm, ⟨71, _⟩ => ⟨S2x4x4096x4352, .f32⟩
  | .hbm, ⟨72, _⟩ => ⟨S2x4x4096x4352, .f32⟩
  | .hbm, ⟨73, _⟩ => ⟨S_, .f32⟩
  | .hbm, ⟨74, _⟩ => ⟨S2x4x4096, .f32⟩
  | .hbm, ⟨75, _⟩ => ⟨S2x4x4096x1, .f32⟩
  | .hbm, ⟨76, _⟩ => ⟨S2x4x4096x1, .f32⟩
  | .hbm, ⟨77, _⟩ => ⟨S2x4x4096x1, .f32⟩
  | .hbm, ⟨78, _⟩ => ⟨S256x2x4x128, .f32⟩
  | .hbm, ⟨79, _⟩ => ⟨S256x2x128, .f32⟩
  | .hbm, ⟨80, _⟩ => ⟨S2x256x256x4, .f32⟩
  | .hbm, ⟨81, _⟩ => ⟨S2x4x256x256, .f32⟩
  | .hbm, ⟨82, _⟩ => ⟨S_, .f32⟩
  | .hbm, ⟨83, _⟩ => ⟨S2x4x256x256, .f32⟩
  | .hbm, ⟨84, _⟩ => ⟨S2x4x256x256, .f32⟩
  | .hbm, ⟨85, _⟩ => ⟨S_, .f32⟩
  | .hbm, ⟨86, _⟩ => ⟨S2x4x256, .f32⟩
  | .hbm, ⟨87, _⟩ => ⟨S2x4x256x1, .f32⟩
  | .hbm, ⟨88, _⟩ => ⟨S2x4x256x256, .f32⟩
  | .hbm, ⟨89, _⟩ => ⟨S2x4x256x256, .f32⟩
  | .hbm, ⟨90, _⟩ => ⟨S2x4x256x256, .f32⟩
  | .hbm, ⟨91, _⟩ => ⟨S_, .f32⟩
  | .hbm, ⟨92, _⟩ => ⟨S2x4x256, .f32⟩
  | .hbm, ⟨93, _⟩ => ⟨S2x4x256x1, .f32⟩
  | .hbm, ⟨94, _⟩ => ⟨S2x4x256x1, .f32⟩
  | .hbm, ⟨95, _⟩ => ⟨S2x4x256x1, .f32⟩
  | .hbm, ⟨96, _⟩ => ⟨S2x4x4352x1, .f32⟩
  | .hbm, ⟨97, _⟩ => ⟨S8x4352x1, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_7 : Ref sig .tc := ⟨.hbm, 64, rfl⟩
abbrev main_v53 : Ref sig .tc := ⟨.hbm, 65, rfl⟩
abbrev main_v54 : Ref sig .tc := ⟨.hbm, 66, rfl⟩
abbrev main_cst_8 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_9 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_10 : Ref sig .tc := ⟨.hbm, 82, rfl⟩
abbrev main_v68 : Ref sig .tc := ⟨.hbm, 83, rfl⟩
abbrev main_v69 : Ref sig .tc := ⟨.hbm, 84, rfl⟩
abbrev main_cst_11 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_12 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩

abbrev nD : Nat := 1
abbrev τ : Topo := Topo.v7x

variable {F : FTy → Type} [FloatOps F]
-- ==== ConvBwd.lean ====
abbrev S4352x11264 : Shape := ⟨2, ![4352, 11264]⟩
abbrev S3x11264 : Shape := ⟨2, ![3, 11264]⟩
abbrev S1x11264 : Shape := ⟨2, ![1, 11264]⟩
abbrev S4352x5632 : Shape := ⟨2, ![4352, 5632]⟩
abbrev S3x5632 : Shape := ⟨2, ![3, 5632]⟩
abbrev S1x5632 : Shape := ⟨2, ![1, 5632]⟩
abbrev S4352x128 : Shape := ⟨2, ![4352, 128]⟩
abbrev S3x128 : Shape := ⟨2, ![3, 128]⟩
abbrev S1x128 : Shape := ⟨2, ![1, 128]⟩
abbrev S128 : Shape := ⟨1, ![128]⟩

abbrev nBuf : Space → Nat
  | .hbm => 10
  | .vmem => 26
  | .smem => 0
  | _ => 0

abbrev bufTy : (tb : Table) → Fin (tcTables nBuf tb) → BufTy
  | .hbm, ⟨0, _⟩ => ⟨S4352x11264, .bf16⟩
  | .hbm, ⟨1, _⟩ => ⟨S3x11264, .f32⟩
  | .hbm, ⟨2, _⟩ => ⟨S1x11264, .f32⟩
  | .hbm, ⟨3, _⟩ => ⟨S4352x5632, .bf16⟩
  | .hbm, ⟨4, _⟩ => ⟨S4352x5632, .bf16⟩
  | .hbm, ⟨5, _⟩ => ⟨S4352x5632, .bf16⟩
  | .hbm, ⟨6, _⟩ => ⟨S3x5632, .f32⟩
  | .hbm, ⟨7, _⟩ => ⟨S3x5632, .f32⟩
  | .hbm, ⟨8, _⟩ => ⟨S1x5632, .f32⟩
  | .hbm, ⟨9, _⟩ => ⟨S1x5632, .f32⟩
  | .local _ .vmem, ⟨0, _⟩ => ⟨S4352x128, .bf16⟩
  | .local _ .vmem, ⟨1, _⟩ => ⟨S4352x128, .bf16⟩
  | .local _ .vmem, ⟨2, _⟩ => ⟨S4352x128, .bf16⟩
  | .local _ .vmem, ⟨3, _⟩ => ⟨S4352x128, .bf16⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S4352x128, .bf16⟩
  | .local _ .vmem, ⟨13, _⟩ => ⟨S4352x128, .bf16⟩
  | .local _ .vmem, ⟨14, _⟩ => ⟨S4352x128, .bf16⟩
  | .local _ .vmem, ⟨15, _⟩ => ⟨S4352x128, .bf16⟩
  | .local _ .vmem, ⟨16, _⟩ => ⟨S4352x128, .bf16⟩
  | .local _ .vmem, ⟨17, _⟩ => ⟨S4352x128, .bf16⟩
  | .local _ .vmem, ⟨18, _⟩ => ⟨S3x128, .f32⟩
  | .local _ .vmem, ⟨19, _⟩ => ⟨S3x128, .f32⟩
  | .local _ .vmem, ⟨20, _⟩ => ⟨S3x128, .f32⟩
  | .local _ .vmem, ⟨21, _⟩ => ⟨S3x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | _, _ => ⟨S4352x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c44_i32 : BitVec 32 := 44#32
  let v0 : BitVec 32 := Scalar.addi arg0 c44_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c44_i32 : BitVec 32 := 44#32
  let v0 : BitVec 32 := Scalar.addi arg0 c44_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c44_i32 : BitVec 32 := 44#32
  let v0 : BitVec 32 := Scalar.addi arg0 c44_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4352x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4352x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4352x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4352x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ConvBwdRefIdeal.lean ====
abbrev S4352x11264 : Shape := ⟨2, ![4352, 11264]⟩
abbrev S3x11264 : Shape := ⟨2, ![3, 11264]⟩
abbrev S1x11264 : Shape := ⟨2, ![1, 11264]⟩
abbrev S4352x5632 : Shape := ⟨2, ![4352, 5632]⟩
abbrev S4096x11264 : Shape := ⟨2, ![4096, 11264]⟩
abbrev S11264 : Shape := ⟨1, ![11264]⟩
abbrev S_ : Shape := ⟨0, ![]⟩
abbrev S4098x11264 : Shape := ⟨2, ![4098, 11264]⟩
abbrev S4096x5632 : Shape := ⟨2, ![4096, 5632]⟩
abbrev S256x11264 : Shape := ⟨2, ![256, 11264]⟩
abbrev S258x11264 : Shape := ⟨2, ![258, 11264]⟩
abbrev S256x5632 : Shape := ⟨2, ![256, 5632]⟩
abbrev S3x5632 : Shape := ⟨2, ![3, 5632]⟩
abbrev S1x5632 : Shape := ⟨2, ![1, 5632]⟩

abbrev nBuf : Space → Nat
  | .hbm => 243
  | .vmem => 0
  | .smem => 0
  | _ => 0

abbrev hbmTy0_0 (i : Nat) : BufTy := match i % 128 with
  | 0 => ⟨S4352x11264, .bf16⟩
  | 1 => ⟨S3x11264, .f32⟩
  | 2 => ⟨S1x11264, .f32⟩
  | 3 => ⟨S4352x5632, .bf16⟩
  | 4 => ⟨S4352x11264, .f32⟩
  | 5 => ⟨S4096x11264, .f32⟩
  | 6 => ⟨S11264, .f32⟩
  | 7 => ⟨S_, .f32⟩
  | 8 => ⟨S1x11264, .f32⟩
  | 9 => ⟨S4098x11264, .f32⟩
  | 10 => ⟨S_, .f32⟩
  | 11 => ⟨S1x11264, .f32⟩
  | 12 => ⟨S_, .f32⟩
  | 13 => ⟨S1x11264, .f32⟩
  | 14 => ⟨S4096x11264, .f32⟩
  | 15 => ⟨S1x11264, .f32⟩
  | 16 => ⟨S11264, .f32⟩
  | 17 => ⟨S1x11264, .f32⟩
  | 18 => ⟨S4096x11264, .f32⟩
  | 19 => ⟨S4096x11264, .f32⟩
  | 20 => ⟨S_, .f32⟩
  | 21 => ⟨S4096x11264, .f32⟩
  | 22 => ⟨S4096x11264, .f32⟩
  | 23 => ⟨S4096x11264, .f32⟩
  | 24 => ⟨S1x11264, .f32⟩
  | 25 => ⟨S11264, .f32⟩
  | 26 => ⟨S1x11264, .f32⟩
  | 27 => ⟨S4096x11264, .f32⟩
  | 28 => ⟨S4096x11264, .f32⟩
  | 29 => ⟨S4096x11264, .f32⟩
  | 30 => ⟨S4096x11264, .f32⟩
  | 31 => ⟨S1x11264, .f32⟩
  | 32 => ⟨S11264, .f32⟩
  | 33 => ⟨S1x11264, .f32⟩
  | 34 => ⟨S4096x11264, .f32⟩
  | 35 => ⟨S4096x11264, .f32⟩
  | 36 => ⟨S4096x11264, .f32⟩
  | 37 => ⟨S1x11264, .f32⟩
  | 38 => ⟨S4096x11264, .f32⟩
  | 39 => ⟨S4096x11264, .f32⟩
  | 40 => ⟨S4096x5632, .f32⟩
  | 41 => ⟨S4096x5632, .f32⟩
  | 42 => ⟨S4096x5632, .f32⟩
  | 43 => ⟨S4096x5632, .f32⟩
  | 44 => ⟨S_, .f32⟩
  | 45 => ⟨S4096x5632, .f32⟩
  | 46 => ⟨S4096x5632, .f32⟩
  | 47 => ⟨S_, .f32⟩
  | 48 => ⟨S4096x5632, .f32⟩
  | 49 => ⟨S4096x5632, .f32⟩
  | 50 => ⟨S_, .f32⟩
  | 51 => ⟨S4096x5632, .f32⟩
  | 52 => ⟨S4096x5632, .f32⟩
  | 53 => ⟨S4096x5632, .f32⟩
  | 54 => ⟨S4096x5632, .f32⟩
  | 55 => ⟨S4096x5632, .f32⟩
  | 56 => ⟨S256x11264, .f32⟩
  | 57 => ⟨S11264, .f32⟩
  | 58 => ⟨S_, .f32⟩
  | 59 => ⟨S1x11264, .f32⟩
  | 60 => ⟨S258x11264, .f32⟩
  | 61 => ⟨S_, .f32⟩
  | 62 => ⟨S1x11264, .f32⟩
  | 63 => ⟨S_, .f32⟩
  | 64 => ⟨S1x11264, .f32⟩
  | 65 => ⟨S256x11264, .f32⟩
  | 66 => ⟨S1x11264, .f32⟩
  | 67 => ⟨S11264, .f32⟩
  | 68 => ⟨S1x11264, .f32⟩
  | 69 => ⟨S256x11264, .f32⟩
  | 70 => ⟨S256x11264, .f32⟩
  | 71 => ⟨S_, .f32⟩
  | 72 => ⟨S256x11264, .f32⟩
  | 73 => ⟨S256x11264, .f32⟩
  | 74 => ⟨S256x11264, .f32⟩
  | 75 => ⟨S1x11264, .f32⟩
  | 76 => ⟨S11264, .f32⟩
  | 77 => ⟨S1x11264, .f32⟩
  | 78 => ⟨S256x11264, .f32⟩
  | 79 => ⟨S256x11264, .f32⟩
  | 80 => ⟨S256x11264, .f32⟩
  | 81 => ⟨S256x11264, .f32⟩
  | 82 => ⟨S1x11264, .f32⟩
  | 83 => ⟨S11264, .f32⟩
  | 84 => ⟨S1x11264, .f32⟩
  | 85 => ⟨S256x11264, .f32⟩
  | 86 => ⟨S256x11264, .f32⟩
  | 87 => ⟨S256x11264, .f32⟩
  | 88 => ⟨S1x11264, .f32⟩
  | 89 => ⟨S256x11264, .f32⟩
  | 90 => ⟨S256x11264, .f32⟩
  | 91 => ⟨S256x5632, .f32⟩
  | 92 => ⟨S256x5632, .f32⟩
  | 93 => ⟨S256x5632, .f32⟩
  | 94 => ⟨S256x5632, .f32⟩
  | 95 => ⟨S_, .f32⟩
  | 96 => ⟨S256x5632, .f32⟩
  | 97 => ⟨S256x5632, .f32⟩
  | 98 => ⟨S_, .f32⟩
  | 99 => ⟨S256x5632, .f32⟩
  | 100 => ⟨S256x5632, .f32⟩
  | 101 => ⟨S_, .f32⟩
  | 102 => ⟨S256x5632, .f32⟩
  | 103 => ⟨S256x5632, .f32⟩
  | 104 => ⟨S256x5632, .f32⟩
  | 105 => ⟨S256x5632, .f32⟩
  | 106 => ⟨S256x5632, .f32⟩
  | 107 => ⟨S4352x5632, .f32⟩
  | 108 => ⟨S4352x5632, .f32⟩
  | 109 => ⟨S4096x5632, .f32⟩
  | 110 => ⟨S256x5632, .f32⟩
  | 111 => ⟨S256x5632, .f32⟩
  | 112 => ⟨S256x5632, .f32⟩
  | 113 => ⟨S256x5632, .f32⟩
  | 114 => ⟨S256x5632, .f32⟩
  | 115 => ⟨S256x5632, .f32⟩
  | 116 => ⟨S256x5632, .f32⟩
  | 117 => ⟨S256x11264, .f32⟩
  | 118 => ⟨S_, .f32⟩
  | 119 => ⟨S11264, .f32⟩
  | 120 => ⟨S1x11264, .f32⟩
  | 121 => ⟨S_, .f32⟩
  | 122 => ⟨S11264, .f32⟩
  | 123 => ⟨S256x11264, .f32⟩
  | 124 => ⟨S_, .f32⟩
  | 125 => ⟨S11264, .f32⟩
  | 126 => ⟨S1x11264, .f32⟩
  | 127 => ⟨S256x11264, .f32⟩
  | _ => ⟨S4352x11264, .bf16⟩

abbrev hbmTy0_1 (i : Nat) : BufTy := match i % 128 with
  | 0 => ⟨S256x11264, .f32⟩
  | 1 => ⟨S_, .f32⟩
  | 2 => ⟨S11264, .f32⟩
  | 3 => ⟨S1x11264, .f32⟩
  | 4 => ⟨S_, .f32⟩
  | 5 => ⟨S3x11264, .f32⟩
  | 6 => ⟨S_, .f32⟩
  | 7 => ⟨S258x11264, .f32⟩
  | 8 => ⟨S256x11264, .f32⟩
  | 9 => ⟨S_, .f32⟩
  | 10 => ⟨S11264, .f32⟩
  | 11 => ⟨S1x11264, .f32⟩
  | 12 => ⟨S256x11264, .f32⟩
  | 13 => ⟨S256x11264, .f32⟩
  | 14 => ⟨S_, .f32⟩
  | 15 => ⟨S11264, .f32⟩
  | 16 => ⟨S1x11264, .f32⟩
  | 17 => ⟨S_, .f32⟩
  | 18 => ⟨S3x11264, .f32⟩
  | 19 => ⟨S3x11264, .f32⟩
  | 20 => ⟨S_, .f32⟩
  | 21 => ⟨S258x11264, .f32⟩
  | 22 => ⟨S258x11264, .f32⟩
  | 23 => ⟨S256x11264, .f32⟩
  | 24 => ⟨S_, .f32⟩
  | 25 => ⟨S11264, .f32⟩
  | 26 => ⟨S1x11264, .f32⟩
  | 27 => ⟨S256x11264, .f32⟩
  | 28 => ⟨S256x11264, .f32⟩
  | 29 => ⟨S_, .f32⟩
  | 30 => ⟨S11264, .f32⟩
  | 31 => ⟨S1x11264, .f32⟩
  | 32 => ⟨S_, .f32⟩
  | 33 => ⟨S3x11264, .f32⟩
  | 34 => ⟨S3x11264, .f32⟩
  | 35 => ⟨S_, .f32⟩
  | 36 => ⟨S258x11264, .f32⟩
  | 37 => ⟨S258x11264, .f32⟩
  | 38 => ⟨S1x11264, .f32⟩
  | 39 => ⟨S256x11264, .f32⟩
  | 40 => ⟨S1x11264, .f32⟩
  | 41 => ⟨S1x11264, .f32⟩
  | 42 => ⟨S_, .f32⟩
  | 43 => ⟨S4352x11264, .f32⟩
  | 44 => ⟨S4096x5632, .f32⟩
  | 45 => ⟨S4096x5632, .f32⟩
  | 46 => ⟨S4096x5632, .f32⟩
  | 47 => ⟨S4096x5632, .f32⟩
  | 48 => ⟨S4096x5632, .f32⟩
  | 49 => ⟨S4096x5632, .f32⟩
  | 50 => ⟨S4096x11264, .f32⟩
  | 51 => ⟨S_, .f32⟩
  | 52 => ⟨S11264, .f32⟩
  | 53 => ⟨S1x11264, .f32⟩
  | 54 => ⟨S_, .f32⟩
  | 55 => ⟨S11264, .f32⟩
  | 56 => ⟨S4096x11264, .f32⟩
  | 57 => ⟨S_, .f32⟩
  | 58 => ⟨S11264, .f32⟩
  | 59 => ⟨S1x11264, .f32⟩
  | 60 => ⟨S4096x11264, .f32⟩
  | 61 => ⟨S4096x11264, .f32⟩
  | 62 => ⟨S_, .f32⟩
  | 63 => ⟨S11264, .f32⟩
  | 64 => ⟨S1x11264, .f32⟩
  | 65 => ⟨S_, .f32⟩
  | 66 => ⟨S3x11264, .f32⟩
  | 67 => ⟨S3x11264, .f32⟩
  | 68 => ⟨S_, .f32⟩
  | 69 => ⟨S4098x11264, .f32⟩
  | 70 => ⟨S4096x11264, .f32⟩
  | 71 => ⟨S_, .f32⟩
  | 72 => ⟨S11264, .f32⟩
  | 73 => ⟨S1x11264, .f32⟩
  | 74 => ⟨S4096x11264, .f32⟩
  | 75 => ⟨S4096x11264, .f32⟩
  | 76 => ⟨S_, .f32⟩
  | 77 => ⟨S11264, .f32⟩
  | 78 => ⟨S1x11264, .f32⟩
  | 79 => ⟨S_, .f32⟩
  | 80 => ⟨S3x11264, .f32⟩
  | 81 => ⟨S3x11264, .f32⟩
  | 82 => ⟨S_, .f32⟩
  | 83 => ⟨S4098x11264, .f32⟩
  | 84 => ⟨S4098x11264, .f32⟩
  | 85 => ⟨S4096x11264, .f32⟩
  | 86 => ⟨S_, .f32⟩
  | 87 => ⟨S11264, .f32⟩
  | 88 => ⟨S1x11264, .f32⟩
  | 89 => ⟨S4096x11264, .f32⟩
  | 90 => ⟨S4096x11264, .f32⟩
  | 91 => ⟨S_, .f32⟩
  | 92 => ⟨S11264, .f32⟩
  | 93 => ⟨S1x11264, .f32⟩
  | 94 => ⟨S_, .f32⟩
  | 95 => ⟨S3x11264, .f32⟩
  | 96 => ⟨S3x11264, .f32⟩
  | 97 => ⟨S_, .f32⟩
  | 98 => ⟨S4098x11264, .f32⟩
  | 99 => ⟨S4098x11264, .f32⟩
  | 100 => ⟨S1x11264, .f32⟩
  | 101 => ⟨S4096x11264, .f32⟩
  | 102 => ⟨S1x11264, .f32⟩
  | 103 => ⟨S1x11264, .f32⟩
  | 104 => ⟨S1x11264, .f32⟩
  | 105 => ⟨S_, .f32⟩
  | 106 => ⟨S4352x11264, .f32⟩
  | 107 => ⟨S4352x11264, .f32⟩
  | 108 => ⟨S4352x11264, .bf16⟩
  | 109 => ⟨S4352x5632, .bf16⟩
  | 110 => ⟨S4352x5632, .bf16⟩
  | 111 => ⟨S3x5632, .f32⟩
  | 112 => ⟨S3x5632, .f32⟩
  | 113 => ⟨S1x5632, .f32⟩
  | 114 => ⟨S1x5632, .f32⟩
  | _ => ⟨S4352x11264, .bf16⟩

abbrev hbmTy (i : Nat) : BufTy := match i / 128 with
  | 0 => hbmTy0_0 i
  | 1 => hbmTy0_1 i
  | _ => ⟨S4352x11264, .bf16⟩

abbrev bufTy : (tb : Table) → Fin (tcTables nBuf tb) → BufTy
  | .hbm, ⟨i, _⟩ => hbmTy i
  | _, _ => ⟨S4352x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v34_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v34_1 : Ref sig .tc := ⟨.hbm, 53, rfl⟩
abbrev main_v34_0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_3 : Ref sig .tc := ⟨.hbm, 58, rfl⟩
abbrev main_v38 : Ref sig .tc := ⟨.hbm, 59, rfl⟩
abbrev main_v39 : Ref sig .tc := ⟨.hbm, 60, rfl⟩
abbrev main_cst_4 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_6 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call1_v0 : Ref sig .tc := ⟨.hbm, 93, rfl⟩
abbrev main_call1_v1 : Ref sig .tc := ⟨.hbm, 94, rfl⟩
abbrev main_call1_cst : Ref sig .tc := ⟨.hbm, 95, rfl⟩
abbrev main_call1_v2 : Ref sig .tc := ⟨.hbm, 96, rfl⟩
abbrev main_call1_v3 : Ref sig .tc := ⟨.hbm, 97, rfl⟩
abbrev main_call1_cst_0 : Ref sig .tc := ⟨.hbm, 98, rfl⟩
abbrev main_call1_v4 : Ref sig .tc := ⟨.hbm, 99, rfl⟩
abbrev main_v69_2 : Ref sig .tc := ⟨.hbm, 100, rfl⟩
abbrev main_call1_cst_1 : Ref sig .tc := ⟨.hbm, 101, rfl⟩
abbrev main_call1_v6 : Ref sig .tc := ⟨.hbm, 102, rfl⟩
abbrev main_call1_v7 : Ref sig .tc := ⟨.hbm, 103, rfl⟩
abbrev main_v69_1 : Ref sig .tc := ⟨.hbm, 104, rfl⟩
abbrev main_v69_0 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_call2_v0 : Ref sig .tc := ⟨.hbm, 113, rfl⟩
abbrev main_call2_v1 : Ref sig .tc := ⟨.hbm, 114, rfl⟩
abbrev main_call2_v2 : Ref sig .tc := ⟨.hbm, 115, rfl⟩
abbrev main_v77 : Ref sig .tc := ⟨.hbm, 116, rfl⟩
abbrev main_v78 : Ref sig .tc := ⟨.hbm, 117, rfl⟩
abbrev main_cst_7 : Ref sig .tc := ⟨.hbm, 118, rfl⟩
abbrev main_v79 : Ref sig .tc := ⟨.hbm, 119, rfl⟩
abbrev main_v80 : Ref sig .tc := ⟨.hbm, 120, rfl⟩
abbrev main_cst_8 : Ref sig .tc := ⟨.hbm, 121, rfl⟩
abbrev main_v81 : Ref sig .tc := ⟨.hbm, 122, rfl⟩
abbrev main_v82 : Ref sig .tc := ⟨.hbm, 123, rfl⟩
abbrev main_cst_9 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_10 : Ref sig .tc := ⟨.hbm, 129, rfl⟩
abbrev main_v87 : Ref sig .tc := ⟨.hbm, 130, rfl⟩
abbrev main_v88 : Ref sig .tc := ⟨.hbm, 131, rfl⟩
abbrev main_cst_11 : Ref sig .tc := ⟨.hbm, 132, rfl⟩
abbrev main_v89 : Ref sig .tc := ⟨.hbm, 133, rfl⟩
abbrev main_cst_12 : Ref sig .tc := ⟨.hbm, 134, rfl⟩
abbrev main_v90 : Ref sig .tc := ⟨.hbm, 135, rfl⟩
abbrev main_v91 : Ref sig .tc := ⟨.hbm, 136, rfl⟩
abbrev main_cst_13 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_14 : Ref sig .tc := ⟨.hbm, 142, rfl⟩
abbrev main_v96 : Ref sig .tc := ⟨.hbm, 143, rfl⟩
abbrev main_v97 : Ref sig .tc := ⟨.hbm, 144, rfl⟩
abbrev main_cst_15 : Ref sig .tc := ⟨.hbm, 145, rfl⟩
abbrev main_v98 : Ref sig .tc := ⟨.hbm, 146, rfl⟩
abbrev main_v99 : Ref sig .tc := ⟨.hbm, 147, rfl⟩
abbrev main_cst_16 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_cst_17 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_cst_18 : Ref sig .tc := ⟨.hbm, 157, rfl⟩
abbrev main_v107 : Ref sig .tc := ⟨.hbm, 158, rfl⟩
abbrev main_v108 : Ref sig .tc := ⟨.hbm, 159, rfl⟩
abbrev main_cst_19 : Ref sig .tc := ⟨.hbm, 160, rfl⟩
abbrev main_v109 : Ref sig .tc := ⟨.hbm, 161, rfl⟩
abbrev main_v110 : Ref sig .tc := ⟨.hbm, 162, rfl⟩
abbrev main_cst_20 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_cst_21 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_call3_v0 : Ref sig .tc := ⟨.hbm, 174, rfl⟩
abbrev main_call3_v1 : Ref sig .tc := ⟨.hbm, 175, rfl⟩
abbrev main_call3_v2 : Ref sig .tc := ⟨.hbm, 176, rfl⟩
abbrev main_v120 : Ref sig .tc := ⟨.hbm, 177, rfl⟩
abbrev main_v121 : Ref sig .tc := ⟨.hbm, 178, rfl⟩
abbrev main_cst_22 : Ref sig .tc := ⟨.hbm, 179, rfl⟩
abbrev main_v122 : Ref sig .tc := ⟨.hbm, 180, rfl⟩
abbrev main_v123 : Ref sig .tc := ⟨.hbm, 181, rfl⟩
abbrev main_cst_23 : Ref sig .tc := ⟨.hbm, 182, rfl⟩
abbrev main_v124 : Ref sig .tc := ⟨.hbm, 183, rfl⟩
abbrev main_v125 : Ref sig .tc := ⟨.hbm, 184, rfl⟩
abbrev main_cst_24 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_cst_25 : Ref sig .tc := ⟨.hbm, 190, rfl⟩
abbrev main_v130 : Ref sig .tc := ⟨.hbm, 191, rfl⟩
abbrev main_v131 : Ref sig .tc := ⟨.hbm, 192, rfl⟩
abbrev main_cst_26 : Ref sig .tc := ⟨.hbm, 193, rfl⟩
abbrev main_v132 : Ref sig .tc := ⟨.hbm, 194, rfl⟩
abbrev main_v133 : Ref sig .tc := ⟨.hbm, 195, rfl⟩
abbrev main_cst_27 : Ref sig .tc := ⟨.hbm, 196, rfl⟩
abbrev main_v134 : Ref sig .tc := ⟨.hbm, 197, rfl⟩
abbrev main_v135 : Ref sig .tc := ⟨.hbm, 198, rfl⟩
abbrev main_cst_28 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_cst_29 : Ref sig .tc := ⟨.hbm, 204, rfl⟩
abbrev main_v140 : Ref sig .tc := ⟨.hbm, 205, rfl⟩
abbrev main_v141 : Ref sig .tc := ⟨.hbm, 206, rfl⟩
abbrev main_cst_30 : Ref sig .tc := ⟨.hbm, 207, rfl⟩
abbrev main_v142 : Ref sig .tc := ⟨.hbm, 208, rfl⟩
abbrev main_v143 : Ref sig .tc := ⟨.hbm, 209, rfl⟩
abbrev main_cst_31 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_cst_32 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_cst_33 : Ref sig .tc := ⟨.hbm, 219, rfl⟩
abbrev main_v151 : Ref sig .tc := ⟨.hbm, 220, rfl⟩
abbrev main_v152 : Ref sig .tc := ⟨.hbm, 221, rfl⟩
abbrev main_cst_34 : Ref sig .tc := ⟨.hbm, 222, rfl⟩
abbrev main_v153 : Ref sig .tc := ⟨.hbm, 223, rfl⟩
abbrev main_v154 : Ref sig .tc := ⟨.hbm, 224, rfl⟩
abbrev main_cst_35 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_cst_36 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩

abbrev nD : Nat := 1
abbrev τ : Topo := Topo.v7x

variable {F : FTy → Type} [FloatOps F]
-- ==== ConvFwd.lean ====
abbrev S4352x11264 : Shape := ⟨2, ![4352, 11264]⟩
abbrev S3x11264 : Shape := ⟨2, ![3, 11264]⟩
abbrev S1x11264 : Shape := ⟨2, ![1, 11264]⟩
abbrev S4352x5632 : Shape := ⟨2, ![4352, 5632]⟩
abbrev S4352x128 : Shape := ⟨2, ![4352, 128]⟩
abbrev S3x128 : Shape := ⟨2, ![3, 128]⟩
abbrev S1x128 : Shape := ⟨2, ![1, 128]⟩

abbrev nBuf : Space → Nat
  | .hbm => 4
  | .vmem => 14
  | .smem => 0
  | _ => 0

abbrev bufTy : (tb : Table) → Fin (tcTables nBuf tb) → BufTy
  | .hbm, ⟨0, _⟩ => ⟨S4352x11264, .bf16⟩
  | .hbm, ⟨1, _⟩ => ⟨S3x11264, .f32⟩
  | .hbm, ⟨2, _⟩ => ⟨S1x11264, .f32⟩
  | .hbm, ⟨3, _⟩ => ⟨S4352x5632, .bf16⟩
  | .local _ .vmem, ⟨0, _⟩ => ⟨S4352x128, .bf16⟩
  | .local _ .vmem, ⟨1, _⟩ => ⟨S4352x128, .bf16⟩
  | .local _ .vmem, ⟨2, _⟩ => ⟨S4352x128, .bf16⟩
  | .local _ .vmem, ⟨3, _⟩ => ⟨S4352x128, .bf16⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S4352x128, .bf16⟩
  | .local _ .vmem, ⟨13, _⟩ => ⟨S4352x128, .bf16⟩
  | _, _ => ⟨S4352x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c44_i32 : BitVec 32 := 44#32
  let v0 : BitVec 32 := Scalar.addi arg0 c44_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c44_i32 : BitVec 32 := 44#32
  let v0 : BitVec 32 := Scalar.addi arg0 c44_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c44_i32 : BitVec 32 := 44#32
  let v0 : BitVec 32 := Scalar.addi arg0 c44_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4352x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4352x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvFwdRefIdeal.lean ====
abbrev S4352x11264 : Shape := ⟨2, ![4352, 11264]⟩
abbrev S3x11264 : Shape := ⟨2, ![3, 11264]⟩
abbrev S1x11264 : Shape := ⟨2, ![1, 11264]⟩
abbrev S4096x11264 : Shape := ⟨2, ![4096, 11264]⟩
abbrev S11264 : Shape := ⟨1, ![11264]⟩
abbrev S_ : Shape := ⟨0, ![]⟩
abbrev S4098x11264 : Shape := ⟨2, ![4098, 11264]⟩
abbrev S4096x5632 : Shape := ⟨2, ![4096, 5632]⟩
abbrev S256x11264 : Shape := ⟨2, ![256, 11264]⟩
abbrev S258x11264 : Shape := ⟨2, ![258, 11264]⟩
abbrev S256x5632 : Shape := ⟨2, ![256, 5632]⟩
abbrev S4352x5632 : Shape := ⟨2, ![4352, 5632]⟩

abbrev nBuf : Space → Nat
  | .hbm => 92
  | .vmem => 0
  | .smem => 0
  | _ => 0

abbrev bufTy : (tb : Table) → Fin (tcTables nBuf tb) → BufTy
  | .hbm, ⟨0, _⟩ => ⟨S4352x11264, .bf16⟩
  | .hbm, ⟨1, _⟩ => ⟨S3x11264, .f32⟩
  | .hbm, ⟨2, _⟩ => ⟨S1x11264, .f32⟩
  | .hbm, ⟨3, _⟩ => ⟨S4352x11264, .f32⟩
  | .hbm, ⟨4, _⟩ => ⟨S4096x11264, .f32⟩
  | .hbm, ⟨5, _⟩ => ⟨S11264, .f32⟩
  | .hbm, ⟨6, _⟩ => ⟨S_, .f32⟩
  | .hbm, ⟨7, _⟩ => ⟨S1x11264, .f32⟩
  | .hbm, ⟨8, _⟩ => ⟨S4098x11264, .f32⟩
  | .hbm, ⟨9, _⟩ => ⟨S4096x11264, .f32⟩
  | .hbm, ⟨10, _⟩ => ⟨S1x11264, .f32⟩
  | .hbm, ⟨11, _⟩ => ⟨S11264, .f32⟩
  | .hbm, ⟨12, _⟩ => ⟨S1x11264, .f32⟩
  | .hbm, ⟨13, _⟩ => ⟨S4096x11264, .f32⟩
  | .hbm, ⟨14, _⟩ => ⟨S4096x11264, .f32⟩
  | .hbm, ⟨15, _⟩ => ⟨S_, .f32⟩
  | .hbm, ⟨16, _⟩ => ⟨S4096x11264, .f32⟩
  | .hbm, ⟨17, _⟩ => ⟨S4096x11264, .f32⟩
  | .hbm, ⟨18, _⟩ => ⟨S4096x11264, .f32⟩
  | .hbm, ⟨19, _⟩ => ⟨S1x11264, .f32⟩
  | .hbm, ⟨20, _⟩ => ⟨S11264, .f32⟩
  | .hbm, ⟨21, _⟩ => ⟨S1x11264, .f32⟩
  | .hbm, ⟨22, _⟩ => ⟨S4096x11264, .f32⟩
  | .hbm, ⟨23, _⟩ => ⟨S4096x11264, .f32⟩
  | .hbm, ⟨24, _⟩ => ⟨S4096x11264, .f32⟩
  | .hbm, ⟨25, _⟩ => ⟨S4096x11264, .f32⟩
  | .hbm, ⟨26, _⟩ => ⟨S1x11264, .f32⟩
  | .hbm, ⟨27, _⟩ => ⟨S11264, .f32⟩
  | .hbm, ⟨28, _⟩ => ⟨S1x11264, .f32⟩
  | .hbm, ⟨29, _⟩ => ⟨S4096x11264, .f32⟩
  | .hbm, ⟨30, _⟩ => ⟨S4096x11264, .f32⟩
  | .hbm, ⟨31, _⟩ => ⟨S4096x11264, .f32⟩
  | .hbm, ⟨32, _⟩ => ⟨S1x11264, .f32⟩
  | .hbm, ⟨33, _⟩ => ⟨S4096x11264, .f32⟩
  | .hbm, ⟨34, _⟩ => ⟨S4096x11264, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S4096x5632, .f32⟩
  | .hbm, ⟨39, _⟩ => ⟨S_, .f32⟩
  | .hbm, ⟨40, _⟩ => ⟨S4096x5632, .f32⟩
  | .hbm, ⟨41, _⟩ => ⟨S4096x5632, .f32⟩
  | .hbm, ⟨42, _⟩ => ⟨S_, .f32⟩
  | .hbm, ⟨43, _⟩ => ⟨S4096x5632, .f32⟩
  | .hbm, ⟨44, _⟩ => ⟨S4096x5632, .f32⟩
  | .hbm, ⟨45, _⟩ => ⟨S4096x5632, .f32⟩
  | .hbm, ⟨46, _⟩ => ⟨S4096x5632, .f32⟩
  | .hbm, ⟨47, _⟩ => ⟨S256x11264, .f32⟩
  | .hbm, ⟨48, _⟩ => ⟨S11264, .f32⟩
  | .hbm, ⟨49, _⟩ => ⟨S_, .f32⟩
  | .hbm, ⟨50, _⟩ => ⟨S1x11264, .f32⟩
  | .hbm, ⟨51, _⟩ => ⟨S258x11264, .f32⟩
  | .hbm, ⟨52, _⟩ => ⟨S256x11264, .f32⟩
  | .hbm, ⟨53, _⟩ => ⟨S1x11264, .f32⟩
  | .hbm, ⟨54, _⟩ => ⟨S11264, .f32⟩
  | .hbm, ⟨55, _⟩ => ⟨S1x11264, .f32⟩
  | .hbm, ⟨56, _⟩ => ⟨S256x11264, .f32⟩
  | .hbm, ⟨57, _⟩ => ⟨S256x11264, .f32⟩
  | .hbm, ⟨58, _⟩ => ⟨S_, .f32⟩
  | .hbm, ⟨59, _⟩ => ⟨S256x11264, .f32⟩
  | .hbm, ⟨60, _⟩ => ⟨S256x11264, .f32⟩
  | .hbm, ⟨61, _⟩ => ⟨S256x11264, .f32⟩
  | .hbm, ⟨62, _⟩ => ⟨S1x11264, .f32⟩
  | .hbm, ⟨63, _⟩ => ⟨S11264, .f32⟩
  | .hbm, ⟨64, _⟩ => ⟨S1x11264, .f32⟩
  | .hbm, ⟨65, _⟩ => ⟨S256x11264, .f32⟩
  | .hbm, ⟨66, _⟩ => ⟨S256x11264, .f32⟩
  | .hbm, ⟨67, _⟩ => ⟨S256x11264, .f32⟩
  | .hbm, ⟨68, _⟩ => ⟨S256x11264, .f32⟩
  | .hbm, ⟨69, _⟩ => ⟨S1x11264, .f32⟩
  | .hbm, ⟨70, _⟩ => ⟨S11264, .f32⟩
  | .hbm, ⟨71, _⟩ => ⟨S1x11264, .f32⟩
  | .hbm, ⟨72, _⟩ => ⟨S256x11264, .f32⟩
  | .hbm, ⟨73, _⟩ => ⟨S256x11264, .f32⟩
  | .hbm, ⟨74, _⟩ => ⟨S256x11264, .f32⟩
  | .hbm, ⟨75, _⟩ => ⟨S1x11264, .f32⟩
  | .hbm, ⟨76, _⟩ => ⟨S256x11264, .f32⟩
  | .hbm, ⟨77, _⟩ => ⟨S256x11264, .f32⟩
  | .hbm, ⟨78, _⟩ => ⟨S256x5632, .f32⟩
  | .hbm, ⟨79, _⟩ => ⟨S256x5632, .f32⟩
  | .hbm, ⟨80, _⟩ => ⟨S256x5632, .f32⟩
  | .hbm, ⟨81, _⟩ => ⟨S256x5632, .f32⟩
  | .hbm, ⟨82, _⟩ => ⟨S_, .f32⟩
  | .hbm, ⟨83, _⟩ => ⟨S256x5632, .f32⟩
  | .hbm, ⟨84, _⟩ => ⟨S256x5632, .f32⟩
  | .hbm, ⟨85, _⟩ => ⟨S_, .f32⟩
  | .hbm, ⟨86, _⟩ => ⟨S256x5632, .f32⟩
  | .hbm, ⟨87, _⟩ => ⟨S256x5632, .f32⟩
  | .hbm, ⟨88, _⟩ => ⟨S256x5632, .f32⟩
  | .hbm, ⟨89, _⟩ => ⟨S256x5632, .f32⟩
  | .hbm, ⟨90, _⟩ => ⟨S4352x5632, .f32⟩
  | .hbm, ⟨91, _⟩ => ⟨S4352x5632, .bf16⟩
  | _, _ => ⟨S4352x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_1 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_2 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_call1_v0 : Ref sig .tc := ⟨.hbm, 80, rfl⟩
abbrev main_call1_v1 : Ref sig .tc := ⟨.hbm, 81, rfl⟩
abbrev main_call1_cst : Ref sig .tc := ⟨.hbm, 82, rfl⟩
abbrev main_call1_v2 : Ref sig .tc := ⟨.hbm, 83, rfl⟩
abbrev main_call1_v3 : Ref sig .tc := ⟨.hbm, 84, rfl⟩
abbrev main_call1_cst_0 : Ref sig .tc := ⟨.hbm, 85, rfl⟩
abbrev main_call1_v4 : Ref sig .tc := ⟨.hbm, 86, rfl⟩
abbrev main_call1_v5 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]
-- ==== HgGateBwd.lean ====
abbrev S4352x512 : Shape := ⟨2, ![4352, 512]⟩
abbrev S1x128 : Shape := ⟨2, ![1, 128]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S128 : Shape := ⟨1, ![128]⟩
abbrev S256x384 : Shape := ⟨2, ![256, 384]⟩
abbrev S256x256 : Shape := ⟨2, ![256, 256]⟩

abbrev nBuf : Space → Nat
  | .hbm => 9
  | .vmem => 16
  | .smem => 0
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S4352x512, .f32⟩
  | .hbm, ⟨3, _⟩ => ⟨S1x128, .f32⟩
  | .hbm, ⟨4, _⟩ => ⟨S4352x512, .bf16⟩
  | .hbm, ⟨5, _⟩ => ⟨S4352x512, .f32⟩
  | .hbm, ⟨6, _⟩ => ⟨S4352x512, .f32⟩
  | .hbm, ⟨7, _⟩ => ⟨S4352x512, .f32⟩
  | .hbm, ⟨8, _⟩ => ⟨S1x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x128, .f32⟩
  | .local _ .vmem, ⟨7, _⟩ => ⟨S256x512, .bf16⟩
  | .local _ .vmem, ⟨8, _⟩ => ⟨S256x512, .bf16⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S1x128, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v188 : BitVec 1 := Scalar.cmpi .eq arg0 c0_i32
  let v189 : BitVec 32 := Scalar.extui v188
  let c0_i32_51 : BitVec 32 := 0#32
  let v190 : BitVec 1 := Scalar.cmpi .ne v189 c0_i32_51
  v190

def k0_cond2 (i : grid0.Coords) : BitVec 1 :=
  let arg0 : BitVec 32 := BitVec.ofNat 32 (i 0).val
  let c0_i32 : BitVec 32 := 0#32
  let v188 : BitVec 1 := Scalar.cmpi .eq arg0 c0_i32
  let v_true : BitVec 1 := 1#1
  let v191 : BitVec 1 := Scalar.xori v188 v_true
  let v192 : BitVec 32 := Scalar.extui v191
  let c0_i32_52 : BitVec 32 := 0#32
  let v193 : BitVec 1 := Scalar.cmpi .ne v192 c0_i32_52
  v193

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== HgGateBwdRefIdeal.lean ====
abbrev S4352x512 : Shape := ⟨2, ![4352, 512]⟩
abbrev S1x128 : Shape := ⟨2, ![1, 128]⟩
abbrev S4352x4x128 : Shape := ⟨3, ![4352, 4, 128]⟩
abbrev S128 : Shape := ⟨1, ![128]⟩
abbrev S_ : Shape := ⟨0, ![]⟩
abbrev S4352x4 : Shape := ⟨2, ![4352, 4]⟩
abbrev S4352x4x1 : Shape := ⟨3, ![4352, 4, 1]⟩
abbrev S1x1x128 : Shape := ⟨3, ![1, 1, 128]⟩

abbrev nBuf : Space → Nat
  | .hbm => 79
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S4352x512, .f32⟩
  | .hbm, ⟨3, _⟩ => ⟨S1x128, .f32⟩
  | .hbm, ⟨4, _⟩ => ⟨S4352x512, .bf16⟩
  | .hbm, ⟨5, _⟩ => ⟨S4352x512, .f32⟩
  | .hbm, ⟨6, _⟩ => ⟨S4352x4x128, .f32⟩
  | .hbm, ⟨7, _⟩ => ⟨S128, .f32⟩
  | .hbm, ⟨8, _⟩ => ⟨S4352x4x128, .f32⟩
  | .hbm, ⟨9, _⟩ => ⟨S_, .f32⟩
  | .hbm, ⟨10, _⟩ => ⟨S4352x4, .f32⟩
  | .hbm, ⟨11, _⟩ => ⟨S4352x4x1, .f32⟩
  | .hbm, ⟨12, _⟩ => ⟨S_, .f32⟩
  | .hbm, ⟨13, _⟩ => ⟨S4352x4x1, .f32⟩
  | .hbm, ⟨14, _⟩ => ⟨S4352x4x1, .f32⟩
  | .hbm, ⟨15, _⟩ => ⟨S_, .f32⟩
  | .hbm, ⟨16, _⟩ => ⟨S4352x4x1, .f32⟩
  | .hbm, ⟨17, _⟩ => ⟨S4352x4x1, .f32⟩
  | .hbm, ⟨18, _⟩ => ⟨S4352x4x1, .f32⟩
  | .hbm, ⟨19, _⟩ => ⟨S4352x4x1, .f32⟩
  | .hbm, ⟨20, _⟩ => ⟨S_, .f32⟩
  | .hbm, ⟨21, _⟩ => ⟨S4352x4x1, .f32⟩
  | .hbm, ⟨22, _⟩ => ⟨S4352x4x1, .f32⟩
  | .hbm, ⟨23, _⟩ => ⟨S4352x4x128, .f32⟩
  | .hbm, ⟨24, _⟩ => ⟨S4352x4x128, .f32⟩
  | .hbm, ⟨25, _⟩ => ⟨S1x1x128, .f32⟩
  | .hbm, ⟨26, _⟩ => ⟨S4352x4x128, .f32⟩
  | .hbm, ⟨27, _⟩ => ⟨S4352x4x128, .f32⟩
  | .hbm, ⟨28, _⟩ => ⟨S4352x512, .f32⟩
  | .hbm, ⟨29, _⟩ => ⟨S4352x512, .f32⟩
  | .hbm, ⟨30, _⟩ => ⟨S4352x512, .f32⟩
  | .hbm, ⟨31, _⟩ => ⟨S_, .f32⟩
  | .hbm, ⟨32, _⟩ => ⟨S4352x512, .f32⟩
  | .hbm, ⟨33, _⟩ => ⟨S4352x512, .f32⟩
  | .hbm, ⟨34, _⟩ => ⟨S_, .f32⟩
  | .hbm, ⟨35, _⟩ => ⟨S4352x512, .f32⟩
  | .hbm, ⟨36, _⟩ => ⟨S4352x512, .f32⟩
  | .hbm, ⟨37, _⟩ => ⟨S_, .f32⟩
  | .hbm, ⟨38, _⟩ => ⟨S4352x512, .f32⟩
  | .hbm, ⟨39, _⟩ => ⟨S4352x512, .f32⟩
  | .hbm, ⟨40, _⟩ => ⟨S4352x512, .f32⟩
  | .hbm, ⟨41, _⟩ => ⟨S4352x512, .f32⟩
  | .hbm, ⟨42, _⟩ => ⟨S4352x512, .f32⟩
  | .hbm, ⟨43, _⟩ => ⟨S4352x512, .bf16⟩
  | .hbm, ⟨44, _⟩ => ⟨S4352x512, .f32⟩
  | .hbm, ⟨45, _⟩ => ⟨S4352x512, .f32⟩
  | .hbm, ⟨46, _⟩ => ⟨S4352x512, .f32⟩
  | .hbm, ⟨47, _⟩ => ⟨S4352x512, .f32⟩
  | .hbm, ⟨48, _⟩ => ⟨S4352x512, .f32⟩
  | .hbm, ⟨49, _⟩ => ⟨S4352x512, .f32⟩
  | .hbm, ⟨50, _⟩ => ⟨S4352x512, .f32⟩
  | .hbm, ⟨51, _⟩ => ⟨S4352x4x128, .f32⟩
  | .hbm, ⟨52, _⟩ => ⟨S4352x4x128, .f32⟩
  | .hbm, ⟨53, _⟩ => ⟨S_, .f32⟩
  | .hbm, ⟨54, _⟩ => ⟨S128, .f32⟩
  | .hbm, ⟨55, _⟩ => ⟨S1x1x128, .f32⟩
  | .hbm, ⟨56, _⟩ => ⟨S4352x4x128, .f32⟩
  | .hbm, ⟨57, _⟩ => ⟨S4352x4x128, .f32⟩
  | .hbm, ⟨58, _⟩ => ⟨S_, .f32⟩
  | .hbm, ⟨59, _⟩ => ⟨S128, .f32⟩
  | .hbm, ⟨60, _⟩ => ⟨S4352x4x128, .f32⟩
  | .hbm, ⟨61, _⟩ => ⟨S_, .f32⟩
  | .hbm, ⟨62, _⟩ => ⟨S4352x4, .f32⟩
  | .hbm, ⟨63, _⟩ => ⟨S4352x4x1, .f32⟩
  | .hbm, ⟨64, _⟩ => ⟨S4352x4x128, .f32⟩
  | .hbm, ⟨65, _⟩ => ⟨S4352x4x128, .f32⟩
  | .hbm, ⟨66, _⟩ => ⟨S4352x4x1, .f32⟩
  | .hbm, ⟨67, _⟩ => ⟨S_, .f32⟩
  | .hbm, ⟨68, _⟩ => ⟨S4352x4x1, .f32⟩
  | .hbm, ⟨69, _⟩ => ⟨S4352x4x1, .f32⟩
  | .hbm, ⟨70, _⟩ => ⟨S_, .f32⟩
  | .hbm, ⟨71, _⟩ => ⟨S4352x4, .f32⟩
  | .hbm, ⟨72, _⟩ => ⟨S4352x4x128, .f32⟩
  | .hbm, ⟨73, _⟩ => ⟨S4352x4x128, .f32⟩
  | .hbm, ⟨74, _⟩ => ⟨S4352x4x128, .f32⟩
  | .hbm, ⟨75, _⟩ => ⟨S4352x4x128, .f32⟩
  | .hbm, ⟨76, _⟩ => ⟨S4352x4x128, .f32⟩
  | .hbm, ⟨77, _⟩ => ⟨S1x128, .f32⟩
  | .hbm, ⟨78, _⟩ => ⟨S4352x512, .f32⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v20_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v20_1 : Ref sig .tc := ⟨.hbm, 40, rfl⟩
abbrev main_v20_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩

abbrev nD : Nat := 1
abbrev τ : Topo := Topo.v7x

variable {F : FTy → Type} [FloatOps F]
-- ==== FinalBwd.lean ====
abbrev S4096x2048 : Shape := ⟨2, ![4096, 2048]⟩
abbrev S1x1x2048 : Shape := ⟨3, ![1, 1, 2048]⟩
abbrev S1x2048 : Shape := ⟨2, ![1, 2048]⟩
abbrev S4096x1 : Shape := ⟨2, ![4096, 1]⟩
abbrev S256x2048 : Shape := ⟨2, ![256, 2048]⟩
abbrev S256x1 : Shape := ⟨2, ![256, 1]⟩
abbrev S256 : Shape := ⟨1, ![256]⟩
abbrev S2048 : Shape := ⟨1, ![2048]⟩

abbrev nBuf : Space → Nat
  | .hbm => 10
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x1x2048, .f32⟩
  | .hbm, ⟨4, _⟩ => ⟨S1x2048, .f32⟩
  | .hbm, ⟨5, _⟩ => ⟨S4096x1, .f32⟩
  | .hbm, ⟨6, _⟩ => ⟨S4096x2048, .f32⟩
  | .hbm, ⟨7, _⟩ => ⟨S4096x2048, .f32⟩
  | .hbm, ⟨8, _⟩ => ⟨S1x1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S256x1, .f32⟩
  | .local _ .vmem, ⟨10, _⟩ => ⟨S256x1, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v61 : BitVec 1 := Scalar.cmpi .eq arg0 c0_i32
  let c16_i32 : BitVec 32 := 16#32
  let v62 : BitVec 1 := Scalar.cmpi .eq arg0 c16_i32
  let v63 : BitVec 1 := Scalar.ori v61 v62
  let v64 : BitVec 32 := Scalar.extui v63
  let c0_i32_26 : BitVec 32 := 0#32
  let v65 : BitVec 1 := Scalar.cmpi .ne v64 c0_i32_26
  v65

def k0_cond2 (i : grid0.Coords) : BitVec 1 :=
  let arg0 : BitVec 32 := BitVec.ofNat 32 (i 0).val
  let c0_i32 : BitVec 32 := 0#32
  let v61 : BitVec 1 := Scalar.cmpi .eq arg0 c0_i32
  let c16_i32 : BitVec 32 := 16#32
  let v62 : BitVec 1 := Scalar.cmpi .eq arg0 c16_i32
  let v63 : BitVec 1 := Scalar.ori v61 v62
  let v_true : BitVec 1 := 1#1
  let v66 : BitVec 1 := Scalar.xori v63 v_true
  let v67 : BitVec 32 := Scalar.extui v66
  let c0_i32_27 : BitVec 32 := 0#32
  let v68 : BitVec 1 := Scalar.cmpi .ne v67 c0_i32_27
  v68

def k0_cond3 (i : grid0.Coords) : BitVec 1 :=
  let arg0 : BitVec 32 := BitVec.ofNat 32 (i 0).val
  let c0_i32_28 : BitVec 32 := 0#32
  let v69 : BitVec 1 := Scalar.cmpi .eq arg0 c0_i32_28
  let v70 : BitVec 32 := Scalar.extui v69
  let c0_i32_29 : BitVec 32 := 0#32
  let v71 : BitVec 1 := Scalar.cmpi .ne v70 c0_i32_29
  v71

def k0_cond4 (i : grid0.Coords) : BitVec 1 :=
  let arg0 : BitVec 32 := BitVec.ofNat 32 (i 0).val
  let c0_i32_28 : BitVec 32 := 0#32
  let v69 : BitVec 1 := Scalar.cmpi .eq arg0 c0_i32_28
  let true_30 : BitVec 1 := 1#1
  let v72 : BitVec 1 := Scalar.xori v69 true_30
  let v73 : BitVec 32 := Scalar.extui v72
  let c0_i32_31 : BitVec 32 := 0#32
  let v74 : BitVec 1 := Scalar.cmpi .ne v73 c0_i32_31
  v74

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 1 := Scalar.cmpi .sge arg0 c16_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c16_i32 : BitVec 32 := 16#32
  let v0 : BitVec 1 := Scalar.cmpi .sge arg0 c16_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FinalBwdRefIdeal.lean ====
abbrev S4096x2048 : Shape := ⟨2, ![4096, 2048]⟩
abbrev S1x1x2048 : Shape := ⟨3, ![1, 1, 2048]⟩
abbrev S1x2048 : Shape := ⟨2, ![1, 2048]⟩
abbrev S4096x1 : Shape := ⟨2, ![4096, 1]⟩
abbrev S2048 : Shape := ⟨1, ![2048]⟩
abbrev S_ : Shape := ⟨0, ![]⟩
abbrev S4096 : Shape := ⟨1, ![4096]⟩

abbrev nBuf : Space → Nat
  | .hbm => 85
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x1x2048, .f32⟩
  | .hbm, ⟨4, _⟩ => ⟨S1x2048, .f32⟩
  | .hbm, ⟨5, _⟩ => ⟨S4096x1, .f32⟩
  | .hbm, ⟨6, _⟩ => ⟨S2048, .f32⟩
  | .hbm, ⟨7, _⟩ => ⟨S1x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S4096x2048, .f32⟩
  | .hbm, ⟨55, _⟩ => ⟨S4096x2048, .f32⟩
  | .hbm, ⟨56, _⟩ => ⟨S_, .f32⟩
  | .hbm, ⟨57, _⟩ => ⟨S2048, .f32⟩
  | .hbm, ⟨58, _⟩ => ⟨S4096x2048, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x2048, .f32⟩
  | .hbm, ⟨63, _⟩ => ⟨S4096x2048, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S1x2048, .f32⟩
  | .hbm, ⟨76, _⟩ => ⟨S4096x2048, .f32⟩
  | .hbm, ⟨77, _⟩ => ⟨S4096x2048, .f32⟩
  | .hbm, ⟨78, _⟩ => ⟨S4096x2048, .f32⟩
  | .hbm, ⟨79, _⟩ => ⟨S_, .f32⟩
  | .hbm, ⟨80, _⟩ => ⟨S2048, .f32⟩
  | .hbm, ⟨81, _⟩ => ⟨S1x2048, .f32⟩
  | .hbm, ⟨82, _⟩ => ⟨S_, .f32⟩
  | .hbm, ⟨83, _⟩ => ⟨S2048, .f32⟩
  | .hbm, ⟨84, _⟩ => ⟨S1x1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_cst_14 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== HgGateFwd.lean ====
abbrev S4352x512 : Shape := ⟨2, ![4352, 512]⟩
abbrev S1x128 : Shape := ⟨2, ![1, 128]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S4352x512, .f32⟩
  | .hbm, ⟨3, _⟩ => ⟨S1x128, .f32⟩
  | .hbm, ⟨4, _⟩ => ⟨S4352x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x128, .f32⟩
  | .local _ .vmem, ⟨7, _⟩ => ⟨S256x512, .bf16⟩
  | .local _ .vmem, ⟨8, _⟩ => ⟨S256x512, .bf16⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== HgGateFwdRefIdeal.lean ====
abbrev S4352x512 : Shape := ⟨2, ![4352, 512]⟩
abbrev S1x128 : Shape := ⟨2, ![1, 128]⟩
abbrev S4352x4x128 : Shape := ⟨3, ![4352, 4, 128]⟩
abbrev S128 : Shape := ⟨1, ![128]⟩
abbrev S_ : Shape := ⟨0, ![]⟩
abbrev S4352x4 : Shape := ⟨2, ![4352, 4]⟩
abbrev S4352x4x1 : Shape := ⟨3, ![4352, 4, 1]⟩
abbrev S1x1x128 : Shape := ⟨3, ![1, 1, 128]⟩

abbrev nBuf : Space → Nat
  | .hbm => 35
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S4352x512, .f32⟩
  | .hbm, ⟨3, _⟩ => ⟨S1x128, .f32⟩
  | .hbm, ⟨4, _⟩ => ⟨S4352x512, .f32⟩
  | .hbm, ⟨5, _⟩ => ⟨S4352x4x128, .f32⟩
  | .hbm, ⟨6, _⟩ => ⟨S128, .f32⟩
  | .hbm, ⟨7, _⟩ => ⟨S4352x4x128, .f32⟩
  | .hbm, ⟨8, _⟩ => ⟨S_, .f32⟩
  | .hbm, ⟨9, _⟩ => ⟨S4352x4, .f32⟩
  | .hbm, ⟨10, _⟩ => ⟨S4352x4x1, .f32⟩
  | .hbm, ⟨11, _⟩ => ⟨S_, .f32⟩
  | .hbm, ⟨12, _⟩ => ⟨S4352x4x1, .f32⟩
  | .hbm, ⟨13, _⟩ => ⟨S4352x4x1, .f32⟩
  | .hbm, ⟨14, _⟩ => ⟨S_, .f32⟩
  | .hbm, ⟨15, _⟩ => ⟨S4352x4x1, .f32⟩
  | .hbm, ⟨16, _⟩ => ⟨S4352x4x1, .f32⟩
  | .hbm, ⟨17, _⟩ => ⟨S4352x4x1, .f32⟩
  | .hbm, ⟨18, _⟩ => ⟨S4352x4x128, .f32⟩
  | .hbm, ⟨19, _⟩ => ⟨S4352x4x128, .f32⟩
  | .hbm, ⟨20, _⟩ => ⟨S1x1x128, .f32⟩
  | .hbm, ⟨21, _⟩ => ⟨S4352x4x128, .f32⟩
  | .hbm, ⟨22, _⟩ => ⟨S4352x4x128, .f32⟩
  | .hbm, ⟨23, _⟩ => ⟨S4352x512, .f32⟩
  | .hbm, ⟨24, _⟩ => ⟨S4352x512, .f32⟩
  | .hbm, ⟨25, _⟩ => ⟨S4352x512, .f32⟩
  | .hbm, ⟨26, _⟩ => ⟨S_, .f32⟩
  | .hbm, ⟨27, _⟩ => ⟨S4352x512, .f32⟩
  | .hbm, ⟨28, _⟩ => ⟨S4352x512, .f32⟩
  | .hbm, ⟨29, _⟩ => ⟨S_, .f32⟩
  | .hbm, ⟨30, _⟩ => ⟨S4352x512, .f32⟩
  | .hbm, ⟨31, _⟩ => ⟨S4352x512, .f32⟩
  | .hbm, ⟨32, _⟩ => ⟨S4352x512, .f32⟩
  | .hbm, ⟨33, _⟩ => ⟨S4352x512, .f32⟩
  | .hbm, ⟨34, _⟩ => ⟨S4352x512, .bf16⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== FinalFwd.lean ====
abbrev S4096x2048 : Shape := ⟨2, ![4096, 2048]⟩
abbrev S1x1x2048 : Shape := ⟨3, ![1, 1, 2048]⟩
abbrev S1x2048 : Shape := ⟨2, ![1, 2048]⟩
abbrev S4096x1 : Shape := ⟨2, ![4096, 1]⟩
abbrev S256x2048 : Shape := ⟨2, ![256, 2048]⟩
abbrev S256x1 : Shape := ⟨2, ![256, 1]⟩
abbrev S256 : Shape := ⟨1, ![256]⟩

abbrev nBuf : Space → Nat
  | .hbm => 6
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x1x2048, .f32⟩
  | .hbm, ⟨4, _⟩ => ⟨S1x2048, .f32⟩
  | .hbm, ⟨5, _⟩ => ⟨S4096x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S256x1, .f32⟩
  | .local _ .vmem, ⟨10, _⟩ => ⟨S256x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 1 := Scalar.cmpi .sge arg0 c16_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FinalFwdRefIdeal.lean ====
abbrev S4096x2048 : Shape := ⟨2, ![4096, 2048]⟩
abbrev S1x1x2048 : Shape := ⟨3, ![1, 1, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x1x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S2048, .f32⟩
  | .hbm, ⟨11, _⟩ => ⟨S4096x2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== ResidFwd.lean ====
abbrev S4352x2048 : Shape := ⟨2, ![4352, 2048]⟩
abbrev S2x3x2048 : Shape := ⟨3, ![2, 3, 2048]⟩
abbrev S1x2048 : Shape := ⟨2, ![1, 2048]⟩
abbrev S256x2048 : Shape := ⟨2, ![256, 2048]⟩
abbrev S1x3x2048 : Shape := ⟨3, ![1, 3, 2048]⟩
abbrev S3x2048 : Shape := ⟨2, ![3, 2048]⟩
abbrev S256 : Shape := ⟨1, ![256]⟩
abbrev S256x1 : Shape := ⟨2, ![256, 1]⟩

abbrev nBuf : Space → Nat
  | .hbm => 6
  | .vmem => 11
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S2x3x2048, .f32⟩
  | .hbm, ⟨3, _⟩ => ⟨S1x2048, .f32⟩
  | .hbm, ⟨4, _⟩ => ⟨S4352x2048, .f32⟩
  | .hbm, ⟨5, _⟩ => ⟨S4352x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x3x2048, .f32⟩
  | .local _ .vmem, ⟨5, _⟩ => ⟨S1x3x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 1 := Scalar.cmpi .sge arg0 c16_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResidFwdRefIdeal.lean ====
abbrev S4352x2048 : Shape := ⟨2, ![4352, 2048]⟩
abbrev S2x3x2048 : Shape := ⟨3, ![2, 3, 2048]⟩
abbrev S1x2048 : Shape := ⟨2, ![1, 2048]⟩
abbrev S2x1x2048 : Shape := ⟨3, ![2, 1, 2048]⟩
abbrev S2x2048 : Shape := ⟨2, ![2, 2048]⟩
abbrev S4096x2048 : Shape := ⟨2, ![4096, 2048]⟩
abbrev S256x2048 : Shape := ⟨2, ![256, 2048]⟩
abbrev S2x2x2048 : Shape := ⟨3, ![2, 2, 2048]⟩
abbrev S2048 : Shape := ⟨1, ![2048]⟩
abbrev S_ : Shape := ⟨0, ![]⟩
abbrev S4352 : Shape := ⟨1, ![4352]⟩
abbrev S4352x1 : Shape := ⟨2, ![4352, 1]⟩

abbrev nBuf : Space → Nat
  | .hbm => 51
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S2x3x2048, .f32⟩
  | .hbm, ⟨3, _⟩ => ⟨S1x2048, .f32⟩
  | .hbm, ⟨4, _⟩ => ⟨S2x1x2048, .f32⟩
  | .hbm, ⟨5, _⟩ => ⟨S2x2048, .f32⟩
  | .hbm, ⟨6, _⟩ => ⟨S1x2048, .f32⟩
  | .hbm, ⟨7, _⟩ => ⟨S4096x2048, .f32⟩
  | .hbm, ⟨8, _⟩ => ⟨S1x2048, .f32⟩
  | .hbm, ⟨9, _⟩ => ⟨S256x2048, .f32⟩
  | .hbm, ⟨10, _⟩ => ⟨S4352x2048, .f32⟩
  | .hbm, ⟨11, _⟩ => ⟨S4352x2048, .f32⟩
  | .hbm, ⟨12, _⟩ => ⟨S4352x2048, .f32⟩
  | .hbm, ⟨13, _⟩ => ⟨S2x2x2048, .f32⟩
  | .hbm, ⟨14, _⟩ => ⟨S2048, .f32⟩
  | .hbm, ⟨15, _⟩ => ⟨S4352x2048, .f32⟩
  | .hbm, ⟨16, _⟩ => ⟨S_, .f32⟩
  | .hbm, ⟨17, _⟩ => ⟨S4352, .f32⟩
  | .hbm, ⟨18, _⟩ => ⟨S4352x1, .f32⟩
  | .hbm, ⟨19, _⟩ => ⟨S_, .f32⟩
  | .hbm, ⟨20, _⟩ => ⟨S4352x1, .f32⟩
  | .hbm, ⟨21, _⟩ => ⟨S4352x1, .f32⟩
  | .hbm, ⟨22, _⟩ => ⟨S_, .f32⟩
  | .hbm, ⟨23, _⟩ => ⟨S4352x1, .f32⟩
  | .hbm, ⟨24, _⟩ => ⟨S4352x1, .f32⟩
  | .hbm, ⟨25, _⟩ => ⟨S4352x1, .f32⟩
  | .hbm, ⟨26, _⟩ => ⟨S4352x2048, .f32⟩
  | .hbm, ⟨27, _⟩ => ⟨S4352x2048, .f32⟩
  | .hbm, ⟨28, _⟩ => ⟨S1x2048, .f32⟩
  | .hbm, ⟨29, _⟩ => ⟨S4352x2048, .f32⟩
  | .hbm, ⟨30, _⟩ => ⟨S4352x2048, .f32⟩
  | .hbm, ⟨31, _⟩ => ⟨S2x1x2048, .f32⟩
  | .hbm, ⟨32, _⟩ => ⟨S2x2048, .f32⟩
  | .hbm, ⟨33, _⟩ => ⟨S1x2048, .f32⟩
  | .hbm, ⟨34, _⟩ => ⟨S4096x2048, .f32⟩
  | .hbm, ⟨35, _⟩ => ⟨S1x2048, .f32⟩
  | .hbm, ⟨36, _⟩ => ⟨S256x2048, .f32⟩
  | .hbm, ⟨37, _⟩ => ⟨S4352x2048, .f32⟩
  | .hbm, ⟨38, _⟩ => ⟨S_, .f32⟩
  | .hbm, ⟨39, _⟩ => ⟨S4352x2048, .f32⟩
  | .hbm, ⟨40, _⟩ => ⟨S4352x2048, .f32⟩
  | .hbm, ⟨41, _⟩ => ⟨S4352x2048, .f32⟩
  | .hbm, ⟨42, _⟩ => ⟨S2x1x2048, .f32⟩
  | .hbm, ⟨43, _⟩ => ⟨S2x2048, .f32⟩
  | .hbm, ⟨44, _⟩ => ⟨S1x2048, .f32⟩
  | .hbm, ⟨45, _⟩ => ⟨S4096x2048, .f32⟩
  | .hbm, ⟨46, _⟩ => ⟨S1x2048, .f32⟩
  | .hbm, ⟨47, _⟩ => ⟨S256x2048, .f32⟩
  | .hbm, ⟨48, _⟩ => ⟨S4352x2048, .f32⟩
  | .hbm, ⟨49, _⟩ => ⟨S4352x2048, .f32⟩
  | .hbm, ⟨50, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]
-- ==== ModNormFwd.lean ====
abbrev S4352x2048 : Shape := ⟨2, ![4352, 2048]⟩
abbrev S2x2x2048 : Shape := ⟨3, ![2, 2, 2048]⟩
abbrev S1x2048 : Shape := ⟨2, ![1, 2048]⟩
abbrev S256x2048 : Shape := ⟨2, ![256, 2048]⟩
abbrev S1x2x2048 : Shape := ⟨3, ![1, 2, 2048]⟩
abbrev S2x2048 : Shape := ⟨2, ![2, 2048]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S4352x2048, .f32⟩
  | .hbm, ⟨1, _⟩ => ⟨S2x2x2048, .f32⟩
  | .hbm, ⟨2, _⟩ => ⟨S1x2048, .f32⟩
  | .hbm, ⟨3, _⟩ => ⟨S4352x2048, .bf16⟩
  | .local _ .vmem, ⟨0, _⟩ => ⟨S256x2048, .f32⟩
  | .local _ .vmem, ⟨1, _⟩ => ⟨S256x2048, .f32⟩
  | .local _ .vmem, ⟨2, _⟩ => ⟨S1x2x2048, .f32⟩
  | .local _ .vmem, ⟨3, _⟩ => ⟨S1x2x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .sge arg0 c16_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModNormFwdRefIdeal.lean ====
abbrev S4352x2048 : Shape := ⟨2, ![4352, 2048]⟩
abbrev S2x2x2048 : Shape := ⟨3, ![2, 2, 2048]⟩
abbrev S1x2048 : Shape := ⟨2, ![1, 2048]⟩
abbrev S2048 : Shape := ⟨1, ![2048]⟩
abbrev S_ : Shape := ⟨0, ![]⟩
abbrev S4352 : Shape := ⟨1, ![4352]⟩
abbrev S4352x1 : Shape := ⟨2, ![4352, 1]⟩
abbrev S2x1x2048 : Shape := ⟨3, ![2, 1, 2048]⟩
abbrev S2x2048 : Shape := ⟨2, ![2, 2048]⟩
abbrev S4096x2048 : Shape := ⟨2, ![4096, 2048]⟩
abbrev S256x2048 : Shape := ⟨2, ![256, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2x2x2048, .f32⟩
  | .hbm, ⟨2, _⟩ => ⟨S1x2048, .f32⟩
  | .hbm, ⟨3, _⟩ => ⟨S2048, .f32⟩
  | .hbm, ⟨4, _⟩ => ⟨S4352x2048, .f32⟩
  | .hbm, ⟨5, _⟩ => ⟨S_, .f32⟩
  | .hbm, ⟨6, _⟩ => ⟨S4352, .f32⟩
  | .hbm, ⟨7, _⟩ => ⟨S4352x1, .f32⟩
  | .hbm, ⟨8, _⟩ => ⟨S_, .f32⟩
  | .hbm, ⟨9, _⟩ => ⟨S4352x1, .f32⟩
  | .hbm, ⟨10, _⟩ => ⟨S4352x1, .f32⟩
  | .hbm, ⟨11, _⟩ => ⟨S_, .f32⟩
  | .hbm, ⟨12, _⟩ => ⟨S4352x1, .f32⟩
  | .hbm, ⟨13, _⟩ => ⟨S4352x1, .f32⟩
  | .hbm, ⟨14, _⟩ => ⟨S4352x1, .f32⟩
  | .hbm, ⟨15, _⟩ => ⟨S4352x2048, .f32⟩
  | .hbm, ⟨16, _⟩ => ⟨S4352x2048, .f32⟩
  | .hbm, ⟨17, _⟩ => ⟨S1x2048, .f32⟩
  | .hbm, ⟨18, _⟩ => ⟨S4352x2048, .f32⟩
  | .hbm, ⟨19, _⟩ => ⟨S4352x2048, .f32⟩
  | .hbm, ⟨20, _⟩ => ⟨S2x1x2048, .f32⟩
  | .hbm, ⟨21, _⟩ => ⟨S2x2048, .f32⟩
  | .hbm, ⟨22, _⟩ => ⟨S1x2048, .f32⟩
  | .hbm, ⟨23, _⟩ => ⟨S4096x2048, .f32⟩
  | .hbm, ⟨24, _⟩ => ⟨S1x2048, .f32⟩
  | .hbm, ⟨25, _⟩ => ⟨S256x2048, .f32⟩
  | .hbm, ⟨26, _⟩ => ⟨S4352x2048, .f32⟩
  | .hbm, ⟨27, _⟩ => ⟨S_, .f32⟩
  | .hbm, ⟨28, _⟩ => ⟨S4352x2048, .f32⟩
  | .hbm, ⟨29, _⟩ => ⟨S4352x2048, .f32⟩
  | .hbm, ⟨30, _⟩ => ⟨S4352x2048, .f32⟩
  | .hbm, ⟨31, _⟩ => ⟨S2x1x2048, .f32⟩
  | .hbm, ⟨32, _⟩ => ⟨S2x2048, .f32⟩
  | .hbm, ⟨33, _⟩ => ⟨S1x2048, .f32⟩
  | .hbm, ⟨34, _⟩ => ⟨S4096x2048, .f32⟩
  | .hbm, ⟨35, _⟩ => ⟨S1x2048, .f32⟩
  | .hbm, ⟨36, _⟩ => ⟨S256x2048, .f32⟩
  | .hbm, ⟨37, _⟩ => ⟨S4352x2048, .f32⟩
  | .hbm, ⟨38, _⟩ => ⟨S4352x2048, .f32⟩
  | .hbm, ⟨39, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== QkBwd.lean ====
abbrev S4352x1024 : Shape := ⟨2, ![4352, 1024]⟩
abbrev S4352x256 : Shape := ⟨2, ![4352, 256]⟩
abbrev S4096x64 : Shape := ⟨2, ![4096, 64]⟩
abbrev S1x128 : Shape := ⟨2, ![1, 128]⟩
abbrev S2 : Shape := ⟨1, ![2]⟩
abbrev S4096x64x2 : Shape := ⟨3, ![4096, 64, 2]⟩
abbrev S4096x128 : Shape := ⟨2, ![4096, 128]⟩
abbrev S1x2 : Shape := ⟨2, ![1, 2]⟩
abbrev S64x2 : Shape := ⟨2, ![64, 2]⟩
abbrev S128 : Shape := ⟨1, ![128]⟩
abbrev S_ : Shape := ⟨0, ![]⟩
abbrev S256x128 : Shape := ⟨2, ![256, 128]⟩
abbrev S4352x128 : Shape := ⟨2, ![4352, 128]⟩
abbrev S256x1024 : Shape := ⟨2, ![256, 1024]⟩
abbrev S256x256 : Shape := ⟨2, ![256, 256]⟩
abbrev S128x128 : Shape := ⟨2, ![128, 128]⟩
abbrev S256 : Shape := ⟨1, ![256]⟩
abbrev S256x1 : Shape := ⟨2, ![256, 1]⟩
abbrev S256x896 : Shape := ⟨2, ![256, 896]⟩
abbrev S256x768 : Shape := ⟨2, ![256, 768]⟩
abbrev S256x640 : Shape := ⟨2, ![256, 640]⟩
abbrev S256x512 : Shape := ⟨2, ![256, 512]⟩
abbrev S256x384 : Shape := ⟨2, ![256, 384]⟩

abbrev nBuf : Space → Nat
  | .hbm => 32
  | .vmem => 26
  | .smem => 0
  | _ => 0

abbrev bufTy : (tb : Table) → Fin (tcTables nBuf tb) → BufTy
  | .hbm, ⟨0, _⟩ => ⟨S4352x1024, .f32⟩
  | .hbm, ⟨1, _⟩ => ⟨S4352x256, .f32⟩
  | .hbm, ⟨2, _⟩ => ⟨S4352x256, .f32⟩
  | .hbm, ⟨3, _⟩ => ⟨S4096x64, .f32⟩
  | .hbm, ⟨4, _⟩ => ⟨S4096x64, .f32⟩
  | .hbm, ⟨5, _⟩ => ⟨S1x128, .f32⟩
  | .hbm, ⟨6, _⟩ => ⟨S1x128, .f32⟩
  | .hbm, ⟨7, _⟩ => ⟨S4352x1024, .bf16⟩
  | .hbm, ⟨8, _⟩ => ⟨S4352x256, .bf16⟩
  | .hbm, ⟨9, _⟩ => ⟨S4352x256, .bf16⟩
  | .hbm, ⟨10, _⟩ => ⟨S2, .f32⟩
  | .hbm, ⟨11, _⟩ => ⟨S4096x64x2, .f32⟩
  | .hbm, ⟨12, _⟩ => ⟨S4096x128, .f32⟩
  | .hbm, ⟨13, _⟩ => ⟨S4096x64x2, .f32⟩
  | .hbm, ⟨14, _⟩ => ⟨S4096x128, .f32⟩
  | .hbm, ⟨15, _⟩ => ⟨S1x2, .f32⟩
  | .hbm, ⟨16, _⟩ => ⟨S64x2, .f32⟩
  | .hbm, ⟨17, _⟩ => ⟨S128, .f32⟩
  | .hbm, ⟨18, _⟩ => ⟨S1x128, .f32⟩
  | .hbm, ⟨19, _⟩ => ⟨S4096x128, .f32⟩
  | .hbm, ⟨20, _⟩ => ⟨S4096x128, .f32⟩
  | .hbm, ⟨21, _⟩ => ⟨S_, .f32⟩
  | .hbm, ⟨22, _⟩ => ⟨S256x128, .f32⟩
  | .hbm, ⟨23, _⟩ => ⟨S4352x128, .f32⟩
  | .hbm, ⟨24, _⟩ => ⟨S_, .f32⟩
  | .hbm, ⟨25, _⟩ => ⟨S256x128, .f32⟩
  | .hbm, ⟨26, _⟩ => ⟨S4352x128, .f32⟩
  | .hbm, ⟨27, _⟩ => ⟨S4352x1024, .f32⟩
  | .hbm, ⟨28, _⟩ => ⟨S4352x256, .f32⟩
  | .hbm, ⟨29, _⟩ => ⟨S4352x256, .f32⟩
  | .hbm, ⟨30, _⟩ => ⟨S1x128, .f32⟩
  | .hbm, ⟨31, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x128, .f32⟩
  | .local _ .vmem, ⟨11, _⟩ => ⟨S1x128, .f32⟩
  | .local _ .vmem, ⟨12, _⟩ => ⟨S256x1024, .bf16⟩
  | .local _ .vmem, ⟨13, _⟩ => ⟨S256x1024, .bf16⟩
  | .local _ .vmem, ⟨14, _⟩ => ⟨S256x256, .bf16⟩
  | .local _ .vmem, ⟨15, _⟩ => ⟨S256x256, .bf16⟩
  | .local _ .vmem, ⟨16, _⟩ => ⟨S256x256, .bf16⟩
  | .local _ .vmem, ⟨17, _⟩ => ⟨S256x256, .bf16⟩
  | .local _ .vmem, ⟨18, _⟩ => ⟨S256x1024, .f32⟩
  | .local _ .vmem, ⟨19, _⟩ => ⟨S256x1024, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S1x128, .f32⟩
  | .local _ .vmem, ⟨25, _⟩ => ⟨S1x128, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev main_v14_3 : Ref sig .tc := ⟨.hbm, 30, rfl⟩
abbrev main_v14_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v463 : BitVec 1 := Scalar.cmpi .eq arg0 c0_i32
  let v464 : BitVec 32 := Scalar.extui v463
  let c0_i32_124 : BitVec 32 := 0#32
  let v465 : BitVec 1 := Scalar.cmpi .ne v464 c0_i32_124
  v465

def k0_cond2 (i : grid0.Coords) : BitVec 1 :=
  let arg0 : BitVec 32 := BitVec.ofNat 32 (i 0).val
  let c0_i32 : BitVec 32 := 0#32
  let v463 : BitVec 1 := Scalar.cmpi .eq arg0 c0_i32
  let v_true : BitVec 1 := 1#1
  let v466 : BitVec 1 := Scalar.xori v463 v_true
  let v467 : BitVec 32 := Scalar.extui v466
  let c0_i32_125 : BitVec 32 := 0#32
  let v468 : BitVec 1 := Scalar.cmpi .ne v467 c0_i32_125
  v468

def k0_cond3 (i : grid0.Coords) : BitVec 1 :=
  let arg0 : BitVec 32 := BitVec.ofNat 32 (i 0).val
  let c0_i32_126 : BitVec 32 := 0#32
  let v469 : BitVec 1 := Scalar.cmpi .eq arg0 c0_i32_126
  let v470 : BitVec 32 := Scalar.extui v469
  let c0_i32_127 : BitVec 32 := 0#32
  let v471 : BitVec 1 := Scalar.cmpi .ne v470 c0_i32_127
  v471

def k0_cond4 (i : grid0.Coords) : BitVec 1 :=
  let arg0 : BitVec 32 := BitVec.ofNat 32 (i 0).val
  let c0_i32_126 : BitVec 32 := 0#32
  let v469 : BitVec 1 := Scalar.cmpi .eq arg0 c0_i32_126
  let true_128 : BitVec 1 := 1#1
  let v472 : BitVec 1 := Scalar.xori v469 true_128
  let v473 : BitVec 32 := Scalar.extui v472
  let c0_i32_129 : BitVec 32 := 0#32
  let v474 : BitVec 1 := Scalar.cmpi .ne v473 c0_i32_129
  v474

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== QkBwdRefIdeal.lean ====
abbrev S4352x1024 : Shape := ⟨2, ![4352, 1024]⟩
abbrev S4352x256 : Shape := ⟨2, ![4352, 256]⟩
abbrev S4096x64 : Shape := ⟨2, ![4096, 64]⟩
abbrev S1x128 : Shape := ⟨2, ![1, 128]⟩
abbrev S4352x8x128 : Shape := ⟨3, ![4352, 8, 128]⟩
abbrev S128 : Shape := ⟨1, ![128]⟩
abbrev S_ : Shape := ⟨0, ![]⟩
abbrev S4352x8 : Shape := ⟨2, ![4352, 8]⟩
abbrev S4352x8x1 : Shape := ⟨3, ![4352, 8, 1]⟩
abbrev S1x1x128 : Shape := ⟨3, ![1, 1, 128]⟩
abbrev S4096x8x128 : Shape := ⟨3, ![4096, 8, 128]⟩
abbrev S256x8x128 : Shape := ⟨3, ![256, 8, 128]⟩
abbrev S4096x8x64x2 : Shape := ⟨4, ![4096, 8, 64, 2]⟩
abbrev S4096x8x64x1 : Shape := ⟨4, ![4096, 8, 64, 1]⟩
abbrev S4096x1x64x1 : Shape := ⟨4, ![4096, 1, 64, 1]⟩
abbrev S4352x2x128 : Shape := ⟨3, ![4352, 2, 128]⟩
abbrev S4352x2 : Shape := ⟨2, ![4352, 2]⟩
abbrev S4352x2x1 : Shape := ⟨3, ![4352, 2, 1]⟩
abbrev S4096x2x128 : Shape := ⟨3, ![4096, 2, 128]⟩
abbrev S256x2x128 : Shape := ⟨3, ![256, 2, 128]⟩
abbrev S4096x2x64x2 : Shape := ⟨4, ![4096, 2, 64, 2]⟩
abbrev S4096x2x64x1 : Shape := ⟨4, ![4096, 2, 64, 1]⟩

abbrev nBuf : Space → Nat
  | .hbm => 196
  | .vmem => 0
  | .smem => 0
  | _ => 0

abbrev hbmTy0_0 (i : Nat) : BufTy := match i % 128 with
  | 0 => ⟨S4352x1024, .f32⟩
  | 1 => ⟨S4352x256, .f32⟩
  | 2 => ⟨S4352x256, .f32⟩
  | 3 => ⟨S4096x64, .f32⟩
  | 4 => ⟨S4096x64, .f32⟩
  | 5 => ⟨S1x128, .f32⟩
  | 6 => ⟨S1x128, .f32⟩
  | 7 => ⟨S4352x1024, .bf16⟩
  | 8 => ⟨S4352x256, .bf16⟩
  | 9 => ⟨S4352x256, .bf16⟩
  | 10 => ⟨S4352x8x128, .f32⟩
  | 11 => ⟨S128, .f32⟩
  | 12 => ⟨S4352x8x128, .f32⟩
  | 13 => ⟨S_, .f32⟩
  | 14 => ⟨S4352x8, .f32⟩
  | 15 => ⟨S4352x8x1, .f32⟩
  | 16 => ⟨S_, .f32⟩
  | 17 => ⟨S4352x8x1, .f32⟩
  | 18 => ⟨S4352x8x1, .f32⟩
  | 19 => ⟨S_, .f32⟩
  | 20 => ⟨S4352x8x1, .f32⟩
  | 21 => ⟨S4352x8x1, .f32⟩
  | 22 => ⟨S4352x8x1, .f32⟩
  | 23 => ⟨S4352x8x1, .f32⟩
  | 24 => ⟨S_, .f32⟩
  | 25 => ⟨S4352x8x1, .f32⟩
  | 26 => ⟨S4352x8x1, .f32⟩
  | 27 => ⟨S4352x8x128, .f32⟩
  | 28 => ⟨S4352x8x128, .f32⟩
  | 29 => ⟨S1x1x128, .f32⟩
  | 30 => ⟨S4352x8x128, .f32⟩
  | 31 => ⟨S4352x8x128, .f32⟩
  | 32 => ⟨S4096x8x128, .f32⟩
  | 33 => ⟨S256x8x128, .f32⟩
  | 34 => ⟨S4096x8x64x2, .f32⟩
  | 35 => ⟨S4096x8x64x1, .f32⟩
  | 36 => ⟨S4096x8x64x1, .f32⟩
  | 37 => ⟨S4096x1x64x1, .f32⟩
  | 38 => ⟨S4096x1x64x1, .f32⟩
  | 39 => ⟨S4096x8x64x1, .f32⟩
  | 40 => ⟨S4096x8x64x1, .f32⟩
  | 41 => ⟨S4096x8x64x1, .f32⟩
  | 42 => ⟨S4096x8x64x1, .f32⟩
  | 43 => ⟨S4096x8x64x1, .f32⟩
  | 44 => ⟨S4096x8x64x1, .f32⟩
  | 45 => ⟨S4096x8x64x1, .f32⟩
  | 46 => ⟨S4096x8x64x1, .f32⟩
  | 47 => ⟨S4096x8x64x1, .f32⟩
  | 48 => ⟨S4096x8x64x1, .f32⟩
  | 49 => ⟨S4096x8x64x2, .f32⟩
  | 50 => ⟨S4096x8x128, .f32⟩
  | 51 => ⟨S4352x8x128, .f32⟩
  | 52 => ⟨S4352x1024, .f32⟩
  | 53 => ⟨S4352x1024, .bf16⟩
  | 54 => ⟨S4352x2x128, .f32⟩
  | 55 => ⟨S128, .f32⟩
  | 56 => ⟨S4352x2x128, .f32⟩
  | 57 => ⟨S_, .f32⟩
  | 58 => ⟨S4352x2, .f32⟩
  | 59 => ⟨S4352x2x1, .f32⟩
  | 60 => ⟨S_, .f32⟩
  | 61 => ⟨S4352x2x1, .f32⟩
  | 62 => ⟨S4352x2x1, .f32⟩
  | 63 => ⟨S_, .f32⟩
  | 64 => ⟨S4352x2x1, .f32⟩
  | 65 => ⟨S4352x2x1, .f32⟩
  | 66 => ⟨S4352x2x1, .f32⟩
  | 67 => ⟨S4352x2x1, .f32⟩
  | 68 => ⟨S_, .f32⟩
  | 69 => ⟨S4352x2x1, .f32⟩
  | 70 => ⟨S4352x2x1, .f32⟩
  | 71 => ⟨S4352x2x128, .f32⟩
  | 72 => ⟨S4352x2x128, .f32⟩
  | 73 => ⟨S1x1x128, .f32⟩
  | 74 => ⟨S4352x2x128, .f32⟩
  | 75 => ⟨S4352x2x128, .f32⟩
  | 76 => ⟨S4096x2x128, .f32⟩
  | 77 => ⟨S256x2x128, .f32⟩
  | 78 => ⟨S4096x2x64x2, .f32⟩
  | 79 => ⟨S4096x2x64x1, .f32⟩
  | 80 => ⟨S4096x2x64x1, .f32⟩
  | 81 => ⟨S4096x1x64x1, .f32⟩
  | 82 => ⟨S4096x1x64x1, .f32⟩
  | 83 => ⟨S4096x2x64x1, .f32⟩
  | 84 => ⟨S4096x2x64x1, .f32⟩
  | 85 => ⟨S4096x2x64x1, .f32⟩
  | 86 => ⟨S4096x2x64x1, .f32⟩
  | 87 => ⟨S4096x2x64x1, .f32⟩
  | 88 => ⟨S4096x2x64x1, .f32⟩
  | 89 => ⟨S4096x2x64x1, .f32⟩
  | 90 => ⟨S4096x2x64x1, .f32⟩
  | 91 => ⟨S4096x2x64x1, .f32⟩
  | 92 => ⟨S4096x2x64x1, .f32⟩
  | 93 => ⟨S4096x2x64x2, .f32⟩
  | 94 => ⟨S4096x2x128, .f32⟩
  | 95 => ⟨S4352x2x128, .f32⟩
  | 96 => ⟨S4352x256, .f32⟩
  | 97 => ⟨S4352x256, .bf16⟩
  | 98 => ⟨S4352x256, .bf16⟩
  | 99 => ⟨S4352x256, .f32⟩
  | 100 => ⟨S4352x256, .f32⟩
  | 101 => ⟨S4352x2x128, .f32⟩
  | 102 => ⟨S4096x2x128, .f32⟩
  | 103 => ⟨S256x2x128, .f32⟩
  | 104 => ⟨S4096x2x64x2, .f32⟩
  | 105 => ⟨S4096x2x64x1, .f32⟩
  | 106 => ⟨S4096x2x64x1, .f32⟩
  | 107 => ⟨S4096x2x64x1, .f32⟩
  | 108 => ⟨S4096x2x64x1, .f32⟩
  | 109 => ⟨S4096x2x64x1, .f32⟩
  | 110 => ⟨S4096x2x64x1, .f32⟩
  | 111 => ⟨S4096x2x64x1, .f32⟩
  | 112 => ⟨S4096x2x64x1, .f32⟩
  | 113 => ⟨S4096x2x64x1, .f32⟩
  | 114 => ⟨S4096x2x64x1, .f32⟩
  | 115 => ⟨S4096x2x64x1, .f32⟩
  | 116 => ⟨S4096x2x64x1, .f32⟩
  | 117 => ⟨S4096x2x64x1, .f32⟩
  | 118 => ⟨S4096x2x64x2, .f32⟩
  | 119 => ⟨S4096x2x128, .f32⟩
  | 120 => ⟨S4352x2x128, .f32⟩
  | 121 => ⟨S4352x2x128, .f32⟩
  | 122 => ⟨S_, .f32⟩
  | 123 => ⟨S128, .f32⟩
  | 124 => ⟨S1x1x128, .f32⟩
  | 125 => ⟨S4352x2x128, .f32⟩
  | 126 => ⟨S4352x2x128, .f32⟩
  | 127 => ⟨S_, .f32⟩
  | _ => ⟨S4352x1024, .f32⟩

abbrev hbmTy0_1 (i : Nat) : BufTy := match i % 128 with
  | 0 => ⟨S128, .f32⟩
  | 1 => ⟨S4352x2x128, .f32⟩
  | 2 => ⟨S_, .f32⟩
  | 3 => ⟨S4352x2, .f32⟩
  | 4 => ⟨S4352x2x1, .f32⟩
  | 5 => ⟨S4352x2x128, .f32⟩
  | 6 => ⟨S4352x2x128, .f32⟩
  | 7 => ⟨S4352x2x1, .f32⟩
  | 8 => ⟨S_, .f32⟩
  | 9 => ⟨S4352x2x1, .f32⟩
  | 10 => ⟨S4352x2x1, .f32⟩
  | 11 => ⟨S_, .f32⟩
  | 12 => ⟨S4352x2, .f32⟩
  | 13 => ⟨S4352x2x128, .f32⟩
  | 14 => ⟨S4352x2x128, .f32⟩
  | 15 => ⟨S4352x2x128, .f32⟩
  | 16 => ⟨S4352x2x128, .f32⟩
  | 17 => ⟨S4352x2x128, .f32⟩
  | 18 => ⟨S1x128, .f32⟩
  | 19 => ⟨S4352x256, .f32⟩
  | 20 => ⟨S4352x1024, .f32⟩
  | 21 => ⟨S4352x8x128, .f32⟩
  | 22 => ⟨S4096x8x128, .f32⟩
  | 23 => ⟨S256x8x128, .f32⟩
  | 24 => ⟨S4096x8x64x2, .f32⟩
  | 25 => ⟨S4096x8x64x1, .f32⟩
  | 26 => ⟨S4096x8x64x1, .f32⟩
  | 27 => ⟨S4096x8x64x1, .f32⟩
  | 28 => ⟨S4096x8x64x1, .f32⟩
  | 29 => ⟨S4096x8x64x1, .f32⟩
  | 30 => ⟨S4096x8x64x1, .f32⟩
  | 31 => ⟨S4096x8x64x1, .f32⟩
  | 32 => ⟨S4096x8x64x1, .f32⟩
  | 33 => ⟨S4096x8x64x1, .f32⟩
  | 34 => ⟨S4096x8x64x1, .f32⟩
  | 35 => ⟨S4096x8x64x1, .f32⟩
  | 36 => ⟨S4096x8x64x1, .f32⟩
  | 37 => ⟨S4096x8x64x1, .f32⟩
  | 38 => ⟨S4096x8x64x2, .f32⟩
  | 39 => ⟨S4096x8x128, .f32⟩
  | 40 => ⟨S4352x8x128, .f32⟩
  | 41 => ⟨S4352x8x128, .f32⟩
  | 42 => ⟨S_, .f32⟩
  | 43 => ⟨S128, .f32⟩
  | 44 => ⟨S1x1x128, .f32⟩
  | 45 => ⟨S4352x8x128, .f32⟩
  | 46 => ⟨S4352x8x128, .f32⟩
  | 47 => ⟨S_, .f32⟩
  | 48 => ⟨S128, .f32⟩
  | 49 => ⟨S4352x8x128, .f32⟩
  | 50 => ⟨S_, .f32⟩
  | 51 => ⟨S4352x8, .f32⟩
  | 52 => ⟨S4352x8x1, .f32⟩
  | 53 => ⟨S4352x8x128, .f32⟩
  | 54 => ⟨S4352x8x128, .f32⟩
  | 55 => ⟨S4352x8x1, .f32⟩
  | 56 => ⟨S_, .f32⟩
  | 57 => ⟨S4352x8x1, .f32⟩
  | 58 => ⟨S4352x8x1, .f32⟩
  | 59 => ⟨S_, .f32⟩
  | 60 => ⟨S4352x8, .f32⟩
  | 61 => ⟨S4352x8x128, .f32⟩
  | 62 => ⟨S4352x8x128, .f32⟩
  | 63 => ⟨S4352x8x128, .f32⟩
  | 64 => ⟨S4352x8x128, .f32⟩
  | 65 => ⟨S4352x8x128, .f32⟩
  | 66 => ⟨S1x128, .f32⟩
  | 67 => ⟨S4352x1024, .f32⟩
  | _ => ⟨S4352x1024, .f32⟩

abbrev hbmTy (i : Nat) : BufTy := match i / 128 with
  | 0 => hbmTy0_0 i
  | 1 => hbmTy0_1 i
  | _ => ⟨S4352x1024, .f32⟩

abbrev bufTy : (tb : Table) → Fin (tcTables nBuf tb) → BufTy
  | .hbm, ⟨i, _⟩ => hbmTy i
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_3 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_6 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_cst_7 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_cst_8 : Ref sig .tc := ⟨.hbm, 127, rfl⟩
abbrev main_v108 : Ref sig .tc := ⟨.hbm, 128, rfl⟩
abbrev main_v109 : Ref sig .tc := ⟨.hbm, 129, rfl⟩
abbrev main_cst_9 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_cst_10 : Ref sig .tc := ⟨.hbm, 136, rfl⟩
abbrev main_v115 : Ref sig .tc := ⟨.hbm, 137, rfl⟩
abbrev main_v116 : Ref sig .tc := ⟨.hbm, 138, rfl⟩
abbrev main_cst_11 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_cst_12 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_cst_13 : Ref sig .tc := ⟨.hbm, 175, rfl⟩
abbrev main_v151 : Ref sig .tc := ⟨.hbm, 176, rfl⟩
abbrev main_v152 : Ref sig .tc := ⟨.hbm, 177, rfl⟩
abbrev main_cst_14 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_cst_15 : Ref sig .tc := ⟨.hbm, 184, rfl⟩
abbrev main_v158 : Ref sig .tc := ⟨.hbm, 185, rfl⟩
abbrev main_v159 : Ref sig .tc := ⟨.hbm, 186, rfl⟩
abbrev main_cst_16 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩

abbrev nD : Nat := 1
abbrev τ : Topo := Topo.v7x

variable {F : FTy → Type} [FloatOps F]
-- ==== QkFwd.lean ====
abbrev S4352x1024 : Shape := ⟨2, ![4352, 1024]⟩
abbrev S4352x256 : Shape := ⟨2, ![4352, 256]⟩
abbrev S4096x64 : Shape := ⟨2, ![4096, 64]⟩
abbrev S1x128 : Shape := ⟨2, ![1, 128]⟩
abbrev S2 : Shape := ⟨1, ![2]⟩
abbrev S4096x64x2 : Shape := ⟨3, ![4096, 64, 2]⟩
abbrev S4096x128 : Shape := ⟨2, ![4096, 128]⟩
abbrev S1x2 : Shape := ⟨2, ![1, 2]⟩
abbrev S64x2 : Shape := ⟨2, ![64, 2]⟩
abbrev S128 : Shape := ⟨1, ![128]⟩
abbrev S_ : Shape := ⟨0, ![]⟩
abbrev S256x128 : Shape := ⟨2, ![256, 128]⟩
abbrev S4352x128 : Shape := ⟨2, ![4352, 128]⟩
abbrev S256x1024 : Shape := ⟨2, ![256, 1024]⟩
abbrev S256x256 : Shape := ⟨2, ![256, 256]⟩
abbrev S128x128 : Shape := ⟨2, ![128, 128]⟩
abbrev S256 : Shape := ⟨1, ![256]⟩
abbrev S256x1 : Shape := ⟨2, ![256, 1]⟩

abbrev nBuf : Space → Nat
  | .hbm => 27
  | .vmem => 18
  | .smem => 0
  | _ => 0

abbrev bufTy : (tb : Table) → Fin (tcTables nBuf tb) → BufTy
  | .hbm, ⟨0, _⟩ => ⟨S4352x1024, .f32⟩
  | .hbm, ⟨1, _⟩ => ⟨S4352x256, .f32⟩
  | .hbm, ⟨2, _⟩ => ⟨S4352x256, .f32⟩
  | .hbm, ⟨3, _⟩ => ⟨S4096x64, .f32⟩
  | .hbm, ⟨4, _⟩ => ⟨S4096x64, .f32⟩
  | .hbm, ⟨5, _⟩ => ⟨S1x128, .f32⟩
  | .hbm, ⟨6, _⟩ => ⟨S1x128, .f32⟩
  | .hbm, ⟨7, _⟩ => ⟨S2, .f32⟩
  | .hbm, ⟨8, _⟩ => ⟨S4096x64x2, .f32⟩
  | .hbm, ⟨9, _⟩ => ⟨S4096x128, .f32⟩
  | .hbm, ⟨10, _⟩ => ⟨S4096x64x2, .f32⟩
  | .hbm, ⟨11, _⟩ => ⟨S4096x128, .f32⟩
  | .hbm, ⟨12, _⟩ => ⟨S1x2, .f32⟩
  | .hbm, ⟨13, _⟩ => ⟨S64x2, .f32⟩
  | .hbm, ⟨14, _⟩ => ⟨S128, .f32⟩
  | .hbm, ⟨15, _⟩ => ⟨S1x128, .f32⟩
  | .hbm, ⟨16, _⟩ => ⟨S4096x128, .f32⟩
  | .hbm, ⟨17, _⟩ => ⟨S4096x128, .f32⟩
  | .hbm, ⟨18, _⟩ => ⟨S_, .f32⟩
  | .hbm, ⟨19, _⟩ => ⟨S256x128, .f32⟩
  | .hbm, ⟨20, _⟩ => ⟨S4352x128, .f32⟩
  | .hbm, ⟨21, _⟩ => ⟨S_, .f32⟩
  | .hbm, ⟨22, _⟩ => ⟨S256x128, .f32⟩
  | .hbm, ⟨23, _⟩ => ⟨S4352x128, .f32⟩
  | .hbm, ⟨24, _⟩ => ⟨S4352x1024, .bf16⟩
  | .hbm, ⟨25, _⟩ => ⟨S4352x256, .bf16⟩
  | .hbm, ⟨26, _⟩ => ⟨S4352x256, .bf16⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x128, .f32⟩
  | .local _ .vmem, ⟨11, _⟩ => ⟨S1x128, .f32⟩
  | .local _ .vmem, ⟨12, _⟩ => ⟨S256x1024, .bf16⟩
  | .local _ .vmem, ⟨13, _⟩ => ⟨S256x1024, .bf16⟩
  | .local _ .vmem, ⟨14, _⟩ => ⟨S256x256, .bf16⟩
  | .local _ .vmem, ⟨15, _⟩ => ⟨S256x256, .bf16⟩
  | .local _ .vmem, ⟨16, _⟩ => ⟨S256x256, .bf16⟩
  | .local _ .vmem, ⟨17, _⟩ => ⟨S256x256, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QkFwdRefIdeal.lean ====
abbrev S4352x1024 : Shape := ⟨2, ![4352, 1024]⟩
abbrev S4352x256 : Shape := ⟨2, ![4352, 256]⟩
abbrev S4096x64 : Shape := ⟨2, ![4096, 64]⟩
abbrev S1x128 : Shape := ⟨2, ![1, 128]⟩
abbrev S4352x8x128 : Shape := ⟨3, ![4352, 8, 128]⟩
abbrev S128 : Shape := ⟨1, ![128]⟩
abbrev S_ : Shape := ⟨0, ![]⟩
abbrev S4352x8 : Shape := ⟨2, ![4352, 8]⟩
abbrev S4352x8x1 : Shape := ⟨3, ![4352, 8, 1]⟩
abbrev S1x1x128 : Shape := ⟨3, ![1, 1, 128]⟩
abbrev S4096x8x128 : Shape := ⟨3, ![4096, 8, 128]⟩
abbrev S256x8x128 : Shape := ⟨3, ![256, 8, 128]⟩
abbrev S4096x8x64x2 : Shape := ⟨4, ![4096, 8, 64, 2]⟩
abbrev S4096x8x64x1 : Shape := ⟨4, ![4096, 8, 64, 1]⟩
abbrev S4096x1x64x1 : Shape := ⟨4, ![4096, 1, 64, 1]⟩
abbrev S4352x2x128 : Shape := ⟨3, ![4352, 2, 128]⟩
abbrev S4352x2 : Shape := ⟨2, ![4352, 2]⟩
abbrev S4352x2x1 : Shape := ⟨3, ![4352, 2, 1]⟩
abbrev S4096x2x128 : Shape := ⟨3, ![4096, 2, 128]⟩
abbrev S256x2x128 : Shape := ⟨3, ![256, 2, 128]⟩
abbrev S4096x2x64x2 : Shape := ⟨4, ![4096, 2, 64, 2]⟩
abbrev S4096x2x64x1 : Shape := ⟨4, ![4096, 2, 64, 1]⟩

abbrev nBuf : Space → Nat
  | .hbm => 88
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x256, .f32⟩
  | .hbm, ⟨2, _⟩ => ⟨S4352x256, .f32⟩
  | .hbm, ⟨3, _⟩ => ⟨S4096x64, .f32⟩
  | .hbm, ⟨4, _⟩ => ⟨S4096x64, .f32⟩
  | .hbm, ⟨5, _⟩ => ⟨S1x128, .f32⟩
  | .hbm, ⟨6, _⟩ => ⟨S1x128, .f32⟩
  | .hbm, ⟨7, _⟩ => ⟨S4352x8x128, .f32⟩
  | .hbm, ⟨8, _⟩ => ⟨S128, .f32⟩
  | .hbm, ⟨9, _⟩ => ⟨S4352x8x128, .f32⟩
  | .hbm, ⟨10, _⟩ => ⟨S_, .f32⟩
  | .hbm, ⟨11, _⟩ => ⟨S4352x8, .f32⟩
  | .hbm, ⟨12, _⟩ => ⟨S4352x8x1, .f32⟩
  | .hbm, ⟨13, _⟩ => ⟨S_, .f32⟩
  | .hbm, ⟨14, _⟩ => ⟨S4352x8x1, .f32⟩
  | .hbm, ⟨15, _⟩ => ⟨S4352x8x1, .f32⟩
  | .hbm, ⟨16, _⟩ => ⟨S_, .f32⟩
  | .hbm, ⟨17, _⟩ => ⟨S4352x8x1, .f32⟩
  | .hbm, ⟨18, _⟩ => ⟨S4352x8x1, .f32⟩
  | .hbm, ⟨19, _⟩ => ⟨S4352x8x1, .f32⟩
  | .hbm, ⟨20, _⟩ => ⟨S4352x8x128, .f32⟩
  | .hbm, ⟨21, _⟩ => ⟨S4352x8x128, .f32⟩
  | .hbm, ⟨22, _⟩ => ⟨S1x1x128, .f32⟩
  | .hbm, ⟨23, _⟩ => ⟨S4352x8x128, .f32⟩
  | .hbm, ⟨24, _⟩ => ⟨S4352x8x128, .f32⟩
  | .hbm, ⟨25, _⟩ => ⟨S4096x8x128, .f32⟩
  | .hbm, ⟨26, _⟩ => ⟨S256x8x128, .f32⟩
  | .hbm, ⟨27, _⟩ => ⟨S4096x8x64x2, .f32⟩
  | .hbm, ⟨28, _⟩ => ⟨S4096x8x64x1, .f32⟩
  | .hbm, ⟨29, _⟩ => ⟨S4096x8x64x1, .f32⟩
  | .hbm, ⟨30, _⟩ => ⟨S4096x1x64x1, .f32⟩
  | .hbm, ⟨31, _⟩ => ⟨S4096x1x64x1, .f32⟩
  | .hbm, ⟨32, _⟩ => ⟨S4096x8x64x1, .f32⟩
  | .hbm, ⟨33, _⟩ => ⟨S4096x8x64x1, .f32⟩
  | .hbm, ⟨34, _⟩ => ⟨S4096x8x64x1, .f32⟩
  | .hbm, ⟨35, _⟩ => ⟨S4096x8x64x1, .f32⟩
  | .hbm, ⟨36, _⟩ => ⟨S4096x8x64x1, .f32⟩
  | .hbm, ⟨37, _⟩ => ⟨S4096x8x64x1, .f32⟩
  | .hbm, ⟨38, _⟩ => ⟨S4096x8x64x1, .f32⟩
  | .hbm, ⟨39, _⟩ => ⟨S4096x8x64x1, .f32⟩
  | .hbm, ⟨40, _⟩ => ⟨S4096x8x64x1, .f32⟩
  | .hbm, ⟨41, _⟩ => ⟨S4096x8x64x1, .f32⟩
  | .hbm, ⟨42, _⟩ => ⟨S4096x8x64x2, .f32⟩
  | .hbm, ⟨43, _⟩ => ⟨S4096x8x128, .f32⟩
  | .hbm, ⟨44, _⟩ => ⟨S4352x8x128, .f32⟩
  | .hbm, ⟨45, _⟩ => ⟨S4352x1024, .f32⟩
  | .hbm, ⟨46, _⟩ => ⟨S4352x1024, .bf16⟩
  | .hbm, ⟨47, _⟩ => ⟨S4352x2x128, .f32⟩
  | .hbm, ⟨48, _⟩ => ⟨S128, .f32⟩
  | .hbm, ⟨49, _⟩ => ⟨S4352x2x128, .f32⟩
  | .hbm, ⟨50, _⟩ => ⟨S_, .f32⟩
  | .hbm, ⟨51, _⟩ => ⟨S4352x2, .f32⟩
  | .hbm, ⟨52, _⟩ => ⟨S4352x2x1, .f32⟩
  | .hbm, ⟨53, _⟩ => ⟨S_, .f32⟩
  | .hbm, ⟨54, _⟩ => ⟨S4352x2x1, .f32⟩
  | .hbm, ⟨55, _⟩ => ⟨S4352x2x1, .f32⟩
  | .hbm, ⟨56, _⟩ => ⟨S_, .f32⟩
  | .hbm, ⟨57, _⟩ => ⟨S4352x2x1, .f32⟩
  | .hbm, ⟨58, _⟩ => ⟨S4352x2x1, .f32⟩
  | .hbm, ⟨59, _⟩ => ⟨S4352x2x1, .f32⟩
  | .hbm, ⟨60, _⟩ => ⟨S4352x2x128, .f32⟩
  | .hbm, ⟨61, _⟩ => ⟨S4352x2x128, .f32⟩
  | .hbm, ⟨62, _⟩ => ⟨S1x1x128, .f32⟩
  | .hbm, ⟨63, _⟩ => ⟨S4352x2x128, .f32⟩
  | .hbm, ⟨64, _⟩ => ⟨S4352x2x128, .f32⟩
  | .hbm, ⟨65, _⟩ => ⟨S4096x2x128, .f32⟩
  | .hbm, ⟨66, _⟩ => ⟨S256x2x128, .f32⟩
  | .hbm, ⟨67, _⟩ => ⟨S4096x2x64x2, .f32⟩
  | .hbm, ⟨68, _⟩ => ⟨S4096x2x64x1, .f32⟩
  | .hbm, ⟨69, _⟩ => ⟨S4096x2x64x1, .f32⟩
  | .hbm, ⟨70, _⟩ => ⟨S4096x1x64x1, .f32⟩
  | .hbm, ⟨71, _⟩ => ⟨S4096x1x64x1, .f32⟩
  | .hbm, ⟨72, _⟩ => ⟨S4096x2x64x1, .f32⟩
  | .hbm, ⟨73, _⟩ => ⟨S4096x2x64x1, .f32⟩
  | .hbm, ⟨74, _⟩ => ⟨S4096x2x64x1, .f32⟩
  | .hbm, ⟨75, _⟩ => ⟨S4096x2x64x1, .f32⟩
  | .hbm, ⟨76, _⟩ => ⟨S4096x2x64x1, .f32⟩
  | .hbm, ⟨77, _⟩ => ⟨S4096x2x64x1, .f32⟩
  | .hbm, ⟨78, _⟩ => ⟨S4096x2x64x1, .f32⟩
  | .hbm, ⟨79, _⟩ => ⟨S4096x2x64x1, .f32⟩
  | .hbm, ⟨80, _⟩ => ⟨S4096x2x64x1, .f32⟩
  | .hbm, ⟨81, _⟩ => ⟨S4096x2x64x1, .f32⟩
  | .hbm, ⟨82, _⟩ => ⟨S4096x2x64x2, .f32⟩
  | .hbm, ⟨83, _⟩ => ⟨S4096x2x128, .f32⟩
  | .hbm, ⟨84, _⟩ => ⟨S4352x2x128, .f32⟩
  | .hbm, ⟨85, _⟩ => ⟨S4352x256, .f32⟩
  | .hbm, ⟨86, _⟩ => ⟨S4352x256, .bf16⟩
  | .hbm, ⟨87, _⟩ => ⟨S4352x256, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_2 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩

abbrev nD : Nat := 1
abbrev τ : Topo := Topo.v7x

variable {F : FTy → Type} [FloatOps F]
-- ==== SgateFwd.lean ====
abbrev S4352x512 : Shape := ⟨2, ![4352, 512]⟩
abbrev S1x512 : Shape := ⟨2, ![1, 512]⟩
abbrev S4x128x128 : Shape := ⟨3, ![4, 128, 128]⟩
abbrev S128x1 : Shape := ⟨2, ![128, 1]⟩
abbrev S256x512 : Shape := ⟨2, ![256, 512]⟩
abbrev S256x128 : Shape := ⟨2, ![256, 128]⟩
abbrev S1x128 : Shape := ⟨2, ![1, 128]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩

abbrev nBuf : Space → Nat
  | .hbm => 9
  | .vmem => 12
  | .smem => 0
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S1x512, .f32⟩
  | .hbm, ⟨3, _⟩ => ⟨S4x128x128, .f32⟩
  | .hbm, ⟨4, _⟩ => ⟨S128x1, .f32⟩
  | .hbm, ⟨5, _⟩ => ⟨S128x1, .f32⟩
  | .hbm, ⟨6, _⟩ => ⟨S128x1, .f32⟩
  | .hbm, ⟨7, _⟩ => ⟨S128x1, .f32⟩
  | .hbm, ⟨8, _⟩ => ⟨S4352x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S4x128x128, .f32⟩
  | .local _ .vmem, ⟨6, _⟩ => ⟨S128x1, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | .local _ .vmem, ⟨10, _⟩ => ⟨S256x512, .bf16⟩
  | .local _ .vmem, ⟨11, _⟩ => ⟨S256x512, .bf16⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SgateFwdRefIdeal.lean ====
abbrev S4352x512 : Shape := ⟨2, ![4352, 512]⟩
abbrev S1x512 : Shape := ⟨2, ![1, 512]⟩
abbrev S4x128x128 : Shape := ⟨3, ![4, 128, 128]⟩
abbrev S128x1 : Shape := ⟨2, ![128, 1]⟩
abbrev S_ : Shape := ⟨0, ![]⟩
abbrev S4352x4x128 : Shape := ⟨3, ![4352, 4, 128]⟩
abbrev S4x128 : Shape := ⟨2, ![4, 128]⟩
abbrev S4352x4 : Shape := ⟨2, ![4352, 4]⟩
abbrev S4352x4x1 : Shape := ⟨3, ![4352, 4, 1]⟩
abbrev S1x4x128 : Shape := ⟨3, ![1, 4, 128]⟩
abbrev S34x128x4x128 : Shape := ⟨4, ![34, 128, 4, 128]⟩
abbrev S4x34x128x128 : Shape := ⟨4, ![4, 34, 128, 128]⟩
abbrev S128x4 : Shape := ⟨2, ![128, 4]⟩
abbrev S128x4x1 : Shape := ⟨3, ![128, 4, 1]⟩
abbrev S1x128x4x1 : Shape := ⟨4, ![1, 128, 4, 1]⟩

abbrev nBuf : Space → Nat
  | .hbm => 71
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S1x512, .f32⟩
  | .hbm, ⟨3, _⟩ => ⟨S4x128x128, .f32⟩
  | .hbm, ⟨4, _⟩ => ⟨S128x1, .f32⟩
  | .hbm, ⟨5, _⟩ => ⟨S128x1, .f32⟩
  | .hbm, ⟨6, _⟩ => ⟨S128x1, .f32⟩
  | .hbm, ⟨7, _⟩ => ⟨S128x1, .f32⟩
  | .hbm, ⟨8, _⟩ => ⟨S4352x512, .f32⟩
  | .hbm, ⟨9, _⟩ => ⟨S4352x512, .f32⟩
  | .hbm, ⟨10, _⟩ => ⟨S_, .f32⟩
  | .hbm, ⟨11, _⟩ => ⟨S4352x512, .f32⟩
  | .hbm, ⟨12, _⟩ => ⟨S4352x512, .f32⟩
  | .hbm, ⟨13, _⟩ => ⟨S4352x512, .f32⟩
  | .hbm, ⟨14, _⟩ => ⟨S_, .f32⟩
  | .hbm, ⟨15, _⟩ => ⟨S4352x512, .f32⟩
  | .hbm, ⟨16, _⟩ => ⟨S4352x512, .f32⟩
  | .hbm, ⟨17, _⟩ => ⟨S4352x512, .f32⟩
  | .hbm, ⟨18, _⟩ => ⟨S_, .f32⟩
  | .hbm, ⟨19, _⟩ => ⟨S4352x512, .f32⟩
  | .hbm, ⟨20, _⟩ => ⟨S4352x512, .f32⟩
  | .hbm, ⟨21, _⟩ => ⟨S_, .f32⟩
  | .hbm, ⟨22, _⟩ => ⟨S4352x512, .f32⟩
  | .hbm, ⟨23, _⟩ => ⟨S4352x512, .f32⟩
  | .hbm, ⟨24, _⟩ => ⟨S4352x512, .f32⟩
  | .hbm, ⟨25, _⟩ => ⟨S4352x512, .f32⟩
  | .hbm, ⟨26, _⟩ => ⟨S4352x512, .f32⟩
  | .hbm, ⟨27, _⟩ => ⟨S_, .f32⟩
  | .hbm, ⟨28, _⟩ => ⟨S4352x512, .f32⟩
  | .hbm, ⟨29, _⟩ => ⟨S4352x512, .f32⟩
  | .hbm, ⟨30, _⟩ => ⟨S4352x512, .f32⟩
  | .hbm, ⟨31, _⟩ => ⟨S_, .f32⟩
  | .hbm, ⟨32, _⟩ => ⟨S4352x512, .f32⟩
  | .hbm, ⟨33, _⟩ => ⟨S4352x512, .f32⟩
  | .hbm, ⟨34, _⟩ => ⟨S4352x512, .f32⟩
  | .hbm, ⟨35, _⟩ => ⟨S_, .f32⟩
  | .hbm, ⟨36, _⟩ => ⟨S4352x512, .f32⟩
  | .hbm, ⟨37, _⟩ => ⟨S4352x512, .f32⟩
  | .hbm, ⟨38, _⟩ => ⟨S_, .f32⟩
  | .hbm, ⟨39, _⟩ => ⟨S4352x512, .f32⟩
  | .hbm, ⟨40, _⟩ => ⟨S4352x512, .f32⟩
  | .hbm, ⟨41, _⟩ => ⟨S4352x512, .f32⟩
  | .hbm, ⟨42, _⟩ => ⟨S4352x4x128, .f32⟩
  | .hbm, ⟨43, _⟩ => ⟨S4x128, .f32⟩
  | .hbm, ⟨44, _⟩ => ⟨S4352x4x128, .f32⟩
  | .hbm, ⟨45, _⟩ => ⟨S_, .f32⟩
  | .hbm, ⟨46, _⟩ => ⟨S4352x4, .f32⟩
  | .hbm, ⟨47, _⟩ => ⟨S4352x4x1, .f32⟩
  | .hbm, ⟨48, _⟩ => ⟨S_, .f32⟩
  | .hbm, ⟨49, _⟩ => ⟨S4352x4x1, .f32⟩
  | .hbm, ⟨50, _⟩ => ⟨S4352x4x1, .f32⟩
  | .hbm, ⟨51, _⟩ => ⟨S_, .f32⟩
  | .hbm, ⟨52, _⟩ => ⟨S4352x4x1, .f32⟩
  | .hbm, ⟨53, _⟩ => ⟨S4352x4x1, .f32⟩
  | .hbm, ⟨54, _⟩ => ⟨S4352x4x1, .f32⟩
  | .hbm, ⟨55, _⟩ => ⟨S4352x4x128, .f32⟩
  | .hbm, ⟨56, _⟩ => ⟨S4352x4x128, .f32⟩
  | .hbm, ⟨57, _⟩ => ⟨S1x4x128, .f32⟩
  | .hbm, ⟨58, _⟩ => ⟨S4352x4x128, .f32⟩
  | .hbm, ⟨59, _⟩ => ⟨S4352x4x128, .f32⟩
  | .hbm, ⟨60, _⟩ => ⟨S34x128x4x128, .f32⟩
  | .hbm, ⟨61, _⟩ => ⟨S4x34x128x128, .f32⟩
  | .hbm, ⟨62, _⟩ => ⟨S34x128x4x128, .f32⟩
  | .hbm, ⟨63, _⟩ => ⟨S128x4, .f32⟩
  | .hbm, ⟨64, _⟩ => ⟨S128x4x1, .f32⟩
  | .hbm, ⟨65, _⟩ => ⟨S1x128x4x1, .f32⟩
  | .hbm, ⟨66, _⟩ => ⟨S34x128x4x128, .f32⟩
  | .hbm, ⟨67, _⟩ => ⟨S34x128x4x128, .f32⟩
  | .hbm, ⟨68, _⟩ => ⟨S4352x512, .f32⟩
  | .hbm, ⟨69, _⟩ => ⟨S4352x512, .f32⟩
  | .hbm, ⟨70, _⟩ => ⟨S4352x512, .bf16⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== SgateBwd.lean ====
abbrev S4352x512 : Shape := ⟨2, ![4352, 512]⟩
abbrev S1x512 : Shape := ⟨2, ![1, 512]⟩
abbrev S4x128x128 : Shape := ⟨3, ![4, 128, 128]⟩
abbrev S128x1 : Shape := ⟨2, ![128, 1]⟩
abbrev S256x512 : Shape := ⟨2, ![256, 512]⟩
abbrev S256x128 : Shape := ⟨2, ![256, 128]⟩
abbrev S1x128 : Shape := ⟨2, ![1, 128]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128 : Shape := ⟨1, ![128]⟩
abbrev S3x128x128 : Shape := ⟨3, ![3, 128, 128]⟩
abbrev S1x384 : Shape := ⟨2, ![1, 384]⟩
abbrev S256x384 : Shape := ⟨2, ![256, 384]⟩
abbrev S2x128x128 : Shape := ⟨3, ![2, 128, 128]⟩
abbrev S1x256 : Shape := ⟨2, ![1, 256]⟩
abbrev S256x256 : Shape := ⟨2, ![256, 256]⟩

abbrev nBuf : Space → Nat
  | .hbm => 17
  | .vmem => 22
  | .smem => 0
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S1x512, .f32⟩
  | .hbm, ⟨3, _⟩ => ⟨S4x128x128, .f32⟩
  | .hbm, ⟨4, _⟩ => ⟨S128x1, .f32⟩
  | .hbm, ⟨5, _⟩ => ⟨S128x1, .f32⟩
  | .hbm, ⟨6, _⟩ => ⟨S128x1, .f32⟩
  | .hbm, ⟨7, _⟩ => ⟨S128x1, .f32⟩
  | .hbm, ⟨8, _⟩ => ⟨S4352x512, .bf16⟩
  | .hbm, ⟨9, _⟩ => ⟨S4352x512, .f32⟩
  | .hbm, ⟨10, _⟩ => ⟨S4352x512, .f32⟩
  | .hbm, ⟨11, _⟩ => ⟨S1x512, .f32⟩
  | .hbm, ⟨12, _⟩ => ⟨S4x128x128, .f32⟩
  | .hbm, ⟨13, _⟩ => ⟨S128x1, .f32⟩
  | .hbm, ⟨14, _⟩ => ⟨S128x1, .f32⟩
  | .hbm, ⟨15, _⟩ => ⟨S128x1, .f32⟩
  | .hbm, ⟨16, _⟩ => ⟨S128x1, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S4x128x128, .f32⟩
  | .local _ .vmem, ⟨6, _⟩ => ⟨S128x1, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | .local _ .vmem, ⟨10, _⟩ => ⟨S256x512, .bf16⟩
  | .local _ .vmem, ⟨11, _⟩ => ⟨S256x512, .bf16⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S1x512, .f32⟩
  | .local _ .vmem, ⟨17, _⟩ => ⟨S4x128x128, .f32⟩
  | .local _ .vmem, ⟨18, _⟩ => ⟨S128x1, .f32⟩
  | .local _ .vmem, ⟨19, _⟩ => ⟨S128x1, .f32⟩
  | .local _ .vmem, ⟨20, _⟩ => ⟨S128x1, .f32⟩
  | .local _ .vmem, ⟨21, _⟩ => ⟨S128x1, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v474 : BitVec 1 := Scalar.cmpi .eq arg0 c0_i32
  let v475 : BitVec 32 := Scalar.extui v474
  let c0_i32_129 : BitVec 32 := 0#32
  let v476 : BitVec 1 := Scalar.cmpi .ne v475 c0_i32_129
  v476

def k0_cond2 (i : grid0.Coords) : BitVec 1 :=
  let arg0 : BitVec 32 := BitVec.ofNat 32 (i 0).val
  let c0_i32 : BitVec 32 := 0#32
  let v474 : BitVec 1 := Scalar.cmpi .eq arg0 c0_i32
  let v_true : BitVec 1 := 1#1
  let v477 : BitVec 1 := Scalar.xori v474 v_true
  let v478 : BitVec 32 := Scalar.extui v477
  let c0_i32_130 : BitVec 32 := 0#32
  let v479 : BitVec 1 := Scalar.cmpi .ne v478 c0_i32_130
  v479

def k0_cond3 (i : grid0.Coords) : BitVec 1 :=
  let arg0 : BitVec 32 := BitVec.ofNat 32 (i 0).val
  let c0_i32_131 : BitVec 32 := 0#32
  let v480 : BitVec 1 := Scalar.cmpi .eq arg0 c0_i32_131
  let v481 : BitVec 32 := Scalar.extui v480
  let c0_i32_132 : BitVec 32 := 0#32
  let v482 : BitVec 1 := Scalar.cmpi .ne v481 c0_i32_132
  v482

def k0_cond4 (i : grid0.Coords) : BitVec 1 :=
  let arg0 : BitVec 32 := BitVec.ofNat 32 (i 0).val
  let c0_i32_131 : BitVec 32 := 0#32
  let v480 : BitVec 1 := Scalar.cmpi .eq arg0 c0_i32_131
  let true_133 : BitVec 1 := 1#1
  let v483 : BitVec 1 := Scalar.xori v480 true_133
  let v484 : BitVec 32 := Scalar.extui v483
  let c0_i32_134 : BitVec 32 := 0#32
  let v485 : BitVec 1 := Scalar.cmpi .ne v484 c0_i32_134
  v485

def k0_cond5 (i : grid0.Coords) : BitVec 1 :=
  let arg0 : BitVec 32 := BitVec.ofNat 32 (i 0).val
  let c0_i32_135 : BitVec 32 := 0#32
  let v486 : BitVec 1 := Scalar.cmpi .eq arg0 c0_i32_135
  let v487 : BitVec 32 := Scalar.extui v486
  let c0_i32_136 : BitVec 32 := 0#32
  let v488 : BitVec 1 := Scalar.cmpi .ne v487 c0_i32_136
  v488

def k0_cond6 (i : grid0.Coords) : BitVec 1 :=
  let arg0 : BitVec 32 := BitVec.ofNat 32 (i 0).val
  let c0_i32_135 : BitVec 32 := 0#32
  let v486 : BitVec 1 := Scalar.cmpi .eq arg0 c0_i32_135
  let true_137 : BitVec 1 := 1#1
  let v489 : BitVec 1 := Scalar.xori v486 true_137
  let v490 : BitVec 32 := Scalar.extui v489
  let c0_i32_138 : BitVec 32 := 0#32
  let v491 : BitVec 1 := Scalar.cmpi .ne v490 c0_i32_138
  v491

def k0_cond7 (i : grid0.Coords) : BitVec 1 :=
  let arg0 : BitVec 32 := BitVec.ofNat 32 (i 0).val
  let c0_i32_139 : BitVec 32 := 0#32
  let v492 : BitVec 1 := Scalar.cmpi .eq arg0 c0_i32_139
  let v493 : BitVec 32 := Scalar.extui v492
  let c0_i32_140 : BitVec 32 := 0#32
  let v494 : BitVec 1 := Scalar.cmpi .ne v493 c0_i32_140
  v494

def k0_cond8 (i : grid0.Coords) : BitVec 1 :=
  let arg0 : BitVec 32 := BitVec.ofNat 32 (i 0).val
  let c0_i32_139 : BitVec 32 := 0#32
  let v492 : BitVec 1 := Scalar.cmpi .eq arg0 c0_i32_139
  let true_141 : BitVec 1 := 1#1
  let v495 : BitVec 1 := Scalar.xori v492 true_141
  let v496 : BitVec 32 := Scalar.extui v495
  let c0_i32_142 : BitVec 32 := 0#32
  let v497 : BitVec 1 := Scalar.cmpi .ne v496 c0_i32_142
  v497

def k0_cond9 (i : grid0.Coords) : BitVec 1 :=
  let arg0 : BitVec 32 := BitVec.ofNat 32 (i 0).val
  let c0_i32_143 : BitVec 32 := 0#32
  let v498 : BitVec 1 := Scalar.cmpi .eq arg0 c0_i32_143
  let v499 : BitVec 32 := Scalar.extui v498
  let c0_i32_144 : BitVec 32 := 0#32
  let v500 : BitVec 1 := Scalar.cmpi .ne v499 c0_i32_144
  v500

def k0_cond10 (i : grid0.Coords) : BitVec 1 :=
  let arg0 : BitVec 32 := BitVec.ofNat 32 (i 0).val
  let c0_i32_143 : BitVec 32 := 0#32
  let v498 : BitVec 1 := Scalar.cmpi .eq arg0 c0_i32_143
  let true_145 : BitVec 1 := 1#1
  let v501 : BitVec 1 := Scalar.xori v498 true_145
  let v502 : BitVec 32 := Scalar.extui v501
  let c0_i32_146 : BitVec 32 := 0#32
  let v503 : BitVec 1 := Scalar.cmpi .ne v502 c0_i32_146
  v503

def k0_cond11 (i : grid0.Coords) : BitVec 1 :=
  let arg0 : BitVec 32 := BitVec.ofNat 32 (i 0).val
  let c0_i32_147 : BitVec 32 := 0#32
  let v504 : BitVec 1 := Scalar.cmpi .eq arg0 c0_i32_147
  let v505 : BitVec 32 := Scalar.extui v504
  let c0_i32_148 : BitVec 32 := 0#32
  let v506 : BitVec 1 := Scalar.cmpi .ne v505 c0_i32_148
  v506

def k0_cond12 (i : grid0.Coords) : BitVec 1 :=
  let arg0 : BitVec 32 := BitVec.ofNat 32 (i 0).val
  let c0_i32_147 : BitVec 32 := 0#32
  let v504 : BitVec 1 := Scalar.cmpi .eq arg0 c0_i32_147
  let true_149 : BitVec 1 := 1#1
  let v507 : BitVec 1 := Scalar.xori v504 true_149
  let v508 : BitVec 32 := Scalar.extui v507
  let c0_i32_150 : BitVec 32 := 0#32
  let v509 : BitVec 1 := Scalar.cmpi .ne v508 c0_i32_150
  v509

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== SgateBwdRefIdeal.lean ====
abbrev S4352x512 : Shape := ⟨2, ![4352, 512]⟩
abbrev S1x512 : Shape := ⟨2, ![1, 512]⟩
abbrev S4x128x128 : Shape := ⟨3, ![4, 128, 128]⟩
abbrev S128x1 : Shape := ⟨2, ![128, 1]⟩
abbrev S_ : Shape := ⟨0, ![]⟩
abbrev S4352x4x128 : Shape := ⟨3, ![4352, 4, 128]⟩
abbrev S4x128 : Shape := ⟨2, ![4, 128]⟩
abbrev S4352x4 : Shape := ⟨2, ![4352, 4]⟩
abbrev S4352x4x1 : Shape := ⟨3, ![4352, 4, 1]⟩
abbrev S1x4x128 : Shape := ⟨3, ![1, 4, 128]⟩
abbrev S34x128x4x128 : Shape := ⟨4, ![34, 128, 4, 128]⟩
abbrev S4x34x128x128 : Shape := ⟨4, ![4, 34, 128, 128]⟩
abbrev S128x4 : Shape := ⟨2, ![128, 4]⟩
abbrev S128x4x1 : Shape := ⟨3, ![128, 4, 1]⟩
abbrev S1x128x4x1 : Shape := ⟨4, ![1, 128, 4, 1]⟩

abbrev nBuf : Space → Nat
  | .hbm => 176
  | .vmem => 0
  | .smem => 0
  | _ => 0

abbrev hbmTy0_0 (i : Nat) : BufTy := match i % 128 with
  | 0 => ⟨S4352x512, .f32⟩
  | 1 => ⟨S4352x512, .f32⟩
  | 2 => ⟨S1x512, .f32⟩
  | 3 => ⟨S4x128x128, .f32⟩
  | 4 => ⟨S128x1, .f32⟩
  | 5 => ⟨S128x1, .f32⟩
  | 6 => ⟨S128x1, .f32⟩
  | 7 => ⟨S128x1, .f32⟩
  | 8 => ⟨S4352x512, .bf16⟩
  | 9 => ⟨S4352x512, .f32⟩
  | 10 => ⟨S4352x512, .f32⟩
  | 11 => ⟨S4352x512, .f32⟩
  | 12 => ⟨S_, .f32⟩
  | 13 => ⟨S4352x512, .f32⟩
  | 14 => ⟨S4352x512, .f32⟩
  | 15 => ⟨S_, .f32⟩
  | 16 => ⟨S4352x512, .f32⟩
  | 17 => ⟨S4352x512, .f32⟩
  | 18 => ⟨S4352x512, .f32⟩
  | 19 => ⟨S_, .f32⟩
  | 20 => ⟨S4352x512, .f32⟩
  | 21 => ⟨S4352x512, .f32⟩
  | 22 => ⟨S4352x512, .f32⟩
  | 23 => ⟨S_, .f32⟩
  | 24 => ⟨S4352x512, .f32⟩
  | 25 => ⟨S4352x512, .f32⟩
  | 26 => ⟨S_, .f32⟩
  | 27 => ⟨S4352x512, .f32⟩
  | 28 => ⟨S4352x512, .f32⟩
  | 29 => ⟨S4352x512, .f32⟩
  | 30 => ⟨S_, .f32⟩
  | 31 => ⟨S4352x512, .f32⟩
  | 32 => ⟨S4352x512, .f32⟩
  | 33 => ⟨S_, .f32⟩
  | 34 => ⟨S4352x512, .f32⟩
  | 35 => ⟨S4352x512, .f32⟩
  | 36 => ⟨S4352x512, .f32⟩
  | 37 => ⟨S4352x512, .f32⟩
  | 38 => ⟨S4352x512, .f32⟩
  | 39 => ⟨S4352x512, .f32⟩
  | 40 => ⟨S_, .f32⟩
  | 41 => ⟨S4352x512, .f32⟩
  | 42 => ⟨S4352x512, .f32⟩
  | 43 => ⟨S_, .f32⟩
  | 44 => ⟨S4352x512, .f32⟩
  | 45 => ⟨S4352x512, .f32⟩
  | 46 => ⟨S4352x512, .f32⟩
  | 47 => ⟨S_, .f32⟩
  | 48 => ⟨S4352x512, .f32⟩
  | 49 => ⟨S4352x512, .f32⟩
  | 50 => ⟨S4352x512, .f32⟩
  | 51 => ⟨S_, .f32⟩
  | 52 => ⟨S4352x512, .f32⟩
  | 53 => ⟨S4352x512, .f32⟩
  | 54 => ⟨S_, .f32⟩
  | 55 => ⟨S4352x512, .f32⟩
  | 56 => ⟨S4352x512, .f32⟩
  | 57 => ⟨S4352x512, .f32⟩
  | 58 => ⟨S_, .f32⟩
  | 59 => ⟨S4352x512, .f32⟩
  | 60 => ⟨S4352x512, .f32⟩
  | 61 => ⟨S_, .f32⟩
  | 62 => ⟨S4352x512, .f32⟩
  | 63 => ⟨S4352x512, .f32⟩
  | 64 => ⟨S4352x512, .f32⟩
  | 65 => ⟨S4352x4x128, .f32⟩
  | 66 => ⟨S4x128, .f32⟩
  | 67 => ⟨S4352x4x128, .f32⟩
  | 68 => ⟨S_, .f32⟩
  | 69 => ⟨S4352x4, .f32⟩
  | 70 => ⟨S4352x4x1, .f32⟩
  | 71 => ⟨S_, .f32⟩
  | 72 => ⟨S4352x4x1, .f32⟩
  | 73 => ⟨S4352x4x1, .f32⟩
  | 74 => ⟨S_, .f32⟩
  | 75 => ⟨S4352x4x1, .f32⟩
  | 76 => ⟨S4352x4x1, .f32⟩
  | 77 => ⟨S4352x4x1, .f32⟩
  | 78 => ⟨S4352x4x1, .f32⟩
  | 79 => ⟨S_, .f32⟩
  | 80 => ⟨S4352x4x1, .f32⟩
  | 81 => ⟨S4352x4x1, .f32⟩
  | 82 => ⟨S4352x4x128, .f32⟩
  | 83 => ⟨S4352x4x128, .f32⟩
  | 84 => ⟨S1x4x128, .f32⟩
  | 85 => ⟨S4352x4x128, .f32⟩
  | 86 => ⟨S4352x4x128, .f32⟩
  | 87 => ⟨S34x128x4x128, .f32⟩
  | 88 => ⟨S4x34x128x128, .f32⟩
  | 89 => ⟨S34x128x4x128, .f32⟩
  | 90 => ⟨S128x4, .f32⟩
  | 91 => ⟨S128x4x1, .f32⟩
  | 92 => ⟨S1x128x4x1, .f32⟩
  | 93 => ⟨S34x128x4x128, .f32⟩
  | 94 => ⟨S34x128x4x128, .f32⟩
  | 95 => ⟨S4352x512, .f32⟩
  | 96 => ⟨S4352x512, .f32⟩
  | 97 => ⟨S4352x512, .bf16⟩
  | 98 => ⟨S4352x512, .f32⟩
  | 99 => ⟨S4352x512, .f32⟩
  | 100 => ⟨S4352x512, .f32⟩
  | 101 => ⟨S34x128x4x128, .f32⟩
  | 102 => ⟨S_, .f32⟩
  | 103 => ⟨S128x4, .f32⟩
  | 104 => ⟨S1x128x4x1, .f32⟩
  | 105 => ⟨S_, .f32⟩
  | 106 => ⟨S128x4, .f32⟩
  | 107 => ⟨S128x4x1, .f32⟩
  | 108 => ⟨S_, .f32⟩
  | 109 => ⟨S128x4, .f32⟩
  | 110 => ⟨S128x1, .f32⟩
  | 111 => ⟨S128x1, .f32⟩
  | 112 => ⟨S128x1, .f32⟩
  | 113 => ⟨S128x1, .f32⟩
  | 114 => ⟨S4x34x128x128, .f32⟩
  | 115 => ⟨S4x128x128, .f32⟩
  | 116 => ⟨S4x34x128x128, .f32⟩
  | 117 => ⟨S34x128x4x128, .f32⟩
  | 118 => ⟨S4352x4x128, .f32⟩
  | 119 => ⟨S4352x4x128, .f32⟩
  | 120 => ⟨S_, .f32⟩
  | 121 => ⟨S4x128, .f32⟩
  | 122 => ⟨S1x4x128, .f32⟩
  | 123 => ⟨S4352x4x128, .f32⟩
  | 124 => ⟨S4352x4x128, .f32⟩
  | 125 => ⟨S_, .f32⟩
  | 126 => ⟨S4x128, .f32⟩
  | 127 => ⟨S4352x4x128, .f32⟩
  | _ => ⟨S4352x512, .f32⟩

abbrev hbmTy0_1 (i : Nat) : BufTy := match i % 128 with
  | 0 => ⟨S_, .f32⟩
  | 1 => ⟨S4352x4, .f32⟩
  | 2 => ⟨S4352x4x1, .f32⟩
  | 3 => ⟨S4352x4x128, .f32⟩
  | 4 => ⟨S4352x4x128, .f32⟩
  | 5 => ⟨S4352x4x1, .f32⟩
  | 6 => ⟨S_, .f32⟩
  | 7 => ⟨S4352x4x1, .f32⟩
  | 8 => ⟨S4352x4x1, .f32⟩
  | 9 => ⟨S_, .f32⟩
  | 10 => ⟨S4352x4, .f32⟩
  | 11 => ⟨S4352x4x128, .f32⟩
  | 12 => ⟨S4352x4x128, .f32⟩
  | 13 => ⟨S4352x4x128, .f32⟩
  | 14 => ⟨S4352x4x128, .f32⟩
  | 15 => ⟨S4352x4x128, .f32⟩
  | 16 => ⟨S1x512, .f32⟩
  | 17 => ⟨S4352x512, .f32⟩
  | 18 => ⟨S4352x512, .f32⟩
  | 19 => ⟨S4352x512, .f32⟩
  | 20 => ⟨S_, .f32⟩
  | 21 => ⟨S4352x512, .f32⟩
  | 22 => ⟨S4352x512, .f32⟩
  | 23 => ⟨S4352x512, .f32⟩
  | 24 => ⟨S_, .f32⟩
  | 25 => ⟨S4352x512, .f32⟩
  | 26 => ⟨S4352x512, .f32⟩
  | 27 => ⟨S4352x512, .f32⟩
  | 28 => ⟨S_, .f32⟩
  | 29 => ⟨S4352x512, .f32⟩
  | 30 => ⟨S4352x512, .f32⟩
  | 31 => ⟨S4352x512, .f32⟩
  | 32 => ⟨S4352x512, .f32⟩
  | 33 => ⟨S4352x512, .f32⟩
  | 34 => ⟨S4352x512, .f32⟩
  | 35 => ⟨S_, .f32⟩
  | 36 => ⟨S4352x512, .f32⟩
  | 37 => ⟨S4352x512, .f32⟩
  | 38 => ⟨S4352x512, .f32⟩
  | 39 => ⟨S_, .f32⟩
  | 40 => ⟨S4352x512, .f32⟩
  | 41 => ⟨S4352x512, .f32⟩
  | 42 => ⟨S4352x512, .f32⟩
  | 43 => ⟨S_, .f32⟩
  | 44 => ⟨S4352x512, .f32⟩
  | 45 => ⟨S4352x512, .f32⟩
  | 46 => ⟨S4352x512, .f32⟩
  | 47 => ⟨S4352x512, .f32⟩
  | _ => ⟨S4352x512, .f32⟩

abbrev hbmTy (i : Nat) : BufTy := match i / 128 with
  | 0 => hbmTy0_0 i
  | 1 => hbmTy0_1 i
  | _ => ⟨S4352x512, .f32⟩

abbrev bufTy : (tb : Table) → Fin (tcTables nBuf tb) → BufTy
  | .hbm, ⟨i, _⟩ => hbmTy i
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_11 : Ref sig .tc := ⟨.hbm, 58, rfl⟩
abbrev main_v37 : Ref sig .tc := ⟨.hbm, 59, rfl⟩
abbrev main_v38 : Ref sig .tc := ⟨.hbm, 60, rfl⟩
abbrev main_cst_12 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_13 : Ref sig .tc := ⟨.hbm, 68, rfl⟩
abbrev main_v45 : Ref sig .tc := ⟨.hbm, 69, rfl⟩
abbrev main_v46 : Ref sig .tc := ⟨.hbm, 70, rfl⟩
abbrev main_cst_14 : Ref sig .tc := ⟨.hbm, 71, rfl⟩
abbrev main_v47 : Ref sig .tc := ⟨.hbm, 72, rfl⟩
abbrev main_v48 : Ref sig .tc := ⟨.hbm, 73, rfl⟩
abbrev main_cst_15 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_16 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_17 : Ref sig .tc := ⟨.hbm, 102, rfl⟩
abbrev main_v75 : Ref sig .tc := ⟨.hbm, 103, rfl⟩
abbrev main_v76 : Ref sig .tc := ⟨.hbm, 104, rfl⟩
abbrev main_cst_18 : Ref sig .tc := ⟨.hbm, 105, rfl⟩
abbrev main_v77 : Ref sig .tc := ⟨.hbm, 106, rfl⟩
abbrev main_v78 : Ref sig .tc := ⟨.hbm, 107, rfl⟩
abbrev main_cst_19 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_20 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_21 : Ref sig .tc := ⟨.hbm, 125, rfl⟩
abbrev main_v94 : Ref sig .tc := ⟨.hbm, 126, rfl⟩
abbrev main_v95 : Ref sig .tc := ⟨.hbm, 127, rfl⟩
abbrev main_cst_22 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_23 : Ref sig .tc := ⟨.hbm, 134, rfl⟩
abbrev main_v101 : Ref sig .tc := ⟨.hbm, 135, rfl⟩
abbrev main_v102 : Ref sig .tc := ⟨.hbm, 136, rfl⟩
abbrev main_cst_24 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_25 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_26 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_27 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_cst_28 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_cst_29 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_30 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩

abbrev nD : Nat := 1
abbrev τ : Topo := Topo.v7x

variable {F : FTy → Type} [FloatOps F]
-- ==== Proof.SoftmaxRow.lean ====
/-
  One row of a softmax and of its gradient, over the extended reals. The forward pass saves of each row the
  logarithm of its sum of exponentials, and the kernel's backward pass rebuilds the probabilities from it; the
  reference divides by the sum. On finite scores the two agree, and so do the two forms of the gradient.
-/
module

public import Idealize.ShloMosaic.PureOps.Ideal.Laws
public import Mathlib.Analysis.SpecialFunctions.Log.Basic

@[expose] public section

noncomputable section

namespace Cert.Proof.Row

open Idealize.ShloMosaic
open scoped BigOperators

/-- An extended real that is a real number. -/
def Fin' (x : EReal) : Prop := x ≠ ⊤ ∧ x ≠ ⊥

theorem Fin'.lift {ι : Type} {f : ι → EReal} (h : ∀ i, Fin' (f i)) : ∃ g : ι → ℝ, f = fun i => (g i : EReal) :=
  ⟨fun i => (f i).toReal, funext fun i => (EReal.coe_toReal (h i).1 (h i).2).symm⟩

theorem coe_fin (x : ℝ) : Fin' (x : EReal) := ⟨EReal.coe_ne_top x, EReal.coe_ne_bot x⟩

theorem coe_sum {ι : Type} (t : Finset ι) (f : ι → ℝ) : ((∑ i ∈ t, f i : ℝ) : EReal) = ∑ i ∈ t, (f i : EReal) :=
  map_sum (⟨⟨Real.toEReal, EReal.coe_zero⟩, EReal.coe_add⟩ : ℝ →+ EReal) f t

theorem Fin'.mul {x y : EReal} (hx : Fin' x) (hy : Fin' y) : Fin' (x * y) := by
  rw [← EReal.coe_toReal hx.1 hx.2, ← EReal.coe_toReal hy.1 hy.2, ← EReal.coe_mul]; exact coe_fin _

theorem Fin'.sum {ι : Type} (t : Finset ι) {f : ι → EReal} (h : ∀ i, Fin' (f i)) : Fin' (∑ i ∈ t, f i) := by
  obtain ⟨g, rfl⟩ := Fin'.lift h
  rw [← coe_sum]; exact coe_fin _

variable {n : ℕ}

/-- The greatest score of a row. -/
def top (s : Fin n → EReal) : EReal := Finset.univ.fold max ⊥ s
/-- The exponential of a score less the row's greatest. -/
def ex (s : Fin n → EReal) (j : Fin n) : EReal := Ideal.exp (s j - top s)
/-- The row's sum of exponentials. -/
def den (s : Fin n → EReal) : EReal := ∑ j, ex s j
/-- The probability by division. -/
def prob (s : Fin n → EReal) (j : Fin n) : EReal := Ideal.div (ex s j) (den s)
/-- The gradient of the scores as the chain rule through the division spells it. -/
def grad (s d : Fin n → EReal) (j : Fin n) : EReal :=
  (Ideal.div (d j) (den s) + -∑ i, d i * Ideal.div 1 (den s * den s) * ex s i) * ex s j
/-- What the forward pass saves of the row. -/
def lse (s : Fin n → EReal) : EReal := top s + Ideal.log (den s)
/-- The probability rebuilt from the saved logarithm. -/
def prob' (s : Fin n → EReal) (z : EReal) (j : Fin n) : EReal := Ideal.exp (s j - z)
/-- The gradient of the scores as the kernel computes it. -/
def grad' (s d : Fin n → EReal) (z : EReal) (j : Fin n) : EReal :=
  prob' s z j * (d j - ∑ i, prob' s z i * d i)

theorem top_real (hn : 0 < n) (s : Fin n → ℝ) : ∃ M : ℝ, top (fun j => (s j : EReal)) = M := by
  haveI : Nonempty (Fin n) := ⟨⟨0, hn⟩⟩
  obtain ⟨i, -, hi⟩ := Finset.exists_mem_eq_sup (Finset.univ : Finset (Fin n)) Finset.univ_nonempty (fun j => (s j : EReal))
  exact ⟨s i, hi⟩

theorem div_real (x y : ℝ) (hy : y ≠ 0) : Ideal.div (x : EReal) (y : EReal) = ((x / y : ℝ) : EReal) := by
  have h : (y : EReal) ≠ 0 := by simpa using hy
  rw [Ideal.div, if_neg h, ← EReal.coe_inv, ← EReal.coe_mul, div_eq_mul_inv]

theorem exp_real (x : ℝ) : Ideal.exp (x : EReal) = (Real.exp x : EReal) := rfl

theorem log_real (x : ℝ) (hx : 0 < x) : Ideal.log (x : EReal) = (Real.log x : EReal) := by
  show (if x ≤ 0 then ⊥ else (Real.log x : EReal)) = _
  rw [if_neg (not_le.2 hx)]

/-- A row's sum of exponentials, its saved logarithm and its exponentials, as real numbers. -/
theorem row_real (hn : 0 < n) (s : Fin n → ℝ) : ∃ (M l : ℝ), 0 < l ∧ l = ∑ j, Real.exp (s j - M) ∧
    (∀ j, ex (fun j => (s j : EReal)) j = (Real.exp (s j - M) : EReal)) ∧ den (fun j => (s j : EReal)) = (l : EReal) ∧
    lse (fun j => (s j : EReal)) = ((M + Real.log l : ℝ) : EReal) := by
  obtain ⟨M, hM⟩ := top_real hn s
  have he : ∀ j, ex (fun j => (s j : EReal)) j = (Real.exp (s j - M) : EReal) := fun j => by
    rw [ex, hM, ← EReal.coe_sub, exp_real]
  have hd : den (fun j => (s j : EReal)) = ((∑ j, Real.exp (s j - M) : ℝ) : EReal) := by
    rw [den, coe_sum]; exact Finset.sum_congr rfl fun j _ => he j
  haveI : Nonempty (Fin n) := ⟨⟨0, hn⟩⟩
  have hp : 0 < ∑ j, Real.exp (s j - M) := Finset.sum_pos (fun j _ => Real.exp_pos _) Finset.univ_nonempty
  exact ⟨M, _, hp, rfl, he, hd, by rw [lse, hM, hd, log_real _ hp, ← EReal.coe_add]⟩

/-- On finite scores the rebuilt probability is the quotient. -/
theorem prob_eq (hn : 0 < n) (s : Fin n → EReal) (hs : ∀ j, Fin' (s j)) (j : Fin n) : prob' s (lse s) j = prob s j := by
  obtain ⟨s, rfl⟩ := Fin'.lift hs
  obtain ⟨M, l, hl, -, he, hd, hz⟩ := row_real hn s
  rw [prob', prob, he, hd, hz, div_real _ _ hl.ne', ← EReal.coe_sub, exp_real, ← sub_sub, Real.exp_sub _ (Real.log l),
    Real.exp_log hl]

/-- On finite scores the kernel's gradient of the scores is the chain rule's. -/
theorem grad_eq (hn : 0 < n) (s d : Fin n → EReal) (hs : ∀ j, Fin' (s j)) (hd' : ∀ j, Fin' (d j)) (j : Fin n) :
    grad' s d (lse s) j = grad s d j := by
  have hp : ∀ i, prob' s (lse s) i = prob s i := prob_eq hn s hs
  rw [grad', grad]
  simp only [hp]
  obtain ⟨s, rfl⟩ := Fin'.lift hs
  obtain ⟨d, rfl⟩ := Fin'.lift hd'
  obtain ⟨M, l, hl, -, he, hd, -⟩ := row_real hn s
  have h0 := hl.ne'
  simp only [prob, he, hd, div_real _ _ h0, ← EReal.coe_mul, ← coe_sum, ← EReal.coe_one, div_real _ _ (mul_ne_zero h0 h0),
    ← EReal.coe_neg, ← EReal.coe_add, ← EReal.coe_sub]
  congr 1
  have : ∑ i, Real.exp (s i - M) / l * d i = l * ∑ i, d i * (1 / (l * l)) * Real.exp (s i - M) := by
    rw [Finset.mul_sum]; exact Finset.sum_congr rfl fun i _ => by field_simp
  rw [this]; field_simp; ring

end Cert.Proof.Row

end
-- ==== Proof.AttnSpec.lean ====
/-
  The gradient of grouped-query attention in coordinates, as a function of plain arrays of extended reals. Both programs
  are read down to these: the reference as `prob` and `grad` of a row, the kernel as `prob'` and `grad'` at the row's
  log sum of exponentials.
-/
module

public import proofs.«01_k».proof.Proof.SoftmaxRow
public import Idealize.ShloMosaic.Lib.Pointwise

@[expose] public section

noncomputable section

namespace Cert.Proof.Spec

open Idealize.ShloMosaic
open Cert.Proof.Row
open scoped BigOperators

/-! Reading the host's row maximum, at shapes given by variables. -/

theorem ninf : Ideal.ofBits .f32 0xFF800000#32 = (⊥ : EReal) := by
  simp [Ideal.ofBits, Ideal.ieee]

theorem hostMax {n0 n1 n2 n3 : ℕ} (h : (⟨4, ![n0, n1, n2, n3]⟩ : Shape).ReducesTo [3] ⟨3, ![n0, n1, n2]⟩)
    (x : FVec Ideal ⟨4, ![n0, n1, n2, n3]⟩ .f32) (b : BitVec 32) (hu : 0 < (⟨0, ![]⟩ : Shape).numel) (i : Fin n0) (j : Fin n1) (l : Fin n2) :
    Host.reduce FloatOps.maximumf x (constant ⟨0, ![]⟩ .f32 b) h hu (ix3 i j l)
      = Finset.univ.fold max (Ideal.ofBits .f32 b) fun s => x (ix4 i j l s) := by
  pointwise

theorem maximumf_at {s : Shape} (x y : FVec Ideal s .f32) (i : s.Idx) : maximumf x y i = max (x i) (y i) := rfl

theorem broadcastInDim_at {s : Shape} (h : (⟨0, ![]⟩ : Shape).BroadcastsInDim s ![]) (b : BitVec 32) (i : s.Idx) :
    broadcastInDim s ![] h (constant (F := Ideal) ⟨0, ![]⟩ .f32 b) i = Ideal.ofBits .f32 b := rfl

theorem fold_top {n : ℕ} (f : Fin n → EReal) :
    Finset.univ.fold max (Ideal.ofBits .f32 0xFF800000#32) f = top f := by
  rw [ninf, top]

theorem max_top {n : ℕ} (f : Fin n → EReal) :
    max (Ideal.ofBits .f32 0xFF800000#32) (Finset.univ.fold max (Ideal.ofBits .f32 0xFF800000#32) f) = top f := by
  rw [ninf, top]
  exact max_eq_right bot_le

/-- Lane `d` of query head `g` in group `kv`, as a column of the queries. -/
def qc (kv : Fin 2) (g : Fin 4) (d : Fin 128) : Fin 1024 := ⟨kv.val * 512 + g.val * 128 + d.val, by omega⟩
/-- Lane `d` of key and value head `kv`, as a column of the keys. -/
def kc (kv : Fin 2) (d : Fin 128) : Fin 256 := ⟨kv.val * 128 + d.val, by omega⟩
/-- A latent row, among all rows. -/
def rl (r : Fin 4096) : Fin 4352 := ⟨r.val, by omega⟩
/-- A context row, among all rows. -/
def rc (r : Fin 256) : Fin 4352 := ⟨4096 + r.val, by omega⟩

/-- The scale of the scores, the literal both programs write. -/
def sca : EReal := Ideal.ofBits .f32 0x3DB504F3#32

section
variable (q dO : Fin 4352 → Fin 1024 → EReal) (k v : Fin 4352 → Fin 256 → EReal)

/-- The scaled score of query row `r` against key row `s`. -/
def sc (kv : Fin 2) (g : Fin 4) (r s : Fin 4352) : EReal := (∑ d : Fin 128, q r (qc kv g d) * k s (kc kv d)) * sca
/-- The gradient of the probabilities before the softmax is undone. -/
def dp (kv : Fin 2) (g : Fin 4) (r s : Fin 4352) : EReal := ∑ d : Fin 128, dO r (qc kv g d) * v s (kc kv d)

/-- The scores of a latent row, against every key. -/
def scL (kv : Fin 2) (g : Fin 4) (r : Fin 4096) : Fin 4352 → EReal := fun s => sc q k kv g (rl r) s
def dpL (kv : Fin 2) (g : Fin 4) (r : Fin 4096) : Fin 4352 → EReal := fun s => dp dO v kv g (rl r) s
/-- The scores of a context row, against the context's keys. -/
def scC (kv : Fin 2) (g : Fin 4) (r : Fin 256) : Fin 256 → EReal := fun s => sc q k kv g (rc r) (rc s)
def dpC (kv : Fin 2) (g : Fin 4) (r : Fin 256) : Fin 256 → EReal := fun s => dp dO v kv g (rc r) (rc s)

def pL (kv : Fin 2) (g : Fin 4) (r : Fin 4096) (s : Fin 4352) : EReal := prob (scL q k kv g r) s
def pC (kv : Fin 2) (g : Fin 4) (r s : Fin 256) : EReal := prob (scC q k kv g r) s
def dsL (kv : Fin 2) (g : Fin 4) (r : Fin 4096) (s : Fin 4352) : EReal := grad (scL q k kv g r) (dpL dO v kv g r) s * sca
def dsC (kv : Fin 2) (g : Fin 4) (r s : Fin 256) : EReal := grad (scC q k kv g r) (dpC dO v kv g r) s * sca

/-- The gradient of a latent query row. -/
def dqL (kv : Fin 2) (g : Fin 4) (r : Fin 4096) (d : Fin 128) : EReal := ∑ s : Fin 4352, dsL q dO k v kv g r s * k s (kc kv d)
/-- The gradient of a context query row. -/
def dqC (kv : Fin 2) (g : Fin 4) (r : Fin 256) (d : Fin 128) : EReal := ∑ s : Fin 256, dsC q dO k v kv g r s * k (rc s) (kc kv d)
/-- What the latent rows add to the gradient of a key row. -/
def dkL (kv : Fin 2) (s : Fin 4352) (d : Fin 128) : EReal := ∑ g : Fin 4, ∑ r : Fin 4096, dsL q dO k v kv g r s * q (rl r) (qc kv g d)
/-- What the context rows add to the gradient of a context key row. -/
def dkC (kv : Fin 2) (s : Fin 256) (d : Fin 128) : EReal := ∑ g : Fin 4, ∑ r : Fin 256, dsC q dO k v kv g r s * q (rc r) (qc kv g d)
def dvL (kv : Fin 2) (s : Fin 4352) (d : Fin 128) : EReal := ∑ g : Fin 4, ∑ r : Fin 4096, pL q k kv g r s * dO (rl r) (qc kv g d)
def dvC (kv : Fin 2) (s : Fin 256) (d : Fin 128) : EReal := ∑ g : Fin 4, ∑ r : Fin 256, pC q k kv g r s * dO (rc r) (qc kv g d)

end

end Cert.Proof.Spec

end
-- ==== Proof.AttnPay.lean ====
/-
  What one grid point of the attention's backward kernel computes from its blocks, in coordinates: the probabilities
  and the gradient of the scores as `prob'` and `grad'` of a row at that row's log sum of exponentials, the query
  block's gradient, and the sums added to the key and value heads' gradients.
-/
module

public import proofs.«01_k».proof.Proof.Gen.KernelIdeal.Value
public import proofs.«01_k».proof.Proof.AttnSpec
public import Idealize.ShloMosaic.Lib.Pointwise

@[expose] public section

set_option maxRecDepth 16384

noncomputable section

namespace Cert.KernelIdeal.AttnK

open Cert.KernelIdeal Cert.KernelIdeal.Gen Idealize.ShloMosaic Idealize.ShloMosaic.TcCoe Idealize.SL.Sem
open Cert.Proof Cert.Proof.Row
open scoped BigOperators

section Pay
variable (x0 x4 : FVec Ideal S256x128 .bf16) (x1 x2 : FVec Ideal S4352x128 .bf16) (y1 y2 : FVec Ideal S256x128 .bf16) (x3 : FVec Ideal S1x256x1 .f32)

/-- The scaled scores of a block's row against `n` key rows. -/
def bs {n : ℕ} (a : FVec Ideal S256x128 .bf16) (b : FVec Ideal ⟨2, ![n, 128]⟩ .bf16) (r : Fin 256) : Fin n → EReal :=
  fun s => (∑ d : Fin 128, a (ix2 r d) * b (ix2 s d)) * Spec.sca
/-- The products of a block's row with `n` rows of values. -/
def bd {n : ℕ} (a : FVec Ideal S256x128 .bf16) (b : FVec Ideal ⟨2, ![n, 128]⟩ .bf16) (r : Fin 256) : Fin n → EReal :=
  fun s => ∑ d : Fin 128, a (ix2 r d) * b (ix2 s d)

theorem pay5_apply (r : Fin 256) (s : Fin 4352) :
    k0_pay5 (F := Ideal) x0 x1 x3 (ix2 r s) = prob' (bs x0 x1 r) (x3 (ix3 0 r 0)) s := by
  pointwise [k0_pay5]
  rfl

theorem pay10_apply (r : Fin 256) (s : Fin 256) :
    k0_pay10 (F := Ideal) x0 y1 x3 (ix2 r s) = prob' (bs x0 y1 r) (x3 (ix3 0 r 0)) s := by
  pointwise [k0_pay10]
  rfl

theorem pay6_apply (r : Fin 256) (s : Fin 4352) :
    k0_pay6 (F := Ideal) x0 x1 x2 x4 x3 (ix2 r s) = grad' (bs x0 x1 r) (bd x4 x2 r) (x3 (ix3 0 r 0)) s * Spec.sca := by
  pointwise [k0_pay6]
  simp only [pay5_apply]
  rfl

theorem pay11_apply (r : Fin 256) (s : Fin 256) :
    k0_pay11 (F := Ideal) x0 y1 y2 x4 x3 (ix2 r s) = grad' (bs x0 y1 r) (bd x4 y2 r) (x3 (ix3 0 r 0)) s * Spec.sca := by
  pointwise [k0_pay11]
  simp only [pay10_apply]
  rfl

theorem pay7_apply (r : Fin 256) (d : Fin 128) :
    k0_pay7 (F := Ideal) x0 x1 x2 x4 x3 (ix2 r d)
      = ∑ s : Fin 4352, (grad' (bs x0 x1 r) (bd x4 x2 r) (x3 (ix3 0 r 0)) s * Spec.sca) * x1 (ix2 s d) := by
  pointwise [k0_pay7]
  simp only [pay6_apply]

theorem pay12_apply (r : Fin 256) (d : Fin 128) :
    k0_pay12 (F := Ideal) x0 y1 y2 x4 x3 (ix2 r d)
      = ∑ s : Fin 256, (grad' (bs x0 y1 r) (bd x4 y2 r) (x3 (ix3 0 r 0)) s * Spec.sca) * y1 (ix2 s d) := by
  pointwise [k0_pay12]
  simp only [pay11_apply]

theorem pay8_apply (acc : FVec Ideal S4352x128 .f32) (s : Fin 4352) (d : Fin 128) :
    k0_pay8 (F := Ideal) x0 x1 x2 x4 x3 acc (ix2 s d)
      = acc (ix2 s d) + ∑ r : Fin 256, (grad' (bs x0 x1 r) (bd x4 x2 r) (x3 (ix3 0 r 0)) s * Spec.sca) * x0 (ix2 r d) := by
  pointwise [k0_pay8]
  simp only [pay6_apply]

theorem pay13_apply (acc : FVec Ideal S256x128 .f32) (s : Fin 256) (d : Fin 128) :
    k0_pay13 (F := Ideal) x0 y1 y2 x4 x3 acc (ix2 s d)
      = acc (ix2 s d) + ∑ r : Fin 256, (grad' (bs x0 y1 r) (bd x4 y2 r) (x3 (ix3 0 r 0)) s * Spec.sca) * x0 (ix2 r d) := by
  pointwise [k0_pay13]
  simp only [pay11_apply]

theorem pay3_apply (acc : FVec Ideal S4352x128 .f32) (p : FVec Ideal S256x4352 .f32) (s : Fin 4352) (d : Fin 128) :
    k0_pay3 (F := Ideal) x4 p (k0_pay9 acc) (ix2 s d) = acc (ix2 s d) + ∑ r : Fin 256, p (ix2 r s) * x4 (ix2 r d) := by
  pointwise [k0_pay3, k0_pay9]

theorem pay4_apply (acc : FVec Ideal S256x128 .f32) (p : FVec Ideal S256x256 .f32) (s : Fin 256) (d : Fin 128) :
    k0_pay4 (F := Ideal) x4 p (k0_pay14 acc) (ix2 s d) = acc (ix2 s d) + ∑ r : Fin 256, p (ix2 r s) * x4 (ix2 r d) := by
  pointwise [k0_pay4, k0_pay14]

theorem pay1_apply (i : S4352x128.Idx) : k0_pay1 (F := Ideal) i = 0 := by
  pointwise [k0_pay1]
theorem pay2_apply (i : S4352x128.Idx) : k0_pay2 (F := Ideal) i = 0 := by
  pointwise [k0_pay2]

end Pay

end Cert.KernelIdeal.AttnK

end
-- ==== Proof.AttnLse.lean ====
/-
  The log sums of exponentials that the host lines give the attention's backward kernel, read in coordinates: at a row
  of query head `g` in group `kv` they are the row's own `lse` over the keys that row sees.
-/
module

public import proofs.«01_k».proof.Proof.AttnPay
public import Idealize.ShloMosaic.Lib.Claim

@[expose] public section

set_option maxRecDepth 16384

noncomputable section

namespace Cert.KernelIdeal.AttnK

open Cert.KernelIdeal Cert.KernelIdeal.Gen Idealize.ShloMosaic Idealize.ShloMosaic.TcCoe Idealize.SL.Sem
open Cert.Proof Cert.Proof.Row
open scoped BigOperators

section Stages
variable (q : FVec Ideal S4352x1024 .bf16) (k : FVec Ideal S4352x256 .bf16)

def q4 : FVec Ideal S4352x2x4x128 .f32 := shapeCast S4352x2x4x128 (extf .f32 q bitsLt_bf16_f32) shapeCasts_S4352x1024_S4352x2x4x128
def k3 : FVec Ideal S4352x2x128 .f32 := shapeCast S4352x2x128 (extf .f32 k bitsLt_bf16_f32) shapeCasts_S4352x256_S4352x2x128

def qL : FVec Ideal S4096x2x4x128 .f32 := extractStridedSlice S4096x2x4x128 ![0, 0, 0, 0] (q4 q) slices_S4352x2x4x128_S4096x2x4x128_0_0_0_0
def sL : FVec Ideal S2x4x4096x4352 .f32 :=
  mulf (transpose S2x4x4096x4352 [0, 3, 2, 1] (Host.dotGeneral dot_S4352x2x128_S4096x2x4x128_S2x4352x4096x4_2_3_0_02_1_1 none (k3 k) (qL q)) transposes_S2x4352x4096x4_S2x4x4096x4352_0_3_2_1)
    (broadcastInDim S2x4x4096x4352 ![] bcast_S_S2x4x4096x4352 (constant S_ .f32 0x3DB504F3#32))
def mL : FVec Ideal S2x4x4096x1 .f32 :=
  broadcastInDim S2x4x4096x1 ![0, 1, 2] bcast_S2x4x4096_S2x4x4096x1_0_1_2
    (Host.reduce FloatOps.maximumf (sL q k) (constant S_ .f32 0xFF800000#32) reducesTo_S2x4x4096x4352_S2x4x4096_d3 h_S_)
def lL : FVec Ideal S2x4x4096x1 .f32 :=
  broadcastInDim S2x4x4096x1 ![0, 1, 2] bcast_S2x4x4096_S2x4x4096x1_0_1_2
    (Host.reduceAdd (Host.exp (subf (sL q k) (broadcastInDim S2x4x4096x4352 ![0, 1, 2, 3] bcast_S2x4x4096x1_S2x4x4096x4352_0_1_2_3 (mL q k))))
      (constant S_ .f32 0x00000000#32) reducesTo_S2x4x4096x4352_S2x4x4096_d3 h_S_)

def qC : FVec Ideal S256x2x4x128 .f32 := extractStridedSlice S256x2x4x128 ![4096, 0, 0, 0] (q4 q) slices_S4352x2x4x128_S256x2x4x128_4096_0_0_0
def kC : FVec Ideal S256x2x128 .f32 := extractStridedSlice S256x2x128 ![4096, 0, 0] (k3 k) slices_S4352x2x128_S256x2x128_4096_0_0
def sC : FVec Ideal S2x4x256x256 .f32 :=
  mulf (transpose S2x4x256x256 [0, 3, 2, 1] (Host.dotGeneral dot_S256x2x128_S256x2x4x128_S2x256x256x4_2_3_0_02_1_1 none (kC k) (qC q)) transposes_S2x256x256x4_S2x4x256x256_0_3_2_1)
    (broadcastInDim S2x4x256x256 ![] bcast_S_S2x4x256x256 (constant S_ .f32 0x3DB504F3#32))
def mC : FVec Ideal S2x4x256x1 .f32 :=
  broadcastInDim S2x4x256x1 ![0, 1, 2] bcast_S2x4x256_S2x4x256x1_0_1_2
    (Host.reduce FloatOps.maximumf (sC q k) (constant S_ .f32 0xFF800000#32) reducesTo_S2x4x256x256_S2x4x256_d3 h_S_)
def lC : FVec Ideal S2x4x256x1 .f32 :=
  broadcastInDim S2x4x256x1 ![0, 1, 2] bcast_S2x4x256_S2x4x256x1_0_1_2
    (Host.reduceAdd (Host.exp (subf (sC q k) (broadcastInDim S2x4x256x256 ![0, 1, 2, 3] bcast_S2x4x256x1_S2x4x256x256_0_1_2_3 (mC q k))))
      (constant S_ .f32 0x00000000#32) reducesTo_S2x4x256x256_S2x4x256_d3 h_S_)

/-- The array of log sums of exponentials, one column per query head. -/
def LSE : FVec Ideal S8x4352x1 .f32 :=
  shapeCast S8x4352x1 (concatenate S2x4x4352x1 2 [⟨S2x4x4096x1, addf (mL q k) (Host.log (lL q k))⟩, ⟨S2x4x256x1, addf (mC q k) (Host.log (lC q k))⟩]
    concatenates_S2x4x4096x1_S2x4x256x1_S2x4x4352x1_d2) shapeCasts_S2x4x4352x1_S8x4352x1

theorem sL_apply (kv : Fin 2) (g : Fin 4) (r : Fin 4096) (s : Fin 4352) :
    sL q k (ix4 kv g r s) = Spec.scL (fun i j => q (ix2 i j)) (fun i j => k (ix2 i j)) kv g r s := by
  pointwise [sL, k3, qL, q4]
  exact congrArg (· * _) (Finset.sum_congr rfl fun d _ => mul_comm _ _)

theorem mL_apply (kv : Fin 2) (g : Fin 4) (r : Fin 4096) (z : Fin 1) :
    mL q k (ix4 kv g r z) = top (Spec.scL (fun i j => q (ix2 i j)) (fun i j => k (ix2 i j)) kv g r) := by
  have e : ∀ x : FVec Ideal S2x4x4096 .f32, broadcastInDim S2x4x4096x1 ![0, 1, 2] bcast_S2x4x4096_S2x4x4096x1_0_1_2 x (ix4 kv g r z) = x (ix3 kv g r) := by
    intro x
    pointwise
  rw [mL, e, Spec.hostMax, Spec.fold_top]
  simp only [sL_apply]

theorem lL_apply (kv : Fin 2) (g : Fin 4) (r : Fin 4096) (z : Fin 1) :
    lL q k (ix4 kv g r z) = den (Spec.scL (fun i j => q (ix2 i j)) (fun i j => k (ix2 i j)) kv g r) := by
  pointwise [lL]
  simp only [sL_apply, mL_apply]
  rfl

theorem sC_apply (kv : Fin 2) (g : Fin 4) (r s : Fin 256) :
    sC q k (ix4 kv g r s) = Spec.scC (fun i j => q (ix2 i j)) (fun i j => k (ix2 i j)) kv g r s := by
  pointwise [sC, kC, k3, qC, q4]
  exact congrArg (· * _) (Finset.sum_congr rfl fun d _ => mul_comm _ _)

theorem mC_apply (kv : Fin 2) (g : Fin 4) (r : Fin 256) (z : Fin 1) :
    mC q k (ix4 kv g r z) = top (Spec.scC (fun i j => q (ix2 i j)) (fun i j => k (ix2 i j)) kv g r) := by
  have e : ∀ x : FVec Ideal S2x4x256 .f32, broadcastInDim S2x4x256x1 ![0, 1, 2] bcast_S2x4x256_S2x4x256x1_0_1_2 x (ix4 kv g r z) = x (ix3 kv g r) := by
    intro x
    pointwise
  rw [mC, e, Spec.hostMax, Spec.fold_top]
  simp only [sC_apply]

theorem lC_apply (kv : Fin 2) (g : Fin 4) (r : Fin 256) (z : Fin 1) :
    lC q k (ix4 kv g r z) = den (Spec.scC (fun i j => q (ix2 i j)) (fun i j => k (ix2 i j)) kv g r) := by
  pointwise [lC]
  simp only [sC_apply, mC_apply]
  rfl

/-- Query head `g` of group `kv`, among the eight. -/
def hd (kv : Fin 2) (g : Fin 4) : Fin 8 := ⟨kv.val * 4 + g.val, by omega⟩

theorem LSE_cast (x : FVec Ideal S2x4x4352x1 .f32) (kv : Fin 2) (g : Fin 4) (r : Fin 4352) :
    shapeCast S8x4352x1 x shapeCasts_S2x4x4352x1_S8x4352x1 (ix3 (hd kv g) r 0) = x (ix4 kv g r 0) := by
  pointwise
  have e1 : (hd kv g).val / 4 = kv.val := by simp only [hd]; omega
  have e2 : (hd kv g).val % 4 = g.val := by simp only [hd]; omega
  simp only [e1, e2, Fin.eta]

theorem joined_latent (x : FVec Ideal S2x4x4096x1 .f32) (y : FVec Ideal S2x4x256x1 .f32) (kv : Fin 2) (g : Fin 4) (r : Fin 4096) :
    concatenate S2x4x4352x1 2 [⟨S2x4x4096x1, x⟩, ⟨S2x4x256x1, y⟩] concatenates_S2x4x4096x1_S2x4x256x1_S2x4x4352x1_d2 (ix4 kv g (Spec.rl r) 0)
      = x (ix4 kv g r 0) := by
  pointwise [Spec.rl]

set_option maxRecDepth 1000000 in
theorem joined_context (x : FVec Ideal S2x4x4096x1 .f32) (y : FVec Ideal S2x4x256x1 .f32) (kv : Fin 2) (g : Fin 4) (r : Fin 256) :
    concatenate S2x4x4352x1 2 [⟨S2x4x4096x1, x⟩, ⟨S2x4x256x1, y⟩] concatenates_S2x4x4096x1_S2x4x256x1_S2x4x4352x1_d2 (ix4 kv g (Spec.rc r) 0)
      = y (ix4 kv g r 0) := by
  pointwise [Spec.rc]

theorem addf_log {s : Shape} (x y : FVec Ideal s .f32) (i : s.Idx) : addf x (Host.log y) i = x i + Ideal.log (y i) := rfl

theorem LSE_latent (kv : Fin 2) (g : Fin 4) (r : Fin 4096) :
    LSE q k (ix3 (hd kv g) (Spec.rl r) 0) = lse (Spec.scL (fun i j => q (ix2 i j)) (fun i j => k (ix2 i j)) kv g r) := by
  rw [LSE, LSE_cast, joined_latent, addf_log, mL_apply, lL_apply, lse]

theorem LSE_context (kv : Fin 2) (g : Fin 4) (r : Fin 256) :
    LSE q k (ix3 (hd kv g) (Spec.rc r) 0) = lse (Spec.scC (fun i j => q (ix2 i j)) (fun i j => k (ix2 i j)) kv g r) := by
  rw [LSE, LSE_cast, joined_context, addf_log, mC_apply, lC_apply, lse]

end Stages

section Entry
variable (m : (ℓ : Loc nD τ sig) → Buf (Elt Ideal) ℓ) (c : Dev nD)

theorem V_lse : V m c main_v34 = LSE (m ((c.tc : Thread nD τ).loc main_arg0)) (m ((c.tc : Thread nD τ).loc main_arg1)) := by
  entry_read
  rfl

end Entry

end Cert.KernelIdeal.AttnK

end
-- ==== Proof.AttnBlocks.lean ====
/-
  The blocks a grid point of the attention's backward kernel reads, in coordinates of the arguments, and what one point
  adds to the three results.
-/
module

public import proofs.«01_k».proof.Proof.AttnLse
public import Idealize.ShloMosaic.Lib.Pipeline.ValueKit

@[expose] public section

set_option maxRecDepth 16384

noncomputable section

namespace Cert.KernelIdeal.AttnK

open Cert.KernelIdeal Cert.KernelIdeal.Gen Idealize.ShloMosaic Idealize.ShloMosaic.TcCoe Idealize.SL.Sem
open Cert.Proof Cert.Proof.Row
open scoped BigOperators

section
variable (m : (ℓ : Loc nD τ sig) → Buf (Elt Ideal) ℓ) (c : Dev nD)

theorem idx0 : ∀ t : Fin cfg0.N, win0_0.index t = ![t.val % 17, t.val / 17] :=
  (by decide +kernel : ∀ t : Fin grid0.N, win0_0.index t = ![t.val % 17, t.val / 17])
theorem idx1 : ∀ t : Fin cfg0.N, win0_1.index t = ![0, t.val / 68] :=
  (by decide +kernel : ∀ t : Fin grid0.N, win0_1.index t = ![0, t.val / 68])
theorem idx2 : ∀ t : Fin cfg0.N, win0_2.index t = ![0, t.val / 68] :=
  (by decide +kernel : ∀ t : Fin grid0.N, win0_2.index t = ![0, t.val / 68])
theorem idx3 : ∀ t : Fin cfg0.N, win0_3.index t = ![t.val / 17, t.val % 17, 0] :=
  (by decide +kernel : ∀ t : Fin grid0.N, win0_3.index t = ![t.val / 17, t.val % 17, 0])
theorem idx4 : ∀ t : Fin cfg0.N, win0_4.index t = ![t.val % 17, t.val / 17] :=
  (by decide +kernel : ∀ t : Fin grid0.N, win0_4.index t = ![t.val % 17, t.val / 17])

/-- The group, the head and the row block of a grid point. -/
def kvOf (n : ℕ) : Fin 2 := ⟨n / 68 % 2, Nat.mod_lt _ (by decide)⟩
def gOf (n : ℕ) : Fin 4 := ⟨n / 17 % 4, Nat.mod_lt _ (by decide)⟩
/-- Row `r` of a grid point's block, among all rows. -/
def rowOf (n : ℕ) (r : Fin 256) : Fin 4352 := ⟨n % 17 * 256 + r.val, by omega⟩

theorem b0 (t : Fin cfg0.N) (r : Fin 256) (d : Fin 128) :
    (iblk m c 0 t : FVec Ideal S256x128 .bf16) (ix2 r d)
      = m ((c.tc : Thread nD τ).loc main_arg0) (ix2 (rowOf t.val r) (Spec.qc (kvOf t.val) (gOf t.val) d)) := by
  have ht : t.val < 136 := lt_of_lt_of_eq t.isLt N_0
  blk_ext [iblk, V, idx0 t] <;> simp only [rowOf, Spec.qc, kvOf, gOf] <;> omega

theorem b4 (t : Fin cfg0.N) (r : Fin 256) (d : Fin 128) :
    (iblk m c 4 t : FVec Ideal S256x128 .bf16) (ix2 r d)
      = m ((c.tc : Thread nD τ).loc main_arg3) (ix2 (rowOf t.val r) (Spec.qc (kvOf t.val) (gOf t.val) d)) := by
  have ht : t.val < 136 := lt_of_lt_of_eq t.isLt N_0
  blk_ext [iblk, V, idx4 t] <;> simp only [rowOf, Spec.qc, kvOf, gOf] <;> omega

theorem b1 (t : Fin cfg0.N) (s : Fin 4352) (d : Fin 128) :
    (iblk m c 1 t : FVec Ideal S4352x128 .bf16) (ix2 s d)
      = m ((c.tc : Thread nD τ).loc main_arg1) (ix2 s (Spec.kc (kvOf t.val) d)) := by
  have ht : t.val < 136 := lt_of_lt_of_eq t.isLt N_0
  blk_ext [iblk, V, idx1 t]
  simp only [Spec.kc, kvOf]
  omega

theorem b2 (t : Fin cfg0.N) (s : Fin 4352) (d : Fin 128) :
    (iblk m c 2 t : FVec Ideal S4352x128 .bf16) (ix2 s d)
      = m ((c.tc : Thread nD τ).loc main_arg2) (ix2 s (Spec.kc (kvOf t.val) d)) := by
  have ht : t.val < 136 := lt_of_lt_of_eq t.isLt N_0
  blk_ext [iblk, V, idx2 t]
  simp only [Spec.kc, kvOf]
  omega

theorem b3 (t : Fin cfg0.N) (r : Fin 256) :
    (iblk m c 3 t : FVec Ideal S1x256x1 .f32) (ix3 0 r 0)
      = LSE (m ((c.tc : Thread nD τ).loc main_arg0)) (m ((c.tc : Thread nD τ).loc main_arg1)) (ix3 (hd (kvOf t.val) (gOf t.val)) (rowOf t.val r) 0) := by
  rw [← V_lse]
  have ht : t.val < 136 := lt_of_lt_of_eq t.isLt N_0
  blk_ext [iblk, idx3 t] <;> simp only [rowOf, hd, kvOf, gOf] <;> omega

end

/-! ## The rows of a block -/

/-- A latent row of a grid point's block. -/
def rlOf (n : ℕ) (r : Fin 256) : Fin 4096 := ⟨n % 17 % 16 * 256 + r.val, by omega⟩

theorem rowOf_latent (n : ℕ) (h : n % 17 ≤ 15) (r : Fin 256) : rowOf n r = Spec.rl (rlOf n r) :=
  Fin.ext (by simp only [rowOf, Spec.rl, rlOf]; omega)
theorem rowOf_context (n : ℕ) (h : n % 17 = 16) (r : Fin 256) : rowOf n r = Spec.rc r :=
  Fin.ext (by simp only [rowOf, Spec.rc]; omega)

section
variable (m : (ℓ : Loc nD τ sig) → Buf (Elt Ideal) ℓ) (c : Dev nD)

/-- The four arguments, by row and column. -/
def Q : Fin 4352 → Fin 1024 → EReal := fun i j => m ((c.tc : Thread nD τ).loc main_arg0) (ix2 i j)
def K : Fin 4352 → Fin 256 → EReal := fun i j => m ((c.tc : Thread nD τ).loc main_arg1) (ix2 i j)
def Vv : Fin 4352 → Fin 256 → EReal := fun i j => m ((c.tc : Thread nD τ).loc main_arg2) (ix2 i j)
def O : Fin 4352 → Fin 1024 → EReal := fun i j => m ((c.tc : Thread nD τ).loc main_arg3) (ix2 i j)

/-- The context's rows of a block of keys or values. -/
def ctx (x : FVec Ideal S4352x128 .bf16) : FVec Ideal S256x128 .bf16 :=
  fun i => x ((Rect.unit (s := S4352x128) ![4096, 0] ![256, 128] inb_S4352x128_S256x128_4096_0).idx i)
/-- The context's rows of an accumulator. -/
def ctxf (x : FVec Ideal S4352x128 .f32) : FVec Ideal S256x128 .f32 :=
  fun i => x ((Rect.unit (s := S4352x128) ![4096, 0] ![256, 128] inb_S4352x128_S256x128_4096_0).idx i)

set_option maxRecDepth 1000000 in
theorem ctxf_apply (x : FVec Ideal S4352x128 .f32) (s : Fin 256) (d : Fin 128) : ctxf x (ix2 s d) = x (ix2 (Spec.rc s) d) := by
  pointwise [ctxf, Spec.rc]

set_option maxRecDepth 1000000 in
theorem ctx_apply (x : FVec Ideal S4352x128 .bf16) (s : Fin 256) (d : Fin 128) : ctx x (ix2 s d) = x (ix2 (Spec.rc s) d) := by
  pointwise [ctx, Spec.rc]

theorem scores_latent (t : Fin cfg0.N) (h : t.val % 17 ≤ 15) (r : Fin 256) :
    bs (iblk m c 0 t) (iblk m c 1 t : FVec Ideal S4352x128 .bf16) r = Spec.scL (Q m c) (K m c) (kvOf t.val) (gOf t.val) (rlOf t.val r) := by
  funext s
  simp only [bs, b0, b1, rowOf_latent t.val h]
  rfl

theorem scores_context (t : Fin cfg0.N) (h : t.val % 17 = 16) (r : Fin 256) :
    bs (iblk m c 0 t) (ctx (iblk m c 1 t)) r = Spec.scC (Q m c) (K m c) (kvOf t.val) (gOf t.val) r := by
  funext s
  simp only [bs, b0, ctx_apply, b1, rowOf_context t.val h]
  rfl

theorem products_latent (t : Fin cfg0.N) (h : t.val % 17 ≤ 15) (r : Fin 256) :
    bd (iblk m c 4 t) (iblk m c 2 t : FVec Ideal S4352x128 .bf16) r = Spec.dpL (O m c) (Vv m c) (kvOf t.val) (gOf t.val) (rlOf t.val r) := by
  funext s
  simp only [bd, b4, b2, rowOf_latent t.val h]
  rfl

theorem products_context (t : Fin cfg0.N) (h : t.val % 17 = 16) (r : Fin 256) :
    bd (iblk m c 4 t) (ctx (iblk m c 2 t)) r = Spec.dpC (O m c) (Vv m c) (kvOf t.val) (gOf t.val) r := by
  funext s
  simp only [bd, b4, ctx_apply, b2, rowOf_context t.val h]
  rfl

theorem lse_latent (t : Fin cfg0.N) (h : t.val % 17 ≤ 15) (r : Fin 256) :
    (iblk m c 3 t : FVec Ideal S1x256x1 .f32) (ix3 0 r 0) = lse (Spec.scL (Q m c) (K m c) (kvOf t.val) (gOf t.val) (rlOf t.val r)) := by
  rw [b3, rowOf_latent t.val h, LSE_latent]
  rfl

theorem lse_context (t : Fin cfg0.N) (h : t.val % 17 = 16) (r : Fin 256) :
    (iblk m c 3 t : FVec Ideal S1x256x1 .f32) (ix3 0 r 0) = lse (Spec.scC (Q m c) (K m c) (kvOf t.val) (gOf t.val) r) := by
  rw [b3, rowOf_context t.val h, LSE_context]
  rfl

end
end Cert.KernelIdeal.AttnK
end
-- ==== Proof.AttnStep.lean ====
/-
  What each grid point of the attention's backward kernel adds to the three gradients, in coordinates of the arguments.
-/
module
public import proofs.«01_k».proof.Proof.AttnBlocks
public import Idealize.ShloMosaic.Lib.WritesUnit
@[expose] public section
set_option maxRecDepth 16384
noncomputable section
namespace Cert.KernelIdeal.AttnK
open Cert.KernelIdeal Cert.KernelIdeal.Gen Idealize.ShloMosaic Idealize.ShloMosaic.TcCoe Idealize.SL.Sem
open Cert.Proof Cert.Proof.Row
open scoped BigOperators
section
variable (m : (ℓ : Loc nD τ sig) → Buf (Elt Ideal) ℓ) (c : Dev nD)

theorem dq_A (t : Fin cfg0.N) (h0 : t.val % 68 = 0) (h1 : t.val % 17 ≤ 15) (h2 : ¬t.val % 17 = 16) (y : S256x128.Idx) :
    (outsAt0 m c t.val t.isLt).1 y = k0_pay7 (F := Ideal) (iblk m c 0 t) (iblk m c 1 t) (iblk m c 2 t) (iblk m c 4 t) (iblk m c 3 t) y := by
  rw [outsAt0_A m c t h0 h1 h2]
  frame_out

theorem dq_B (t : Fin cfg0.N) (h0 : ¬t.val % 68 = 0) (h1 : t.val % 17 ≤ 15) (h2 : ¬t.val % 17 = 16) (y : S256x128.Idx) :
    (outsAt0 m c t.val t.isLt).1 y = k0_pay7 (F := Ideal) (iblk m c 0 t) (iblk m c 1 t) (iblk m c 2 t) (iblk m c 4 t) (iblk m c 3 t) y := by
  rw [outsAt0_B m c t h0 h1 h2]
  frame_out

theorem dq_C (t : Fin cfg0.N) (h0 : ¬t.val % 68 = 0) (h1 : ¬t.val % 17 ≤ 15) (h2 : t.val % 17 = 16) (y : S256x128.Idx) :
    (outsAt0 m c t.val t.isLt).1 y
      = k0_pay12 (F := Ideal) (iblk m c 0 t) (ctx (iblk m c 1 t)) (ctx (iblk m c 2 t)) (iblk m c 4 t) (iblk m c 3 t) y := by
  rw [outsAt0_C m c t h0 h1 h2]
  frame_out
  rfl

/-- The accumulators before a grid point. -/
def dkPrev (t : Fin cfg0.N) : FVec Ideal S4352x128 .f32 := (outsAt0 m c (t.val - 1) (Nat.lt_of_le_of_lt (Nat.sub_le _ _) t.isLt)).2.1
def dvPrev (t : Fin cfg0.N) : FVec Ideal S4352x128 .f32 := (outsAt0 m c (t.val - 1) (Nat.lt_of_le_of_lt (Nat.sub_le _ _) t.isLt)).2.2

theorem dk_A (t : Fin cfg0.N) (h0 : t.val % 68 = 0) (h1 : t.val % 17 ≤ 15) (h2 : ¬t.val % 17 = 16) (y : S4352x128.Idx) :
    (outsAt0 m c t.val t.isLt).2.1 y
      = k0_pay8 (F := Ideal) (iblk m c 0 t) (iblk m c 1 t) (iblk m c 2 t) (iblk m c 4 t) (iblk m c 3 t) (k0_pay1 (F := Ideal)) y := by
  rw [outsAt0_A m c t h0 h1 h2]
  frame_out

theorem dk_B (t : Fin cfg0.N) (h0 : ¬t.val % 68 = 0) (h1 : t.val % 17 ≤ 15) (h2 : ¬t.val % 17 = 16) (y : S4352x128.Idx) :
    (outsAt0 m c t.val t.isLt).2.1 y
      = k0_pay8 (F := Ideal) (iblk m c 0 t) (iblk m c 1 t) (iblk m c 2 t) (iblk m c 4 t) (iblk m c 3 t) (dkPrev m c t) y := by
  rw [outsAt0_B m c t h0 h1 h2]
  frame_out
  rfl

theorem dv_A (t : Fin cfg0.N) (h0 : t.val % 68 = 0) (h1 : t.val % 17 ≤ 15) (h2 : ¬t.val % 17 = 16) (y : S4352x128.Idx) :
    (outsAt0 m c t.val t.isLt).2.2 y
      = k0_pay3 (F := Ideal) (iblk m c 4 t) (k0_pay5 (iblk m c 0 t) (iblk m c 1 t) (iblk m c 3 t)) (k0_pay9 (k0_pay2 (F := Ideal))) y := by
  rw [outsAt0_A m c t h0 h1 h2]
  frame_out

theorem dv_B (t : Fin cfg0.N) (h0 : ¬t.val % 68 = 0) (h1 : t.val % 17 ≤ 15) (h2 : ¬t.val % 17 = 16) (y : S4352x128.Idx) :
    (outsAt0 m c t.val t.isLt).2.2 y
      = k0_pay3 (F := Ideal) (iblk m c 4 t) (k0_pay5 (iblk m c 0 t) (iblk m c 1 t) (iblk m c 3 t)) (k0_pay9 (dvPrev m c t)) y := by
  rw [outsAt0_B m c t h0 h1 h2]
  frame_out
  rfl

/-- A row of a block whose first row is number `o`. -/
theorem at_offset (o : ℕ) (r : Fin 4352) (s : Fin 256) (d : Fin 128) (h : r.val = o + s.val) :
    ∀ a : Fin 2, ((ix2 r d : S4352x128.Idx) a).val = (![o, 0] : Fin 2 → ℕ) a + ((ix2 s d : S256x128.Idx) a).val :=
  Fin.forall_fin_two.mpr ⟨h, (Nat.zero_add _).symm⟩

set_option maxRecDepth 1000000 in
theorem dk_C (t : Fin cfg0.N) (h0 : ¬t.val % 68 = 0) (h1 : ¬t.val % 17 ≤ 15) (h2 : t.val % 17 = 16) (s : Fin 256) (d : Fin 128) :
    (outsAt0 m c t.val t.isLt).2.1 (ix2 (Spec.rc s) d)
      = k0_pay13 (F := Ideal) (iblk m c 0 t) (ctx (iblk m c 1 t)) (ctx (iblk m c 2 t)) (iblk m c 4 t) (iblk m c 3 t) (ctxf (dkPrev m c t)) (ix2 s d) := by
  rw [outsAt0_C m c t h0 h1 h2]
  frame_out
  have hx := at_offset 4096 (Spec.rc s) s d rfl
  rw [View.read_writes_cons_unit_of_mem _ _ _ _ _ _ (ix2 s d) rfl hx]
  rfl

set_option maxRecDepth 1000000 in
theorem dk_C' (t : Fin cfg0.N) (h0 : ¬t.val % 68 = 0) (h1 : ¬t.val % 17 ≤ 15) (h2 : t.val % 17 = 16) (s : Fin 4352) (hs : s.val < 4096) (d : Fin 128) :
    (outsAt0 m c t.val t.isLt).2.1 (ix2 s d) = dkPrev m c t (ix2 s d) := by
  rw [outsAt0_C m c t h0 h1 h2]
  frame_out
  rw [View.read_writes_cons_unit_of_not_mem _ _ _ _ _ _ rfl (0 : Fin 2) (Or.inl hs), View.writes_nil, Memref.IsWhole.read_unread]
  rfl

set_option maxRecDepth 1000000 in
theorem dv_C (t : Fin cfg0.N) (h0 : ¬t.val % 68 = 0) (h1 : ¬t.val % 17 ≤ 15) (h2 : t.val % 17 = 16) (s : Fin 256) (d : Fin 128) :
    (outsAt0 m c t.val t.isLt).2.2 (ix2 (Spec.rc s) d)
      = k0_pay4 (F := Ideal) (iblk m c 4 t) (k0_pay10 (iblk m c 0 t) (ctx (iblk m c 1 t)) (iblk m c 3 t)) (k0_pay14 (ctxf (dvPrev m c t))) (ix2 s d) := by
  rw [outsAt0_C m c t h0 h1 h2]
  frame_out
  have hx := at_offset 4096 (Spec.rc s) s d rfl
  rw [View.read_writes_cons_unit_of_mem _ _ _ _ _ _ (ix2 s d) rfl hx]
  rfl

set_option maxRecDepth 1000000 in
theorem dv_C' (t : Fin cfg0.N) (h0 : ¬t.val % 68 = 0) (h1 : ¬t.val % 17 ≤ 15) (h2 : t.val % 17 = 16) (s : Fin 4352) (hs : s.val < 4096) (d : Fin 128) :
    (outsAt0 m c t.val t.isLt).2.2 (ix2 s d) = dvPrev m c t (ix2 s d) := by
  rw [outsAt0_C m c t h0 h1 h2]
  frame_out
  rw [View.read_writes_cons_unit_of_not_mem _ _ _ _ _ _ rfl (0 : Fin 2) (Or.inl hs), View.writes_nil, Memref.IsWhole.read_unread]
  rfl

/-! ## The same in coordinates of the arguments, where the arguments are finite -/

/-- Every entry of the four arguments is finite. -/
structure Finite : Prop where
  q : ∀ i j, Fin' (Q m c i j)
  k : ∀ i j, Fin' (K m c i j)
  v : ∀ i j, Fin' (Vv m c i j)
  o : ∀ i j, Fin' (O m c i j)

theorem sca_fin : Fin' Spec.sca := by
  have e : Spec.sca = ((11863283 : ℝ) : EReal) * ((((2 : ℝ) ^ 27)⁻¹ : ℝ) : EReal) := by simp [Spec.sca, Ideal.ofBits, Ideal.ieee]
  rw [e]
  exact (coe_fin _).mul (coe_fin _)

variable {m c} (H : Finite m c)
include H

theorem scores_fin (kv : Fin 2) (g : Fin 4) (r s : Fin 4352) : Fin' (Spec.sc (Q m c) (K m c) kv g r s) :=
  (Fin'.sum _ fun d => (H.q _ _).mul (H.k _ _)).mul sca_fin
theorem products_fin (kv : Fin 2) (g : Fin 4) (r s : Fin 4352) : Fin' (Spec.dp (O m c) (Vv m c) kv g r s) :=
  Fin'.sum _ fun d => (H.o _ _).mul (H.v _ _)

/-- A latent row's gradient of the scores, as the kernel forms it. -/
theorem ds_latent (t : Fin cfg0.N) (h : t.val % 17 ≤ 15) (r : Fin 256) (s : Fin 4352) :
    grad' (bs (iblk m c 0 t) (iblk m c 1 t : FVec Ideal S4352x128 .bf16) r) (bd (iblk m c 4 t) (iblk m c 2 t : FVec Ideal S4352x128 .bf16) r)
        ((iblk m c 3 t : FVec Ideal S1x256x1 .f32) (ix3 0 r 0)) s * Spec.sca
      = Spec.dsL (Q m c) (O m c) (K m c) (Vv m c) (kvOf t.val) (gOf t.val) (rlOf t.val r) s := by
  rw [scores_latent m c t h, products_latent m c t h, lse_latent m c t h]
  exact congrArg (· * Spec.sca) (grad_eq (by norm_num) _ _ (fun s => scores_fin H _ _ _ _) (fun s => products_fin H _ _ _ _) s)

theorem ds_context (t : Fin cfg0.N) (h : t.val % 17 = 16) (r s : Fin 256) :
    grad' (bs (iblk m c 0 t) (ctx (iblk m c 1 t)) r) (bd (iblk m c 4 t) (ctx (iblk m c 2 t)) r)
        ((iblk m c 3 t : FVec Ideal S1x256x1 .f32) (ix3 0 r 0)) s * Spec.sca
      = Spec.dsC (Q m c) (O m c) (K m c) (Vv m c) (kvOf t.val) (gOf t.val) r s := by
  rw [scores_context m c t h, products_context m c t h, lse_context m c t h]
  exact congrArg (· * Spec.sca) (grad_eq (by norm_num) _ _ (fun s => scores_fin H _ _ _ _) (fun s => products_fin H _ _ _ _) s)

/-- A latent row's probabilities, as the kernel forms them. -/
theorem p_latent (t : Fin cfg0.N) (h : t.val % 17 ≤ 15) (r : Fin 256) (s : Fin 4352) :
    prob' (bs (iblk m c 0 t) (iblk m c 1 t : FVec Ideal S4352x128 .bf16) r) ((iblk m c 3 t : FVec Ideal S1x256x1 .f32) (ix3 0 r 0)) s
      = Spec.pL (Q m c) (K m c) (kvOf t.val) (gOf t.val) (rlOf t.val r) s := by
  rw [scores_latent m c t h, lse_latent m c t h]
  exact prob_eq (by norm_num) _ (fun s => scores_fin H _ _ _ _) s

theorem p_context (t : Fin cfg0.N) (h : t.val % 17 = 16) (r s : Fin 256) :
    prob' (bs (iblk m c 0 t) (ctx (iblk m c 1 t)) r) ((iblk m c 3 t : FVec Ideal S1x256x1 .f32) (ix3 0 r 0)) s
      = Spec.pC (Q m c) (K m c) (kvOf t.val) (gOf t.val) r s := by
  rw [scores_context m c t h, lse_context m c t h]
  exact prob_eq (by norm_num) _ (fun s => scores_fin H _ _ _ _) s

/-- The block of the gradient of the queries that a grid point over latent rows leaves. -/
theorem dq_latent (t : Fin cfg0.N) (h1 : t.val % 17 ≤ 15) (r : Fin 256) (d : Fin 128) :
    (outsAt0 m c t.val t.isLt).1 (ix2 r d) = Spec.dqL (Q m c) (O m c) (K m c) (Vv m c) (kvOf t.val) (gOf t.val) (rlOf t.val r) d := by
  have h2 : ¬ t.val % 17 = 16 := by omega
  have e : (outsAt0 m c t.val t.isLt).1 (ix2 r d) = k0_pay7 (F := Ideal) (iblk m c 0 t) (iblk m c 1 t) (iblk m c 2 t) (iblk m c 4 t) (iblk m c 3 t) (ix2 r d) := by
    by_cases h0 : t.val % 68 = 0
    · exact dq_A m c t h0 h1 h2 _
    · exact dq_B m c t h0 h1 h2 _
  rw [e, pay7_apply]
  simp only [ds_latent H t h1, b1]
  rfl

theorem dq_context (t : Fin cfg0.N) (h2 : t.val % 17 = 16) (r : Fin 256) (d : Fin 128) :
    (outsAt0 m c t.val t.isLt).1 (ix2 r d) = Spec.dqC (Q m c) (O m c) (K m c) (Vv m c) (kvOf t.val) (gOf t.val) r d := by
  rw [dq_C m c t (by omega) (by omega) h2, pay12_apply]
  simp only [ds_context H t h2, ctx_apply, b1]
  rfl

omit H in
variable (m c) in
/-- What one grid point adds to the gradient of the keys. -/
def addK (n : ℕ) (y : S4352x128.Idx) : EReal :=
  if n % 17 ≤ 15 then
    ∑ r : Fin 256, Spec.dsL (Q m c) (O m c) (K m c) (Vv m c) (kvOf n) (gOf n) (rlOf n r) (y 0) * Q m c (Spec.rl (rlOf n r)) (Spec.qc (kvOf n) (gOf n) (y 1))
  else if 4096 ≤ (y 0).val then
    ∑ r : Fin 256, Spec.dsC (Q m c) (O m c) (K m c) (Vv m c) (kvOf n) (gOf n) r ⟨(y 0).val % 256, Nat.mod_lt _ (by norm_num)⟩ * Q m c (Spec.rc r) (Spec.qc (kvOf n) (gOf n) (y 1))
  else 0

omit H in
variable (m c) in
/-- What one grid point adds to the gradient of the values. -/
def addV (n : ℕ) (y : S4352x128.Idx) : EReal :=
  if n % 17 ≤ 15 then
    ∑ r : Fin 256, Spec.pL (Q m c) (K m c) (kvOf n) (gOf n) (rlOf n r) (y 0) * O m c (Spec.rl (rlOf n r)) (Spec.qc (kvOf n) (gOf n) (y 1))
  else if 4096 ≤ (y 0).val then
    ∑ r : Fin 256, Spec.pC (Q m c) (K m c) (kvOf n) (gOf n) r ⟨(y 0).val % 256, Nat.mod_lt _ (by norm_num)⟩ * O m c (Spec.rc r) (Spec.qc (kvOf n) (gOf n) (y 1))
  else 0

omit H in
theorem context_row (s : Fin 4352) (h : 4096 ≤ s.val) : s = Spec.rc ⟨s.val % 256, Nat.mod_lt _ (by norm_num)⟩ :=
  Fin.ext (by simp only [Spec.rc]; omega)

theorem dk_reset (t : Fin cfg0.N) (h0 : t.val % 68 = 0) (y : S4352x128.Idx) :
    (outsAt0 m c t.val t.isLt).2.1 y = (fun _ => 0) y + addK m c t.val y := by
  have h1 : t.val % 17 ≤ 15 := by omega
  obtain ⟨s, d, rfl⟩ : ∃ (s : Fin 4352) (d : Fin 128), y = ix2 s d := ⟨_, _, (ix2_eta y).symm⟩
  rw [dk_A m c t h0 h1 (by omega), pay8_apply, pay1_apply, addK, if_pos h1]
  simp only [ds_latent H t h1, b0, rowOf_latent t.val h1]
  rfl

theorem dk_step (t : Fin cfg0.N) (h0 : ¬t.val % 68 = 0) (y : S4352x128.Idx) :
    (outsAt0 m c t.val t.isLt).2.1 y = (outsAt0 m c (t.val - 1) (Nat.lt_of_le_of_lt (Nat.sub_le _ _) t.isLt)).2.1 y + addK m c t.val y := by
  obtain ⟨s, d, rfl⟩ : ∃ (s : Fin 4352) (d : Fin 128), y = ix2 s d := ⟨_, _, (ix2_eta y).symm⟩
  by_cases h1 : t.val % 17 ≤ 15
  · rw [dk_B m c t h0 h1 (by omega), pay8_apply, addK, if_pos h1]
    simp only [ds_latent H t h1, b0, rowOf_latent t.val h1]
    rfl
  · have h2 : t.val % 17 = 16 := by omega
    by_cases hs : 4096 ≤ s.val
    · rw [addK, if_neg h1, if_pos (show 4096 ≤ ((ix2 s d : S4352x128.Idx) 0).val from hs)]
      conv_lhs => rw [context_row s hs]
      rw [dk_C m c t h0 h1 h2, pay13_apply, ctxf_apply, ← context_row s hs]
      simp only [ds_context H t h2, b0, rowOf_context t.val h2]
      rfl
    · rw [addK, if_neg h1, if_neg (show ¬ 4096 ≤ ((ix2 s d : S4352x128.Idx) 0).val from hs), add_zero, dk_C' m c t h0 h1 h2 s (by omega)]
      rfl

theorem dv_reset (t : Fin cfg0.N) (h0 : t.val % 68 = 0) (y : S4352x128.Idx) :
    (outsAt0 m c t.val t.isLt).2.2 y = (fun _ => 0) y + addV m c t.val y := by
  have h1 : t.val % 17 ≤ 15 := by omega
  obtain ⟨s, d, rfl⟩ : ∃ (s : Fin 4352) (d : Fin 128), y = ix2 s d := ⟨_, _, (ix2_eta y).symm⟩
  rw [dv_A m c t h0 h1 (by omega), pay3_apply, pay2_apply, addV, if_pos h1]
  simp only [pay5_apply, p_latent H t h1, b4, rowOf_latent t.val h1]
  rfl

theorem dv_step (t : Fin cfg0.N) (h0 : ¬t.val % 68 = 0) (y : S4352x128.Idx) :
    (outsAt0 m c t.val t.isLt).2.2 y = (outsAt0 m c (t.val - 1) (Nat.lt_of_le_of_lt (Nat.sub_le _ _) t.isLt)).2.2 y + addV m c t.val y := by
  obtain ⟨s, d, rfl⟩ : ∃ (s : Fin 4352) (d : Fin 128), y = ix2 s d := ⟨_, _, (ix2_eta y).symm⟩
  by_cases h1 : t.val % 17 ≤ 15
  · rw [dv_B m c t h0 h1 (by omega), pay3_apply, addV, if_pos h1]
    simp only [pay5_apply, p_latent H t h1, b4, rowOf_latent t.val h1]
    rfl
  · have h2 : t.val % 17 = 16 := by omega
    by_cases hs : 4096 ≤ s.val
    · rw [addV, if_neg h1, if_pos (show 4096 ≤ ((ix2 s d : S4352x128.Idx) 0).val from hs)]
      conv_lhs => rw [context_row s hs]
      rw [dv_C m c t h0 h1 h2, pay4_apply, ctxf_apply, ← context_row s hs]
      simp only [pay10_apply, p_context H t h2, b4, rowOf_context t.val h2]
      rfl
    · rw [addV, if_neg h1, if_neg (show ¬ 4096 ≤ ((ix2 s d : S4352x128.Idx) 0).val from hs), add_zero, dv_C' m c t h0 h1 h2 s (by omega)]
      rfl

end
end Cert.KernelIdeal.AttnK
end
-- ==== Proof.AttnRef.lean ====
/-
  The reference's gradient of the attention, read at an index. The composed terms of its run are first written as a
  chain of named stages (scores, row maxima, exponentials, sums, gradient of the scores), each of which is then read
  in coordinates: key and value head `kv`, query head `g` of that group, query row `r`, key row `s`, lane `d`.
-/
module

public import proofs.«01_k».proof.Proof.Gen.ReferenceIdeal.Run
public import proofs.«01_k».proof.Proof.AttnSpec
public import Idealize.ShloMosaic.Lib.Pointwise

@[expose] public section

set_option maxRecDepth 16384

noncomputable section

namespace Cert.ReferenceIdeal.AttnR

open Cert.ReferenceIdeal Cert.ReferenceIdeal.Gen Idealize.ShloMosaic Idealize.ShloMosaic.TcCoe Idealize.SL.Sem
open Idealize.ShloMosaic.ValueIdx
open Cert.Proof.Row
open scoped BigOperators

/-! ## The stages -/

section Stages
variable (q dO : FVec Ideal S4352x1024 .bf16) (k v : FVec Ideal S4352x256 .bf16)

def q4 : FVec Ideal S4352x2x4x128 .f32 := shapeCast S4352x2x4x128 (extf .f32 q bitsLt_bf16_f32) shapeCasts_S4352x1024_S4352x2x4x128
def k3 : FVec Ideal S4352x2x128 .f32 := shapeCast S4352x2x128 (extf .f32 k bitsLt_bf16_f32) shapeCasts_S4352x256_S4352x2x128

/-! The latent rows, which see every key. -/

def qL : FVec Ideal S4096x2x4x128 .f32 := extractStridedSlice S4096x2x4x128 ![0, 0, 0, 0] (q4 q) slices_S4352x2x4x128_S4096x2x4x128_0_0_0_0
def sL : FVec Ideal S2x4x4096x4352 .f32 :=
  mulf (transpose S2x4x4096x4352 [0, 3, 2, 1] (Host.dotGeneral dot_S4352x2x128_S4096x2x4x128_S2x4352x4096x4_2_3_0_02_1_1 none (k3 k) (qL q)) transposes_S2x4352x4096x4_S2x4x4096x4352_0_3_2_1)
    (broadcastInDim S2x4x4096x4352 ![] bcast_S_S2x4x4096x4352 (constant S_ .f32 0x3DB504F3#32))
def mL : FVec Ideal S2x4x4096 .f32 :=
  maximumf (broadcastInDim S2x4x4096 ![] bcast_S_S2x4x4096 (constant S_ .f32 0xFF800000#32))
    (Host.reduce FloatOps.maximumf (sL q k) (constant S_ .f32 0xFF800000#32) reducesTo_S2x4x4096x4352_S2x4x4096_d3 h_S_)
def eL : FVec Ideal S2x4x4096x4352 .f32 :=
  Host.exp (subf (sL q k) (broadcastInDim S2x4x4096x4352 ![0, 1, 2, 3] bcast_S2x4x4096x1_S2x4x4096x4352_0_1_2_3
    (broadcastInDim S2x4x4096x1 ![0, 1, 2] bcast_S2x4x4096_S2x4x4096x1_0_1_2 (mL q k))))
def lL : FVec Ideal S2x4x4096x1 .f32 :=
  broadcastInDim S2x4x4096x1 ![0, 1, 2] bcast_S2x4x4096_S2x4x4096x1_0_1_2
    (Host.reduceAdd (eL q k) (constant S_ .f32 0x00000000#32) reducesTo_S2x4x4096x4352_S2x4x4096_d3 h_S_)
def pL : FVec Ideal S2x4x4096x4352 .f32 :=
  Host.divf (eL q k) (broadcastInDim S2x4x4096x4352 ![0, 1, 2, 3] bcast_S2x4x4096x1_S2x4x4096x4352_0_1_2_3 (lL q k))
def oL : FVec Ideal S2x128x4x4096 .f32 :=
  transpose S2x128x4x4096 [1, 3, 2, 0] (shapeCast S4096x2x4x128 (extractStridedSlice S4096x1024 ![0, 0] (extf .f32 dO bitsLt_bf16_f32) slices_S4352x1024_S4096x1024_0_0) shapeCasts_S4096x1024_S4096x2x4x128)
    transposes_S4096x2x4x128_S2x128x4x4096_1_3_2_0
def dpL : FVec Ideal S2x4x4096x4352 .f32 :=
  Host.dotGeneral dot_S2x128x4x4096_S4352x2x128_S2x4x4096x4352_1_2_23_0_0_1 none (oL dO) (k3 v)
def rL : FVec Ideal S2x4x4096 .f32 :=
  Host.reduceAdd (mulf (mulf (dpL dO v) (broadcastInDim S2x4x4096x4352 ![0, 1, 2, 3] bcast_S2x4x4096x1_S2x4x4096x4352_0_1_2_3
      (Host.divf (broadcastInDim S2x4x4096x1 ![] bcast_S_S2x4x4096x1 (constant S_ .f32 0x3F800000#32)) (mulf (lL q k) (lL q k))))) (eL q k))
    (constant S_ .f32 0x00000000#32) reducesTo_S2x4x4096x4352_S2x4x4096_d3 h_S_
def dsL : FVec Ideal S2x4x4096x4352 .f32 :=
  mulf (mulf (addf (Host.divf (dpL dO v) (broadcastInDim S2x4x4096x4352 ![0, 1, 2, 3] bcast_S2x4x4096x1_S2x4x4096x4352_0_1_2_3 (lL q k)))
      (broadcastInDim S2x4x4096x4352 ![0, 1, 2] bcast_S2x4x4096_S2x4x4096x4352_0_1_2
        (Host.reduceAdd (Host.negf (shapeCast S2x4x4096x1 (rL q dO k v) shapeCasts_S2x4x4096_S2x4x4096x1)) (constant S_ .f32 0x00000000#32) reducesTo_S2x4x4096x1_S2x4x4096_d3 h_S_)))
    (eL q k)) (broadcastInDim S2x4x4096x4352 ![] bcast_S_S2x4x4096x4352 (constant S_ .f32 0x3DB504F3#32))
def dsLt : FVec Ideal S2x4352x4096x4 .f32 := transpose S2x4352x4096x4 [0, 3, 2, 1] (dsL q dO k v) transposes_S2x4x4096x4352_S2x4352x4096x4_0_3_2_1

/-! The context rows, which see the context's keys. -/

def qC : FVec Ideal S256x2x4x128 .f32 := extractStridedSlice S256x2x4x128 ![4096, 0, 0, 0] (q4 q) slices_S4352x2x4x128_S256x2x4x128_4096_0_0_0
def kC : FVec Ideal S256x2x128 .f32 := extractStridedSlice S256x2x128 ![4096, 0, 0] (k3 k) slices_S4352x2x128_S256x2x128_4096_0_0
def sC : FVec Ideal S2x4x256x256 .f32 :=
  mulf (transpose S2x4x256x256 [0, 3, 2, 1] (Host.dotGeneral dot_S256x2x128_S256x2x4x128_S2x256x256x4_2_3_0_02_1_1 none (kC k) (qC q)) transposes_S2x256x256x4_S2x4x256x256_0_3_2_1)
    (broadcastInDim S2x4x256x256 ![] bcast_S_S2x4x256x256 (constant S_ .f32 0x3DB504F3#32))
def mC : FVec Ideal S2x4x256 .f32 :=
  maximumf (broadcastInDim S2x4x256 ![] bcast_S_S2x4x256 (constant S_ .f32 0xFF800000#32))
    (Host.reduce FloatOps.maximumf (sC q k) (constant S_ .f32 0xFF800000#32) reducesTo_S2x4x256x256_S2x4x256_d3 h_S_)
def eC : FVec Ideal S2x4x256x256 .f32 :=
  Host.exp (subf (sC q k) (broadcastInDim S2x4x256x256 ![0, 1, 2, 3] bcast_S2x4x256x1_S2x4x256x256_0_1_2_3
    (broadcastInDim S2x4x256x1 ![0, 1, 2] bcast_S2x4x256_S2x4x256x1_0_1_2 (mC q k))))
def lC : FVec Ideal S2x4x256x1 .f32 :=
  broadcastInDim S2x4x256x1 ![0, 1, 2] bcast_S2x4x256_S2x4x256x1_0_1_2
    (Host.reduceAdd (eC q k) (constant S_ .f32 0x00000000#32) reducesTo_S2x4x256x256_S2x4x256_d3 h_S_)
def pC : FVec Ideal S2x4x256x256 .f32 :=
  Host.divf (eC q k) (broadcastInDim S2x4x256x256 ![0, 1, 2, 3] bcast_S2x4x256x1_S2x4x256x256_0_1_2_3 (lC q k))
def oC : FVec Ideal S2x128x4x256 .f32 :=
  transpose S2x128x4x256 [1, 3, 2, 0] (shapeCast S256x2x4x128 (extractStridedSlice S256x1024 ![4096, 0] (extf .f32 dO bitsLt_bf16_f32) slices_S4352x1024_S256x1024_4096_0) shapeCasts_S256x1024_S256x2x4x128)
    transposes_S256x2x4x128_S2x128x4x256_1_3_2_0
def dpC : FVec Ideal S2x4x256x256 .f32 :=
  Host.dotGeneral dot_S2x128x4x256_S256x2x128_S2x4x256x256_1_2_23_0_0_1 none (oC dO) (kC v)
def rC : FVec Ideal S2x4x256 .f32 :=
  Host.reduceAdd (mulf (mulf (dpC dO v) (broadcastInDim S2x4x256x256 ![0, 1, 2, 3] bcast_S2x4x256x1_S2x4x256x256_0_1_2_3
      (Host.divf (broadcastInDim S2x4x256x1 ![] bcast_S_S2x4x256x1 (constant S_ .f32 0x3F800000#32)) (mulf (lC q k) (lC q k))))) (eC q k))
    (constant S_ .f32 0x00000000#32) reducesTo_S2x4x256x256_S2x4x256_d3 h_S_
def dsC : FVec Ideal S2x4x256x256 .f32 :=
  mulf (mulf (addf (Host.divf (dpC dO v) (broadcastInDim S2x4x256x256 ![0, 1, 2, 3] bcast_S2x4x256x1_S2x4x256x256_0_1_2_3 (lC q k)))
      (broadcastInDim S2x4x256x256 ![0, 1, 2] bcast_S2x4x256_S2x4x256x256_0_1_2
        (Host.reduceAdd (Host.negf (shapeCast S2x4x256x1 (rC q dO k v) shapeCasts_S2x4x256_S2x4x256x1)) (constant S_ .f32 0x00000000#32) reducesTo_S2x4x256x1_S2x4x256_d3 h_S_)))
    (eC q k)) (broadcastInDim S2x4x256x256 ![] bcast_S_S2x4x256x256 (constant S_ .f32 0x3DB504F3#32))
def dsCt : FVec Ideal S2x256x256x4 .f32 := transpose S2x256x256x4 [0, 3, 2, 1] (dsC q dO k v) transposes_S2x4x256x256_S2x256x256x4_0_3_2_1

/-! The three gradients. -/

def DV : FVec Ideal S4352x256 .f32 :=
  shapeCast S4352x256 (addf
    (pad S4352x2x128 ![4096, 0, 0] ![0, 0, 0] ![0, 0, 0] (transpose S256x2x128 [2, 0, 1] (Host.dotGeneral dot_S2x128x4x256_S2x4x256x256_S2x128x256_23_12_1_3_0_0 none (oC dO) (pC q k)) transposes_S2x128x256_S256x2x128_2_0_1)
      (constant S_ .f32 0x00000000#32) pads_S256x2x128_S4352x2x128_409600_000_000 h_S_)
    (transpose S4352x2x128 [2, 0, 1] (Host.dotGeneral dot_S2x128x4x4096_S2x4x4096x4352_S2x128x4352_23_12_1_3_0_0 none (oL dO) (pL q k)) transposes_S2x128x4352_S4352x2x128_2_0_1))
    shapeCasts_S4352x2x128_S4352x256
def DK : FVec Ideal S4352x256 .f32 :=
  shapeCast S4352x256 (addf
    (pad S4352x2x128 ![4096, 0, 0] ![0, 0, 0] ![0, 0, 0] (transpose S256x2x128 [1, 0, 2] (Host.dotGeneral dot_S2x256x256x4_S256x2x4x128_S2x256x128_23_02_1_3_0_1 none (dsCt q dO k v) (qC q)) transposes_S2x256x128_S256x2x128_1_0_2)
      (constant S_ .f32 0x00000000#32) pads_S256x2x128_S4352x2x128_409600_000_000 h_S_)
    (transpose S4352x2x128 [1, 0, 2] (Host.dotGeneral dot_S2x4352x4096x4_S4096x2x4x128_S2x4352x128_23_02_1_3_0_1 none (dsLt q dO k v) (qL q)) transposes_S2x4352x128_S4352x2x128_1_0_2))
    shapeCasts_S4352x2x128_S4352x256
def DQ : FVec Ideal S4352x1024 .bf16 :=
  truncf .bf16 (shapeCast S4352x1024 (addf
    (pad S4352x2x4x128 ![4096, 0, 0, 0] ![0, 0, 0, 0] ![0, 0, 0, 0] (transpose S256x2x4x128 [1, 0, 2, 3] (Host.dotGeneral dot_S2x256x256x4_S256x2x128_S2x256x4x128_1_0_23_2_0_1 none (dsCt q dO k v) (kC k)) transposes_S2x256x4x128_S256x2x4x128_1_0_2_3)
      (constant S_ .f32 0x00000000#32) pads_S256x2x4x128_S4352x2x4x128_409600_000_000_000 h_S_)
    (pad S4352x2x4x128 ![0, 0, 0, 0] ![256, 0, 0, 0] ![0, 0, 0, 0] (transpose S4096x2x4x128 [1, 0, 2, 3] (Host.dotGeneral dot_S2x4352x4096x4_S4352x2x128_S2x4096x4x128_1_0_23_2_0_1 none (dsLt q dO k v) (k3 k)) transposes_S2x4096x4x128_S4096x2x4x128_1_0_2_3)
      (constant S_ .f32 0x00000000#32) pads_S4096x2x4x128_S4352x2x4x128_02560_000_000_000 h_S_))
    shapeCasts_S4352x2x4x128_S4352x1024) bitsLt_bf16_f32

end Stages

section Run
variable (m : (ℓ : Loc nD τ sig) → Buf (Elt Ideal) ℓ) (c : Dev nD)

theorem res_dv : Value.res_main_v139 m c = DV (m ((c.tc : Thread nD τ).loc main_arg0)) (m ((c.tc : Thread nD τ).loc main_arg3)) (m ((c.tc : Thread nD τ).loc main_arg1)) := rfl
theorem res_dk : Value.res_main_v140 m c = DK (m ((c.tc : Thread nD τ).loc main_arg0)) (m ((c.tc : Thread nD τ).loc main_arg3)) (m ((c.tc : Thread nD τ).loc main_arg1)) (m ((c.tc : Thread nD τ).loc main_arg2)) := rfl
theorem res_dq : Value.res_main_v142 m c = DQ (m ((c.tc : Thread nD τ).loc main_arg0)) (m ((c.tc : Thread nD τ).loc main_arg3)) (m ((c.tc : Thread nD τ).loc main_arg1)) (m ((c.tc : Thread nD τ).loc main_arg2)) := rfl

end Run

end Cert.ReferenceIdeal.AttnR

end
-- ==== Proof.AttnRefRead.lean ====
/-
  The stages of the reference's gradient, each read in coordinates: first the latent rows, then the context rows, then
  the three gradients as sums over rows, keys and query heads.
-/
module

public import proofs.«01_k».proof.Proof.AttnRef

@[expose] public section

set_option maxRecDepth 16384

noncomputable section

namespace Cert.ReferenceIdeal.AttnR

open Cert.ReferenceIdeal Cert.ReferenceIdeal.Gen Idealize.ShloMosaic Idealize.ShloMosaic.TcCoe Idealize.SL.Sem
open Cert.Proof Cert.Proof.Row
open scoped BigOperators

section Stages
variable (q dO : FVec Ideal S4352x1024 .bf16) (k v : FVec Ideal S4352x256 .bf16)

theorem sL_apply (kv : Fin 2) (g : Fin 4) (r : Fin 4096) (s : Fin 4352) :
    sL q k (ix4 kv g r s) = Spec.scL (fun i j => q (ix2 i j)) (fun i j => k (ix2 i j)) kv g r s := by
  pointwise [sL, k3, qL, q4]
  exact congrArg (· * _) (Finset.sum_congr rfl fun d _ => mul_comm _ _)

theorem dpL_apply (kv : Fin 2) (g : Fin 4) (r : Fin 4096) (s : Fin 4352) :
    dpL dO v (ix4 kv g r s) = Spec.dpL (fun i j => dO (ix2 i j)) (fun i j => v (ix2 i j)) kv g r s := by
  pointwise [dpL, oL, k3]
  rfl

theorem mL_apply (kv : Fin 2) (g : Fin 4) (r : Fin 4096) :
    mL q k (ix3 kv g r) = top (Spec.scL (fun i j => q (ix2 i j)) (fun i j => k (ix2 i j)) kv g r) := by
  rw [mL, Spec.maximumf_at, Spec.hostMax, Spec.broadcastInDim_at]
  simp only [sL_apply]
  exact Spec.max_top _

theorem eL_apply (kv : Fin 2) (g : Fin 4) (r : Fin 4096) (s : Fin 4352) :
    eL q k (ix4 kv g r s) = ex (Spec.scL (fun i j => q (ix2 i j)) (fun i j => k (ix2 i j)) kv g r) s := by
  pointwise [eL]
  rw [sL_apply, mL_apply]
  rfl

theorem lL_apply (kv : Fin 2) (g : Fin 4) (r : Fin 4096) :
    lL q k (ix4 kv g r 0) = den (Spec.scL (fun i j => q (ix2 i j)) (fun i j => k (ix2 i j)) kv g r) := by
  pointwise [lL]
  simp only [eL_apply]
  rfl

theorem pL_apply (kv : Fin 2) (g : Fin 4) (r : Fin 4096) (s : Fin 4352) :
    pL q k (ix4 kv g r s) = Spec.pL (fun i j => q (ix2 i j)) (fun i j => k (ix2 i j)) kv g r s := by
  pointwise [pL]
  rw [eL_apply, lL_apply]
  rfl

theorem dsL_apply (kv : Fin 2) (g : Fin 4) (r : Fin 4096) (s : Fin 4352) :
    dsL q dO k v (ix4 kv g r s)
      = Spec.dsL (fun i j => q (ix2 i j)) (fun i j => dO (ix2 i j)) (fun i j => k (ix2 i j)) (fun i j => v (ix2 i j)) kv g r s := by
  pointwise [dsL, rL]
  simp only [eL_apply, lL_apply, dpL_apply, Finset.univ_unique, Finset.sum_singleton]
  rfl

theorem sC_apply (kv : Fin 2) (g : Fin 4) (r : Fin 256) (s : Fin 256) :
    sC q k (ix4 kv g r s) = Spec.scC (fun i j => q (ix2 i j)) (fun i j => k (ix2 i j)) kv g r s := by
  pointwise [sC, kC, k3, qC, q4]
  exact congrArg (· * _) (Finset.sum_congr rfl fun d _ => mul_comm _ _)

theorem dpC_apply (kv : Fin 2) (g : Fin 4) (r : Fin 256) (s : Fin 256) :
    dpC dO v (ix4 kv g r s) = Spec.dpC (fun i j => dO (ix2 i j)) (fun i j => v (ix2 i j)) kv g r s := by
  pointwise [dpC, oC, kC, k3]
  rfl

theorem mC_apply (kv : Fin 2) (g : Fin 4) (r : Fin 256) :
    mC q k (ix3 kv g r) = top (Spec.scC (fun i j => q (ix2 i j)) (fun i j => k (ix2 i j)) kv g r) := by
  rw [mC, Spec.maximumf_at, Spec.hostMax, Spec.broadcastInDim_at]
  simp only [sC_apply]
  exact Spec.max_top _

theorem eC_apply (kv : Fin 2) (g : Fin 4) (r : Fin 256) (s : Fin 256) :
    eC q k (ix4 kv g r s) = ex (Spec.scC (fun i j => q (ix2 i j)) (fun i j => k (ix2 i j)) kv g r) s := by
  pointwise [eC]
  rw [sC_apply, mC_apply]
  rfl

theorem lC_apply (kv : Fin 2) (g : Fin 4) (r : Fin 256) :
    lC q k (ix4 kv g r 0) = den (Spec.scC (fun i j => q (ix2 i j)) (fun i j => k (ix2 i j)) kv g r) := by
  pointwise [lC]
  simp only [eC_apply]
  rfl

theorem pC_apply (kv : Fin 2) (g : Fin 4) (r : Fin 256) (s : Fin 256) :
    pC q k (ix4 kv g r s) = Spec.pC (fun i j => q (ix2 i j)) (fun i j => k (ix2 i j)) kv g r s := by
  pointwise [pC]
  rw [eC_apply, lC_apply]
  rfl

theorem dsC_apply (kv : Fin 2) (g : Fin 4) (r : Fin 256) (s : Fin 256) :
    dsC q dO k v (ix4 kv g r s)
      = Spec.dsC (fun i j => q (ix2 i j)) (fun i j => dO (ix2 i j)) (fun i j => k (ix2 i j)) (fun i j => v (ix2 i j)) kv g r s := by
  pointwise [dsC, rC]
  simp only [eC_apply, lC_apply, dpC_apply, Finset.univ_unique, Finset.sum_singleton]
  rfl

theorem castQ (x : FVec Ideal S4352x2x4x128 .f32) (kv : Fin 2) (g : Fin 4) (r : Fin 4352) (d : Fin 128) :
    shapeCast S4352x1024 x shapeCasts_S4352x2x4x128_S4352x1024 (ix2 r (Spec.qc kv g d)) = x (ix4 r kv g d) := by
  pointwise
  have e1 : (Spec.qc kv g d).val / 512 = kv.val := by simp only [Spec.qc]; omega
  have e2 : (Spec.qc kv g d).val / 128 % 4 = g.val := by simp only [Spec.qc]; omega
  have e3 : (Spec.qc kv g d).val % 128 = d.val := by simp only [Spec.qc]; omega
  simp only [e1, e2, e3, Fin.eta]

theorem castK (x : FVec Ideal S4352x2x128 .f32) (kv : Fin 2) (r : Fin 4352) (d : Fin 128) :
    shapeCast S4352x256 x shapeCasts_S4352x2x128_S4352x256 (ix2 r (Spec.kc kv d)) = x (ix3 r kv d) := by
  pointwise
  have e1 : (Spec.kc kv d).val / 128 = kv.val := by simp only [Spec.kc]; omega
  have e3 : (Spec.kc kv d).val % 128 = d.val := by simp only [Spec.kc]; omega
  simp only [e1, e3, Fin.eta]

theorem castQ' (x : FVec Ideal S4352x2x4x128 .f32) (kv : Fin 2) (g : Fin 4) (r : Fin 4352) (d : Fin 128) :
    (truncf .bf16 (shapeCast S4352x1024 x shapeCasts_S4352x2x4x128_S4352x1024) bitsLt_bf16_f32 : FVec Ideal S4352x1024 .bf16) (ix2 r (Spec.qc kv g d))
      = x (ix4 r kv g d) :=
  castQ x kv g r d

set_option maxRecDepth 1000000 in
theorem DQ_latent (kv : Fin 2) (g : Fin 4) (r : Fin 4096) (d : Fin 128) :
    DQ q dO k v (ix2 (Spec.rl r) (Spec.qc kv g d)) = Spec.dqL (fun i j => q (ix2 i j)) (fun i j => dO (ix2 i j)) (fun i j => k (ix2 i j)) (fun i j => v (ix2 i j)) kv g r d := by
  rw [DQ, castQ']
  pointwise [dsLt, k3, Spec.rl]
  rw [dif_neg (fun h => h.1)]
  simp only [dsL_apply, zero_add]
  rfl

set_option maxRecDepth 1000000 in
theorem DQ_context (kv : Fin 2) (g : Fin 4) (r : Fin 256) (d : Fin 128) :
    DQ q dO k v (ix2 (Spec.rc r) (Spec.qc kv g d)) = Spec.dqC (fun i j => q (ix2 i j)) (fun i j => dO (ix2 i j)) (fun i j => k (ix2 i j)) (fun i j => v (ix2 i j)) kv g r d := by
  rw [DQ, castQ']
  pointwise [dsCt, k3, kC, Spec.rc]
  simp only [dsC_apply]
  rfl

set_option maxRecDepth 1000000 in
theorem DK_latent (kv : Fin 2) (s : Fin 4352) (d : Fin 128) (h : s.val < 4096) :
    DK q dO k v (ix2 s (Spec.kc kv d)) = Spec.dkL (fun i j => q (ix2 i j)) (fun i j => dO (ix2 i j)) (fun i j => k (ix2 i j)) (fun i j => v (ix2 i j)) kv s d := by
  rw [DK, castK]
  pointwise [dsLt, dsCt, k3, kC, q4, qL, qC]
  rw [dif_neg (by omega), zero_add, Finset.sum_comm]
  simp only [dsL_apply]
  rfl

set_option maxRecDepth 1000000 in
theorem DK_context (kv : Fin 2) (s : Fin 256) (d : Fin 128) :
    DK q dO k v (ix2 (Spec.rc s) (Spec.kc kv d)) = Spec.dkC (fun i j => q (ix2 i j)) (fun i j => dO (ix2 i j)) (fun i j => k (ix2 i j)) (fun i j => v (ix2 i j)) kv s d + Spec.dkL (fun i j => q (ix2 i j)) (fun i j => dO (ix2 i j)) (fun i j => k (ix2 i j)) (fun i j => v (ix2 i j)) kv (Spec.rc s) d := by
  rw [DK, castK]
  pointwise [dsLt, dsCt, k3, kC, q4, qL, qC, Spec.rc]
  refine congrArg₂ (· + ·) (Finset.sum_comm.trans ?_) (Finset.sum_comm.trans ?_)
  · simp only [dsC_apply]
    rfl
  · simp only [dsL_apply]
    rfl

set_option maxRecDepth 1000000 in
theorem DV_latent (kv : Fin 2) (s : Fin 4352) (d : Fin 128) (h : s.val < 4096) :
    DV q dO k (ix2 s (Spec.kc kv d)) = Spec.dvL (fun i j => q (ix2 i j)) (fun i j => dO (ix2 i j)) (fun i j => k (ix2 i j)) kv s d := by
  rw [DV, castK]
  pointwise [oL, oC]
  rw [dif_neg (by omega), zero_add]
  refine Finset.sum_congr rfl fun g _ => Finset.sum_congr rfl fun r _ => ?_
  rw [pL_apply, mul_comm]
  rfl

set_option maxRecDepth 1000000 in
theorem DV_context (kv : Fin 2) (s : Fin 256) (d : Fin 128) :
    DV q dO k (ix2 (Spec.rc s) (Spec.kc kv d)) = Spec.dvC (fun i j => q (ix2 i j)) (fun i j => dO (ix2 i j)) (fun i j => k (ix2 i j)) kv s d + Spec.dvL (fun i j => q (ix2 i j)) (fun i j => dO (ix2 i j)) (fun i j => k (ix2 i j)) kv (Spec.rc s) d := by
  rw [DV, castK]
  pointwise [oL, oC, Spec.rc]
  refine congrArg₂ (· + ·) (Finset.sum_congr rfl fun g _ => Finset.sum_congr rfl fun r _ => ?_)
    (Finset.sum_congr rfl fun g _ => Finset.sum_congr rfl fun r _ => ?_)
  · rw [pC_apply, mul_comm]
    rfl
  · rw [pL_apply, mul_comm]
    rfl

end Stages
end Cert.ReferenceIdeal.AttnR
end
-- ==== Proof.AttnArrays.lean ====
/-
  The arrays the attention's backward kernel leaves, set beside the reference's: the grid points of one key head are summed
  and put in order as rows.
-/
module
public import proofs.«01_k».proof.Proof.AttnStep
public import proofs.«01_k».proof.Proof.AttnRefRead
@[expose] public section
set_option maxRecDepth 16384
noncomputable section
namespace Cert.KernelIdeal.AttnK
open Cert.KernelIdeal Cert.KernelIdeal.Gen Idealize.ShloMosaic Idealize.ShloMosaic.TcCoe Idealize.SL.Sem
open Cert.Proof Cert.Proof.Row
open scoped BigOperators
theorem sum_runs (f : ℕ → EReal) :
    ∑ k ∈ Finset.range 68, f k = ∑ g : Fin 4, ((∑ i : Fin 16, f (g.val * 17 + i.val)) + f (g.val * 17 + 16)) := by
  rw [Finset.sum_range, Fin.sum_univ_tiles 4 17 rfl]
  exact Finset.sum_congr rfl fun g _ => by rw [Fin.sum_univ_castSucc]; rfl

/-- The points of one key head, summed: the latent rows of its four query heads, then the context's rows. -/
theorem sum_points (A : Fin 2 → Fin 4 → Fin 4096 → EReal) (C : Fin 2 → Fin 4 → EReal) (f : ℕ → EReal)
    (hL : ∀ n, n % 17 ≤ 15 → f n = ∑ r : Fin 256, A (kvOf n) (gOf n) (rlOf n r)) (hC : ∀ n, n % 17 = 16 → f n = C (kvOf n) (gOf n)) (kv : Fin 2) :
    ∑ k ∈ Finset.range 68, f (68 * kv.val + k) = (∑ g, ∑ r, A kv g r) + ∑ g, C kv g := by
  rw [sum_runs fun k => f (68 * kv.val + k), ← Finset.sum_add_distrib]
  refine Finset.sum_congr rfl fun g _ => congrArg₂ (· + ·) ?_ ?_
  · rw [Fin.sum_univ_tiles 16 256 rfl]
    refine Finset.sum_congr rfl fun i _ => ?_
    rw [hL _ (by omega)]
    refine Finset.sum_congr rfl fun r _ => ?_
    have e1 : kvOf (68 * kv.val + (g.val * 17 + i.val)) = kv := Fin.ext (by simp only [kvOf]; omega)
    have e2 : gOf (68 * kv.val + (g.val * 17 + i.val)) = g := Fin.ext (by simp only [gOf]; omega)
    have e3 : rlOf (68 * kv.val + (g.val * 17 + i.val)) r = ⟨i.val * 256 + r.val, by omega⟩ := Fin.ext (by simp only [rlOf]; omega)
    rw [e1, e2, e3]
  · rw [hC _ (by omega)]
    have e1 : kvOf (68 * kv.val + (g.val * 17 + 16)) = kv := Fin.ext (by simp only [kvOf]; omega)
    have e2 : gOf (68 * kv.val + (g.val * 17 + 16)) = g := Fin.ext (by simp only [gOf]; omega)
    rw [e1, e2]

theorem idx5 : ∀ t : Fin cfg0.N, win0_5.index t = ![t.val % 17, t.val / 17] :=
  (by decide +kernel : ∀ t : Fin grid0.N, win0_5.index t = ![t.val % 17, t.val / 17])
theorem idx6 : ∀ t : Fin cfg0.N, win0_6.index t = ![0, t.val / 68] :=
  (by decide +kernel : ∀ t : Fin grid0.N, win0_6.index t = ![0, t.val / 68])
theorem idx7 : ∀ t : Fin cfg0.N, win0_7.index t = ![0, t.val / 68] :=
  (by decide +kernel : ∀ t : Fin grid0.N, win0_7.index t = ![0, t.val / 68])
theorem flush6 : ∀ t : Fin cfg0.N, (cfg0.win 6).flush t = true → t.val % 68 = 67 := by decide +kernel
theorem flush7 : ∀ t : Fin cfg0.N, (cfg0.win 7).flush t = true → t.val % 68 = 67 := by decide +kernel

/-- Where a block of each result lands in its array. -/
theorem place5 (t : Fin cfg0.N) (r : Fin 256) (d : Fin 128) (X : FVec Ideal S4352x1024 .bf16) :
    X ((win0_5.blk t).view.emb (ix2 r d : S256x128.Idx)) = X (ix2 (rowOf t.val r) (Spec.qc (kvOf t.val) (gOf t.val) d)) := by
  have ht : t.val < 136 := lt_of_lt_of_eq t.isLt N_0
  blk_ext [idx5 t] <;> simp only [rowOf, Spec.qc, kvOf, gOf] <;> omega
theorem place6 (t : Fin cfg0.N) (s : Fin 4352) (d : Fin 128) (X : FVec Ideal S4352x256 .f32) :
    X ((win0_6.blk t).view.emb (ix2 s d : S4352x128.Idx)) = X (ix2 s (Spec.kc (kvOf t.val) d)) := by
  have ht : t.val < 136 := lt_of_lt_of_eq t.isLt N_0
  blk_ext [idx6 t]
  simp only [Spec.kc, kvOf]
  omega
theorem place7 (t : Fin cfg0.N) (s : Fin 4352) (d : Fin 128) (X : FVec Ideal S4352x256 .f32) :
    X ((win0_7.blk t).view.emb (ix2 s d : S4352x128.Idx)) = X (ix2 s (Spec.kc (kvOf t.val) d)) := by
  have ht : t.val < 136 := lt_of_lt_of_eq t.isLt N_0
  blk_ext [idx7 t]
  simp only [Spec.kc, kvOf]
  omega

section
variable {m : (ℓ : Loc nD τ sig) → Buf (Elt Ideal) ℓ} {c : Dev nD} (H : Finite m c)
include H

/-- The arrays the kernel leaves are the reference's gradients. -/
theorem array_dq : (dats m 0 c).arrAt 5 cfg0.N
    = Cert.ReferenceIdeal.AttnR.DQ (m ((c.tc : Thread nD τ).loc main_arg0)) (m ((c.tc : Thread nD τ).loc main_arg3)) (m ((c.tc : Thread nD τ).loc main_arg1)) (m ((c.tc : Thread nD τ).loc main_arg2)) := by
  refine (dats m 0 c).arrAt_eq_of_covers 5 _ (by decide +kernel) fun t hf y => ?_
  blk_simp
  rw [after0_5]
  obtain ⟨r, d, rfl⟩ : ∃ (r : Fin 256) (d : Fin 128), y = (ix2 r d : S256x128.Idx) := ⟨_, _, (ix2_eta y).symm⟩
  refine Eq.trans ?_ (place5 t r d _).symm
  by_cases h : t.val % 17 ≤ 15
  · rw [rowOf_latent t.val h, Cert.ReferenceIdeal.AttnR.DQ_latent]
    exact dq_latent H t h r d
  · rw [rowOf_context t.val (by omega), Cert.ReferenceIdeal.AttnR.DQ_context]
    exact dq_context H t (by omega) r d

/-- The sum of a key head's points: what the latent rows add, and for a context row what the context adds. -/
theorem run_dk (kv : Fin 2) (s : Fin 4352) (d : Fin 128) :
    ∑ k ∈ Finset.range 68, addK m c (68 * kv.val + k) (ix2 s d)
      = Spec.dkL (Q m c) (O m c) (K m c) (Vv m c) kv s d
        + if 4096 ≤ s.val then Spec.dkC (Q m c) (O m c) (K m c) (Vv m c) kv ⟨s.val % 256, Nat.mod_lt _ (by norm_num)⟩ d else 0 := by
  by_cases hs : 4096 ≤ s.val
  · rw [if_pos hs]
    exact sum_points (fun kv g r => Spec.dsL (Q m c) (O m c) (K m c) (Vv m c) kv g r s * Q m c (Spec.rl r) (Spec.qc kv g d))
      (fun kv g => ∑ r : Fin 256, Spec.dsC (Q m c) (O m c) (K m c) (Vv m c) kv g r ⟨s.val % 256, Nat.mod_lt _ (by norm_num)⟩ * Q m c (Spec.rc r) (Spec.qc kv g d))
      (fun n => addK m c n (ix2 s d)) (fun n hn => by rw [addK, if_pos hn]; rfl)
      (fun n hn => by rw [addK, if_neg (by omega), if_pos (show 4096 ≤ ((ix2 s d : S4352x128.Idx) 0).val from hs)]; rfl) kv
  · rw [if_neg hs]
    refine (sum_points (fun kv g r => Spec.dsL (Q m c) (O m c) (K m c) (Vv m c) kv g r s * Q m c (Spec.rl r) (Spec.qc kv g d))
      (fun kv g => 0) (fun n => addK m c n (ix2 s d)) (fun n hn => by rw [addK, if_pos hn]; rfl)
      (fun n hn => by rw [addK, if_neg (by omega), if_neg (show ¬4096 ≤ ((ix2 s d : S4352x128.Idx) 0).val from hs)]) kv).trans ?_
    rw [Finset.sum_const_zero]
    rfl

theorem run_dv (kv : Fin 2) (s : Fin 4352) (d : Fin 128) :
    ∑ k ∈ Finset.range 68, addV m c (68 * kv.val + k) (ix2 s d)
      = Spec.dvL (Q m c) (O m c) (K m c) kv s d
        + if 4096 ≤ s.val then Spec.dvC (Q m c) (O m c) (K m c) kv ⟨s.val % 256, Nat.mod_lt _ (by norm_num)⟩ d else 0 := by
  by_cases hs : 4096 ≤ s.val
  · rw [if_pos hs]
    exact sum_points (fun kv g r => Spec.pL (Q m c) (K m c) kv g r s * O m c (Spec.rl r) (Spec.qc kv g d))
      (fun kv g => ∑ r : Fin 256, Spec.pC (Q m c) (K m c) kv g r ⟨s.val % 256, Nat.mod_lt _ (by norm_num)⟩ * O m c (Spec.rc r) (Spec.qc kv g d))
      (fun n => addV m c n (ix2 s d)) (fun n hn => by rw [addV, if_pos hn]; rfl)
      (fun n hn => by rw [addV, if_neg (by omega), if_pos (show 4096 ≤ ((ix2 s d : S4352x128.Idx) 0).val from hs)]; rfl) kv
  · rw [if_neg hs]
    refine (sum_points (fun kv g r => Spec.pL (Q m c) (K m c) kv g r s * O m c (Spec.rl r) (Spec.qc kv g d))
      (fun kv g => 0) (fun n => addV m c n (ix2 s d)) (fun n hn => by rw [addV, if_pos hn]; rfl)
      (fun n hn => by rw [addV, if_neg (by omega), if_neg (show ¬4096 ≤ ((ix2 s d : S4352x128.Idx) 0).val from hs)]) kv).trans ?_
    rw [Finset.sum_const_zero]
    rfl

theorem array_dk : (dats m 0 c).arrAt 6 cfg0.N
    = Cert.ReferenceIdeal.AttnR.DK (m ((c.tc : Thread nD τ).loc main_arg0)) (m ((c.tc : Thread nD τ).loc main_arg3)) (m ((c.tc : Thread nD τ).loc main_arg1)) (m ((c.tc : Thread nD τ).loc main_arg2)) := by
  refine (dats m 0 c).arrAt_eq_of_covers 6 _ (by decide +kernel) fun t hf y => ?_
  blk_simp
  have ht : t.val < 136 := lt_of_lt_of_eq t.isLt N_0
  have hr : t.val % 68 = 67 := flush6 t hf
  have hk : t.val / 68 = (kvOf t.val).val := by simp only [kvOf]; omega
  obtain ⟨s, d, rfl⟩ : ∃ (s : Fin 4352) (d : Fin 128), y = (ix2 s d : S4352x128.Idx) := ⟨_, _, (ix2_eta y).symm⟩
  refine Eq.trans ?_ (place6 t s d _).symm
  rw [after0_6]
  refine (Pipeline.eq_sum_of_reset_step_apply_of_mod (fun n h => (outsAt0 m c n h).2.1) 68 (fun _ => (0 : EReal)) (addK m c)
    (dk_reset H) (dk_step H) t hr (ix2 s d)).trans ?_
  rw [hk, zero_add, run_dk H]
  by_cases hs : 4096 ≤ s.val
  · conv_rhs => rw [context_row s hs]
    rw [if_pos hs, Cert.ReferenceIdeal.AttnR.DK_context, ← context_row s hs, add_comm]
    rfl
  · rw [if_neg hs, Cert.ReferenceIdeal.AttnR.DK_latent _ _ _ _ _ _ _ (by omega), add_zero]
    rfl

theorem array_dv : (dats m 0 c).arrAt 7 cfg0.N
    = Cert.ReferenceIdeal.AttnR.DV (m ((c.tc : Thread nD τ).loc main_arg0)) (m ((c.tc : Thread nD τ).loc main_arg3)) (m ((c.tc : Thread nD τ).loc main_arg1)) := by
  refine (dats m 0 c).arrAt_eq_of_covers 7 _ (by decide +kernel) fun t hf y => ?_
  blk_simp
  have ht : t.val < 136 := lt_of_lt_of_eq t.isLt N_0
  have hr : t.val % 68 = 67 := flush7 t hf
  have hk : t.val / 68 = (kvOf t.val).val := by simp only [kvOf]; omega
  obtain ⟨s, d, rfl⟩ : ∃ (s : Fin 4352) (d : Fin 128), y = (ix2 s d : S4352x128.Idx) := ⟨_, _, (ix2_eta y).symm⟩
  refine Eq.trans ?_ (place7 t s d _).symm
  rw [after0_7]
  refine (Pipeline.eq_sum_of_reset_step_apply_of_mod (fun n h => (outsAt0 m c n h).2.2) 68 (fun _ => (0 : EReal)) (addV m c)
    (dv_reset H) (dv_step H) t hr (ix2 s d)).trans ?_
  rw [hk, zero_add, run_dv H]
  by_cases hs : 4096 ≤ s.val
  · conv_rhs => rw [context_row s hs]
    rw [if_pos hs, Cert.ReferenceIdeal.AttnR.DV_context, ← context_row s hs, add_comm]
    rfl
  · rw [if_neg hs, Cert.ReferenceIdeal.AttnR.DV_latent _ _ _ _ _ _ (by omega), add_zero]
    rfl
end
end Cert.KernelIdeal.AttnK
end
-- ==== Proof.AttnFinite.lean ====
/-
  What the precondition says: every entry of the four arguments is a number.
-/
module
public import proofs.«01_k».proof.Proof.AttnStep
public import proofs.«01_k».proof.Defs
public import proofs.«01_k».proof.Proof.Gen.Pre_finite
@[expose] public section
set_option maxRecDepth 16384
noncomputable section
namespace Cert.KernelIdeal.AttnK
open Cert.KernelIdeal Cert.KernelIdeal.Gen Idealize.ShloMosaic Idealize.ShloMosaic.TcCoe Idealize.SL.Sem
open Cert.Proof Cert.Proof.Row
open scoped BigOperators

/-- An entry whose absolute value reads as less than infinity is a number. -/
theorem entry_fin (x : Ideal .bf16) (h : BitVec.ofBool (decide ((FloatOps.absf x : Ideal .bf16) < Ideal.ofBits FTy.f32 2139095040#32)) = 1#1) : Fin' x := by
  have e : Ideal.ofBits FTy.f32 2139095040#32 = ⊤ := by simp [Ideal.ofBits, Ideal.ieee]
  rw [e] at h
  have h' : max (x : EReal) (-x) < ⊤ := by
    by_contra hn
    rw [show (FloatOps.absf x : Ideal .bf16) = max (x : EReal) (-x) from rfl, decide_eq_false hn] at h
    exact absurd h (by decide)
  refine ⟨fun hx => ?_, fun hx => ?_⟩
  · rw [hx] at h'; simp at h'
  · rw [hx] at h'; simp at h'

section
variable (q dO : FVec Ideal ⟨2, ![4352, 1024]⟩ .bf16) (k v : FVec Ideal ⟨2, ![4352, 256]⟩ .bf16)
variable (h : Cert.Pre_finite.fn (F := Ideal) q k v dO = fun _ => 1#1)
include h

theorem q_fin (r : Fin 4352) (j : Fin 1024) : Fin' (q (ix2 r j)) := by
  refine entry_fin _ (Eq.trans ?_ (congrFun h (ix2 r ⟨j.val, by omega⟩)))
  pointwise [Cert.Pre_finite.fn]
  rfl

theorem k_fin (r : Fin 4352) (j : Fin 256) : Fin' (k (ix2 r j)) := by
  refine entry_fin _ (Eq.trans ?_ (congrFun h (ix2 r ⟨1024 + j.val, by omega⟩)))
  pointwise [Cert.Pre_finite.fn]
  rfl

theorem v_fin (r : Fin 4352) (j : Fin 256) : Fin' (v (ix2 r j)) := by
  refine entry_fin _ (Eq.trans ?_ (congrFun h (ix2 r ⟨1280 + j.val, by omega⟩)))
  pointwise [Cert.Pre_finite.fn]
  rw [dif_neg (by omega), dif_neg (by omega), dif_pos (by omega)]
  simp only [show 1280 + j.val - 1024 - 256 = j.val by omega]
  rfl

theorem o_fin (r : Fin 4352) (j : Fin 1024) : Fin' (dO (ix2 r j)) := by
  refine entry_fin _ (Eq.trans ?_ (congrFun h (ix2 r ⟨1536 + j.val, by omega⟩)))
  pointwise [Cert.Pre_finite.fn]
  rw [dif_neg (by omega), dif_neg (by omega), dif_neg (by omega)]
  simp only [show 1536 + j.val - 1024 - 256 - 256 = j.val by omega]
  rfl
end

theorem finite_of_pre {m : (ℓ : Loc nD τ sig) → Buf (Elt Ideal) ℓ} (h : Cert.Pre_KernelIdeal_finite m) (c : Dev nD) : Finite m c where
  q := q_fin _ _ _ _ (h c)
  k := k_fin _ _ _ _ (h c)
  v := v_fin _ _ _ _ (h c)
  o := o_fin _ _ _ _ (h c)

end Cert.KernelIdeal.AttnK
end
-- ==== Proof.Product.lean ====
/-
  A matrix product whose inner dimension is walked in tiles: the sums that the accumulator of a block holds, for any
  number of tiles, and the product of one pair of blocks.
-/
module

public import Idealize.ShloMosaic.Lib.Pipeline.ValueKit

@[expose] public section

noncomputable section

namespace Cert.Proof.Product

open Idealize.ShloMosaic
open scoped BigOperators

/-- An accumulator is set at the first of every `J` points, added to at the later ones, and at the last one the sum goes to
    the result instead: the result is the sum of the `J` terms. -/
theorem accumulated {N : ℕ} {ι : Type} (J : ℕ) (hJ : 2 ≤ J) (out acc : (n : ℕ) → n < N → ι → EReal) (term : ℕ → ι → EReal)
    (first : ∀ t : Fin N, t.val % J = 0 → ∀ i, acc t.val t.isLt i = term t.val i)
    (middle : ∀ t : Fin N, ¬t.val % J = 0 → ¬t.val % J = J - 1 → ∀ i,
      acc t.val t.isLt i = acc (t.val - 1) (Nat.lt_of_le_of_lt (Nat.sub_le _ _) t.isLt) i + term t.val i)
    (last : ∀ t : Fin N, t.val % J = J - 1 → ∀ i,
      out t.val t.isLt i = acc (t.val - 1) (Nat.lt_of_le_of_lt (Nat.sub_le _ _) t.isLt) i + term t.val i)
    (t : Fin N) (ht : t.val % J = J - 1) (i : ι) :
    out t.val t.isLt i = ∑ k ∈ Finset.range J, term (J * (t.val / J) + k) i := by
  have key := Pipeline.eq_sum_of_reset_step_apply_of_mod (fun n h => if n % J = J - 1 then out n h else acc n h) J (fun _ => (0 : EReal)) term
    (fun t h i => by
      rw [if_neg (by omega), zero_add]
      exact first t h i)
    (fun t h i => by
      have hp : ¬(t.val - 1) % J = J - 1 := by
        intro hp
        have e : t.val = t.val - 1 + 1 := by
          rcases Nat.eq_zero_or_pos t.val with h0 | h0
          · exact absurd (by rw [h0, Nat.zero_mod]) h
          · omega
        apply h
        rw [e, Nat.add_mod, hp, Nat.mod_eq_of_lt (show 1 < J by omega), show J - 1 + 1 = J by omega, Nat.mod_self]
      rw [if_neg hp]
      by_cases hl : t.val % J = J - 1
      · rw [if_pos hl]
        exact last t hl i
      · rw [if_neg hl]
        exact middle t h hl i) t ht i
  rw [if_pos ht, zero_add, show J - 1 + 1 = J by omega] at key
  exact key

/-- The rows of a matrix, and its columns. -/
def rows {R K : ℕ} (X : (⟨2, ![R, K]⟩ : Shape).Idx → EReal) (i : Fin R) (x : Fin K) : EReal := X (ix2 i x)
def cols {K C : ℕ} (X : (⟨2, ![K, C]⟩ : Shape).Idx → EReal) (j : Fin C) (x : Fin K) : EReal := X (ix2 x j)

/-- Every entry of the product: a row of the left factor against a column of the right one. -/
def prod {R C K : ℕ} (a : Fin R → Fin K → EReal) (b : Fin C → Fin K → EReal) : (⟨2, ![R, C]⟩ : Shape).Idx → EReal :=
  fun i => ∑ x : Fin K, a (i 0) x * b (i 1) x

/-- Place `r` of tile `q`, the tiles being `T` long, in a dimension of extent `R` (taken round it, so that it is one). -/
def place {T : ℕ} (R : ℕ) [NeZero R] (q : ℕ) (r : Fin T) : Fin R := ⟨(q * T + r.val) % R, Nat.mod_lt _ (NeZero.pos R)⟩

theorem place_val {T R : ℕ} [NeZero R] (q : ℕ) (r : Fin T) (h : q * T + r.val < R) : (place R q r).val = q * T + r.val :=
  Nat.mod_eq_of_lt h

/-- What tile `k` of the inner dimension adds to the product's entry at row `i` and column `j`: the left factor's row
    against the right factor's column, over the tile. -/
def part {R C K : ℕ} [NeZero K] (T : ℕ) (a : Fin R → Fin K → EReal) (b : Fin C → Fin K → EReal) (k : ℕ) (i : Fin R) (j : Fin C) : EReal :=
  ∑ l : Fin T, a i (place K k l) * b j (place K k l)

/-- The tiles of the inner dimension, in order, are the whole product. -/
theorem sum_part {R C K : ℕ} [NeZero K] (J T : ℕ) (hK : J * T = K) (a : Fin R → Fin K → EReal) (b : Fin C → Fin K → EReal) (i : Fin R) (j : Fin C) :
    ∑ k ∈ Finset.range J, part T a b k i j = ∑ x : Fin K, a i x * b j x := by
  rw [Finset.sum_range, Fin.sum_univ_tiles J T hK (fun x => a i x * b j x)]
  refine Finset.sum_congr rfl fun k _ => Finset.sum_congr rfl fun l _ => ?_
  have hlt : k.val * T + l.val < K := by
    have hj := k.isLt
    have ht := l.isLt
    subst hK
    calc k.val * T + l.val < k.val * T + T := by omega
      _ = (k.val + 1) * T := by rw [Nat.add_mul, Nat.one_mul]
      _ ≤ J * T := Nat.mul_le_mul_right _ hj
  have e : place K k.val l = ⟨k.val * T + l.val, hlt⟩ := Fin.ext (place_val _ _ hlt)
  rw [e]

/-- The product, block by block: a block's accumulator is set at the first of its `J` points and added to at the later
    ones, each point adding its tile; the block's rows and columns are fixed over its points. What goes to the result at
    the last point is the whole product at the block's rows and columns. -/
theorem blocked {N R C K : ℕ} [NeZero R] [NeZero C] [NeZero K] {tr tc : ℕ} (J T : ℕ) (hJ : 2 ≤ J) (hK : J * T = K)
    (a : Fin R → Fin K → EReal) (b : Fin C → Fin K → EReal) (p q : ℕ → ℕ)
    (out acc : (n : ℕ) → n < N → (⟨2, ![tr, tc]⟩ : Shape).Idx → EReal)
    (first : ∀ t : Fin N, t.val % J = 0 → ∀ (r : Fin tr) (s : Fin tc),
      acc t.val t.isLt (ix2 r s) = part T a b (t.val % J) (place R (p (t.val / J)) r) (place C (q (t.val / J)) s))
    (middle : ∀ t : Fin N, ¬t.val % J = 0 → ¬t.val % J = J - 1 → ∀ (r : Fin tr) (s : Fin tc),
      acc t.val t.isLt (ix2 r s) = acc (t.val - 1) (Nat.lt_of_le_of_lt (Nat.sub_le _ _) t.isLt) (ix2 r s)
        + part T a b (t.val % J) (place R (p (t.val / J)) r) (place C (q (t.val / J)) s))
    (last : ∀ t : Fin N, t.val % J = J - 1 → ∀ (r : Fin tr) (s : Fin tc),
      out t.val t.isLt (ix2 r s) = acc (t.val - 1) (Nat.lt_of_le_of_lt (Nat.sub_le _ _) t.isLt) (ix2 r s)
        + part T a b (t.val % J) (place R (p (t.val / J)) r) (place C (q (t.val / J)) s))
    (t : Fin N) (ht : t.val % J = J - 1) (r : Fin tr) (s : Fin tc) :
    out t.val t.isLt (ix2 r s) = ∑ x : Fin K, a (place R (p (t.val / J)) r) x * b (place C (q (t.val / J)) s) x := by
  refine (accumulated J hJ (fun n h (y : Fin tr × Fin tc) => out n h (ix2 y.1 y.2)) (fun n h (y : Fin tr × Fin tc) => acc n h (ix2 y.1 y.2))
    (fun n y => part T a b (n % J) (place R (p (n / J)) y.1) (place C (q (n / J)) y.2))
    (fun t h y => first t h y.1 y.2) (fun t h h' y => middle t h h' y.1 y.2) (fun t h y => last t h y.1 y.2) t ht (r, s)).trans ?_
  rw [← sum_part J T hK]
  refine Finset.sum_congr rfl fun k hk => ?_
  have hk' : k < J := Finset.mem_range.mp hk
  have hpos : 0 < J := by omega
  have e1 : (J * (t.val / J) + k) % J = k := by rw [Nat.mul_add_mod, Nat.mod_eq_of_lt hk']
  have e2 : (J * (t.val / J) + k) / J = t.val / J := by
    rw [Nat.mul_add_div hpos, Nat.div_eq_of_lt hk', Nat.add_zero]
  show part T a b ((J * (t.val / J) + k) % J) _ _ = _
  rw [e1, e2]

/-- The same of two tiles. -/
theorem blocked_two {N R C K : ℕ} [NeZero R] [NeZero C] [NeZero K] {tr tc : ℕ} (T : ℕ) (hK : 2 * T = K)
    (a : Fin R → Fin K → EReal) (b : Fin C → Fin K → EReal) (p q : ℕ → ℕ)
    (out acc : (n : ℕ) → n < N → (⟨2, ![tr, tc]⟩ : Shape).Idx → EReal)
    (first : ∀ t : Fin N, t.val % 2 = 0 → ∀ (r : Fin tr) (s : Fin tc),
      acc t.val t.isLt (ix2 r s) = part T a b (t.val % 2) (place R (p (t.val / 2)) r) (place C (q (t.val / 2)) s))
    (last : ∀ t : Fin N, t.val % 2 = 1 → ∀ (r : Fin tr) (s : Fin tc),
      out t.val t.isLt (ix2 r s) = acc (t.val - 1) (Nat.lt_of_le_of_lt (Nat.sub_le _ _) t.isLt) (ix2 r s)
        + part T a b (t.val % 2) (place R (p (t.val / 2)) r) (place C (q (t.val / 2)) s))
    (t : Fin N) (ht : t.val % 2 = 1) (r : Fin tr) (s : Fin tc) :
    out t.val t.isLt (ix2 r s) = ∑ x : Fin K, a (place R (p (t.val / 2)) r) x * b (place C (q (t.val / 2)) s) x :=
  blocked 2 T le_rfl hK a b p q out acc first (fun t h h' => absurd (by omega : t.val % 2 = 2 - 1) h') last t ht r s

end Cert.Proof.Product

end
-- ==== Proof.UpGradA.lean ====
/-
  The gradient of the up-projection's input: each entry is a row of the incoming gradient against a row of the weights, and
  the kernel sums it over four tiles of the inner dimension.
-/
module

public import proofs.«01_k».proof.Proof.Product
public import Idealize.ShloMosaic.Lib.Pipeline.ReadBack
public import proofs.«01_k».proof.Proof.Gen.UpGradAIdeal.Value
public import proofs.«01_k».proof.Proof.Gen.UpGradARefIdeal.Run

@[expose] public section

set_option maxRecDepth 16384

noncomputable section

namespace Cert.UpGradAIdeal.Hand

open Cert.UpGradAIdeal Cert.UpGradAIdeal.Gen Idealize.ShloMosaic Idealize.ShloMosaic.TcCoe Idealize.SL.Sem
open Cert.Proof.Product
open scoped BigOperators

theorem reference (dy : FVec Ideal S4352x11264 .bf16) (w : FVec Ideal S2048x11264 .bf16) (h) (h') :
    (truncf .bf16 (Host.dotGeneral (F := Ideal) Cert.UpGradARefIdeal.dot_S4352x11264_S2048x11264_S4352x2048_1_1_0_0_n_n none
      (extf .f32 dy h) (extf .f32 w h)) h' : FVec Ideal S4352x2048 .bf16) = prod (rows dy) (rows w) := by
  funext i
  obtain ⟨r, s, rfl⟩ : ∃ (r : Fin 4352) (s : Fin 2048), i = ix2 r s := ⟨_, _, (ix2_eta i).symm⟩
  unfold prod rows
  pointwise

section

variable (a : FVec Ideal S1088x2816 .bf16) (b : FVec Ideal S1024x2816 .bf16) (acc : FVec Ideal S1088x1024 .f32) (r : Fin 1088) (s : Fin 1024)

theorem pay2_apply : k0_pay2 (F := Ideal) a b (ix2 r s) = ∑ l : Fin 2816, a (ix2 r l) * b (ix2 s l) := by
  pointwise [k0_pay2, k0_pay1]

theorem pay3_apply : k0_pay3 (F := Ideal) a b acc (ix2 r s) = acc (ix2 r s) + ∑ l : Fin 2816, a (ix2 r l) * b (ix2 s l) := by
  pointwise [k0_pay3, k0_pay1]

theorem pay4_apply : k0_pay4 (F := Ideal) a b acc (ix2 r s) = acc (ix2 r s) + ∑ l : Fin 2816, a (ix2 r l) * b (ix2 s l) := by
  pointwise [k0_pay4, k0_pay1]

end

theorem idx0 : ∀ t : Fin cfg0.N, win0_0.index t = ![t.val / 4 / 2, t.val % 4] :=
  (by decide +kernel : ∀ t : Fin grid0.N, win0_0.index t = ![t.val / 4 / 2, t.val % 4])
theorem idx1 : ∀ t : Fin cfg0.N, win0_1.index t = ![t.val / 4 % 2, t.val % 4] :=
  (by decide +kernel : ∀ t : Fin grid0.N, win0_1.index t = ![t.val / 4 % 2, t.val % 4])
theorem idx2 : ∀ t : Fin cfg0.N, win0_2.index t = ![t.val / 4 / 2, t.val / 4 % 2] :=
  (by decide +kernel : ∀ t : Fin grid0.N, win0_2.index t = ![t.val / 4 / 2, t.val / 4 % 2])
theorem flush2 : ∀ t : Fin cfg0.N, (cfg0.win 2).flush t = true → t.val % 4 = 3 := by decide +kernel

section

variable (m : (ℓ : Loc nD τ sig) → Buf (Elt Ideal) ℓ) (c : Dev nD)

/-- The two arguments, and a point's block of each. -/
def dy : FVec Ideal S4352x11264 .bf16 := m ((c.tc : Thread nD τ).loc main_arg0)
def w : FVec Ideal S2048x11264 .bf16 := m ((c.tc : Thread nD τ).loc main_arg1)
def dyBlock (t : Fin cfg0.N) : FVec Ideal S1088x2816 .bf16 := iblk m c 0 t
def wBlock (t : Fin cfg0.N) : FVec Ideal S1024x2816 .bf16 := iblk m c 1 t

/-- What a point adds at a place of its block: the part of the whole product in the point's tile. -/
def add (t : Fin cfg0.N) (r : Fin 1088) (s : Fin 1024) : EReal :=
  part 2816 (rows (dy m c)) (rows (w m c)) (t.val % 4) (place 4352 (t.val / 4 / 2) r) (place 2048 (t.val / 4 % 2) s)

theorem tile (t : Fin cfg0.N) (r : Fin 1088) (s : Fin 1024) :
    ∑ l : Fin 2816, dyBlock m c t (ix2 r l) * wBlock m c t (ix2 s l) = add m c t r s := by
  have ht : t.val < 32 := lt_of_lt_of_eq t.isLt N_0
  unfold add part
  refine Finset.sum_congr rfl fun l _ => congrArg₂ (fun x y : EReal => x * y) ?_ ?_
  · unfold rows dy dyBlock
    blk_ext [iblk, V, idx0 t] <;> simp only [place] <;> omega
  · unfold rows w wBlock
    blk_ext [iblk, V, idx1 t] <;> simp only [place] <;> omega

/-- A block's accumulator at its first point, at a later one, and what goes to the result at the last. -/
theorem first (t : Fin cfg0.N) (h : t.val % 4 = 0) (r : Fin 1088) (s : Fin 1024) : (outsAt0 m c t.val t.isLt).2 (ix2 r s) = add m c t r s := by
  rw [outsAt0_A m c t h (by omega) (by omega)]
  frame_out
  exact (pay2_apply _ _ r s).trans (tile m c t r s)

theorem middle (t : Fin cfg0.N) (h : ¬t.val % 4 = 0) (h' : ¬t.val % 4 = 3) (r : Fin 1088) (s : Fin 1024) :
    (outsAt0 m c t.val t.isLt).2 (ix2 r s) = (outsAt0 m c (t.val - 1) (Nat.lt_of_le_of_lt (Nat.sub_le _ _) t.isLt)).2 (ix2 r s) + add m c t r s := by
  rw [outsAt0_B m c t h (by omega) (by omega)]
  frame_out
  simp only [read_unread_whole]
  exact (pay3_apply _ _ _ r s).trans (congrArg (_ + ·) (tile m c t r s))

theorem last (t : Fin cfg0.N) (h : t.val % 4 = 3) (r : Fin 1088) (s : Fin 1024) :
    (outsAt0 m c t.val t.isLt).1 (ix2 r s) = (outsAt0 m c (t.val - 1) (Nat.lt_of_le_of_lt (Nat.sub_le _ _) t.isLt)).2 (ix2 r s) + add m c t r s := by
  rw [outsAt0_C m c t (by omega) (by omega) h]
  frame_out
  simp only [read_unread_whole]
  exact (pay4_apply _ _ _ r s).trans (congrArg (_ + ·) (tile m c t r s))

/-- The result the kernel leaves. -/
theorem array : (dats m 0 c).arrAt 2 cfg0.N = prod (rows (dy m c)) (rows (w m c)) := by
  refine (dats m 0 c).arrAt_eq_of_covers 2 _ (by decide +kernel) fun t hf y => ?_
  blk_simp
  have ht : t.val < 32 := lt_of_lt_of_eq t.isLt N_0
  obtain ⟨r, s, rfl⟩ : ∃ (r : Fin 1088) (s : Fin 1024), y = (ix2 r s : S1088x1024.Idx) := ⟨_, _, (ix2_eta y).symm⟩
  rw [after0_2]
  have at_place : ∀ X : FVec Ideal S4352x2048 .bf16, X ((win0_2.blk t).view.emb (ix2 r s : S1088x1024.Idx))
      = X (ix2 (place 4352 (t.val / 4 / 2) r) (place 2048 (t.val / 4 % 2) s)) := fun X => by
    blk_ext [idx2 t] <;> simp only [place] <;> omega
  exact (blocked 4 2816 (by norm_num) rfl (rows (dy m c)) (rows (w m c)) (· / 2) (· % 2) (fun n h => (outsAt0 m c n h).1)
    (fun n h => (outsAt0 m c n h).2) (first m c) (middle m c) (last m c) t (flush2 t hf) r s).trans (at_place (prod (rows (dy m c)) (rows (w m c)))).symm

end

end Cert.UpGradAIdeal.Hand

end
-- ==== Proof.UpGradW.lean ====
/-
  The gradient of the up-projection's weights: each entry is a column of the saved input against a column of the incoming
  gradient, and the kernel sums it over two tiles of the rows.
-/
module

public import proofs.«01_k».proof.Proof.Product
public import Idealize.ShloMosaic.Lib.Pipeline.ReadBack
public import proofs.«01_k».proof.Proof.Gen.UpGradWIdeal.Value
public import proofs.«01_k».proof.Proof.Gen.UpGradWRefIdeal.Run

@[expose] public section

set_option maxRecDepth 16384

noncomputable section

namespace Cert.UpGradWIdeal.Hand

open Cert.UpGradWIdeal Cert.UpGradWIdeal.Gen Idealize.ShloMosaic Idealize.ShloMosaic.TcCoe Idealize.SL.Sem
open Cert.Proof.Product
open scoped BigOperators

theorem reference (a : FVec Ideal S4352x2048 .bf16) (dy : FVec Ideal S4352x11264 .bf16) (h) (h') (h'') :
    (truncf .bf16 (transpose S2048x11264 [1, 0] (Host.dotGeneral (F := Ideal) Cert.UpGradWRefIdeal.dot_S4352x11264_S4352x2048_S11264x2048_0_0_1_1_n_n none
      (extf .f32 dy h) (extf .f32 a h)) h') h'' : FVec Ideal S2048x11264 .bf16) = prod (cols a) (cols dy) := by
  funext i
  obtain ⟨r, s, rfl⟩ : ∃ (r : Fin 2048) (s : Fin 11264), i = ix2 r s := ⟨_, _, (ix2_eta i).symm⟩
  unfold prod cols
  pointwise
  exact Finset.sum_congr rfl fun x _ => mul_comm _ _

section

variable (a : FVec Ideal S2176x1024 .bf16) (b : FVec Ideal S2176x1024 .bf16) (acc : FVec Ideal S1024x1024 .f32) (r : Fin 1024) (s : Fin 1024)

theorem pay2_apply : k0_pay2 (F := Ideal) a b (ix2 r s) = ∑ l : Fin 2176, a (ix2 l r) * b (ix2 l s) := by
  pointwise [k0_pay2, k0_pay1]

theorem pay4_apply : k0_pay4 (F := Ideal) a b acc (ix2 r s) = acc (ix2 r s) + ∑ l : Fin 2176, a (ix2 l r) * b (ix2 l s) := by
  pointwise [k0_pay4, k0_pay1]

end

theorem idx0 : ∀ t : Fin cfg0.N, win0_0.index t = ![t.val % 2, t.val / 2 / 11] :=
  (by decide +kernel : ∀ t : Fin grid0.N, win0_0.index t = ![t.val % 2, t.val / 2 / 11])
theorem idx1 : ∀ t : Fin cfg0.N, win0_1.index t = ![t.val % 2, t.val / 2 % 11] :=
  (by decide +kernel : ∀ t : Fin grid0.N, win0_1.index t = ![t.val % 2, t.val / 2 % 11])
theorem idx2 : ∀ t : Fin cfg0.N, win0_2.index t = ![t.val / 2 / 11, t.val / 2 % 11] :=
  (by decide +kernel : ∀ t : Fin grid0.N, win0_2.index t = ![t.val / 2 / 11, t.val / 2 % 11])
theorem flush2 : ∀ t : Fin cfg0.N, (cfg0.win 2).flush t = true → t.val % 2 = 1 := by decide +kernel

section

variable (m : (ℓ : Loc nD τ sig) → Buf (Elt Ideal) ℓ) (c : Dev nD)

/-- The two arguments, and a point's block of each. -/
def a : FVec Ideal S4352x2048 .bf16 := m ((c.tc : Thread nD τ).loc main_arg0)
def dy : FVec Ideal S4352x11264 .bf16 := m ((c.tc : Thread nD τ).loc main_arg1)
def aBlock (t : Fin cfg0.N) : FVec Ideal S2176x1024 .bf16 := iblk m c 0 t
def dyBlock (t : Fin cfg0.N) : FVec Ideal S2176x1024 .bf16 := iblk m c 1 t

/-- What a point adds at a place of its block: the part of the whole product in the point's tile. -/
def add (t : Fin cfg0.N) (r : Fin 1024) (s : Fin 1024) : EReal :=
  part 2176 (cols (a m c)) (cols (dy m c)) (t.val % 2) (place 2048 (t.val / 2 / 11) r) (place 11264 (t.val / 2 % 11) s)

theorem tile (t : Fin cfg0.N) (r : Fin 1024) (s : Fin 1024) :
    ∑ l : Fin 2176, aBlock m c t (ix2 l r) * dyBlock m c t (ix2 l s) = add m c t r s := by
  have ht : t.val < 44 := lt_of_lt_of_eq t.isLt N_0
  unfold add part
  refine Finset.sum_congr rfl fun l _ => congrArg₂ (fun x y : EReal => x * y) ?_ ?_
  · unfold cols a aBlock
    blk_ext [iblk, V, idx0 t] <;> simp only [place] <;> omega
  · unfold cols dy dyBlock
    blk_ext [iblk, V, idx1 t] <;> simp only [place] <;> omega

/-- A block's accumulator at its first point, and what goes to the result at the last. -/
theorem first (t : Fin cfg0.N) (h : t.val % 2 = 0) (r : Fin 1024) (s : Fin 1024) : (outsAt0 m c t.val t.isLt).2 (ix2 r s) = add m c t r s := by
  rw [outsAt0_A m c t h (by omega)]
  frame_out
  exact (pay2_apply _ _ r s).trans (tile m c t r s)

theorem last (t : Fin cfg0.N) (h : t.val % 2 = 1) (r : Fin 1024) (s : Fin 1024) :
    (outsAt0 m c t.val t.isLt).1 (ix2 r s) = (outsAt0 m c (t.val - 1) (Nat.lt_of_le_of_lt (Nat.sub_le _ _) t.isLt)).2 (ix2 r s) + add m c t r s := by
  rw [outsAt0_B m c t (by omega) h]
  frame_out
  simp only [read_unread_whole]
  exact (pay4_apply _ _ _ r s).trans (congrArg (_ + ·) (tile m c t r s))

/-- The result the kernel leaves. -/
theorem array : (dats m 0 c).arrAt 2 cfg0.N = prod (cols (a m c)) (cols (dy m c)) := by
  refine (dats m 0 c).arrAt_eq_of_covers 2 _ (by decide +kernel) fun t hf y => ?_
  blk_simp
  have ht : t.val < 44 := lt_of_lt_of_eq t.isLt N_0
  obtain ⟨r, s, rfl⟩ : ∃ (r : Fin 1024) (s : Fin 1024), y = (ix2 r s : S1024x1024.Idx) := ⟨_, _, (ix2_eta y).symm⟩
  rw [after0_2]
  have at_place : ∀ X : FVec Ideal S2048x11264 .bf16, X ((win0_2.blk t).view.emb (ix2 r s : S1024x1024.Idx))
      = X (ix2 (place 2048 (t.val / 2 / 11) r) (place 11264 (t.val / 2 % 11) s)) := fun X => by
    blk_ext [idx2 t] <;> simp only [place] <;> omega
  exact (blocked_two 2176 rfl (cols (a m c)) (cols (dy m c)) (· / 11) (· % 11) (fun n h => (outsAt0 m c n h).1)
    (fun n h => (outsAt0 m c n h).2) (first m c) (last m c) t (flush2 t hf) r s).trans (at_place (prod (cols (a m c)) (cols (dy m c)))).symm

end

end Cert.UpGradWIdeal.Hand

end
-- ==== Proof.DownGradA.lean ====
/-
  The gradient of the down-projection's input: each entry is a row of the incoming gradient against a row of the weights; a
  block holds the whole inner dimension, so that each block is one product.
-/
module

public import proofs.«01_k».proof.Proof.Product
public import proofs.«01_k».proof.Proof.Gen.DownGradAIdeal.Value
public import proofs.«01_k».proof.Proof.Gen.DownGradARefIdeal.Run

@[expose] public section

set_option maxRecDepth 16384

noncomputable section

namespace Cert.DownGradAIdeal.Hand

open Cert.DownGradAIdeal Cert.DownGradAIdeal.Gen Idealize.ShloMosaic Idealize.ShloMosaic.TcCoe Idealize.SL.Sem
open Cert.Proof.Product
open scoped BigOperators

theorem reference (dy : FVec Ideal S4352x2048 .bf16) (w : FVec Ideal S5632x2048 .bf16) (h) (h') :
    (truncf .bf16 (Host.dotGeneral (F := Ideal) Cert.DownGradARefIdeal.dot_S4352x2048_S5632x2048_S4352x5632_1_1_0_0_n_n none
      (extf .f32 dy h) (extf .f32 w h)) h' : FVec Ideal S4352x5632 .bf16) = prod (rows dy) (rows w) := by
  funext i
  obtain ⟨r, s, rfl⟩ : ∃ (r : Fin 4352) (s : Fin 5632), i = ix2 r s := ⟨_, _, (ix2_eta i).symm⟩
  unfold prod rows
  pointwise

theorem pay1_apply (a : FVec Ideal S1088x2048 .bf16) (b : FVec Ideal S512x2048 .bf16) (r : Fin 1088) (s : Fin 512) :
    k0_pay1 (F := Ideal) a b (ix2 r s) = ∑ l : Fin 2048, a (ix2 r l) * b (ix2 s l) := by
  pointwise [k0_pay1]

theorem idx0 : ∀ t : Fin cfg0.N, win0_0.index t = ![t.val / 11, 0] :=
  (by decide +kernel : ∀ t : Fin grid0.N, win0_0.index t = ![t.val / 11, 0])
theorem idx1 : ∀ t : Fin cfg0.N, win0_1.index t = ![t.val % 11, 0] :=
  (by decide +kernel : ∀ t : Fin grid0.N, win0_1.index t = ![t.val % 11, 0])
theorem idx2 : ∀ t : Fin cfg0.N, win0_2.index t = ![t.val / 11, t.val % 11] :=
  (by decide +kernel : ∀ t : Fin grid0.N, win0_2.index t = ![t.val / 11, t.val % 11])

section

variable (m : (ℓ : Loc nD τ sig) → Buf (Elt Ideal) ℓ) (c : Dev nD)

/-- The two arguments, and a point's block of each. -/
def dy : FVec Ideal S4352x2048 .bf16 := m ((c.tc : Thread nD τ).loc main_arg0)
def w : FVec Ideal S5632x2048 .bf16 := m ((c.tc : Thread nD τ).loc main_arg1)
def dyBlock (t : Fin cfg0.N) : FVec Ideal S1088x2048 .bf16 := iblk m c 0 t
def wBlock (t : Fin cfg0.N) : FVec Ideal S512x2048 .bf16 := iblk m c 1 t

theorem tile (t : Fin cfg0.N) (r : Fin 1088) (s : Fin 512) : ∑ l : Fin 2048, dyBlock m c t (ix2 r l) * wBlock m c t (ix2 s l)
    = ∑ x : Fin 2048, rows (dy m c) (place 4352 (t.val / 11) r) x * rows (w m c) (place 5632 (t.val % 11) s) x := by
  have ht : t.val < 44 := lt_of_lt_of_eq t.isLt N_0
  refine Finset.sum_congr rfl fun l _ => congrArg₂ (fun x y : EReal => x * y) ?_ ?_
  · unfold rows dy dyBlock
    blk_ext [iblk, V, idx0 t] <;> simp only [place] <;> omega
  · unfold rows w wBlock
    blk_ext [iblk, V, idx1 t] <;> simp only [place] <;> omega

/-- The result the kernel leaves. -/
theorem array : (dats m 0 c).arrAt 2 cfg0.N = prod (rows (dy m c)) (rows (w m c)) := by
  refine (dats m 0 c).arrAt_eq_of_covers 2 _ (by decide +kernel) fun t hf y => ?_
  blk_simp
  have ht : t.val < 44 := lt_of_lt_of_eq t.isLt N_0
  obtain ⟨r, s, rfl⟩ : ∃ (r : Fin 1088) (s : Fin 512), y = (ix2 r s : S1088x512.Idx) := ⟨_, _, (ix2_eta y).symm⟩
  have at_place : ∀ X : FVec Ideal S4352x5632 .bf16, X ((win0_2.blk t).view.emb (ix2 r s : S1088x512.Idx))
      = X (ix2 (place 4352 (t.val / 11) r) (place 5632 (t.val % 11) s)) := fun X => by
    blk_ext [idx2 t] <;> simp only [place] <;> omega
  refine Eq.trans ?_ (at_place (prod (rows (dy m c)) (rows (w m c)))).symm
  rw [after0_2]
  frame_out
  exact (pay1_apply _ _ r s).trans (tile m c t r s)

end

end Cert.DownGradAIdeal.Hand

end
-- ==== Proof.DownGradW.lean ====
/-
  The gradient of the down-projection's weights: a column of the saved activation against a column of the incoming gradient,
  summed over two tiles of the rows.
-/
module

public import proofs.«01_k».proof.Proof.Product
public import Idealize.ShloMosaic.Lib.Pipeline.ReadBack
public import proofs.«01_k».proof.Proof.Gen.DownGradWIdeal.Value
public import proofs.«01_k».proof.Proof.Gen.DownGradWRefIdeal.Run

@[expose] public section

set_option maxRecDepth 16384

noncomputable section

namespace Cert.DownGradWIdeal.Hand

open Cert.DownGradWIdeal Cert.DownGradWIdeal.Gen Idealize.ShloMosaic Idealize.ShloMosaic.TcCoe Idealize.SL.Sem
open Cert.Proof.Product
open scoped BigOperators

theorem reference (a : FVec Ideal S4352x5632 .bf16) (dy : FVec Ideal S4352x2048 .bf16) (h) (h') (h'') :
    (truncf .bf16 (transpose S5632x2048 [1, 0] (Host.dotGeneral (F := Ideal) Cert.DownGradWRefIdeal.dot_S4352x2048_S4352x5632_S2048x5632_0_0_1_1_n_n none
      (extf .f32 dy h) (extf .f32 a h)) h') h'' : FVec Ideal S5632x2048 .bf16) = prod (cols a) (cols dy) := by
  funext i
  obtain ⟨r, s, rfl⟩ : ∃ (r : Fin 5632) (s : Fin 2048), i = ix2 r s := ⟨_, _, (ix2_eta i).symm⟩
  unfold prod cols
  pointwise
  exact Finset.sum_congr rfl fun x _ => mul_comm _ _

section

variable (a : FVec Ideal S2176x512 .bf16) (b : FVec Ideal S2176x1024 .bf16) (acc : FVec Ideal S512x1024 .f32) (r : Fin 512) (s : Fin 1024)

theorem pay2_apply : k0_pay2 (F := Ideal) a b (ix2 r s) = ∑ l : Fin 2176, a (ix2 l r) * b (ix2 l s) := by
  pointwise [k0_pay2, k0_pay1]

theorem pay4_apply : k0_pay4 (F := Ideal) a b acc (ix2 r s) = acc (ix2 r s) + ∑ l : Fin 2176, a (ix2 l r) * b (ix2 l s) := by
  pointwise [k0_pay4, k0_pay1]

end

theorem idx0 : ∀ t : Fin cfg0.N, win0_0.index t = ![t.val % 2, t.val / 2 / 2] :=
  (by decide +kernel : ∀ t : Fin grid0.N, win0_0.index t = ![t.val % 2, t.val / 2 / 2])
theorem idx1 : ∀ t : Fin cfg0.N, win0_1.index t = ![t.val % 2, t.val / 2 % 2] :=
  (by decide +kernel : ∀ t : Fin grid0.N, win0_1.index t = ![t.val % 2, t.val / 2 % 2])
theorem idx2 : ∀ t : Fin cfg0.N, win0_2.index t = ![t.val / 2 / 2, t.val / 2 % 2] :=
  (by decide +kernel : ∀ t : Fin grid0.N, win0_2.index t = ![t.val / 2 / 2, t.val / 2 % 2])
theorem flush2 : ∀ t : Fin cfg0.N, (cfg0.win 2).flush t = true → t.val % 2 = 1 := by decide +kernel

section

variable (m : (ℓ : Loc nD τ sig) → Buf (Elt Ideal) ℓ) (c : Dev nD)

/-- The two arguments, and a point's block of each. -/
def a : FVec Ideal S4352x5632 .bf16 := m ((c.tc : Thread nD τ).loc main_arg0)
def dy : FVec Ideal S4352x2048 .bf16 := m ((c.tc : Thread nD τ).loc main_arg1)
def aBlock (t : Fin cfg0.N) : FVec Ideal S2176x512 .bf16 := iblk m c 0 t
def dyBlock (t : Fin cfg0.N) : FVec Ideal S2176x1024 .bf16 := iblk m c 1 t

/-- What a point adds at a place of its block: the part of the whole product in the point's tile. -/
def add (t : Fin cfg0.N) (r : Fin 512) (s : Fin 1024) : EReal :=
  part 2176 (cols (a m c)) (cols (dy m c)) (t.val % 2) (place 5632 (t.val / 2 / 2) r) (place 2048 (t.val / 2 % 2) s)

theorem tile (t : Fin cfg0.N) (r : Fin 512) (s : Fin 1024) :
    ∑ l : Fin 2176, aBlock m c t (ix2 l r) * dyBlock m c t (ix2 l s) = add m c t r s := by
  have ht : t.val < 44 := lt_of_lt_of_eq t.isLt N_0
  unfold add part
  refine Finset.sum_congr rfl fun l _ => congrArg₂ (fun x y : EReal => x * y) ?_ ?_
  · unfold cols a aBlock
    blk_ext [iblk, V, idx0 t] <;> simp only [place] <;> omega
  · unfold cols dy dyBlock
    blk_ext [iblk, V, idx1 t] <;> simp only [place] <;> omega

/-- A block's accumulator at its first point, and what goes to the result at the last. -/
theorem first (t : Fin cfg0.N) (h : t.val % 2 = 0) (r : Fin 512) (s : Fin 1024) : (outsAt0 m c t.val t.isLt).2 (ix2 r s) = add m c t r s := by
  rw [outsAt0_A m c t h (by omega)]
  frame_out
  exact (pay2_apply _ _ r s).trans (tile m c t r s)

theorem last (t : Fin cfg0.N) (h : t.val % 2 = 1) (r : Fin 512) (s : Fin 1024) :
    (outsAt0 m c t.val t.isLt).1 (ix2 r s) = (outsAt0 m c (t.val - 1) (Nat.lt_of_le_of_lt (Nat.sub_le _ _) t.isLt)).2 (ix2 r s) + add m c t r s := by
  rw [outsAt0_B m c t (by omega) h]
  frame_out
  simp only [read_unread_whole]
  exact (pay4_apply _ _ _ r s).trans (congrArg (_ + ·) (tile m c t r s))

/-- The result the kernel leaves. -/
theorem array : (dats m 0 c).arrAt 2 cfg0.N = prod (cols (a m c)) (cols (dy m c)) := by
  refine (dats m 0 c).arrAt_eq_of_covers 2 _ (by decide +kernel) fun t hf y => ?_
  blk_simp
  have ht : t.val < 44 := lt_of_lt_of_eq t.isLt N_0
  obtain ⟨r, s, rfl⟩ : ∃ (r : Fin 512) (s : Fin 1024), y = (ix2 r s : S512x1024.Idx) := ⟨_, _, (ix2_eta y).symm⟩
  rw [after0_2]
  have at_place : ∀ X : FVec Ideal S5632x2048 .bf16, X ((win0_2.blk t).view.emb (ix2 r s : S512x1024.Idx))
      = X (ix2 (place 5632 (t.val / 2 / 2) r) (place 2048 (t.val / 2 % 2) s)) := fun X => by
    blk_ext [idx2 t] <;> simp only [place] <;> omega
  exact (blocked_two 2176 rfl (cols (a m c)) (cols (dy m c)) (· / 2) (· % 2) (fun n h => (outsAt0 m c n h).1)
    (fun n h => (outsAt0 m c n h).2) (first m c) (last m c) t (flush2 t hf) r s).trans (at_place (prod (cols (a m c)) (cols (dy m c)))).symm

end

end Cert.DownGradWIdeal.Hand

end
-- ==== Proof.InGradA.lean ====
/-
  The gradient of the mixers' input: each entry is a row of the incoming gradient against a row of the weights, summed over
  two tiles of the inner dimension.
-/
module

public import proofs.«01_k».proof.Proof.Product
public import Idealize.ShloMosaic.Lib.Pipeline.ReadBack
public import proofs.«01_k».proof.Proof.Gen.InGradAIdeal.Value
public import proofs.«01_k».proof.Proof.Gen.InGradARefIdeal.Run

@[expose] public section

set_option maxRecDepth 16384

noncomputable section

namespace Cert.InGradAIdeal.Hand

open Cert.InGradAIdeal Cert.InGradAIdeal.Gen Idealize.ShloMosaic Idealize.ShloMosaic.TcCoe Idealize.SL.Sem
open Cert.Proof.Product
open scoped BigOperators

theorem reference (dy : FVec Ideal S4352x5120 .bf16) (w : FVec Ideal S2048x5120 .bf16) (h) (h') :
    (truncf .bf16 (Host.dotGeneral (F := Ideal) Cert.InGradARefIdeal.dot_S4352x5120_S2048x5120_S4352x2048_1_1_0_0_n_n none
      (extf .f32 dy h) (extf .f32 w h)) h' : FVec Ideal S4352x2048 .bf16) = prod (rows dy) (rows w) := by
  funext i
  obtain ⟨r, s, rfl⟩ : ∃ (r : Fin 4352) (s : Fin 2048), i = ix2 r s := ⟨_, _, (ix2_eta i).symm⟩
  unfold prod rows
  pointwise

section

variable (a : FVec Ideal S1088x2560 .bf16) (b : FVec Ideal S1024x2560 .bf16) (acc : FVec Ideal S1088x1024 .f32) (r : Fin 1088) (s : Fin 1024)

theorem pay2_apply : k0_pay2 (F := Ideal) a b (ix2 r s) = ∑ l : Fin 2560, a (ix2 r l) * b (ix2 s l) := by
  pointwise [k0_pay2, k0_pay1]

theorem pay4_apply : k0_pay4 (F := Ideal) a b acc (ix2 r s) = acc (ix2 r s) + ∑ l : Fin 2560, a (ix2 r l) * b (ix2 s l) := by
  pointwise [k0_pay4, k0_pay1]

end

theorem idx0 : ∀ t : Fin cfg0.N, win0_0.index t = ![t.val / 2 / 2, t.val % 2] :=
  (by decide +kernel : ∀ t : Fin grid0.N, win0_0.index t = ![t.val / 2 / 2, t.val % 2])
theorem idx1 : ∀ t : Fin cfg0.N, win0_1.index t = ![t.val / 2 % 2, t.val % 2] :=
  (by decide +kernel : ∀ t : Fin grid0.N, win0_1.index t = ![t.val / 2 % 2, t.val % 2])
theorem idx2 : ∀ t : Fin cfg0.N, win0_2.index t = ![t.val / 2 / 2, t.val / 2 % 2] :=
  (by decide +kernel : ∀ t : Fin grid0.N, win0_2.index t = ![t.val / 2 / 2, t.val / 2 % 2])
theorem flush2 : ∀ t : Fin cfg0.N, (cfg0.win 2).flush t = true → t.val % 2 = 1 := by decide +kernel

section

variable (m : (ℓ : Loc nD τ sig) → Buf (Elt Ideal) ℓ) (c : Dev nD)

/-- The two arguments, and a point's block of each. -/
def dy : FVec Ideal S4352x5120 .bf16 := m ((c.tc : Thread nD τ).loc main_arg0)
def w : FVec Ideal S2048x5120 .bf16 := m ((c.tc : Thread nD τ).loc main_arg1)
def dyBlock (t : Fin cfg0.N) : FVec Ideal S1088x2560 .bf16 := iblk m c 0 t
def wBlock (t : Fin cfg0.N) : FVec Ideal S1024x2560 .bf16 := iblk m c 1 t

/-- What a point adds at a place of its block: the part of the whole product in the point's tile. -/
def add (t : Fin cfg0.N) (r : Fin 1088) (s : Fin 1024) : EReal :=
  part 2560 (rows (dy m c)) (rows (w m c)) (t.val % 2) (place 4352 (t.val / 2 / 2) r) (place 2048 (t.val / 2 % 2) s)

theorem tile (t : Fin cfg0.N) (r : Fin 1088) (s : Fin 1024) :
    ∑ l : Fin 2560, dyBlock m c t (ix2 r l) * wBlock m c t (ix2 s l) = add m c t r s := by
  have ht : t.val < 16 := lt_of_lt_of_eq t.isLt N_0
  unfold add part
  refine Finset.sum_congr rfl fun l _ => congrArg₂ (fun x y : EReal => x * y) ?_ ?_
  · unfold rows dy dyBlock
    blk_ext [iblk, V, idx0 t] <;> simp only [place] <;> omega
  · unfold rows w wBlock
    blk_ext [iblk, V, idx1 t] <;> simp only [place] <;> omega

/-- A block's accumulator at its first point, and what goes to the result at the last. -/
theorem first (t : Fin cfg0.N) (h : t.val % 2 = 0) (r : Fin 1088) (s : Fin 1024) : (outsAt0 m c t.val t.isLt).2 (ix2 r s) = add m c t r s := by
  rw [outsAt0_A m c t h (by omega)]
  frame_out
  exact (pay2_apply _ _ r s).trans (tile m c t r s)

theorem last (t : Fin cfg0.N) (h : t.val % 2 = 1) (r : Fin 1088) (s : Fin 1024) :
    (outsAt0 m c t.val t.isLt).1 (ix2 r s) = (outsAt0 m c (t.val - 1) (Nat.lt_of_le_of_lt (Nat.sub_le _ _) t.isLt)).2 (ix2 r s) + add m c t r s := by
  rw [outsAt0_B m c t (by omega) h]
  frame_out
  simp only [read_unread_whole]
  exact (pay4_apply _ _ _ r s).trans (congrArg (_ + ·) (tile m c t r s))

/-- The result the kernel leaves. -/
theorem array : (dats m 0 c).arrAt 2 cfg0.N = prod (rows (dy m c)) (rows (w m c)) := by
  refine (dats m 0 c).arrAt_eq_of_covers 2 _ (by decide +kernel) fun t hf y => ?_
  blk_simp
  have ht : t.val < 16 := lt_of_lt_of_eq t.isLt N_0
  obtain ⟨r, s, rfl⟩ : ∃ (r : Fin 1088) (s : Fin 1024), y = (ix2 r s : S1088x1024.Idx) := ⟨_, _, (ix2_eta y).symm⟩
  rw [after0_2]
  have at_place : ∀ X : FVec Ideal S4352x2048 .bf16, X ((win0_2.blk t).view.emb (ix2 r s : S1088x1024.Idx))
      = X (ix2 (place 4352 (t.val / 2 / 2) r) (place 2048 (t.val / 2 % 2) s)) := fun X => by
    blk_ext [idx2 t] <;> simp only [place] <;> omega
  exact (blocked_two 2560 rfl (rows (dy m c)) (rows (w m c)) (· / 2) (· % 2) (fun n h => (outsAt0 m c n h).1)
    (fun n h => (outsAt0 m c n h).2) (first m c) (last m c) t (flush2 t hf) r s).trans (at_place (prod (rows (dy m c)) (rows (w m c)))).symm

end

end Cert.InGradAIdeal.Hand

end
-- ==== Proof.InGradW.lean ====
/-
  The gradient of the mixers' input weights: a column of the saved input against a column of the incoming gradient, summed
  over two tiles of the rows.
-/
module

public import proofs.«01_k».proof.Proof.Product
public import Idealize.ShloMosaic.Lib.Pipeline.ReadBack
public import proofs.«01_k».proof.Proof.Gen.InGradWIdeal.Value
public import proofs.«01_k».proof.Proof.Gen.InGradWRefIdeal.Run

@[expose] public section

set_option maxRecDepth 16384

noncomputable section

namespace Cert.InGradWIdeal.Hand

open Cert.InGradWIdeal Cert.InGradWIdeal.Gen Idealize.ShloMosaic Idealize.ShloMosaic.TcCoe Idealize.SL.Sem
open Cert.Proof.Product
open scoped BigOperators

theorem reference (a : FVec Ideal S4352x2048 .bf16) (dy : FVec Ideal S4352x5120 .bf16) (h) (h') (h'') :
    (truncf .bf16 (transpose S2048x5120 [1, 0] (Host.dotGeneral (F := Ideal) Cert.InGradWRefIdeal.dot_S4352x5120_S4352x2048_S5120x2048_0_0_1_1_n_n none
      (extf .f32 dy h) (extf .f32 a h)) h') h'' : FVec Ideal S2048x5120 .bf16) = prod (cols a) (cols dy) := by
  funext i
  obtain ⟨r, s, rfl⟩ : ∃ (r : Fin 2048) (s : Fin 5120), i = ix2 r s := ⟨_, _, (ix2_eta i).symm⟩
  unfold prod cols
  pointwise
  exact Finset.sum_congr rfl fun x _ => mul_comm _ _

section

variable (a : FVec Ideal S2176x1024 .bf16) (b : FVec Ideal S2176x1024 .bf16) (acc : FVec Ideal S1024x1024 .f32) (r : Fin 1024) (s : Fin 1024)

theorem pay2_apply : k0_pay2 (F := Ideal) a b (ix2 r s) = ∑ l : Fin 2176, a (ix2 l r) * b (ix2 l s) := by
  pointwise [k0_pay2, k0_pay1]

theorem pay4_apply : k0_pay4 (F := Ideal) a b acc (ix2 r s) = acc (ix2 r s) + ∑ l : Fin 2176, a (ix2 l r) * b (ix2 l s) := by
  pointwise [k0_pay4, k0_pay1]

end

theorem idx0 : ∀ t : Fin cfg0.N, win0_0.index t = ![t.val % 2, t.val / 2 / 5] :=
  (by decide +kernel : ∀ t : Fin grid0.N, win0_0.index t = ![t.val % 2, t.val / 2 / 5])
theorem idx1 : ∀ t : Fin cfg0.N, win0_1.index t = ![t.val % 2, t.val / 2 % 5] :=
  (by decide +kernel : ∀ t : Fin grid0.N, win0_1.index t = ![t.val % 2, t.val / 2 % 5])
theorem idx2 : ∀ t : Fin cfg0.N, win0_2.index t = ![t.val / 2 / 5, t.val / 2 % 5] :=
  (by decide +kernel : ∀ t : Fin grid0.N, win0_2.index t = ![t.val / 2 / 5, t.val / 2 % 5])
theorem flush2 : ∀ t : Fin cfg0.N, (cfg0.win 2).flush t = true → t.val % 2 = 1 := by decide +kernel

section

variable (m : (ℓ : Loc nD τ sig) → Buf (Elt Ideal) ℓ) (c : Dev nD)

/-- The two arguments, and a point's block of each. -/
def a : FVec Ideal S4352x2048 .bf16 := m ((c.tc : Thread nD τ).loc main_arg0)
def dy : FVec Ideal S4352x5120 .bf16 := m ((c.tc : Thread nD τ).loc main_arg1)
def aBlock (t : Fin cfg0.N) : FVec Ideal S2176x1024 .bf16 := iblk m c 0 t
def dyBlock (t : Fin cfg0.N) : FVec Ideal S2176x1024 .bf16 := iblk m c 1 t

/-- What a point adds at a place of its block: the part of the whole product in the point's tile. -/
def add (t : Fin cfg0.N) (r : Fin 1024) (s : Fin 1024) : EReal :=
  part 2176 (cols (a m c)) (cols (dy m c)) (t.val % 2) (place 2048 (t.val / 2 / 5) r) (place 5120 (t.val / 2 % 5) s)

theorem tile (t : Fin cfg0.N) (r : Fin 1024) (s : Fin 1024) :
    ∑ l : Fin 2176, aBlock m c t (ix2 l r) * dyBlock m c t (ix2 l s) = add m c t r s := by
  have ht : t.val < 20 := lt_of_lt_of_eq t.isLt N_0
  unfold add part
  refine Finset.sum_congr rfl fun l _ => congrArg₂ (fun x y : EReal => x * y) ?_ ?_
  · unfold cols a aBlock
    blk_ext [iblk, V, idx0 t] <;> simp only [place] <;> omega
  · unfold cols dy dyBlock
    blk_ext [iblk, V, idx1 t] <;> simp only [place] <;> omega

/-- A block's accumulator at its first point, and what goes to the result at the last. -/
theorem first (t : Fin cfg0.N) (h : t.val % 2 = 0) (r : Fin 1024) (s : Fin 1024) : (outsAt0 m c t.val t.isLt).2 (ix2 r s) = add m c t r s := by
  rw [outsAt0_A m c t h (by omega)]
  frame_out
  exact (pay2_apply _ _ r s).trans (tile m c t r s)

theorem last (t : Fin cfg0.N) (h : t.val % 2 = 1) (r : Fin 1024) (s : Fin 1024) :
    (outsAt0 m c t.val t.isLt).1 (ix2 r s) = (outsAt0 m c (t.val - 1) (Nat.lt_of_le_of_lt (Nat.sub_le _ _) t.isLt)).2 (ix2 r s) + add m c t r s := by
  rw [outsAt0_B m c t (by omega) h]
  frame_out
  simp only [read_unread_whole]
  exact (pay4_apply _ _ _ r s).trans (congrArg (_ + ·) (tile m c t r s))

/-- The result the kernel leaves. -/
theorem array : (dats m 0 c).arrAt 2 cfg0.N = prod (cols (a m c)) (cols (dy m c)) := by
  refine (dats m 0 c).arrAt_eq_of_covers 2 _ (by decide +kernel) fun t hf y => ?_
  blk_simp
  have ht : t.val < 20 := lt_of_lt_of_eq t.isLt N_0
  obtain ⟨r, s, rfl⟩ : ∃ (r : Fin 1024) (s : Fin 1024), y = (ix2 r s : S1024x1024.Idx) := ⟨_, _, (ix2_eta y).symm⟩
  rw [after0_2]
  have at_place : ∀ X : FVec Ideal S2048x5120 .bf16, X ((win0_2.blk t).view.emb (ix2 r s : S1024x1024.Idx))
      = X (ix2 (place 2048 (t.val / 2 / 5) r) (place 5120 (t.val / 2 % 5) s)) := fun X => by
    blk_ext [idx2 t] <;> simp only [place] <;> omega
  exact (blocked_two 2176 rfl (cols (a m c)) (cols (dy m c)) (· / 5) (· % 5) (fun n h => (outsAt0 m c n h).1)
    (fun n h => (outsAt0 m c n h).2) (first m c) (last m c) t (flush2 t hf) r s).trans (at_place (prod (cols (a m c)) (cols (dy m c)))).symm

end

end Cert.InGradWIdeal.Hand

end
-- ==== Proof.OutGradA.lean ====
/-
  The gradient of the mix: each entry is a row of the incoming gradient against a row of the output weights; a block holds
  the whole inner dimension.
-/
module

public import proofs.«01_k».proof.Proof.Product
public import proofs.«01_k».proof.Proof.Gen.OutGradAIdeal.Value
public import proofs.«01_k».proof.Proof.Gen.OutGradARefIdeal.Run

@[expose] public section

set_option maxRecDepth 16384

noncomputable section

namespace Cert.OutGradAIdeal.Hand

open Cert.OutGradAIdeal Cert.OutGradAIdeal.Gen Idealize.ShloMosaic Idealize.ShloMosaic.TcCoe Idealize.SL.Sem
open Cert.Proof.Product
open scoped BigOperators

theorem reference (dy : FVec Ideal S4352x2048 .bf16) (w : FVec Ideal S2048x2048 .bf16) (h) (h') :
    (truncf .bf16 (Host.dotGeneral (F := Ideal) Cert.OutGradARefIdeal.dot_S4352x2048_S2048x2048_S4352x2048_1_1_0_0_n_n none
      (extf .f32 dy h) (extf .f32 w h)) h' : FVec Ideal S4352x2048 .bf16) = prod (rows dy) (rows w) := by
  funext i
  obtain ⟨r, s, rfl⟩ : ∃ (r : Fin 4352) (s : Fin 2048), i = ix2 r s := ⟨_, _, (ix2_eta i).symm⟩
  unfold prod rows
  pointwise

theorem pay1_apply (a : FVec Ideal S1088x2048 .bf16) (b : FVec Ideal S1024x2048 .bf16) (r : Fin 1088) (s : Fin 1024) :
    k0_pay1 (F := Ideal) a b (ix2 r s) = ∑ l : Fin 2048, a (ix2 r l) * b (ix2 s l) := by
  pointwise [k0_pay1]

theorem idx0 : ∀ t : Fin cfg0.N, win0_0.index t = ![t.val / 2, 0] :=
  (by decide +kernel : ∀ t : Fin grid0.N, win0_0.index t = ![t.val / 2, 0])
theorem idx1 : ∀ t : Fin cfg0.N, win0_1.index t = ![t.val % 2, 0] :=
  (by decide +kernel : ∀ t : Fin grid0.N, win0_1.index t = ![t.val % 2, 0])
theorem idx2 : ∀ t : Fin cfg0.N, win0_2.index t = ![t.val / 2, t.val % 2] :=
  (by decide +kernel : ∀ t : Fin grid0.N, win0_2.index t = ![t.val / 2, t.val % 2])

section

variable (m : (ℓ : Loc nD τ sig) → Buf (Elt Ideal) ℓ) (c : Dev nD)

/-- The two arguments, and a point's block of each. -/
def dy : FVec Ideal S4352x2048 .bf16 := m ((c.tc : Thread nD τ).loc main_arg0)
def w : FVec Ideal S2048x2048 .bf16 := m ((c.tc : Thread nD τ).loc main_arg1)
def dyBlock (t : Fin cfg0.N) : FVec Ideal S1088x2048 .bf16 := iblk m c 0 t
def wBlock (t : Fin cfg0.N) : FVec Ideal S1024x2048 .bf16 := iblk m c 1 t

theorem tile (t : Fin cfg0.N) (r : Fin 1088) (s : Fin 1024) : ∑ l : Fin 2048, dyBlock m c t (ix2 r l) * wBlock m c t (ix2 s l)
    = ∑ x : Fin 2048, rows (dy m c) (place 4352 (t.val / 2) r) x * rows (w m c) (place 2048 (t.val % 2) s) x := by
  have ht : t.val < 8 := lt_of_lt_of_eq t.isLt N_0
  refine Finset.sum_congr rfl fun l _ => congrArg₂ (fun x y : EReal => x * y) ?_ ?_
  · unfold rows dy dyBlock
    blk_ext [iblk, V, idx0 t] <;> simp only [place] <;> omega
  · unfold rows w wBlock
    blk_ext [iblk, V, idx1 t] <;> simp only [place] <;> omega

/-- The result the kernel leaves. -/
theorem array : (dats m 0 c).arrAt 2 cfg0.N = prod (rows (dy m c)) (rows (w m c)) := by
  refine (dats m 0 c).arrAt_eq_of_covers 2 _ (by decide +kernel) fun t hf y => ?_
  blk_simp
  have ht : t.val < 8 := lt_of_lt_of_eq t.isLt N_0
  obtain ⟨r, s, rfl⟩ : ∃ (r : Fin 1088) (s : Fin 1024), y = (ix2 r s : S1088x1024.Idx) := ⟨_, _, (ix2_eta y).symm⟩
  have at_place : ∀ X : FVec Ideal S4352x2048 .bf16, X ((win0_2.blk t).view.emb (ix2 r s : S1088x1024.Idx))
      = X (ix2 (place 4352 (t.val / 2) r) (place 2048 (t.val % 2) s)) := fun X => by
    blk_ext [idx2 t] <;> simp only [place] <;> omega
  refine Eq.trans ?_ (at_place (prod (rows (dy m c)) (rows (w m c)))).symm
  rw [after0_2]
  frame_out
  exact (pay1_apply _ _ r s).trans (tile m c t r s)

end

end Cert.OutGradAIdeal.Hand

end
-- ==== Proof.OutGradW.lean ====
/-
  The gradient of the mixers' output weights: a column of the saved mix against a column of the incoming gradient, summed
  over two tiles of the rows.
-/
module

public import proofs.«01_k».proof.Proof.Product
public import Idealize.ShloMosaic.Lib.Pipeline.ReadBack
public import proofs.«01_k».proof.Proof.Gen.OutGradWIdeal.Value
public import proofs.«01_k».proof.Proof.Gen.OutGradWRefIdeal.Run

@[expose] public section

set_option maxRecDepth 16384

noncomputable section

namespace Cert.OutGradWIdeal.Hand

open Cert.OutGradWIdeal Cert.OutGradWIdeal.Gen Idealize.ShloMosaic Idealize.ShloMosaic.TcCoe Idealize.SL.Sem
open Cert.Proof.Product
open scoped BigOperators

theorem reference (a : FVec Ideal S4352x2048 .bf16) (dy : FVec Ideal S4352x2048 .bf16) (h) (h') (h'') :
    (truncf .bf16 (transpose S2048x2048 [1, 0] (Host.dotGeneral (F := Ideal) Cert.OutGradWRefIdeal.dot_S4352x2048_S4352x2048_S2048x2048_0_0_1_1_n_n none
      (extf .f32 dy h) (extf .f32 a h)) h') h'' : FVec Ideal S2048x2048 .bf16) = prod (cols a) (cols dy) := by
  funext i
  obtain ⟨r, s, rfl⟩ : ∃ (r : Fin 2048) (s : Fin 2048), i = ix2 r s := ⟨_, _, (ix2_eta i).symm⟩
  unfold prod cols
  pointwise
  exact Finset.sum_congr rfl fun x _ => mul_comm _ _

section

variable (a : FVec Ideal S2176x1024 .bf16) (b : FVec Ideal S2176x1024 .bf16) (acc : FVec Ideal S1024x1024 .f32) (r : Fin 1024) (s : Fin 1024)

theorem pay2_apply : k0_pay2 (F := Ideal) a b (ix2 r s) = ∑ l : Fin 2176, a (ix2 l r) * b (ix2 l s) := by
  pointwise [k0_pay2, k0_pay1]

theorem pay4_apply : k0_pay4 (F := Ideal) a b acc (ix2 r s) = acc (ix2 r s) + ∑ l : Fin 2176, a (ix2 l r) * b (ix2 l s) := by
  pointwise [k0_pay4, k0_pay1]

end

theorem idx0 : ∀ t : Fin cfg0.N, win0_0.index t = ![t.val % 2, t.val / 2 / 2] :=
  (by decide +kernel : ∀ t : Fin grid0.N, win0_0.index t = ![t.val % 2, t.val / 2 / 2])
theorem idx1 : ∀ t : Fin cfg0.N, win0_1.index t = ![t.val % 2, t.val / 2 % 2] :=
  (by decide +kernel : ∀ t : Fin grid0.N, win0_1.index t = ![t.val % 2, t.val / 2 % 2])
theorem idx2 : ∀ t : Fin cfg0.N, win0_2.index t = ![t.val / 2 / 2, t.val / 2 % 2] :=
  (by decide +kernel : ∀ t : Fin grid0.N, win0_2.index t = ![t.val / 2 / 2, t.val / 2 % 2])
theorem flush2 : ∀ t : Fin cfg0.N, (cfg0.win 2).flush t = true → t.val % 2 = 1 := by decide +kernel

section

variable (m : (ℓ : Loc nD τ sig) → Buf (Elt Ideal) ℓ) (c : Dev nD)

/-- The two arguments, and a point's block of each. -/
def a : FVec Ideal S4352x2048 .bf16 := m ((c.tc : Thread nD τ).loc main_arg0)
def dy : FVec Ideal S4352x2048 .bf16 := m ((c.tc : Thread nD τ).loc main_arg1)
def aBlock (t : Fin cfg0.N) : FVec Ideal S2176x1024 .bf16 := iblk m c 0 t
def dyBlock (t : Fin cfg0.N) : FVec Ideal S2176x1024 .bf16 := iblk m c 1 t

/-- What a point adds at a place of its block: the part of the whole product in the point's tile. -/
def add (t : Fin cfg0.N) (r : Fin 1024) (s : Fin 1024) : EReal :=
  part 2176 (cols (a m c)) (cols (dy m c)) (t.val % 2) (place 2048 (t.val / 2 / 2) r) (place 2048 (t.val / 2 % 2) s)

theorem tile (t : Fin cfg0.N) (r : Fin 1024) (s : Fin 1024) :
    ∑ l : Fin 2176, aBlock m c t (ix2 l r) * dyBlock m c t (ix2 l s) = add m c t r s := by
  have ht : t.val < 8 := lt_of_lt_of_eq t.isLt N_0
  unfold add part
  refine Finset.sum_congr rfl fun l _ => congrArg₂ (fun x y : EReal => x * y) ?_ ?_
  · unfold cols a aBlock
    blk_ext [iblk, V, idx0 t] <;> simp only [place] <;> omega
  · unfold cols dy dyBlock
    blk_ext [iblk, V, idx1 t] <;> simp only [place] <;> omega

/-- A block's accumulator at its first point, and what goes to the result at the last. -/
theorem first (t : Fin cfg0.N) (h : t.val % 2 = 0) (r : Fin 1024) (s : Fin 1024) : (outsAt0 m c t.val t.isLt).2 (ix2 r s) = add m c t r s := by
  rw [outsAt0_A m c t h (by omega)]
  frame_out
  exact (pay2_apply _ _ r s).trans (tile m c t r s)

theorem last (t : Fin cfg0.N) (h : t.val % 2 = 1) (r : Fin 1024) (s : Fin 1024) :
    (outsAt0 m c t.val t.isLt).1 (ix2 r s) = (outsAt0 m c (t.val - 1) (Nat.lt_of_le_of_lt (Nat.sub_le _ _) t.isLt)).2 (ix2 r s) + add m c t r s := by
  rw [outsAt0_B m c t (by omega) h]
  frame_out
  simp only [read_unread_whole]
  exact (pay4_apply _ _ _ r s).trans (congrArg (_ + ·) (tile m c t r s))

/-- The result the kernel leaves. -/
theorem array : (dats m 0 c).arrAt 2 cfg0.N = prod (cols (a m c)) (cols (dy m c)) := by
  refine (dats m 0 c).arrAt_eq_of_covers 2 _ (by decide +kernel) fun t hf y => ?_
  blk_simp
  have ht : t.val < 8 := lt_of_lt_of_eq t.isLt N_0
  obtain ⟨r, s, rfl⟩ : ∃ (r : Fin 1024) (s : Fin 1024), y = (ix2 r s : S1024x1024.Idx) := ⟨_, _, (ix2_eta y).symm⟩
  rw [after0_2]
  have at_place : ∀ X : FVec Ideal S2048x2048 .bf16, X ((win0_2.blk t).view.emb (ix2 r s : S1024x1024.Idx))
      = X (ix2 (place 2048 (t.val / 2 / 2) r) (place 2048 (t.val / 2 % 2) s)) := fun X => by
    blk_ext [idx2 t] <;> simp only [place] <;> omega
  exact (blocked_two 2176 rfl (cols (a m c)) (cols (dy m c)) (· / 2) (· % 2) (fun n h => (outsAt0 m c n h).1)
    (fun n h => (outsAt0 m c n h).2) (first m c) (last m c) t (flush2 t hf) r s).trans (at_place (prod (cols (a m c)) (cols (dy m c)))).symm

end

end Cert.OutGradWIdeal.Hand

end
-- ==== Proof.UpFwd.lean ====
/-
  The up-projection: each entry is a row of the input against a column of the weights; a block holds the whole inner
  dimension.
-/
module

public import proofs.«01_k».proof.Proof.Product
public import proofs.«01_k».proof.Proof.Gen.UpFwdIdeal.Value
public import proofs.«01_k».proof.Proof.Gen.UpFwdRefIdeal.Run

@[expose] public section

set_option maxRecDepth 16384

noncomputable section

namespace Cert.UpFwdIdeal.Hand

open Cert.UpFwdIdeal Cert.UpFwdIdeal.Gen Idealize.ShloMosaic Idealize.ShloMosaic.TcCoe Idealize.SL.Sem
open Cert.Proof.Product
open scoped BigOperators

theorem reference (a : FVec Ideal S4352x2048 .bf16) (w : FVec Ideal S2048x11264 .bf16) (h) (h') :
    (truncf .bf16 (Host.dotGeneral (F := Ideal) Cert.UpFwdRefIdeal.dot_S4352x2048_S2048x11264_S4352x11264_1_0_0_1_n_n none
      (extf .f32 a h) (extf .f32 w h)) h' : FVec Ideal S4352x11264 .bf16) = prod (rows a) (cols w) := by
  funext i
  obtain ⟨r, s, rfl⟩ : ∃ (r : Fin 4352) (s : Fin 11264), i = ix2 r s := ⟨_, _, (ix2_eta i).symm⟩
  unfold prod rows cols
  pointwise

theorem pay1_apply (a : FVec Ideal S1088x2048 .bf16) (b : FVec Ideal S2048x1024 .bf16) (r : Fin 1088) (s : Fin 1024) :
    k0_pay1 (F := Ideal) a b (ix2 r s) = ∑ l : Fin 2048, a (ix2 r l) * b (ix2 l s) := by
  pointwise [k0_pay1]

theorem idx0 : ∀ t : Fin cfg0.N, win0_0.index t = ![t.val / 11, 0] :=
  (by decide +kernel : ∀ t : Fin grid0.N, win0_0.index t = ![t.val / 11, 0])
theorem idx1 : ∀ t : Fin cfg0.N, win0_1.index t = ![0, t.val % 11] :=
  (by decide +kernel : ∀ t : Fin grid0.N, win0_1.index t = ![0, t.val % 11])
theorem idx2 : ∀ t : Fin cfg0.N, win0_2.index t = ![t.val / 11, t.val % 11] :=
  (by decide +kernel : ∀ t : Fin grid0.N, win0_2.index t = ![t.val / 11, t.val % 11])

section

variable (m : (ℓ : Loc nD τ sig) → Buf (Elt Ideal) ℓ) (c : Dev nD)

/-- The two arguments, and a point's block of each. -/
def a : FVec Ideal S4352x2048 .bf16 := m ((c.tc : Thread nD τ).loc main_arg0)
def w : FVec Ideal S2048x11264 .bf16 := m ((c.tc : Thread nD τ).loc main_arg1)
def aBlock (t : Fin cfg0.N) : FVec Ideal S1088x2048 .bf16 := iblk m c 0 t
def wBlock (t : Fin cfg0.N) : FVec Ideal S2048x1024 .bf16 := iblk m c 1 t

theorem tile (t : Fin cfg0.N) (r : Fin 1088) (s : Fin 1024) : ∑ l : Fin 2048, aBlock m c t (ix2 r l) * wBlock m c t (ix2 l s)
    = ∑ x : Fin 2048, rows (a m c) (place 4352 (t.val / 11) r) x * cols (w m c) (place 11264 (t.val % 11) s) x := by
  have ht : t.val < 44 := lt_of_lt_of_eq t.isLt N_0
  refine Finset.sum_congr rfl fun l _ => congrArg₂ (fun x y : EReal => x * y) ?_ ?_
  · unfold rows a aBlock
    blk_ext [iblk, V, idx0 t] <;> simp only [place] <;> omega
  · unfold cols w wBlock
    blk_ext [iblk, V, idx1 t] <;> simp only [place] <;> omega

/-- The result the kernel leaves. -/
theorem array : (dats m 0 c).arrAt 2 cfg0.N = prod (rows (a m c)) (cols (w m c)) := by
  refine (dats m 0 c).arrAt_eq_of_covers 2 _ (by decide +kernel) fun t hf y => ?_
  blk_simp
  have ht : t.val < 44 := lt_of_lt_of_eq t.isLt N_0
  obtain ⟨r, s, rfl⟩ : ∃ (r : Fin 1088) (s : Fin 1024), y = (ix2 r s : S1088x1024.Idx) := ⟨_, _, (ix2_eta y).symm⟩
  have at_place : ∀ X : FVec Ideal S4352x11264 .bf16, X ((win0_2.blk t).view.emb (ix2 r s : S1088x1024.Idx))
      = X (ix2 (place 4352 (t.val / 11) r) (place 11264 (t.val % 11) s)) := fun X => by
    blk_ext [idx2 t] <;> simp only [place] <;> omega
  refine Eq.trans ?_ (at_place (prod (rows (a m c)) (cols (w m c)))).symm
  rw [after0_2]
  frame_out
  exact (pay1_apply _ _ r s).trans (tile m c t r s)

end

end Cert.UpFwdIdeal.Hand

end
-- ==== Proof.DownFwd.lean ====
/-
  The down-projection: each entry is a row of the activation against a column of the weights, summed over two tiles of the
  inner dimension.
-/
module

public import proofs.«01_k».proof.Proof.Product
public import Idealize.ShloMosaic.Lib.Pipeline.ReadBack
public import proofs.«01_k».proof.Proof.Gen.DownFwdIdeal.Value
public import proofs.«01_k».proof.Proof.Gen.DownFwdRefIdeal.Run

@[expose] public section

set_option maxRecDepth 16384

noncomputable section

namespace Cert.DownFwdIdeal.Hand

open Cert.DownFwdIdeal Cert.DownFwdIdeal.Gen Idealize.ShloMosaic Idealize.ShloMosaic.TcCoe Idealize.SL.Sem
open Cert.Proof.Product
open scoped BigOperators

theorem reference (a : FVec Ideal S4352x5632 .bf16) (w : FVec Ideal S5632x2048 .bf16) (h) :
    (Host.dotGeneral (F := Ideal) Cert.DownFwdRefIdeal.dot_S4352x5632_S5632x2048_S4352x2048_1_0_0_1_n_n none
      (extf .f32 a h) (extf .f32 w h) : FVec Ideal S4352x2048 .f32) = prod (rows a) (cols w) := by
  funext i
  obtain ⟨r, s, rfl⟩ : ∃ (r : Fin 4352) (s : Fin 2048), i = ix2 r s := ⟨_, _, (ix2_eta i).symm⟩
  unfold prod rows cols
  pointwise

section

variable (a : FVec Ideal S1088x2816 .bf16) (b : FVec Ideal S2816x1024 .bf16) (acc : FVec Ideal S1088x1024 .f32) (r : Fin 1088) (s : Fin 1024)

theorem pay2_apply : k0_pay2 (F := Ideal) a b (ix2 r s) = ∑ l : Fin 2816, a (ix2 r l) * b (ix2 l s) := by
  pointwise [k0_pay2, k0_pay1]

theorem pay4_apply : k0_pay4 (F := Ideal) a b acc (ix2 r s) = acc (ix2 r s) + ∑ l : Fin 2816, a (ix2 r l) * b (ix2 l s) := by
  pointwise [k0_pay4, k0_pay1]

end

theorem idx0 : ∀ t : Fin cfg0.N, win0_0.index t = ![t.val / 2 / 2, t.val % 2] :=
  (by decide +kernel : ∀ t : Fin grid0.N, win0_0.index t = ![t.val / 2 / 2, t.val % 2])
theorem idx1 : ∀ t : Fin cfg0.N, win0_1.index t = ![t.val % 2, t.val / 2 % 2] :=
  (by decide +kernel : ∀ t : Fin grid0.N, win0_1.index t = ![t.val % 2, t.val / 2 % 2])
theorem idx2 : ∀ t : Fin cfg0.N, win0_2.index t = ![t.val / 2 / 2, t.val / 2 % 2] :=
  (by decide +kernel : ∀ t : Fin grid0.N, win0_2.index t = ![t.val / 2 / 2, t.val / 2 % 2])
theorem flush2 : ∀ t : Fin cfg0.N, (cfg0.win 2).flush t = true → t.val % 2 = 1 := by decide +kernel

section

variable (m : (ℓ : Loc nD τ sig) → Buf (Elt Ideal) ℓ) (c : Dev nD)

/-- The two arguments, and a point's block of each. -/
def a : FVec Ideal S4352x5632 .bf16 := m ((c.tc : Thread nD τ).loc main_arg0)
def w : FVec Ideal S5632x2048 .bf16 := m ((c.tc : Thread nD τ).loc main_arg1)
def aBlock (t : Fin cfg0.N) : FVec Ideal S1088x2816 .bf16 := iblk m c 0 t
def wBlock (t : Fin cfg0.N) : FVec Ideal S2816x1024 .bf16 := iblk m c 1 t

/-- What a point adds at a place of its block: the part of the whole product in the point's tile. -/
def add (t : Fin cfg0.N) (r : Fin 1088) (s : Fin 1024) : EReal :=
  part 2816 (rows (a m c)) (cols (w m c)) (t.val % 2) (place 4352 (t.val / 2 / 2) r) (place 2048 (t.val / 2 % 2) s)

theorem tile (t : Fin cfg0.N) (r : Fin 1088) (s : Fin 1024) :
    ∑ l : Fin 2816, aBlock m c t (ix2 r l) * wBlock m c t (ix2 l s) = add m c t r s := by
  have ht : t.val < 16 := lt_of_lt_of_eq t.isLt N_0
  unfold add part
  refine Finset.sum_congr rfl fun l _ => congrArg₂ (fun x y : EReal => x * y) ?_ ?_
  · unfold rows a aBlock
    blk_ext [iblk, V, idx0 t] <;> simp only [place] <;> omega
  · unfold cols w wBlock
    blk_ext [iblk, V, idx1 t] <;> simp only [place] <;> omega

/-- A block's accumulator at its first point, and what goes to the result at the last. -/
theorem first (t : Fin cfg0.N) (h : t.val % 2 = 0) (r : Fin 1088) (s : Fin 1024) : (outsAt0 m c t.val t.isLt).2 (ix2 r s) = add m c t r s := by
  rw [outsAt0_A m c t h (by omega)]
  frame_out
  exact (pay2_apply _ _ r s).trans (tile m c t r s)

theorem last (t : Fin cfg0.N) (h : t.val % 2 = 1) (r : Fin 1088) (s : Fin 1024) :
    (outsAt0 m c t.val t.isLt).1 (ix2 r s) = (outsAt0 m c (t.val - 1) (Nat.lt_of_le_of_lt (Nat.sub_le _ _) t.isLt)).2 (ix2 r s) + add m c t r s := by
  rw [outsAt0_B m c t (by omega) h]
  frame_out
  simp only [read_unread_whole]
  exact (pay4_apply _ _ _ r s).trans (congrArg (_ + ·) (tile m c t r s))

/-- The result the kernel leaves. -/
theorem array : (dats m 0 c).arrAt 2 cfg0.N = prod (rows (a m c)) (cols (w m c)) := by
  refine (dats m 0 c).arrAt_eq_of_covers 2 _ (by decide +kernel) fun t hf y => ?_
  blk_simp
  have ht : t.val < 16 := lt_of_lt_of_eq t.isLt N_0
  obtain ⟨r, s, rfl⟩ : ∃ (r : Fin 1088) (s : Fin 1024), y = (ix2 r s : S1088x1024.Idx) := ⟨_, _, (ix2_eta y).symm⟩
  rw [after0_2]
  have at_place : ∀ X : FVec Ideal S4352x2048 .f32, X ((win0_2.blk t).view.emb (ix2 r s : S1088x1024.Idx))
      = X (ix2 (place 4352 (t.val / 2 / 2) r) (place 2048 (t.val / 2 % 2) s)) := fun X => by
    blk_ext [idx2 t] <;> simp only [place] <;> omega
  exact (blocked_two 2816 rfl (rows (a m c)) (cols (w m c)) (· / 2) (· % 2) (fun n h => (outsAt0 m c n h).1)
    (fun n h => (outsAt0 m c n h).2) (first m c) (last m c) t (flush2 t hf) r s).trans (at_place (prod (rows (a m c)) (cols (w m c)))).symm

end

end Cert.DownFwdIdeal.Hand

end
-- ==== Proof.InFwd.lean ====
/-
  The mixers' input projection: each entry is a row of the input against a column of the weights; a block holds the whole
  inner dimension.
-/
module

public import proofs.«01_k».proof.Proof.Product
public import proofs.«01_k».proof.Proof.Gen.InFwdIdeal.Value
public import proofs.«01_k».proof.Proof.Gen.InFwdRefIdeal.Run

@[expose] public section

set_option maxRecDepth 16384

noncomputable section

namespace Cert.InFwdIdeal.Hand

open Cert.InFwdIdeal Cert.InFwdIdeal.Gen Idealize.ShloMosaic Idealize.ShloMosaic.TcCoe Idealize.SL.Sem
open Cert.Proof.Product
open scoped BigOperators

theorem reference (a : FVec Ideal S4352x2048 .bf16) (w : FVec Ideal S2048x5120 .bf16) (h) :
    (Host.dotGeneral (F := Ideal) Cert.InFwdRefIdeal.dot_S4352x2048_S2048x5120_S4352x5120_1_0_0_1_n_n none
      (extf .f32 a h) (extf .f32 w h) : FVec Ideal S4352x5120 .f32) = prod (rows a) (cols w) := by
  funext i
  obtain ⟨r, s, rfl⟩ : ∃ (r : Fin 4352) (s : Fin 5120), i = ix2 r s := ⟨_, _, (ix2_eta i).symm⟩
  unfold prod rows cols
  pointwise

theorem pay1_apply (a : FVec Ideal S1088x2048 .bf16) (b : FVec Ideal S2048x1024 .bf16) (r : Fin 1088) (s : Fin 1024) :
    k0_pay1 (F := Ideal) a b (ix2 r s) = ∑ l : Fin 2048, a (ix2 r l) * b (ix2 l s) := by
  pointwise [k0_pay1]

theorem idx0 : ∀ t : Fin cfg0.N, win0_0.index t = ![t.val / 5, 0] :=
  (by decide +kernel : ∀ t : Fin grid0.N, win0_0.index t = ![t.val / 5, 0])
theorem idx1 : ∀ t : Fin cfg0.N, win0_1.index t = ![0, t.val % 5] :=
  (by decide +kernel : ∀ t : Fin grid0.N, win0_1.index t = ![0, t.val % 5])
theorem idx2 : ∀ t : Fin cfg0.N, win0_2.index t = ![t.val / 5, t.val % 5] :=
  (by decide +kernel : ∀ t : Fin grid0.N, win0_2.index t = ![t.val / 5, t.val % 5])

section

variable (m : (ℓ : Loc nD τ sig) → Buf (Elt Ideal) ℓ) (c : Dev nD)

/-- The two arguments, and a point's block of each. -/
def a : FVec Ideal S4352x2048 .bf16 := m ((c.tc : Thread nD τ).loc main_arg0)
def w : FVec Ideal S2048x5120 .bf16 := m ((c.tc : Thread nD τ).loc main_arg1)
def aBlock (t : Fin cfg0.N) : FVec Ideal S1088x2048 .bf16 := iblk m c 0 t
def wBlock (t : Fin cfg0.N) : FVec Ideal S2048x1024 .bf16 := iblk m c 1 t

theorem tile (t : Fin cfg0.N) (r : Fin 1088) (s : Fin 1024) : ∑ l : Fin 2048, aBlock m c t (ix2 r l) * wBlock m c t (ix2 l s)
    = ∑ x : Fin 2048, rows (a m c) (place 4352 (t.val / 5) r) x * cols (w m c) (place 5120 (t.val % 5) s) x := by
  have ht : t.val < 20 := lt_of_lt_of_eq t.isLt N_0
  refine Finset.sum_congr rfl fun l _ => congrArg₂ (fun x y : EReal => x * y) ?_ ?_
  · unfold rows a aBlock
    blk_ext [iblk, V, idx0 t] <;> simp only [place] <;> omega
  · unfold cols w wBlock
    blk_ext [iblk, V, idx1 t] <;> simp only [place] <;> omega

/-- The result the kernel leaves. -/
theorem array : (dats m 0 c).arrAt 2 cfg0.N = prod (rows (a m c)) (cols (w m c)) := by
  refine (dats m 0 c).arrAt_eq_of_covers 2 _ (by decide +kernel) fun t hf y => ?_
  blk_simp
  have ht : t.val < 20 := lt_of_lt_of_eq t.isLt N_0
  obtain ⟨r, s, rfl⟩ : ∃ (r : Fin 1088) (s : Fin 1024), y = (ix2 r s : S1088x1024.Idx) := ⟨_, _, (ix2_eta y).symm⟩
  have at_place : ∀ X : FVec Ideal S4352x5120 .f32, X ((win0_2.blk t).view.emb (ix2 r s : S1088x1024.Idx))
      = X (ix2 (place 4352 (t.val / 5) r) (place 5120 (t.val % 5) s)) := fun X => by
    blk_ext [idx2 t] <;> simp only [place] <;> omega
  refine Eq.trans ?_ (at_place (prod (rows (a m c)) (cols (w m c)))).symm
  rw [after0_2]
  frame_out
  exact (pay1_apply _ _ r s).trans (tile m c t r s)

end

end Cert.InFwdIdeal.Hand

end
-- ==== Proof.OutFwd.lean ====
/-
  The mixers' output projection: each entry is a row of the mix against a column of the weights; a block holds the whole
  inner dimension.
-/
module

public import proofs.«01_k».proof.Proof.Product
public import proofs.«01_k».proof.Proof.Gen.OutFwdIdeal.Value
public import proofs.«01_k».proof.Proof.Gen.OutFwdRefIdeal.Run

@[expose] public section

set_option maxRecDepth 16384

noncomputable section

namespace Cert.OutFwdIdeal.Hand

open Cert.OutFwdIdeal Cert.OutFwdIdeal.Gen Idealize.ShloMosaic Idealize.ShloMosaic.TcCoe Idealize.SL.Sem
open Cert.Proof.Product
open scoped BigOperators

theorem reference (a : FVec Ideal S4352x2048 .bf16) (w : FVec Ideal S2048x2048 .bf16) (h) :
    (Host.dotGeneral (F := Ideal) Cert.OutFwdRefIdeal.dot_S4352x2048_S2048x2048_S4352x2048_1_0_0_1_n_n none
      (extf .f32 a h) (extf .f32 w h) : FVec Ideal S4352x2048 .f32) = prod (rows a) (cols w) := by
  funext i
  obtain ⟨r, s, rfl⟩ : ∃ (r : Fin 4352) (s : Fin 2048), i = ix2 r s := ⟨_, _, (ix2_eta i).symm⟩
  unfold prod rows cols
  pointwise

theorem pay1_apply (a : FVec Ideal S1088x2048 .bf16) (b : FVec Ideal S2048x1024 .bf16) (r : Fin 1088) (s : Fin 1024) :
    k0_pay1 (F := Ideal) a b (ix2 r s) = ∑ l : Fin 2048, a (ix2 r l) * b (ix2 l s) := by
  pointwise [k0_pay1]

theorem idx0 : ∀ t : Fin cfg0.N, win0_0.index t = ![t.val / 2, 0] :=
  (by decide +kernel : ∀ t : Fin grid0.N, win0_0.index t = ![t.val / 2, 0])
theorem idx1 : ∀ t : Fin cfg0.N, win0_1.index t = ![0, t.val % 2] :=
  (by decide +kernel : ∀ t : Fin grid0.N, win0_1.index t = ![0, t.val % 2])
theorem idx2 : ∀ t : Fin cfg0.N, win0_2.index t = ![t.val / 2, t.val % 2] :=
  (by decide +kernel : ∀ t : Fin grid0.N, win0_2.index t = ![t.val / 2, t.val % 2])

section

variable (m : (ℓ : Loc nD τ sig) → Buf (Elt Ideal) ℓ) (c : Dev nD)

/-- The two arguments, and a point's block of each. -/
def a : FVec Ideal S4352x2048 .bf16 := m ((c.tc : Thread nD τ).loc main_arg0)
def w : FVec Ideal S2048x2048 .bf16 := m ((c.tc : Thread nD τ).loc main_arg1)
def aBlock (t : Fin cfg0.N) : FVec Ideal S1088x2048 .bf16 := iblk m c 0 t
def wBlock (t : Fin cfg0.N) : FVec Ideal S2048x1024 .bf16 := iblk m c 1 t

theorem tile (t : Fin cfg0.N) (r : Fin 1088) (s : Fin 1024) : ∑ l : Fin 2048, aBlock m c t (ix2 r l) * wBlock m c t (ix2 l s)
    = ∑ x : Fin 2048, rows (a m c) (place 4352 (t.val / 2) r) x * cols (w m c) (place 2048 (t.val % 2) s) x := by
  have ht : t.val < 8 := lt_of_lt_of_eq t.isLt N_0
  refine Finset.sum_congr rfl fun l _ => congrArg₂ (fun x y : EReal => x * y) ?_ ?_
  · unfold rows a aBlock
    blk_ext [iblk, V, idx0 t] <;> simp only [place] <;> omega
  · unfold cols w wBlock
    blk_ext [iblk, V, idx1 t] <;> simp only [place] <;> omega

/-- The result the kernel leaves. -/
theorem array : (dats m 0 c).arrAt 2 cfg0.N = prod (rows (a m c)) (cols (w m c)) := by
  refine (dats m 0 c).arrAt_eq_of_covers 2 _ (by decide +kernel) fun t hf y => ?_
  blk_simp
  have ht : t.val < 8 := lt_of_lt_of_eq t.isLt N_0
  obtain ⟨r, s, rfl⟩ : ∃ (r : Fin 1088) (s : Fin 1024), y = (ix2 r s : S1088x1024.Idx) := ⟨_, _, (ix2_eta y).symm⟩
  have at_place : ∀ X : FVec Ideal S4352x2048 .f32, X ((win0_2.blk t).view.emb (ix2 r s : S1088x1024.Idx))
      = X (ix2 (place 4352 (t.val / 2) r) (place 2048 (t.val % 2) s)) := fun X => by
    blk_ext [idx2 t] <;> simp only [place] <;> omega
  refine Eq.trans ?_ (at_place (prod (rows (a m c)) (cols (w m c)))).symm
  rw [after0_2]
  frame_out
  exact (pay1_apply _ _ r s).trans (tile m c t r s)

end

end Cert.OutFwdIdeal.Hand

end
-- ==== Proof.AttnFwdRow.lean ====
/-
  The forward pass of one softmax row: the kernel scales the greatest raw score and divides the sum of products once; the
  reference scales every score and divides every exponential.
-/
module

public import proofs.«01_k».proof.Proof.AttnSpec

@[expose] public section

noncomputable section

namespace Cert.Proof.Row

open Idealize.ShloMosaic
open scoped BigOperators

variable {n : ℕ}

/-- Scaling by a positive number keeps the greatest score. -/
theorem top_scaled (f : Fin n → EReal) (c : ℝ) (hc : 0 < c) : top f * (c : EReal) = top fun j => f j * (c : EReal) := by
  have hm : ∀ x y : EReal, max x y * (c : EReal) = max (x * (c : EReal)) (y * (c : EReal)) := fun x y =>
    Monotone.map_max (f := fun z : EReal => z * (c : EReal))
      fun a b h => mul_le_mul_of_nonneg_right h (EReal.coe_nonneg.2 hc.le)
  have hb : (⊥ : EReal) * (c : EReal) = ⊥ := EReal.bot_mul_coe_of_pos hc
  have h := Finset.fold_hom (op := max) (op' := max) (m := fun z : EReal => z * (c : EReal)) (b := ⊥) (s := Finset.univ) (f := f) hm
  simpa only [top, hb] using h.symm

/-- On finite scores and values, dividing the sum once is dividing each exponential. -/
theorem div_once (hn : 0 < n) (s v : Fin n → EReal) (hs : ∀ j, Fin' (s j)) (hv : ∀ j, Fin' (v j)) :
    Ideal.div (∑ j, ex s j * v j) (den s) = ∑ j, prob s j * v j := by
  obtain ⟨s, rfl⟩ := Fin'.lift hs
  obtain ⟨v, rfl⟩ := Fin'.lift hv
  obtain ⟨M, l, hl, -, he, hd, -⟩ := row_real hn s
  have h0 := hl.ne'
  simp only [prob, he, hd, div_real _ _ h0, ← EReal.coe_mul, ← coe_sum]
  rw [Finset.sum_div]
  exact congrArg _ (Finset.sum_congr rfl fun j _ => by ring)

end Cert.Proof.Row

namespace Cert.Proof.Spec

open Idealize.ShloMosaic Cert.Proof.Row

/-- The scale is a positive number. -/
theorem sca_pos : ∃ c : ℝ, 0 < c ∧ sca = (c : EReal) := by
  refine ⟨11863283 * (2 ^ 27)⁻¹, by positivity, ?_⟩
  rw [EReal.coe_mul]
  simp [sca, Ideal.ofBits, Ideal.ieee]

/-- The attention of a latent row. -/
def oL (q : Fin 4352 → Fin 1024 → EReal) (k v : Fin 4352 → Fin 256 → EReal) (kv : Fin 2) (g : Fin 4) (r : Fin 4096) (d : Fin 128) : EReal :=
  ∑ s : Fin 4352, pL q k kv g r s * v s (kc kv d)
/-- The attention of a context row. -/
def oC (q : Fin 4352 → Fin 1024 → EReal) (k v : Fin 4352 → Fin 256 → EReal) (kv : Fin 2) (g : Fin 4) (r : Fin 256) (d : Fin 128) : EReal :=
  ∑ s : Fin 256, pC q k kv g r s * v (rc s) (kc kv d)

end Cert.Proof.Spec

end
-- ==== Proof.AttnFwdPay.lean ====
/-
  What one grid point of the attention's forward kernel computes from its blocks, in coordinates: the row's attention,
  its sum of products divided once by its sum of exponentials, and the row's log sum of exponentials.
-/
module

public import proofs.«01_k».proof.Proof.Gen.AttnFwdIdeal.Value
public import proofs.«01_k».proof.Proof.AttnPay
public import proofs.«01_k».proof.Proof.AttnFwdRow

@[expose] public section

set_option maxRecDepth 16384

noncomputable section

namespace Cert.AttnFwdIdeal.Hand

open Cert.AttnFwdIdeal Cert.AttnFwdIdeal.Gen Idealize.ShloMosaic Idealize.ShloMosaic.TcCoe Idealize.SL.Sem
open Cert.Proof Cert.Proof.Row
open Cert.KernelIdeal.AttnK (bs)
open scoped BigOperators

section Pay
variable (x0 y1 y2 : FVec Ideal S256x128 .bf16) (x1 x2 : FVec Ideal S4352x128 .bf16)

/-- The greatest raw score, scaled, is the greatest scaled score. -/
theorem greatest {n : ℕ} (f : Fin n → EReal) :
    Finset.univ.fold max (Ideal.ofBits .f32 0xFF800000#32) f * Ideal.ofBits .f32 0x3DB504F3#32 = top fun s => f s * Spec.sca := by
  obtain ⟨c, hc, e⟩ := Spec.sca_pos
  rw [Spec.fold_top, e, ← top_scaled f c hc, ← e]
  rfl

theorem pay1_apply (r : Fin 256) (s : Fin 4352) : k0_pay1 (F := Ideal) x0 x1 (ix2 r s) = ∑ d : Fin 128, x0 (ix2 r d) * x1 (ix2 s d) := by
  pointwise [k0_pay1]

theorem pay2_apply (r : Fin 256) (z : Fin 1) : k0_pay2 (F := Ideal) x0 x1 (ix2 r z) = top (bs x0 x1 r) := by
  pointwise [k0_pay2]
  rw [greatest]
  simp only [pay1_apply]
  rfl

theorem pay3_apply (r : Fin 256) (s : Fin 4352) : k0_pay3 (F := Ideal) x0 x1 (ix2 r s) = ex (bs x0 x1 r) s := by
  pointwise [k0_pay3]
  rw [pay2_apply, pay1_apply]
  rfl

theorem pay4_apply (r : Fin 256) (z : Fin 1) : k0_pay4 (F := Ideal) x0 x1 (ix2 r z) = den (bs x0 x1 r) := by
  pointwise [k0_pay4]
  simp only [pay3_apply]
  rfl

theorem pay5_apply (r : Fin 256) (d : Fin 128) :
    k0_pay5 (F := Ideal) x0 x1 x2 (ix2 r d) = Ideal.div (∑ s, ex (bs x0 x1 r) s * x2 (ix2 s d)) (den (bs x0 x1 r)) := by
  pointwise [k0_pay5]
  simp only [pay3_apply, pay4_apply]

theorem pay6_apply (r : Fin 256) : k0_pay6 (F := Ideal) x0 x1 (ix3 0 r 0) = lse (bs x0 x1 r) := by
  pointwise [k0_pay6]
  simp only [pay2_apply, pay4_apply]
  rfl

theorem pay7_apply (r s : Fin 256) : k0_pay7 (F := Ideal) x0 y1 (ix2 r s) = ∑ d : Fin 128, x0 (ix2 r d) * y1 (ix2 s d) := by
  pointwise [k0_pay7]

theorem pay8_apply (r : Fin 256) (z : Fin 1) : k0_pay8 (F := Ideal) x0 y1 (ix2 r z) = top (bs x0 y1 r) := by
  pointwise [k0_pay8]
  rw [greatest]
  simp only [pay7_apply]
  rfl

theorem pay9_apply (r s : Fin 256) : k0_pay9 (F := Ideal) x0 y1 (ix2 r s) = ex (bs x0 y1 r) s := by
  pointwise [k0_pay9]
  rw [pay8_apply, pay7_apply]
  rfl

theorem pay10_apply (r : Fin 256) (z : Fin 1) : k0_pay10 (F := Ideal) x0 y1 (ix2 r z) = den (bs x0 y1 r) := by
  pointwise [k0_pay10]
  simp only [pay9_apply]
  rfl

theorem pay11_apply (r : Fin 256) (d : Fin 128) :
    k0_pay11 (F := Ideal) x0 y1 y2 (ix2 r d) = Ideal.div (∑ s, ex (bs x0 y1 r) s * y2 (ix2 s d)) (den (bs x0 y1 r)) := by
  pointwise [k0_pay11]
  simp only [pay9_apply, pay10_apply]

theorem pay12_apply (r : Fin 256) : k0_pay12 (F := Ideal) x0 y1 (ix3 0 r 0) = lse (bs x0 y1 r) := by
  pointwise [k0_pay12]
  simp only [pay8_apply, pay10_apply]
  rfl

end Pay

end Cert.AttnFwdIdeal.Hand

end
-- ==== Proof.AttnFwdRef.lean ====
/-
  The reference's attention, read at an index: the probabilities are the ones its gradient uses, and the log sums of
  exponentials the ones the host gives the backward kernel.
-/
module

public import proofs.«01_k».proof.Proof.Gen.AttnFwdRefIdeal.Run
public import proofs.«01_k».proof.Proof.AttnRefRead
public import proofs.«01_k».proof.Proof.AttnLse
public import proofs.«01_k».proof.Proof.AttnFwdRow

@[expose] public section

set_option maxRecDepth 16384

noncomputable section

namespace Cert.AttnFwdRefIdeal.Hand

open Cert.AttnFwdRefIdeal Cert.AttnFwdRefIdeal.Gen Idealize.ShloMosaic Idealize.ShloMosaic.TcCoe Idealize.SL.Sem
open Cert.Proof Cert.Proof.Row
open Cert.ReferenceIdeal.AttnR (k3 kC pL pC pL_apply pC_apply)
open scoped BigOperators

section Stages
variable (q : FVec Ideal S4352x1024 .bf16) (k v : FVec Ideal S4352x256 .bf16)

def latent : FVec Ideal S4096x1024 .f32 :=
  shapeCast S4096x1024 (transpose S4096x2x4x128 [3, 0, 2, 1] (Host.dotGeneral dot_S4352x2x128_S2x4x4096x4352_S2x128x4x4096_0_3_2_12_1_0 none (k3 v) (pL q k))
    transposes_S2x128x4x4096_S4096x2x4x128_3_0_2_1) shapeCasts_S4096x2x4x128_S4096x1024
def context : FVec Ideal S256x1024 .f32 :=
  shapeCast S256x1024 (transpose S256x2x4x128 [3, 0, 2, 1] (Host.dotGeneral dot_S256x2x128_S2x4x256x256_S2x128x4x256_0_3_2_12_1_0 none (kC v) (pC q k))
    transposes_S2x128x4x256_S256x2x4x128_3_0_2_1) shapeCasts_S256x2x4x128_S256x1024
/-- The attention of every row. -/
def OUT : FVec Ideal S4352x1024 .bf16 :=
  truncf .bf16 (concatenate S4352x1024 0 [⟨S4096x1024, latent q k v⟩, ⟨S256x1024, context q k v⟩] concatenates_S4096x1024_S256x1024_S4352x1024_d0) bitsLt_bf16_f32

theorem latent_apply (kv : Fin 2) (g : Fin 4) (r : Fin 4096) (d : Fin 128) :
    latent q k v (ix2 r (Spec.qc kv g d)) = Spec.oL (fun i j => q (ix2 i j)) (fun i j => k (ix2 i j)) (fun i j => v (ix2 i j)) kv g r d := by
  pointwise [latent, k3]
  have e1 : (Spec.qc kv g d).val / 512 = kv.val := by simp only [Spec.qc]; omega
  have e2 : (Spec.qc kv g d).val / 128 % 4 = g.val := by simp only [Spec.qc]; omega
  have e3 : (Spec.qc kv g d).val % 128 = d.val := by simp only [Spec.qc]; omega
  simp only [e1, e2, e3, Fin.eta, pL_apply]
  exact Finset.sum_congr rfl fun s _ => mul_comm _ _

theorem context_apply (kv : Fin 2) (g : Fin 4) (r : Fin 256) (d : Fin 128) :
    context q k v (ix2 r (Spec.qc kv g d)) = Spec.oC (fun i j => q (ix2 i j)) (fun i j => k (ix2 i j)) (fun i j => v (ix2 i j)) kv g r d := by
  pointwise [context, kC, k3]
  have e1 : (Spec.qc kv g d).val / 512 = kv.val := by simp only [Spec.qc]; omega
  have e2 : (Spec.qc kv g d).val / 128 % 4 = g.val := by simp only [Spec.qc]; omega
  have e3 : (Spec.qc kv g d).val % 128 = d.val := by simp only [Spec.qc]; omega
  simp only [e1, e2, e3, Fin.eta, pC_apply]
  exact Finset.sum_congr rfl fun s _ => mul_comm _ _

theorem OUT_latent (r : Fin 4096) (j : Fin 1024) : OUT q k v (ix2 (Spec.rl r) j) = latent q k v (ix2 r j) := by
  pointwise [OUT, Spec.rl]

set_option maxRecDepth 1000000 in
theorem OUT_context (r : Fin 256) (j : Fin 1024) : OUT q k v (ix2 (Spec.rc r) j) = context q k v (ix2 r j) := by
  pointwise [OUT, Spec.rc]

end Stages

section
variable (m : (ℓ : Loc nD τ sig) → Buf (Elt Ideal) ℓ) (c : Dev nD)

theorem reference_out : Cert.AttnFwdRefIdeal.Value.res_main_v47 (F := Ideal) m c
    = OUT (m ((c.tc : Thread nD τ).loc main_arg0)) (m ((c.tc : Thread nD τ).loc main_arg1)) (m ((c.tc : Thread nD τ).loc main_arg2)) := rfl

theorem reference_lse : Cert.AttnFwdRefIdeal.Value.res_main_v80 (F := Ideal) m c
    = Cert.KernelIdeal.AttnK.LSE (m ((c.tc : Thread nD τ).loc main_arg0)) (m ((c.tc : Thread nD τ).loc main_arg1)) := rfl

end

end Cert.AttnFwdRefIdeal.Hand

end
-- ==== Proof.AttnFwdArrays.lean ====
/-
  The arrays the attention's forward kernel leaves, set beside the reference's: each grid point writes one block of rows
  of one query head.
-/
module

public import proofs.«01_k».proof.Proof.AttnFwdPay
public import proofs.«01_k».proof.Proof.AttnFwdRef
public import proofs.«01_k».proof.Proof.AttnFinite
public import proofs.«01_k».proof.Proof.Gen.Pre_finite_qkv

@[expose] public section

set_option maxRecDepth 16384

noncomputable section

namespace Cert.AttnFwdIdeal.Hand

open Cert.AttnFwdIdeal Cert.AttnFwdIdeal.Gen Idealize.ShloMosaic Idealize.ShloMosaic.TcCoe Idealize.SL.Sem
open Cert.Proof Cert.Proof.Row
open Cert.KernelIdeal.AttnK (bs kvOf gOf rowOf rlOf hd ctx ctx_apply rowOf_latent rowOf_context LSE LSE_latent LSE_context sca_fin entry_fin)
open Cert.AttnFwdRefIdeal.Hand (OUT OUT_latent OUT_context latent_apply context_apply)
open scoped BigOperators

theorem idx0 : ∀ t : Fin cfg0.N, win0_0.index t = ![t.val % 17, t.val / 17] :=
  (by decide +kernel : ∀ t : Fin grid0.N, win0_0.index t = ![t.val % 17, t.val / 17])
theorem idx1 : ∀ t : Fin cfg0.N, win0_1.index t = ![0, t.val / 68] :=
  (by decide +kernel : ∀ t : Fin grid0.N, win0_1.index t = ![0, t.val / 68])
theorem idx2 : ∀ t : Fin cfg0.N, win0_2.index t = ![0, t.val / 68] :=
  (by decide +kernel : ∀ t : Fin grid0.N, win0_2.index t = ![0, t.val / 68])
theorem idx3 : ∀ t : Fin cfg0.N, win0_3.index t = ![t.val % 17, t.val / 17] :=
  (by decide +kernel : ∀ t : Fin grid0.N, win0_3.index t = ![t.val % 17, t.val / 17])
theorem idx4 : ∀ t : Fin cfg0.N, win0_4.index t = ![t.val / 17, t.val % 17, 0] :=
  (by decide +kernel : ∀ t : Fin grid0.N, win0_4.index t = ![t.val / 17, t.val % 17, 0])

section
variable (m : (ℓ : Loc nD τ sig) → Buf (Elt Ideal) ℓ) (c : Dev nD)

/-- The three arguments, by row and column. -/
def Q : Fin 4352 → Fin 1024 → EReal := fun i j => m ((c.tc : Thread nD τ).loc main_arg0) (ix2 i j)
def K : Fin 4352 → Fin 256 → EReal := fun i j => m ((c.tc : Thread nD τ).loc main_arg1) (ix2 i j)
def Vv : Fin 4352 → Fin 256 → EReal := fun i j => m ((c.tc : Thread nD τ).loc main_arg2) (ix2 i j)

/-- The blocks a grid point reads. -/
def qBlock (t : Fin cfg0.N) : FVec Ideal S256x128 .bf16 := iblk m c 0 t
def kBlock (t : Fin cfg0.N) : FVec Ideal S4352x128 .bf16 := iblk m c 1 t
def vBlock (t : Fin cfg0.N) : FVec Ideal S4352x128 .bf16 := iblk m c 2 t

theorem qBlock_apply (t : Fin cfg0.N) (r : Fin 256) (d : Fin 128) :
    qBlock m c t (ix2 r d) = Q m c (rowOf t.val r) (Spec.qc (kvOf t.val) (gOf t.val) d) := by
  have ht : t.val < 136 := lt_of_lt_of_eq t.isLt N_0
  rw [Q, qBlock]
  blk_ext [iblk, V, idx0 t] <;> simp only [rowOf, Spec.qc, kvOf, gOf] <;> omega

theorem kBlock_apply (t : Fin cfg0.N) (s : Fin 4352) (d : Fin 128) : kBlock m c t (ix2 s d) = K m c s (Spec.kc (kvOf t.val) d) := by
  have ht : t.val < 136 := lt_of_lt_of_eq t.isLt N_0
  rw [K, kBlock]
  blk_ext [iblk, V, idx1 t]
  simp only [Spec.kc, kvOf]
  omega

theorem vBlock_apply (t : Fin cfg0.N) (s : Fin 4352) (d : Fin 128) : vBlock m c t (ix2 s d) = Vv m c s (Spec.kc (kvOf t.val) d) := by
  have ht : t.val < 136 := lt_of_lt_of_eq t.isLt N_0
  rw [Vv, vBlock]
  blk_ext [iblk, V, idx2 t]
  simp only [Spec.kc, kvOf]
  omega

theorem scores_latent (t : Fin cfg0.N) (h : t.val % 17 ≤ 15) (r : Fin 256) :
    bs (qBlock m c t) (kBlock m c t) r = Spec.scL (Q m c) (K m c) (kvOf t.val) (gOf t.val) (rlOf t.val r) := by
  funext s
  simp only [bs, qBlock_apply, kBlock_apply, rowOf_latent t.val h]
  rfl

theorem scores_context (t : Fin cfg0.N) (h : t.val % 17 = 16) (r : Fin 256) :
    bs (qBlock m c t) (ctx (kBlock m c t)) r = Spec.scC (Q m c) (K m c) (kvOf t.val) (gOf t.val) r := by
  funext s
  simp only [bs, qBlock_apply, ctx_apply, kBlock_apply, rowOf_context t.val h]
  rfl

/-! What a grid point leaves: a latent point's terms, then a context point's. -/

theorem out_A (t : Fin cfg0.N) (h0 : t.val % 17 ≤ 15) (y : S256x128.Idx) :
    (outsAt0 m c t.val t.isLt).1 y = k0_pay5 (F := Ideal) (qBlock m c t) (kBlock m c t) (vBlock m c t) y := by
  rw [outsAt0_A m c t h0 (by omega)]
  frame_out
  rfl

theorem out_B (t : Fin cfg0.N) (h1 : t.val % 17 = 16) (y : S256x128.Idx) :
    (outsAt0 m c t.val t.isLt).1 y = k0_pay11 (F := Ideal) (qBlock m c t) (ctx (kBlock m c t)) (ctx (vBlock m c t)) y := by
  rw [outsAt0_B m c t (by omega) h1]
  frame_out
  rfl

theorem lse_A (t : Fin cfg0.N) (h0 : t.val % 17 ≤ 15) (y : S1x256x1.Idx) :
    (outsAt0 m c t.val t.isLt).2 y = k0_pay6 (F := Ideal) (qBlock m c t) (kBlock m c t) y := by
  rw [outsAt0_A m c t h0 (by omega)]
  frame_out
  rfl

theorem lse_B (t : Fin cfg0.N) (h1 : t.val % 17 = 16) (y : S1x256x1.Idx) :
    (outsAt0 m c t.val t.isLt).2 y = k0_pay12 (F := Ideal) (qBlock m c t) (ctx (kBlock m c t)) y := by
  rw [outsAt0_B m c t (by omega) h1]
  frame_out
  rfl

/-- Where a block of each result lands in its array. -/
theorem place3 (t : Fin cfg0.N) (r : Fin 256) (d : Fin 128) (X : FVec Ideal S4352x1024 .bf16) :
    X ((win0_3.blk t).view.emb (ix2 r d : S256x128.Idx)) = X (ix2 (rowOf t.val r) (Spec.qc (kvOf t.val) (gOf t.val) d)) := by
  have ht : t.val < 136 := lt_of_lt_of_eq t.isLt N_0
  blk_ext [idx3 t] <;> simp only [rowOf, Spec.qc, kvOf, gOf] <;> omega
theorem place4 (t : Fin cfg0.N) (r : Fin 256) (X : FVec Ideal S8x4352x1 .f32) :
    X ((win0_4.blk t).view.emb (ix3 0 r 0 : S1x256x1.Idx)) = X (ix3 (hd (kvOf t.val) (gOf t.val)) (rowOf t.val r) 0) := by
  have ht : t.val < 136 := lt_of_lt_of_eq t.isLt N_0
  blk_ext [idx4 t] <;> simp only [rowOf, hd, kvOf, gOf] <;> omega

/-- The log sums of exponentials the kernel leaves are the reference's. -/
theorem array_lse : (dats m 0 c).arrAt 4 cfg0.N
    = LSE (m ((c.tc : Thread nD τ).loc main_arg0)) (m ((c.tc : Thread nD τ).loc main_arg1)) := by
  refine (dats m 0 c).arrAt_eq_of_covers 4 _ (by decide +kernel) fun t hf y => ?_
  blk_simp
  rw [after0_4]
  obtain ⟨r, rfl⟩ : ∃ (r : Fin 256), y = (ix3 0 r 0 : S1x256x1.Idx) :=
    ⟨y 1, (ix3_eta y).symm.trans (congrArg₂ (fun a b => (ix3 a (y 1) b : S1x256x1.Idx)) (Subsingleton.elim (α := Fin 1) _ _) (Subsingleton.elim (α := Fin 1) _ _))⟩
  refine Eq.trans ?_ (place4 t r _).symm
  by_cases h : t.val % 17 ≤ 15
  · rw [rowOf_latent t.val h, LSE_latent, lse_A m c t h, pay6_apply, scores_latent m c t h]
    rfl
  · rw [rowOf_context t.val (by omega), LSE_context, lse_B m c t (by omega), pay12_apply, scores_context m c t (by omega)]
    rfl

/-- Every entry of the three arguments is a number. -/
structure Finite : Prop where
  q : ∀ i j, Fin' (Q m c i j)
  k : ∀ i j, Fin' (K m c i j)
  v : ∀ i j, Fin' (Vv m c i j)

variable {m c} (H : Finite m c)
include H

theorem score_fin (kv : Fin 2) (g : Fin 4) (r s : Fin 4352) : Fin' (Spec.sc (Q m c) (K m c) kv g r s) :=
  (Fin'.sum _ fun d => (H.q _ _).mul (H.k _ _)).mul sca_fin

/-- The attention the kernel leaves is the reference's. -/
theorem array_out : (dats m 0 c).arrAt 3 cfg0.N
    = OUT (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  obtain ⟨r, d, rfl⟩ : ∃ (r : Fin 256) (d : Fin 128), y = (ix2 r d : S256x128.Idx) := ⟨_, _, (ix2_eta y).symm⟩
  refine Eq.trans ?_ (place3 t r d _).symm
  by_cases h : t.val % 17 ≤ 15
  · rw [rowOf_latent t.val h, OUT_latent, latent_apply, out_A m c t h, pay5_apply, scores_latent m c t h]
    refine (div_once (by norm_num) _ (fun s => vBlock m c t (ix2 s d)) (fun s => score_fin H _ _ _ _) (fun s => by rw [vBlock_apply]; exact H.v _ _)).trans ?_
    simp only [vBlock_apply]
    rfl
  · rw [rowOf_context t.val (by omega), OUT_context, context_apply, out_B m c t (by omega), pay11_apply, scores_context m c t (by omega)]
    refine (div_once (by norm_num) _ (fun s => ctx (vBlock m c t) (ix2 s d)) (fun s => score_fin H _ _ _ _)
      (fun s => by rw [ctx_apply, vBlock_apply]; exact H.v _ _)).trans ?_
    simp only [ctx_apply, vBlock_apply]
    rfl

end

section
variable (q : FVec Ideal ⟨2, ![4352, 1024]⟩ .bf16) (k v : FVec Ideal ⟨2, ![4352, 256]⟩ .bf16)
variable (h : Cert.Pre_finite_qkv.fn (F := Ideal) q k v = fun _ => 1#1)
include h

theorem q_fin (r : Fin 4352) (j : Fin 1024) : Fin' (q (ix2 r j)) := by
  refine entry_fin _ (Eq.trans ?_ (congrFun h (ix2 r ⟨j.val, by omega⟩)))
  pointwise [Cert.Pre_finite_qkv.fn]
  rfl

theorem k_fin (r : Fin 4352) (j : Fin 256) : Fin' (k (ix2 r j)) := by
  refine entry_fin _ (Eq.trans ?_ (congrFun h (ix2 r ⟨1024 + j.val, by omega⟩)))
  pointwise [Cert.Pre_finite_qkv.fn]
  rfl

theorem v_fin (r : Fin 4352) (j : Fin 256) : Fin' (v (ix2 r j)) := by
  refine entry_fin _ (Eq.trans ?_ (congrFun h (ix2 r ⟨1280 + j.val, by omega⟩)))
  pointwise [Cert.Pre_finite_qkv.fn]
  rw [dif_neg (by omega), dif_neg (by omega)]
  simp only [show 1280 + j.val - 1024 - 256 = j.val by omega]
  rfl
end

theorem finite_of_pre {m : (ℓ : Loc nD τ sig) → Buf (Elt Ideal) ℓ} (h : Cert.Pre_AttnFwdIdeal_finite_qkv m) (c : Dev nD) : Finite m c where
  q := q_fin _ _ _ (h c)
  k := k_fin _ _ _ (h c)
  v := v_fin _ _ _ (h c)

end Cert.AttnFwdIdeal.Hand

end
-- ==== Proof.ConvSpec.lean ====
/-
  The three-tap convolution along rows with its gate, and its gradient, in coordinates of one segment of rows. The latent
  rows and the context rows are a segment each, with a row of zeros beyond either end.
-/
module

public import proofs.«01_k».proof.Proof.AttnSpec

@[expose] public section

set_option maxRecDepth 16384

noncomputable section

namespace Cert.Proof.Conv

open Idealize.ShloMosaic
open Cert.Proof.Row
open scoped BigOperators

section Segment
variable {n : ℕ}

/-- The row before, zero before the first. -/
def pv (x : Fin n → EReal) (i : Fin n) : EReal := if i.val = 0 then 0 else x ⟨i.val - 1, by omega⟩
/-- The row after, zero after the last. -/
def nx (x : Fin n → EReal) (i : Fin n) : EReal := if h : i.val + 1 < n then x ⟨i.val + 1, h⟩ else 0

/-- The convolution of a column. -/
def cv (b : EReal) (w : Fin 3 → EReal) (x : Fin n → EReal) (i : Fin n) : EReal := b + w 0 * pv x i + w 1 * x i + w 2 * nx x i
/-- The gradient of a convolution's column. -/
def dx (w : Fin 3 → EReal) (dy : Fin n → EReal) (i : Fin n) : EReal := w 0 * nx dy i + w 1 * dy i + w 2 * pv dy i
/-- The three taps of a column. -/
def tap (x : Fin n → EReal) (j : Fin 3) (i : Fin n) : EReal := if j = 0 then pv x i else if j = 1 then x i else nx x i

/-- The gradients of the gate's and of the value's convolution, at one entry. -/
def dGate (da y z : EReal) : EReal := da * z * Ideal.logistic y * (1 + y * (1 - Ideal.logistic y))
def dVal (da y : EReal) : EReal := da * y * Ideal.logistic y

theorem pv_fin {x : Fin n → EReal} (h : ∀ i, Fin' (x i)) (i : Fin n) : Fin' (pv x i) := by
  rw [pv]; split
  · exact coe_fin 0
  · exact h _
theorem nx_fin {x : Fin n → EReal} (h : ∀ i, Fin' (x i)) (i : Fin n) : Fin' (nx x i) := by
  rw [nx]; split
  · exact h _
  · exact coe_fin 0

theorem add_fin {x y : EReal} (hx : Fin' x) (hy : Fin' y) : Fin' (x + y) := by
  rw [← EReal.coe_toReal hx.1 hx.2, ← EReal.coe_toReal hy.1 hy.2, ← EReal.coe_add]; exact coe_fin _

theorem cv_fin {b : EReal} {w : Fin 3 → EReal} {x : Fin n → EReal} (hb : Fin' b) (hw : ∀ j, Fin' (w j)) (hx : ∀ i, Fin' (x i)) (i : Fin n) :
    Fin' (cv b w x i) :=
  add_fin (add_fin (add_fin hb ((hw 0).mul (pv_fin hx i))) ((hw 1).mul (hx i))) ((hw 2).mul (nx_fin hx i))

/-- On finite entries the gate's gradient, written as the derivative of the logistic function. -/
theorem dGate_eq {da y z : EReal} (ha : Fin' da) (hy : Fin' y) (hz : Fin' z) :
    da * z * Ideal.logistic y + y * (da * z) * (Ideal.logistic y * (1 - Ideal.logistic y)) = dGate da y z := by
  rw [dGate, ← EReal.coe_toReal ha.1 ha.2, ← EReal.coe_toReal hy.1 hy.2, ← EReal.coe_toReal hz.1 hz.2, Ideal.logistic_coe, ← EReal.coe_one]
  simp only [← EReal.coe_mul, ← EReal.coe_add, ← EReal.coe_sub]
  exact congrArg _ (by ring)

end Segment

/-! Both segments in one column. -/

/-- The latent rows of a column, and its context rows. -/
def lat (x : Fin 4352 → EReal) (r : Fin 4096) : EReal := x (Spec.rl r)
def con (x : Fin 4352 → EReal) (r : Fin 256) : EReal := x (Spec.rc r)

/-- The column moved down by one row, with zeros put at rows `a` and `b`; likewise moved by `k` rows around its end. -/
def moved (k a b : ℕ) (x : Fin 4352 → EReal) (i : Fin 4352) : EReal :=
  if i.val = a ∨ i.val = b then 0 else x ⟨(i.val + 4352 - k % 4352) % 4352, Nat.mod_lt _ (by norm_num)⟩

theorem prev_lat (x : Fin 4352 → EReal) (r : Fin 4096) : moved 1 0 4096 x (Spec.rl r) = pv (lat x) r := by
  have e : (Spec.rl r).val = r.val := rfl
  rw [moved, pv]
  by_cases h : r.val = 0
  · rw [if_pos (by omega), if_pos h]
  · rw [if_neg (by omega), if_neg h, lat]
    exact congrArg x (Fin.ext (by simp only [Spec.rl]; omega))

theorem prev_con (x : Fin 4352 → EReal) (r : Fin 256) : moved 1 0 4096 x (Spec.rc r) = pv (con x) r := by
  have e : (Spec.rc r).val = 4096 + r.val := rfl
  rw [moved, pv]
  by_cases h : r.val = 0
  · rw [if_pos (Or.inr (by omega)), if_pos h]
  · rw [if_neg (by omega), if_neg h, con]
    exact congrArg x (Fin.ext (by simp only [Spec.rc]; omega))

theorem next_lat (x : Fin 4352 → EReal) (r : Fin 4096) : moved 4351 4095 4351 x (Spec.rl r) = nx (lat x) r := by
  have e : (Spec.rl r).val = r.val := rfl
  rw [moved, nx]
  by_cases h : r.val + 1 < 4096
  · rw [if_neg (by omega), dif_pos h, lat]
    exact congrArg x (Fin.ext (by simp only [Spec.rl]; omega))
  · rw [if_pos (by omega), dif_neg h]

theorem next_con (x : Fin 4352 → EReal) (r : Fin 256) : moved 4351 4095 4351 x (Spec.rc r) = nx (con x) r := by
  have e : (Spec.rc r).val = 4096 + r.val := rfl
  rw [moved, nx]
  by_cases h : r.val + 1 < 256
  · rw [if_neg (by omega), dif_pos h, con]
    exact congrArg x (Fin.ext (by simp only [Spec.rc]; omega))
  · rw [if_pos (by omega), dif_neg h]

/-- A sum over the rows of a column is the latent rows' and the context rows'. -/
theorem sum_rows (f : Fin 4352 → EReal) : ∑ i, f i = ∑ r, lat f r + ∑ r, con f r :=
  Fin.sum_univ_add (a := 4096) (b := 256) f

/-- Every row is a latent row or a context row. -/
theorem row_cases (i : Fin 4352) : (∃ r, i = Spec.rl r) ∨ ∃ r, i = Spec.rc r := by
  by_cases h : i.val < 4096
  · exact Or.inl ⟨⟨i.val, h⟩, rfl⟩
  · exact Or.inr ⟨⟨i.val - 4096, by omega⟩, Fin.ext (by simp only [Spec.rc]; omega)⟩

end Cert.Proof.Conv

end
-- ==== Proof.ConvStage.lean ====
/-
  The stages of the reference's convolution and of its gradient over one segment of `n` rows, each read in coordinates.
  The reference runs them over the latent rows and over the context rows.
-/
module

public import proofs.«01_k».proof.Proof.ConvSpec
public import Idealize.ShloMosaic.Lib.Pointwise

@[expose] public section

set_option maxRecDepth 16384

noncomputable section

namespace Cert.Proof.Conv

open Idealize.ShloMosaic
open scoped BigOperators

/-- `n` rows of every column, and of the gate's or the value's columns. -/
abbrev Rows (n : ℕ) : Shape := ⟨2, ![n, 11264]⟩
abbrev Half (n : ℕ) : Shape := ⟨2, ![n, 5632]⟩
abbrev Cols : Shape := ⟨1, ![11264]⟩
abbrev One : Shape := ⟨0, ![]⟩

/-- A gate's column and a value's column, among all columns. -/
def gc (j : Fin 5632) : Fin 11264 := ⟨j.val, by omega⟩
def vc (j : Fin 5632) : Fin 11264 := ⟨5632 + j.val, by omega⟩

section
variable {n : ℕ}

/-- A column of an array. -/
def col {m : ℕ} (x : FVec Ideal ⟨2, ![n, m]⟩ .f32) (j : Fin m) (i : Fin n) : EReal := x (ix2 i j)

theorem nx_pos (x : Fin n → EReal) (i : Fin n) (h : i.val + 1 < n) : nx x i = x ⟨i.val + 1, h⟩ := by
  unfold nx
  exact dif_pos h
theorem nx_neg (x : Fin n → EReal) (i : Fin n) (h : ¬i.val + 1 < n) : nx x i = 0 := by
  unfold nx
  exact dif_neg h

/-- The side conditions of the stages' operations. -/
structure Shapes (n : ℕ) : Prop where
  zero : One.BroadcastsInDim (Rows 1) ![]
  zeros : One.BroadcastsInDim (Rows n) ![]
  ones : One.BroadcastsInDim (Half n) ![]
  join : Shape.Concatenates [Rows 1, Rows n, Rows 1] (Rows (n + 2)) 0
  tap0 : (Rows (n + 2)).Slices ![0, 0] (Rows n)
  tap1 : (Rows (n + 2)).Slices ![1, 0] (Rows n)
  tap2 : (Rows (n + 2)).Slices ![2, 0] (Rows n)
  row0 : (Rows 3).Slices ![0, 0] (Rows 1)
  row1 : (Rows 3).Slices ![1, 0] (Rows 1)
  row2 : (Rows 3).Slices ![2, 0] (Rows 1)
  flat : (Rows 1).ShapeCasts Cols
  unflat : Cols.ShapeCasts (Rows 1)
  lift : Cols.BroadcastsInDim (Rows 1) ![1]
  spread : (Rows 1).BroadcastsInDim (Rows n) ![0, 1]
  gate : (Rows n).Slices ![0, 0] (Half n)
  value : (Rows n).Slices ![0, 5632] (Half n)
  both : Shape.Concatenates [Half n, Half n] (Rows n) 1
  pad0 : (Rows n).Pads ![0, 0] ![2, 0] ![0, 0] (Rows (n + 2))
  pad1 : (Rows n).Pads ![1, 0] ![1, 0] ![0, 0] (Rows (n + 2))
  pad2 : (Rows n).Pads ![2, 0] ![0, 0] ![0, 0] (Rows (n + 2))
  sum : (Rows n).ReducesTo [0] Cols
  sum1 : (Rows 1).ReducesTo [0] Cols
  pos : 0 < One.numel

/-- Two indices with the same coordinates are equal. -/
theorem idx_eq {p q : ℕ} (f : (⟨2, ![p, q]⟩ : Shape).Idx) (i : Fin p) (j : Fin q) (h0 : (f 0).val = i.val) (h1 : (f 1).val = j.val) :
    f = ix2 i j :=
  (ix2_eta f).symm.trans (congrArg₂ ix2 (Fin.ext h0) (Fin.ext h1))

/-- A slice, read in coordinates. -/
theorem slice_read {p q p' q' : ℕ} {φ : FTy} (v : FVec Ideal ⟨2, ![p, q]⟩ φ) (a b : ℕ) (h : (⟨2, ![p, q]⟩ : Shape).Slices ![a, b] ⟨2, ![p', q']⟩)
    (i : Fin p') (j : Fin q') (i' : Fin p) (j' : Fin q) (hi : i'.val = a + i.val) (hj : j'.val = b + j.val) :
    extractStridedSlice ⟨2, ![p', q']⟩ ![a, b] v h (ix2 i j) = v (ix2 i' j') := by
  pointwise
  exact congrArg v (idx_eq _ _ _ hi.symm hj.symm)

/-- An array with rows of zeros added, read in coordinates. -/
theorem pad_read {p p' q : ℕ} (v : FVec Ideal ⟨2, ![p, q]⟩ .f32) (a b : ℕ) (h : (⟨2, ![p, q]⟩ : Shape).Pads ![a, 0] ![b, 0] ![0, 0] ⟨2, ![p', q]⟩)
    (hu : 0 < One.numel) (i : Fin p') (j : Fin q) :
    pad ⟨2, ![p', q]⟩ ![a, 0] ![b, 0] ![0, 0] v (constant One .f32 0x00000000#32 : FVec Ideal One .f32) h hu (ix2 i j) = if h : a ≤ i.val ∧ i.val - a < p then v (ix2 ⟨i.val - a, h.2⟩ j) else 0 := by
  pointwise
  exact dite_congr rfl (fun h => congrArg v (idx_eq _ _ _ (Nat.div_one _) (Nat.div_one _))) fun _ => rfl

variable (S : Shapes n) (x y dy : FVec Ideal (Rows n) .f32) (w : FVec Ideal (Rows 3) .f32) (b r : FVec Ideal (Rows 1) .f32) (da : FVec Ideal (Half n) .f32)

/-- The segment with a row of zeros at either end. -/
def padded : FVec Ideal (Rows (n + 2)) .f32 :=
  concatenate (Rows (n + 2)) 0 [⟨Rows 1, broadcastInDim (Rows 1) ![] S.zero (constant One .f32 0x00000000#32)⟩, ⟨Rows n, x⟩,
    ⟨Rows 1, broadcastInDim (Rows 1) ![] S.zero (constant One .f32 0x00000000#32)⟩] S.join

theorem padded_apply (i : Fin (n + 2)) (j : Fin 11264) :
    padded S x (ix2 i j) = if i.val < 1 then 0 else if h : i.val - 1 < n then x (ix2 ⟨i.val - 1, h⟩ j) else 0 := by
  pointwise [padded]
  exact if_congr Iff.rfl rfl (dite_congr rfl (fun h => congrArg x (idx_eq _ _ _ rfl rfl)) fun _ => rfl)

def t0 : FVec Ideal (Rows n) .f32 := extractStridedSlice (Rows n) ![0, 0] (padded S x) S.tap0
def t1 : FVec Ideal (Rows n) .f32 := extractStridedSlice (Rows n) ![1, 0] (padded S x) S.tap1
def t2 : FVec Ideal (Rows n) .f32 := extractStridedSlice (Rows n) ![2, 0] (padded S x) S.tap2

theorem t0_apply (i : Fin n) (j : Fin 11264) : t0 S x (ix2 i j) = pv (col x j) i := by
  have e : t0 S x (ix2 i j) = padded S x (ix2 ⟨i.val, by omega⟩ j) := slice_read _ _ _ _ _ _ _ _ (Nat.zero_add _).symm (Nat.zero_add _).symm
  rw [e, padded_apply]
  by_cases h : i.val = 0
  · exact (if_pos (by simp only; omega)).trans (if_pos h).symm
  · exact (if_neg (by simp only; omega)).trans ((dif_pos (by simp only; omega)).trans (if_neg h).symm)
theorem t1_apply (i : Fin n) (j : Fin 11264) : t1 S x (ix2 i j) = x (ix2 i j) := by
  have e : t1 S x (ix2 i j) = padded S x (ix2 ⟨1 + i.val, by omega⟩ j) := slice_read _ _ _ _ _ _ _ _ rfl (Nat.zero_add _).symm
  rw [e, padded_apply]
  exact (if_neg (by simp only; omega)).trans ((dif_pos (by simp only; omega)).trans (congrArg x (idx_eq _ _ _ (Nat.add_sub_cancel_left _ _) rfl)))
theorem t2_apply (i : Fin n) (j : Fin 11264) : t2 S x (ix2 i j) = nx (col x j) i := by
  have e : t2 S x (ix2 i j) = padded S x (ix2 ⟨2 + i.val, by omega⟩ j) := slice_read _ _ _ _ _ _ _ _ rfl (Nat.zero_add _).symm
  rw [e, padded_apply]
  by_cases h : i.val + 1 < n
  · exact (if_neg (by simp only; omega)).trans ((dif_pos (by simp only; omega)).trans
      ((congrArg x (idx_eq _ ⟨i.val + 1, h⟩ j (by show 2 + i.val - 1 = i.val + 1; omega) rfl)).trans (nx_pos (col x j) i h).symm))
  · exact (if_neg (by simp only; omega)).trans ((dif_neg (by simp only; omega)).trans (nx_neg (col x j) i h).symm)

/-- A row of the weights, over the rows of the segment. -/
def w0 : FVec Ideal (Rows n) .f32 := broadcastInDim (Rows n) ![0, 1] S.spread (broadcastInDim (Rows 1) ![1] S.lift (shapeCast Cols (extractStridedSlice (Rows 1) ![0, 0] w S.row0) S.flat))
def w1 : FVec Ideal (Rows n) .f32 := broadcastInDim (Rows n) ![0, 1] S.spread (broadcastInDim (Rows 1) ![1] S.lift (shapeCast Cols (extractStridedSlice (Rows 1) ![1, 0] w S.row1) S.flat))
def w2 : FVec Ideal (Rows n) .f32 := broadcastInDim (Rows n) ![0, 1] S.spread (broadcastInDim (Rows 1) ![1] S.lift (shapeCast Cols (extractStridedSlice (Rows 1) ![2, 0] w S.row2) S.flat))

theorem w0_apply (i : Fin n) (j : Fin 11264) : w0 S w (ix2 i j) = w (ix2 0 j) := by pointwise [w0]
theorem w1_apply (i : Fin n) (j : Fin 11264) : w1 S w (ix2 i j) = w (ix2 1 j) := by pointwise [w1]
theorem w2_apply (i : Fin n) (j : Fin 11264) : w2 S w (ix2 i j) = w (ix2 2 j) := by pointwise [w2]

/-- The convolution of the segment. -/
def conv : FVec Ideal (Rows n) .f32 :=
  addf (broadcastInDim (Rows n) ![0, 1] S.spread (broadcastInDim (Rows 1) ![1] S.lift (shapeCast Cols b S.flat)))
    (addf (addf (addf (broadcastInDim (Rows n) ![] S.zeros (constant One .f32 0x00000000#32)) (mulf (t0 S x) (w0 S w)))
      (mulf (t1 S x) (w1 S w))) (mulf (t2 S x) (w2 S w)))

theorem conv_apply (i : Fin n) (j : Fin 11264) :
    conv S x w b (ix2 i j) = cv (b (ix2 0 j)) (fun a => w (ix2 a j)) (col x j) i := by
  have h : conv S x w b (ix2 i j) = b (ix2 0 j) + (((0 + t0 S x (ix2 i j) * w0 S w (ix2 i j)) + t1 S x (ix2 i j) * w1 S w (ix2 i j))
      + t2 S x (ix2 i j) * w2 S w (ix2 i j)) := by pointwise [conv]
  rw [h, t0_apply, t1_apply, t2_apply, w0_apply, w1_apply, w2_apply, zero_add, mul_comm _ (w (ix2 0 j)), mul_comm _ (w (ix2 1 j)), mul_comm _ (w (ix2 2 j)),
    ← add_assoc, ← add_assoc]
  rfl

/-- The gate and value halves of the convolution's columns, and the gate's logistic. -/
def gateHalf : FVec Ideal (Half n) .f32 := extractStridedSlice (Half n) ![0, 0] y S.gate
def valueHalf : FVec Ideal (Half n) .f32 := extractStridedSlice (Half n) ![0, 5632] y S.value
def sig : FVec Ideal (Half n) .f32 :=
  Host.divf (broadcastInDim (Half n) ![] S.ones (constant One .f32 0x3f800000#32))
    (addf (broadcastInDim (Half n) ![] S.ones (constant One .f32 0x3f800000#32)) (Host.exp (Host.negf (gateHalf S y))))

theorem gateHalf_apply (i : Fin n) (j : Fin 5632) : gateHalf S y (ix2 i j) = y (ix2 i (gc j)) :=
  slice_read _ _ _ _ _ _ _ _ (Nat.zero_add _).symm (Nat.zero_add _).symm
theorem valueHalf_apply (i : Fin n) (j : Fin 5632) : valueHalf S y (ix2 i j) = y (ix2 i (vc j)) :=
  slice_read _ _ _ _ _ _ _ _ (Nat.zero_add _).symm rfl
theorem sig_apply (i : Fin n) (j : Fin 5632) : sig S y (ix2 i j) = Ideal.logistic (y (ix2 i (gc j))) := by
  have h : sig S y (ix2 i j) = Ideal.div 1 (1 + Ideal.exp (-gateHalf S y (ix2 i j))) := by pointwise [sig]
  rw [h, gateHalf_apply]
  rfl

/-- The gate's activation times the value. -/
def act : FVec Ideal (Half n) .f32 := mulf (mulf (gateHalf S y) (sig S y)) (valueHalf S y)

theorem act_apply (i : Fin n) (j : Fin 5632) :
    act S y (ix2 i j) = y (ix2 i (gc j)) * Ideal.logistic (y (ix2 i (gc j))) * y (ix2 i (vc j)) := by
  have h : act S y (ix2 i j) = gateHalf S y (ix2 i j) * sig S y (ix2 i j) * valueHalf S y (ix2 i j) := by pointwise [act]
  rw [h, gateHalf_apply, valueHalf_apply, sig_apply]

/-- The convolution's gradient from the activation's. -/
def dgate : FVec Ideal (Half n) .f32 :=
  addf (mulf (mulf da (valueHalf S y)) (sig S y))
    (mulf (mulf (gateHalf S y) (mulf da (valueHalf S y))) (mulf (sig S y) (subf (broadcastInDim (Half n) ![] S.ones (constant One .f32 0x3f800000#32)) (sig S y))))
def dvalue : FVec Ideal (Half n) .f32 := mulf (mulf (gateHalf S y) (sig S y)) da
def dconv : FVec Ideal (Rows n) .f32 := concatenate (Rows n) 1 [⟨Half n, dgate S y da⟩, ⟨Half n, dvalue S y da⟩] S.both

theorem dconv_gate (i : Fin n) (j : Fin 5632) : dconv S y da (ix2 i (gc j)) = dgate S y da (ix2 i j) := by
  pointwise [dconv]
  exact (dif_pos j.isLt).trans (congrArg (dgate S y da) (idx_eq _ _ _ rfl rfl))
theorem dconv_value (i : Fin n) (j : Fin 5632) : dconv S y da (ix2 i (vc j)) = dvalue S y da (ix2 i j) := by
  pointwise [dconv]
  exact (dif_neg (by show ¬(5632 + j.val < 5632); omega)).trans (congrArg (dvalue S y da) (idx_eq _ _ _ rfl (Nat.add_sub_cancel_left _ _)))
theorem dgate_apply (i : Fin n) (j : Fin 5632) : dgate S y da (ix2 i j) =
    da (ix2 i j) * y (ix2 i (vc j)) * Ideal.logistic (y (ix2 i (gc j)))
      + y (ix2 i (gc j)) * (da (ix2 i j) * y (ix2 i (vc j))) * (Ideal.logistic (y (ix2 i (gc j))) * (1 - Ideal.logistic (y (ix2 i (gc j))))) := by
  have h : dgate S y da (ix2 i j) = da (ix2 i j) * valueHalf S y (ix2 i j) * sig S y (ix2 i j)
      + gateHalf S y (ix2 i j) * (da (ix2 i j) * valueHalf S y (ix2 i j)) * (sig S y (ix2 i j) * (1 - sig S y (ix2 i j))) := by pointwise [dgate]
  rw [h, gateHalf_apply, valueHalf_apply, sig_apply]
theorem dvalue_apply (i : Fin n) (j : Fin 5632) : dvalue S y da (ix2 i j) =
    y (ix2 i (gc j)) * Ideal.logistic (y (ix2 i (gc j))) * da (ix2 i j) := by
  have h : dvalue S y da (ix2 i j) = gateHalf S y (ix2 i j) * sig S y (ix2 i j) * da (ix2 i j) := by pointwise [dvalue]
  rw [h, gateHalf_apply, sig_apply]

/-- The segment's gradient, with the rows the padding added. -/
def dpad : FVec Ideal (Rows (n + 2)) .f32 :=
  addf (addf (pad (Rows (n + 2)) ![2, 0] ![0, 0] ![0, 0] (mulf dy (w2 S w)) (constant One .f32 0x00000000#32) S.pad2 S.pos)
    (pad (Rows (n + 2)) ![1, 0] ![1, 0] ![0, 0] (mulf dy (w1 S w)) (constant One .f32 0x00000000#32) S.pad1 S.pos))
    (pad (Rows (n + 2)) ![0, 0] ![2, 0] ![0, 0] (mulf dy (w0 S w)) (constant One .f32 0x00000000#32) S.pad0 S.pos)
def dseg : FVec Ideal (Rows n) .f32 := extractStridedSlice (Rows n) ![1, 0] (dpad S dy w) S.tap1

theorem dseg_apply (i : Fin n) (j : Fin 11264) : dseg S dy w (ix2 i j) = dx (fun a => w (ix2 a j)) (col dy j) i := by
  have e : dseg S dy w (ix2 i j) = dpad S dy w (ix2 ⟨1 + i.val, by omega⟩ j) := slice_read _ _ _ _ _ _ _ _ rfl (Nat.zero_add _).symm
  rw [e]
  have m (u : FVec Ideal (Rows n) .f32) (k : Fin n) : mulf dy u (ix2 k j) = u (ix2 k j) * dy (ix2 k j) := mul_comm _ _
  have h : dpad S dy w (ix2 ⟨1 + i.val, by omega⟩ j) = _ + _ + _ :=
    congrArg₂ (· + ·) (congrArg₂ (· + ·) (pad_read _ _ _ S.pad2 S.pos _ j) (pad_read _ _ _ S.pad1 S.pos _ j)) (pad_read _ _ _ S.pad0 S.pos _ j)
  rw [h]
  simp only [m, w0_apply, w1_apply, w2_apply]
  rw [dif_pos (c := 1 ≤ 1 + i.val ∧ _) ⟨by omega, by omega⟩]
  have e2 : (if h : 2 ≤ 1 + i.val ∧ 1 + i.val - 2 < n then w (ix2 2 j) * dy (ix2 ⟨1 + i.val - 2, h.2⟩ j) else 0)
      = w (ix2 2 j) * pv (col dy j) i := by
    by_cases h0 : i.val = 0
    · refine (dif_neg (by omega)).trans ?_
      rw [show pv (col dy j) i = 0 from if_pos h0, mul_zero]
    · refine (dif_pos (by omega)).trans (congrArg _ ?_)
      rw [show pv (col dy j) i = col dy j ⟨i.val - 1, by omega⟩ from if_neg h0]
      exact congrArg dy (idx_eq _ _ _ (by show 1 + i.val - 2 = i.val - 1; omega) rfl)
  have e0 : (if h : 0 ≤ 1 + i.val ∧ 1 + i.val - 0 < n then w (ix2 0 j) * dy (ix2 ⟨1 + i.val - 0, h.2⟩ j) else 0)
      = w (ix2 0 j) * nx (col dy j) i := by
    by_cases h0 : i.val + 1 < n
    · refine (dif_pos (by omega)).trans (congrArg _ ?_)
      rw [nx_pos _ i h0]
      exact congrArg dy (idx_eq _ _ _ (by show 1 + i.val - 0 = i.val + 1; omega) rfl)
    · refine (dif_neg (by omega)).trans ?_
      rw [nx_neg _ i h0, mul_zero]
  have e1 : dy (ix2 ⟨1 + i.val - 1, by omega⟩ j) = dy (ix2 i j) := congrArg dy (idx_eq _ _ _ (Nat.add_sub_cancel_left _ _) rfl)
  rw [e2, e0, e1, add_comm, add_comm (w (ix2 2 j) * _), ← add_assoc]
  rfl

/-- The sum over a segment's rows. -/
def total : FVec Ideal (Rows 1) .f32 :=
  broadcastInDim (Rows 1) ![1] S.lift (Host.reduceAdd (shapeCast (Rows 1) (Host.reduceAdd y (constant One .f32 0x00000000#32) S.sum S.pos) S.unflat) (constant One .f32 0x00000000#32) S.sum1 S.pos)

theorem total_apply (j : Fin 11264) : total S y (ix2 0 j) = ∑ i, col y j i := by
  have h : total S y (ix2 0 j) = ∑ _k : Fin 1, ∑ i : Fin n, y (ix2 i j) := by pointwise [total]
  rw [h, Fin.sum_univ_one]
  rfl

/-- The gradient of a row of the weights: a tap's products with the convolution's gradient, summed. -/
theorem total_tap (x' : FVec Ideal (Rows n) .f32) (t : Fin n → EReal) (j : Fin 11264) (h : ∀ i, x' (ix2 i j) = t i) :
    total S (mulf x' dy) (ix2 0 j) = ∑ i, t i * dy (ix2 i j) := by
  rw [total_apply]
  refine Finset.sum_congr rfl fun i _ => ?_
  have e : col (mulf x' dy) j i = x' (ix2 i j) * dy (ix2 i j) := by pointwise [col]
  rw [e, h]
end
end Cert.Proof.Conv
end
-- ==== Proof.ConvRef.lean ====
/-
  The reference's convolution and its gradient, read at an index: the stages of `ConvStage` over the latent rows and over
  the context rows.
-/
module

public import proofs.«01_k».proof.Proof.Gen.ConvBwdRefIdeal.Run
public import proofs.«01_k».proof.Proof.Gen.ConvFwdRefIdeal.Run
public import proofs.«01_k».proof.Proof.ConvStage

@[expose] public section

set_option maxRecDepth 16384

noncomputable section

namespace Cert.Proof.Conv

open Idealize.ShloMosaic Cert.Proof.Row
open scoped BigOperators

section Segment
variable {n : ℕ} (S : Shapes n) (x : FVec Ideal (Rows n) .f32) (w : FVec Ideal (Rows 3) .f32) (b : FVec Ideal (Rows 1) .f32) (da : FVec Ideal (Half n) .f32)

theorem dconv_value_col (j : Fin 5632) :
    col (dconv S (conv S x w b) da) (vc j) = fun i => dVal (da (ix2 i j)) (cv (b (ix2 0 (gc j))) (fun a => w (ix2 a (gc j))) (col x (gc j)) i) := by
  funext i
  rw [col, dconv_value, dvalue_apply, conv_apply, dVal, mul_comm, mul_assoc]

variable (hx : ∀ i j, Fin' (x (ix2 i j))) (hw : ∀ i j, Fin' (w (ix2 i j))) (hb : ∀ j, Fin' (b (ix2 0 j))) (hd : ∀ i j, Fin' (da (ix2 i j)))
include hx hw hb hd

theorem dconv_gate_col (j : Fin 5632) :
    col (dconv S (conv S x w b) da) (gc j) = fun i => dGate (da (ix2 i j)) (cv (b (ix2 0 (gc j))) (fun a => w (ix2 a (gc j))) (col x (gc j)) i)
      (cv (b (ix2 0 (vc j))) (fun a => w (ix2 a (vc j))) (col x (vc j)) i) := by
  funext i
  rw [col, dconv_gate, dgate_apply, conv_apply, conv_apply]
  exact dGate_eq (hd i j) (cv_fin (hb _) (fun a => hw a _) (fun k => hx k _) i) (cv_fin (hb _) (fun a => hw a _) (fun k => hx k _) i)
end Segment

/-! The gradients of the two convolutions in one pair of columns, over the latent rows and over the context rows. -/
section Pair
variable (wg wv : Fin 3 → EReal) (bg bv : EReal) (xg xv da : Fin 4352 → EReal)

def gL (r : Fin 4096) : EReal := dGate (lat da r) (cv bg wg (lat xg) r) (cv bv wv (lat xv) r)
def gC (r : Fin 256) : EReal := dGate (con da r) (cv bg wg (con xg) r) (cv bv wv (con xv) r)
def vL (r : Fin 4096) : EReal := dVal (lat da r) (cv bg wg (lat xg) r)
def vC (r : Fin 256) : EReal := dVal (con da r) (cv bg wg (con xg) r)
end Pair

end Cert.Proof.Conv

namespace Cert.ConvBwdRefIdeal.Hand

open Cert.ConvBwdRefIdeal Cert.ConvBwdRefIdeal.Gen Cert.ConvBwdRefIdeal.Value Idealize.ShloMosaic Idealize.ShloMosaic.TcCoe Idealize.SL.Sem Idealize.ShloMosaic.StableHlo
open Cert.Proof Cert.Proof.Row Cert.Proof.Conv
open scoped BigOperators

theorem latS : Shapes 4096 :=
  ⟨bcast_S_S1x11264, bcast_S_S4096x11264, bcast_S_S4096x5632, concatenates_S1x11264_S4096x11264_S1x11264_S4098x11264_d0,
    slices_S4098x11264_S4096x11264_0_0, slices_S4098x11264_S4096x11264_1_0, slices_S4098x11264_S4096x11264_2_0,
    slices_S3x11264_S1x11264_0_0, slices_S3x11264_S1x11264_1_0, slices_S3x11264_S1x11264_2_0, shapeCasts_S1x11264_S11264, shapeCasts_S11264_S1x11264,
    bcast_S11264_S1x11264_1, bcast_S1x11264_S4096x11264_0_1, slices_S4096x11264_S4096x5632_0_0, slices_S4096x11264_S4096x5632_0_5632,
    concatenates_S4096x5632_S4096x5632_S4096x11264_d1, pads_S4096x11264_S4098x11264_020_000, pads_S4096x11264_S4098x11264_110_000,
    pads_S4096x11264_S4098x11264_200_000, reducesTo_S4096x11264_S11264_d0, reducesTo_S1x11264_S11264_d0, h_S_⟩
theorem conS : Shapes 256 :=
  ⟨bcast_S_S1x11264, bcast_S_S256x11264, bcast_S_S256x5632, concatenates_S1x11264_S256x11264_S1x11264_S258x11264_d0,
    slices_S258x11264_S256x11264_0_0, slices_S258x11264_S256x11264_1_0, slices_S258x11264_S256x11264_2_0,
    slices_S3x11264_S1x11264_0_0, slices_S3x11264_S1x11264_1_0, slices_S3x11264_S1x11264_2_0, shapeCasts_S1x11264_S11264, shapeCasts_S11264_S1x11264,
    bcast_S11264_S1x11264_1, bcast_S1x11264_S256x11264_0_1, slices_S256x11264_S256x5632_0_0, slices_S256x11264_S256x5632_0_5632,
    concatenates_S256x5632_S256x5632_S256x11264_d1, pads_S256x11264_S258x11264_020_000, pads_S256x11264_S258x11264_110_000,
    pads_S256x11264_S258x11264_200_000, reducesTo_S256x11264_S11264_d0, reducesTo_S1x11264_S11264_d0, h_S_⟩

variable (V0 : Valuation τ sig (Elt Ideal))

/-- The arguments. -/
def X : FVec Ideal S4352x11264 .bf16 := V0 (Proc.devRef .tc main_arg0)
def W : FVec Ideal S3x11264 .f32 := V0 (Proc.devRef .tc main_arg1)
def B : FVec Ideal S1x11264 .f32 := V0 (Proc.devRef .tc main_arg2)
def D : FVec Ideal S4352x5632 .bf16 := V0 (Proc.devRef .tc main_arg3)
/-- The rows of the two segments. -/
def XL : FVec Ideal S4096x11264 .f32 := extractStridedSlice S4096x11264 ![0, 0] (extf .f32 (X V0) bitsLt_bf16_f32) slices_S4352x11264_S4096x11264_0_0
def XC : FVec Ideal S256x11264 .f32 := extractStridedSlice S256x11264 ![4096, 0] (extf .f32 (X V0) bitsLt_bf16_f32) slices_S4352x11264_S256x11264_4096_0
def DL : FVec Ideal S4096x5632 .f32 := extractStridedSlice S4096x5632 ![0, 0] (extf .f32 (D V0) bitsLt_bf16_f32) slices_S4352x5632_S4096x5632_0_0
def DC : FVec Ideal S256x5632 .f32 := extractStridedSlice S256x5632 ![4096, 0] (extf .f32 (D V0) bitsLt_bf16_f32) slices_S4352x5632_S256x5632_4096_0

theorem XL_apply (r : Fin 4096) (j : Fin 11264) : XL V0 (ix2 r j) = X V0 (ix2 (Spec.rl r) j) :=
  slice_read _ _ _ _ _ _ _ _ (Nat.zero_add _).symm (Nat.zero_add _).symm
theorem XC_apply (r : Fin 256) (j : Fin 11264) : XC V0 (ix2 r j) = X V0 (ix2 (Spec.rc r) j) :=
  slice_read _ _ _ _ _ _ _ _ rfl (Nat.zero_add _).symm
theorem DL_apply (r : Fin 4096) (j : Fin 5632) : DL V0 (ix2 r j) = D V0 (ix2 (Spec.rl r) j) :=
  slice_read _ _ _ _ _ _ _ _ (Nat.zero_add _).symm (Nat.zero_add _).symm
theorem DC_apply (r : Fin 256) (j : Fin 5632) : DC V0 (ix2 r j) = D V0 (ix2 (Spec.rc r) j) :=
  slice_read _ _ _ _ _ _ _ _ rfl (Nat.zero_add _).symm

def YL : FVec Ideal S4096x11264 .f32 := dconv latS (conv latS (XL V0) (W V0) (B V0)) (DL V0)
def YC : FVec Ideal S256x11264 .f32 := dconv conS (conv conS (XC V0) (W V0) (B V0)) (DC V0)

theorem v31_eq : res_main_v31 V0 = conv latS (XL V0) (W V0) (B V0) := rfl
theorem v66_eq : res_main_v66 V0 = conv conS (XC V0) (W V0) (B V0) := rfl
theorem v121_eq : res_main_v121 V0 = YL V0 := rfl
theorem v78_eq : res_main_v78 V0 = YC V0 := rfl
theorem v156_eq : res_main_v156 V0 = dpad latS (YL V0) (W V0) := rfl
theorem v112_eq : res_main_v112 V0 = dpad conS (YC V0) (W V0) := rfl
theorem v161_eq : res_main_v161 V0 = addf (total conS (YC V0)) (total latS (YL V0)) := rfl
theorem v164_eq : res_main_v164 V0 = truncf .bf16 (addf
    (pad S4352x11264 ![4096, 0] ![0, 0] ![0, 0] (dseg conS (YC V0) (W V0)) (constant S_ .f32 0x00000000#32) pads_S256x11264_S4352x11264_409600_000 h_S_)
    (pad S4352x11264 ![0, 0] ![256, 0] ![0, 0] (dseg latS (YL V0) (W V0)) (constant S_ .f32 0x00000000#32) pads_S4096x11264_S4352x11264_02560_000 h_S_)) bitsLt_bf16_f32 := rfl

/-- A row of the weights' gradient, placed at its row of the three. -/
def at2 (r : FVec Ideal S1x11264 .f32) : FVec Ideal S3x11264 .f32 := pad S3x11264 ![2, 0] ![0, 0] ![0, 0] r (constant S_ .f32 0x00000000#32) pads_S1x11264_S3x11264_200_000 h_S_
def at1 (r : FVec Ideal S1x11264 .f32) : FVec Ideal S3x11264 .f32 := pad S3x11264 ![1, 0] ![1, 0] ![0, 0] r (constant S_ .f32 0x00000000#32) pads_S1x11264_S3x11264_110_000 h_S_
def at0 (r : FVec Ideal S1x11264 .f32) : FVec Ideal S3x11264 .f32 := pad S3x11264 ![0, 0] ![2, 0] ![0, 0] r (constant S_ .f32 0x00000000#32) pads_S1x11264_S3x11264_020_000 h_S_

theorem v154_eq : res_main_v154 V0 = addf (addf (addf (addf (addf
    (at2 (total conS (mulf (t2 conS (XC V0)) (YC V0)))) (at1 (total conS (mulf (t1 conS (XC V0)) (YC V0)))))
    (at0 (total conS (mulf (t0 conS (XC V0)) (YC V0))))) (at2 (total latS (mulf (t2 latS (XL V0)) (YL V0)))))
    (at1 (total latS (mulf (t1 latS (XL V0)) (YL V0))))) (at0 (total latS (mulf (t0 latS (XL V0)) (YL V0)))) := rfl

theorem at2_apply (r : FVec Ideal S1x11264 .f32) (a : Fin 3) (j : Fin 11264) : at2 r (ix2 a j) = if a = 2 then r (ix2 0 j) else 0 := by
  refine (pad_read r 2 0 _ _ a j).trans ?_
  fin_cases a
  · exact dif_neg (by decide)
  · exact dif_neg (by decide)
  · rfl
theorem at1_apply (r : FVec Ideal S1x11264 .f32) (a : Fin 3) (j : Fin 11264) : at1 r (ix2 a j) = if a = 1 then r (ix2 0 j) else 0 := by
  refine (pad_read r 1 1 _ _ a j).trans ?_
  fin_cases a
  · exact dif_neg (by decide)
  · rfl
  · exact dif_neg (by decide)
theorem at0_apply (r : FVec Ideal S1x11264 .f32) (a : Fin 3) (j : Fin 11264) : at0 r (ix2 a j) = if a = 0 then r (ix2 0 j) else 0 := by
  refine (pad_read r 0 2 _ _ a j).trans ?_
  fin_cases a
  · rfl
  · exact dif_neg (by decide)
  · exact dif_neg (by decide)

theorem v154_apply (a : Fin 3) (j : Fin 11264) : res_main_v154 V0 (ix2 a j) =
    ∑ i, tap (col (XL V0) j) a i * YL V0 (ix2 i j) + ∑ i, tap (col (XC V0) j) a i * YC V0 (ix2 i j) := by
  rw [v154_eq]
  have h (p q r s t u : FVec Ideal S3x11264 .f32) (k : S3x11264.Idx) :
      addf (addf (addf (addf (addf p q) r) s) t) u k = p k + q k + r k + s k + t k + u k := rfl
  rw [h]
  simp only [at0_apply, at1_apply, at2_apply]
  rw [total_tap conS (YC V0) (t2 conS (XC V0)) _ j fun i => t2_apply conS (XC V0) i j, total_tap conS (YC V0) (t1 conS (XC V0)) _ j fun i => t1_apply conS (XC V0) i j,
    total_tap conS (YC V0) (t0 conS (XC V0)) _ j fun i => t0_apply conS (XC V0) i j,
    total_tap latS (YL V0) (t2 latS (XL V0)) _ j fun i => t2_apply latS (XL V0) i j, total_tap latS (YL V0) (t1 latS (XL V0)) _ j fun i => t1_apply latS (XL V0) i j,
    total_tap latS (YL V0) (t0 latS (XL V0)) _ j fun i => t0_apply latS (XL V0) i j]
  fin_cases a <;> simp [tap, col, add_comm]

theorem v161_apply (j : Fin 11264) : res_main_v161 V0 (ix2 0 j) = ∑ i, YL V0 (ix2 i j) + ∑ i, YC V0 (ix2 i j) := by
  rw [v161_eq, add_comm]
  have h (p q : FVec Ideal S1x11264 .f32) (k : S1x11264.Idx) : addf p q k = p k + q k := rfl
  rw [h, total_apply, total_apply]
  rfl

theorem v164_lat (r : Fin 4096) (j : Fin 11264) : res_main_v164 V0 (ix2 (Spec.rl r) j) = dx (fun a => W V0 (ix2 a j)) (col (YL V0) j) r := by
  rw [v164_eq]
  refine (congrArg₂ (· + ·) (pad_read _ 4096 0 _ _ _ j) (pad_read _ 0 256 _ _ _ j)).trans ?_
  rw [dif_neg (by simp only [Spec.rl]; omega), dif_pos (by simp only [Spec.rl]; omega)]
  refine (zero_add _).trans (Eq.trans ?_ (dseg_apply latS (YL V0) (W V0) r j))
  have e : (Spec.rl r).val - 0 = r.val := rfl
  exact congrArg (dseg latS (YL V0) (W V0)) (congrArg₂ ix2 (Fin.ext e) rfl)

theorem v164_con (r : Fin 256) (j : Fin 11264) : res_main_v164 V0 (ix2 (Spec.rc r) j) = dx (fun a => W V0 (ix2 a j)) (col (YC V0) j) r := by
  rw [v164_eq]
  refine (congrArg₂ (· + ·) (pad_read _ 4096 0 _ _ _ j) (pad_read _ 0 256 _ _ _ j)).trans ?_
  rw [dif_pos (by simp only [Spec.rc]; omega), dif_neg (by simp only [Spec.rc]; omega)]
  have e : (Spec.rc r).val - 4096 = r.val := by simp only [Spec.rc]; omega
  refine Eq.trans ?_ (dseg_apply conS (YC V0) (W V0) r j)
  refine (add_zero (M := EReal) _).trans ?_
  exact congrArg (dseg conS (YC V0) (W V0)) (congrArg₂ ix2 (Fin.ext e) rfl)

/-- A column of the rows, of the weights and of the activation's gradient. -/
def xc (j : Fin 11264) (r : Fin 4352) : EReal := X V0 (ix2 r j)
def wc (j : Fin 11264) (a : Fin 3) : EReal := W V0 (ix2 a j)
def bc (j : Fin 11264) : EReal := B V0 (ix2 0 j)
def dc (j : Fin 5632) (r : Fin 4352) : EReal := D V0 (ix2 r j)

theorem XL_col (j : Fin 11264) : col (XL V0) j = lat (xc V0 j) := funext fun r => XL_apply V0 r j
theorem XC_col (j : Fin 11264) : col (XC V0) j = con (xc V0 j) := funext fun r => XC_apply V0 r j

theorem YL_value (j : Fin 5632) : col (YL V0) (vc j) = vL (wc V0 (gc j)) (bc V0 (gc j)) (xc V0 (gc j)) (dc V0 j) := by
  rw [YL, dconv_value_col, XL_col]
  simp only [DL_apply]
  rfl
theorem YC_value (j : Fin 5632) : col (YC V0) (vc j) = vC (wc V0 (gc j)) (bc V0 (gc j)) (xc V0 (gc j)) (dc V0 j) := by
  rw [YC, dconv_value_col, XC_col]
  simp only [DC_apply]
  rfl

/-- Every entry of the arguments is a number. -/
structure Finite : Prop where
  x : ∀ r j, Fin' (X V0 (ix2 r j))
  w : ∀ a j, Fin' (W V0 (ix2 a j))
  b : ∀ j, Fin' (B V0 (ix2 0 j))
  d : ∀ r j, Fin' (D V0 (ix2 r j))

variable {V0} (h : Finite V0)
include h

theorem YL_gate (j : Fin 5632) : col (YL V0) (gc j) = gL (wc V0 (gc j)) (wc V0 (vc j)) (bc V0 (gc j)) (bc V0 (vc j)) (xc V0 (gc j)) (xc V0 (vc j)) (dc V0 j) := by
  rw [YL, dconv_gate_col latS _ _ _ _ (fun i j => by rw [XL_apply]; exact h.x _ _) h.w h.b (fun i j => by rw [DL_apply]; exact h.d _ _), XL_col, XL_col]
  simp only [DL_apply]
  rfl
theorem YC_gate (j : Fin 5632) : col (YC V0) (gc j) = gC (wc V0 (gc j)) (wc V0 (vc j)) (bc V0 (gc j)) (bc V0 (vc j)) (xc V0 (gc j)) (xc V0 (vc j)) (dc V0 j) := by
  rw [YC, dconv_gate_col conS _ _ _ _ (fun i j => by rw [XC_apply]; exact h.x _ _) h.w h.b (fun i j => by rw [DC_apply]; exact h.d _ _), XC_col, XC_col]
  simp only [DC_apply]
  rfl

end Cert.ConvBwdRefIdeal.Hand
end
-- ==== Proof.ConvCols.lean ====
/-
  The kernels' convolution and its gradient on a block of columns, read in coordinates. A block holds both segments' rows:
  the neighbouring row comes from rotating the block and putting zeros at the segments' edges.
-/
module

public import proofs.«01_k».proof.Proof.ConvRef

@[expose] public section

set_option maxRecDepth 16384

noncomputable section

namespace Cert.Proof.Conv

open Idealize.ShloMosaic
open scoped BigOperators

abbrev Blk : Shape := ⟨2, ![4352, 128]⟩
abbrev Blk3 : Shape := ⟨2, ![3, 128]⟩
abbrev Blk1 : Shape := ⟨2, ![1, 128]⟩
abbrev Lanes : Shape := ⟨1, ![128]⟩

/-- The side conditions of the blocks' operations. -/
structure Block : Prop where
  rows : Blk.Iotas .tc 32 [0]
  turn : Blk.Rotates 0 none
  spread : Blk1.Broadcasts Blk
  row0 : Blk3.Slices ![0, 0] Blk1
  row1 : Blk3.Slices ![1, 0] Blk1
  row2 : Blk3.Slices ![2, 0] Blk1
  sum : Blk.Reduces [0] Lanes
  lift : Lanes.ShapeCasts Blk1
  join : Shape.Concatenates [Blk1, Blk1, Blk1] Blk3 0

/-- A bit that says whether a row is one of two rows chooses between two numbers. -/
theorem choose_row {α : Type} (i : Fin 4352) (a b : BitVec 32) (ha : a.toNat < 4352) (hb : b.toNat < 4352) (x y : α) :
    Scalar.select (IntOp.ori (IntOp.cmpi .eq (BitVec.ofNat 32 i.val) a) (IntOp.cmpi .eq (BitVec.ofNat 32 i.val) b)) x y
      = if i.val = a.toNat ∨ i.val = b.toNat then x else y := by
  have key (c : BitVec 32) : BitVec.ofNat 32 i.val = c ↔ i.val = c.toNat := by
    constructor
    · intro h
      rw [← h, BitVec.toNat_ofNat]
      omega
    · intro h
      rw [h, BitVec.ofNat_toNat, BitVec.setWidth_eq]
  have e : IntOp.ori (IntOp.cmpi .eq (BitVec.ofNat 32 i.val) a) (IntOp.cmpi .eq (BitVec.ofNat 32 i.val) b)
      = if i.val = a.toNat ∨ i.val = b.toNat then 1#1 else 0#1 := by
    simp only [← key]
    generalize BitVec.ofNat 32 i.val = k
    have c (d : BitVec 32) : IntOp.cmpi .eq k d = if k = d then 1#1 else 0#1 := by
      by_cases h : k = d
      · simp [IntOp.cmpi, h]
      · simp [IntOp.cmpi, h, beq_eq_false_iff_ne.mpr h]
    rw [c, c]
    by_cases h1 : k = a
    · rw [if_pos h1, if_pos (Or.inl h1)]
      split <;> rfl
    · rw [if_neg h1]
      by_cases h2 : k = b
      · rw [if_pos h2, if_pos (Or.inr h2)]
        rfl
      · rw [if_neg h2, if_neg (by tauto)]
        rfl
  rw [e]
  split <;> simp [Scalar.select]

section
variable (S : Block) (x dy y z : FVec Ideal Blk .f32) (w : FVec Ideal Blk3 .f32) (b : FVec Ideal Blk1 .f32)

def edge (p q : BitVec 32) : FVec Ideal Blk .f32 :=
  select (ori (cmpi .eq (iota .tc Blk 32 [0] S.rows) (broadcast Blk p)) (cmpi .eq (iota .tc Blk 32 [0] S.rows) (broadcast Blk q)))
    (broadcast Blk (Scalar.ofBits (F := Ideal) .f32 0x00000000#32)) x
def rot (k : BitVec 32) : FVec Ideal Blk .f32 := dynamicRotate 0 k none x S.turn

theorem edge_apply (p q : BitVec 32) (hp : p.toNat < 4352) (hq : q.toNat < 4352) (i : Fin 4352) (s : Fin 128) :
    edge S x p q (ix2 i s) = if i.val = p.toNat ∨ i.val = q.toNat then 0 else x (ix2 i s) := by
  pointwise [edge]
  exact choose_row i p q hp hq _ _
theorem rot_apply (k : BitVec 32) (i : Fin 4352) (s : Fin 128) :
    rot S x k (ix2 i s) = x (ix2 ⟨(i.val + 4352 - k.toNat % 4352) % 4352, Nat.mod_lt _ (by norm_num)⟩ s) := by
  pointwise [rot]

/-- The row before and the row after, within a segment. -/
def prev : FVec Ideal Blk .f32 := edge S (rot S x 1#32) 0#32 4096#32
def next : FVec Ideal Blk .f32 := edge S (rot S x 4351#32) 4095#32 4351#32

theorem prev_apply (i : Fin 4352) (s : Fin 128) : prev S x (ix2 i s) = moved 1 0 4096 (col x s) i := by
  rw [prev, edge_apply S _ _ _ (by decide) (by decide), rot_apply]
  rfl
theorem next_apply (i : Fin 4352) (s : Fin 128) : next S x (ix2 i s) = moved 4351 4095 4351 (col x s) i := by
  rw [next, edge_apply S _ _ _ (by decide) (by decide), rot_apply]
  rfl

def k0 : FVec Ideal Blk .f32 := broadcastTo Blk (extractStridedSlice Blk1 ![0, 0] w S.row0) S.spread
def k1 : FVec Ideal Blk .f32 := broadcastTo Blk (extractStridedSlice Blk1 ![1, 0] w S.row1) S.spread
def k2 : FVec Ideal Blk .f32 := broadcastTo Blk (extractStridedSlice Blk1 ![2, 0] w S.row2) S.spread

theorem k0_apply (i : Fin 4352) (s : Fin 128) : k0 S w (ix2 i s) = w (ix2 0 s) := by pointwise [k0]
theorem k1_apply (i : Fin 4352) (s : Fin 128) : k1 S w (ix2 i s) = w (ix2 1 s) := by pointwise [k1]
theorem k2_apply (i : Fin 4352) (s : Fin 128) : k2 S w (ix2 i s) = w (ix2 2 s) := by pointwise [k2]

/-- The convolution of a block. -/
def kconv : FVec Ideal Blk .f32 :=
  addf (addf (addf (broadcastTo Blk b S.spread) (mulf (k0 S w) (prev S x))) (mulf (k1 S w) x)) (mulf (k2 S w) (next S x))

theorem kconv_apply (i : Fin 4352) (s : Fin 128) : kconv S x w b (ix2 i s)
    = b (ix2 0 s) + w (ix2 0 s) * moved 1 0 4096 (col x s) i + w (ix2 1 s) * x (ix2 i s) + w (ix2 2 s) * moved 4351 4095 4351 (col x s) i := by
  have h : kconv S x w b (ix2 i s) = b (ix2 0 s) + k0 S w (ix2 i s) * prev S x (ix2 i s) + k1 S w (ix2 i s) * x (ix2 i s)
      + k2 S w (ix2 i s) * next S x (ix2 i s) := by pointwise [kconv]
  rw [h, k0_apply, k1_apply, k2_apply, prev_apply, next_apply]

theorem kconv_lat (s : Fin 128) : lat (col (kconv S x w b) s) = cv (b (ix2 0 s)) (fun a => w (ix2 a s)) (lat (col x s)) := by
  funext r
  rw [lat, col, kconv_apply, prev_lat, next_lat]
  rfl
theorem kconv_con (s : Fin 128) : con (col (kconv S x w b) s) = cv (b (ix2 0 s)) (fun a => w (ix2 a s)) (con (col x s)) := by
  funext r
  rw [con, col, kconv_apply, prev_con, next_con]
  rfl

/-- The gradient of a block's convolution, spread back over its rows. -/
def kdx : FVec Ideal Blk .f32 := addf (addf (mulf (k0 S w) (next S dy)) (mulf (k1 S w) dy)) (mulf (k2 S w) (prev S dy))

theorem kdx_apply (i : Fin 4352) (s : Fin 128) : kdx S dy w (ix2 i s)
    = w (ix2 0 s) * moved 4351 4095 4351 (col dy s) i + w (ix2 1 s) * dy (ix2 i s) + w (ix2 2 s) * moved 1 0 4096 (col dy s) i := by
  have h : kdx S dy w (ix2 i s) = k0 S w (ix2 i s) * next S dy (ix2 i s) + k1 S w (ix2 i s) * dy (ix2 i s)
      + k2 S w (ix2 i s) * prev S dy (ix2 i s) := by pointwise [kdx]
  rw [h, k0_apply, k1_apply, k2_apply, prev_apply, next_apply]

theorem kdx_lat (r : Fin 4096) (s : Fin 128) : kdx S dy w (ix2 (Spec.rl r) s) = dx (fun a => w (ix2 a s)) (lat (col dy s)) r := by
  rw [kdx_apply, prev_lat, next_lat]
  rfl
theorem kdx_con (r : Fin 256) (s : Fin 128) : kdx S dy w (ix2 (Spec.rc r) s) = dx (fun a => w (ix2 a s)) (con (col dy s)) r := by
  rw [kdx_apply, prev_con, next_con]
  rfl

/-- The sum over a block's rows. -/
def ksum : FVec Ideal Blk1 .f32 := shapeCast Blk1 (multiReduction .add [0] Lanes x 0x00000000#32 S.sum (.inl rfl) rfl) S.lift

theorem ksum_apply (s : Fin 128) : ksum S x (ix2 0 s) = ∑ i, x (ix2 i s) := by
  pointwise [ksum]

/-- The gradient of the three rows of weights. -/
def kdw : FVec Ideal Blk3 .f32 :=
  concatenate Blk3 0 [⟨Blk1, ksum S (mulf dy (prev S x))⟩, ⟨Blk1, ksum S (mulf dy x)⟩, ⟨Blk1, ksum S (mulf dy (next S x))⟩] S.join

theorem kdw_apply (a : Fin 3) (s : Fin 128) : kdw S x dy (ix2 a s)
    = ∑ r, tap (lat (col x s)) a r * lat (col dy s) r + ∑ r, tap (con (col x s)) a r * con (col dy s) r := by
  have m (p q : FVec Ideal Blk .f32) : ksum S (mulf p q) (ix2 0 s)
      = ∑ r, q (ix2 (Spec.rl r) s) * lat (col p s) r + ∑ r, q (ix2 (Spec.rc r) s) * con (col p s) r := by
    rw [ksum_apply, sum_rows]
    exact congrArg₂ _ (Finset.sum_congr rfl fun r _ => mul_comm _ _) (Finset.sum_congr rfl fun r _ => mul_comm _ _)
  have h : kdw S x dy (ix2 a s) = if a = 0 then ksum S (mulf dy (prev S x)) (ix2 0 s) else if a = 1 then ksum S (mulf dy x) (ix2 0 s)
      else ksum S (mulf dy (next S x)) (ix2 0 s) := by
    fin_cases a <;> pointwise [kdw]
  rw [h, m, m, m]
  simp only [prev_apply, next_apply, prev_lat, prev_con, next_lat, next_con]
  fin_cases a <;> rfl

/-- The gradients of the gate's and of the value's convolution. -/
def kgate (da : FVec Ideal Blk .f32) : FVec Ideal Blk .f32 :=
  mulf (mulf (mulf da z) (logistic y)) (addf (broadcast Blk (Scalar.ofBits (F := Ideal) .f32 0x3F800000#32))
    (mulf y (subf (broadcast Blk (Scalar.ofBits (F := Ideal) .f32 0x3F800000#32)) (logistic y))))
def kvalue (da : FVec Ideal Blk .f32) : FVec Ideal Blk .f32 := mulf (mulf da y) (logistic y)
def kact : FVec Ideal Blk .f32 := mulf (mulf y (logistic y)) z

theorem kgate_apply (da : FVec Ideal Blk .f32) (i : Fin 4352) (s : Fin 128) :
    kgate y z da (ix2 i s) = dGate (da (ix2 i s)) (y (ix2 i s)) (z (ix2 i s)) := by
  pointwise [kgate, dGate]
theorem kvalue_apply (da : FVec Ideal Blk .f32) (i : Fin 4352) (s : Fin 128) : kvalue y da (ix2 i s) = dVal (da (ix2 i s)) (y (ix2 i s)) := by
  pointwise [kvalue, dVal]
theorem kact_apply (i : Fin 4352) (s : Fin 128) : kact y z (ix2 i s) = y (ix2 i s) * Ideal.logistic (y (ix2 i s)) * z (ix2 i s) := by
  pointwise [kact]
end

end Cert.Proof.Conv
end
-- ==== Proof.ConvArrays.lean ====
/-
  The arrays the convolution's backward kernel leaves, set beside the reference's: each grid point takes one block of the
  gate's columns and the block of the value's columns that goes with it.
-/
module

public import proofs.«01_k».proof.Proof.Gen.ConvBwdIdeal.Value
public import proofs.«01_k».proof.Proof.ConvCols
public import Idealize.ShloMosaic.Lib.Pipeline.ValueKit

@[expose] public section

set_option maxRecDepth 16384

noncomputable section

namespace Cert.ConvBwdIdeal.Hand

open Cert.ConvBwdIdeal Cert.ConvBwdIdeal.Gen Idealize.ShloMosaic Idealize.ShloMosaic.TcCoe Idealize.SL.Sem
open Cert.Proof Cert.Proof.Row Cert.Proof.Conv
open Cert.ConvBwdRefIdeal.Hand (X W B D xc wc bc dc YL YC YL_gate YC_gate YL_value YC_value v154_apply v161_apply v164_lat v164_con XL XC XL_col XC_col)
open Cert.ConvBwdRefIdeal.Value (res_main_v154 res_main_v161 res_main_v164)
open scoped BigOperators

theorem block : Block :=
  ⟨iota_S4352x128_d0_w32, rotates_S4352x128_d0, broadcasts_S1x128_S4352x128, slices_S3x128_o0_0_S1x128, slices_S3x128_o1_0_S1x128,
    slices_S3x128_o2_0_S1x128, reduces_S4352x128_S128, shapeCasts_S128_S1x128, concatenates_S1x128_S1x128_S1x128_S3x128_d0⟩

/-! The body's results, from the stages. -/
section
variable (x0 x1 : FVec Ideal S4352x128 .bf16) (w0 w1 : FVec Ideal S3x128 .f32) (b0 b1 : FVec Ideal S1x128 .f32) (d : FVec Ideal S4352x128 .bf16)

def xg : FVec Ideal S4352x128 .f32 := extf .f32 x0 bitsLt_bf16_f32
def gate : FVec Ideal S4352x128 .f32 := kconv block (xg x0) w0 b0
def dyg : FVec Ideal S4352x128 .f32 := kgate (gate x0 w0 b0) (gate x1 w1 b1) (xg d)
def dyv : FVec Ideal S4352x128 .f32 := kvalue (gate x0 w0 b0) (xg d)

theorem pay3_eq : k0_pay3 (F := Ideal) x0 w0 b0 = gate x0 w0 b0 := rfl
theorem pay7_eq : k0_pay7 (F := Ideal) (k0_pay2 x1) w1 (k0_pay3 x0 w0 b0) b1 d = dyg x0 x1 w0 w1 b0 b1 d := rfl
theorem pay6_eq : k0_pay6 (F := Ideal) (k0_pay3 x0 w0 b0) d = dyv x0 w0 b0 d := rfl
variable (dy : FVec Ideal S4352x128 .f32)
theorem pay10_eq : k0_pay10 (F := Ideal) w0 dy (k0_pay8 w0) (iota .tc S4352x128 32 [0] iota_S4352x128_d0_w32) (dynamicRotate 0 4351#32 none dy rotates_S4352x128_d0)
    = truncf .bf16 (kdx block dy w0) bitsLt_bf16_f32 := rfl
theorem pay19_eq : k0_pay19 (F := Ideal) (k0_pay15 w1 dy) (k0_pay16 w1) (k0_pay17 dy) k0_pay18 (Scalar.ofBits .f32 0x00000000#32)
    = truncf .bf16 (kdx block dy w1) bitsLt_bf16_f32 := rfl
theorem pay13_eq : k0_pay13 (F := Ideal) (k0_pay1 x0) dy (k0_pay11 (k0_pay1 x0) dy) (k0_pay12 (k0_pay1 x0) dy) (iota .tc S4352x128 32 [0] iota_S4352x128_d0_w32)
    = kdw block (xg x0) dy := rfl
theorem pay20_eq : k0_pay20 (F := Ideal) (k0_pay2 x1) dy = kdw block (xg x1) dy := rfl
theorem pay14_eq : k0_pay14 (F := Ideal) dy = ksum block dy := rfl
theorem pay21_eq : k0_pay21 (F := Ideal) dy = ksum block dy := rfl
end

theorem idx0 : ∀ t : Fin cfg0.N, win0_0.index t = ![0, t.val] :=
  (by decide +kernel : ∀ t : Fin grid0.N, win0_0.index t = ![0, t.val])
theorem idx1 : ∀ t : Fin cfg0.N, win0_1.index t = ![0, t.val + 44] :=
  (by decide +kernel : ∀ t : Fin grid0.N, win0_1.index t = ![0, t.val + 44])
theorem idx2 : ∀ t : Fin cfg0.N, win0_2.index t = ![0, t.val] :=
  (by decide +kernel : ∀ t : Fin grid0.N, win0_2.index t = ![0, t.val])
theorem idx3 : ∀ t : Fin cfg0.N, win0_3.index t = ![0, t.val + 44] :=
  (by decide +kernel : ∀ t : Fin grid0.N, win0_3.index t = ![0, t.val + 44])
theorem idx4 : ∀ t : Fin cfg0.N, win0_4.index t = ![0, t.val] :=
  (by decide +kernel : ∀ t : Fin grid0.N, win0_4.index t = ![0, t.val])
theorem idx5 : ∀ t : Fin cfg0.N, win0_5.index t = ![0, t.val + 44] :=
  (by decide +kernel : ∀ t : Fin grid0.N, win0_5.index t = ![0, t.val + 44])
theorem idx6 : ∀ t : Fin cfg0.N, win0_6.index t = ![0, t.val] :=
  (by decide +kernel : ∀ t : Fin grid0.N, win0_6.index t = ![0, t.val])
theorem idx7 : ∀ t : Fin cfg0.N, win0_7.index t = ![0, t.val] :=
  (by decide +kernel : ∀ t : Fin grid0.N, win0_7.index t = ![0, t.val])
theorem idx8 : ∀ t : Fin cfg0.N, win0_8.index t = ![0, t.val] :=
  (by decide +kernel : ∀ t : Fin grid0.N, win0_8.index t = ![0, t.val])
theorem idx9 : ∀ t : Fin cfg0.N, win0_9.index t = ![0, t.val] :=
  (by decide +kernel : ∀ t : Fin grid0.N, win0_9.index t = ![0, t.val])
theorem idx10 : ∀ t : Fin cfg0.N, win0_10.index t = ![0, t.val] :=
  (by decide +kernel : ∀ t : Fin grid0.N, win0_10.index t = ![0, t.val])
theorem idx11 : ∀ t : Fin cfg0.N, win0_11.index t = ![0, t.val] :=
  (by decide +kernel : ∀ t : Fin grid0.N, win0_11.index t = ![0, t.val])
theorem idx12 : ∀ t : Fin cfg0.N, win0_12.index t = ![0, t.val] :=
  (by decide +kernel : ∀ t : Fin grid0.N, win0_12.index t = ![0, t.val])

/-- The column a grid point's lane stands for. -/
def cj (t : ℕ) (s : Fin 128) : Fin 5632 := if h : t < 44 then ⟨128 * t + s.val, by omega⟩ else 0
theorem cj_val {t : ℕ} (h : t < 44) (s : Fin 128) : (cj t s).val = 128 * t + s.val := by rw [cj, dif_pos h]

section
variable (m : (ℓ : Loc nD τ sig) → Buf (Elt Ideal) ℓ) (c : Dev nD)

/-- The arguments. -/
def A0 : FVec Ideal S4352x11264 .bf16 := m ((c.tc : Thread nD τ).loc main_arg0)
def A1 : FVec Ideal S3x11264 .f32 := m ((c.tc : Thread nD τ).loc main_arg1)
def A2 : FVec Ideal S1x11264 .f32 := m ((c.tc : Thread nD τ).loc main_arg2)
def A3 : FVec Ideal S4352x5632 .bf16 := m ((c.tc : Thread nD τ).loc main_arg3)

/-- The blocks a grid point reads. -/
def xBlock (t : Fin cfg0.N) : FVec Ideal S4352x128 .bf16 := iblk m c 0 t
def zBlock (t : Fin cfg0.N) : FVec Ideal S4352x128 .bf16 := iblk m c 1 t
def wgBlock (t : Fin cfg0.N) : FVec Ideal S3x128 .f32 := iblk m c 2 t
def wvBlock (t : Fin cfg0.N) : FVec Ideal S3x128 .f32 := iblk m c 3 t
def bgBlock (t : Fin cfg0.N) : FVec Ideal S1x128 .f32 := iblk m c 4 t
def bvBlock (t : Fin cfg0.N) : FVec Ideal S1x128 .f32 := iblk m c 5 t
def dBlock (t : Fin cfg0.N) : FVec Ideal S4352x128 .bf16 := iblk m c 6 t

theorem xBlock_apply (t : Fin cfg0.N) (i : Fin 4352) (s : Fin 128) : xBlock m c t (ix2 i s) = A0 m c (ix2 i (gc (cj t.val s))) := by
  have ht : t.val < 44 := lt_of_lt_of_eq t.isLt N_0
  rw [A0, xBlock]
  blk_ext [iblk, V, idx0 t] <;> simp only [gc, cj_val ht] <;> omega
theorem zBlock_apply (t : Fin cfg0.N) (i : Fin 4352) (s : Fin 128) : zBlock m c t (ix2 i s) = A0 m c (ix2 i (vc (cj t.val s))) := by
  have ht : t.val < 44 := lt_of_lt_of_eq t.isLt N_0
  rw [A0, zBlock]
  blk_ext [iblk, V, idx1 t] <;> simp only [vc, cj_val ht] <;> omega
theorem wgBlock_apply (t : Fin cfg0.N) (a : Fin 3) (s : Fin 128) : wgBlock m c t (ix2 a s) = A1 m c (ix2 a (gc (cj t.val s))) := by
  have ht : t.val < 44 := lt_of_lt_of_eq t.isLt N_0
  rw [A1, wgBlock]
  blk_ext [iblk, V, idx2 t] <;> simp only [gc, cj_val ht] <;> omega
theorem wvBlock_apply (t : Fin cfg0.N) (a : Fin 3) (s : Fin 128) : wvBlock m c t (ix2 a s) = A1 m c (ix2 a (vc (cj t.val s))) := by
  have ht : t.val < 44 := lt_of_lt_of_eq t.isLt N_0
  rw [A1, wvBlock]
  blk_ext [iblk, V, idx3 t] <;> simp only [vc, cj_val ht] <;> omega
theorem bgBlock_apply (t : Fin cfg0.N) (s : Fin 128) : bgBlock m c t (ix2 0 s) = A2 m c (ix2 0 (gc (cj t.val s))) := by
  have ht : t.val < 44 := lt_of_lt_of_eq t.isLt N_0
  rw [A2, bgBlock]
  blk_ext [iblk, V, idx4 t] <;> simp only [gc, cj_val ht] <;> omega
theorem bvBlock_apply (t : Fin cfg0.N) (s : Fin 128) : bvBlock m c t (ix2 0 s) = A2 m c (ix2 0 (vc (cj t.val s))) := by
  have ht : t.val < 44 := lt_of_lt_of_eq t.isLt N_0
  rw [A2, bvBlock]
  blk_ext [iblk, V, idx5 t] <;> simp only [vc, cj_val ht] <;> omega
theorem dBlock_apply (t : Fin cfg0.N) (i : Fin 4352) (s : Fin 128) : dBlock m c t (ix2 i s) = A3 m c (ix2 i (cj t.val s)) := by
  have ht : t.val < 44 := lt_of_lt_of_eq t.isLt N_0
  rw [A3, dBlock]
  blk_ext [iblk, V, idx6 t] <;> simp only [cj_val ht] <;> omega

/-- The convolutions' gradients of a grid point's block. -/
def DYG (t : Fin cfg0.N) : FVec Ideal S4352x128 .f32 :=
  dyg (xBlock m c t) (zBlock m c t) (wgBlock m c t) (wvBlock m c t) (bgBlock m c t) (bvBlock m c t) (dBlock m c t)
def DYV (t : Fin cfg0.N) : FVec Ideal S4352x128 .f32 := dyv (xBlock m c t) (wgBlock m c t) (bgBlock m c t) (dBlock m c t)

/-! Where a block of each result lands in its array. -/

theorem place7 (t : Fin cfg0.N) (i : Fin 4352) (s : Fin 128) (R : FVec Ideal S4352x5632 .bf16) :
    R ((win0_7.blk t).view.emb (ix2 i s : S4352x128.Idx)) = R (ix2 i (cj t.val s)) := by
  have ht : t.val < 44 := lt_of_lt_of_eq t.isLt N_0
  blk_ext [idx7 t] <;> simp only [cj_val ht] <;> omega

theorem place8 (t : Fin cfg0.N) (i : Fin 4352) (s : Fin 128) (R : FVec Ideal S4352x5632 .bf16) :
    R ((win0_8.blk t).view.emb (ix2 i s : S4352x128.Idx)) = R (ix2 i (cj t.val s)) := by
  have ht : t.val < 44 := lt_of_lt_of_eq t.isLt N_0
  blk_ext [idx8 t] <;> simp only [cj_val ht] <;> omega
theorem place9 (t : Fin cfg0.N) (i : Fin 3) (s : Fin 128) (R : FVec Ideal S3x5632 .f32) :
    R ((win0_9.blk t).view.emb (ix2 i s : S3x128.Idx)) = R (ix2 i (cj t.val s)) := by
  have ht : t.val < 44 := lt_of_lt_of_eq t.isLt N_0
  blk_ext [idx9 t] <;> simp only [cj_val ht] <;> omega
theorem place10 (t : Fin cfg0.N) (i : Fin 3) (s : Fin 128) (R : FVec Ideal S3x5632 .f32) :
    R ((win0_10.blk t).view.emb (ix2 i s : S3x128.Idx)) = R (ix2 i (cj t.val s)) := by
  have ht : t.val < 44 := lt_of_lt_of_eq t.isLt N_0
  blk_ext [idx10 t] <;> simp only [cj_val ht] <;> omega
theorem place11 (t : Fin cfg0.N) (i : Fin 1) (s : Fin 128) (R : FVec Ideal S1x5632 .f32) :
    R ((win0_11.blk t).view.emb (ix2 i s : S1x128.Idx)) = R (ix2 i (cj t.val s)) := by
  have ht : t.val < 44 := lt_of_lt_of_eq t.isLt N_0
  blk_ext [idx11 t] <;> simp only [cj_val ht] <;> omega
theorem place12 (t : Fin cfg0.N) (i : Fin 1) (s : Fin 128) (R : FVec Ideal S1x5632 .f32) :
    R ((win0_12.blk t).view.emb (ix2 i s : S1x128.Idx)) = R (ix2 i (cj t.val s)) := by
  have ht : t.val < 44 := lt_of_lt_of_eq t.isLt N_0
  blk_ext [idx12 t] <;> simp only [cj_val ht] <;> omega

/-! What a grid point leaves of each result. -/

theorem out7 (t : Fin cfg0.N) (y : S4352x128.Idx) :
    out0_7 (iblk m c 0 t) (iblk m c 1 t) (iblk m c 2 t) (iblk m c 3 t) (iblk m c 4 t) (iblk m c 5 t) (iblk m c 6 t) y = kdx block (DYG m c t) (wgBlock m c t) y := by
  unfold_out out0_7
  frame_out
  exact congrFun (pay10_eq (wgBlock m c t) (DYG m c t)) y
theorem out8 (t : Fin cfg0.N) (y : S4352x128.Idx) :
    out0_8 (iblk m c 0 t) (iblk m c 1 t) (iblk m c 2 t) (iblk m c 3 t) (iblk m c 4 t) (iblk m c 5 t) (iblk m c 6 t) y = kdx block (DYV m c t) (wvBlock m c t) y := by
  unfold_out out0_8
  frame_out
  exact congrFun (pay19_eq (wvBlock m c t) (DYV m c t)) y
theorem out9 (t : Fin cfg0.N) (y : S3x128.Idx) :
    out0_9 (iblk m c 0 t) (iblk m c 1 t) (iblk m c 2 t) (iblk m c 3 t) (iblk m c 4 t) (iblk m c 5 t) (iblk m c 6 t) y = kdw block (xg (xBlock m c t)) (DYG m c t) y := by
  unfold_out out0_9
  frame_out
  exact congrFun (pay13_eq (xBlock m c t) (DYG m c t)) y
theorem out10 (t : Fin cfg0.N) (y : S3x128.Idx) :
    out0_10 (iblk m c 0 t) (iblk m c 1 t) (iblk m c 2 t) (iblk m c 3 t) (iblk m c 4 t) (iblk m c 5 t) (iblk m c 6 t) y = kdw block (xg (zBlock m c t)) (DYV m c t) y := by
  unfold_out out0_10
  frame_out
  exact congrFun (pay20_eq (zBlock m c t) (DYV m c t)) y
theorem out11 (t : Fin cfg0.N) (y : S1x128.Idx) :
    out0_11 (iblk m c 0 t) (iblk m c 1 t) (iblk m c 2 t) (iblk m c 3 t) (iblk m c 4 t) (iblk m c 5 t) (iblk m c 6 t) y = ksum block (DYG m c t) y := by
  unfold_out out0_11
  frame_out
  exact congrFun (pay14_eq (DYG m c t)) y
theorem out12 (t : Fin cfg0.N) (y : S1x128.Idx) :
    out0_12 (iblk m c 0 t) (iblk m c 1 t) (iblk m c 2 t) (iblk m c 3 t) (iblk m c 4 t) (iblk m c 5 t) (iblk m c 6 t) y = ksum block (DYV m c t) y := by
  unfold_out out0_12
  frame_out
  exact congrFun (pay21_eq (DYV m c t)) y
end

/-! The gradients in a grid point's columns are the reference's. -/
section
variable {m : (ℓ : Loc nD τ sig) → Buf (Elt Ideal) ℓ} {c : Dev nD} {V0 : Valuation Cert.ConvBwdRefIdeal.τ Cert.ConvBwdRefIdeal.sig (Elt Ideal)}

/-- The two programs' arguments agree. -/
structure Agree (m : (ℓ : Loc nD τ sig) → Buf (Elt Ideal) ℓ) (c : Dev nD) (V0 : Valuation Cert.ConvBwdRefIdeal.τ Cert.ConvBwdRefIdeal.sig (Elt Ideal)) : Prop where
  x : X V0 = A0 m c
  w : W V0 = A1 m c
  b : B V0 = A2 m c
  d : D V0 = A3 m c

variable (h : Agree m c V0)
include h

theorem x_col (t : Fin cfg0.N) (s : Fin 128) : col (xg (xBlock m c t)) s = xc V0 (gc (cj t.val s)) :=
  funext fun i => (xBlock_apply m c t i s).trans (congrFun h.x _).symm
theorem z_col (t : Fin cfg0.N) (s : Fin 128) : col (xg (zBlock m c t)) s = xc V0 (vc (cj t.val s)) :=
  funext fun i => (zBlock_apply m c t i s).trans (congrFun h.x _).symm
theorem d_col (t : Fin cfg0.N) (s : Fin 128) : col (xg (dBlock m c t)) s = dc V0 (cj t.val s) :=
  funext fun i => (dBlock_apply m c t i s).trans (congrFun h.d _).symm
theorem wg_col (t : Fin cfg0.N) (s : Fin 128) : (fun a => wgBlock m c t (ix2 a s)) = wc V0 (gc (cj t.val s)) :=
  funext fun a => (wgBlock_apply m c t a s).trans (congrFun h.w _).symm
theorem wv_col (t : Fin cfg0.N) (s : Fin 128) : (fun a => wvBlock m c t (ix2 a s)) = wc V0 (vc (cj t.val s)) :=
  funext fun a => (wvBlock_apply m c t a s).trans (congrFun h.w _).symm
theorem bg_col (t : Fin cfg0.N) (s : Fin 128) : bgBlock m c t (ix2 0 s) = bc V0 (gc (cj t.val s)) :=
  (bgBlock_apply m c t s).trans (congrFun h.b _).symm
theorem bv_col (t : Fin cfg0.N) (s : Fin 128) : bvBlock m c t (ix2 0 s) = bc V0 (vc (cj t.val s)) :=
  (bvBlock_apply m c t s).trans (congrFun h.b _).symm

theorem dyv_lat (t : Fin cfg0.N) (s : Fin 128) : lat (col (DYV m c t) s) = col (YL V0) (vc (cj t.val s)) := by
  rw [YL_value]
  funext r
  refine (kvalue_apply _ _ (Spec.rl r) s).trans ?_
  have e := congrFun (kconv_lat block (xg (xBlock m c t)) (wgBlock m c t) (bgBlock m c t) s) r
  rw [x_col h, wg_col h, bg_col h] at e
  exact congrArg₂ dVal (congrFun (d_col h t s) _) e
theorem dyv_con (t : Fin cfg0.N) (s : Fin 128) : con (col (DYV m c t) s) = col (YC V0) (vc (cj t.val s)) := by
  rw [YC_value]
  funext r
  refine (kvalue_apply _ _ (Spec.rc r) s).trans ?_
  have e := congrFun (kconv_con block (xg (xBlock m c t)) (wgBlock m c t) (bgBlock m c t) s) r
  rw [x_col h, wg_col h, bg_col h] at e
  exact congrArg₂ dVal (congrFun (d_col h t s) _) e

theorem array8 : (dats m 0 c).arrAt 8 cfg0.N = extractStridedSlice Cert.ConvBwdRefIdeal.S4352x5632 ![0, 5632] (res_main_v164 V0) Cert.ConvBwdRefIdeal.Gen.slices_S4352x11264_S4352x5632_0_5632 := by
  refine (dats m 0 c).arrAt_eq_of_covers 8 _ (by decide +kernel) fun t hf y => ?_
  blk_simp
  rw [after0_8]
  obtain ⟨i, s, rfl⟩ : ∃ (i : Fin 4352) (s : Fin 128), y = (ix2 i s : S4352x128.Idx) := ⟨_, _, (ix2_eta y).symm⟩
  refine Eq.trans ?_ (place8 t i s _).symm
  refine Eq.trans ?_ (slice_read (φ := .bf16) (res_main_v164 V0) _ _ _ i (cj t.val s) i (vc (cj t.val s)) (Nat.zero_add _).symm rfl).symm
  rw [out8]
  rcases row_cases i with ⟨r, rfl⟩ | ⟨r, rfl⟩
  · rw [kdx_lat, v164_lat, dyv_lat h, wv_col h]
    rfl
  · rw [kdx_con, v164_con, dyv_con h, wv_col h]
    rfl

theorem array10 : (dats m 0 c).arrAt 10 cfg0.N = extractStridedSlice Cert.ConvBwdRefIdeal.S3x5632 ![0, 5632] (res_main_v154 V0) Cert.ConvBwdRefIdeal.Gen.slices_S3x11264_S3x5632_0_5632 := by
  refine (dats m 0 c).arrAt_eq_of_covers 10 _ (by decide +kernel) fun t hf y => ?_
  blk_simp
  rw [after0_10]
  obtain ⟨a, s, rfl⟩ : ∃ (a : Fin 3) (s : Fin 128), y = (ix2 a s : S3x128.Idx) := ⟨_, _, (ix2_eta y).symm⟩
  refine Eq.trans ?_ (place10 t a s _).symm
  refine Eq.trans ?_ (slice_read (φ := .f32) (res_main_v154 V0) _ _ _ a (cj t.val s) a (vc (cj t.val s)) (Nat.zero_add _).symm rfl).symm
  rw [out10, kdw_apply, v154_apply, z_col h, dyv_lat h, dyv_con h, XL_col, XC_col]
  rfl

theorem array12 : (dats m 0 c).arrAt 12 cfg0.N = extractStridedSlice Cert.ConvBwdRefIdeal.S1x5632 ![0, 5632] (res_main_v161 V0) Cert.ConvBwdRefIdeal.Gen.slices_S1x11264_S1x5632_0_5632 := by
  refine (dats m 0 c).arrAt_eq_of_covers 12 _ (by decide +kernel) fun t hf y => ?_
  blk_simp
  rw [after0_12]
  obtain ⟨s, rfl⟩ : ∃ (s : Fin 128), y = (ix2 0 s : S1x128.Idx) :=
    ⟨y 1, (ix2_eta y).symm.trans (congrArg (fun a => (ix2 a (y 1) : S1x128.Idx)) (Subsingleton.elim (α := Fin 1) _ _))⟩
  refine Eq.trans ?_ (place12 t 0 s _).symm
  refine Eq.trans ?_ (slice_read (φ := .f32) (res_main_v161 V0) _ _ _ 0 (cj t.val s) 0 (vc (cj t.val s)) rfl rfl).symm
  rw [out12, ksum_apply, sum_rows, v161_apply]
  exact congrArg₂ (· + ·) (Finset.sum_congr rfl fun r _ => congrFun (dyv_lat h t s) r) (Finset.sum_congr rfl fun r _ => congrFun (dyv_con h t s) r)

variable (H : Cert.ConvBwdRefIdeal.Hand.Finite V0)
include H

theorem dyg_lat (t : Fin cfg0.N) (s : Fin 128) : lat (col (DYG m c t) s) = col (YL V0) (gc (cj t.val s)) := by
  rw [YL_gate H]
  funext r
  refine (kgate_apply _ _ _ (Spec.rl r) s).trans ?_
  have e := congrFun (kconv_lat block (xg (xBlock m c t)) (wgBlock m c t) (bgBlock m c t) s) r
  have e' := congrFun (kconv_lat block (xg (zBlock m c t)) (wvBlock m c t) (bvBlock m c t) s) r
  rw [x_col h, wg_col h, bg_col h] at e
  rw [z_col h, wv_col h, bv_col h] at e'
  exact (congrArg₂ (dGate _) e e').trans (congrArg (dGate · _ _) (congrFun (d_col h t s) _))
theorem dyg_con (t : Fin cfg0.N) (s : Fin 128) : con (col (DYG m c t) s) = col (YC V0) (gc (cj t.val s)) := by
  rw [YC_gate H]
  funext r
  refine (kgate_apply _ _ _ (Spec.rc r) s).trans ?_
  have e := congrFun (kconv_con block (xg (xBlock m c t)) (wgBlock m c t) (bgBlock m c t) s) r
  have e' := congrFun (kconv_con block (xg (zBlock m c t)) (wvBlock m c t) (bvBlock m c t) s) r
  rw [x_col h, wg_col h, bg_col h] at e
  rw [z_col h, wv_col h, bv_col h] at e'
  exact (congrArg₂ (dGate _) e e').trans (congrArg (dGate · _ _) (congrFun (d_col h t s) _))

theorem array7 : (dats m 0 c).arrAt 7 cfg0.N = extractStridedSlice Cert.ConvBwdRefIdeal.S4352x5632 ![0, 0] (res_main_v164 V0) Cert.ConvBwdRefIdeal.Gen.slices_S4352x11264_S4352x5632_0_0 := by
  refine (dats m 0 c).arrAt_eq_of_covers 7 _ (by decide +kernel) fun t hf y => ?_
  blk_simp
  rw [after0_7]
  obtain ⟨i, s, rfl⟩ : ∃ (i : Fin 4352) (s : Fin 128), y = (ix2 i s : S4352x128.Idx) := ⟨_, _, (ix2_eta y).symm⟩
  refine Eq.trans ?_ (place7 t i s _).symm
  refine Eq.trans ?_ (slice_read (φ := .bf16) (res_main_v164 V0) _ _ _ i (cj t.val s) i (gc (cj t.val s)) (Nat.zero_add _).symm (Nat.zero_add _).symm).symm
  rw [out7]
  rcases row_cases i with ⟨r, rfl⟩ | ⟨r, rfl⟩
  · rw [kdx_lat, v164_lat, dyg_lat h H, wg_col h]
    rfl
  · rw [kdx_con, v164_con, dyg_con h H, wg_col h]
    rfl

theorem array9 : (dats m 0 c).arrAt 9 cfg0.N = extractStridedSlice Cert.ConvBwdRefIdeal.S3x5632 ![0, 0] (res_main_v154 V0) Cert.ConvBwdRefIdeal.Gen.slices_S3x11264_S3x5632_0_0 := by
  refine (dats m 0 c).arrAt_eq_of_covers 9 _ (by decide +kernel) fun t hf y => ?_
  blk_simp
  rw [after0_9]
  obtain ⟨a, s, rfl⟩ : ∃ (a : Fin 3) (s : Fin 128), y = (ix2 a s : S3x128.Idx) := ⟨_, _, (ix2_eta y).symm⟩
  refine Eq.trans ?_ (place9 t a s _).symm
  refine Eq.trans ?_ (slice_read (φ := .f32) (res_main_v154 V0) _ _ _ a (cj t.val s) a (gc (cj t.val s)) (Nat.zero_add _).symm (Nat.zero_add _).symm).symm
  rw [out9, kdw_apply, v154_apply, x_col h, dyg_lat h H, dyg_con h H, XL_col, XC_col]
  rfl

theorem array11 : (dats m 0 c).arrAt 11 cfg0.N = extractStridedSlice Cert.ConvBwdRefIdeal.S1x5632 ![0, 0] (res_main_v161 V0) Cert.ConvBwdRefIdeal.Gen.slices_S1x11264_S1x5632_0_0 := by
  refine (dats m 0 c).arrAt_eq_of_covers 11 _ (by decide +kernel) fun t hf y => ?_
  blk_simp
  rw [after0_11]
  obtain ⟨s, rfl⟩ : ∃ (s : Fin 128), y = (ix2 0 s : S1x128.Idx) :=
    ⟨y 1, (ix2_eta y).symm.trans (congrArg (fun a => (ix2 a (y 1) : S1x128.Idx)) (Subsingleton.elim (α := Fin 1) _ _))⟩
  refine Eq.trans ?_ (place11 t 0 s _).symm
  refine Eq.trans ?_ (slice_read (φ := .f32) (res_main_v161 V0) _ _ _ 0 (cj t.val s) 0 (gc (cj t.val s)) rfl (Nat.zero_add _).symm).symm
  rw [out11, ksum_apply, sum_rows, v161_apply]
  exact congrArg₂ (· + ·) (Finset.sum_congr rfl fun r _ => congrFun (dyg_lat h H t s) r) (Finset.sum_congr rfl fun r _ => congrFun (dyg_con h H t s) r)
end

end Cert.ConvBwdIdeal.Hand
end
-- ==== Proof.ConvFinite.lean ====
/-
  What the convolution's precondition says: every entry of its four arguments is a number.
-/
module
public import proofs.«01_k».proof.Proof.AttnFinite
public import proofs.«01_k».proof.Proof.ConvArrays
public import proofs.«01_k».proof.Proof.Gen.Pre_finite_conv
@[expose] public section
set_option maxRecDepth 16384
noncomputable section
namespace Cert.ConvBwdIdeal.Hand
open Cert.ConvBwdIdeal Cert.ConvBwdIdeal.Gen Idealize.ShloMosaic Idealize.ShloMosaic.TcCoe Idealize.SL.Sem
open Cert.Proof Cert.Proof.Row
open Cert.KernelIdeal.AttnK (entry_fin)
open scoped BigOperators

section
variable (x : FVec Ideal ⟨2, ![4352, 11264]⟩ .bf16) (w : FVec Ideal ⟨2, ![3, 11264]⟩ .f32) (b : FVec Ideal ⟨2, ![1, 11264]⟩ .f32) (d : FVec Ideal ⟨2, ![4352, 5632]⟩ .bf16)
variable (h : Cert.Pre_finite_conv.fn (F := Ideal) x w b d = fun _ => 1#1)
include h

theorem x_fin (r : Fin 4352) (j : Fin 11264) : Fin' (x (ix2 r j)) := by
  refine entry_fin _ (Eq.trans ?_ (congrFun h (ix2 ⟨r.val, by omega⟩ j)))
  pointwise [Cert.Pre_finite_conv.fn]
  rfl

theorem w_fin (a : Fin 3) (j : Fin 11264) : Fin' (w (ix2 a j)) := by
  refine entry_fin (w (ix2 a j)) (Eq.trans ?_ (congrFun h (ix2 ⟨4352 + a.val, by omega⟩ j)))
  pointwise [Cert.Pre_finite_conv.fn]
  rfl

theorem b_fin (j : Fin 11264) : Fin' (b (ix2 0 j)) := by
  refine entry_fin (b (ix2 0 j)) (Eq.trans ?_ (congrFun h (ix2 ⟨4355, by omega⟩ j)))
  pointwise [Cert.Pre_finite_conv.fn]
  rfl

theorem d_fin (r : Fin 4352) (j : Fin 5632) : Fin' (d (ix2 r j)) := by
  refine entry_fin _ (Eq.trans ?_ (congrFun h (ix2 ⟨4356 + r.val, by omega⟩ ⟨j.val, by omega⟩)))
  pointwise [Cert.Pre_finite_conv.fn]
  rw [dif_neg (by omega), dif_neg (by omega), dif_neg (by omega)]
  simp only [show 4356 + r.val - 4352 - 3 - 1 = r.val by omega]
  rfl
end

theorem finite_of_pre {m : (ℓ : Loc nD τ sig) → Buf (Elt Ideal) ℓ} (hp : Cert.Pre_ConvBwdIdeal_finite_conv m) {c : Dev nD}
    {V0 : Valuation Cert.ConvBwdRefIdeal.τ Cert.ConvBwdRefIdeal.sig (Elt Ideal)} (h : Agree m c V0) : Cert.ConvBwdRefIdeal.Hand.Finite V0 where
  x r j := by rw [h.x]; exact x_fin _ _ _ _ (hp c) r j
  w a j := by rw [h.w]; exact w_fin _ _ _ _ (hp c) a j
  b j := by rw [h.b]; exact b_fin _ _ _ _ (hp c) j
  d r j := by rw [h.d]; exact d_fin _ _ _ _ (hp c) r j

end Cert.ConvBwdIdeal.Hand
end
-- ==== Proof.ConvFwdArrays.lean ====
/-
  The activation the convolution's forward kernel leaves, set beside the reference's.
-/
module

public import proofs.«01_k».proof.Proof.Gen.ConvFwdIdeal.Value
public import proofs.«01_k».proof.Proof.ConvArrays
public import Idealize.ShloMosaic.Lib.Pipeline.ValueKit

@[expose] public section

set_option maxRecDepth 16384

noncomputable section

namespace Cert.ConvFwdIdeal.Hand

open Cert.ConvFwdIdeal Cert.ConvFwdIdeal.Gen Idealize.ShloMosaic Idealize.ShloMosaic.TcCoe Idealize.SL.Sem
open Cert.Proof Cert.Proof.Row Cert.Proof.Conv
open Cert.ConvBwdRefIdeal.Hand (latS conS)
open Cert.ConvBwdIdeal.Hand (block xg gate cj cj_val)
open scoped BigOperators

/-! The reference's activation. -/
section
variable (x : FVec Ideal ⟨2, ![4352, 11264]⟩ .bf16) (w : FVec Ideal ⟨2, ![3, 11264]⟩ .f32) (b : FVec Ideal ⟨2, ![1, 11264]⟩ .f32)

def xl : FVec Ideal ⟨2, ![4096, 11264]⟩ .f32 :=
  extractStridedSlice ⟨2, ![4096, 11264]⟩ ![0, 0] (extf .f32 x Cert.ConvFwdRefIdeal.Gen.bitsLt_bf16_f32) Cert.ConvFwdRefIdeal.Gen.slices_S4352x11264_S4096x11264_0_0
def xk : FVec Ideal ⟨2, ![256, 11264]⟩ .f32 :=
  extractStridedSlice ⟨2, ![256, 11264]⟩ ![4096, 0] (extf .f32 x Cert.ConvFwdRefIdeal.Gen.bitsLt_bf16_f32) Cert.ConvFwdRefIdeal.Gen.slices_S4352x11264_S256x11264_4096_0
def OUT : FVec Ideal ⟨2, ![4352, 5632]⟩ .bf16 :=
  truncf .bf16 (concatenate ⟨2, ![4352, 5632]⟩ 0 [⟨⟨2, ![4096, 5632]⟩, act latS (conv latS (xl x) w b)⟩, ⟨⟨2, ![256, 5632]⟩, act conS (conv conS (xk x) w b)⟩]
    Cert.ConvFwdRefIdeal.Gen.concatenates_S4096x5632_S256x5632_S4352x5632_d0) Cert.ConvFwdRefIdeal.Gen.bitsLt_bf16_f32

theorem xl_col (j : Fin 11264) : col (xl x) j = lat (fun r => x (ix2 r j)) :=
  funext fun r => slice_read (φ := .f32) _ _ _ Cert.ConvFwdRefIdeal.Gen.slices_S4352x11264_S4096x11264_0_0 r j (Spec.rl r) j (Nat.zero_add _).symm (Nat.zero_add _).symm
theorem xk_col (j : Fin 11264) : col (xk x) j = con (fun r => x (ix2 r j)) :=
  funext fun r => slice_read (φ := .f32) _ _ _ Cert.ConvFwdRefIdeal.Gen.slices_S4352x11264_S256x11264_4096_0 r j (Spec.rc r) j rfl (Nat.zero_add _).symm

/-- The activation of one entry. -/
def silu (y z : EReal) : EReal := y * Ideal.logistic y * z

theorem OUT_lat (r : Fin 4096) (j : Fin 5632) : OUT x w b (ix2 (Spec.rl r) j)
    = silu (cv (b (ix2 0 (gc j))) (fun a => w (ix2 a (gc j))) (lat fun r => x (ix2 r (gc j))) r)
      (cv (b (ix2 0 (vc j))) (fun a => w (ix2 a (vc j))) (lat fun r => x (ix2 r (vc j))) r) := by
  have e : OUT x w b (ix2 (Spec.rl r) j) = act latS (conv latS (xl x) w b) (ix2 r j) := by
    pointwise [OUT, Spec.rl]
  rw [e, act_apply, conv_apply, conv_apply, xl_col, xl_col, silu]
theorem OUT_con (r : Fin 256) (j : Fin 5632) : OUT x w b (ix2 (Spec.rc r) j)
    = silu (cv (b (ix2 0 (gc j))) (fun a => w (ix2 a (gc j))) (con fun r => x (ix2 r (gc j))) r)
      (cv (b (ix2 0 (vc j))) (fun a => w (ix2 a (vc j))) (con fun r => x (ix2 r (vc j))) r) := by
  have e : OUT x w b (ix2 (Spec.rc r) j) = act conS (conv conS (xk x) w b) (ix2 r j) := by
    pointwise [OUT, Spec.rc]
  rw [e, act_apply, conv_apply, conv_apply, xk_col, xk_col, silu]
end

theorem reference (m : (ℓ : Loc Cert.ConvFwdRefIdeal.nD Cert.ConvFwdRefIdeal.τ Cert.ConvFwdRefIdeal.sig) → Buf (Elt Ideal) ℓ) (c : Dev Cert.ConvFwdRefIdeal.nD) :
    Cert.ConvFwdRefIdeal.Value.res_main_v68 m c = OUT (m ((c.tc : Thread _ _).loc Cert.ConvFwdRefIdeal.main_arg0))
      (m ((c.tc : Thread _ _).loc Cert.ConvFwdRefIdeal.main_arg1)) (m ((c.tc : Thread _ _).loc Cert.ConvFwdRefIdeal.main_arg2)) := rfl

theorem idx0 : ∀ t : Fin cfg0.N, win0_0.index t = ![0, t.val] :=
  (by decide +kernel : ∀ t : Fin grid0.N, win0_0.index t = ![0, t.val])
theorem idx1 : ∀ t : Fin cfg0.N, win0_1.index t = ![0, t.val + 44] :=
  (by decide +kernel : ∀ t : Fin grid0.N, win0_1.index t = ![0, t.val + 44])
theorem idx2 : ∀ t : Fin cfg0.N, win0_2.index t = ![0, t.val] :=
  (by decide +kernel : ∀ t : Fin grid0.N, win0_2.index t = ![0, t.val])
theorem idx3 : ∀ t : Fin cfg0.N, win0_3.index t = ![0, t.val + 44] :=
  (by decide +kernel : ∀ t : Fin grid0.N, win0_3.index t = ![0, t.val + 44])
theorem idx4 : ∀ t : Fin cfg0.N, win0_4.index t = ![0, t.val] :=
  (by decide +kernel : ∀ t : Fin grid0.N, win0_4.index t = ![0, t.val])
theorem idx5 : ∀ t : Fin cfg0.N, win0_5.index t = ![0, t.val + 44] :=
  (by decide +kernel : ∀ t : Fin grid0.N, win0_5.index t = ![0, t.val + 44])
theorem idx6 : ∀ t : Fin cfg0.N, win0_6.index t = ![0, t.val] :=
  (by decide +kernel : ∀ t : Fin grid0.N, win0_6.index t = ![0, t.val])

section
variable (m : (ℓ : Loc nD τ sig) → Buf (Elt Ideal) ℓ) (c : Dev nD)

/-- The arguments. -/
def A0 : FVec Ideal S4352x11264 .bf16 := m ((c.tc : Thread nD τ).loc main_arg0)
def A1 : FVec Ideal S3x11264 .f32 := m ((c.tc : Thread nD τ).loc main_arg1)
def A2 : FVec Ideal S1x11264 .f32 := m ((c.tc : Thread nD τ).loc main_arg2)

/-- The blocks a grid point reads. -/
def xBlock (t : Fin cfg0.N) : FVec Ideal S4352x128 .bf16 := iblk m c 0 t
def zBlock (t : Fin cfg0.N) : FVec Ideal S4352x128 .bf16 := iblk m c 1 t
def wgBlock (t : Fin cfg0.N) : FVec Ideal S3x128 .f32 := iblk m c 2 t
def wvBlock (t : Fin cfg0.N) : FVec Ideal S3x128 .f32 := iblk m c 3 t
def bgBlock (t : Fin cfg0.N) : FVec Ideal S1x128 .f32 := iblk m c 4 t
def bvBlock (t : Fin cfg0.N) : FVec Ideal S1x128 .f32 := iblk m c 5 t

theorem xBlock_apply (t : Fin cfg0.N) (i : Fin 4352) (s : Fin 128) : xBlock m c t (ix2 i s) = A0 m c (ix2 i (gc (cj t.val s))) := by
  have ht : t.val < 44 := lt_of_lt_of_eq t.isLt N_0
  rw [A0, xBlock]
  blk_ext [iblk, V, idx0 t] <;> simp only [gc, cj_val ht] <;> omega
theorem zBlock_apply (t : Fin cfg0.N) (i : Fin 4352) (s : Fin 128) : zBlock m c t (ix2 i s) = A0 m c (ix2 i (vc (cj t.val s))) := by
  have ht : t.val < 44 := lt_of_lt_of_eq t.isLt N_0
  rw [A0, zBlock]
  blk_ext [iblk, V, idx1 t] <;> simp only [vc, cj_val ht] <;> omega
theorem wgBlock_apply (t : Fin cfg0.N) (a : Fin 3) (s : Fin 128) : wgBlock m c t (ix2 a s) = A1 m c (ix2 a (gc (cj t.val s))) := by
  have ht : t.val < 44 := lt_of_lt_of_eq t.isLt N_0
  rw [A1, wgBlock]
  blk_ext [iblk, V, idx2 t] <;> simp only [gc, cj_val ht] <;> omega
theorem wvBlock_apply (t : Fin cfg0.N) (a : Fin 3) (s : Fin 128) : wvBlock m c t (ix2 a s) = A1 m c (ix2 a (vc (cj t.val s))) := by
  have ht : t.val < 44 := lt_of_lt_of_eq t.isLt N_0
  rw [A1, wvBlock]
  blk_ext [iblk, V, idx3 t] <;> simp only [vc, cj_val ht] <;> omega
theorem bgBlock_apply (t : Fin cfg0.N) (s : Fin 128) : bgBlock m c t (ix2 0 s) = A2 m c (ix2 0 (gc (cj t.val s))) := by
  have ht : t.val < 44 := lt_of_lt_of_eq t.isLt N_0
  rw [A2, bgBlock]
  blk_ext [iblk, V, idx4 t] <;> simp only [gc, cj_val ht] <;> omega
theorem bvBlock_apply (t : Fin cfg0.N) (s : Fin 128) : bvBlock m c t (ix2 0 s) = A2 m c (ix2 0 (vc (cj t.val s))) := by
  have ht : t.val < 44 := lt_of_lt_of_eq t.isLt N_0
  rw [A2, bvBlock]
  blk_ext [iblk, V, idx5 t] <;> simp only [vc, cj_val ht] <;> omega
theorem place6 (t : Fin cfg0.N) (i : Fin 4352) (s : Fin 128) (R : FVec Ideal S4352x5632 .bf16) :
    R ((win0_6.blk t).view.emb (ix2 i s : S4352x128.Idx)) = R (ix2 i (cj t.val s)) := by
  have ht : t.val < 44 := lt_of_lt_of_eq t.isLt N_0
  blk_ext [idx6 t] <;> simp only [cj_val ht] <;> omega

theorem pay1_eq (x0 x1 : FVec Ideal S4352x128 .bf16) (w0 w1 : FVec Ideal S3x128 .f32) (b0 b1 : FVec Ideal S1x128 .f32) :
    k0_pay1 (F := Ideal) (k0_pay2 x0 w0 b0) (k0_pay3 x1) w1 b1 = truncf .bf16 (kact (gate x0 w0 b0) (gate x1 w1 b1)) bitsLt_bf16_f32 := rfl

theorem out6 (t : Fin cfg0.N) (y : S4352x128.Idx) :
    out0_6 (iblk m c 0 t) (iblk m c 1 t) (iblk m c 2 t) (iblk m c 3 t) (iblk m c 4 t) (iblk m c 5 t) y
      = kact (gate (xBlock m c t) (wgBlock m c t) (bgBlock m c t)) (gate (zBlock m c t) (wvBlock m c t) (bvBlock m c t)) y := by
  frame_out
  exact congrFun (pay1_eq (xBlock m c t) (zBlock m c t) (wgBlock m c t) (wvBlock m c t) (bgBlock m c t) (bvBlock m c t)) y

theorem gate_lat (t : Fin cfg0.N) (r : Fin 4096) (s : Fin 128) : gate (xBlock m c t) (wgBlock m c t) (bgBlock m c t) (ix2 (Spec.rl r) s)
    = cv (A2 m c (ix2 0 (gc (cj t.val s)))) (fun a => A1 m c (ix2 a (gc (cj t.val s)))) (lat fun r => A0 m c (ix2 r (gc (cj t.val s)))) r := by
  refine (congrFun (kconv_lat block (xg (xBlock m c t)) (wgBlock m c t) (bgBlock m c t) s) r).trans ?_
  rw [bgBlock_apply, funext fun a => wgBlock_apply m c t a s, show col (xg (xBlock m c t)) s = _ from funext fun i => xBlock_apply m c t i s]
theorem gate_con (t : Fin cfg0.N) (r : Fin 256) (s : Fin 128) : gate (xBlock m c t) (wgBlock m c t) (bgBlock m c t) (ix2 (Spec.rc r) s)
    = cv (A2 m c (ix2 0 (gc (cj t.val s)))) (fun a => A1 m c (ix2 a (gc (cj t.val s)))) (con fun r => A0 m c (ix2 r (gc (cj t.val s)))) r := by
  refine (congrFun (kconv_con block (xg (xBlock m c t)) (wgBlock m c t) (bgBlock m c t) s) r).trans ?_
  rw [bgBlock_apply, funext fun a => wgBlock_apply m c t a s, show col (xg (xBlock m c t)) s = _ from funext fun i => xBlock_apply m c t i s]
theorem value_lat (t : Fin cfg0.N) (r : Fin 4096) (s : Fin 128) : gate (zBlock m c t) (wvBlock m c t) (bvBlock m c t) (ix2 (Spec.rl r) s)
    = cv (A2 m c (ix2 0 (vc (cj t.val s)))) (fun a => A1 m c (ix2 a (vc (cj t.val s)))) (lat fun r => A0 m c (ix2 r (vc (cj t.val s)))) r := by
  refine (congrFun (kconv_lat block (xg (zBlock m c t)) (wvBlock m c t) (bvBlock m c t) s) r).trans ?_
  rw [bvBlock_apply, funext fun a => wvBlock_apply m c t a s, show col (xg (zBlock m c t)) s = _ from funext fun i => zBlock_apply m c t i s]
theorem value_con (t : Fin cfg0.N) (r : Fin 256) (s : Fin 128) : gate (zBlock m c t) (wvBlock m c t) (bvBlock m c t) (ix2 (Spec.rc r) s)
    = cv (A2 m c (ix2 0 (vc (cj t.val s)))) (fun a => A1 m c (ix2 a (vc (cj t.val s)))) (con fun r => A0 m c (ix2 r (vc (cj t.val s)))) r := by
  refine (congrFun (kconv_con block (xg (zBlock m c t)) (wvBlock m c t) (bvBlock m c t) s) r).trans ?_
  rw [bvBlock_apply, funext fun a => wvBlock_apply m c t a s, show col (xg (zBlock m c t)) s = _ from funext fun i => zBlock_apply m c t i s]

/-- The activation the kernel leaves is the reference's. -/
theorem array : (dats m 0 c).arrAt 6 cfg0.N = OUT (A0 m c) (A1 m c) (A2 m c) := by
  refine (dats m 0 c).arrAt_eq_of_covers 6 _ (by decide +kernel) fun t hf y => ?_
  blk_simp
  rw [after0_6]
  obtain ⟨i, s, rfl⟩ : ∃ (i : Fin 4352) (s : Fin 128), y = (ix2 i s : S4352x128.Idx) := ⟨_, _, (ix2_eta y).symm⟩
  refine Eq.trans ?_ (place6 t i s _).symm
  rw [out6, kact_apply]
  rcases row_cases i with ⟨r, rfl⟩ | ⟨r, rfl⟩
  · rw [gate_lat, value_lat, OUT_lat, silu]
  · rw [gate_con, value_con, OUT_con, silu]
end

end Cert.ConvFwdIdeal.Hand
end
-- ==== Proof.HgSpec.lean ====
/-
  The norm of one row, its gradient, and the gate, over the extended reals. The constant `w` is the row's length as the
  program writes it.
-/
module

public import Idealize.ShloMosaic.Lib.Pipeline.ValueKit

@[expose] public section

noncomputable section

namespace Cert.Proof.Norm

open Idealize.ShloMosaic
open scoped BigOperators

/-- The length of one head's columns. -/
def width : EReal := Ideal.ofBits FTy.f32 1124073472#32
def small : EReal := Ideal.ofBits FTy.f32 897988541#32
def half : EReal := Ideal.ofBits FTy.f32 3204448256#32

section
variable {n : ℕ} (w : EReal) (o u g : Fin n → EReal)

/-- The mean of the squares, with the small constant added. -/
def ms : EReal := Ideal.div (∑ j, o j * o j) w + small
def rs : EReal := Ideal.rsqrt (ms w o)
def cs : EReal := half * Ideal.div (rs w o) (ms w o)
/-- The normalised entry. -/
def nm (d : Fin n) : EReal := o d * rs w o
def bb : EReal := Ideal.div ((∑ j, o j * (u j * g j)) * cs w o) w
/-- The gradient of an entry: `u` is what reaches the norm's result. -/
def gr (d : Fin n) : EReal := u d * g d * rs w o + o d * bb w o u g + bb w o u g * o d
end

/-- What the gate lets through of an incoming gradient, and the gradient of the gate's own argument. -/
def through (e z : EReal) : EReal := e * (z * Ideal.logistic z)
def gateGrad (y e z : EReal) : EReal :=
  y * e * Ideal.logistic z + z * (y * e) * (Ideal.logistic z * (1 - Ideal.logistic z))

/-- Column `d` of head `h`. -/
def hc (h : Fin 4) (d : Fin 128) : Fin 512 := ⟨h.val * 128 + d.val, by omega⟩

theorem hc_head (h : Fin 4) (d : Fin 128) (p) : (⟨(hc h d).val / 128, p⟩ : Fin 4) = h := Fin.ext (by simp only [hc]; omega)
theorem hc_lane (h : Fin 4) (d : Fin 128) (p) : (⟨(hc h d).val % 128, p⟩ : Fin 128) = d := Fin.ext (by simp only [hc]; omega)

theorem column (j : Fin 512) : ∃ (h : Fin 4) (d : Fin 128), j = hc h d :=
  ⟨⟨j.val / 128, by omega⟩, ⟨j.val % 128, by omega⟩, Fin.ext (by simp only [hc]; omega)⟩

end Cert.Proof.Norm
end
-- ==== Proof.HgBlocks.lean ====
/-
  The norm and gate of the recurrence's output, differentiated on one block of rows: the four heads go through the same
  stages, so each stage is stated once, of one head's columns, and read in coordinates.
-/
module

public import proofs.«01_k».proof.Proof.Gen.HgGateBwdIdeal.Value
public import proofs.«01_k».proof.Proof.HgSpec

@[expose] public section

set_option maxRecDepth 16384

noncomputable section

namespace Cert.HgGateBwdIdeal.Hand

open Cert.HgGateBwdIdeal Cert.HgGateBwdIdeal.Gen Idealize.ShloMosaic Idealize.ShloMosaic.TcCoe Idealize.SL.Sem
open Cert.Proof.Norm
open scoped BigOperators

/-! One head's columns. -/
section
variable (o u : FVec Ideal S256x128 .f32) (g : FVec Ideal S1x128 .f32)

/-- The mean of a row's squares, with the small constant added. -/
def kms : FVec Ideal S256x1 .f32 :=
  addf (divf (shapeCast S256x1 (multiReduction .add [1] S256 (mulf o o) 0x00000000#32 reduces_S256x128_S256 (.inl rfl) rfl) shapeCasts_S256_S256x1)
    (broadcast S256x1 (Scalar.ofBits (F := Ideal) .f32 0x43000000#32))) (broadcast S256x1 (Scalar.ofBits (F := Ideal) .f32 0x358637BD#32))
def krs : FVec Ideal S256x1 .f32 := rsqrt (kms o)
/-- The derivative of the inverse root. -/
def kcs : FVec Ideal S256x1 .f32 := mulf (broadcast S256x1 (Scalar.ofBits (F := Ideal) .f32 0xBF000000#32)) (divf (krs o) (kms o))
/-- The normalised row. -/
def kn : FVec Ideal S256x128 .f32 := mulf o (broadcastTo S256x128 (krs o) broadcasts_S256x1_S256x128)
def ky : FVec Ideal S256x128 .f32 := mulf (kn o) (broadcastTo S256x128 g broadcasts_S1x128_S256x128)
def kw : FVec Ideal S256x128 .f32 := mulf u (broadcastTo S256x128 g broadcasts_S1x128_S256x128)
/-- What reaches a row's mean. -/
def kb : FVec Ideal S256x1 .f32 :=
  shapeCast S256x1 (multiReduction .add [1] S256
    (divf (mulf (shapeCast S256x1 (multiReduction .add [1] S256 (mulf o (kw u g)) 0x00000000#32 reduces_S256x128_S256 (.inl rfl) rfl) shapeCasts_S256_S256x1) (kcs o))
      (broadcast S256x1 (Scalar.ofBits (F := Ideal) .f32 0x43000000#32))) 0x00000000#32 reduces_S256x1_S256 (.inl rfl) rfl) shapeCasts_S256_S256x1
/-- The gradient of the head's columns. -/
def kgr : FVec Ideal S256x128 .f32 :=
  addf (addf (mulf (kw u g) (broadcastTo S256x128 (krs o) broadcasts_S256x1_S256x128)) (mulf o (broadcastTo S256x128 (kb o u g) broadcasts_S256x1_S256x128)))
    (mulf (broadcastTo S256x128 (kb o u g) broadcasts_S256x1_S256x128) o)
/-- The block's part of the gain's gradient. -/
def kdg : FVec Ideal S1x128 .f32 :=
  shapeCast S1x128 (multiReduction .add [0] S128 (mulf (kn o) u) 0x00000000#32 reduces_S256x128_S128 (.inl rfl) rfl) shapeCasts_S128_S1x128

def row {n : ℕ} (x : FVec Ideal ⟨2, ![n, 128]⟩ .f32) (r : Fin n) (d : Fin 128) : EReal := x (ix2 r d)

theorem kms_apply (r : Fin 256) : kms o (ix2 r 0) = ms width (row o r) := by
  pointwise [kms]
  rfl
theorem krs_apply (r : Fin 256) : krs o (ix2 r 0) = rs width (row o r) := by
  pointwise [krs]
  rw [kms_apply, rs]
theorem kcs_apply (r : Fin 256) : kcs o (ix2 r 0) = cs width (row o r) := by
  pointwise [kcs]
  rw [kms_apply, krs_apply]
  rfl
theorem ky_apply (r : Fin 256) (d : Fin 128) : ky o g (ix2 r d) = nm width (row o r) d * g (ix2 0 d) := by
  pointwise [ky, kn]
  rw [krs_apply]
  rfl
theorem kgr_apply (r : Fin 256) (d : Fin 128) : kgr o u g (ix2 r d) = gr width (row o r) (row u r) (row g 0) d := by
  pointwise [kgr, kb, kw]
  rw [Fin.sum_univ_one, kcs_apply, krs_apply]
  rfl
theorem kdg_apply (d : Fin 128) : kdg o u (ix2 0 d) = ∑ r : Fin 256, nm width (row o r) d * u (ix2 r d) := by
  pointwise [kdg, kn]
  simp only [krs_apply]
  rfl
end

/-! The four heads. -/
section
variable (a b z : FVec Ideal S256x512 .f32) (g : FVec Ideal S1x128 .f32) (e : FVec Ideal S256x512 .bf16)

def h0 (x : FVec Ideal S256x512 .f32) : FVec Ideal S256x128 .f32 := extractStridedSlice S256x128 ![0, 0] x slices_S256x512_o0_0_S256x128
def h1 (x : FVec Ideal S256x512 .f32) : FVec Ideal S256x128 .f32 := extractStridedSlice S256x128 ![0, 128] x slices_S256x512_o0_128_S256x128
def h2 (x : FVec Ideal S256x512 .f32) : FVec Ideal S256x128 .f32 := extractStridedSlice S256x128 ![0, 256] x slices_S256x512_o0_256_S256x128
def h3 (x : FVec Ideal S256x512 .f32) : FVec Ideal S256x128 .f32 := extractStridedSlice S256x128 ![0, 384] x slices_S256x512_o0_384_S256x128
/-- The gated gradient that reaches the norm. -/
def ku : FVec Ideal S256x512 .f32 := mulf (extf .f32 e bitsLt_bf16_f32) (mulf z (logistic z))

def kjoin (x0 x1 x2 x3 : FVec Ideal S256x128 .f32) : FVec Ideal S256x512 .f32 :=
  addf (addf (addf
    (concatenate S256x512 1 [⟨S256x384, broadcast S256x384 (Scalar.ofBits (F := Ideal) .f32 0x00000000#32)⟩, ⟨S256x128, x3⟩] concatenates_S256x384_S256x128_S256x512_d1)
    (concatenate S256x512 1 [⟨S256x384, concatenate S256x384 1 [⟨S256x256, broadcast S256x256 (Scalar.ofBits (F := Ideal) .f32 0x00000000#32)⟩, ⟨S256x128, x2⟩] concatenates_S256x256_S256x128_S256x384_d1⟩,
      ⟨S256x128, broadcast S256x128 (Scalar.ofBits (F := Ideal) .f32 0x00000000#32)⟩] concatenates_S256x384_S256x128_S256x512_d1))
    (concatenate S256x512 1 [⟨S256x256, concatenate S256x256 1 [⟨S256x128, broadcast S256x128 (Scalar.ofBits (F := Ideal) .f32 0x00000000#32)⟩, ⟨S256x128, x1⟩] concatenates_S256x128_S256x128_S256x256_d1⟩,
      ⟨S256x256, broadcast S256x256 (Scalar.ofBits (F := Ideal) .f32 0x00000000#32)⟩] concatenates_S256x256_S256x256_S256x512_d1))
    (concatenate S256x512 1 [⟨S256x128, x0⟩, ⟨S256x384, broadcast S256x384 (Scalar.ofBits (F := Ideal) .f32 0x00000000#32)⟩] concatenates_S256x128_S256x384_S256x512_d1)

def kdz (y : FVec Ideal S256x512 .f32) : FVec Ideal S256x512 .f32 :=
  addf (mulf (mulf y (extf .f32 e bitsLt_bf16_f32)) (logistic z))
    (mulf (mulf z (mulf y (extf .f32 e bitsLt_bf16_f32))) (mulf (logistic z) (subf (broadcast S256x512 (Scalar.ofBits (F := Ideal) .f32 0x3F800000#32)) (logistic z))))

def knorm : FVec Ideal S256x512 .f32 :=
  concatenate S256x512 1 [⟨S256x128, ky (h0 (addf a b)) g⟩, ⟨S256x128, ky (h1 (addf a b)) g⟩, ⟨S256x128, ky (h2 (addf a b)) g⟩, ⟨S256x128, ky (h3 (addf a b)) g⟩]
    concatenates_S256x128_S256x128_S256x128_S256x128_S256x512_d1

theorem pay40_eq : k0_pay40 (F := Ideal) g (k0_pay3 a b) (k0_pay5 a b) (k0_pay6 a b) (k0_pay9 a b) (k0_pay11 a b) (k0_pay12 a b) (k0_pay30 z e)
    (k0_pay36 g (k0_pay15 a b) (k0_pay18 (k0_pay16 a b)) (k0_pay19 (k0_pay16 a b)) (k0_pay21 (k0_pay2 a b)) (k0_pay23 (k0_pay2 a b)) (k0_pay24 (k0_pay2 a b))
      (k0_pay32 z e) (k0_pay33 z e) (k0_pay35 g)) (k0_pay38 g (k0_pay31 z e))
    = kjoin (kgr (h0 (addf a b)) (h0 (ku z e)) g) (kgr (h1 (addf a b)) (h1 (ku z e)) g) (kgr (h2 (addf a b)) (h2 (ku z e)) g) (kgr (h3 (addf a b)) (h3 (ku z e)) g) := rfl

theorem pay29_eq : k0_pay29 (F := Ideal) z g e (k0_pay2 a b) (k0_pay8 a b g) (k0_pay14 a b g) (k0_pay15 a b) (k0_pay16 a b) = kdz z e (knorm a b g) := rfl

theorem pay39_eq : k0_pay39 (F := Ideal) (k0_pay7 a b) (k0_pay30 z e)
    (k0_pay37 (k0_pay13 a b) (k0_pay20 (k0_pay15 a b) (k0_pay16 a b)) (k0_pay31 z e) (k0_pay32 z e) (k0_pay34 z e (k0_pay2 a b)))
    = addf (addf (addf (kdg (h3 (addf a b)) (h3 (ku z e))) (kdg (h2 (addf a b)) (h2 (ku z e)))) (kdg (h1 (addf a b)) (h1 (ku z e)))) (kdg (h0 (addf a b)) (h0 (ku z e))) := rfl
theorem ku_apply (r : Fin 256) (j : Fin 512) : ku z e (ix2 r j) = through (e (ix2 r j)) (z (ix2 r j)) := by
  pointwise [ku]
  rfl
theorem kdz_apply (y : FVec Ideal S256x512 .f32) (r : Fin 256) (j : Fin 512) :
    kdz z e y (ix2 r j) = gateGrad (y (ix2 r j)) (e (ix2 r j)) (z (ix2 r j)) := by
  pointwise [kdz]
  rfl

def heads (x : FVec Ideal S256x512 .f32) : Fin 4 → FVec Ideal S256x128 .f32 := ![h0 x, h1 x, h2 x, h3 x]

theorem heads_apply (x : FVec Ideal S256x512 .f32) (h : Fin 4) (r : Fin 256) (d : Fin 128) : heads x h (ix2 r d) = x (ix2 r (hc h d)) := by
  match h with
  | 0 => pointwise [heads, h0, hc]
  | 1 => pointwise [heads, h1, hc]
  | 2 => pointwise [heads, h2, hc]
  | 3 => pointwise [heads, h3, hc]

theorem kjoin_apply (x : Fin 4 → FVec Ideal S256x128 .f32) (h : Fin 4) (r : Fin 256) (d : Fin 128) :
    kjoin (x 0) (x 1) (x 2) (x 3) (ix2 r (hc h d)) = x h (ix2 r d) := by
  have hd := d.isLt
  match h with
  | 0 | 1 | 2 | 3 =>
    pointwise [kjoin, hc]
    split_ifs <;> first | (exfalso; omega) | simp only [zero_add, add_zero]

def kfour (x : Fin 4 → FVec Ideal S256x128 .f32) : FVec Ideal S256x512 .f32 :=
  concatenate S256x512 1 [⟨S256x128, x 0⟩, ⟨S256x128, x 1⟩, ⟨S256x128, x 2⟩, ⟨S256x128, x 3⟩] concatenates_S256x128_S256x128_S256x128_S256x128_S256x512_d1

theorem kfour_apply (x : Fin 4 → FVec Ideal S256x128 .f32) (h : Fin 4) (r : Fin 256) (d : Fin 128) :
    kfour x (ix2 r (hc h d)) = x h (ix2 r d) := by
  have hd := d.isLt
  match h with
  | 0 | 1 => pointwise [kfour, hc]
  | 2 | 3 =>
    pointwise [kfour, hc]
    split_ifs <;> first | (exfalso; omega) | exact congrArg (x _) (congrArg₂ ix2 rfl (Fin.ext (by show _ - _ = _; omega)))

/-- The summed output of a head in a row, and what the gate lets through to it. -/
def os (h : Fin 4) (r : Fin 256) (d : Fin 128) : EReal := a (ix2 r (hc h d)) + b (ix2 r (hc h d))
def us (h : Fin 4) (r : Fin 256) (d : Fin 128) : EReal := through (e (ix2 r (hc h d))) (z (ix2 r (hc h d)))

theorem row_os (h : Fin 4) (r : Fin 256) : row (heads (addf a b) h) r = os a b h r := funext fun d => heads_apply _ h r d
theorem row_us (h : Fin 4) (r : Fin 256) : row (heads (ku z e) h) r = us z e h r := funext fun d => (heads_apply _ h r d).trans (ku_apply z e r _)

/-- The block's three results. -/
theorem block_do (h : Fin 4) (r : Fin 256) (d : Fin 128) :
    kjoin (kgr (h0 (addf a b)) (h0 (ku z e)) g) (kgr (h1 (addf a b)) (h1 (ku z e)) g) (kgr (h2 (addf a b)) (h2 (ku z e)) g) (kgr (h3 (addf a b)) (h3 (ku z e)) g)
      (ix2 r (hc h d)) = gr width (os a b h r) (us z e h r) (row g 0) d := by
  refine (kjoin_apply (fun h => kgr (heads (addf a b) h) (heads (ku z e) h) g) h r d).trans ?_
  rw [kgr_apply, row_os, row_us]
theorem block_dz (h : Fin 4) (r : Fin 256) (d : Fin 128) : kdz z e (knorm a b g) (ix2 r (hc h d))
    = gateGrad (nm width (os a b h r) d * g (ix2 0 d)) (e (ix2 r (hc h d))) (z (ix2 r (hc h d))) := by
  rw [kdz_apply, show knorm a b g = kfour fun h => ky (heads (addf a b) h) g from rfl, kfour_apply, ky_apply, row_os]
theorem block_dg (d : Fin 128) :
    addf (addf (addf (kdg (h3 (addf a b)) (h3 (ku z e))) (kdg (h2 (addf a b)) (h2 (ku z e)))) (kdg (h1 (addf a b)) (h1 (ku z e)))) (kdg (h0 (addf a b)) (h0 (ku z e))) (ix2 0 d)
      = ∑ r : Fin 256, ∑ h : Fin 4, nm width (os a b h r) d * us z e h r d := by
  have k (h : Fin 4) : kdg (heads (addf a b) h) (heads (ku z e) h) (ix2 0 d) = ∑ r : Fin 256, nm width (os a b h r) d * us z e h r d := by
    rw [kdg_apply]
    refine Finset.sum_congr rfl fun r _ => ?_
    rw [row_os, ← row_us, row]
  rw [Finset.sum_comm, Fin.sum_univ_four, ← k, ← k, ← k, ← k]
  refine (show _ = kdg (heads (addf a b) 3) (heads (ku z e) 3) (ix2 0 d) + kdg (heads (addf a b) 2) (heads (ku z e) 2) (ix2 0 d)
    + kdg (heads (addf a b) 1) (heads (ku z e) 1) (ix2 0 d) + kdg (heads (addf a b) 0) (heads (ku z e) 0) (ix2 0 d) from rfl).trans ?_
  ac_rfl
end

end Cert.HgGateBwdIdeal.Hand
end
-- ==== Proof.HgRef.lean ====
/-
  The reference's norm and gate and their gradients, read at an index.
-/
module

public import proofs.«01_k».proof.Proof.Gen.HgGateBwdRefIdeal.Run
public import proofs.«01_k».proof.Proof.HgSpec

@[expose] public section

set_option maxRecDepth 16384

noncomputable section

namespace Cert.HgGateBwdRefIdeal.Hand

open Cert.HgGateBwdRefIdeal Cert.HgGateBwdRefIdeal.Gen Cert.HgGateBwdRefIdeal.Value Idealize.ShloMosaic Idealize.ShloMosaic.TcCoe Idealize.SL.Sem Idealize.ShloMosaic.StableHlo
open Cert.Proof.Norm
open scoped BigOperators

/-- A sum over the first two of three axes. -/
theorem sum_first_two {n0 n1 n2 : ℕ} (h : (⟨3, ![n0, n1, n2]⟩ : Shape).ReducesTo [0, 1] ⟨1, ![n2]⟩) (v : (⟨3, ![n0, n1, n2]⟩ : Shape).Idx → EReal) (d : Fin n2) :
    Ideal.hostReduceAdd h v 0 (ix1 d) = ∑ r : Fin n0, ∑ k : Fin n1, v (ix3 r k d) := by
  have fiber (i : (⟨3, ![n0, n1, n2]⟩ : Shape).Idx) : h.drop i = ix1 d ↔ ∃ k : Fin n0 × Fin n1, ix3 k.1 k.2 d = i := by
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  refine (zero_add _).trans ((Finset.sum_filter_eq_sum_of_fiber _ (fun k : Fin n0 × Fin n1 => ix3 k.1 k.2 d)
    (fun _ _ e => Prod.ext (congrFun e 0) (congrFun e 1)) fiber v).trans ?_)
  simp only [Fintype.sum_prod_type]

section
variable (a b z : FVec Ideal S4352x512 .f32) (g : FVec Ideal S1x128 .f32) (dy : FVec Ideal S4352x512 .bf16)

/-! The stages. -/
def x1 : FVec Ideal S4352x4x128 .f32 := shapeCast _ (addf a b) shapeCasts_S4352x512_S4352x4x128
def x9 : FVec Ideal S4352x4x1 .f32 :=
  addf (Host.divf (broadcastInDim S4352x4x1 ![0, 1] bcast_S4352x4_S4352x4x1_0_1 (Host.reduceAdd (mulf (x1 a b) (x1 a b)) (constant S_ .f32 0x00000000#32) reducesTo_S4352x4x128_S4352x4_d2 h_S_))
    (broadcastInDim S4352x4x1 ![] bcast_S_S4352x4x1 (constant S_ .f32 0x43000000#32))) (broadcastInDim S4352x4x1 ![] bcast_S_S4352x4x1 (constant S_ .f32 0x358637BD#32))
def x10 : FVec Ideal S4352x4x1 .f32 := Host.rsqrt (x9 a b)
def x13 : FVec Ideal S4352x4x1 .f32 := mulf (broadcastInDim S4352x4x1 ![] bcast_S_S4352x4x1 (constant S_ .f32 0xBF000000#32)) (Host.divf (x10 a b) (x9 a b))
def x14 : FVec Ideal S4352x4x128 .f32 := broadcastInDim S4352x4x128 ![0, 1, 2] bcast_S4352x4x1_S4352x4x128_0_1_2 (x10 a b)
def x15 : FVec Ideal S4352x4x128 .f32 := mulf (x1 a b) (x14 a b)
def x17 : FVec Ideal S4352x4x128 .f32 :=
  broadcastInDim S4352x4x128 ![0, 1, 2] bcast_S1x1x128_S4352x4x128_0_1_2 (broadcastInDim S1x1x128 ![2] bcast_S128_S1x1x128_2 (shapeCast _ g shapeCasts_S1x128_S128))
def x19 : FVec Ideal S4352x512 .f32 := shapeCast _ (mulf (x15 a b) (x17 g)) shapeCasts_S4352x4x128_S4352x512
def sg : FVec Ideal S4352x512 .f32 :=
  Host.divf (broadcastInDim S4352x512 ![] bcast_S_S4352x512 (constant S_ .f32 0x3F800000#32))
    (addf (broadcastInDim S4352x512 ![] bcast_S_S4352x512 (constant S_ .f32 0x3F800000#32)) (Host.exp (Host.negf z)))
def x25 : FVec Ideal S4352x512 .f32 := mulf (extf .f32 dy bitsLt_bf16_f32) (mulf z (sg z))
def x26 : FVec Ideal S4352x512 .f32 :=
  addf (mulf (mulf (x19 a b g) (extf .f32 dy bitsLt_bf16_f32)) (sg z))
    (mulf (mulf z (mulf (x19 a b g) (extf .f32 dy bitsLt_bf16_f32)))
      (mulf (sg z) (subf (broadcastInDim S4352x512 ![] bcast_S_S4352x512 (constant S_ .f32 0x3F800000#32)) (sg z))))
def x27 : FVec Ideal S4352x4x128 .f32 := shapeCast _ (x25 z dy) shapeCasts_S4352x512_S4352x4x128
def x29 : FVec Ideal S128 .f32 := Host.reduceAdd (mulf (x15 a b) (x27 z dy)) (constant S_ .f32 0x00000000#32) reducesTo_S4352x4x128_S128_d0_1 h_S_
def x48 : FVec Ideal S1x128 .f32 :=
  broadcastInDim S1x128 ![1] bcast_S128_S1x128_1 (Host.reduceAdd (shapeCast _ (x29 a b z dy) shapeCasts_S128_S1x1x128) (constant S_ .f32 0x00000000#32) reducesTo_S1x1x128_S128_d0_1 h_S_)
def x32 : FVec Ideal S4352x4x128 .f32 := mulf (x27 z dy) (x17 g)
def x35 : FVec Ideal S4352x4 .f32 := Host.reduceAdd (mulf (x1 a b) (x32 z g dy)) (constant S_ .f32 0x00000000#32) reducesTo_S4352x4x128_S4352x4_d2 h_S_
def x41 : FVec Ideal S4352x4x1 .f32 :=
  Host.divf (mulf (shapeCast _ (x35 a b z g dy) shapeCasts_S4352x4_S4352x4x1) (x13 a b)) (broadcastInDim S4352x4x1 ![] bcast_S_S4352x4x1 (constant S_ .f32 0x43000000#32))
def x42 : FVec Ideal S4352x4 .f32 := Host.reduceAdd (x41 a b z g dy) (constant S_ .f32 0x00000000#32) reducesTo_S4352x4x1_S4352x4_d2 h_S_
def x43 : FVec Ideal S4352x4x128 .f32 := broadcastInDim S4352x4x128 ![0, 1] bcast_S4352x4_S4352x4x128_0_1 (x42 a b z g dy)
def x47 : FVec Ideal S4352x4x128 .f32 :=
  addf (addf (mulf (x32 z g dy) (x14 a b)) (mulf (x1 a b) (x43 a b z g dy))) (mulf (x43 a b z g dy) (x1 a b))
def x49 : FVec Ideal S4352x512 .f32 := shapeCast _ (x47 a b z g dy) shapeCasts_S4352x4x128_S4352x512

theorem res_eq (m : (ℓ : Loc nD τ sig) → Buf (Elt Ideal) ℓ) (c : Dev nD) : res_main_v49 m c
    = x49 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

/-! Read at an index. -/
def os (r : Fin 4352) (h : Fin 4) (d : Fin 128) : EReal := a (ix2 r (hc h d)) + b (ix2 r (hc h d))
def us (r : Fin 4352) (h : Fin 4) (d : Fin 128) : EReal := through (dy (ix2 r (hc h d))) (z (ix2 r (hc h d)))

theorem x1_apply (r : Fin 4352) (h : Fin 4) (d : Fin 128) : x1 a b (ix3 r h d) = os a b r h d := by
  pointwise [x1]
  rfl
theorem x9_apply (r : Fin 4352) (h : Fin 4) : x9 a b (ix3 r h 0) = ms width (os a b r h) := by
  pointwise [x9]
  simp only [x1_apply]
  rfl
theorem x10_apply (r : Fin 4352) (h : Fin 4) : x10 a b (ix3 r h 0) = rs width (os a b r h) := by
  pointwise [x10]
  rw [x9_apply, rs]
theorem x13_apply (r : Fin 4352) (h : Fin 4) : x13 a b (ix3 r h 0) = cs width (os a b r h) := by
  pointwise [x13]
  rw [x9_apply, x10_apply]
  rfl
theorem x14_apply (r : Fin 4352) (h : Fin 4) (d : Fin 128) : x14 a b (ix3 r h d) = rs width (os a b r h) := by
  pointwise [x14]
  rw [x10_apply]
theorem x15_apply (r : Fin 4352) (h : Fin 4) (d : Fin 128) : x15 a b (ix3 r h d) = nm width (os a b r h) d := by
  pointwise [x15]
  rw [x1_apply, x14_apply, nm]
theorem x17_apply (r : Fin 4352) (h : Fin 4) (d : Fin 128) : x17 g (ix3 r h d) = g (ix2 0 d) := by
  pointwise [x17]
theorem x19_apply (r : Fin 4352) (h : Fin 4) (d : Fin 128) : x19 a b g (ix2 r (hc h d)) = nm width (os a b r h) d * g (ix2 0 d) := by
  pointwise [x19]
  simp only [hc_head, hc_lane]
  rw [x15_apply, x17_apply]
theorem sg_apply (r : Fin 4352) (j : Fin 512) : sg z (ix2 r j) = Ideal.logistic (z (ix2 r j)) := by
  pointwise [sg]
  rfl
theorem x25_apply (r : Fin 4352) (j : Fin 512) : x25 z dy (ix2 r j) = through (dy (ix2 r j)) (z (ix2 r j)) := by
  pointwise [x25]
  rw [sg_apply]
  rfl
theorem x26_apply (r : Fin 4352) (h : Fin 4) (d : Fin 128) : x26 a b z g dy (ix2 r (hc h d))
    = gateGrad (nm width (os a b r h) d * g (ix2 0 d)) (dy (ix2 r (hc h d))) (z (ix2 r (hc h d))) := by
  pointwise [x26]
  rw [sg_apply, x19_apply]
  rfl
theorem x27_apply (r : Fin 4352) (h : Fin 4) (d : Fin 128) : x27 z dy (ix3 r h d) = us z dy r h d := by
  pointwise [x27]
  exact x25_apply z dy r (hc h d)
theorem x32_apply (r : Fin 4352) (h : Fin 4) (d : Fin 128) : x32 z g dy (ix3 r h d) = us z dy r h d * g (ix2 0 d) := by
  pointwise [x32]
  rw [x27_apply, x17_apply]
theorem x35_apply (r : Fin 4352) (h : Fin 4) : x35 a b z g dy (ix2 r h) = ∑ d, os a b r h d * (us z dy r h d * g (ix2 0 d)) := by
  pointwise [x35]
  simp only [x1_apply, x32_apply]
theorem x41_apply (r : Fin 4352) (h : Fin 4) : x41 a b z g dy (ix3 r h 0) = bb width (os a b r h) (us z dy r h) fun d => g (ix2 0 d) := by
  pointwise [x41]
  rw [x35_apply, x13_apply]
  rfl
theorem x43_apply (r : Fin 4352) (h : Fin 4) (d : Fin 128) : x43 a b z g dy (ix3 r h d) = bb width (os a b r h) (us z dy r h) fun d => g (ix2 0 d) := by
  pointwise [x43, x42]
  rw [Fin.sum_univ_one, x41_apply]
theorem x49_apply (r : Fin 4352) (h : Fin 4) (d : Fin 128) : x49 a b z g dy (ix2 r (hc h d)) = gr width (os a b r h) (us z dy r h) (fun d => g (ix2 0 d)) d := by
  pointwise [x49, x47]
  simp only [hc_head, hc_lane]
  rw [x1_apply, x14_apply, x32_apply, x43_apply, gr]
theorem x29_apply (d : Fin 128) : x29 a b z dy (ix1 d) = ∑ r : Fin 4352, ∑ h : Fin 4, nm width (os a b r h) d * us z dy r h d := by
  pointwise [x29]
  rw [sum_first_two]
  refine Finset.sum_congr rfl fun r _ => Finset.sum_congr rfl fun h _ => ?_
  pointwise
  rw [x15_apply, x27_apply]
theorem x48_apply (d : Fin 128) : x48 a b z dy (ix2 0 d) = ∑ r : Fin 4352, ∑ h : Fin 4, nm width (os a b r h) d * us z dy r h d := by
  pointwise [x48]
  rw [sum_first_two, Fin.sum_univ_one, Fin.sum_univ_one]
  pointwise
  rw [x29_apply]
end
end Cert.HgGateBwdRefIdeal.Hand
end
-- ==== Proof.HgArrays.lean ====
/-
  The arrays the gate's backward kernel leaves, set beside the reference's: each grid point takes one block of rows, and the
  scale's gradient adds up over the grid points.
-/
module

public import proofs.«01_k».proof.Proof.Gen.HgGateBwdIdeal.Value
public import proofs.«01_k».proof.Proof.HgBlocks
public import proofs.«01_k».proof.Proof.HgRef
public import Idealize.ShloMosaic.Lib.Pipeline.ValueKit

@[expose] public section

set_option maxRecDepth 16384

noncomputable section

namespace Cert.HgGateBwdIdeal.Hand

open Cert.HgGateBwdIdeal Cert.HgGateBwdIdeal.Gen Idealize.ShloMosaic Idealize.ShloMosaic.TcCoe Idealize.SL.Sem
open Cert.Proof.Norm
open Cert.HgGateBwdRefIdeal.Hand (x26 x48 x49 x26_apply x48_apply x49_apply)
open scoped BigOperators

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0] := (by decide +kernel : ∀ t : Fin grid0.N, win0_3.index t = ![0, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem idx8 : ∀ t : Fin cfg0.N, win0_8.index t = ![0, 0] := (by decide +kernel : ∀ t : Fin grid0.N, win0_8.index t = ![0, 0])
theorem flush8 : ∀ t : Fin cfg0.N, (cfg0.win 8).flush t = true → t.val % 17 = 16 := by decide +kernel

/-- The array's row that a grid point's row stands for. -/
def rowOf (t : ℕ) (r : Fin 256) : Fin 4352 := if h : t < 17 then ⟨t * 256 + r.val, by omega⟩ else 0
theorem rowOf_val {t : ℕ} (h : t < 17) (r : Fin 256) : (rowOf t r).val = t * 256 + r.val := by rw [rowOf, dif_pos h]

section
variable (m : (ℓ : Loc nD τ sig) → Buf (Elt Ideal) ℓ) (c : Dev nD)

def A0 : FVec Ideal S4352x512 .f32 := m ((c.tc : Thread nD τ).loc main_arg0)
def A1 : FVec Ideal S4352x512 .f32 := m ((c.tc : Thread nD τ).loc main_arg1)
def A2 : FVec Ideal S4352x512 .f32 := m ((c.tc : Thread nD τ).loc main_arg2)
def A3 : FVec Ideal S1x128 .f32 := m ((c.tc : Thread nD τ).loc main_arg3)
def A4 : FVec Ideal S4352x512 .bf16 := m ((c.tc : Thread nD τ).loc main_arg4)

def aB (t : Fin cfg0.N) : FVec Ideal S256x512 .f32 := iblk m c 0 t
def bB (t : Fin cfg0.N) : FVec Ideal S256x512 .f32 := iblk m c 1 t
def zB (t : Fin cfg0.N) : FVec Ideal S256x512 .f32 := iblk m c 2 t
def gB (t : Fin cfg0.N) : FVec Ideal S1x128 .f32 := iblk m c 3 t
def eB (t : Fin cfg0.N) : FVec Ideal S256x512 .bf16 := iblk m c 4 t

theorem aB_apply (t : Fin cfg0.N) (r : Fin 256) (j : Fin 512) : aB m c t (ix2 r j) = A0 m c (ix2 (rowOf t.val r) j) := by
  have ht : t.val < 17 := lt_of_lt_of_eq t.isLt N_0
  rw [A0, aB]
  blk_ext [iblk, V, idx0 t] <;> simp only [rowOf_val ht] <;> omega
theorem bB_apply (t : Fin cfg0.N) (r : Fin 256) (j : Fin 512) : bB m c t (ix2 r j) = A1 m c (ix2 (rowOf t.val r) j) := by
  have ht : t.val < 17 := lt_of_lt_of_eq t.isLt N_0
  rw [A1, bB]
  blk_ext [iblk, V, idx1 t] <;> simp only [rowOf_val ht] <;> omega
theorem zB_apply (t : Fin cfg0.N) (r : Fin 256) (j : Fin 512) : zB m c t (ix2 r j) = A2 m c (ix2 (rowOf t.val r) j) := by
  have ht : t.val < 17 := lt_of_lt_of_eq t.isLt N_0
  rw [A2, zB]
  blk_ext [iblk, V, idx2 t] <;> simp only [rowOf_val ht] <;> omega
theorem gB_apply (t : Fin cfg0.N) (d : Fin 128) : gB m c t (ix2 0 d) = A3 m c (ix2 0 d) := by
  rw [A3, gB]
  blk_ext [iblk, V, idx3 t] <;> omega
theorem eB_apply (t : Fin cfg0.N) (r : Fin 256) (j : Fin 512) : eB m c t (ix2 r j) = A4 m c (ix2 (rowOf t.val r) j) := by
  have ht : t.val < 17 := lt_of_lt_of_eq t.isLt N_0
  rw [A4, eB]
  blk_ext [iblk, V, idx4 t] <;> simp only [rowOf_val ht] <;> omega

theorem os_eq (t : Fin cfg0.N) (h : Fin 4) (r : Fin 256) :
    os (aB m c t) (bB m c t) h r = Cert.HgGateBwdRefIdeal.Hand.os (A0 m c) (A1 m c) (rowOf t.val r) h := by
  funext d
  rw [os, aB_apply, bB_apply]
  rfl

/-- The incoming gradient's block, widened. -/
def wB (t : Fin cfg0.N) : FVec Ideal S256x512 .f32 := extf .f32 (eB m c t) bitsLt_bf16_f32

theorem us_eq (t : Fin cfg0.N) (h : Fin 4) (r : Fin 256) :
    us (zB m c t) (eB m c t) h r = Cert.HgGateBwdRefIdeal.Hand.us (A2 m c) (A4 m c) (rowOf t.val r) h := by
  funext d
  rw [us, zB_apply, eB_apply]
  rfl
theorem row_g (t : Fin cfg0.N) : row (gB m c t) 0 = fun d => A3 m c (ix2 0 d) := funext fun d => gB_apply m c t d

/-- A grid point's results. -/
def doB (t : Fin cfg0.N) : FVec Ideal S256x512 .f32 :=
  kjoin (kgr (h0 (addf (aB m c t) (bB m c t))) (h0 (ku (zB m c t) (eB m c t))) (gB m c t)) (kgr (h1 (addf (aB m c t) (bB m c t))) (h1 (ku (zB m c t) (eB m c t))) (gB m c t))
    (kgr (h2 (addf (aB m c t) (bB m c t))) (h2 (ku (zB m c t) (eB m c t))) (gB m c t)) (kgr (h3 (addf (aB m c t) (bB m c t))) (h3 (ku (zB m c t) (eB m c t))) (gB m c t))
def dzB (t : Fin cfg0.N) : FVec Ideal S256x512 .f32 := kdz (zB m c t) (eB m c t) (knorm (aB m c t) (bB m c t) (gB m c t))
def dgB (t : Fin cfg0.N) : FVec Ideal S1x128 .f32 :=
  addf (addf (addf (kdg (h3 (addf (aB m c t) (bB m c t))) (h3 (ku (zB m c t) (eB m c t)))) (kdg (h2 (addf (aB m c t) (bB m c t))) (h2 (ku (zB m c t) (eB m c t)))))
    (kdg (h1 (addf (aB m c t) (bB m c t))) (h1 (ku (zB m c t) (eB m c t))))) (kdg (h0 (addf (aB m c t) (bB m c t))) (h0 (ku (zB m c t) (eB m c t))))

abbrev prev (t : Fin cfg0.N) : FVec Ideal S1x128 .f32 := (outsAt0 m c (t.val - 1) (Nat.lt_of_le_of_lt (Nat.sub_le _ _) t.isLt)).2.2.2

theorem first (t : Fin cfg0.N) (p : t.val % 17 = 0) : ¬ 1 ≤ t.val := by
  have ht : t.val < 17 := lt_of_lt_of_eq t.isLt N_0
  omega
theorem later (t : Fin cfg0.N) (p : ¬ t.val % 17 = 0) : 1 ≤ t.val := by omega

theorem do_out (t : Fin cfg0.N) (y : S256x512.Idx) : (outsAt0 m c t.val t.isLt).1 y = doB m c t y := by
  by_cases p : t.val % 17 = 0
  · rw [outsAt0_A m c t p (first t p)]
    frame_out
    exact congrFun (pay40_eq (aB m c t) (bB m c t) (zB m c t) (gB m c t) (eB m c t)) y
  · rw [outsAt0_B m c t p (later t p)]
    frame_out
    exact congrFun (pay40_eq (aB m c t) (bB m c t) (zB m c t) (gB m c t) (eB m c t)) y
theorem do_out_again (t : Fin cfg0.N) (y : S256x512.Idx) : (outsAt0 m c t.val t.isLt).2.1 y = doB m c t y := by
  by_cases p : t.val % 17 = 0
  · rw [outsAt0_A m c t p (first t p)]
    frame_out
    exact congrFun (pay40_eq (aB m c t) (bB m c t) (zB m c t) (gB m c t) (eB m c t)) y
  · rw [outsAt0_B m c t p (later t p)]
    frame_out
    exact congrFun (pay40_eq (aB m c t) (bB m c t) (zB m c t) (gB m c t) (eB m c t)) y
theorem dz_out (t : Fin cfg0.N) (y : S256x512.Idx) : (outsAt0 m c t.val t.isLt).2.2.1 y = dzB m c t y := by
  by_cases p : t.val % 17 = 0
  · rw [outsAt0_A m c t p (first t p)]
    frame_out
    exact congrFun (pay29_eq (aB m c t) (bB m c t) (zB m c t) (gB m c t) (eB m c t)) y
  · rw [outsAt0_B m c t p (later t p)]
    frame_out
    exact congrFun (pay29_eq (aB m c t) (bB m c t) (zB m c t) (gB m c t) (eB m c t)) y

/-- What a grid point adds to the scale's gradient. -/
def addG (n : ℕ) (y : S1x128.Idx) : EReal :=
  ∑ r : Fin 256, ∑ h : Fin 4, nm width (Cert.HgGateBwdRefIdeal.Hand.os (A0 m c) (A1 m c) (rowOf n r) h) (y 1) * Cert.HgGateBwdRefIdeal.Hand.us (A2 m c) (A4 m c) (rowOf n r) h (y 1)

theorem dgB_apply (t : Fin cfg0.N) (d : Fin 128) : dgB m c t (ix2 0 d) = addG m c t.val (ix2 0 d) := by
  refine (block_dg (aB m c t) (bB m c t) (zB m c t) (eB m c t) d).trans ?_
  simp only [os_eq, us_eq]
  rfl

theorem column_of (y : S1x128.Idx) : ∃ d : Fin 128, y = ix2 0 d :=
  ⟨y 1, (ix2_eta y).symm.trans (congrArg₂ ix2 (Subsingleton.elim _ _) rfl)⟩

theorem dg_reset (t : Fin cfg0.N) (p : t.val % 17 = 0) (y : S1x128.Idx) :
    (outsAt0 m c t.val t.isLt).2.2.2 y = (fun _ => 0) y + addG m c t.val y := by
  obtain ⟨d, rfl⟩ := column_of y
  rw [outsAt0_A m c t p (first t p), zero_add, ← dgB_apply]
  frame_out
  exact congrFun (pay39_eq (aB m c t) (bB m c t) (zB m c t) (eB m c t)) _

theorem pay1_apply (v w : FVec Ideal S1x128 .f32) (d : Fin 128) : k0_pay1 (F := Ideal) v w (ix2 0 d) = w (ix2 0 d) + v (ix2 0 d) := by
  pointwise [k0_pay1]

theorem dg_step (t : Fin cfg0.N) (p : ¬ t.val % 17 = 0) (y : S1x128.Idx) :
    (outsAt0 m c t.val t.isLt).2.2.2 y = (outsAt0 m c (t.val - 1) (Nat.lt_of_le_of_lt (Nat.sub_le _ _) t.isLt)).2.2.2 y + addG m c t.val y := by
  obtain ⟨d, rfl⟩ := column_of y
  rw [outsAt0_B m c t p (later t p), ← dgB_apply]
  frame_out
  refine (congrFun (congrArg₂ k0_pay1 (pay39_eq (aB m c t) (bB m c t) (zB m c t) (eB m c t)) rfl) _).trans ?_
  exact pay1_apply (dgB m c t) (prev m c t) d

/-! Where a block of each result lands. -/
theorem place5 (t : Fin cfg0.N) (r : Fin 256) (j : Fin 512) (R : FVec Ideal S4352x512 .f32) :
    R ((win0_5.blk t).view.emb (ix2 r j : S256x512.Idx)) = R (ix2 (rowOf t.val r) j) := by
  have ht : t.val < 17 := lt_of_lt_of_eq t.isLt N_0
  blk_ext [idx5 t] <;> simp only [rowOf_val ht] <;> omega
theorem place6 (t : Fin cfg0.N) (r : Fin 256) (j : Fin 512) (R : FVec Ideal S4352x512 .f32) :
    R ((win0_6.blk t).view.emb (ix2 r j : S256x512.Idx)) = R (ix2 (rowOf t.val r) j) := by
  have ht : t.val < 17 := lt_of_lt_of_eq t.isLt N_0
  blk_ext [idx6 t] <;> simp only [rowOf_val ht] <;> omega
theorem place7 (t : Fin cfg0.N) (r : Fin 256) (j : Fin 512) (R : FVec Ideal S4352x512 .f32) :
    R ((win0_7.blk t).view.emb (ix2 r j : S256x512.Idx)) = R (ix2 (rowOf t.val r) j) := by
  have ht : t.val < 17 := lt_of_lt_of_eq t.isLt N_0
  blk_ext [idx7 t] <;> simp only [rowOf_val ht] <;> omega
theorem place8 (t : Fin cfg0.N) (d : Fin 128) (R : FVec Ideal S1x128 .f32) : R ((win0_8.blk t).view.emb (ix2 0 d : S1x128.Idx)) = R (ix2 0 d) := by
  blk_ext [idx8 t] <;> omega

theorem doB_apply (t : Fin cfg0.N) (r : Fin 256) (j : Fin 512) : doB m c t (ix2 r j) = x49 (A0 m c) (A1 m c) (A2 m c) (A3 m c) (A4 m c) (ix2 (rowOf t.val r) j) := by
  obtain ⟨h, d, rfl⟩ := column j
  refine (block_do (aB m c t) (bB m c t) (zB m c t) (gB m c t) (eB m c t) h r d).trans ?_
  rw [os_eq, us_eq, row_g, x49_apply]
theorem dzB_apply (t : Fin cfg0.N) (r : Fin 256) (j : Fin 512) : dzB m c t (ix2 r j) = x26 (A0 m c) (A1 m c) (A2 m c) (A3 m c) (A4 m c) (ix2 (rowOf t.val r) j) := by
  obtain ⟨h, d, rfl⟩ := column j
  refine (block_dz (aB m c t) (bB m c t) (zB m c t) (gB m c t) (eB m c t) h r d).trans ?_
  rw [os_eq, gB_apply, zB_apply, eB_apply, x26_apply]

theorem array_do : (dats m 0 c).arrAt 5 cfg0.N = x49 (A0 m c) (A1 m c) (A2 m c) (A3 m c) (A4 m c) := by
  refine (dats m 0 c).arrAt_eq_of_covers 5 _ (by decide +kernel) fun t hf y => ?_
  blk_simp
  obtain ⟨r, j, rfl⟩ : ∃ (r : Fin 256) (j : Fin 512), y = (ix2 r j : S256x512.Idx) := ⟨_, _, (ix2_eta y).symm⟩
  refine Eq.trans ?_ (place5 t r j _).symm
  rw [after0_5]
  exact (do_out m c t _).trans (doB_apply m c t r j)
theorem array_do_again : (dats m 0 c).arrAt 6 cfg0.N = x49 (A0 m c) (A1 m c) (A2 m c) (A3 m c) (A4 m c) := by
  refine (dats m 0 c).arrAt_eq_of_covers 6 _ (by decide +kernel) fun t hf y => ?_
  blk_simp
  obtain ⟨r, j, rfl⟩ : ∃ (r : Fin 256) (j : Fin 512), y = (ix2 r j : S256x512.Idx) := ⟨_, _, (ix2_eta y).symm⟩
  refine Eq.trans ?_ (place6 t r j _).symm
  rw [after0_6]
  exact (do_out_again m c t _).trans (doB_apply m c t r j)
theorem array_dz : (dats m 0 c).arrAt 7 cfg0.N = x26 (A0 m c) (A1 m c) (A2 m c) (A3 m c) (A4 m c) := by
  refine (dats m 0 c).arrAt_eq_of_covers 7 _ (by decide +kernel) fun t hf y => ?_
  blk_simp
  obtain ⟨r, j, rfl⟩ : ∃ (r : Fin 256) (j : Fin 512), y = (ix2 r j : S256x512.Idx) := ⟨_, _, (ix2_eta y).symm⟩
  refine Eq.trans ?_ (place7 t r j _).symm
  rw [after0_7]
  exact (dz_out m c t _).trans (dzB_apply m c t r j)

theorem sum_rows (f : Fin 4352 → EReal) : ∑ n ∈ Finset.range 17, ∑ r : Fin 256, f (rowOf n r) = ∑ r : Fin 4352, f r := by
  rw [Finset.sum_range, Fin.sum_univ_tiles 17 256 rfl]
  refine Finset.sum_congr rfl fun n _ => Finset.sum_congr rfl fun r _ => congrArg f (Fin.ext ?_)
  rw [rowOf_val n.isLt]

theorem array_dg : (dats m 0 c).arrAt 8 cfg0.N = x48 (A0 m c) (A1 m c) (A2 m c) (A4 m c) := by
  refine (dats m 0 c).arrAt_eq_of_covers 8 _ (by decide +kernel) fun t hf y => ?_
  blk_simp
  have ht : t.val < 17 := lt_of_lt_of_eq t.isLt N_0
  have hr : t.val % 17 = 16 := flush8 t hf
  obtain ⟨d, rfl⟩ : ∃ d : Fin 128, y = (ix2 0 d : S1x128.Idx) := column_of y
  refine Eq.trans ?_ (place8 t d _).symm
  rw [after0_8]
  refine (Pipeline.eq_sum_of_reset_step_apply_of_mod (fun n h => (outsAt0 m c n h).2.2.2) 17 (fun _ => (0 : EReal)) (addG m c)
    (dg_reset m c) (dg_step m c) t hr (ix2 0 d)).trans ?_
  rw [zero_add, x48_apply, ← sum_rows]
  refine Finset.sum_congr rfl fun n _ => ?_
  rw [show 17 * (t.val / 17) + n = n by omega, addG]
  rfl

/-! The reference's results on the same arguments. -/
section
variable {m c} {a b z : FVec Ideal S4352x512 .f32} {g : FVec Ideal S1x128 .f32} {e : FVec Ideal S4352x512 .bf16}
variable (ha : a = A0 m c) (hb : b = A1 m c) (hz : z = A2 m c) (hg : g = A3 m c) (he : e = A4 m c)
include ha hb hz hg he

theorem same_do : x49 a b z g e = (dats m 0 c).arrAt 5 cfg0.N := by rw [ha, hb, hz, hg, he, array_do]
theorem same_do_again : x49 a b z g e = (dats m 0 c).arrAt 6 cfg0.N := by rw [ha, hb, hz, hg, he, array_do_again]
theorem same_dz : x26 a b z g e = (dats m 0 c).arrAt 7 cfg0.N := by rw [ha, hb, hz, hg, he, array_dz]
omit hg in
theorem same_dg : x48 a b z e = (dats m 0 c).arrAt 8 cfg0.N := by rw [ha, hb, hz, he, array_dg]
end
end
end Cert.HgGateBwdIdeal.Hand
end
-- ==== Proof.FinalSpec.lean ====
/-
  The last residual, its norm and the mean square error of one row, and the gradient of that error, over the extended reals.
-/
module

public import proofs.«01_k».proof.Proof.HgSpec

@[expose] public section

noncomputable section

namespace Cert.Proof.Final

open Idealize.ShloMosaic Cert.Proof.Norm
open scoped BigOperators

/-- The length of a row. -/
def wide : EReal := Ideal.ofBits FTy.f32 1157627904#32

section
variable (x y t s g : Fin 2048 → EReal) (l : EReal)

/-- The residual's row. -/
def res (d : Fin 2048) : EReal := x d + s d * y d
/-- How far the normalised row is from its target. -/
def err (d : Fin 2048) : EReal := nm wide (res x y s) d * g d - t d
/-- The row's loss. -/
def loss : EReal := Ideal.div (∑ d, err x y t s g d * err x y t s g d) wide
/-- What reaches the norm's result from the gradient `l` of the row's loss. -/
def back (d : Fin 2048) : EReal := err x y t s g d * Ideal.div l wide + Ideal.div l wide * err x y t s g d
/-- The gradient of the residual. -/
def grad (d : Fin 2048) : EReal := gr wide (res x y s) (back x y t s g l) g d
end

theorem two_times (x : EReal) : ((2 : ℝ) : EReal) * x = x + x := by
  induction x with
  | bot => rw [EReal.coe_mul_bot_of_pos (by norm_num)]; rfl
  | top => rw [EReal.coe_mul_top_of_pos (by norm_num)]; rfl
  | coe x => rw [← EReal.coe_mul, ← EReal.coe_add, two_mul]

theorem two_f32 : Ideal.ofBits FTy.f32 1073741824#32 = ((2 : ℝ) : EReal) := by
  simp [Ideal.ofBits, Ideal.ieee, ← EReal.coe_mul]
  try norm_num

/-- The product rule's two terms are twice one of them. -/
theorem twice (c e : EReal) : c * (Ideal.ofBits FTy.f32 1073741824#32 * e) = e * c + c * e := by
  rw [two_f32, mul_left_comm, two_times, mul_comm e c]

end Cert.Proof.Final
end
-- ==== Proof.FinalBlocks.lean ====
/-
  The last residual, norm and loss, and their gradients, on one block of rows, stage by stage, read in coordinates.
-/
module

public import proofs.«01_k».proof.Proof.Gen.FinalBwdIdeal.Value
public import proofs.«01_k».proof.Proof.FinalSpec

@[expose] public section

set_option maxRecDepth 16384

noncomputable section

namespace Cert.FinalBwdIdeal.Hand

open Cert.FinalBwdIdeal Cert.FinalBwdIdeal.Gen Idealize.ShloMosaic Idealize.ShloMosaic.TcCoe Idealize.SL.Sem
open Cert.Proof.Norm Cert.Proof.Final
open scoped BigOperators

variable (x y t : FVec Ideal S256x2048 .f32) (s : FVec Ideal S1x1x2048 .f32) (g : FVec Ideal S1x2048 .f32) (l : FVec Ideal S256x1 .f32)

/-- A row's sum, and its quotient by the row's length. -/
def ksum (v : FVec Ideal S256x2048 .f32) : FVec Ideal S256x1 .f32 :=
  shapeCast S256x1 (multiReduction .add [1] S256 v 0x00000000#32 reduces_S256x2048_S256 (.inl rfl) rfl) shapeCasts_S256_S256x1
def kmean (v : FVec Ideal S256x1 .f32) : FVec Ideal S256x1 .f32 := divf v (broadcast S256x1 (Scalar.ofBits (F := Ideal) .f32 0x45000000#32))
/-- A sum over the rows. -/
def kcol (v : FVec Ideal S256x2048 .f32) : FVec Ideal S1x2048 .f32 :=
  shapeCast S1x2048 (multiReduction .add [0] S2048 v 0x00000000#32 reduces_S256x2048_S2048 (.inl rfl) rfl) shapeCasts_S2048_S1x2048
def kover (v : FVec Ideal S256x1 .f32) : FVec Ideal S256x2048 .f32 := broadcastTo S256x2048 v broadcasts_S256x1_S256x2048
def kdown (v : FVec Ideal S1x2048 .f32) : FVec Ideal S256x2048 .f32 := broadcastTo S256x2048 v broadcasts_S1x2048_S256x2048
/-- A sum over a single column. -/
def kone (v : FVec Ideal S256x1 .f32) : FVec Ideal S256x1 .f32 :=
  shapeCast S256x1 (multiReduction .add [1] S256 v 0x00000000#32 reduces_S256x1_S256 (.inl rfl) rfl) shapeCasts_S256_S256x1

theorem ksum_apply (v : FVec Ideal S256x2048 .f32) (r : Fin 256) : ksum v (ix2 r 0) = ∑ d : Fin 2048, v (ix2 r d) := by pointwise [ksum]
theorem kmean_apply (v : FVec Ideal S256x1 .f32) (r : Fin 256) : kmean v (ix2 r 0) = Ideal.div (v (ix2 r 0)) wide := by
  pointwise [kmean]
  rfl
theorem kcol_apply (v : FVec Ideal S256x2048 .f32) (d : Fin 2048) : kcol v (ix2 0 d) = ∑ r : Fin 256, v (ix2 r d) := by pointwise [kcol]
theorem kover_apply (v : FVec Ideal S256x1 .f32) (r : Fin 256) (d : Fin 2048) : kover v (ix2 r d) = v (ix2 r 0) := by pointwise [kover]
theorem kdown_apply (v : FVec Ideal S1x2048 .f32) (r : Fin 256) (d : Fin 2048) : kdown v (ix2 r d) = v (ix2 0 d) := by pointwise [kdown]
theorem kone_apply (v : FVec Ideal S256x1 .f32) (r : Fin 256) : kone v (ix2 r 0) = v (ix2 r 0) := by
  pointwise [kone]
  rw [Fin.sum_univ_one]

/-! The stages. -/
def ks : FVec Ideal S1x2048 .f32 := shapeCast S1x2048 s shapeCasts_S1x1x2048_S1x2048
def ko : FVec Ideal S256x2048 .f32 := addf x (mulf (kdown (ks s)) y)
def kms : FVec Ideal S256x1 .f32 := addf (kmean (ksum (mulf (ko x y s) (ko x y s)))) (broadcast S256x1 (Scalar.ofBits (F := Ideal) .f32 0x358637BD#32))
def krs : FVec Ideal S256x1 .f32 := rsqrt (kms x y s)
def kcs : FVec Ideal S256x1 .f32 := mulf (broadcast S256x1 (Scalar.ofBits (F := Ideal) .f32 0xBF000000#32)) (divf (krs x y s) (kms x y s))
def kn : FVec Ideal S256x2048 .f32 := mulf (ko x y s) (kover (krs x y s))
def ke : FVec Ideal S256x2048 .f32 := subf (mulf (kn x y s) (kdown g)) t
def kloss : FVec Ideal S256x1 .f32 := kmean (ksum (mulf (ke x y t s g) (ke x y t s g)))
def ku : FVec Ideal S256x2048 .f32 := addf (mulf (ke x y t s g) (kover (kone (kmean l)))) (mulf (kover (kone (kmean l))) (ke x y t s g))
def kw : FVec Ideal S256x2048 .f32 := mulf (ku x y t s g l) (kdown g)
def kb : FVec Ideal S256x2048 .f32 := kover (kone (kmean (mulf (ksum (mulf (ko x y s) (kw x y t s g l))) (kcs x y s))))
def kdx : FVec Ideal S256x2048 .f32 :=
  addf (addf (mulf (kw x y t s g l) (kover (krs x y s))) (mulf (ko x y s) (kb x y t s g l))) (mulf (kb x y t s g l) (ko x y s))
def kdy : FVec Ideal S256x2048 .f32 := mulf (kdown (ks s)) (kdx x y t s g l)
def kds : FVec Ideal S1x2048 .f32 := kcol (mulf (kdx x y t s g l) y)
def kdg : FVec Ideal S1x2048 .f32 := kcol (mulf (kn x y s) (ku x y t s g l))
/-- The scales' gradient in the layout it is stored in. -/
def kds3 : FVec Ideal S1x1x2048 .f32 := shapeCast S1x1x2048 (kds x y t s g l) shapeCasts_S1x2048_S1x1x2048

theorem pay10_eq : k0_pay10 (F := Ideal) (k0_pay2 x y s) (k0_pay4 x y s) (k0_pay5 x y s) (k0_pay9 x y t s g l) = kdx x y t s g l := rfl
theorem pay11_eq : k0_pay11 (F := Ideal) (k0_pay1 s) (k0_pay2 x y s) (k0_pay4 x y s) (k0_pay5 x y s) (k0_pay9 x y t s g l) = kdy x y t s g l := rfl
theorem pay12_eq : k0_pay12 (F := Ideal) y (k0_pay2 x y s) (k0_pay4 x y s) (k0_pay5 x y s) (k0_pay9 x y t s g l) = kds x y t s g l := rfl
theorem pay13_eq : k0_pay13 (F := Ideal) y (k0_pay2 x y s) (k0_pay4 x y s) (k0_pay5 x y s) (k0_pay9 x y t s g l) = kds3 x y t s g l := rfl
theorem pay8_eq : k0_pay8 (F := Ideal) x y t s g l = kdg x y t s g l := rfl

/-! A block's row, and the two vectors every row shares. -/
def row (v : FVec Ideal S256x2048 .f32) (r : Fin 256) (d : Fin 2048) : EReal := v (ix2 r d)
def gain (d : Fin 2048) : EReal := g (ix2 0 d)
def scale (d : Fin 2048) : EReal := s (ix3 0 0 d)

theorem ks_apply (d : Fin 2048) : ks s (ix2 0 d) = scale s d := by
  pointwise [ks]
  rfl
theorem ko_apply (r : Fin 256) (d : Fin 2048) : ko x y s (ix2 r d) = res (row x r) (row y r) (scale s) d := by
  pointwise [ko]
  rw [kdown_apply, ks_apply]
  rfl
theorem kms_apply (r : Fin 256) : kms x y s (ix2 r 0) = ms wide (res (row x r) (row y r) (scale s)) := by
  pointwise [kms]
  rw [kmean_apply, ksum_apply]
  pointwise
  simp only [ko_apply]
  rfl
theorem krs_apply (r : Fin 256) : krs x y s (ix2 r 0) = rs wide (res (row x r) (row y r) (scale s)) := by
  pointwise [krs]
  rw [kms_apply, rs]
theorem kcs_apply (r : Fin 256) : kcs x y s (ix2 r 0) = cs wide (res (row x r) (row y r) (scale s)) := by
  pointwise [kcs]
  rw [kms_apply, krs_apply]
  rfl
theorem kn_apply (r : Fin 256) (d : Fin 2048) : kn x y s (ix2 r d) = nm wide (res (row x r) (row y r) (scale s)) d := by
  pointwise [kn]
  rw [ko_apply, kover_apply, krs_apply, nm]
theorem ke_apply (r : Fin 256) (d : Fin 2048) : ke x y t s g (ix2 r d) = err (row x r) (row y r) (row t r) (scale s) (gain g) d := by
  pointwise [ke]
  rw [kn_apply, kdown_apply]
  rfl
theorem kloss_apply (r : Fin 256) : kloss x y t s g (ix2 r 0) = loss (row x r) (row y r) (row t r) (scale s) (gain g) := by
  rw [kloss, kmean_apply, ksum_apply]
  pointwise
  simp only [ke_apply]
  rfl
theorem ku_apply (r : Fin 256) (d : Fin 2048) :
    ku x y t s g l (ix2 r d) = back (row x r) (row y r) (row t r) (scale s) (gain g) (l (ix2 r 0)) d := by
  pointwise [ku]
  rw [ke_apply, kover_apply, kone_apply, kmean_apply, back]
theorem kw_apply (r : Fin 256) (d : Fin 2048) :
    kw x y t s g l (ix2 r d) = back (row x r) (row y r) (row t r) (scale s) (gain g) (l (ix2 r 0)) d * gain g d := by
  pointwise [kw]
  rw [ku_apply, kdown_apply]
  rfl
theorem kb_apply (r : Fin 256) (d : Fin 2048) : kb x y t s g l (ix2 r d)
    = bb wide (res (row x r) (row y r) (scale s)) (back (row x r) (row y r) (row t r) (scale s) (gain g) (l (ix2 r 0))) (gain g) := by
  rw [kb, kover_apply, kone_apply, kmean_apply]
  pointwise
  rw [ksum_apply, kcs_apply]
  pointwise
  simp only [ko_apply, kw_apply]
  rfl
theorem kdx_apply (r : Fin 256) (d : Fin 2048) :
    kdx x y t s g l (ix2 r d) = grad (row x r) (row y r) (row t r) (scale s) (gain g) (l (ix2 r 0)) d := by
  pointwise [kdx]
  rw [kw_apply, kover_apply, krs_apply, ko_apply, kb_apply]
  rfl
theorem kdy_apply (r : Fin 256) (d : Fin 2048) :
    kdy x y t s g l (ix2 r d) = scale s d * grad (row x r) (row y r) (row t r) (scale s) (gain g) (l (ix2 r 0)) d := by
  pointwise [kdy]
  rw [kdown_apply, ks_apply, kdx_apply]
theorem kds_apply (d : Fin 2048) : kds x y t s g l (ix2 0 d)
    = ∑ r : Fin 256, grad (row x r) (row y r) (row t r) (scale s) (gain g) (l (ix2 r 0)) d * row y r d := by
  rw [kds, kcol_apply]
  pointwise
  simp only [kdx_apply]
  rfl
theorem kds3_apply (d : Fin 2048) : kds3 x y t s g l (ix3 0 0 d)
    = ∑ r : Fin 256, grad (row x r) (row y r) (row t r) (scale s) (gain g) (l (ix2 r 0)) d * row y r d := by
  pointwise [kds3]
  rw [kds_apply]
theorem kdg_apply (d : Fin 2048) : kdg x y t s g l (ix2 0 d)
    = ∑ r : Fin 256, nm wide (res (row x r) (row y r) (scale s)) d * back (row x r) (row y r) (row t r) (scale s) (gain g) (l (ix2 r 0)) d := by
  rw [kdg, kcol_apply]
  pointwise
  simp only [kn_apply, ku_apply]

end Cert.FinalBwdIdeal.Hand
end
-- ==== Proof.FinalRef.lean ====
/-
  The reference's last residual, norm and loss, and their gradients, read at an index.
-/
module

public import proofs.«01_k».proof.Proof.Gen.FinalBwdRefIdeal.Run
public import proofs.«01_k».proof.Proof.FinalSpec

@[expose] public section

set_option maxRecDepth 16384

noncomputable section

namespace Cert.FinalBwdRefIdeal.Hand

open Cert.FinalBwdRefIdeal Cert.FinalBwdRefIdeal.Gen Cert.FinalBwdRefIdeal.Value Idealize.ShloMosaic Idealize.ShloMosaic.TcCoe Idealize.SL.Sem Idealize.ShloMosaic.StableHlo
open Cert.Proof.Norm Cert.Proof.Final
open scoped BigOperators

variable (x y t : FVec Ideal S4096x2048 .f32) (s : FVec Ideal S1x1x2048 .f32) (g : FVec Ideal S1x2048 .f32) (l : FVec Ideal S4096x1 .f32)

/-! The stages. -/
def xsum (v : FVec Ideal S4096x2048 .f32) : FVec Ideal S4096 .f32 := Host.reduceAdd v (constant S_ .f32 0x00000000#32) reducesTo_S4096x2048_S4096_d1 h_S_
def xone (v : FVec Ideal S4096x1 .f32) : FVec Ideal S4096x2048 .f32 :=
  broadcastInDim S4096x2048 ![0] bcast_S4096_S4096x2048_0 (Host.reduceAdd v (constant S_ .f32 0x00000000#32) reducesTo_S4096x1_S4096_d1 h_S_)
def xmean (v : FVec Ideal S4096x1 .f32) : FVec Ideal S4096x1 .f32 := Host.divf v (broadcastInDim S4096x1 ![] bcast_S_S4096x1 (constant S_ .f32 0x45000000#32))
def xover (v : FVec Ideal S4096x1 .f32) : FVec Ideal S4096x2048 .f32 := broadcastInDim S4096x2048 ![0, 1] bcast_S4096x1_S4096x2048_0_1 v
def xdown (v : FVec Ideal S2048 .f32) : FVec Ideal S4096x2048 .f32 :=
  broadcastInDim S4096x2048 ![0, 1] bcast_S1x2048_S4096x2048_0_1 (broadcastInDim S1x2048 ![1] bcast_S2048_S1x2048_1 v)
def xcol (v : FVec Ideal S4096x2048 .f32) : FVec Ideal S2048 .f32 :=
  Host.reduceAdd (shapeCast S1x2048 (Host.reduceAdd v (constant S_ .f32 0x00000000#32) reducesTo_S4096x2048_S2048_d0 h_S_) shapeCasts_S2048_S1x2048)
    (constant S_ .f32 0x00000000#32) reducesTo_S1x2048_S2048_d0 h_S_
def xs : FVec Ideal S4096x2048 .f32 := xdown (shapeCast _ s shapeCasts_S1x1x2048_S2048)
def xg : FVec Ideal S4096x2048 .f32 := xdown (shapeCast _ g shapeCasts_S1x2048_S2048)
def xo : FVec Ideal S4096x2048 .f32 := addf x (mulf (xs s) y)
def xms : FVec Ideal S4096x1 .f32 :=
  addf (xmean (broadcastInDim S4096x1 ![0] bcast_S4096_S4096x1_0 (xsum (mulf (xo x y s) (xo x y s))))) (broadcastInDim S4096x1 ![] bcast_S_S4096x1 (constant S_ .f32 0x358637BD#32))
def xrs : FVec Ideal S4096x1 .f32 := Host.rsqrt (xms x y s)
def xcs : FVec Ideal S4096x1 .f32 := mulf (broadcastInDim S4096x1 ![] bcast_S_S4096x1 (constant S_ .f32 0xBF000000#32)) (Host.divf (xrs x y s) (xms x y s))
def xn : FVec Ideal S4096x2048 .f32 := mulf (xo x y s) (xover (xrs x y s))
def xe : FVec Ideal S4096x2048 .f32 := subf (mulf (xn x y s) (xg g)) t
def xloss : FVec Ideal S4096x1 .f32 := xmean (broadcastInDim S4096x1 ![0] bcast_S4096_S4096x1_0 (xsum (mulf (xe x y t s g) (xe x y t s g))))
def xu : FVec Ideal S4096x2048 .f32 :=
  mulf (xone (xmean l)) (mulf (broadcastInDim S4096x2048 ![] bcast_S_S4096x2048 (constant S_ .f32 0x40000000#32)) (xe x y t s g))
def xw : FVec Ideal S4096x2048 .f32 := mulf (xu x y t s g l) (xg g)
def xb : FVec Ideal S4096x2048 .f32 :=
  xone (xmean (mulf (shapeCast _ (xsum (mulf (xo x y s) (xw x y t s g l))) shapeCasts_S4096_S4096x1) (xcs x y s)))
def xdx : FVec Ideal S4096x2048 .f32 :=
  addf (addf (mulf (xw x y t s g l) (xover (xrs x y s))) (mulf (xo x y s) (xb x y t s g l))) (mulf (xb x y t s g l) (xo x y s))
def xdy : FVec Ideal S4096x2048 .f32 := mulf (xs s) (xdx x y t s g l)
def xds : FVec Ideal S1x1x2048 .f32 := broadcastInDim S1x1x2048 ![2] bcast_S2048_S1x1x2048_2 (xcol (mulf (xdx x y t s g l) y))
def xdg : FVec Ideal S1x2048 .f32 := broadcastInDim S1x2048 ![1] bcast_S2048_S1x2048_1 (xcol (mulf (xn x y s) (xu x y t s g l)))

/-- The reference's run, its results stated by the stages. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v54) = xdx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v57) = xdy (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v62) = xds (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v55) = xdg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1, (h c).2.1, (h c).2.2.1, (h c).2.2.2⟩) (run m ρ)

/-! Read at an index. -/
theorem xsum_apply (v : FVec Ideal S4096x2048 .f32) (r : Fin 4096) : xsum v (ix1 r) = ∑ d : Fin 2048, v (ix2 r d) := by pointwise [xsum]
theorem xone_apply (v : FVec Ideal S4096x1 .f32) (r : Fin 4096) (d : Fin 2048) : xone v (ix2 r d) = v (ix2 r 0) := by
  pointwise [xone]
  rw [Fin.sum_univ_one]
theorem xmean_apply (v : FVec Ideal S4096x1 .f32) (r : Fin 4096) : xmean v (ix2 r 0) = Ideal.div (v (ix2 r 0)) wide := by
  pointwise [xmean]
  rfl
theorem xover_apply (v : FVec Ideal S4096x1 .f32) (r : Fin 4096) (d : Fin 2048) : xover v (ix2 r d) = v (ix2 r 0) := by pointwise [xover]
theorem xdown_apply (v : FVec Ideal S2048 .f32) (r : Fin 4096) (d : Fin 2048) : xdown v (ix2 r d) = v (ix1 d) := by pointwise [xdown]
theorem xcol_apply (v : FVec Ideal S4096x2048 .f32) (d : Fin 2048) : xcol v (ix1 d) = ∑ r : Fin 4096, v (ix2 r d) := by
  pointwise [xcol]
  rw [Fin.sum_univ_one]

def row (v : FVec Ideal S4096x2048 .f32) (r : Fin 4096) (d : Fin 2048) : EReal := v (ix2 r d)
def gain (d : Fin 2048) : EReal := g (ix2 0 d)
def scale (d : Fin 2048) : EReal := s (ix3 0 0 d)

theorem xs_apply (r : Fin 4096) (d : Fin 2048) : xs s (ix2 r d) = scale s d := by
  rw [xs, xdown_apply]
  pointwise
  rfl
theorem xg_apply (r : Fin 4096) (d : Fin 2048) : xg g (ix2 r d) = gain g d := by
  rw [xg, xdown_apply]
  pointwise
  rfl
theorem xo_apply (r : Fin 4096) (d : Fin 2048) : xo x y s (ix2 r d) = res (row x r) (row y r) (scale s) d := by
  pointwise [xo]
  rw [xs_apply]
  rfl
theorem xms_apply (r : Fin 4096) : xms x y s (ix2 r 0) = ms wide (res (row x r) (row y r) (scale s)) := by
  pointwise [xms]
  rw [xmean_apply]
  pointwise
  rw [xsum_apply]
  pointwise
  simp only [xo_apply]
  rfl
theorem xrs_apply (r : Fin 4096) : xrs x y s (ix2 r 0) = rs wide (res (row x r) (row y r) (scale s)) := by
  pointwise [xrs]
  rw [xms_apply, rs]
theorem xcs_apply (r : Fin 4096) : xcs x y s (ix2 r 0) = cs wide (res (row x r) (row y r) (scale s)) := by
  pointwise [xcs]
  rw [xms_apply, xrs_apply]
  rfl
theorem xn_apply (r : Fin 4096) (d : Fin 2048) : xn x y s (ix2 r d) = nm wide (res (row x r) (row y r) (scale s)) d := by
  pointwise [xn]
  rw [xo_apply, xover_apply, xrs_apply, nm]
theorem xe_apply (r : Fin 4096) (d : Fin 2048) : xe x y t s g (ix2 r d) = err (row x r) (row y r) (row t r) (scale s) (gain g) d := by
  pointwise [xe]
  rw [xn_apply, xg_apply]
  rfl
theorem xloss_apply (r : Fin 4096) : xloss x y t s g (ix2 r 0) = loss (row x r) (row y r) (row t r) (scale s) (gain g) := by
  rw [xloss, xmean_apply]
  pointwise
  rw [xsum_apply]
  pointwise
  simp only [xe_apply]
  rfl
theorem xu_apply (r : Fin 4096) (d : Fin 2048) :
    xu x y t s g l (ix2 r d) = back (row x r) (row y r) (row t r) (scale s) (gain g) (l (ix2 r 0)) d := by
  pointwise [xu]
  rw [xe_apply, xone_apply, xmean_apply]
  exact twice _ _
theorem xw_apply (r : Fin 4096) (d : Fin 2048) :
    xw x y t s g l (ix2 r d) = back (row x r) (row y r) (row t r) (scale s) (gain g) (l (ix2 r 0)) d * gain g d := by
  pointwise [xw]
  rw [xu_apply, xg_apply]
theorem xb_apply (r : Fin 4096) (d : Fin 2048) : xb x y t s g l (ix2 r d)
    = bb wide (res (row x r) (row y r) (scale s)) (back (row x r) (row y r) (row t r) (scale s) (gain g) (l (ix2 r 0))) (gain g) := by
  rw [xb, xone_apply, xmean_apply]
  pointwise
  rw [xsum_apply, xcs_apply]
  pointwise
  simp only [xo_apply, xw_apply]
  rfl
theorem xdx_apply (r : Fin 4096) (d : Fin 2048) :
    xdx x y t s g l (ix2 r d) = grad (row x r) (row y r) (row t r) (scale s) (gain g) (l (ix2 r 0)) d := by
  pointwise [xdx]
  rw [xw_apply, xover_apply, xrs_apply, xo_apply, xb_apply]
  rfl
theorem xdy_apply (r : Fin 4096) (d : Fin 2048) :
    xdy x y t s g l (ix2 r d) = scale s d * grad (row x r) (row y r) (row t r) (scale s) (gain g) (l (ix2 r 0)) d := by
  pointwise [xdy]
  rw [xs_apply, xdx_apply]
theorem xds_apply (d : Fin 2048) : xds x y t s g l (ix3 0 0 d)
    = ∑ r : Fin 4096, grad (row x r) (row y r) (row t r) (scale s) (gain g) (l (ix2 r 0)) d * row y r d := by
  pointwise [xds]
  rw [xcol_apply]
  pointwise
  simp only [xdx_apply]
  rfl
theorem xdg_apply (d : Fin 2048) : xdg x y t s g l (ix2 0 d)
    = ∑ r : Fin 4096, nm wide (res (row x r) (row y r) (scale s)) d * back (row x r) (row y r) (row t r) (scale s) (gain g) (l (ix2 r 0)) d := by
  pointwise [xdg]
  rw [xcol_apply]
  pointwise
  simp only [xn_apply, xu_apply]

end Cert.FinalBwdRefIdeal.Hand
end
-- ==== Proof.FinalArrays.lean ====
/-
  The arrays the last norm's backward kernel leaves, set beside the reference's: each grid point takes one block of rows, and
  the gradients of the scales and of the gain add up over the grid points.
-/
module

public import proofs.«01_k».proof.Proof.Gen.FinalBwdIdeal.Value
public import proofs.«01_k».proof.Proof.FinalBlocks
public import proofs.«01_k».proof.Proof.FinalRef
public import Idealize.ShloMosaic.Lib.Pipeline.ValueKit

@[expose] public section

set_option maxRecDepth 16384

noncomputable section

namespace Cert.FinalBwdIdeal.Hand

open Cert.FinalBwdIdeal Cert.FinalBwdIdeal.Gen Idealize.ShloMosaic Idealize.ShloMosaic.TcCoe Idealize.SL.Sem
open Cert.Proof.Norm Cert.Proof.Final
open Cert.FinalBwdRefIdeal.Hand (xdx xdy xds xdg xdx_apply xdy_apply xds_apply xdg_apply)
open scoped BigOperators

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0, 0] := (by decide +kernel : ∀ t : Fin grid0.N, win0_3.index t = ![0, 0, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem idx8 : ∀ t : Fin cfg0.N, win0_8.index t = ![0, 0, 0] := (by decide +kernel : ∀ t : Fin grid0.N, win0_8.index t = ![0, 0, 0])
theorem idx9 : ∀ t : Fin cfg0.N, win0_9.index t = ![0, 0] := (by decide +kernel : ∀ t : Fin grid0.N, win0_9.index t = ![0, 0])
theorem flush8 : ∀ t : Fin cfg0.N, (cfg0.win 8).flush t = true → t.val % 16 = 15 := by decide +kernel
theorem flush9 : ∀ t : Fin cfg0.N, (cfg0.win 9).flush t = true → t.val % 16 = 15 := by decide +kernel

/-- The array's row that a grid point's row stands for. -/
def rowOf (t : ℕ) (r : Fin 256) : Fin 4096 := if h : t < 16 then ⟨t * 256 + r.val, by omega⟩ else 0
theorem rowOf_val {t : ℕ} (h : t < 16) (r : Fin 256) : (rowOf t r).val = t * 256 + r.val := by rw [rowOf, dif_pos h]
theorem sum_rows (f : Fin 4096 → EReal) : ∑ n ∈ Finset.range 16, ∑ r : Fin 256, f (rowOf n r) = ∑ r : Fin 4096, f r := by
  rw [Finset.sum_range, Fin.sum_univ_tiles 16 256 rfl]
  refine Finset.sum_congr rfl fun n _ => Finset.sum_congr rfl fun r _ => congrArg f (Fin.ext ?_)
  rw [rowOf_val n.isLt]

section
variable (m : (ℓ : Loc nD τ sig) → Buf (Elt Ideal) ℓ) (c : Dev nD)

def A0 : FVec Ideal S4096x2048 .f32 := m ((c.tc : Thread nD τ).loc main_arg0)
def A1 : FVec Ideal S4096x2048 .f32 := m ((c.tc : Thread nD τ).loc main_arg1)
def A2 : FVec Ideal S4096x2048 .f32 := m ((c.tc : Thread nD τ).loc main_arg2)
def A3 : FVec Ideal S1x1x2048 .f32 := m ((c.tc : Thread nD τ).loc main_arg3)
def A4 : FVec Ideal S1x2048 .f32 := m ((c.tc : Thread nD τ).loc main_arg4)
def A5 : FVec Ideal S4096x1 .f32 := m ((c.tc : Thread nD τ).loc main_arg5)

def xB (t : Fin cfg0.N) : FVec Ideal S256x2048 .f32 := iblk m c 0 t
def yB (t : Fin cfg0.N) : FVec Ideal S256x2048 .f32 := iblk m c 1 t
def tB (t : Fin cfg0.N) : FVec Ideal S256x2048 .f32 := iblk m c 2 t
def sB (t : Fin cfg0.N) : FVec Ideal S1x1x2048 .f32 := iblk m c 3 t
def gB (t : Fin cfg0.N) : FVec Ideal S1x2048 .f32 := iblk m c 4 t
def lB (t : Fin cfg0.N) : FVec Ideal S256x1 .f32 := iblk m c 5 t

/-! The array's rows, and the vectors every row shares. -/
abbrev ax (n : ℕ) (r : Fin 256) : Fin 2048 → EReal := Cert.FinalBwdRefIdeal.Hand.row (A0 m c) (rowOf n r)
abbrev ay (n : ℕ) (r : Fin 256) : Fin 2048 → EReal := Cert.FinalBwdRefIdeal.Hand.row (A1 m c) (rowOf n r)
abbrev at' (n : ℕ) (r : Fin 256) : Fin 2048 → EReal := Cert.FinalBwdRefIdeal.Hand.row (A2 m c) (rowOf n r)
abbrev as' : Fin 2048 → EReal := Cert.FinalBwdRefIdeal.Hand.scale (A3 m c)
abbrev ag : Fin 2048 → EReal := Cert.FinalBwdRefIdeal.Hand.gain (A4 m c)

theorem xB_row (t : Fin cfg0.N) (r : Fin 256) : row (xB m c t) r = ax m c t.val r := by
  have ht : t.val < 16 := lt_of_lt_of_eq t.isLt N_0
  funext d
  rw [row, ax, Cert.FinalBwdRefIdeal.Hand.row, A0, xB]
  blk_ext [iblk, V, idx0 t] <;> simp only [rowOf_val ht] <;> omega
theorem yB_row (t : Fin cfg0.N) (r : Fin 256) : row (yB m c t) r = ay m c t.val r := by
  have ht : t.val < 16 := lt_of_lt_of_eq t.isLt N_0
  funext d
  rw [row, ay, Cert.FinalBwdRefIdeal.Hand.row, A1, yB]
  blk_ext [iblk, V, idx1 t] <;> simp only [rowOf_val ht] <;> omega
theorem tB_row (t : Fin cfg0.N) (r : Fin 256) : row (tB m c t) r = at' m c t.val r := by
  have ht : t.val < 16 := lt_of_lt_of_eq t.isLt N_0
  funext d
  rw [row, at', Cert.FinalBwdRefIdeal.Hand.row, A2, tB]
  blk_ext [iblk, V, idx2 t] <;> simp only [rowOf_val ht] <;> omega
theorem sB_scale (t : Fin cfg0.N) : scale (sB m c t) = as' m c := by
  funext d
  rw [scale, as', Cert.FinalBwdRefIdeal.Hand.scale, A3, sB]
  blk_ext [iblk, V, idx3 t] <;> omega
theorem gB_gain (t : Fin cfg0.N) : gain (gB m c t) = ag m c := by
  funext d
  rw [gain, ag, Cert.FinalBwdRefIdeal.Hand.gain, A4, gB]
  blk_ext [iblk, V, idx4 t] <;> omega
theorem lB_apply (t : Fin cfg0.N) (r : Fin 256) : lB m c t (ix2 r 0) = A5 m c (ix2 (rowOf t.val r) 0) := by
  have ht : t.val < 16 := lt_of_lt_of_eq t.isLt N_0
  rw [A5, lB]
  blk_ext [iblk, V, idx5 t] <;> simp only [rowOf_val ht] <;> omega

theorem first (t : Fin cfg0.N) (p : t.val % 16 = 0) : ¬ 1 ≤ t.val := by
  have ht : t.val < 16 := lt_of_lt_of_eq t.isLt N_0
  omega
theorem later (t : Fin cfg0.N) (p : ¬ t.val % 16 = 0) : 1 ≤ t.val := by omega

theorem dx_out (t : Fin cfg0.N) (i : S256x2048.Idx) :
    (outsAt0 m c t.val t.isLt).1 i = kdx (xB m c t) (yB m c t) (tB m c t) (sB m c t) (gB m c t) (lB m c t) i := by
  by_cases p : t.val % 16 = 0
  · rw [outsAt0_A m c t p (first t p) p (first t p)]
    frame_out
    exact congrFun (pay10_eq (xB m c t) (yB m c t) (tB m c t) (sB m c t) (gB m c t) (lB m c t)) i
  · rw [outsAt0_B m c t p (later t p) p (later t p)]
    frame_out
    exact congrFun (pay10_eq (xB m c t) (yB m c t) (tB m c t) (sB m c t) (gB m c t) (lB m c t)) i
theorem dy_out (t : Fin cfg0.N) (i : S256x2048.Idx) :
    (outsAt0 m c t.val t.isLt).2.1 i = kdy (xB m c t) (yB m c t) (tB m c t) (sB m c t) (gB m c t) (lB m c t) i := by
  by_cases p : t.val % 16 = 0
  · rw [outsAt0_A m c t p (first t p) p (first t p)]
    frame_out
    exact congrFun (pay11_eq (xB m c t) (yB m c t) (tB m c t) (sB m c t) (gB m c t) (lB m c t)) i
  · rw [outsAt0_B m c t p (later t p) p (later t p)]
    frame_out
    exact congrFun (pay11_eq (xB m c t) (yB m c t) (tB m c t) (sB m c t) (gB m c t) (lB m c t)) i

/-- What a grid point adds to the gradients of the scales and of the gain. -/
def addS (n : ℕ) (i : S1x1x2048.Idx) : EReal :=
  ∑ r : Fin 256, grad (ax m c n r) (ay m c n r) (at' m c n r) (as' m c) (ag m c) (A5 m c (ix2 (rowOf n r) 0)) (i 2) * ay m c n r (i 2)
def addG (n : ℕ) (i : S1x2048.Idx) : EReal :=
  ∑ r : Fin 256, nm wide (res (ax m c n r) (ay m c n r) (as' m c)) (i 1)
    * back (ax m c n r) (ay m c n r) (at' m c n r) (as' m c) (ag m c) (A5 m c (ix2 (rowOf n r) 0)) (i 1)

theorem ds_add (t : Fin cfg0.N) (d : Fin 2048) :
    kds3 (xB m c t) (yB m c t) (tB m c t) (sB m c t) (gB m c t) (lB m c t) (ix3 0 0 d) = addS m c t.val (ix3 0 0 d) := by
  rw [kds3_apply]
  simp only [xB_row, yB_row, tB_row, sB_scale, gB_gain, lB_apply]
  rfl
theorem dg_add (t : Fin cfg0.N) (d : Fin 2048) :
    kdg (xB m c t) (yB m c t) (tB m c t) (sB m c t) (gB m c t) (lB m c t) (ix2 0 d) = addG m c t.val (ix2 0 d) := by
  rw [kdg_apply]
  simp only [xB_row, yB_row, tB_row, sB_scale, gB_gain, lB_apply]
  rfl

theorem column_s (i : S1x1x2048.Idx) : ∃ d : Fin 2048, i = ix3 0 0 d :=
  ⟨i 2, funext fun a => match a with
    | ⟨0, _⟩ => Subsingleton.elim (α := Fin 1) _ _
    | ⟨1, _⟩ => Subsingleton.elim (α := Fin 1) _ _
    | ⟨2, _⟩ => rfl⟩
theorem column_g (i : S1x2048.Idx) : ∃ d : Fin 2048, i = ix2 0 d :=
  ⟨i 1, (ix2_eta i).symm.trans (congrArg₂ ix2 (Subsingleton.elim _ _) rfl)⟩

abbrev prevS (t : Fin cfg0.N) : FVec Ideal S1x1x2048 .f32 := (outsAt0 m c (t.val - 1) (Nat.lt_of_le_of_lt (Nat.sub_le _ _) t.isLt)).2.2.1
abbrev prevG (t : Fin cfg0.N) : FVec Ideal S1x2048 .f32 := (outsAt0 m c (t.val - 1) (Nat.lt_of_le_of_lt (Nat.sub_le _ _) t.isLt)).2.2.2

theorem ds_reset (t : Fin cfg0.N) (p : t.val % 16 = 0) (i : S1x1x2048.Idx) :
    (outsAt0 m c t.val t.isLt).2.2.1 i = (fun _ => 0) i + addS m c t.val i := by
  obtain ⟨d, rfl⟩ := column_s i
  rw [outsAt0_A m c t p (first t p) p (first t p), zero_add, ← ds_add]
  frame_out
  exact congrFun (pay13_eq (xB m c t) (yB m c t) (tB m c t) (sB m c t) (gB m c t) (lB m c t)) _
theorem dg_reset (t : Fin cfg0.N) (p : t.val % 16 = 0) (i : S1x2048.Idx) :
    (outsAt0 m c t.val t.isLt).2.2.2 i = (fun _ => 0) i + addG m c t.val i := by
  obtain ⟨d, rfl⟩ := column_g i
  rw [outsAt0_A m c t p (first t p) p (first t p), zero_add, ← dg_add]
  frame_out
  exact congrFun (pay8_eq (xB m c t) (yB m c t) (tB m c t) (sB m c t) (gB m c t) (lB m c t)) _

/-- The running sums with one block's part added. -/
def stepS (v : FVec Ideal S1x2048 .f32) (w : FVec Ideal S1x1x2048 .f32) : FVec Ideal S1x1x2048 .f32 :=
  shapeCast S1x1x2048 (addf (shapeCast S1x2048 w shapeCasts_S1x1x2048_S1x2048) v) shapeCasts_S1x2048_S1x1x2048
theorem pay14_eq (x y t : FVec Ideal S256x2048 .f32) (s : FVec Ideal S1x1x2048 .f32) (g : FVec Ideal S1x2048 .f32) (l : FVec Ideal S256x1 .f32) (w : FVec Ideal S1x1x2048 .f32) :
    k0_pay14 (F := Ideal) y (k0_pay2 x y s) (k0_pay4 x y s) (k0_pay5 x y s) (k0_pay9 x y t s g l) w = stepS (kds x y t s g l) w := rfl
theorem stepS_apply (v : FVec Ideal S1x2048 .f32) (w : FVec Ideal S1x1x2048 .f32) (d : Fin 2048) : stepS v w (ix3 0 0 d) = w (ix3 0 0 d) + v (ix2 0 d) := by
  pointwise [stepS]
theorem pay15_apply (v w : FVec Ideal S1x2048 .f32) (d : Fin 2048) : k0_pay15 (F := Ideal) v w (ix2 0 d) = w (ix2 0 d) + v (ix2 0 d) := by
  pointwise [k0_pay15]

theorem ds_step (t : Fin cfg0.N) (p : ¬ t.val % 16 = 0) (i : S1x1x2048.Idx) :
    (outsAt0 m c t.val t.isLt).2.2.1 i = (outsAt0 m c (t.val - 1) (Nat.lt_of_le_of_lt (Nat.sub_le _ _) t.isLt)).2.2.1 i + addS m c t.val i := by
  obtain ⟨d, rfl⟩ := column_s i
  rw [outsAt0_B m c t p (later t p) p (later t p), ← ds_add, kds3_apply, ← kds_apply]
  frame_out
  refine (congrFun (pay14_eq (xB m c t) (yB m c t) (tB m c t) (sB m c t) (gB m c t) (lB m c t) (prevS m c t)) _).trans ?_
  exact stepS_apply _ _ d
theorem dg_step (t : Fin cfg0.N) (p : ¬ t.val % 16 = 0) (i : S1x2048.Idx) :
    (outsAt0 m c t.val t.isLt).2.2.2 i = (outsAt0 m c (t.val - 1) (Nat.lt_of_le_of_lt (Nat.sub_le _ _) t.isLt)).2.2.2 i + addG m c t.val i := by
  obtain ⟨d, rfl⟩ := column_g i
  rw [outsAt0_B m c t p (later t p) p (later t p), ← dg_add]
  frame_out
  exact pay15_apply (kdg (xB m c t) (yB m c t) (tB m c t) (sB m c t) (gB m c t) (lB m c t)) (prevG m c t) d

/-! Where a block of each result lands. -/
theorem place6 (t : Fin cfg0.N) (r : Fin 256) (d : Fin 2048) (R : FVec Ideal S4096x2048 .f32) :
    R ((win0_6.blk t).view.emb (ix2 r d : S256x2048.Idx)) = R (ix2 (rowOf t.val r) d) := by
  have ht : t.val < 16 := lt_of_lt_of_eq t.isLt N_0
  blk_ext [idx6 t] <;> simp only [rowOf_val ht] <;> omega
theorem place7 (t : Fin cfg0.N) (r : Fin 256) (d : Fin 2048) (R : FVec Ideal S4096x2048 .f32) :
    R ((win0_7.blk t).view.emb (ix2 r d : S256x2048.Idx)) = R (ix2 (rowOf t.val r) d) := by
  have ht : t.val < 16 := lt_of_lt_of_eq t.isLt N_0
  blk_ext [idx7 t] <;> simp only [rowOf_val ht] <;> omega
theorem place8 (t : Fin cfg0.N) (d : Fin 2048) (R : FVec Ideal S1x1x2048 .f32) : R ((win0_8.blk t).view.emb (ix3 0 0 d : S1x1x2048.Idx)) = R (ix3 0 0 d) := by
  blk_ext [idx8 t] <;> omega
theorem place9 (t : Fin cfg0.N) (d : Fin 2048) (R : FVec Ideal S1x2048 .f32) : R ((win0_9.blk t).view.emb (ix2 0 d : S1x2048.Idx)) = R (ix2 0 d) := by
  blk_ext [idx9 t] <;> omega

theorem array_dx : (dats m 0 c).arrAt 6 cfg0.N = xdx (A0 m c) (A1 m c) (A2 m c) (A3 m c) (A4 m c) (A5 m c) := by
  refine (dats m 0 c).arrAt_eq_of_covers 6 _ (by decide +kernel) fun t hf i => ?_
  blk_simp
  obtain ⟨r, d, rfl⟩ : ∃ (r : Fin 256) (d : Fin 2048), i = (ix2 r d : S256x2048.Idx) := ⟨_, _, (ix2_eta i).symm⟩
  refine Eq.trans ?_ (place6 t r d _).symm
  rw [after0_6]
  refine (dx_out m c t _).trans ?_
  rw [kdx_apply, xdx_apply, xB_row, yB_row, tB_row, sB_scale, gB_gain, lB_apply]
theorem array_dy : (dats m 0 c).arrAt 7 cfg0.N = xdy (A0 m c) (A1 m c) (A2 m c) (A3 m c) (A4 m c) (A5 m c) := by
  refine (dats m 0 c).arrAt_eq_of_covers 7 _ (by decide +kernel) fun t hf i => ?_
  blk_simp
  obtain ⟨r, d, rfl⟩ : ∃ (r : Fin 256) (d : Fin 2048), i = (ix2 r d : S256x2048.Idx) := ⟨_, _, (ix2_eta i).symm⟩
  refine Eq.trans ?_ (place7 t r d _).symm
  rw [after0_7]
  refine (dy_out m c t _).trans ?_
  rw [kdy_apply, xdy_apply, xB_row, yB_row, tB_row, sB_scale, gB_gain, lB_apply]
theorem array_ds : (dats m 0 c).arrAt 8 cfg0.N = xds (A0 m c) (A1 m c) (A2 m c) (A3 m c) (A4 m c) (A5 m c) := by
  refine (dats m 0 c).arrAt_eq_of_covers 8 _ (by decide +kernel) fun t hf i => ?_
  blk_simp
  have ht : t.val < 16 := lt_of_lt_of_eq t.isLt N_0
  obtain ⟨d, rfl⟩ : ∃ d : Fin 2048, i = (ix3 0 0 d : S1x1x2048.Idx) := column_s i
  refine Eq.trans ?_ (place8 t d _).symm
  rw [after0_8]
  refine (Pipeline.eq_sum_of_reset_step_apply_of_mod (fun n h => (outsAt0 m c n h).2.2.1) 16 (fun _ => (0 : EReal)) (addS m c)
    (ds_reset m c) (ds_step m c) t (flush8 t hf) (ix3 0 0 d)).trans ?_
  rw [zero_add, xds_apply, ← sum_rows]
  refine Finset.sum_congr rfl fun n _ => ?_
  rw [show 16 * (t.val / 16) + n = n by omega, addS]
  rfl
theorem array_dg : (dats m 0 c).arrAt 9 cfg0.N = xdg (A0 m c) (A1 m c) (A2 m c) (A3 m c) (A4 m c) (A5 m c) := by
  refine (dats m 0 c).arrAt_eq_of_covers 9 _ (by decide +kernel) fun t hf i => ?_
  blk_simp
  have ht : t.val < 16 := lt_of_lt_of_eq t.isLt N_0
  obtain ⟨d, rfl⟩ : ∃ d : Fin 2048, i = (ix2 0 d : S1x2048.Idx) := column_g i
  refine Eq.trans ?_ (place9 t d _).symm
  rw [after0_9]
  refine (Pipeline.eq_sum_of_reset_step_apply_of_mod (fun n h => (outsAt0 m c n h).2.2.2) 16 (fun _ => (0 : EReal)) (addG m c)
    (dg_reset m c) (dg_step m c) t (flush9 t hf) (ix2 0 d)).trans ?_
  rw [zero_add, xdg_apply, ← sum_rows]
  refine Finset.sum_congr rfl fun n _ => ?_
  rw [show 16 * (t.val / 16) + n = n by omega, addG]
  rfl

/-! The reference's results on the same arguments. -/
section
variable {m c} {x y t : FVec Ideal S4096x2048 .f32} {s : FVec Ideal S1x1x2048 .f32} {g : FVec Ideal S1x2048 .f32} {l : FVec Ideal S4096x1 .f32}
variable (hx : x = A0 m c) (hy : y = A1 m c) (ht : t = A2 m c) (hs : s = A3 m c) (hg : g = A4 m c) (hl : l = A5 m c)
include hx hy ht hs hg hl

theorem same_dx : xdx x y t s g l = (dats m 0 c).arrAt 6 cfg0.N := by rw [hx, hy, ht, hs, hg, hl, array_dx]
theorem same_dy : xdy x y t s g l = (dats m 0 c).arrAt 7 cfg0.N := by rw [hx, hy, ht, hs, hg, hl, array_dy]
theorem same_ds : xds x y t s g l = (dats m 0 c).arrAt 8 cfg0.N := by rw [hx, hy, ht, hs, hg, hl, array_ds]
theorem same_dg : xdg x y t s g l = (dats m 0 c).arrAt 9 cfg0.N := by rw [hx, hy, ht, hs, hg, hl, array_dg]
end
end
end Cert.FinalBwdIdeal.Hand
end
-- ==== Proof.HgFwdArrays.lean ====
/-
  The gated norm of the recurrence's output is the reference's: each grid point takes one block of rows.
-/
module

public import proofs.«01_k».proof.Proof.Gen.HgGateFwdIdeal.Value
public import proofs.«01_k».proof.Proof.Gen.HgGateFwdRefIdeal.Run
public import proofs.«01_k».proof.Proof.HgArrays

@[expose] public section

set_option maxRecDepth 16384

noncomputable section

namespace Cert.HgGateFwdIdeal.Hand

open Cert.HgGateFwdIdeal Cert.HgGateFwdIdeal.Gen Idealize.ShloMosaic Idealize.ShloMosaic.TcCoe Idealize.SL.Sem
open Cert.Proof.Norm
open Cert.HgGateBwdIdeal.Hand (rowOf rowOf_val heads knorm kfour kfour_apply ky ky_apply row_os)
open Cert.HgGateBwdRefIdeal.Hand (x19 sg x19_apply sg_apply)
open scoped BigOperators

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0] := (by decide +kernel : ∀ t : Fin grid0.N, win0_3.index t = ![0, 0])
theorem idx4 : ∀ t : Fin cfg0.N, win0_4.index t = ![t.val, 0] := (by decide +kernel : ∀ t : Fin grid0.N, win0_4.index t = ![t.val, 0])

/-- The gated norm of a block. -/
def kout (a b z : FVec Ideal S256x512 .f32) (g : FVec Ideal S1x128 .f32) : FVec Ideal S256x512 .bf16 :=
  truncf .bf16 (mulf (knorm a b g) (mulf z (logistic z))) bitsLt_bf16_f32

theorem pay_eq (a b z : FVec Ideal S256x512 .f32) (g : FVec Ideal S1x128 .f32) :
    k0_pay1 (F := Ideal) z g (k0_pay2 a b) (k0_pay3 a b g) (k0_pay4 a b g) (k0_pay5 a b) = kout a b z g := rfl

theorem kout_apply (a b z : FVec Ideal S256x512 .f32) (g : FVec Ideal S1x128 .f32) (h : Fin 4) (r : Fin 256) (d : Fin 128) :
    kout a b z g (ix2 r (hc h d))
      = through (nm width (Cert.HgGateBwdIdeal.Hand.os a b h r) d * g (ix2 0 d)) (z (ix2 r (hc h d))) := by
  pointwise [kout]
  rw [show knorm a b g = kfour fun h => ky (heads (addf a b) h) g from rfl, kfour_apply, ky_apply, row_os]
  rfl

/-- The reference's gated norm. -/
def xout (a b z : FVec Ideal S4352x512 .f32) (g : FVec Ideal S1x128 .f32) : FVec Ideal S4352x512 .bf16 :=
  truncf .bf16 (mulf (x19 a b g) (mulf z (sg z))) bitsLt_bf16_f32

theorem xout_apply (a b z : FVec Ideal S4352x512 .f32) (g : FVec Ideal S1x128 .f32) (h : Fin 4) (r : Fin 4352) (d : Fin 128) :
    xout a b z g (ix2 r (hc h d))
      = through (nm width (Cert.HgGateBwdRefIdeal.Hand.os a b r h) d * g (ix2 0 d)) (z (ix2 r (hc h d))) := by
  pointwise [xout]
  rw [x19_apply, sg_apply]
  rfl

section
variable (m : (ℓ : Loc nD τ sig) → Buf (Elt Ideal) ℓ) (c : Dev nD)

def A0 : FVec Ideal S4352x512 .f32 := m ((c.tc : Thread nD τ).loc main_arg0)
def A1 : FVec Ideal S4352x512 .f32 := m ((c.tc : Thread nD τ).loc main_arg1)
def A2 : FVec Ideal S4352x512 .f32 := m ((c.tc : Thread nD τ).loc main_arg2)
def A3 : FVec Ideal S1x128 .f32 := m ((c.tc : Thread nD τ).loc main_arg3)

def aB (t : Fin cfg0.N) : FVec Ideal S256x512 .f32 := iblk m c 0 t
def bB (t : Fin cfg0.N) : FVec Ideal S256x512 .f32 := iblk m c 1 t
def zB (t : Fin cfg0.N) : FVec Ideal S256x512 .f32 := iblk m c 2 t
def gB (t : Fin cfg0.N) : FVec Ideal S1x128 .f32 := iblk m c 3 t

theorem aB_apply (t : Fin cfg0.N) (r : Fin 256) (j : Fin 512) : aB m c t (ix2 r j) = A0 m c (ix2 (rowOf t.val r) j) := by
  have ht : t.val < 17 := lt_of_lt_of_eq t.isLt N_0
  rw [A0, aB]
  blk_ext [iblk, V, idx0 t] <;> simp only [rowOf_val ht] <;> omega
theorem bB_apply (t : Fin cfg0.N) (r : Fin 256) (j : Fin 512) : bB m c t (ix2 r j) = A1 m c (ix2 (rowOf t.val r) j) := by
  have ht : t.val < 17 := lt_of_lt_of_eq t.isLt N_0
  rw [A1, bB]
  blk_ext [iblk, V, idx1 t] <;> simp only [rowOf_val ht] <;> omega
theorem zB_apply (t : Fin cfg0.N) (r : Fin 256) (j : Fin 512) : zB m c t (ix2 r j) = A2 m c (ix2 (rowOf t.val r) j) := by
  have ht : t.val < 17 := lt_of_lt_of_eq t.isLt N_0
  rw [A2, zB]
  blk_ext [iblk, V, idx2 t] <;> simp only [rowOf_val ht] <;> omega
theorem gB_apply (t : Fin cfg0.N) (d : Fin 128) : gB m c t (ix2 0 d) = A3 m c (ix2 0 d) := by
  rw [A3, gB]
  blk_ext [iblk, V, idx3 t] <;> omega
theorem os_eq (t : Fin cfg0.N) (h : Fin 4) (r : Fin 256) :
    Cert.HgGateBwdIdeal.Hand.os (aB m c t) (bB m c t) h r = Cert.HgGateBwdRefIdeal.Hand.os (A0 m c) (A1 m c) (rowOf t.val r) h := by
  funext d
  rw [Cert.HgGateBwdIdeal.Hand.os, aB_apply, bB_apply]
  rfl

theorem place4 (t : Fin cfg0.N) (r : Fin 256) (j : Fin 512) (R : FVec Ideal S4352x512 .bf16) :
    R ((win0_4.blk t).view.emb (ix2 r j : S256x512.Idx)) = R (ix2 (rowOf t.val r) j) := by
  have ht : t.val < 17 := lt_of_lt_of_eq t.isLt N_0
  blk_ext [idx4 t] <;> simp only [rowOf_val ht] <;> omega

theorem out4 (t : Fin cfg0.N) (i : S256x512.Idx) :
    out0_4 (iblk m c 0 t) (iblk m c 1 t) (iblk m c 2 t) (iblk m c 3 t) i = kout (aB m c t) (bB m c t) (zB m c t) (gB m c t) i := by
  frame_out
  exact congrFun (pay_eq (aB m c t) (bB m c t) (zB m c t) (gB m c t)) i

theorem array : (dats m 0 c).arrAt 4 cfg0.N = xout (A0 m c) (A1 m c) (A2 m c) (A3 m c) := by
  refine (dats m 0 c).arrAt_eq_of_covers 4 _ (by decide +kernel) fun t hf i => ?_
  blk_simp
  obtain ⟨r, j, rfl⟩ : ∃ (r : Fin 256) (j : Fin 512), i = (ix2 r j : S256x512.Idx) := ⟨_, _, (ix2_eta i).symm⟩
  refine Eq.trans ?_ (place4 t r j _).symm
  obtain ⟨h, d, rfl⟩ := column j
  rw [after0_4]
  refine (out4 m c t _).trans ?_
  rw [kout_apply, xout_apply, os_eq, gB_apply, zB_apply]

theorem same {m c} {a b z : FVec Ideal S4352x512 .f32} {g : FVec Ideal S1x128 .f32}
    (ha : a = A0 m c) (hb : b = A1 m c) (hz : z = A2 m c) (hg : g = A3 m c) : xout a b z g = (dats m 0 c).arrAt 4 cfg0.N := by rw [ha, hb, hz, hg, array]
end
end Cert.HgGateFwdIdeal.Hand
end
-- ==== Proof.FinalFwdArrays.lean ====
/-
  The row losses the step's last kernel leaves are the reference's: each grid point takes one block of rows.
-/
module

public import proofs.«01_k».proof.Proof.Gen.FinalFwdIdeal.Value
public import proofs.«01_k».proof.Proof.Gen.FinalFwdRefIdeal.Run
public import proofs.«01_k».proof.Proof.FinalArrays

@[expose] public section

set_option maxRecDepth 16384

noncomputable section

namespace Cert.FinalFwdIdeal.Hand

open Cert.FinalFwdIdeal Cert.FinalFwdIdeal.Gen Idealize.ShloMosaic Idealize.ShloMosaic.TcCoe Idealize.SL.Sem
open Cert.FinalBwdIdeal.Hand (rowOf rowOf_val row gain scale kloss kloss_apply)
open Cert.FinalBwdRefIdeal.Hand (xloss xloss_apply)
open scoped BigOperators

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0, 0] := (by decide +kernel : ∀ t : Fin grid0.N, win0_3.index t = ![0, 0, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])

theorem pay_eq (x y t : FVec Ideal S256x2048 .f32) (s : FVec Ideal S1x1x2048 .f32) (g : FVec Ideal S1x2048 .f32) :
    k0_pay1 (F := Ideal) x y t s g = kloss x y t s g := rfl

section
variable (m : (ℓ : Loc nD τ sig) → Buf (Elt Ideal) ℓ) (c : Dev nD)

def A0 : FVec Ideal S4096x2048 .f32 := m ((c.tc : Thread nD τ).loc main_arg0)
def A1 : FVec Ideal S4096x2048 .f32 := m ((c.tc : Thread nD τ).loc main_arg1)
def A2 : FVec Ideal S4096x2048 .f32 := m ((c.tc : Thread nD τ).loc main_arg2)
def A3 : FVec Ideal S1x1x2048 .f32 := m ((c.tc : Thread nD τ).loc main_arg3)
def A4 : FVec Ideal S1x2048 .f32 := m ((c.tc : Thread nD τ).loc main_arg4)

def xB (t : Fin cfg0.N) : FVec Ideal S256x2048 .f32 := iblk m c 0 t
def yB (t : Fin cfg0.N) : FVec Ideal S256x2048 .f32 := iblk m c 1 t
def tB (t : Fin cfg0.N) : FVec Ideal S256x2048 .f32 := iblk m c 2 t
def sB (t : Fin cfg0.N) : FVec Ideal S1x1x2048 .f32 := iblk m c 3 t
def gB (t : Fin cfg0.N) : FVec Ideal S1x2048 .f32 := iblk m c 4 t

theorem xB_row (t : Fin cfg0.N) (r : Fin 256) : row (xB m c t) r = Cert.FinalBwdRefIdeal.Hand.row (A0 m c) (rowOf t.val r) := by
  have ht : t.val < 16 := lt_of_lt_of_eq t.isLt N_0
  funext d
  rw [row, Cert.FinalBwdRefIdeal.Hand.row, A0, xB]
  blk_ext [iblk, V, idx0 t] <;> simp only [rowOf_val ht] <;> omega
theorem yB_row (t : Fin cfg0.N) (r : Fin 256) : row (yB m c t) r = Cert.FinalBwdRefIdeal.Hand.row (A1 m c) (rowOf t.val r) := by
  have ht : t.val < 16 := lt_of_lt_of_eq t.isLt N_0
  funext d
  rw [row, Cert.FinalBwdRefIdeal.Hand.row, A1, yB]
  blk_ext [iblk, V, idx1 t] <;> simp only [rowOf_val ht] <;> omega
theorem tB_row (t : Fin cfg0.N) (r : Fin 256) : row (tB m c t) r = Cert.FinalBwdRefIdeal.Hand.row (A2 m c) (rowOf t.val r) := by
  have ht : t.val < 16 := lt_of_lt_of_eq t.isLt N_0
  funext d
  rw [row, Cert.FinalBwdRefIdeal.Hand.row, A2, tB]
  blk_ext [iblk, V, idx2 t] <;> simp only [rowOf_val ht] <;> omega
theorem sB_scale (t : Fin cfg0.N) : scale (sB m c t) = Cert.FinalBwdRefIdeal.Hand.scale (A3 m c) := by
  funext d
  rw [scale, Cert.FinalBwdRefIdeal.Hand.scale, A3, sB]
  blk_ext [iblk, V, idx3 t] <;> omega
theorem gB_gain (t : Fin cfg0.N) : gain (gB m c t) = Cert.FinalBwdRefIdeal.Hand.gain (A4 m c) := by
  funext d
  rw [gain, Cert.FinalBwdRefIdeal.Hand.gain, A4, gB]
  blk_ext [iblk, V, idx4 t] <;> omega

theorem place5 (t : Fin cfg0.N) (r : Fin 256) (R : FVec Ideal S4096x1 .f32) :
    R ((win0_5.blk t).view.emb (ix2 r 0 : S256x1.Idx)) = R (ix2 (rowOf t.val r) 0) := by
  have ht : t.val < 16 := lt_of_lt_of_eq t.isLt N_0
  blk_ext [idx5 t] <;> simp only [rowOf_val ht] <;> omega

theorem out5 (t : Fin cfg0.N) (i : S256x1.Idx) :
    out0_5 (iblk m c 0 t) (iblk m c 1 t) (iblk m c 2 t) (iblk m c 3 t) (iblk m c 4 t) i = kloss (xB m c t) (yB m c t) (tB m c t) (sB m c t) (gB m c t) i := by
  frame_out
  exact congrFun (pay_eq (xB m c t) (yB m c t) (tB m c t) (sB m c t) (gB m c t)) i

theorem array : (dats m 0 c).arrAt 5 cfg0.N = xloss (A0 m c) (A1 m c) (A2 m c) (A3 m c) (A4 m c) := by
  refine (dats m 0 c).arrAt_eq_of_covers 5 _ (by decide +kernel) fun t hf i => ?_
  blk_simp
  obtain ⟨r, rfl⟩ : ∃ r : Fin 256, i = (ix2 r 0 : S256x1.Idx) := ⟨i 0, (ix2_eta i).symm.trans (congrArg₂ ix2 rfl (Subsingleton.elim _ _))⟩
  refine Eq.trans ?_ (place5 t r _).symm
  rw [after0_5]
  refine (out5 m c t _).trans ?_
  rw [kloss_apply, xloss_apply, xB_row, yB_row, tB_row, sB_scale, gB_gain]

theorem same {m c} {x y t : FVec Ideal S4096x2048 .f32} {s : FVec Ideal S1x1x2048 .f32} {g : FVec Ideal S1x2048 .f32}
    (hx : x = A0 m c) (hy : y = A1 m c) (ht : t = A2 m c) (hs : s = A3 m c) (hg : g = A4 m c) :
    xloss x y t s g = (dats m 0 c).arrAt 5 cfg0.N := by rw [hx, hy, ht, hs, hg, array]
end
end Cert.FinalFwdIdeal.Hand
end
-- ==== Proof.QkPairs.lean ====
/-
  The normalised columns of one head, turned pair by pair: the two columns of a pair are mixed by a cosine and a sine of
  the row. A context row is not turned, which is the cosine one and the sine zero.
-/
module

public import proofs.«01_k».proof.Proof.Gen.QkFwdIdeal.Value
public import proofs.«01_k».proof.Proof.HgBlocks

@[expose] public section

set_option maxRecDepth 16384

noncomputable section

namespace Cert.Proof.Pairs

open Cert.QkFwdIdeal Cert.QkFwdIdeal.Gen Idealize.ShloMosaic Idealize.ShloMosaic.TcCoe Idealize.SL.Sem
open Cert.Proof.Norm
open Cert.HgGateBwdIdeal.Hand (ky ky_apply row)
open scoped BigOperators

/-- The other column of a pair. -/
def other (d : Fin 128) : Fin 128 := ⟨if d.val % 2 = 0 then d.val + 1 else d.val - 1, by split <;> omega⟩
/-- The pair of a column. -/
def pairOf (d : Fin 128) : Fin 64 := ⟨d.val / 2, by omega⟩

/-- A column after its pair is turned, and the gradient that reaches a column from the turned pair. -/
def turned (y C S : Fin 128 → EReal) (d : Fin 128) : EReal := y d * C d + y (other d) * S d
def back (e C S : Fin 128 → EReal) (d : Fin 128) : EReal := e d * C d + e (other d) * S (other d)

theorem swapped : ∀ j c : Fin 128, IntOp.cmpi .eq (IntOp.xori (BitVec.ofNat 32 j.val) 1#32) (BitVec.ofNat 32 c.val) = BitVec.ofBool (decide (j = other c)) := by
  decide +kernel

/-- The matrix that swaps the columns of every pair. -/
def swap : FVec Ideal S128x128 .f32 :=
  select (cmpi .eq (xori (iota .tc S128x128 32 [0] iota_S128x128_d0_w32) (broadcast S128x128 1#32)) (iota .tc S128x128 32 [1] iota_S128x128_d1_w32))
    (broadcast S128x128 (Scalar.ofBits (F := Ideal) .f32 0x3F800000#32)) (broadcast S128x128 (Scalar.ofBits (F := Ideal) .f32 0x00000000#32))

theorem swap_apply (j c : Fin 128) : swap (ix2 j c) = if j = other c then 1 else 0 := by
  pointwise [swap]
  rw [swapped]
  by_cases h : j = other c
  · rw [if_pos h, decide_eq_true h]; rfl
  · rw [if_neg h, decide_eq_false h]; rfl

section
variable (o cs sn : FVec Ideal S256x128 .f32) (g : FVec Ideal S1x128 .f32)

/-- One head's turned columns. -/
def kt : FVec Ideal S256x128 .f32 :=
  addf (mulf (ky o g) cs) (mulf (matmul dot_S256x128_S128x128_S256x128_1_0_0_1_n_n (some .fp32) (ky o g) swap (constant S256x128 .f32 0x00000000#32)) sn)

theorem kt_apply (r : Fin 256) (d : Fin 128) :
    kt o cs sn g (ix2 r d) = turned (fun j => nm width (row o r) j * g (ix2 0 j)) (row cs r) (row sn r) d := by
  pointwise [kt]
  simp only [ky_apply, swap_apply, mul_ite, mul_one, mul_zero, Finset.sum_ite_eq', Finset.sum_ite_eq, Finset.mem_univ, if_true, zero_add]
  rfl
end

/-! The two tables over all rows, made from the latent rows' cosines and sines. -/
section
variable (C S : FVec Ideal S4096x64 .f32)

/-- The sine's sign in a pair: minus for the first column. -/
def sign (d : Fin 128) : EReal := if d.val % 2 = 0 then -1 else 1
def cosAt (r : Fin 4352) (d : Fin 128) : EReal := if h : r.val < 4096 then C (ix2 ⟨r.val, h⟩ (pairOf d)) else 1
def sinAt (r : Fin 4352) (d : Fin 128) : EReal := if h : r.val < 4096 then S (ix2 ⟨r.val, h⟩ (pairOf d)) * sign d else 0

theorem minus_one : Ideal.ofBits .f32 0xBF800000#32 = -1 := by
  rw [show (-1 : EReal) = ((-(1 : ℝ) : ℝ) : EReal) by rw [EReal.coe_neg, EReal.coe_one]]
  simp [Ideal.ofBits, Ideal.ieee, -EReal.coe_mul, -EReal.coe_neg]; norm_num

def spread : FVec Ideal S4096x128 .f32 := shapeCast S4096x128 (broadcastInDim S4096x64x2 ![0, 1] bcast_S4096x64_S4096x64x2_0_1 C) shapeCasts_S4096x64x2_S4096x128
def signs : FVec Ideal S4096x128 .f32 :=
  broadcastInDim S4096x128 ![0, 1] bcast_S1x128_S4096x128_0_1 (broadcastInDim S1x128 ![1] bcast_S128_S1x128_1
    (shapeCast S128 (broadcastInDim S64x2 ![0, 1] bcast_S1x2_S64x2_0_1 (shapeCast S1x2 (fun i : S2.Idx => FloatOps.ofBits (F := Ideal) .f32 (lit0 (S2.rowMajor i))) shapeCasts_S2_S1x2)) shapeCasts_S64x2_S128))
def cosT : FVec Ideal S4352x128 .f32 :=
  concatenate S4352x128 0 [⟨S4096x128, spread C⟩, ⟨S256x128, broadcastInDim S256x128 ![] bcast_S_S256x128 (constant S_ .f32 0x3F800000#32)⟩] concatenates_S4096x128_S256x128_S4352x128_d0
def sinT : FVec Ideal S4352x128 .f32 :=
  concatenate S4352x128 0 [⟨S4096x128, mulf (spread S) signs⟩, ⟨S256x128, broadcastInDim S256x128 ![] bcast_S_S256x128 (constant S_ .f32 0x00000000#32)⟩] concatenates_S4096x128_S256x128_S4352x128_d0

theorem spread_apply (r : Fin 4096) (d : Fin 128) : spread C (ix2 r d) = C (ix2 r (pairOf d)) := by
  pointwise [spread]
  rfl
theorem signs_apply (r : Fin 4096) (d : Fin 128) : signs (ix2 r d) = sign d := by
  pointwise [signs]
  rw [sign]
  by_cases h : d.val % 2 = 0
  · rw [if_pos h, show (⟨d.val % 2, Nat.mod_lt _ (by decide)⟩ : Fin 2) = 0 from Fin.ext h]
    exact minus_one
  · rw [if_neg h, show (⟨d.val % 2, Nat.mod_lt _ (by decide)⟩ : Fin 2) = 1 from Fin.ext (by show d.val % 2 = 1; omega)]
    exact Ideal.ofBits_one_f32
theorem cosT_apply (r : Fin 4352) (d : Fin 128) : cosT C (ix2 r d) = cosAt C r d := by
  pointwise [cosT]
  rw [cosAt]
  split
  · exact spread_apply C _ d
  · rfl
theorem sinT_apply (r : Fin 4352) (d : Fin 128) : sinT S (ix2 r d) = sinAt S r d := by
  pointwise [sinT]
  rw [sinAt]
  split
  · rw [spread_apply, signs_apply]
  · rfl

/-- The columns of pair `k`. -/
def fst (k : Fin 64) : Fin 128 := ⟨k.val * 2, by omega⟩
def snd (k : Fin 64) : Fin 128 := ⟨k.val * 2 + 1, by omega⟩

theorem fst_pair (d : Fin 128) (h : d.val % 2 = 0) : fst (pairOf d) = d := Fin.ext (by simp only [fst, pairOf]; omega)
theorem snd_pair (d : Fin 128) (h : d.val % 2 = 1) : snd (pairOf d) = d := Fin.ext (by simp only [snd, pairOf]; omega)
theorem other_first (d : Fin 128) (h : d.val % 2 = 0) : other d = snd (pairOf d) :=
  Fin.ext (by simp only [other, snd, pairOf, h, if_true]; omega)
theorem other_second (d : Fin 128) (h : d.val % 2 = 1) : other d = fst (pairOf d) :=
  Fin.ext (by simp only [other, fst, pairOf, h, if_neg one_ne_zero]; omega)

theorem cosAt_latent (r : Fin 4096) (d : Fin 128) : cosAt C ⟨r.val, by omega⟩ d = C (ix2 r (pairOf d)) := dif_pos r.isLt
theorem sinAt_latent (r : Fin 4096) (d : Fin 128) : sinAt S ⟨r.val, by omega⟩ d = S (ix2 r (pairOf d)) * sign d := dif_pos r.isLt
theorem sign_first (d : Fin 128) (h : d.val % 2 = 0) : sign d = -1 := if_pos h
theorem sign_second (d : Fin 128) (h : d.val % 2 = 1) : sign d = 1 := if_neg (by omega)

section
variable (y : Fin 128 → EReal) (r : Fin 4096) (d : Fin 128)

theorem turned_first (h : d.val % 2 = 0) :
    turned y (cosAt C ⟨r.val, by omega⟩) (sinAt S ⟨r.val, by omega⟩) d
      = y (fst (pairOf d)) * C (ix2 r (pairOf d)) - y (snd (pairOf d)) * S (ix2 r (pairOf d)) := by
  rw [turned, cosAt_latent, sinAt_latent, fst_pair d h, other_first d h, sign_first _ h, mul_neg, mul_one, mul_neg, sub_eq_add_neg]
theorem turned_second (h : d.val % 2 = 1) :
    turned y (cosAt C ⟨r.val, by omega⟩) (sinAt S ⟨r.val, by omega⟩) d
      = y (fst (pairOf d)) * S (ix2 r (pairOf d)) + y (snd (pairOf d)) * C (ix2 r (pairOf d)) := by
  rw [turned, cosAt_latent, sinAt_latent, snd_pair d h, other_second d h, sign_second _ h, mul_one, add_comm]
end
theorem turned_context (y : Fin 128 → EReal) (r : Fin 4352) (h : ¬ r.val < 4096) (d : Fin 128) : turned y (cosAt C r) (sinAt S r) d = y d := by
  rw [turned, cosAt, sinAt, dif_neg h, dif_neg h, mul_one, mul_zero, add_zero]
end
end Cert.Proof.Pairs
end
-- ==== Proof.QkHeads.lean ====
/-
  The heads of one block of rows: eight heads of queries and two of keys, side by side.
-/
module

public import proofs.«01_k».proof.Proof.QkPairs

@[expose] public section

set_option maxRecDepth 16384

noncomputable section

namespace Cert.Proof.Pairs

open Cert.QkFwdIdeal Cert.QkFwdIdeal.Gen Idealize.ShloMosaic Idealize.ShloMosaic.TcCoe Idealize.SL.Sem

/-- Column `d` of head `h`, among eight heads and among two. -/
def qc (h : Fin 8) (d : Fin 128) : Fin 1024 := ⟨h.val * 128 + d.val, by omega⟩
def kc (h : Fin 2) (d : Fin 128) : Fin 256 := ⟨h.val * 128 + d.val, by omega⟩

theorem qcolumn (j : Fin 1024) : ∃ (h : Fin 8) (d : Fin 128), j = qc h d :=
  ⟨⟨j.val / 128, by omega⟩, ⟨j.val % 128, by omega⟩, Fin.ext (by simp only [qc]; omega)⟩
theorem kcolumn (j : Fin 256) : ∃ (h : Fin 2) (d : Fin 128), j = kc h d :=
  ⟨⟨j.val / 128, by omega⟩, ⟨j.val % 128, by omega⟩, Fin.ext (by simp only [kc]; omega)⟩

section
variable (a : FVec Ideal S256x1024 .f32) (b : FVec Ideal S256x256 .f32)

def qhead : Fin 8 → FVec Ideal S256x128 .f32 :=
  ![extractStridedSlice S256x128 ![0, 0] a slices_S256x1024_o0_0_S256x128, extractStridedSlice S256x128 ![0, 128] a slices_S256x1024_o0_128_S256x128,
    extractStridedSlice S256x128 ![0, 256] a slices_S256x1024_o0_256_S256x128, extractStridedSlice S256x128 ![0, 384] a slices_S256x1024_o0_384_S256x128,
    extractStridedSlice S256x128 ![0, 512] a slices_S256x1024_o0_512_S256x128, extractStridedSlice S256x128 ![0, 640] a slices_S256x1024_o0_640_S256x128,
    extractStridedSlice S256x128 ![0, 768] a slices_S256x1024_o0_768_S256x128, extractStridedSlice S256x128 ![0, 896] a slices_S256x1024_o0_896_S256x128]
def khead : Fin 2 → FVec Ideal S256x128 .f32 :=
  ![extractStridedSlice S256x128 ![0, 0] b slices_S256x256_o0_0_S256x128, extractStridedSlice S256x128 ![0, 128] b slices_S256x256_o0_128_S256x128]

theorem qhead_apply (h : Fin 8) (r : Fin 256) (d : Fin 128) : qhead a h (ix2 r d) = a (ix2 r (qc h d)) := by
  match h with
  | 0 | 1 | 2 | 3 | 4 | 5 | 6 | 7 => pointwise [qhead, qc]
theorem khead_apply (h : Fin 2) (r : Fin 256) (d : Fin 128) : khead b h (ix2 r d) = b (ix2 r (kc h d)) := by
  match h with
  | 0 | 1 => pointwise [khead, kc]
end

section
variable (x : Fin 8 → FVec Ideal S256x128 .f32) (z : Fin 2 → FVec Ideal S256x128 .f32)

def qjoin : FVec Ideal S256x1024 .f32 :=
  concatenate S256x1024 1 [⟨S256x128, x 0⟩, ⟨S256x128, x 1⟩, ⟨S256x128, x 2⟩, ⟨S256x128, x 3⟩, ⟨S256x128, x 4⟩, ⟨S256x128, x 5⟩, ⟨S256x128, x 6⟩, ⟨S256x128, x 7⟩]
    concatenates_S256x128_S256x128_S256x128_S256x128_S256x128_S256x128_S256x128_S256x128_S256x1024_d1
def kjoin : FVec Ideal S256x256 .f32 := concatenate S256x256 1 [⟨S256x128, z 0⟩, ⟨S256x128, z 1⟩] concatenates_S256x128_S256x128_S256x256_d1

set_option maxHeartbeats 2000000 in
theorem qjoin_apply (h : Fin 8) (r : Fin 256) (d : Fin 128) : qjoin x (ix2 r (qc h d)) = x h (ix2 r d) := by
  have hd := d.isLt
  match h with
  | 0 | 1 => pointwise [qjoin, qc]
  | 2 | 3 | 4 | 5 | 6 | 7 =>
    pointwise [qjoin, qc]
    repeat refine (dif_neg (by omega)).trans ?_
    try refine (dif_pos (by omega)).trans ?_
    exact congrArg (x _) (congrArg₂ ix2 rfl (Fin.ext (by show _ - _ = _; omega)))
theorem kjoin_apply (h : Fin 2) (r : Fin 256) (d : Fin 128) : kjoin z (ix2 r (kc h d)) = z h (ix2 r d) := by
  have hd := d.isLt
  match h with
  | 0 | 1 => pointwise [kjoin, kc]
end
end Cert.Proof.Pairs
end
-- ==== Proof.QkBwdBlocks.lean ====
/-
  The turned queries and keys, differentiated on one block of rows: every head goes through the same stages, the turn
  first and then the norm, and the heads' gradients are put side by side.
-/
module

public import proofs.«01_k».proof.Proof.QkHeads
public import proofs.«01_k».proof.Proof.Gen.QkBwdIdeal.Value

@[expose] public section

set_option maxRecDepth 16384

noncomputable section

namespace Cert.QkBwdIdeal.Hand

open Cert.QkBwdIdeal Cert.QkBwdIdeal.Gen Idealize.ShloMosaic Idealize.ShloMosaic.TcCoe Idealize.SL.Sem
open Cert.Proof.Norm Cert.Proof.Pairs
open Cert.HgGateBwdIdeal.Hand (kgr kgr_apply kdg kdg_apply row)
open scoped BigOperators

/-- What reaches one head's normalised columns. -/
def ku (e cs sn : FVec Ideal S256x128 .f32) : FVec Ideal S256x128 .f32 :=
  addf (mulf e cs) (matmul dot_S256x128_S128x128_S256x128_1_1_0_0_n_n (some .fp32) (mulf e sn) swap (constant S256x128 .f32 0x00000000#32))

theorem other_other (d : Fin 128) : other (other d) = d := by
  refine Fin.ext ?_
  simp only [other]
  split_ifs <;> omega
theorem ku_apply (e cs sn : FVec Ideal S256x128 .f32) (r : Fin 256) (d : Fin 128) :
    ku e cs sn (ix2 r d) = back (row e r) (row cs r) (row sn r) d := by
  have k (j : Fin 128) : (d = other j) = (j = other d) := propext ⟨fun h => by rw [h, other_other], fun h => by rw [h, other_other]⟩
  pointwise [ku]
  simp only [swap_apply, k, mul_ite, mul_one, mul_zero, Finset.sum_ite_eq', Finset.sum_ite_eq, Finset.mem_univ, if_true, zero_add]
  rfl

/-! A head's columns among the others, which are zero. -/
section
variable (x : FVec Ideal S256x128 .f32)

def zero {s : Shape} : FVec Ideal s .f32 := broadcast s (Scalar.ofBits (F := Ideal) .f32 0x00000000#32)
def q0 : FVec Ideal S256x1024 .f32 := concatenate S256x1024 1 [⟨S256x128, x⟩, ⟨S256x896, zero⟩] concatenates_S256x128_S256x896_S256x1024_d1
def q1 : FVec Ideal S256x1024 .f32 :=
  concatenate S256x1024 1 [⟨S256x256, concatenate S256x256 1 [⟨S256x128, zero⟩, ⟨S256x128, x⟩] concatenates_S256x128_S256x128_S256x256_d1⟩, ⟨S256x768, zero⟩] concatenates_S256x256_S256x768_S256x1024_d1
def q2 : FVec Ideal S256x1024 .f32 :=
  concatenate S256x1024 1 [⟨S256x384, concatenate S256x384 1 [⟨S256x256, zero⟩, ⟨S256x128, x⟩] concatenates_S256x256_S256x128_S256x384_d1⟩, ⟨S256x640, zero⟩] concatenates_S256x384_S256x640_S256x1024_d1
def q3 : FVec Ideal S256x1024 .f32 :=
  concatenate S256x1024 1 [⟨S256x512, concatenate S256x512 1 [⟨S256x384, zero⟩, ⟨S256x128, x⟩] concatenates_S256x384_S256x128_S256x512_d1⟩, ⟨S256x512, zero⟩] concatenates_S256x512_S256x512_S256x1024_d1
def q4 : FVec Ideal S256x1024 .f32 :=
  concatenate S256x1024 1 [⟨S256x640, concatenate S256x640 1 [⟨S256x512, zero⟩, ⟨S256x128, x⟩] concatenates_S256x512_S256x128_S256x640_d1⟩, ⟨S256x384, zero⟩] concatenates_S256x640_S256x384_S256x1024_d1
def q5 : FVec Ideal S256x1024 .f32 :=
  concatenate S256x1024 1 [⟨S256x768, concatenate S256x768 1 [⟨S256x640, zero⟩, ⟨S256x128, x⟩] concatenates_S256x640_S256x128_S256x768_d1⟩, ⟨S256x256, zero⟩] concatenates_S256x768_S256x256_S256x1024_d1
def q6 : FVec Ideal S256x1024 .f32 :=
  concatenate S256x1024 1 [⟨S256x896, concatenate S256x896 1 [⟨S256x768, zero⟩, ⟨S256x128, x⟩] concatenates_S256x768_S256x128_S256x896_d1⟩, ⟨S256x128, zero⟩] concatenates_S256x896_S256x128_S256x1024_d1
def q7 : FVec Ideal S256x1024 .f32 := concatenate S256x1024 1 [⟨S256x896, zero⟩, ⟨S256x128, x⟩] concatenates_S256x896_S256x128_S256x1024_d1
def qput : Fin 8 → FVec Ideal S256x1024 .f32 := ![q0 x, q1 x, q2 x, q3 x, q4 x, q5 x, q6 x, q7 x]

theorem qput_apply (k h : Fin 8) (r : Fin 256) (d : Fin 128) : qput x k (ix2 r (qc h d)) = if h.val = k.val then x (ix2 r d) else 0 := by
  have hd := d.isLt
  match k with
  | 0 | 1 | 2 | 3 | 4 | 5 | 6 | 7 =>
    pointwise [qput, q0, q1, q2, q3, q4, q5, q6, q7, zero, qc]
    split_ifs <;> first
      | rfl
      | (exfalso; omega)
      | exact (if_neg (by omega)).symm
      | (refine Eq.trans (b := x (ix2 r d)) (congrArg x (congrArg₂ ix2 rfl (Fin.ext ?_))) ?_
         · first | (show _ - _ = d.val; omega) | (show _ + _ = d.val; omega)
         · first | rfl | exact (if_pos (by omega)).symm)
end

section
variable (x : Fin 8 → FVec Ideal S256x128 .f32) (z : Fin 2 → FVec Ideal S256x128 .f32)
def qsum : FVec Ideal S256x1024 .f32 :=
  addf (addf (addf (addf (addf (addf (addf (qput (x 7) 7) (qput (x 6) 6)) (qput (x 5) 5)) (qput (x 4) 4)) (qput (x 3) 3)) (qput (x 2) 2)) (qput (x 1) 1)) (qput (x 0) 0)
def ksum : FVec Ideal S256x256 .f32 :=
  addf (concatenate S256x256 1 [⟨S256x128, zero⟩, ⟨S256x128, z 1⟩] concatenates_S256x128_S256x128_S256x256_d1)
    (concatenate S256x256 1 [⟨S256x128, z 0⟩, ⟨S256x128, zero⟩] concatenates_S256x128_S256x128_S256x256_d1)

theorem qsum_apply (h : Fin 8) (r : Fin 256) (d : Fin 128) : qsum x (ix2 r (qc h d)) = x h (ix2 r d) := by
  pointwise [qsum]
  simp only [qput_apply]
  match h with
  | 0 | 1 | 2 | 3 | 4 | 5 | 6 | 7 => simp
theorem ksum_apply (h : Fin 2) (r : Fin 256) (d : Fin 128) : ksum z (ix2 r (kc h d)) = z h (ix2 r d) := by
  have hd := d.isLt
  match h with
  | 0 | 1 =>
    pointwise [ksum, zero, kc]
end

section
variable (a : FVec Ideal S256x1024 .f32) (b : FVec Ideal S256x256 .f32) (cs sn : FVec Ideal S256x128 .f32) (g : FVec Ideal S1x128 .f32)
  (e : FVec Ideal S256x1024 .bf16) (f : FVec Ideal S256x256 .bf16)

def same (x : FVec Ideal S256x128 .f32) : FVec Ideal S256x128 .f32 := shapeCast S256x128 x shapeCasts_S256x128_S256x128
/-- What reaches the normalised columns of a query head and of a key head. -/
def qu (h : Fin 8) : FVec Ideal S256x128 .f32 := ku (qhead (extf .f32 e bitsLt_bf16_f32) h) (same cs) (same sn)
def kv (h : Fin 2) : FVec Ideal S256x128 .f32 := ku (khead (extf .f32 f bitsLt_bf16_f32) h) (same cs) (same sn)

def dq : FVec Ideal S256x1024 .f32 := qsum fun h => kgr (qhead a h) (qu cs sn e h) g
def dk : FVec Ideal S256x256 .f32 := ksum fun h => kgr (khead b h) (kv cs sn f h) g
def dqg : FVec Ideal S1x128 .f32 :=
  addf (addf (addf (addf (addf (addf (addf (kdg (qhead a 7) (qu cs sn e 7)) (kdg (qhead a 6) (qu cs sn e 6))) (kdg (qhead a 5) (qu cs sn e 5))) (kdg (qhead a 4) (qu cs sn e 4)))
    (kdg (qhead a 3) (qu cs sn e 3))) (kdg (qhead a 2) (qu cs sn e 2))) (kdg (qhead a 1) (qu cs sn e 1))) (kdg (qhead a 0) (qu cs sn e 0))
def dkg : FVec Ideal S1x128 .f32 := addf (kdg (khead b 1) (kv cs sn f 1)) (kdg (khead b 0) (kv cs sn f 0))

theorem dq_eq :
    k0_pay104 (F := Ideal) (k0_pay3 cs) (k0_pay4 sn) g k0_pay5 (k0_pay6 a) (k0_pay8 a) (k0_pay9 a) (k0_pay11 a) (k0_pay69 (k0_pay60 e))
      (k0_pay96 g (k0_pay16 a) (k0_pay18 a) (k0_pay19 a)
        (k0_pay92 (k0_pay3 cs) (k0_pay4 sn) g k0_pay5 (k0_pay21 a) (k0_pay23 a) (k0_pay24 a) (k0_pay26 a)
          (k0_pay30 (k0_pay27 a) k0_pay28) (k0_pay31 (k0_pay27 a) k0_pay28) (k0_pay72 (k0_pay60 e))
          (k0_pay85 (k0_pay3 cs) (k0_pay4 sn) g k0_pay5 (k0_pay33 a) (k0_pay35 a) (k0_pay36 a) (k0_pay38 a) (k0_pay74 (k0_pay60 e))
            (k0_pay78 (k0_pay3 cs) (k0_pay4 sn) g k0_pay5 (k0_pay43 a) (k0_pay45 a) (k0_pay47 (k0_pay46 a)) (k0_pay76 (k0_pay60 e)))
            (k0_pay82 (k0_pay3 cs) (k0_pay4 sn) g k0_pay5 (k0_pay38 a) (k0_pay41 a) (k0_pay75 (k0_pay60 e)))
            (k0_pay83 (k0_pay3 cs) (k0_pay4 sn) g k0_pay5 (k0_pay38 a) (k0_pay40 a) (k0_pay41 a) (k0_pay75 (k0_pay60 e))))
          (k0_pay88 (k0_pay3 cs) (k0_pay4 sn) g k0_pay5 (k0_pay73 (k0_pay60 e)))
          (k0_pay89 (k0_pay3 cs) (k0_pay4 sn) g k0_pay5 (k0_pay26 a) (k0_pay73 (k0_pay60 e))))
        (k0_pay93 (k0_pay3 cs) (k0_pay71 (k0_pay60 e))) (k0_pay94 (k0_pay4 sn) k0_pay5 (k0_pay71 (k0_pay60 e))))
      (k0_pay100 (k0_pay3 cs) (k0_pay4 sn) g k0_pay5 (k0_pay11 a) (k0_pay14 (k0_pay11 a)) (k0_pay70 (k0_pay60 e)))
      (k0_pay101 (k0_pay3 cs) (k0_pay4 sn) g k0_pay5 (k0_pay11 a) (k0_pay13 (k0_pay11 a)) (k0_pay14 (k0_pay11 a)) (k0_pay70 (k0_pay60 e)))
      = dq a cs sn g e := rfl
theorem dk_eq :
    k0_pay68 (F := Ideal) (k0_pay3 cs) (k0_pay4 sn) g k0_pay5 (k0_pay49 b) (k0_pay51 b) (k0_pay52 b) (k0_pay54 b) (k0_pay56 b) (k0_pay57 b) (k0_pay61 f)
      (k0_pay64 (k0_pay3 cs) (k0_pay4 sn) g f k0_pay5) (k0_pay65 b (k0_pay3 cs) (k0_pay4 sn) g f k0_pay5) = dk b cs sn g f := rfl
theorem dqg_eq :
    k0_pay103 (F := Ideal) (k0_pay3 cs) (k0_pay4 sn) k0_pay5 (k0_pay10 a) (k0_pay69 (k0_pay60 e))
      (k0_pay98 (k0_pay3 cs) (k0_pay4 sn) k0_pay5 (k0_pay15 (k0_pay11 a)) (k0_pay20 a) (k0_pay70 (k0_pay60 e))
        (k0_pay91 (k0_pay3 cs) (k0_pay4 sn) k0_pay5 (k0_pay25 a) (k0_pay72 (k0_pay60 e))
          (k0_pay87 (k0_pay3 cs) (k0_pay4 sn) k0_pay5 (k0_pay32 (k0_pay26 a) (k0_pay27 a) k0_pay28) (k0_pay37 a) (k0_pay73 (k0_pay60 e)) (k0_pay74 (k0_pay60 e))
            (k0_pay80 (k0_pay3 cs) (k0_pay4 sn) k0_pay5 (k0_pay42 a) (k0_pay48 (k0_pay43 a) (k0_pay45 a)) (k0_pay75 (k0_pay60 e)) (k0_pay76 (k0_pay60 e)))))
        (k0_pay93 (k0_pay3 cs) (k0_pay71 (k0_pay60 e))) (k0_pay94 (k0_pay4 sn) k0_pay5 (k0_pay71 (k0_pay60 e)))) = dqg a cs sn e := rfl
theorem dkg_eq :
    k0_pay67 (F := Ideal) (k0_pay3 cs) (k0_pay4 sn) k0_pay5 (k0_pay53 b) (k0_pay61 f) (k0_pay63 b (k0_pay3 cs) (k0_pay4 sn) f k0_pay5) = dkg b cs sn f := rfl

theorem same_row (x : FVec Ideal S256x128 .f32) (r : Fin 256) : row (same x) r = row x r := by
  funext d
  rw [row, row]
  pointwise [same]
theorem qu_apply (h : Fin 8) (r : Fin 256) (d : Fin 128) : qu cs sn e h (ix2 r d) = back (fun d => e (ix2 r (qc h d))) (row cs r) (row sn r) d := by
  rw [qu, ku_apply, same_row, same_row, show row (qhead (extf .f32 e bitsLt_bf16_f32) h) r = fun d => e (ix2 r (qc h d)) from funext fun d => qhead_apply _ h r d]
theorem kv_apply (h : Fin 2) (r : Fin 256) (d : Fin 128) : kv cs sn f h (ix2 r d) = back (fun d => f (ix2 r (kc h d))) (row cs r) (row sn r) d := by
  rw [kv, ku_apply, same_row, same_row, show row (khead (extf .f32 f bitsLt_bf16_f32) h) r = fun d => f (ix2 r (kc h d)) from funext fun d => khead_apply _ h r d]

theorem dq_apply (h : Fin 8) (r : Fin 256) (d : Fin 128) :
    dq a cs sn g e (ix2 r (qc h d)) = gr width (fun d => a (ix2 r (qc h d))) (back (fun d => e (ix2 r (qc h d))) (row cs r) (row sn r)) (row g 0) d := by
  rw [dq, qsum_apply, kgr_apply, show row (qhead a h) r = _ from funext fun d => qhead_apply a h r d, show row (qu cs sn e h) r = _ from funext fun d => qu_apply cs sn e h r d]
theorem dk_apply (h : Fin 2) (r : Fin 256) (d : Fin 128) :
    dk b cs sn g f (ix2 r (kc h d)) = gr width (fun d => b (ix2 r (kc h d))) (back (fun d => f (ix2 r (kc h d))) (row cs r) (row sn r)) (row g 0) d := by
  rw [dk, ksum_apply, kgr_apply, show row (khead b h) r = _ from funext fun d => khead_apply b h r d, show row (kv cs sn f h) r = _ from funext fun d => kv_apply cs sn f h r d]
theorem dqg_apply (d : Fin 128) :
    dqg a cs sn e (ix2 0 d) = ∑ r : Fin 256, ∑ h : Fin 8, nm width (fun d => a (ix2 r (qc h d))) d * back (fun d => e (ix2 r (qc h d))) (row cs r) (row sn r) d := by
  have k (h : Fin 8) : kdg (qhead a h) (qu cs sn e h) (ix2 0 d) = ∑ r : Fin 256, nm width (fun d => a (ix2 r (qc h d))) d * back (fun d => e (ix2 r (qc h d))) (row cs r) (row sn r) d := by
    rw [kdg_apply]
    refine Finset.sum_congr rfl fun r _ => ?_
    rw [show row (qhead a h) r = _ from funext fun d => qhead_apply a h r d, qu_apply]
  rw [Finset.sum_comm, Fin.sum_univ_eight]
  pointwise [dqg]
  simp only [k]
  ac_rfl
theorem dkg_apply (d : Fin 128) :
    dkg b cs sn f (ix2 0 d) = ∑ r : Fin 256, ∑ h : Fin 2, nm width (fun d => b (ix2 r (kc h d))) d * back (fun d => f (ix2 r (kc h d))) (row cs r) (row sn r) d := by
  have k (h : Fin 2) : kdg (khead b h) (kv cs sn f h) (ix2 0 d) = ∑ r : Fin 256, nm width (fun d => b (ix2 r (kc h d))) d * back (fun d => f (ix2 r (kc h d))) (row cs r) (row sn r) d := by
    rw [kdg_apply]
    refine Finset.sum_congr rfl fun r _ => ?_
    rw [show row (khead b h) r = _ from funext fun d => khead_apply b h r d, kv_apply]
  rw [Finset.sum_comm, Fin.sum_univ_two]
  pointwise [dkg]
  simp only [k]
  ac_rfl
end
end Cert.QkBwdIdeal.Hand
end
-- ==== Proof.QkFwdRef.lean ====
/-
  The reference's turned queries and keys, stage by stage, read in coordinates.
-/
module

public import proofs.«01_k».proof.Proof.Gen.QkFwdRefIdeal.Run
public import proofs.«01_k».proof.Proof.QkPairs

@[expose] public section

set_option maxRecDepth 16384

noncomputable section

namespace Cert.QkFwdRefIdeal.Hand

open Cert.QkFwdRefIdeal Cert.QkFwdRefIdeal.Gen Cert.QkFwdRefIdeal.Value Idealize.ShloMosaic Idealize.ShloMosaic.TcCoe Idealize.SL.Sem Idealize.ShloMosaic.StableHlo
open Cert.Proof.Norm Cert.Proof.Pairs
open scoped BigOperators

/-! The query heads. -/
section
variable (a : FVec Ideal S4352x1024 .f32) (C S : FVec Ideal S4096x64 .f32) (g : FVec Ideal S1x128 .f32)

def q0 : FVec Ideal S4352x8x128 .f32 := shapeCast _ a shapeCasts_S4352x1024_S4352x8x128
def qms : FVec Ideal S4352x8x1 .f32 :=
  addf (Host.divf (broadcastInDim S4352x8x1 ![0, 1] bcast_S4352x8_S4352x8x1_0_1 (Host.reduceAdd (mulf (q0 a) (q0 a)) (constant S_ .f32 0x00000000#32) reducesTo_S4352x8x128_S4352x8_d2 h_S_))
    (broadcastInDim S4352x8x1 ![] bcast_S_S4352x8x1 (constant S_ .f32 0x43000000#32))) (broadcastInDim S4352x8x1 ![] bcast_S_S4352x8x1 (constant S_ .f32 0x358637BD#32))
def qy : FVec Ideal S4352x8x128 .f32 :=
  mulf (mulf (q0 a) (broadcastInDim S4352x8x128 ![0, 1, 2] bcast_S4352x8x1_S4352x8x128_0_1_2 (Host.rsqrt (qms a))))
    (broadcastInDim S4352x8x128 ![0, 1, 2] bcast_S1x1x128_S4352x8x128_0_1_2 (broadcastInDim S1x1x128 ![2] bcast_S128_S1x1x128_2 (shapeCast _ g shapeCasts_S1x128_S128)))
/-- A row's cosine or sine, for every head and pair. -/
def qc : FVec Ideal S4096x8x64x1 .f32 := broadcastInDim S4096x8x64x1 ![0, 1, 2, 3] bcast_S4096x1x64x1_S4096x8x64x1_0_1_2_3 (broadcastInDim S4096x1x64x1 ![0, 2] bcast_S4096x64_S4096x1x64x1_0_2 C)
/-- The pairs of the latent rows, and a pair's first and second columns. -/
def qp : FVec Ideal S4096x8x64x2 .f32 := shapeCast _ (extractStridedSlice S4096x8x128 ![0, 0, 0] (qy a g) slices_S4352x8x128_S4096x8x128_0_0_0) shapeCasts_S4096x8x128_S4096x8x64x2
def ql : FVec Ideal S4096x8x64x1 .f32 := extractStridedSlice S4096x8x64x1 ![0, 0, 0, 0] (qp a g) slices_S4096x8x64x2_S4096x8x64x1_0_0_0_0
def qr : FVec Ideal S4096x8x64x1 .f32 := extractStridedSlice S4096x8x64x1 ![0, 0, 0, 1] (qp a g) slices_S4096x8x64x2_S4096x8x64x1_0_0_0_1
def qt : FVec Ideal S4096x8x128 .f32 :=
  shapeCast _ (fn_main_v32 (F := Ideal) (subf (mulf (ql a g) (qc C)) (mulf (qr a g) (qc S))) (addf (mulf (ql a g) (qc S)) (mulf (qr a g) (qc C)))) shapeCasts_S4096x8x64x2_S4096x8x128
def qall : FVec Ideal S4352x8x128 .f32 := fn_main_v34 (F := Ideal) (qt a C S g) (extractStridedSlice S256x8x128 ![4096, 0, 0] (qy a g) slices_S4352x8x128_S256x8x128_4096_0_0)
def qout : FVec Ideal S4352x1024 .bf16 := truncf .bf16 (shapeCast S4352x1024 (qall a C S g) shapeCasts_S4352x8x128_S4352x1024) bitsLt_bf16_f32

/-- A head's normalised columns. -/
def qrow (r : Fin 4352) (h : Fin 8) (d : Fin 128) : EReal := a (ix2 r ⟨h.val * 128 + d.val, by omega⟩)
def qnm (r : Fin 4352) (h : Fin 8) (d : Fin 128) : EReal := nm width (qrow a r h) d * g (ix2 0 d)

theorem q0_apply (r : Fin 4352) (h : Fin 8) (d : Fin 128) : q0 a (ix3 r h d) = qrow a r h d := by
  pointwise [q0]
  rfl
theorem qms_apply (r : Fin 4352) (h : Fin 8) : qms a (ix3 r h 0) = ms width (qrow a r h) := by
  pointwise [qms]
  simp only [q0_apply]
  rfl
theorem qy_apply (r : Fin 4352) (h : Fin 8) (d : Fin 128) : qy a g (ix3 r h d) = qnm a g r h d := by
  pointwise [qy]
  rw [q0_apply, qms_apply]
  rfl
theorem qc_apply (r : Fin 4096) (h : Fin 8) (k : Fin 64) : qc C (ix4 r h k 0) = C (ix2 r k) := by
  pointwise [qc]
theorem ql_apply (r : Fin 4096) (h : Fin 8) (k : Fin 64) : ql a g (ix4 r h k 0) = qnm a g ⟨r.val, by omega⟩ h (fst k) := by
  pointwise [ql, qp]
  exact qy_apply a g _ h _
theorem qr_apply (r : Fin 4096) (h : Fin 8) (k : Fin 64) : qr a g (ix4 r h k 0) = qnm a g ⟨r.val, by omega⟩ h (snd k) := by
  pointwise [qr, qp]
  exact qy_apply a g _ h _
theorem qt_apply (r : Fin 4096) (h : Fin 8) (d : Fin 128) :
    qt a C S g (ix3 r h d) = turned (qnm a g ⟨r.val, by omega⟩ h) (cosAt C ⟨r.val, by omega⟩) (sinAt S ⟨r.val, by omega⟩) d := by
  pointwise [qt, fn_main_v32]
  split
  · rename_i e
    rw [turned_first C S _ r d (by omega), ← ql_apply, ← qr_apply, ← qc_apply C r h, ← qc_apply S r h]
    rw [show (⟨d.val % 2, e⟩ : Fin 1) = 0 from Subsingleton.elim _ _]
    rfl
  · rename_i e
    rw [turned_second C S _ r d (by omega), ← ql_apply, ← qr_apply, ← qc_apply C r h, ← qc_apply S r h]
    rw [show (⟨d.val % 2 - 1, by omega⟩ : Fin 1) = 0 from Subsingleton.elim _ _]
    rfl
theorem qout_apply (r : Fin 4352) (h : Fin 8) (d : Fin 128) :
    qout a C S g (ix2 r ⟨h.val * 128 + d.val, by omega⟩) = turned (qnm a g r h) (cosAt C r) (sinAt S r) d := by
  pointwise [qout, qall, fn_main_v34]
  split
  · rename_i e
    exact qt_apply a C S g ⟨r.val, e⟩ h d
  · rename_i e
    rw [turned_context C S _ r e, qy_apply]
    exact congrArg (fun x => qnm a g x h d) (Fin.ext (by show 4096 + (r.val - 4096) = r.val; omega))
end

/-! The key heads. -/
section
variable (a : FVec Ideal S4352x256 .f32) (C S : FVec Ideal S4096x64 .f32) (g : FVec Ideal S1x128 .f32)

def k0 : FVec Ideal S4352x2x128 .f32 := shapeCast _ a shapeCasts_S4352x256_S4352x2x128
def kms : FVec Ideal S4352x2x1 .f32 :=
  addf (Host.divf (broadcastInDim S4352x2x1 ![0, 1] bcast_S4352x2_S4352x2x1_0_1 (Host.reduceAdd (mulf (k0 a) (k0 a)) (constant S_ .f32 0x00000000#32) reducesTo_S4352x2x128_S4352x2_d2 h_S_))
    (broadcastInDim S4352x2x1 ![] bcast_S_S4352x2x1 (constant S_ .f32 0x43000000#32))) (broadcastInDim S4352x2x1 ![] bcast_S_S4352x2x1 (constant S_ .f32 0x358637BD#32))
def ky : FVec Ideal S4352x2x128 .f32 :=
  mulf (mulf (k0 a) (broadcastInDim S4352x2x128 ![0, 1, 2] bcast_S4352x2x1_S4352x2x128_0_1_2 (Host.rsqrt (kms a))))
    (broadcastInDim S4352x2x128 ![0, 1, 2] bcast_S1x1x128_S4352x2x128_0_1_2 (broadcastInDim S1x1x128 ![2] bcast_S128_S1x1x128_2 (shapeCast _ g shapeCasts_S1x128_S128)))
/-- A row's cosine or sine, for every head and pair. -/
def kc : FVec Ideal S4096x2x64x1 .f32 := broadcastInDim S4096x2x64x1 ![0, 1, 2, 3] bcast_S4096x1x64x1_S4096x2x64x1_0_1_2_3 (broadcastInDim S4096x1x64x1 ![0, 2] bcast_S4096x64_S4096x1x64x1_0_2 C)
/-- The pairs of the latent rows, and a pair's first and second columns. -/
def kp : FVec Ideal S4096x2x64x2 .f32 := shapeCast _ (extractStridedSlice S4096x2x128 ![0, 0, 0] (ky a g) slices_S4352x2x128_S4096x2x128_0_0_0) shapeCasts_S4096x2x128_S4096x2x64x2
def kl : FVec Ideal S4096x2x64x1 .f32 := extractStridedSlice S4096x2x64x1 ![0, 0, 0, 0] (kp a g) slices_S4096x2x64x2_S4096x2x64x1_0_0_0_0
def kr : FVec Ideal S4096x2x64x1 .f32 := extractStridedSlice S4096x2x64x1 ![0, 0, 0, 1] (kp a g) slices_S4096x2x64x2_S4096x2x64x1_0_0_0_1
def kt : FVec Ideal S4096x2x128 .f32 :=
  shapeCast _ (fn_main_v69 (F := Ideal) (subf (mulf (kl a g) (kc C)) (mulf (kr a g) (kc S))) (addf (mulf (kl a g) (kc S)) (mulf (kr a g) (kc C)))) shapeCasts_S4096x2x64x2_S4096x2x128
def kall : FVec Ideal S4352x2x128 .f32 := fn_main_v71 (F := Ideal) (kt a C S g) (extractStridedSlice S256x2x128 ![4096, 0, 0] (ky a g) slices_S4352x2x128_S256x2x128_4096_0_0)
def kout : FVec Ideal S4352x256 .bf16 := truncf .bf16 (shapeCast S4352x256 (kall a C S g) shapeCasts_S4352x2x128_S4352x256) bitsLt_bf16_f32

/-- A head's normalised columns. -/
def krow (r : Fin 4352) (h : Fin 2) (d : Fin 128) : EReal := a (ix2 r ⟨h.val * 128 + d.val, by omega⟩)
def knm (r : Fin 4352) (h : Fin 2) (d : Fin 128) : EReal := nm width (krow a r h) d * g (ix2 0 d)

theorem k0_apply (r : Fin 4352) (h : Fin 2) (d : Fin 128) : k0 a (ix3 r h d) = krow a r h d := by
  pointwise [k0]
  rfl
theorem kms_apply (r : Fin 4352) (h : Fin 2) : kms a (ix3 r h 0) = ms width (krow a r h) := by
  pointwise [kms]
  simp only [k0_apply]
  rfl
theorem ky_apply (r : Fin 4352) (h : Fin 2) (d : Fin 128) : ky a g (ix3 r h d) = knm a g r h d := by
  pointwise [ky]
  rw [k0_apply, kms_apply]
  rfl
theorem kc_apply (r : Fin 4096) (h : Fin 2) (k : Fin 64) : kc C (ix4 r h k 0) = C (ix2 r k) := by
  pointwise [kc]
theorem kl_apply (r : Fin 4096) (h : Fin 2) (k : Fin 64) : kl a g (ix4 r h k 0) = knm a g ⟨r.val, by omega⟩ h (fst k) := by
  pointwise [kl, kp]
  exact ky_apply a g _ h _
theorem kr_apply (r : Fin 4096) (h : Fin 2) (k : Fin 64) : kr a g (ix4 r h k 0) = knm a g ⟨r.val, by omega⟩ h (snd k) := by
  pointwise [kr, kp]
  exact ky_apply a g _ h _
theorem kt_apply (r : Fin 4096) (h : Fin 2) (d : Fin 128) :
    kt a C S g (ix3 r h d) = turned (knm a g ⟨r.val, by omega⟩ h) (cosAt C ⟨r.val, by omega⟩) (sinAt S ⟨r.val, by omega⟩) d := by
  pointwise [kt, fn_main_v69]
  split
  · rename_i e
    rw [turned_first C S _ r d (by omega), ← kl_apply, ← kr_apply, ← kc_apply C r h, ← kc_apply S r h]
    rw [show (⟨d.val % 2, e⟩ : Fin 1) = 0 from Subsingleton.elim _ _]
    rfl
  · rename_i e
    rw [turned_second C S _ r d (by omega), ← kl_apply, ← kr_apply, ← kc_apply C r h, ← kc_apply S r h]
    rw [show (⟨d.val % 2 - 1, by omega⟩ : Fin 1) = 0 from Subsingleton.elim _ _]
    rfl
theorem kout_apply (r : Fin 4352) (h : Fin 2) (d : Fin 128) :
    kout a C S g (ix2 r ⟨h.val * 128 + d.val, by omega⟩) = turned (knm a g r h) (cosAt C r) (sinAt S r) d := by
  pointwise [kout, kall, fn_main_v71]
  split
  · rename_i e
    exact kt_apply a C S g ⟨r.val, e⟩ h d
  · rename_i e
    rw [turned_context C S _ r e, ky_apply]
    exact congrArg (fun x => knm a g x h d) (Fin.ext (by show 4096 + (r.val - 4096) = r.val; omega))
end

section
variable (m : (ℓ : Loc nD τ sig) → Buf (Elt Ideal) ℓ) (c : Dev nD)
theorem res_q : res_main_v36 m c = qout (m ((c.tc : Thread nD τ).loc main_arg0)) (m ((c.tc : Thread nD τ).loc main_arg3)) (m ((c.tc : Thread nD τ).loc main_arg4)) (m ((c.tc : Thread nD τ).loc main_arg5)) := rfl
theorem res_k : res_main_v73 m c = kout (m ((c.tc : Thread nD τ).loc main_arg1)) (m ((c.tc : Thread nD τ).loc main_arg3)) (m ((c.tc : Thread nD τ).loc main_arg4)) (m ((c.tc : Thread nD τ).loc main_arg6)) := rfl
end
end Cert.QkFwdRefIdeal.Hand
end
-- ==== Proof.QkBwdRef.lean ====
/-
  The reference's gradients of the turned queries and keys, stage by stage, read in coordinates.
-/
module

public import proofs.«01_k».proof.Proof.Gen.QkBwdRefIdeal.Run
public import proofs.«01_k».proof.Proof.QkFwdRef
public import proofs.«01_k».proof.Proof.HgRef

@[expose] public section

set_option maxRecDepth 16384

noncomputable section

namespace Cert.QkBwdRefIdeal.Hand

open Cert.QkBwdRefIdeal Cert.QkBwdRefIdeal.Gen Cert.QkBwdRefIdeal.Value Idealize.ShloMosaic Idealize.ShloMosaic.TcCoe Idealize.SL.Sem Idealize.ShloMosaic.StableHlo
open Cert.Proof.Norm Cert.Proof.Pairs
open Cert.QkFwdRefIdeal.Hand (q0 qms qc qrow q0_apply qms_apply qc_apply k0 kms kc krow k0_apply kms_apply kc_apply)
open Cert.HgGateBwdRefIdeal.Hand (sum_first_two)
open scoped BigOperators

/-! The turn's gradient in the pair's two columns. -/
section
variable (C S : FVec Ideal S4096x64 .f32) (y : Fin 128 → EReal) (r : Fin 4096) (d : Fin 128)

theorem back_first (h : d.val % 2 = 0) :
    back y (cosAt C ⟨r.val, by omega⟩) (sinAt S ⟨r.val, by omega⟩) d
      = y (snd (pairOf d)) * S (ix2 r (pairOf d)) + y (fst (pairOf d)) * C (ix2 r (pairOf d)) := by
  have p : (other d).val % 2 = 1 := by rw [other_first d h, Cert.Proof.Pairs.snd]; show (_ * 2 + 1) % 2 = 1; omega
  have q : pairOf (other d) = pairOf d := by rw [other_first d h]; refine Fin.ext ?_; show (_ * 2 + 1) / 2 = _; show ((d.val / 2) * 2 + 1) / 2 = d.val / 2; omega
  rw [back, cosAt_latent, sinAt_latent, sign_second _ p, q, mul_one, fst_pair d h, other_first d h, add_comm]
theorem back_second (h : d.val % 2 = 1) :
    back y (cosAt C ⟨r.val, by omega⟩) (sinAt S ⟨r.val, by omega⟩) d
      = y (snd (pairOf d)) * C (ix2 r (pairOf d)) + -y (fst (pairOf d)) * S (ix2 r (pairOf d)) := by
  have p : (other d).val % 2 = 0 := by rw [other_second d h]; show (_ * 2) % 2 = 0; omega
  have q : pairOf (other d) = pairOf d := by rw [other_second d h]; refine Fin.ext ?_; show ((d.val / 2) * 2) / 2 = d.val / 2; omega
  rw [back, cosAt_latent, sinAt_latent, sign_first _ p, q, snd_pair d h, other_second d h, mul_neg, mul_one, mul_neg, neg_mul]
end
theorem back_context (S : FVec Ideal S4096x64 .f32) (C : FVec Ideal S4096x64 .f32) (y : Fin 128 → EReal) (r : Fin 4352) (h : ¬ r.val < 4096) (d : Fin 128) :
    back y (cosAt C r) (sinAt S r) d = y d := by
  rw [back, cosAt, sinAt, dif_neg h, dif_neg h, mul_one, mul_zero, add_zero]

/-! The query heads. -/
section
variable (a : FVec Ideal S4352x1024 .f32) (C S : FVec Ideal S4096x64 .f32) (g : FVec Ideal S1x128 .f32) (e : FVec Ideal S4352x1024 .bf16)

/-- The pairs of what reaches the latent rows, and a pair's first and second columns. -/
def qe : FVec Ideal S4352x8x128 .f32 := shapeCast _ (extf .f32 e bitsLt_bf16_f32) shapeCasts_S4352x1024_S4352x8x128
def qep : FVec Ideal S4096x8x64x2 .f32 := shapeCast _ (extractStridedSlice S4096x8x128 ![0, 0, 0] (qe e) slices_S4352x8x128_S4096x8x128_0_0_0) shapeCasts_S4096x8x128_S4096x8x64x2
def qel : FVec Ideal S4096x8x64x1 .f32 := extractStridedSlice S4096x8x64x1 ![0, 0, 0, 0] (qep e) slices_S4096x8x64x2_S4096x8x64x1_0_0_0_0
def qer : FVec Ideal S4096x8x64x1 .f32 := extractStridedSlice S4096x8x64x1 ![0, 0, 0, 1] (qep e) slices_S4096x8x64x2_S4096x8x64x1_0_0_0_1
def qtu : FVec Ideal S4096x8x128 .f32 :=
  shapeCast _ (concatenate S4096x8x64x2 3 [⟨S4096x8x64x1, (addf (mulf (qer e) (qc S)) (mulf (qel e) (qc C)))⟩, ⟨S4096x8x64x1, (addf (mulf (qer e) (qc C)) (mulf (Host.negf (qel e)) (qc S)))⟩]
    concatenates_S4096x8x64x1_S4096x8x64x1_S4096x8x64x2_d3) shapeCasts_S4096x8x64x2_S4096x8x128
/-- What reaches the scaled columns. -/
def qu : FVec Ideal S4352x8x128 .f32 :=
  concatenate S4352x8x128 0 [⟨S4096x8x128, qtu C S e⟩, ⟨S256x8x128, extractStridedSlice S256x8x128 ![4096, 0, 0] (qe e) slices_S4352x8x128_S256x8x128_4096_0_0⟩]
    concatenates_S4096x8x128_S256x8x128_S4352x8x128_d0
def qrs : FVec Ideal S4352x8x128 .f32 := broadcastInDim S4352x8x128 ![0, 1, 2] bcast_S4352x8x1_S4352x8x128_0_1_2 (Host.rsqrt (qms a))
def qn : FVec Ideal S4352x8x128 .f32 := mulf (q0 a) (qrs a)
def qw : FVec Ideal S4352x8x128 .f32 :=
  mulf (qu C S e) (broadcastInDim S4352x8x128 ![0, 1, 2] bcast_S1x1x128_S4352x8x128_0_1_2 (broadcastInDim S1x1x128 ![2] bcast_S128_S1x1x128_2 (shapeCast _ g shapeCasts_S1x128_S128)))
def qcs : FVec Ideal S4352x8x1 .f32 := mulf (broadcastInDim S4352x8x1 ![] bcast_S_S4352x8x1 (constant S_ .f32 0xBF000000#32)) (Host.divf (Host.rsqrt (qms a)) (qms a))
def qs : FVec Ideal S4352x8 .f32 := Host.reduceAdd (mulf (q0 a) (qw C S g e)) (constant S_ .f32 0x00000000#32) reducesTo_S4352x8x128_S4352x8_d2 h_S_
def qbb : FVec Ideal S4352x8x1 .f32 :=
  Host.divf (mulf (shapeCast _ (qs a C S g e) shapeCasts_S4352x8_S4352x8x1) (qcs a)) (broadcastInDim S4352x8x1 ![] bcast_S_S4352x8x1 (constant S_ .f32 0x43000000#32))
def qb : FVec Ideal S4352x8x128 .f32 :=
  broadcastInDim S4352x8x128 ![0, 1] bcast_S4352x8_S4352x8x128_0_1 (Host.reduceAdd (qbb a C S g e) (constant S_ .f32 0x00000000#32) reducesTo_S4352x8x1_S4352x8_d2 h_S_)
def qgrad : FVec Ideal S4352x1024 .f32 :=
  shapeCast _ (addf (addf (mulf (qw C S g e) (qrs a)) (mulf (q0 a) (qb a C S g e))) (mulf (qb a C S g e) (q0 a))) shapeCasts_S4352x8x128_S4352x1024
def qgain : FVec Ideal S1x128 .f32 :=
  broadcastInDim S1x128 ![1] bcast_S128_S1x128_1 (Host.reduceAdd (shapeCast _ (Host.reduceAdd (mulf (qn a) (qu C S e)) (constant S_ .f32 0x00000000#32) reducesTo_S4352x8x128_S128_d0_1 h_S_)
    shapeCasts_S128_S1x1x128) (constant S_ .f32 0x00000000#32) reducesTo_S1x1x128_S128_d0_1 h_S_)

/-- A head's incoming columns, and what reaches its scaled columns. -/
def qin (r : Fin 4352) (h : Fin 8) (d : Fin 128) : EReal := e (ix2 r ⟨h.val * 128 + d.val, by omega⟩)
def qback (r : Fin 4352) (h : Fin 8) : Fin 128 → EReal := back (qin e r h) (cosAt C r) (sinAt S r)

theorem qe_apply (r : Fin 4352) (h : Fin 8) (d : Fin 128) : qe e (ix3 r h d) = qin e r h d := by
  pointwise [qe]
  rfl
theorem qel_apply (r : Fin 4096) (h : Fin 8) (k : Fin 64) : qel e (ix4 r h k 0) = qin e ⟨r.val, by omega⟩ h (fst k) := by
  pointwise [qel, qep]
  exact qe_apply e _ h _
theorem qer_apply (r : Fin 4096) (h : Fin 8) (k : Fin 64) : qer e (ix4 r h k 0) = qin e ⟨r.val, by omega⟩ h (snd k) := by
  pointwise [qer, qep]
  exact qe_apply e _ h _
theorem qtu_apply (r : Fin 4096) (h : Fin 8) (d : Fin 128) : qtu C S e (ix3 r h d) = qback C S e ⟨r.val, by omega⟩ h d := by
  rw [qback]
  pointwise [qtu]
  split
  · rename_i p
    rw [back_first C S _ r d (by omega), ← qel_apply, ← qer_apply, ← qc_apply C r h, ← qc_apply S r h]
    rw [show (⟨d.val % 2, p⟩ : Fin 1) = 0 from Subsingleton.elim _ _]
    rfl
  · rename_i p
    rw [back_second C S _ r d (by omega), ← qel_apply, ← qer_apply, ← qc_apply C r h, ← qc_apply S r h]
    rw [show (⟨d.val % 2 - 1, by omega⟩ : Fin 1) = 0 from Subsingleton.elim _ _]
    rfl
theorem qu_apply (r : Fin 4352) (h : Fin 8) (d : Fin 128) : qu C S e (ix3 r h d) = qback C S e r h d := by
  pointwise [qu]
  split
  · rename_i p
    exact qtu_apply C S e ⟨r.val, p⟩ h d
  · rename_i p
    rw [qback, back_context S C _ r p, qe_apply]
    exact congrArg (fun x => qin e x h d) (Fin.ext (by show 4096 + (r.val - 4096) = r.val; omega))
theorem qrs_apply (r : Fin 4352) (h : Fin 8) (d : Fin 128) : qrs a (ix3 r h d) = rs width (qrow a r h) := by
  pointwise [qrs]
  rw [qms_apply, rs]
theorem qn_apply (r : Fin 4352) (h : Fin 8) (d : Fin 128) : qn a (ix3 r h d) = nm width (qrow a r h) d := by
  pointwise [qn]
  rw [q0_apply, qrs_apply, nm]
theorem qw_apply (r : Fin 4352) (h : Fin 8) (d : Fin 128) : qw C S g e (ix3 r h d) = qback C S e r h d * g (ix2 0 d) := by
  pointwise [qw]
  rw [qu_apply]
theorem qcs_apply (r : Fin 4352) (h : Fin 8) : qcs a (ix3 r h 0) = cs width (qrow a r h) := by
  pointwise [qcs]
  rw [qms_apply]
  rfl
theorem qs_apply (r : Fin 4352) (h : Fin 8) : qs a C S g e (ix2 r h) = ∑ d, qrow a r h d * (qback C S e r h d * g (ix2 0 d)) := by
  pointwise [qs]
  simp only [q0_apply, qw_apply]
theorem qbb_apply (r : Fin 4352) (h : Fin 8) : qbb a C S g e (ix3 r h 0) = bb width (qrow a r h) (qback C S e r h) fun d => g (ix2 0 d) := by
  pointwise [qbb]
  rw [qs_apply, qcs_apply]
  rfl
theorem qb_apply (r : Fin 4352) (h : Fin 8) (d : Fin 128) : qb a C S g e (ix3 r h d) = bb width (qrow a r h) (qback C S e r h) fun d => g (ix2 0 d) := by
  pointwise [qb]
  rw [Fin.sum_univ_one, qbb_apply]
theorem qgrad_apply (r : Fin 4352) (h : Fin 8) (d : Fin 128) :
    qgrad a C S g e (ix2 r ⟨h.val * 128 + d.val, by omega⟩) = gr width (qrow a r h) (qback C S e r h) (fun d => g (ix2 0 d)) d := by
  pointwise [qgrad]
  rw [q0_apply, qrs_apply, qw_apply, qb_apply, gr]
theorem qgain_apply (d : Fin 128) : qgain a C S e (ix2 0 d) = ∑ r : Fin 4352, ∑ h : Fin 8, nm width (qrow a r h) d * qback C S e r h d := by
  pointwise [qgain]
  rw [sum_first_two, Fin.sum_univ_one, Fin.sum_univ_one]
  pointwise
  rw [sum_first_two]
  refine Finset.sum_congr rfl fun r _ => Finset.sum_congr rfl fun h _ => ?_
  pointwise
  rw [qn_apply, qu_apply]
end

/-! The key heads. -/
section
variable (a : FVec Ideal S4352x256 .f32) (C S : FVec Ideal S4096x64 .f32) (g : FVec Ideal S1x128 .f32) (e : FVec Ideal S4352x256 .bf16)

/-- The pairs of what reaches the latent rows, and a pair's first and second columns. -/
def ke : FVec Ideal S4352x2x128 .f32 := shapeCast _ (extf .f32 e bitsLt_bf16_f32) shapeCasts_S4352x256_S4352x2x128
def kep : FVec Ideal S4096x2x64x2 .f32 := shapeCast _ (extractStridedSlice S4096x2x128 ![0, 0, 0] (ke e) slices_S4352x2x128_S4096x2x128_0_0_0) shapeCasts_S4096x2x128_S4096x2x64x2
def kel : FVec Ideal S4096x2x64x1 .f32 := extractStridedSlice S4096x2x64x1 ![0, 0, 0, 0] (kep e) slices_S4096x2x64x2_S4096x2x64x1_0_0_0_0
def ker : FVec Ideal S4096x2x64x1 .f32 := extractStridedSlice S4096x2x64x1 ![0, 0, 0, 1] (kep e) slices_S4096x2x64x2_S4096x2x64x1_0_0_0_1
def ktu : FVec Ideal S4096x2x128 .f32 :=
  shapeCast _ (concatenate S4096x2x64x2 3 [⟨S4096x2x64x1, (addf (mulf (ker e) (kc S)) (mulf (kel e) (kc C)))⟩, ⟨S4096x2x64x1, (addf (mulf (ker e) (kc C)) (mulf (Host.negf (kel e)) (kc S)))⟩]
    concatenates_S4096x2x64x1_S4096x2x64x1_S4096x2x64x2_d3) shapeCasts_S4096x2x64x2_S4096x2x128
/-- What reaches the scaled columns. -/
def ku : FVec Ideal S4352x2x128 .f32 :=
  concatenate S4352x2x128 0 [⟨S4096x2x128, ktu C S e⟩, ⟨S256x2x128, extractStridedSlice S256x2x128 ![4096, 0, 0] (ke e) slices_S4352x2x128_S256x2x128_4096_0_0⟩]
    concatenates_S4096x2x128_S256x2x128_S4352x2x128_d0
def krs : FVec Ideal S4352x2x128 .f32 := broadcastInDim S4352x2x128 ![0, 1, 2] bcast_S4352x2x1_S4352x2x128_0_1_2 (Host.rsqrt (kms a))
def kn : FVec Ideal S4352x2x128 .f32 := mulf (k0 a) (krs a)
def kw : FVec Ideal S4352x2x128 .f32 :=
  mulf (ku C S e) (broadcastInDim S4352x2x128 ![0, 1, 2] bcast_S1x1x128_S4352x2x128_0_1_2 (broadcastInDim S1x1x128 ![2] bcast_S128_S1x1x128_2 (shapeCast _ g shapeCasts_S1x128_S128)))
def kcs : FVec Ideal S4352x2x1 .f32 := mulf (broadcastInDim S4352x2x1 ![] bcast_S_S4352x2x1 (constant S_ .f32 0xBF000000#32)) (Host.divf (Host.rsqrt (kms a)) (kms a))
def ks : FVec Ideal S4352x2 .f32 := Host.reduceAdd (mulf (k0 a) (kw C S g e)) (constant S_ .f32 0x00000000#32) reducesTo_S4352x2x128_S4352x2_d2 h_S_
def kbb : FVec Ideal S4352x2x1 .f32 :=
  Host.divf (mulf (shapeCast _ (ks a C S g e) shapeCasts_S4352x2_S4352x2x1) (kcs a)) (broadcastInDim S4352x2x1 ![] bcast_S_S4352x2x1 (constant S_ .f32 0x43000000#32))
def kb : FVec Ideal S4352x2x128 .f32 :=
  broadcastInDim S4352x2x128 ![0, 1] bcast_S4352x2_S4352x2x128_0_1 (Host.reduceAdd (kbb a C S g e) (constant S_ .f32 0x00000000#32) reducesTo_S4352x2x1_S4352x2_d2 h_S_)
def kgrad : FVec Ideal S4352x256 .f32 :=
  shapeCast _ (addf (addf (mulf (kw C S g e) (krs a)) (mulf (k0 a) (kb a C S g e))) (mulf (kb a C S g e) (k0 a))) shapeCasts_S4352x2x128_S4352x256
def kgain : FVec Ideal S1x128 .f32 :=
  broadcastInDim S1x128 ![1] bcast_S128_S1x128_1 (Host.reduceAdd (shapeCast _ (Host.reduceAdd (mulf (kn a) (ku C S e)) (constant S_ .f32 0x00000000#32) reducesTo_S4352x2x128_S128_d0_1 h_S_)
    shapeCasts_S128_S1x1x128) (constant S_ .f32 0x00000000#32) reducesTo_S1x1x128_S128_d0_1 h_S_)

/-- A head's incoming columns, and what reaches its scaled columns. -/
def kin (r : Fin 4352) (h : Fin 2) (d : Fin 128) : EReal := e (ix2 r ⟨h.val * 128 + d.val, by omega⟩)
def kback (r : Fin 4352) (h : Fin 2) : Fin 128 → EReal := back (kin e r h) (cosAt C r) (sinAt S r)

theorem ke_apply (r : Fin 4352) (h : Fin 2) (d : Fin 128) : ke e (ix3 r h d) = kin e r h d := by
  pointwise [ke]
  rfl
theorem kel_apply (r : Fin 4096) (h : Fin 2) (k : Fin 64) : kel e (ix4 r h k 0) = kin e ⟨r.val, by omega⟩ h (fst k) := by
  pointwise [kel, kep]
  exact ke_apply e _ h _
theorem ker_apply (r : Fin 4096) (h : Fin 2) (k : Fin 64) : ker e (ix4 r h k 0) = kin e ⟨r.val, by omega⟩ h (snd k) := by
  pointwise [ker, kep]
  exact ke_apply e _ h _
theorem ktu_apply (r : Fin 4096) (h : Fin 2) (d : Fin 128) : ktu C S e (ix3 r h d) = kback C S e ⟨r.val, by omega⟩ h d := by
  rw [kback]
  pointwise [ktu]
  split
  · rename_i p
    rw [back_first C S _ r d (by omega), ← kel_apply, ← ker_apply, ← kc_apply C r h, ← kc_apply S r h]
    rw [show (⟨d.val % 2, p⟩ : Fin 1) = 0 from Subsingleton.elim _ _]
    rfl
  · rename_i p
    rw [back_second C S _ r d (by omega), ← kel_apply, ← ker_apply, ← kc_apply C r h, ← kc_apply S r h]
    rw [show (⟨d.val % 2 - 1, by omega⟩ : Fin 1) = 0 from Subsingleton.elim _ _]
    rfl
theorem ku_apply (r : Fin 4352) (h : Fin 2) (d : Fin 128) : ku C S e (ix3 r h d) = kback C S e r h d := by
  pointwise [ku]
  split
  · rename_i p
    exact ktu_apply C S e ⟨r.val, p⟩ h d
  · rename_i p
    rw [kback, back_context S C _ r p, ke_apply]
    exact congrArg (fun x => kin e x h d) (Fin.ext (by show 4096 + (r.val - 4096) = r.val; omega))
theorem krs_apply (r : Fin 4352) (h : Fin 2) (d : Fin 128) : krs a (ix3 r h d) = rs width (krow a r h) := by
  pointwise [krs]
  rw [kms_apply, rs]
theorem kn_apply (r : Fin 4352) (h : Fin 2) (d : Fin 128) : kn a (ix3 r h d) = nm width (krow a r h) d := by
  pointwise [kn]
  rw [k0_apply, krs_apply, nm]
theorem kw_apply (r : Fin 4352) (h : Fin 2) (d : Fin 128) : kw C S g e (ix3 r h d) = kback C S e r h d * g (ix2 0 d) := by
  pointwise [kw]
  rw [ku_apply]
theorem kcs_apply (r : Fin 4352) (h : Fin 2) : kcs a (ix3 r h 0) = cs width (krow a r h) := by
  pointwise [kcs]
  rw [kms_apply]
  rfl
theorem ks_apply (r : Fin 4352) (h : Fin 2) : ks a C S g e (ix2 r h) = ∑ d, krow a r h d * (kback C S e r h d * g (ix2 0 d)) := by
  pointwise [ks]
  simp only [k0_apply, kw_apply]
theorem kbb_apply (r : Fin 4352) (h : Fin 2) : kbb a C S g e (ix3 r h 0) = bb width (krow a r h) (kback C S e r h) fun d => g (ix2 0 d) := by
  pointwise [kbb]
  rw [ks_apply, kcs_apply]
  rfl
theorem kb_apply (r : Fin 4352) (h : Fin 2) (d : Fin 128) : kb a C S g e (ix3 r h d) = bb width (krow a r h) (kback C S e r h) fun d => g (ix2 0 d) := by
  pointwise [kb]
  rw [Fin.sum_univ_one, kbb_apply]
theorem kgrad_apply (r : Fin 4352) (h : Fin 2) (d : Fin 128) :
    kgrad a C S g e (ix2 r ⟨h.val * 128 + d.val, by omega⟩) = gr width (krow a r h) (kback C S e r h) (fun d => g (ix2 0 d)) d := by
  pointwise [kgrad]
  rw [k0_apply, krs_apply, kw_apply, kb_apply, gr]
theorem kgain_apply (d : Fin 128) : kgain a C S e (ix2 0 d) = ∑ r : Fin 4352, ∑ h : Fin 2, nm width (krow a r h) d * kback C S e r h d := by
  pointwise [kgain]
  rw [sum_first_two, Fin.sum_univ_one, Fin.sum_univ_one]
  pointwise
  rw [sum_first_two]
  refine Finset.sum_congr rfl fun r _ => Finset.sum_congr rfl fun h _ => ?_
  pointwise
  rw [kn_apply, ku_apply]
end

end Cert.QkBwdRefIdeal.Hand
end
-- ==== Proof.QkBwdArrays.lean ====
/-
  The gradients of the turned queries and keys are the reference's: each grid point takes one block of rows and reads its
  rows of the two tables that the version's host lines make, and the two scales' gradients add up over the grid points.
-/
module

public import proofs.«01_k».proof.Proof.QkBwdBlocks
public import proofs.«01_k».proof.Proof.QkBwdRef
public import proofs.«01_k».proof.Proof.HgArrays

@[expose] public section

set_option maxRecDepth 16384

noncomputable section

namespace Cert.QkBwdIdeal.Hand

open Cert.QkBwdIdeal Cert.QkBwdIdeal.Gen Idealize.ShloMosaic Idealize.ShloMosaic.TcCoe Idealize.SL.Sem
open Cert.Proof.Norm Cert.Proof.Pairs
open Cert.HgGateBwdIdeal.Hand (rowOf rowOf_val row column_of sum_rows)
open Cert.QkBwdRefIdeal.Hand (qgrad qgain kgrad kgain qback kback qgrad_apply qgain_apply kgrad_apply kgain_apply)
open Cert.QkFwdRefIdeal.Hand (qrow krow)
open scoped BigOperators

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx7 : ∀ t : Fin cfg0.N, win0_7.index t = ![t.val, 0] := (by decide +kernel : ∀ t : Fin grid0.N, win0_7.index t = ![t.val, 0])
theorem idx8 : ∀ t : Fin cfg0.N, win0_8.index t = ![t.val, 0] := (by decide +kernel : ∀ t : Fin grid0.N, win0_8.index t = ![t.val, 0])
theorem idx9 : ∀ t : Fin cfg0.N, win0_9.index t = ![t.val, 0] := (by decide +kernel : ∀ t : Fin grid0.N, win0_9.index t = ![t.val, 0])
theorem idx10 : ∀ t : Fin cfg0.N, win0_10.index t = ![t.val, 0] := (by decide +kernel : ∀ t : Fin grid0.N, win0_10.index t = ![t.val, 0])
theorem idx11 : ∀ t : Fin cfg0.N, win0_11.index t = ![t.val, 0] := (by decide +kernel : ∀ t : Fin grid0.N, win0_11.index t = ![t.val, 0])
theorem idx12 : ∀ t : Fin cfg0.N, win0_12.index t = ![t.val, 0] := (by decide +kernel : ∀ t : Fin grid0.N, win0_12.index t = ![t.val, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx13 : ∀ t : Fin cfg0.N, win0_13.index t = ![0, 0] := (by decide +kernel : ∀ t : Fin grid0.N, win0_13.index t = ![0, 0])
theorem idx14 : ∀ t : Fin cfg0.N, win0_14.index t = ![0, 0] := (by decide +kernel : ∀ t : Fin grid0.N, win0_14.index t = ![0, 0])
theorem flush13 : ∀ t : Fin cfg0.N, (cfg0.win 13).flush t = true → t.val % 17 = 16 := by decide +kernel
theorem flush14 : ∀ t : Fin cfg0.N, (cfg0.win 14).flush t = true → t.val % 17 = 16 := by decide +kernel

section
variable (m : (ℓ : Loc nD τ sig) → Buf (Elt Ideal) ℓ) (c : Dev nD)

def A0 : FVec Ideal S4352x1024 .f32 := m ((c.tc : Thread nD τ).loc main_arg0)
def A1 : FVec Ideal S4352x256 .f32 := m ((c.tc : Thread nD τ).loc main_arg1)
def A2 : FVec Ideal S4352x256 .f32 := m ((c.tc : Thread nD τ).loc main_arg2)
def A3 : FVec Ideal S4096x64 .f32 := m ((c.tc : Thread nD τ).loc main_arg3)
def A4 : FVec Ideal S4096x64 .f32 := m ((c.tc : Thread nD τ).loc main_arg4)
def A5 : FVec Ideal S1x128 .f32 := m ((c.tc : Thread nD τ).loc main_arg5)
def A6 : FVec Ideal S1x128 .f32 := m ((c.tc : Thread nD τ).loc main_arg6)
def A7 : FVec Ideal S4352x1024 .bf16 := m ((c.tc : Thread nD τ).loc main_arg7)
def A8 : FVec Ideal S4352x256 .bf16 := m ((c.tc : Thread nD τ).loc main_arg8)
def A9 : FVec Ideal S4352x256 .bf16 := m ((c.tc : Thread nD τ).loc main_arg9)

theorem tab_cos : V m c main_v11 = cosT (A3 m c) := by
  unfold V
  after_results_simp <;> rfl
theorem tab_sin : V m c main_v13 = sinT (A4 m c) := by
  unfold V
  after_results_simp <;> rfl

def aB (t : Fin cfg0.N) : FVec Ideal S256x1024 .f32 := iblk m c 0 t
def bB (t : Fin cfg0.N) : FVec Ideal S256x256 .f32 := iblk m c 1 t
def csB (t : Fin cfg0.N) : FVec Ideal S256x128 .f32 := iblk m c 3 t
def snB (t : Fin cfg0.N) : FVec Ideal S256x128 .f32 := iblk m c 4 t
def qgB (t : Fin cfg0.N) : FVec Ideal S1x128 .f32 := iblk m c 5 t
def kgB (t : Fin cfg0.N) : FVec Ideal S1x128 .f32 := iblk m c 6 t
def eB (t : Fin cfg0.N) : FVec Ideal S256x1024 .bf16 := iblk m c 7 t
def fB (t : Fin cfg0.N) : FVec Ideal S256x256 .bf16 := iblk m c 8 t
def vB (t : Fin cfg0.N) : FVec Ideal S256x256 .bf16 := iblk m c 9 t

theorem csB_apply (t : Fin cfg0.N) (r : Fin 256) (d : Fin 128) : csB m c t (ix2 r d) = cosAt (A3 m c) (rowOf t.val r) d := by
  have ht : t.val < 17 := lt_of_lt_of_eq t.isLt N_0
  rw [← cosT_apply, ← tab_cos, csB]
  blk_ext [iblk, idx3 t] <;> simp only [rowOf_val ht] <;> omega
theorem snB_apply (t : Fin cfg0.N) (r : Fin 256) (d : Fin 128) : snB m c t (ix2 r d) = sinAt (A4 m c) (rowOf t.val r) d := by
  have ht : t.val < 17 := lt_of_lt_of_eq t.isLt N_0
  rw [← sinT_apply, ← tab_sin, snB]
  blk_ext [iblk, idx4 t] <;> simp only [rowOf_val ht] <;> omega
theorem aB_apply (t : Fin cfg0.N) (r : Fin 256) (j : Fin 1024) : aB m c t (ix2 r j) = A0 m c (ix2 (rowOf t.val r) j) := by
  have ht : t.val < 17 := lt_of_lt_of_eq t.isLt N_0
  rw [A0, ← V_main_arg0 m c, aB]
  blk_ext [iblk, idx0 t] <;> simp only [rowOf_val ht] <;> omega
theorem bB_apply (t : Fin cfg0.N) (r : Fin 256) (j : Fin 256) : bB m c t (ix2 r j) = A1 m c (ix2 (rowOf t.val r) j) := by
  have ht : t.val < 17 := lt_of_lt_of_eq t.isLt N_0
  rw [A1, ← V_main_arg1 m c, bB]
  blk_ext [iblk, idx1 t] <;> simp only [rowOf_val ht] <;> omega
theorem eB_apply (t : Fin cfg0.N) (r : Fin 256) (j : Fin 1024) : eB m c t (ix2 r j) = A7 m c (ix2 (rowOf t.val r) j) := by
  have ht : t.val < 17 := lt_of_lt_of_eq t.isLt N_0
  rw [A7, ← V_main_arg7 m c, eB]
  blk_ext [iblk, idx7 t] <;> simp only [rowOf_val ht] <;> omega
theorem fB_apply (t : Fin cfg0.N) (r : Fin 256) (j : Fin 256) : fB m c t (ix2 r j) = A8 m c (ix2 (rowOf t.val r) j) := by
  have ht : t.val < 17 := lt_of_lt_of_eq t.isLt N_0
  rw [A8, ← V_main_arg8 m c, fB]
  blk_ext [iblk, idx8 t] <;> simp only [rowOf_val ht] <;> omega
theorem vB_apply (t : Fin cfg0.N) (r : Fin 256) (j : Fin 256) : vB m c t (ix2 r j) = A9 m c (ix2 (rowOf t.val r) j) := by
  have ht : t.val < 17 := lt_of_lt_of_eq t.isLt N_0
  rw [A9, ← V_main_arg9 m c, vB]
  blk_ext [iblk, idx9 t] <;> simp only [rowOf_val ht] <;> omega
theorem qgB_apply (t : Fin cfg0.N) (d : Fin 128) : qgB m c t (ix2 0 d) = A5 m c (ix2 0 d) := by
  rw [A5, ← V_main_arg5 m c, qgB]
  blk_ext [iblk, idx5 t] <;> omega
theorem kgB_apply (t : Fin cfg0.N) (d : Fin 128) : kgB m c t (ix2 0 d) = A6 m c (ix2 0 d) := by
  rw [A6, ← V_main_arg6 m c, kgB]
  blk_ext [iblk, idx6 t] <;> omega

/-! A block's rows are the array's. -/
theorem cs_row (t : Fin cfg0.N) (r : Fin 256) : row (csB m c t) r = cosAt (A3 m c) (rowOf t.val r) := funext fun d => csB_apply m c t r d
theorem sn_row (t : Fin cfg0.N) (r : Fin 256) : row (snB m c t) r = sinAt (A4 m c) (rowOf t.val r) := funext fun d => snB_apply m c t r d
theorem a_row (t : Fin cfg0.N) (r : Fin 256) (h : Fin 8) : (fun d => aB m c t (ix2 r (qc h d))) = qrow (A0 m c) (rowOf t.val r) h :=
  funext fun d => aB_apply m c t r _
theorem b_row (t : Fin cfg0.N) (r : Fin 256) (h : Fin 2) : (fun d => bB m c t (ix2 r (kc h d))) = krow (A1 m c) (rowOf t.val r) h :=
  funext fun d => bB_apply m c t r _
theorem e_back (t : Fin cfg0.N) (r : Fin 256) (h : Fin 8) :
    back (fun d => eB m c t (ix2 r (qc h d))) (row (csB m c t) r) (row (snB m c t) r) = qback (A3 m c) (A4 m c) (A7 m c) (rowOf t.val r) h := by
  rw [cs_row, sn_row, qback, show (fun d => eB m c t (ix2 r (qc h d))) = _ from funext fun d => eB_apply m c t r _]
  rfl
theorem f_back (t : Fin cfg0.N) (r : Fin 256) (h : Fin 2) :
    back (fun d => fB m c t (ix2 r (kc h d))) (row (csB m c t) r) (row (snB m c t) r) = kback (A3 m c) (A4 m c) (A8 m c) (rowOf t.val r) h := by
  rw [cs_row, sn_row, kback, show (fun d => fB m c t (ix2 r (kc h d))) = _ from funext fun d => fB_apply m c t r _]
  rfl

/-! A grid point's results. -/
def dqB (t : Fin cfg0.N) : FVec Ideal S256x1024 .f32 := dq (aB m c t) (csB m c t) (snB m c t) (qgB m c t) (eB m c t)
def dkB (t : Fin cfg0.N) : FVec Ideal S256x256 .f32 := dk (bB m c t) (csB m c t) (snB m c t) (kgB m c t) (fB m c t)
def dvB (t : Fin cfg0.N) : FVec Ideal S256x256 .f32 := extf .f32 (vB m c t) bitsLt_bf16_f32
def dqgB (t : Fin cfg0.N) : FVec Ideal S1x128 .f32 := dqg (aB m c t) (csB m c t) (snB m c t) (eB m c t)
def dkgB (t : Fin cfg0.N) : FVec Ideal S1x128 .f32 := dkg (bB m c t) (csB m c t) (snB m c t) (fB m c t)

theorem first (t : Fin cfg0.N) (p : t.val % 17 = 0) : ¬ 1 ≤ t.val := by
  have ht : t.val < 17 := lt_of_lt_of_eq t.isLt N_0
  omega
theorem later (t : Fin cfg0.N) (p : ¬ t.val % 17 = 0) : 1 ≤ t.val := by omega

theorem dq_out (t : Fin cfg0.N) (y : S256x1024.Idx) : (outsAt0 m c t.val t.isLt).1 y = dqB m c t y := by
  by_cases p : t.val % 17 = 0
  · rw [outsAt0_A m c t p (first t p) p (first t p)]
    frame_out
    exact congrFun (dq_eq (aB m c t) (csB m c t) (snB m c t) (qgB m c t) (eB m c t)) y
  · rw [outsAt0_B m c t p (later t p) p (later t p)]
    frame_out
    exact congrFun (dq_eq (aB m c t) (csB m c t) (snB m c t) (qgB m c t) (eB m c t)) y
theorem dk_out (t : Fin cfg0.N) (y : S256x256.Idx) : (outsAt0 m c t.val t.isLt).2.1 y = dkB m c t y := by
  by_cases p : t.val % 17 = 0
  · rw [outsAt0_A m c t p (first t p) p (first t p)]
    frame_out
    exact congrFun (dk_eq (bB m c t) (csB m c t) (snB m c t) (kgB m c t) (fB m c t)) y
  · rw [outsAt0_B m c t p (later t p) p (later t p)]
    frame_out
    exact congrFun (dk_eq (bB m c t) (csB m c t) (snB m c t) (kgB m c t) (fB m c t)) y
theorem dv_out (t : Fin cfg0.N) (y : S256x256.Idx) : (outsAt0 m c t.val t.isLt).2.2.1 y = dvB m c t y := by
  by_cases p : t.val % 17 = 0
  · rw [outsAt0_A m c t p (first t p) p (first t p)]
    frame_out
    rfl
  · rw [outsAt0_B m c t p (later t p) p (later t p)]
    frame_out
    rfl

/-! What a grid point adds to the scales' gradients. -/
def addQ (n : ℕ) (y : S1x128.Idx) : EReal :=
  ∑ r : Fin 256, ∑ h : Fin 8, nm width (qrow (A0 m c) (rowOf n r) h) (y 1) * qback (A3 m c) (A4 m c) (A7 m c) (rowOf n r) h (y 1)
def addK (n : ℕ) (y : S1x128.Idx) : EReal :=
  ∑ r : Fin 256, ∑ h : Fin 2, nm width (krow (A1 m c) (rowOf n r) h) (y 1) * kback (A3 m c) (A4 m c) (A8 m c) (rowOf n r) h (y 1)

theorem dqgB_apply (t : Fin cfg0.N) (d : Fin 128) : dqgB m c t (ix2 0 d) = addQ m c t.val (ix2 0 d) := by
  refine (dqg_apply (aB m c t) (csB m c t) (snB m c t) (eB m c t) d).trans ?_
  simp only [a_row, e_back]
  rfl
theorem dkgB_apply (t : Fin cfg0.N) (d : Fin 128) : dkgB m c t (ix2 0 d) = addK m c t.val (ix2 0 d) := by
  refine (dkg_apply (bB m c t) (csB m c t) (snB m c t) (fB m c t) d).trans ?_
  simp only [b_row, f_back]
  rfl

theorem pay1_apply (v w : FVec Ideal S1x128 .f32) (d : Fin 128) : k0_pay1 (F := Ideal) v w (ix2 0 d) = w (ix2 0 d) + v (ix2 0 d) := by
  pointwise [k0_pay1]
theorem pay2_apply (v w : FVec Ideal S1x128 .f32) (d : Fin 128) : k0_pay2 (F := Ideal) v w (ix2 0 d) = w (ix2 0 d) + v (ix2 0 d) := by
  pointwise [k0_pay2]

theorem dqg_reset (t : Fin cfg0.N) (p : t.val % 17 = 0) (y : S1x128.Idx) :
    (outsAt0 m c t.val t.isLt).2.2.2.1 y = (fun _ => 0) y + addQ m c t.val y := by
  obtain ⟨d, rfl⟩ := column_of y
  rw [outsAt0_A m c t p (first t p) p (first t p), zero_add, ← dqgB_apply]
  frame_out
  exact congrFun (dqg_eq (aB m c t) (csB m c t) (snB m c t) (eB m c t)) _
theorem dqg_step (t : Fin cfg0.N) (p : ¬ t.val % 17 = 0) (y : S1x128.Idx) :
    (outsAt0 m c t.val t.isLt).2.2.2.1 y = (outsAt0 m c (t.val - 1) (Nat.lt_of_le_of_lt (Nat.sub_le _ _) t.isLt)).2.2.2.1 y + addQ m c t.val y := by
  obtain ⟨d, rfl⟩ := column_of y
  rw [outsAt0_B m c t p (later t p) p (later t p), ← dqgB_apply]
  frame_out
  refine (congrFun (congrArg₂ k0_pay1 (dqg_eq (aB m c t) (csB m c t) (snB m c t) (eB m c t)) rfl) _).trans ?_
  exact pay1_apply (dqgB m c t) (outsAt0 m c (t.val - 1) (Nat.lt_of_le_of_lt (Nat.sub_le _ _) t.isLt)).2.2.2.1 d
theorem dkg_reset (t : Fin cfg0.N) (p : t.val % 17 = 0) (y : S1x128.Idx) :
    (outsAt0 m c t.val t.isLt).2.2.2.2 y = (fun _ => 0) y + addK m c t.val y := by
  obtain ⟨d, rfl⟩ := column_of y
  rw [outsAt0_A m c t p (first t p) p (first t p), zero_add, ← dkgB_apply]
  frame_out
  exact congrFun (dkg_eq (bB m c t) (csB m c t) (snB m c t) (fB m c t)) _
theorem dkg_step (t : Fin cfg0.N) (p : ¬ t.val % 17 = 0) (y : S1x128.Idx) :
    (outsAt0 m c t.val t.isLt).2.2.2.2 y = (outsAt0 m c (t.val - 1) (Nat.lt_of_le_of_lt (Nat.sub_le _ _) t.isLt)).2.2.2.2 y + addK m c t.val y := by
  obtain ⟨d, rfl⟩ := column_of y
  rw [outsAt0_B m c t p (later t p) p (later t p), ← dkgB_apply]
  frame_out
  refine (congrFun (congrArg₂ k0_pay2 (dkg_eq (bB m c t) (csB m c t) (snB m c t) (fB m c t)) rfl) _).trans ?_
  exact pay2_apply (dkgB m c t) (outsAt0 m c (t.val - 1) (Nat.lt_of_le_of_lt (Nat.sub_le _ _) t.isLt)).2.2.2.2 d

/-! Where a block of each result lands. -/
theorem place10 (t : Fin cfg0.N) (r : Fin 256) (j : Fin 1024) (R : FVec Ideal S4352x1024 .f32) :
    R ((win0_10.blk t).view.emb (ix2 r j : S256x1024.Idx)) = R (ix2 (rowOf t.val r) j) := by
  have ht : t.val < 17 := lt_of_lt_of_eq t.isLt N_0
  blk_ext [idx10 t] <;> simp only [rowOf_val ht] <;> omega
theorem place11 (t : Fin cfg0.N) (r : Fin 256) (j : Fin 256) (R : FVec Ideal S4352x256 .f32) :
    R ((win0_11.blk t).view.emb (ix2 r j : S256x256.Idx)) = R (ix2 (rowOf t.val r) j) := by
  have ht : t.val < 17 := lt_of_lt_of_eq t.isLt N_0
  blk_ext [idx11 t] <;> simp only [rowOf_val ht] <;> omega
theorem place12 (t : Fin cfg0.N) (r : Fin 256) (j : Fin 256) (R : FVec Ideal S4352x256 .f32) :
    R ((win0_12.blk t).view.emb (ix2 r j : S256x256.Idx)) = R (ix2 (rowOf t.val r) j) := by
  have ht : t.val < 17 := lt_of_lt_of_eq t.isLt N_0
  blk_ext [idx12 t] <;> simp only [rowOf_val ht] <;> omega
theorem place13 (t : Fin cfg0.N) (d : Fin 128) (R : FVec Ideal S1x128 .f32) : R ((win0_13.blk t).view.emb (ix2 0 d : S1x128.Idx)) = R (ix2 0 d) := by
  blk_ext [idx13 t] <;> omega
theorem place14 (t : Fin cfg0.N) (d : Fin 128) (R : FVec Ideal S1x128 .f32) : R ((win0_14.blk t).view.emb (ix2 0 d : S1x128.Idx)) = R (ix2 0 d) := by
  blk_ext [idx14 t] <;> omega

theorem dqB_apply (t : Fin cfg0.N) (r : Fin 256) (j : Fin 1024) :
    dqB m c t (ix2 r j) = qgrad (A0 m c) (A3 m c) (A4 m c) (A5 m c) (A7 m c) (ix2 (rowOf t.val r) j) := by
  obtain ⟨h, d, rfl⟩ := qcolumn j
  refine Eq.trans ?_ (qgrad_apply _ _ _ _ _ _ h d).symm
  rw [dqB, dq_apply, a_row, e_back, show row (qgB m c t) 0 = _ from funext fun d => qgB_apply m c t d]
theorem dkB_apply (t : Fin cfg0.N) (r : Fin 256) (j : Fin 256) :
    dkB m c t (ix2 r j) = kgrad (A1 m c) (A3 m c) (A4 m c) (A6 m c) (A8 m c) (ix2 (rowOf t.val r) j) := by
  obtain ⟨h, d, rfl⟩ := kcolumn j
  refine Eq.trans ?_ (kgrad_apply _ _ _ _ _ _ h d).symm
  rw [dkB, dk_apply, b_row, f_back, show row (kgB m c t) 0 = _ from funext fun d => kgB_apply m c t d]

theorem array_dq : (dats m 0 c).arrAt 10 cfg0.N = qgrad (A0 m c) (A3 m c) (A4 m c) (A5 m c) (A7 m c) := by
  refine (dats m 0 c).arrAt_eq_of_covers 10 _ (by decide +kernel) fun t hf y => ?_
  blk_simp
  obtain ⟨r, j, rfl⟩ : ∃ (r : Fin 256) (j : Fin 1024), y = (ix2 r j : S256x1024.Idx) := ⟨_, _, (ix2_eta y).symm⟩
  refine Eq.trans ?_ (place10 t r j _).symm
  rw [after0_10]
  exact (dq_out m c t _).trans (dqB_apply m c t r j)
theorem array_dk : (dats m 0 c).arrAt 11 cfg0.N = kgrad (A1 m c) (A3 m c) (A4 m c) (A6 m c) (A8 m c) := by
  refine (dats m 0 c).arrAt_eq_of_covers 11 _ (by decide +kernel) fun t hf y => ?_
  blk_simp
  obtain ⟨r, j, rfl⟩ : ∃ (r : Fin 256) (j : Fin 256), y = (ix2 r j : S256x256.Idx) := ⟨_, _, (ix2_eta y).symm⟩
  refine Eq.trans ?_ (place11 t r j _).symm
  rw [after0_11]
  exact (dk_out m c t _).trans (dkB_apply m c t r j)
theorem array_dv : (dats m 0 c).arrAt 12 cfg0.N = extf (F := Ideal) .f32 (A9 m c) bitsLt_bf16_f32 := by
  refine (dats m 0 c).arrAt_eq_of_covers 12 _ (by decide +kernel) fun t hf y => ?_
  blk_simp
  obtain ⟨r, j, rfl⟩ : ∃ (r : Fin 256) (j : Fin 256), y = (ix2 r j : S256x256.Idx) := ⟨_, _, (ix2_eta y).symm⟩
  refine Eq.trans ?_ (place12 t r j _).symm
  rw [after0_12]
  exact (dv_out m c t _).trans (vB_apply m c t r j)
theorem array_dqg : (dats m 0 c).arrAt 13 cfg0.N = qgain (A0 m c) (A3 m c) (A4 m c) (A7 m c) := by
  refine (dats m 0 c).arrAt_eq_of_covers 13 _ (by decide +kernel) fun t hf y => ?_
  blk_simp
  have ht : t.val < 17 := lt_of_lt_of_eq t.isLt N_0
  have hr : t.val % 17 = 16 := flush13 t hf
  obtain ⟨d, rfl⟩ : ∃ d : Fin 128, y = (ix2 0 d : S1x128.Idx) := column_of y
  refine Eq.trans ?_ (place13 t d _).symm
  rw [after0_13]
  refine (Pipeline.eq_sum_of_reset_step_apply_of_mod (fun n h => (outsAt0 m c n h).2.2.2.1) 17 (fun _ => (0 : EReal)) (addQ m c)
    (dqg_reset m c) (dqg_step m c) t hr (ix2 0 d)).trans ?_
  rw [zero_add, qgain_apply, ← sum_rows]
  refine Finset.sum_congr rfl fun n _ => ?_
  rw [show 17 * (t.val / 17) + n = n by omega, addQ]
  rfl
theorem array_dkg : (dats m 0 c).arrAt 14 cfg0.N = kgain (A1 m c) (A3 m c) (A4 m c) (A8 m c) := by
  refine (dats m 0 c).arrAt_eq_of_covers 14 _ (by decide +kernel) fun t hf y => ?_
  blk_simp
  have ht : t.val < 17 := lt_of_lt_of_eq t.isLt N_0
  have hr : t.val % 17 = 16 := flush14 t hf
  obtain ⟨d, rfl⟩ : ∃ d : Fin 128, y = (ix2 0 d : S1x128.Idx) := column_of y
  refine Eq.trans ?_ (place14 t d _).symm
  rw [after0_14]
  refine (Pipeline.eq_sum_of_reset_step_apply_of_mod (fun n h => (outsAt0 m c n h).2.2.2.2) 17 (fun _ => (0 : EReal)) (addK m c)
    (dkg_reset m c) (dkg_step m c) t hr (ix2 0 d)).trans ?_
  rw [zero_add, kgain_apply, ← sum_rows]
  refine Finset.sum_congr rfl fun n _ => ?_
  rw [show 17 * (t.val / 17) + n = n by omega, addK]
  rfl

/-! The reference's results on the same arguments. -/
section
variable {m c} {a : FVec Ideal S4352x1024 .f32} {b : FVec Ideal S4352x256 .f32} {C S : FVec Ideal S4096x64 .f32} {g k : FVec Ideal S1x128 .f32}
  {e : FVec Ideal S4352x1024 .bf16} {f v : FVec Ideal S4352x256 .bf16}
variable (ha : a = A0 m c) (hb : b = A1 m c) (hC : C = A3 m c) (hS : S = A4 m c) (hg : g = A5 m c) (hk : k = A6 m c) (he : e = A7 m c) (hf : f = A8 m c) (hv : v = A9 m c)

include ha hC hS hg he in
theorem same_dq : qgrad a C S g e = (dats m 0 c).arrAt 10 cfg0.N := by rw [ha, hC, hS, hg, he, array_dq]
include hb hC hS hk hf in
theorem same_dk : kgrad b C S k f = (dats m 0 c).arrAt 11 cfg0.N := by rw [hb, hC, hS, hk, hf, array_dk]
include hv in
theorem same_dv : extf (F := Ideal) .f32 v bitsLt_bf16_f32 = (dats m 0 c).arrAt 12 cfg0.N := by rw [hv, array_dv]
include ha hC hS he in
theorem same_dqg : qgain a C S e = (dats m 0 c).arrAt 13 cfg0.N := by rw [ha, hC, hS, he, array_dqg]
include hb hC hS hf in
theorem same_dkg : kgain b C S f = (dats m 0 c).arrAt 14 cfg0.N := by rw [hb, hC, hS, hf, array_dkg]
end
end
end Cert.QkBwdIdeal.Hand
end
-- ==== Proof.QkFwdArrays.lean ====
/-
  The turned queries and keys are the reference's: each grid point takes one block of rows, and reads its rows of the two
  tables that the version's host lines make.
-/
module

public import proofs.«01_k».proof.Proof.QkHeads
public import proofs.«01_k».proof.Proof.QkFwdRef
public import proofs.«01_k».proof.Proof.HgArrays

@[expose] public section

set_option maxRecDepth 16384

noncomputable section

namespace Cert.QkFwdIdeal.Hand

open Cert.QkFwdIdeal Cert.QkFwdIdeal.Gen Idealize.ShloMosaic Idealize.ShloMosaic.TcCoe Idealize.SL.Sem
open Cert.Proof.Norm Cert.Proof.Pairs
open Cert.HgGateBwdIdeal.Hand (rowOf rowOf_val row)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![t.val, 0] := (by decide +kernel : ∀ t : Fin grid0.N, win0_7.index t = ![t.val, 0])
theorem idx8 : ∀ t : Fin cfg0.N, win0_8.index t = ![t.val, 0] := (by decide +kernel : ∀ t : Fin grid0.N, win0_8.index t = ![t.val, 0])
theorem idx9 : ∀ t : Fin cfg0.N, win0_9.index t = ![t.val, 0] := (by decide +kernel : ∀ t : Fin grid0.N, win0_9.index t = ![t.val, 0])

/-! One block. -/
section
variable (a : FVec Ideal S256x1024 .f32) (b : FVec Ideal S256x256 .f32) (cs sn : FVec Ideal S256x128 .f32) (g : FVec Ideal S1x128 .f32)

def same (x : FVec Ideal S256x128 .f32) : FVec Ideal S256x128 .f32 := shapeCast S256x128 x shapeCasts_S256x128_S256x128
def kq : FVec Ideal S256x1024 .bf16 := truncf .bf16 (qjoin fun h => kt (qhead a h) (same cs) (same sn) g) bitsLt_bf16_f32
def kk : FVec Ideal S256x256 .bf16 := truncf .bf16 (kjoin fun h => kt (khead b h) (same cs) (same sn) g) bitsLt_bf16_f32

theorem q_eq : k0_pay1 (F := Ideal) (k0_pay19 a (k0_pay4 cs) (k0_pay5 sn) g k0_pay6 (k0_pay7 a cs sn g) (k0_pay10 (k0_pay4 cs) (k0_pay5 sn) g k0_pay6 (k0_pay8 a) (k0_pay9 a))
      (k0_pay11 a (k0_pay4 cs) (k0_pay5 sn) g k0_pay6) (k0_pay12 a (k0_pay4 cs) (k0_pay5 sn) g k0_pay6) (k0_pay14 (k0_pay4 cs) (k0_pay5 sn) g k0_pay6 (k0_pay13 a))
      (k0_pay15 a (k0_pay4 cs) (k0_pay5 sn) g k0_pay6) (k0_pay17 a g k0_pay6) (k0_pay18 a (k0_pay4 cs) g)) = kq a cs sn g := rfl
theorem k_eq : k0_pay2 (F := Ideal) (k0_pay4 cs) (k0_pay5 sn) k0_pay6 (k0_pay20 b (k0_pay4 cs) (k0_pay5 sn) g k0_pay6) (k0_pay21 b) (k0_pay22 g) = kk b cs sn g := rfl

theorem same_row (x : FVec Ideal S256x128 .f32) (r : Fin 256) : row (same x) r = row x r := by
  funext d
  rw [row, row]
  pointwise [same]
theorem kq_apply (h : Fin 8) (r : Fin 256) (d : Fin 128) :
    kq a cs sn g (ix2 r (qc h d)) = turned (fun j => nm width (fun d => a (ix2 r (qc h d))) j * g (ix2 0 j)) (row cs r) (row sn r) d := by
  pointwise [kq]
  rw [qjoin_apply, kt_apply, same_row, same_row, show row (qhead a h) r = fun d => a (ix2 r (qc h d)) from funext fun d => qhead_apply a h r d]
theorem kk_apply (h : Fin 2) (r : Fin 256) (d : Fin 128) :
    kk b cs sn g (ix2 r (kc h d)) = turned (fun j => nm width (fun d => b (ix2 r (kc h d))) j * g (ix2 0 j)) (row cs r) (row sn r) d := by
  pointwise [kk]
  rw [kjoin_apply, kt_apply, same_row, same_row, show row (khead b h) r = fun d => b (ix2 r (kc h d)) from funext fun d => khead_apply b h r d]
end

section
variable (m : (ℓ : Loc nD τ sig) → Buf (Elt Ideal) ℓ) (c : Dev nD)

def A0 : FVec Ideal S4352x1024 .f32 := m ((c.tc : Thread nD τ).loc main_arg0)
def A1 : FVec Ideal S4352x256 .f32 := m ((c.tc : Thread nD τ).loc main_arg1)
def A2 : FVec Ideal S4352x256 .f32 := m ((c.tc : Thread nD τ).loc main_arg2)
def A3 : FVec Ideal S4096x64 .f32 := m ((c.tc : Thread nD τ).loc main_arg3)
def A4 : FVec Ideal S4096x64 .f32 := m ((c.tc : Thread nD τ).loc main_arg4)
def A5 : FVec Ideal S1x128 .f32 := m ((c.tc : Thread nD τ).loc main_arg5)
def A6 : FVec Ideal S1x128 .f32 := m ((c.tc : Thread nD τ).loc main_arg6)

theorem tab_cos : V m c main_v11 = cosT (A3 m c) := by
  unfold V
  after_results_simp <;> rfl
theorem tab_sin : V m c main_v13 = sinT (A4 m c) := by
  unfold V
  after_results_simp <;> rfl

def aB (t : Fin cfg0.N) : FVec Ideal S256x1024 .f32 := iblk m c 0 t
def bB (t : Fin cfg0.N) : FVec Ideal S256x256 .f32 := iblk m c 1 t
def vB (t : Fin cfg0.N) : FVec Ideal S256x256 .f32 := iblk m c 2 t
def csB (t : Fin cfg0.N) : FVec Ideal S256x128 .f32 := iblk m c 3 t
def snB (t : Fin cfg0.N) : FVec Ideal S256x128 .f32 := iblk m c 4 t
def qgB (t : Fin cfg0.N) : FVec Ideal S1x128 .f32 := iblk m c 5 t
def kgB (t : Fin cfg0.N) : FVec Ideal S1x128 .f32 := iblk m c 6 t

theorem csB_apply (t : Fin cfg0.N) (r : Fin 256) (d : Fin 128) : csB m c t (ix2 r d) = cosAt (A3 m c) (rowOf t.val r) d := by
  have ht : t.val < 17 := lt_of_lt_of_eq t.isLt N_0
  rw [← cosT_apply, ← tab_cos, csB]
  blk_ext [iblk, idx3 t] <;> simp only [rowOf_val ht] <;> omega
theorem snB_apply (t : Fin cfg0.N) (r : Fin 256) (d : Fin 128) : snB m c t (ix2 r d) = sinAt (A4 m c) (rowOf t.val r) d := by
  have ht : t.val < 17 := lt_of_lt_of_eq t.isLt N_0
  rw [← sinT_apply, ← tab_sin, snB]
  blk_ext [iblk, idx4 t] <;> simp only [rowOf_val ht] <;> omega
theorem aB_apply (t : Fin cfg0.N) (r : Fin 256) (j : Fin 1024) : aB m c t (ix2 r j) = A0 m c (ix2 (rowOf t.val r) j) := by
  have ht : t.val < 17 := lt_of_lt_of_eq t.isLt N_0
  rw [A0, ← V_main_arg0 m c, aB]
  blk_ext [iblk, idx0 t] <;> simp only [rowOf_val ht] <;> omega
theorem bB_apply (t : Fin cfg0.N) (r : Fin 256) (j : Fin 256) : bB m c t (ix2 r j) = A1 m c (ix2 (rowOf t.val r) j) := by
  have ht : t.val < 17 := lt_of_lt_of_eq t.isLt N_0
  rw [A1, ← V_main_arg1 m c, bB]
  blk_ext [iblk, idx1 t] <;> simp only [rowOf_val ht] <;> omega
theorem vB_apply (t : Fin cfg0.N) (r : Fin 256) (j : Fin 256) : vB m c t (ix2 r j) = A2 m c (ix2 (rowOf t.val r) j) := by
  have ht : t.val < 17 := lt_of_lt_of_eq t.isLt N_0
  rw [A2, ← V_main_arg2 m c, vB]
  blk_ext [iblk, idx2 t] <;> simp only [rowOf_val ht] <;> omega
theorem qgB_apply (t : Fin cfg0.N) (d : Fin 128) : qgB m c t (ix2 0 d) = A5 m c (ix2 0 d) := by
  rw [A5, ← V_main_arg5 m c, qgB]
  blk_ext [iblk, idx5 t] <;> omega
theorem kgB_apply (t : Fin cfg0.N) (d : Fin 128) : kgB m c t (ix2 0 d) = A6 m c (ix2 0 d) := by
  rw [A6, ← V_main_arg6 m c, kgB]
  blk_ext [iblk, idx6 t] <;> omega

theorem place7 (t : Fin cfg0.N) (r : Fin 256) (j : Fin 1024) (R : FVec Ideal S4352x1024 .bf16) :
    R ((win0_7.blk t).view.emb (ix2 r j : S256x1024.Idx)) = R (ix2 (rowOf t.val r) j) := by
  have ht : t.val < 17 := lt_of_lt_of_eq t.isLt N_0
  blk_ext [idx7 t] <;> simp only [rowOf_val ht] <;> omega
theorem place8 (t : Fin cfg0.N) (r : Fin 256) (j : Fin 256) (R : FVec Ideal S4352x256 .bf16) :
    R ((win0_8.blk t).view.emb (ix2 r j : S256x256.Idx)) = R (ix2 (rowOf t.val r) j) := by
  have ht : t.val < 17 := lt_of_lt_of_eq t.isLt N_0
  blk_ext [idx8 t] <;> simp only [rowOf_val ht] <;> omega
theorem place9 (t : Fin cfg0.N) (r : Fin 256) (j : Fin 256) (R : FVec Ideal S4352x256 .bf16) :
    R ((win0_9.blk t).view.emb (ix2 r j : S256x256.Idx)) = R (ix2 (rowOf t.val r) j) := by
  have ht : t.val < 17 := lt_of_lt_of_eq t.isLt N_0
  blk_ext [idx9 t] <;> simp only [rowOf_val ht] <;> omega

theorem out7 (t : Fin cfg0.N) (i : S256x1024.Idx) :
    out0_7 (iblk m c 0 t) (iblk m c 1 t) (iblk m c 2 t) (iblk m c 3 t) (iblk m c 4 t) (iblk m c 5 t) (iblk m c 6 t) i = kq (aB m c t) (csB m c t) (snB m c t) (qgB m c t) i := by
  unfold_out out0_7
  frame_out
  exact congrFun (q_eq (aB m c t) (csB m c t) (snB m c t) (qgB m c t)) i
theorem out8 (t : Fin cfg0.N) (i : S256x256.Idx) :
    out0_8 (iblk m c 0 t) (iblk m c 1 t) (iblk m c 2 t) (iblk m c 3 t) (iblk m c 4 t) (iblk m c 5 t) (iblk m c 6 t) i = kk (bB m c t) (csB m c t) (snB m c t) (kgB m c t) i := by
  unfold_out out0_8
  frame_out
  exact congrFun (k_eq (bB m c t) (csB m c t) (snB m c t) (kgB m c t)) i
theorem out9 (t : Fin cfg0.N) (i : S256x256.Idx) :
    out0_9 (iblk m c 0 t) (iblk m c 1 t) (iblk m c 2 t) (iblk m c 3 t) (iblk m c 4 t) (iblk m c 5 t) (iblk m c 6 t) i = vB m c t i := by
  frame_out
  rfl

theorem array7 : (dats m 0 c).arrAt 7 cfg0.N = Cert.QkFwdRefIdeal.Hand.qout (A0 m c) (A3 m c) (A4 m c) (A5 m c) := by
  refine (dats m 0 c).arrAt_eq_of_covers 7 _ (by decide +kernel) fun t hf i => ?_
  blk_simp
  obtain ⟨r, j, rfl⟩ : ∃ (r : Fin 256) (j : Fin 1024), i = (ix2 r j : S256x1024.Idx) := ⟨_, _, (ix2_eta i).symm⟩
  refine Eq.trans ?_ (place7 t r j _).symm
  obtain ⟨h, d, rfl⟩ := qcolumn j
  rw [after0_7]
  refine (out7 m c t _).trans ?_
  refine Eq.trans ?_ (Cert.QkFwdRefIdeal.Hand.qout_apply _ _ _ _ _ h d).symm
  rw [kq_apply, show row (csB m c t) r = _ from funext fun d => csB_apply m c t r d, show row (snB m c t) r = _ from funext fun d => snB_apply m c t r d]
  simp only [aB_apply, qgB_apply]
  rfl
theorem array8 : (dats m 0 c).arrAt 8 cfg0.N = Cert.QkFwdRefIdeal.Hand.kout (A1 m c) (A3 m c) (A4 m c) (A6 m c) := by
  refine (dats m 0 c).arrAt_eq_of_covers 8 _ (by decide +kernel) fun t hf i => ?_
  blk_simp
  obtain ⟨r, j, rfl⟩ : ∃ (r : Fin 256) (j : Fin 256), i = (ix2 r j : S256x256.Idx) := ⟨_, _, (ix2_eta i).symm⟩
  refine Eq.trans ?_ (place8 t r j _).symm
  obtain ⟨h, d, rfl⟩ := kcolumn j
  rw [after0_8]
  refine (out8 m c t _).trans ?_
  refine Eq.trans ?_ (Cert.QkFwdRefIdeal.Hand.kout_apply _ _ _ _ _ h d).symm
  rw [kk_apply, show row (csB m c t) r = _ from funext fun d => csB_apply m c t r d, show row (snB m c t) r = _ from funext fun d => snB_apply m c t r d]
  simp only [bB_apply, kgB_apply]
  rfl
theorem array9 : (dats m 0 c).arrAt 9 cfg0.N = truncf (F := Ideal) .bf16 (A2 m c) bitsLt_bf16_f32 := by
  refine (dats m 0 c).arrAt_eq_of_covers 9 _ (by decide +kernel) fun t hf i => ?_
  blk_simp
  obtain ⟨r, j, rfl⟩ : ∃ (r : Fin 256) (j : Fin 256), i = (ix2 r j : S256x256.Idx) := ⟨_, _, (ix2_eta i).symm⟩
  refine Eq.trans ?_ (place9 t r j _).symm
  rw [after0_9]
  refine (out9 m c t _).trans ?_
  exact vB_apply m c t r j

/-! The reference's results on the same arguments. -/
section
variable {m c} {a : FVec Ideal S4352x1024 .f32} {b v : FVec Ideal S4352x256 .f32} {C S : FVec Ideal S4096x64 .f32} {g k : FVec Ideal S1x128 .f32}
variable (ha : a = A0 m c) (hb : b = A1 m c) (hv : v = A2 m c) (hC : C = A3 m c) (hS : S = A4 m c) (hg : g = A5 m c) (hk : k = A6 m c)

include ha hC hS hg in
theorem same_q : Cert.QkFwdRefIdeal.Hand.qout a C S g = (dats m 0 c).arrAt 7 cfg0.N := by rw [ha, hC, hS, hg, array7]
include hb hC hS hk in
theorem same_k : Cert.QkFwdRefIdeal.Hand.kout b C S k = (dats m 0 c).arrAt 8 cfg0.N := by rw [hb, hC, hS, hk, array8]
include hv in
theorem same_v : truncf (F := Ideal) .bf16 v bitsLt_bf16_f32 = (dats m 0 c).arrAt 9 cfg0.N := by rw [hv, array9]
end
end
end Cert.QkFwdIdeal.Hand
end
-- ==== Proof.SgateSpec.lean ====
/-
  The spatial gating, entry by entry: an entry of the gate's input goes through a smooth cut-off, a group's columns are
  normalised row by row, and the rows of one chunk are mixed with each other and shifted.
-/
module

public import proofs.«01_k».proof.Proof.HgSpec

@[expose] public section

noncomputable section

namespace Cert.Proof.Gating

open Idealize.ShloMosaic
open Cert.Proof.Norm
open scoped BigOperators

/-- The smooth cut-off of an entry, in its form with the hyperbolic tangent. -/
def cut (x : EReal) : EReal :=
  x * (Ideal.ofBits .f32 0x3F000000#32 * (1
    + Ideal.tanh (Ideal.ofBits .f32 0x3F4C422A#32 * (x + Ideal.ofBits .f32 0x3D372713#32 * (x * (x * x))))))

/-- Row `t` of a mixed chunk: `w` is its row of weights, `y` a column of the chunk, `b` the row's shift. -/
def mixed (w y : Fin 128 → EReal) (b : EReal) : EReal := (∑ s, w s * y s) + b

end Cert.Proof.Gating
end
-- ==== Proof.SgateRef.lean ====
/-
  The reference's spatial gating, stage by stage, read in coordinates.
-/
module

public import proofs.«01_k».proof.Proof.Gen.SgateFwdRefIdeal.Run
public import proofs.«01_k».proof.Proof.SgateSpec

@[expose] public section

set_option maxRecDepth 16384

noncomputable section

namespace Cert.SgateFwdRefIdeal.Hand

open Cert.SgateFwdRefIdeal Cert.SgateFwdRefIdeal.Gen Cert.SgateFwdRefIdeal.Value Idealize.ShloMosaic Idealize.ShloMosaic.TcCoe Idealize.SL.Sem Idealize.ShloMosaic.StableHlo
open Cert.Proof.Norm Cert.Proof.Gating
open scoped BigOperators

section
variable (u v : FVec Ideal S4352x512 .f32) (g : FVec Ideal S1x512 .f32) (w : FVec Ideal S4x128x128 .f32) (b0 b1 b2 b3 : FVec Ideal S128x1 .f32)

/-- The smooth cut-off of every entry. -/
def rcut : FVec Ideal S4352x512 .f32 :=
  mulf u (mulf (broadcastInDim S4352x512 ![] bcast_S_S4352x512 (constant S_ .f32 0x3F000000#32)) (addf (broadcastInDim S4352x512 ![] bcast_S_S4352x512 (constant S_ .f32 0x3F800000#32))
    (Host.tanh (mulf (broadcastInDim S4352x512 ![] bcast_S_S4352x512 (constant S_ .f32 0x3F4C422A#32))
      (addf u (mulf (broadcastInDim S4352x512 ![] bcast_S_S4352x512 (constant S_ .f32 0x3D372713#32)) (mulf (mulf u u) u)))))))
def rgroups : FVec Ideal S4352x4x128 .f32 := shapeCast _ (rcut v) shapeCasts_S4352x512_S4352x4x128
def rms : FVec Ideal S4352x4x1 .f32 :=
  addf (Host.divf (broadcastInDim S4352x4x1 ![0, 1] bcast_S4352x4_S4352x4x1_0_1 (Host.reduceAdd (mulf (rgroups v) (rgroups v)) (constant S_ .f32 0x00000000#32) reducesTo_S4352x4x128_S4352x4_d2 h_S_))
    (broadcastInDim S4352x4x1 ![] bcast_S_S4352x4x1 (constant S_ .f32 0x43000000#32))) (broadcastInDim S4352x4x1 ![] bcast_S_S4352x4x1 (constant S_ .f32 0x358637BD#32))
def rnorm : FVec Ideal S4352x4x128 .f32 :=
  mulf (mulf (rgroups v) (broadcastInDim S4352x4x128 ![0, 1, 2] bcast_S4352x4x1_S4352x4x128_0_1_2 (Host.rsqrt (rms v))))
    (broadcastInDim S4352x4x128 ![0, 1, 2] bcast_S1x4x128_S4352x4x128_0_1_2 (broadcastInDim S1x4x128 ![1, 2] bcast_S4x128_S1x4x128_1_2 (shapeCast _ g shapeCasts_S1x512_S4x128)))
def rdot : FVec Ideal S4x34x128x128 .f32 :=
  Host.dotGeneral dot_S34x128x4x128_S4x128x128_S4x34x128x128_1_2_03_1_2_0 none (shapeCast _ (rnorm v g) shapeCasts_S4352x4x128_S34x128x4x128) w
def rshift : FVec Ideal S128x4 .f32 := concatenate S128x4 1 [⟨S128x1, b0⟩, ⟨S128x1, b1⟩, ⟨S128x1, b2⟩, ⟨S128x1, b3⟩] concatenates_S128x1_S128x1_S128x1_S128x1_S128x4_d1
def rmix : FVec Ideal S34x128x4x128 .f32 :=
  addf (transpose S34x128x4x128 [1, 3, 0, 2] (rdot v g w) transposes_S4x34x128x128_S34x128x4x128_1_3_0_2)
    (broadcastInDim S34x128x4x128 ![0, 1, 2, 3] bcast_S1x128x4x1_S34x128x4x128_0_1_2_3 (broadcastInDim S1x128x4x1 ![1, 2, 3] bcast_S128x4x1_S1x128x4x1_1_2_3
      (broadcastInDim S128x4x1 ![0, 1] bcast_S128x4_S128x4x1_0_1 (rshift b0 b1 b2 b3))))
def rout : FVec Ideal S4352x512 .bf16 := truncf .bf16 (mulf (rcut u) (shapeCast _ (rmix v g w b0 b1 b2 b3) shapeCasts_S34x128x4x128_S4352x512)) bitsLt_bf16_f32

def col (h : Fin 4) (d : Fin 128) : Fin 512 := ⟨h.val * 128 + d.val, by omega⟩
/-- Row `t` of chunk `n`. -/
def at_ (n : Fin 34) (t : Fin 128) : Fin 4352 := ⟨n.val * 128 + t.val, by omega⟩
def shift (h : Fin 4) : FVec Ideal S128x1 .f32 := ![b0, b1, b2, b3] h

/-- A group's cut columns in a row, and the same normalised. -/
def crow (r : Fin 4352) (h : Fin 4) (d : Fin 128) : EReal := cut (v (ix2 r (col h d)))
def nrow (r : Fin 4352) (h : Fin 4) (d : Fin 128) : EReal := nm width (crow v r h) d * g (ix2 0 (col h d))

theorem rcut_apply (r : Fin 4352) (j : Fin 512) : rcut u (ix2 r j) = cut (u (ix2 r j)) := by
  pointwise [rcut]
  rw [cut, mul_comm (u (ix2 r j)) (u (ix2 r j) * u (ix2 r j))]
theorem rgroups_apply (r : Fin 4352) (h : Fin 4) (d : Fin 128) : rgroups v (ix3 r h d) = crow v r h d := by
  pointwise [rgroups]
  exact rcut_apply v r _
theorem rms_apply (r : Fin 4352) (h : Fin 4) : rms v (ix3 r h 0) = ms width (crow v r h) := by
  pointwise [rms]
  simp only [rgroups_apply]
  rfl
theorem rnorm_apply (r : Fin 4352) (h : Fin 4) (d : Fin 128) : rnorm v g (ix3 r h d) = nrow v g r h d := by
  pointwise [rnorm]
  rw [rgroups_apply, rms_apply]
  rfl
theorem rdot_apply (h : Fin 4) (n : Fin 34) (d t : Fin 128) :
    rdot v g w (ix4 h n d t) = ∑ s, w (ix3 h t s) * nrow v g (at_ n s) h d := by
  pointwise [rdot]
  refine Finset.sum_congr rfl fun s _ => ?_
  rw [mul_comm]
  exact congrArg (_ * ·) (rnorm_apply v g (at_ n s) h d)
theorem rshift_apply (h : Fin 4) (t : Fin 128) : rshift b0 b1 b2 b3 (ix2 t h) = shift b0 b1 b2 b3 h (ix2 t 0) := by
  match h with
  | 0 | 1 | 2 | 3 => pointwise [rshift, shift]
theorem rmix_apply (n : Fin 34) (t : Fin 128) (h : Fin 4) (d : Fin 128) :
    rmix v g w b0 b1 b2 b3 (ix4 n t h d) = mixed (fun s => w (ix3 h t s)) (fun s => nrow v g (at_ n s) h d) (shift b0 b1 b2 b3 h (ix2 t 0)) := by
  pointwise [rmix]
  rw [rdot_apply, rshift_apply]
  rfl
theorem rout_apply (n : Fin 34) (t : Fin 128) (h : Fin 4) (d : Fin 128) :
    rout u v g w b0 b1 b2 b3 (ix2 (at_ n t) (col h d))
      = cut (u (ix2 (at_ n t) (col h d))) * mixed (fun s => w (ix3 h t s)) (fun s => nrow v g (at_ n s) h d) (shift b0 b1 b2 b3 h (ix2 t 0)) := by
  rw [← rmix_apply, ← rcut_apply]
  pointwise [rout, at_, col]
end
end Cert.SgateFwdRefIdeal.Hand
end
-- ==== Proof.SgateFwdArrays.lean ====
/-
  The spatial gating is the reference's: each grid point takes two chunks of rows, and mixes the rows of each.
-/
module

public import proofs.«01_k».proof.Proof.Gen.SgateFwdIdeal.Value
public import proofs.«01_k».proof.Proof.SgateRef
public import proofs.«01_k».proof.Proof.HgArrays

@[expose] public section

set_option maxRecDepth 16384

noncomputable section

namespace Cert.SgateFwdIdeal.Hand

open Cert.SgateFwdIdeal Cert.SgateFwdIdeal.Gen Idealize.ShloMosaic Idealize.ShloMosaic.TcCoe Idealize.SL.Sem
open Cert.Proof.Norm Cert.Proof.Gating
open Cert.HgGateBwdIdeal.Hand (rowOf rowOf_val row heads heads_apply kfour kfour_apply ky ky_apply)
open scoped BigOperators

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, 0] := (by decide +kernel : ∀ t : Fin grid0.N, win0_2.index t = ![0, 0])
theorem idx3 : ∀ t : Fin cfg0.N, win0_3.index t = ![0, 0, 0] := (by decide +kernel : ∀ t : Fin grid0.N, win0_3.index t = ![0, 0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![t.val, 0] := (by decide +kernel : ∀ t : Fin grid0.N, win0_8.index t = ![t.val, 0])

/-! One block. -/
section
variable (u v : FVec Ideal S256x512 .f32) (g : FVec Ideal S1x512 .f32) (w : FVec Ideal S4x128x128 .f32) (b : Fin 4 → FVec Ideal S128x1 .f32)

def kcut : FVec Ideal S256x512 .f32 :=
  mulf u (mulf (broadcast S256x512 (Scalar.ofBits (F := Ideal) .f32 0x3F000000#32)) (addf (broadcast S256x512 (Scalar.ofBits (F := Ideal) .f32 0x3F800000#32))
    (tanh (mulf (broadcast S256x512 (Scalar.ofBits (F := Ideal) .f32 0x3F4C422A#32)) (addf u (mulf (broadcast S256x512 (Scalar.ofBits (F := Ideal) .f32 0x3D372713#32)) (mulf u (mulf u u))))))))

/-- The gain of each group's columns, and each group's weights. -/
def gains : Fin 4 → FVec Ideal S1x128 .f32 :=
  ![extractStridedSlice S1x128 ![0, 0] g slices_S1x512_o0_0_S1x128, extractStridedSlice S1x128 ![0, 128] g slices_S1x512_o0_128_S1x128,
    extractStridedSlice S1x128 ![0, 256] g slices_S1x512_o0_256_S1x128, extractStridedSlice S1x128 ![0, 384] g slices_S1x512_o0_384_S1x128]
def weights : Fin 4 → FVec Ideal S1x128x128 .f32 :=
  ![extractStridedSlice S1x128x128 ![0, 0, 0] w slices_S4x128x128_o0_0_0_S1x128x128, extractStridedSlice S1x128x128 ![1, 0, 0] w slices_S4x128x128_o1_0_0_S1x128x128,
    extractStridedSlice S1x128x128 ![2, 0, 0] w slices_S4x128x128_o2_0_0_S1x128x128, extractStridedSlice S1x128x128 ![3, 0, 0] w slices_S4x128x128_o3_0_0_S1x128x128]

/-- One chunk's rows mixed and shifted. -/
def kchunk (wt : FVec Ideal S1x128x128 .f32) (y : FVec Ideal S128x128 .f32) (s : FVec Ideal S128x1 .f32) : FVec Ideal S128x128 .f32 :=
  addf (matmul dot_S128x128_S128x128_S128x128_1_0_0_1_n_n none (truncf .bf16 (shapeCast S128x128 wt shapeCasts_S1x128x128_S128x128) bitsLt_bf16_f32) (truncf .bf16 y bitsLt_bf16_f32)
    (constant S128x128 .f32 0x00000000#32)) (broadcastTo S128x128 s broadcasts_S128x1_S128x128)
def chunks (y : FVec Ideal S256x128 .f32) : Fin 2 → FVec Ideal S128x128 .f32 :=
  ![extractStridedSlice S128x128 ![0, 0] y slices_S256x128_o0_0_S128x128, extractStridedSlice S128x128 ![128, 0] y slices_S256x128_o128_0_S128x128]
def kpair (y : Fin 2 → FVec Ideal S128x128 .f32) : FVec Ideal S256x128 .f32 := concatenate S256x128 0 [⟨S128x128, y 0⟩, ⟨S128x128, y 1⟩] concatenates_S128x128_S128x128_S256x128_d0
/-- One group of the block: the normalised columns, mixed chunk by chunk. -/
def kgroup (h : Fin 4) : FVec Ideal S256x128 .f32 := kpair fun n => kchunk (weights w h) (chunks (ky (heads (kcut v) h) (gains g h)) n) (b h)
def kout : FVec Ideal S256x512 .bf16 := truncf .bf16 (mulf (kcut u) (kfour (kgroup v g w b))) bitsLt_bf16_f32

theorem kout_eq (b0 b1 b2 b3 : FVec Ideal S128x1 .f32) :
    k0_pay1 (F := Ideal) w b3 (k0_pay2 u) (k0_pay4 g w b0 (k0_pay3 v)) (k0_pay7 w b1 (k0_pay5 g (k0_pay3 v)) (k0_pay6 g w (k0_pay3 v))) (k0_pay8 g w b2 (k0_pay3 v))
      (k0_pay9 (k0_pay3 v)) (k0_pay10 g) (k0_pay11 (k0_pay3 v)) = kout u v g w ![b0, b1, b2, b3] := rfl

/-- Row `t` of the block's chunk `n`. -/
def at2 (n : Fin 2) (t : Fin 128) : Fin 256 := ⟨n.val * 128 + t.val, by omega⟩

theorem kcut_apply (r : Fin 256) (j : Fin 512) : kcut u (ix2 r j) = cut (u (ix2 r j)) := by
  pointwise [kcut]
  rfl
theorem gains_apply (h : Fin 4) (d : Fin 128) : gains g h (ix2 0 d) = g (ix2 0 (hc h d)) := by
  match h with
  | 0 | 1 | 2 | 3 => pointwise [gains, hc]
theorem weights_apply (h : Fin 4) (t s : Fin 128) : weights w h (ix3 0 t s) = w (ix3 h t s) := by
  match h with
  | 0 | 1 | 2 | 3 => pointwise [weights]
theorem chunks_apply (y : FVec Ideal S256x128 .f32) (n : Fin 2) (t d : Fin 128) : chunks y n (ix2 t d) = y (ix2 (at2 n t) d) := by
  match n with
  | 0 | 1 => pointwise [chunks, at2]
theorem kpair_apply (y : Fin 2 → FVec Ideal S128x128 .f32) (n : Fin 2) (t d : Fin 128) : kpair y (ix2 (at2 n t) d) = y n (ix2 t d) := by
  have ht := t.isLt
  match n with
  | 0 | 1 => pointwise [kpair, at2]
theorem kchunk_apply (wt : FVec Ideal S1x128x128 .f32) (y : FVec Ideal S128x128 .f32) (s : FVec Ideal S128x1 .f32) (t d : Fin 128) :
    kchunk wt y s (ix2 t d) = mixed (fun j => wt (ix3 0 t j)) (fun j => y (ix2 j d)) (s (ix2 t 0)) := by
  pointwise [kchunk]
  rfl
theorem row_cut (h : Fin 4) (r : Fin 256) : row (heads (kcut v) h) r = fun d => cut (v (ix2 r (hc h d))) :=
  funext fun d => (heads_apply _ h r d).trans (kcut_apply v r _)
theorem kgroup_apply (h : Fin 4) (n : Fin 2) (t d : Fin 128) :
    kgroup v g w b h (ix2 (at2 n t) d)
      = mixed (fun s => w (ix3 h t s)) (fun s => nm width (fun d => cut (v (ix2 (at2 n s) (hc h d)))) d * g (ix2 0 (hc h d))) (b h (ix2 t 0)) := by
  rw [kgroup, kpair_apply, kchunk_apply]
  simp only [weights_apply, chunks_apply, ky_apply, row_cut, gains_apply]
theorem kout_apply (n : Fin 2) (t : Fin 128) (h : Fin 4) (d : Fin 128) :
    kout u v g w b (ix2 (at2 n t) (hc h d)) = cut (u (ix2 (at2 n t) (hc h d)))
      * mixed (fun s => w (ix3 h t s)) (fun s => nm width (fun d => cut (v (ix2 (at2 n s) (hc h d)))) d * g (ix2 0 (hc h d))) (b h (ix2 t 0)) := by
  rw [← kgroup_apply, ← kcut_apply, ← kfour_apply (kgroup v g w b)]
  pointwise [kout]
end

section
variable (m : (ℓ : Loc nD τ sig) → Buf (Elt Ideal) ℓ) (c : Dev nD)

def A0 : FVec Ideal S4352x512 .f32 := m ((c.tc : Thread nD τ).loc main_arg0)
def A1 : FVec Ideal S4352x512 .f32 := m ((c.tc : Thread nD τ).loc main_arg1)
def A2 : FVec Ideal S1x512 .f32 := m ((c.tc : Thread nD τ).loc main_arg2)
def A3 : FVec Ideal S4x128x128 .f32 := m ((c.tc : Thread nD τ).loc main_arg3)
def A4 : FVec Ideal S128x1 .f32 := m ((c.tc : Thread nD τ).loc main_arg4)
def A5 : FVec Ideal S128x1 .f32 := m ((c.tc : Thread nD τ).loc main_arg5)
def A6 : FVec Ideal S128x1 .f32 := m ((c.tc : Thread nD τ).loc main_arg6)
def A7 : FVec Ideal S128x1 .f32 := m ((c.tc : Thread nD τ).loc main_arg7)

def uB (t : Fin cfg0.N) : FVec Ideal S256x512 .f32 := iblk m c 0 t
def vB (t : Fin cfg0.N) : FVec Ideal S256x512 .f32 := iblk m c 1 t
def gB (t : Fin cfg0.N) : FVec Ideal S1x512 .f32 := iblk m c 2 t
def wB (t : Fin cfg0.N) : FVec Ideal S4x128x128 .f32 := iblk m c 3 t
def bB (t : Fin cfg0.N) (h : Fin 4) : FVec Ideal S128x1 .f32 := ![(iblk m c 4 t : FVec Ideal S128x1 .f32), (iblk m c 5 t : FVec Ideal S128x1 .f32), (iblk m c 6 t : FVec Ideal S128x1 .f32), (iblk m c 7 t : FVec Ideal S128x1 .f32)] h

theorem uB_apply (t : Fin cfg0.N) (r : Fin 256) (j : Fin 512) : uB m c t (ix2 r j) = A0 m c (ix2 (rowOf t.val r) j) := by
  have ht : t.val < 17 := lt_of_lt_of_eq t.isLt N_0
  rw [A0, uB]
  blk_ext [iblk, V, idx0 t] <;> simp only [rowOf_val ht] <;> omega
theorem vB_apply (t : Fin cfg0.N) (r : Fin 256) (j : Fin 512) : vB m c t (ix2 r j) = A1 m c (ix2 (rowOf t.val r) j) := by
  have ht : t.val < 17 := lt_of_lt_of_eq t.isLt N_0
  rw [A1, vB]
  blk_ext [iblk, V, idx1 t] <;> simp only [rowOf_val ht] <;> omega
theorem gB_apply (t : Fin cfg0.N) (j : Fin 512) : gB m c t (ix2 0 j) = A2 m c (ix2 0 j) := by
  rw [A2, gB]
  blk_ext [iblk, V, idx2 t] <;> omega
theorem wB_apply (t : Fin cfg0.N) (h : Fin 4) (i j : Fin 128) : wB m c t (ix3 h i j) = A3 m c (ix3 h i j) := by
  rw [A3, wB]
  blk_ext [iblk, V, idx3 t] <;> omega
theorem bB_apply (t : Fin cfg0.N) (h : Fin 4) (i : Fin 128) :
    bB m c t h (ix2 i 0) = Cert.SgateFwdRefIdeal.Hand.shift (A4 m c) (A5 m c) (A6 m c) (A7 m c) h (ix2 i 0) := by
  match h with
  | 0 =>
    show (iblk m c 4 t : FVec Ideal S128x1 .f32) (ix2 i 0) = A4 m c (ix2 i 0)
    rw [A4]
    blk_ext [iblk, V, idx4 t] <;> omega
  | 1 =>
    show (iblk m c 5 t : FVec Ideal S128x1 .f32) (ix2 i 0) = A5 m c (ix2 i 0)
    rw [A5]
    blk_ext [iblk, V, idx5 t] <;> omega
  | 2 =>
    show (iblk m c 6 t : FVec Ideal S128x1 .f32) (ix2 i 0) = A6 m c (ix2 i 0)
    rw [A6]
    blk_ext [iblk, V, idx6 t] <;> omega
  | 3 =>
    show (iblk m c 7 t : FVec Ideal S128x1 .f32) (ix2 i 0) = A7 m c (ix2 i 0)
    rw [A7]
    blk_ext [iblk, V, idx7 t] <;> omega

theorem place8 (t : Fin cfg0.N) (r : Fin 256) (j : Fin 512) (R : FVec Ideal S4352x512 .bf16) :
    R ((win0_8.blk t).view.emb (ix2 r j : S256x512.Idx)) = R (ix2 (rowOf t.val r) j) := by
  have ht : t.val < 17 := lt_of_lt_of_eq t.isLt N_0
  blk_ext [idx8 t] <;> simp only [rowOf_val ht] <;> omega

theorem out8 (t : Fin cfg0.N) (i : S256x512.Idx) :
    out0_8 (iblk m c 0 t) (iblk m c 1 t) (iblk m c 2 t) (iblk m c 3 t) (iblk m c 4 t) (iblk m c 5 t) (iblk m c 6 t) (iblk m c 7 t) i
      = kout (uB m c t) (vB m c t) (gB m c t) (wB m c t) (bB m c t) i := by
  unfold_out out0_8
  frame_out
  exact congrFun (kout_eq (uB m c t) (vB m c t) (gB m c t) (wB m c t) _ _ _ _) i

/-- The chunk of rows that is a grid point's chunk `n`. -/
def chunkOf (t : ℕ) (n : Fin 2) : Fin 34 := if h : t < 17 then ⟨t * 2 + n.val, by omega⟩ else 0
theorem row_chunk {t : ℕ} (h : t < 17) (n : Fin 2) (s : Fin 128) : rowOf t (at2 n s) = Cert.SgateFwdRefIdeal.Hand.at_ (chunkOf t n) s :=
  Fin.ext (by rw [rowOf_val h, chunkOf, dif_pos h]; simp only [at2, Cert.SgateFwdRefIdeal.Hand.at_]; omega)

theorem array8 : (dats m 0 c).arrAt 8 cfg0.N = Cert.SgateFwdRefIdeal.Hand.rout (A0 m c) (A1 m c) (A2 m c) (A3 m c) (A4 m c) (A5 m c) (A6 m c) (A7 m c) := by
  refine (dats m 0 c).arrAt_eq_of_covers 8 _ (by decide +kernel) fun t hf i => ?_
  have ht : t.val < 17 := lt_of_lt_of_eq t.isLt N_0
  blk_simp
  obtain ⟨n, s, h, d, rfl⟩ : ∃ (n : Fin 2) (s : Fin 128) (h : Fin 4) (d : Fin 128), i = (ix2 (at2 n s) (hc h d) : S256x512.Idx) := by
    obtain ⟨r, j, rfl⟩ : ∃ (r : Fin 256) (j : Fin 512), i = (ix2 r j : S256x512.Idx) := ⟨_, _, (ix2_eta i).symm⟩
    exact ⟨⟨r.val / 128, by omega⟩, ⟨r.val % 128, by omega⟩, ⟨j.val / 128, by omega⟩, ⟨j.val % 128, by omega⟩,
      congrArg₂ ix2 (Fin.ext (by simp only [at2]; omega)) (Fin.ext (by simp only [hc]; omega))⟩
  refine Eq.trans ?_ (place8 t _ _ _).symm
  rw [after0_8]
  refine (out8 m c t _).trans ?_
  rw [row_chunk ht]
  refine Eq.trans ?_ (Cert.SgateFwdRefIdeal.Hand.rout_apply _ _ _ _ _ _ _ _ _ s h d).symm
  rw [kout_apply]
  simp only [uB_apply, vB_apply, gB_apply, wB_apply, bB_apply, row_chunk ht]
  rfl

/-! The reference's result on the same arguments. -/
section
variable {m c} {u v : FVec Ideal S4352x512 .f32} {g : FVec Ideal S1x512 .f32} {w : FVec Ideal S4x128x128 .f32} {b0 b1 b2 b3 : FVec Ideal S128x1 .f32}
variable (hu : u = A0 m c) (hv : v = A1 m c) (hg : g = A2 m c) (hw : w = A3 m c) (h0 : b0 = A4 m c) (h1 : b1 = A5 m c) (h2 : b2 = A6 m c) (h3 : b3 = A7 m c)

include hu hv hg hw h0 h1 h2 h3 in
theorem same : Cert.SgateFwdRefIdeal.Hand.rout u v g w b0 b1 b2 b3 = (dats m 0 c).arrAt 8 cfg0.N := by rw [hu, hv, hg, hw, h0, h1, h2, h3, array8]
end
end
end Cert.SgateFwdIdeal.Hand
end
-- ==== Proof.SgateBwdRef.lean ====
/-
  The gradients of the reference's spatial gating, stage by stage, read in coordinates.
-/
module

public import proofs.«01_k».proof.Proof.Gen.SgateBwdRefIdeal.Run
public import proofs.«01_k».proof.Proof.SgateRef

@[expose] public section

set_option maxRecDepth 16384

noncomputable section

namespace Cert.Proof.Gating

open Idealize.ShloMosaic

/-- The hyperbolic tangent inside the cut-off. -/
def bend (x : EReal) : EReal := Ideal.tanh (Ideal.ofBits .f32 0x3F4C422A#32 * (x + Ideal.ofBits .f32 0x3D372713#32 * (x * (x * x))))
/-- What reaches the tangent's argument, and the gradient of the cut-off's entry: `d` is what reaches its result. -/
def bendGrad (x d : EReal) : EReal :=
  Ideal.ofBits .f32 0x3F4C422A#32 * (Ideal.ofBits .f32 0x3F000000#32 * (x * d) * ((1 + bend x) * (1 - bend x)))
def cutGrad (x d : EReal) : EReal :=
  d * (Ideal.ofBits .f32 0x3F000000#32 * (1 + bend x)) + bendGrad x d
    + Ideal.ofBits .f32 0x3D372713#32 * bendGrad x d * (Ideal.ofBits .f32 0x40400000#32 * (x * x))

end Cert.Proof.Gating

namespace Cert.SgateBwdRefIdeal.Hand

open Cert.SgateBwdRefIdeal Cert.SgateBwdRefIdeal.Gen Cert.SgateBwdRefIdeal.Value Idealize.ShloMosaic Idealize.ShloMosaic.TcCoe Idealize.SL.Sem Idealize.ShloMosaic.StableHlo
open Cert.Proof.Norm Cert.Proof.Gating
open Cert.SgateFwdRefIdeal.Hand (rcut rgroups rms rnorm rmix col at_ shift crow nrow rcut_apply rgroups_apply rms_apply rnorm_apply rmix_apply)
open scoped BigOperators

/-- A sum over the outer two of four axes. -/
theorem sum_outer_two {n0 n1 n2 n3 : ℕ} (h : (⟨4, ![n0, n1, n2, n3]⟩ : Shape).ReducesTo [0, 3] ⟨2, ![n1, n2]⟩)
    (v : (⟨4, ![n0, n1, n2, n3]⟩ : Shape).Idx → EReal) (i : Fin n1) (j : Fin n2) :
    Ideal.hostReduceAdd h v 0 (ix2 i j) = ∑ r : Fin n0, ∑ k : Fin n3, v (ix4 r i j k) := by
  have fiber (y : (⟨4, ![n0, n1, n2, n3]⟩ : Shape).Idx) : h.drop y = ix2 i j ↔ ∃ k : Fin n0 × Fin n3, ix4 k.1 i j k.2 = y := by
    constructor
    · intro e
      refine ⟨(y 0, y 3), ?_⟩
      funext a; apply Fin.ext
      match a with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨k, rfl⟩
      funext b
      apply Fin.ext
      match b with
      | ⟨0, _⟩ => rfl
      | ⟨1, _⟩ => rfl
  refine (zero_add _).trans ((Finset.sum_filter_eq_sum_of_fiber _ (fun k : Fin n0 × Fin n3 => ix4 k.1 i j k.2)
    (fun _ _ e => Prod.ext (congrFun e 0) (congrFun e 3)) fiber v).trans ?_)
  simp only [Fintype.sum_prod_type]

section
variable (u v : FVec Ideal S4352x512 .f32) (g : FVec Ideal S1x512 .f32) (w : FVec Ideal S4x128x128 .f32) (b0 b1 b2 b3 : FVec Ideal S128x1 .f32)
  (e : FVec Ideal S4352x512 .bf16) (d : FVec Ideal S4352x512 .f32)

/-! The stages. -/
def rbend : FVec Ideal S4352x512 .f32 :=
  Host.tanh (mulf (broadcastInDim S4352x512 ![] bcast_S_S4352x512 (constant S_ .f32 0x3F4C422A#32))
    (addf u (mulf (broadcastInDim S4352x512 ![] bcast_S_S4352x512 (constant S_ .f32 0x3D372713#32)) (mulf (mulf u u) u))))
def rbendGrad : FVec Ideal S4352x512 .f32 :=
  mulf (broadcastInDim S4352x512 ![] bcast_S_S4352x512 (constant S_ .f32 0x3F4C422A#32))
    (mulf (mulf (broadcastInDim S4352x512 ![] bcast_S_S4352x512 (constant S_ .f32 0x3F000000#32)) (mulf u d))
      (mulf (addf (broadcastInDim S4352x512 ![] bcast_S_S4352x512 (constant S_ .f32 0x3F800000#32)) (rbend u))
        (subf (broadcastInDim S4352x512 ![] bcast_S_S4352x512 (constant S_ .f32 0x3F800000#32)) (rbend u))))
/-- The gradient of the cut-off's argument. -/
def rcutGrad : FVec Ideal S4352x512 .f32 :=
  addf (addf (mulf d (mulf (broadcastInDim S4352x512 ![] bcast_S_S4352x512 (constant S_ .f32 0x3F000000#32))
      (addf (broadcastInDim S4352x512 ![] bcast_S_S4352x512 (constant S_ .f32 0x3F800000#32)) (rbend u)))) (rbendGrad u d))
    (mulf (mulf (broadcastInDim S4352x512 ![] bcast_S_S4352x512 (constant S_ .f32 0x3D372713#32)) (rbendGrad u d))
      (mulf (broadcastInDim S4352x512 ![] bcast_S_S4352x512 (constant S_ .f32 0x40400000#32)) (mulf u u)))
def du : FVec Ideal S4352x512 .f32 :=
  rcutGrad u (mulf (extf .f32 e bitsLt_bf16_f32) (shapeCast _ (rmix v g w b0 b1 b2 b3) shapeCasts_S34x128x4x128_S4352x512))

/-- What reaches the mixed rows, and what reaches the rows before they are mixed. -/
def rlift : FVec Ideal S34x128x4x128 .f32 := shapeCast _ (mulf (rcut u) (extf .f32 e bitsLt_bf16_f32)) shapeCasts_S4352x512_S34x128x4x128
def rturn : FVec Ideal S4x34x128x128 .f32 := transpose S4x34x128x128 [2, 0, 3, 1] (rlift u e) transposes_S34x128x4x128_S4x34x128x128_2_0_3_1
def rback : FVec Ideal S4352x4x128 .f32 :=
  shapeCast _ (transpose S34x128x4x128 [1, 3, 0, 2] (Host.dotGeneral dot_S4x34x128x128_S4x128x128_S4x34x128x128_3_1_12_2_0_0 none (rturn u e) w)
    transposes_S4x34x128x128_S34x128x4x128_1_3_0_2) shapeCasts_S34x128x4x128_S4352x4x128
def rrs : FVec Ideal S4352x4x1 .f32 := Host.rsqrt (rms v)
def rcs : FVec Ideal S4352x4x1 .f32 := mulf (broadcastInDim S4352x4x1 ![] bcast_S_S4352x4x1 (constant S_ .f32 0xBF000000#32)) (Host.divf (rrs v) (rms v))
def rnm : FVec Ideal S4352x4x128 .f32 := mulf (rgroups v) (broadcastInDim S4352x4x128 ![0, 1, 2] bcast_S4352x4x1_S4352x4x128_0_1_2 (rrs v))
def rgain : FVec Ideal S4352x4x128 .f32 :=
  mulf (rback u w e) (broadcastInDim S4352x4x128 ![0, 1, 2] bcast_S1x4x128_S4352x4x128_0_1_2 (broadcastInDim S1x4x128 ![1, 2] bcast_S4x128_S1x4x128_1_2 (shapeCast _ g shapeCasts_S1x512_S4x128)))
def rsumg : FVec Ideal S4352x4 .f32 := Host.reduceAdd (mulf (rgroups v) (rgain u g w e)) (constant S_ .f32 0x00000000#32) reducesTo_S4352x4x128_S4352x4_d2 h_S_
def rbb : FVec Ideal S4352x4x1 .f32 :=
  Host.divf (mulf (shapeCast _ (rsumg u v g w e) shapeCasts_S4352x4_S4352x4x1) (rcs v)) (broadcastInDim S4352x4x1 ![] bcast_S_S4352x4x1 (constant S_ .f32 0x43000000#32))
def rspread : FVec Ideal S4352x4x128 .f32 :=
  broadcastInDim S4352x4x128 ![0, 1] bcast_S4352x4_S4352x4x128_0_1 (Host.reduceAdd (rbb u v g w e) (constant S_ .f32 0x00000000#32) reducesTo_S4352x4x1_S4352x4_d2 h_S_)
def rgr : FVec Ideal S4352x4x128 .f32 :=
  addf (addf (mulf (rgain u g w e) (broadcastInDim S4352x4x128 ![0, 1, 2] bcast_S4352x4x1_S4352x4x128_0_1_2 (rrs v))) (mulf (rgroups v) (rspread u v g w e)))
    (mulf (rspread u v g w e) (rgroups v))
def dv : FVec Ideal S4352x512 .f32 := rcutGrad v (shapeCast _ (rgr u v g w e) shapeCasts_S4352x4x128_S4352x512)
def dg : FVec Ideal S1x512 .f32 :=
  shapeCast _ (Host.reduceAdd (shapeCast _ (Host.reduceAdd (mulf (rnm v) (rback u w e)) (constant S_ .f32 0x00000000#32) reducesTo_S4352x4x128_S4x128_d0 h_S_) shapeCasts_S4x128_S1x4x128)
    (constant S_ .f32 0x00000000#32) reducesTo_S1x4x128_S4x128_d0 h_S_) shapeCasts_S4x128_S1x512
def dw : FVec Ideal S4x128x128 .f32 :=
  Host.dotGeneral dot_S4x34x128x128_S34x128x4x128_S4x128x128_12_03_3_1_0_2 none (rturn u e) (shapeCast _ (rnorm v g) shapeCasts_S4352x4x128_S34x128x4x128)
def rshiftIn : FVec Ideal S128x4 .f32 := Host.reduceAdd (rlift u e) (constant S_ .f32 0x00000000#32) reducesTo_S34x128x4x128_S128x4_d0_3 h_S_
def rshiftMid : FVec Ideal S128x4 .f32 :=
  Host.reduceAdd (shapeCast _ (rshiftIn u e) shapeCasts_S128x4_S1x128x4x1) (constant S_ .f32 0x00000000#32) reducesTo_S1x128x4x1_S128x4_d0_3 h_S_
def rshiftGrad : FVec Ideal S128x4 .f32 :=
  Host.reduceAdd (broadcastInDim S128x4x1 ![0, 1] bcast_S128x4_S128x4x1_0_1 (rshiftMid u e)) (constant S_ .f32 0x00000000#32) reducesTo_S128x4x1_S128x4_d2 h_S_
def db : Fin 4 → FVec Ideal S128x1 .f32 :=
  ![extractStridedSlice S128x1 ![0, 0] (rshiftGrad u e) slices_S128x4_S128x1_0_0, extractStridedSlice S128x1 ![0, 1] (rshiftGrad u e) slices_S128x4_S128x1_0_1,
    extractStridedSlice S128x1 ![0, 2] (rshiftGrad u e) slices_S128x4_S128x1_0_2, extractStridedSlice S128x1 ![0, 3] (rshiftGrad u e) slices_S128x4_S128x1_0_3]

theorem res0_eq (m : (ℓ : Loc nD τ sig) → Buf (Elt Ideal) ℓ) (c : Dev nD) : res_out0 m c
    = du (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) := rfl
theorem res1_eq (m : (ℓ : Loc nD τ sig) → Buf (Elt Ideal) ℓ) (c : Dev nD) : res_out1 m c
    = dv (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg8)) := rfl

/-! Read at an index. -/
/-- What reaches a mixed entry. -/
def lift (r : Fin 4352) (j : Fin 512) : EReal := cut (u (ix2 r j)) * e (ix2 r j)

theorem rbend_apply (r : Fin 4352) (j : Fin 512) : rbend u (ix2 r j) = bend (u (ix2 r j)) := by
  pointwise [rbend]
  rw [bend, mul_comm (u (ix2 r j)) (u (ix2 r j) * u (ix2 r j))]
theorem rbendGrad_apply (r : Fin 4352) (j : Fin 512) : rbendGrad u d (ix2 r j) = bendGrad (u (ix2 r j)) (d (ix2 r j)) := by
  pointwise [rbendGrad]
  rw [rbend_apply]
  rfl
theorem rcutGrad_apply (r : Fin 4352) (j : Fin 512) : rcutGrad u d (ix2 r j) = cutGrad (u (ix2 r j)) (d (ix2 r j)) := by
  pointwise [rcutGrad]
  rw [rbend_apply, rbendGrad_apply]
  rfl
theorem rlift_apply (n : Fin 34) (t : Fin 128) (h : Fin 4) (k : Fin 128) : rlift u e (ix4 n t h k) = lift u e (at_ n t) (col h k) := by
  pointwise [rlift]
  exact congrArg (· * _) (rcut_apply u (at_ n t) (col h k))
theorem rturn_apply (h : Fin 4) (n : Fin 34) (k t : Fin 128) : rturn u e (ix4 h n k t) = lift u e (at_ n t) (col h k) := by
  rw [← rlift_apply]
  pointwise [rturn]
theorem rback_apply (n : Fin 34) (s : Fin 128) (h : Fin 4) (k : Fin 128) :
    rback u w e (ix3 (at_ n s) h k) = ∑ t, lift u e (at_ n t) (col h k) * w (ix3 h t s) := by
  simp only [← rturn_apply]
  pointwise [rback, at_]
theorem rrs_apply (r : Fin 4352) (h : Fin 4) : rrs v (ix3 r h 0) = rs width (crow v r h) := by
  pointwise [rrs]
  rw [rms_apply, rs]
theorem rcs_apply (r : Fin 4352) (h : Fin 4) : rcs v (ix3 r h 0) = cs width (crow v r h) := by
  pointwise [rcs]
  rw [rms_apply, rrs_apply]
  rfl
theorem rnm_apply (r : Fin 4352) (h : Fin 4) (k : Fin 128) : rnm v (ix3 r h k) = nm width (crow v r h) k := by
  pointwise [rnm]
  rw [rgroups_apply, rrs_apply, nm]
theorem rgain_apply (r : Fin 4352) (h : Fin 4) (k : Fin 128) : rgain u g w e (ix3 r h k) = rback u w e (ix3 r h k) * g (ix2 0 (col h k)) := by
  pointwise [rgain]
  rfl
theorem rsumg_apply (r : Fin 4352) (h : Fin 4) :
    rsumg u v g w e (ix2 r h) = ∑ k, crow v r h k * (rback u w e (ix3 r h k) * g (ix2 0 (col h k))) := by
  pointwise [rsumg]
  simp only [rgroups_apply, rgain_apply]
theorem rbb_apply (r : Fin 4352) (h : Fin 4) :
    rbb u v g w e (ix3 r h 0) = bb width (crow v r h) (fun k => rback u w e (ix3 r h k)) fun k => g (ix2 0 (col h k)) := by
  pointwise [rbb]
  rw [rsumg_apply, rcs_apply]
  rfl
theorem rspread_apply (r : Fin 4352) (h : Fin 4) (k : Fin 128) :
    rspread u v g w e (ix3 r h k) = bb width (crow v r h) (fun k => rback u w e (ix3 r h k)) fun k => g (ix2 0 (col h k)) := by
  pointwise [rspread]
  rw [Fin.sum_univ_one, rbb_apply]
theorem rgr_apply (r : Fin 4352) (h : Fin 4) (k : Fin 128) :
    rgr u v g w e (ix3 r h k) = gr width (crow v r h) (fun k => rback u w e (ix3 r h k)) (fun k => g (ix2 0 (col h k))) k := by
  pointwise [rgr]
  rw [rgain_apply, rrs_apply, rgroups_apply, rspread_apply]
  rfl

/-! The results. -/
theorem du_apply (n : Fin 34) (t : Fin 128) (h : Fin 4) (k : Fin 128) :
    du u v g w b0 b1 b2 b3 e (ix2 (at_ n t) (col h k)) = cutGrad (u (ix2 (at_ n t) (col h k))) (e (ix2 (at_ n t) (col h k))
      * mixed (fun s => w (ix3 h t s)) (fun s => nrow v g (at_ n s) h k) (shift b0 b1 b2 b3 h (ix2 t 0))) := by
  rw [du, rcutGrad_apply, ← rmix_apply]
  refine congrArg _ ?_
  pointwise [at_, col]
theorem dv_apply (r : Fin 4352) (h : Fin 4) (k : Fin 128) : dv u v g w e (ix2 r (col h k))
    = cutGrad (v (ix2 r (col h k))) (gr width (crow v r h) (fun k => rback u w e (ix3 r h k)) (fun k => g (ix2 0 (col h k))) k) := by
  rw [dv, rcutGrad_apply, ← rgr_apply]
  refine congrArg _ ?_
  pointwise [col]
theorem dg_apply (h : Fin 4) (k : Fin 128) : dg u v w e (ix2 0 (col h k)) = ∑ r : Fin 4352, nm width (crow v r h) k * rback u w e (ix3 r h k) := by
  simp only [← rnm_apply]
  pointwise [dg, col]
  exact Fin.sum_univ_one _
theorem dw_apply (h : Fin 4) (t s : Fin 128) :
    dw u v g e (ix3 h t s) = ∑ n : Fin 34, ∑ k : Fin 128, lift u e (at_ n t) (col h k) * nrow v g (at_ n s) h k := by
  simp only [← rturn_apply, ← rnorm_apply]
  pointwise [dw, at_]
theorem rshiftIn_apply (t : Fin 128) (h : Fin 4) : rshiftIn u e (ix2 t h) = ∑ n : Fin 34, ∑ k : Fin 128, lift u e (at_ n t) (col h k) := by
  simp only [← rlift_apply]
  refine Eq.trans ?_ (sum_outer_two reducesTo_S34x128x4x128_S128x4_d0_3 _ t h)
  pointwise [rshiftIn]
theorem rshiftMid_apply (t : Fin 128) (h : Fin 4) : rshiftMid u e (ix2 t h) = rshiftIn u e (ix2 t h) := by
  have k : rshiftMid u e (ix2 t h) = ∑ r : Fin 1, ∑ k : Fin 1, (shapeCast S1x128x4x1 (rshiftIn u e) shapeCasts_S128x4_S1x128x4x1) (ix4 r t h k) := by
    refine Eq.trans ?_ (sum_outer_two reducesTo_S1x128x4x1_S128x4_d0_3 _ t h)
    pointwise [rshiftMid]
  rw [k, Fin.sum_univ_one, Fin.sum_univ_one]
  pointwise
theorem db_apply (h : Fin 4) (t : Fin 128) : db u e h (ix2 t 0) = ∑ n : Fin 34, ∑ k : Fin 128, lift u e (at_ n t) (col h k) := by
  rw [← rshiftIn_apply, ← rshiftMid_apply]
  match h with
  | 0 | 1 | 2 | 3 =>
    pointwise [db, rshiftGrad]
    exact Fin.sum_univ_one _
end
end Cert.SgateBwdRefIdeal.Hand
end
-- ==== Proof.SgateBwdBlocks.lean ====
/-
  The gradients of the spatial gating on one block of rows: two chunks of rows, and four groups of columns.
-/
module

public import proofs.«01_k».proof.Proof.Gen.SgateBwdIdeal.Value
public import proofs.«01_k».proof.Proof.SgateFwdArrays
public import proofs.«01_k».proof.Proof.SgateBwdRef

@[expose] public section

set_option maxRecDepth 16384

noncomputable section

namespace Cert.SgateBwdIdeal.Hand

open Cert.SgateBwdIdeal Cert.SgateBwdIdeal.Gen Idealize.ShloMosaic Idealize.ShloMosaic.TcCoe Idealize.SL.Sem
open Cert.Proof.Norm Cert.Proof.Gating
open Cert.HgGateBwdIdeal.Hand (rowOf rowOf_val row heads heads_apply kfour kfour_apply ky ky_apply kgr kgr_apply kdg kdg_apply kjoin kjoin_apply)
open Cert.SgateFwdIdeal.Hand (kcut kcut_apply gains gains_apply weights weights_apply chunks chunks_apply kgroup kgroup_apply at2 row_cut)
open scoped BigOperators

section
variable (u v : FVec Ideal S256x512 .f32) (g : FVec Ideal S1x512 .f32) (w : FVec Ideal S4x128x128 .f32) (b : Fin 4 → FVec Ideal S128x1 .f32)
  (e : FVec Ideal S256x512 .bf16) (d : FVec Ideal S256x512 .f32)

def kbend : FVec Ideal S256x512 .f32 :=
  tanh (mulf (broadcast S256x512 (Scalar.ofBits (F := Ideal) .f32 0x3F4C422A#32)) (addf u (mulf (broadcast S256x512 (Scalar.ofBits (F := Ideal) .f32 0x3D372713#32)) (mulf u (mulf u u)))))
def kbendGrad : FVec Ideal S256x512 .f32 :=
  mulf (broadcast S256x512 (Scalar.ofBits (F := Ideal) .f32 0x3F4C422A#32)) (mulf (mulf (broadcast S256x512 (Scalar.ofBits (F := Ideal) .f32 0x3F000000#32)) (mulf u d))
    (mulf (addf (broadcast S256x512 (Scalar.ofBits (F := Ideal) .f32 0x3F800000#32)) (kbend u)) (subf (broadcast S256x512 (Scalar.ofBits (F := Ideal) .f32 0x3F800000#32)) (kbend u))))
/-- The gradient of the cut-off's argument. -/
def kcutGrad : FVec Ideal S256x512 .f32 :=
  addf (addf (mulf d (mulf (broadcast S256x512 (Scalar.ofBits (F := Ideal) .f32 0x3F000000#32)) (addf (broadcast S256x512 (Scalar.ofBits (F := Ideal) .f32 0x3F800000#32)) (kbend u)))) (kbendGrad u d))
    (mulf (mulf (broadcast S256x512 (Scalar.ofBits (F := Ideal) .f32 0x3D372713#32)) (kbendGrad u d)) (mulf (broadcast S256x512 (Scalar.ofBits (F := Ideal) .f32 0x40400000#32)) (mulf u u)))
def kdu : FVec Ideal S256x512 .f32 := kcutGrad u (mulf (extf .f32 e bitsLt_bf16_f32) (kfour (kgroup v g w b)))
/-- What reaches each group's mixed rows. -/
def klift (h : Fin 4) : FVec Ideal S256x128 .f32 := heads (mulf (kcut u) (extf .f32 e bitsLt_bf16_f32)) h
/-- What reaches a chunk's rows before they are mixed. -/
def kpull (x : FVec Ideal S128x128 .f32) (wt : FVec Ideal S1x128x128 .f32) : FVec Ideal S128x128 .f32 :=
  extf .f32 (truncf .bf16 (transpose S128x128 [1, 0] (matmul dot_S128x128_S128x128_S128x128_0_0_1_1_n_n none x
    (truncf .bf16 (shapeCast S128x128 wt shapeCasts_S1x128x128_S128x128) bitsLt_bf16_f32) (constant S128x128 .f32 0x00000000#32)) transposes_S128x128_p1_0_S128x128) bitsLt_bf16_f32) bitsLt_bf16_f32
def ksum (x0 x1 : FVec Ideal S128x128 .f32) : FVec Ideal S256x128 .f32 :=
  addf (concatenate S256x128 0 [⟨S128x128, broadcast S128x128 (Scalar.ofBits (F := Ideal) .f32 0x00000000#32)⟩, ⟨S128x128, x1⟩] concatenates_S128x128_S128x128_S256x128_d0)
    (concatenate S256x128 0 [⟨S128x128, x0⟩, ⟨S128x128, broadcast S128x128 (Scalar.ofBits (F := Ideal) .f32 0x00000000#32)⟩] concatenates_S128x128_S128x128_S256x128_d0)
def kback (h : Fin 4) : FVec Ideal S256x128 .f32 :=
  ksum (kpull (chunks (klift u e h) 0) (weights w h)) (kpull (chunks (klift u e h) 1) (weights w h))
def kgrad (h : Fin 4) : FVec Ideal S256x128 .f32 := kgr (heads (kcut v) h) (kback u w e h) (gains g h)
def kdv : FVec Ideal S256x512 .f32 := kcutGrad v (kjoin (kgrad u v g w e 0) (kgrad u v g w e 1) (kgrad u v g w e 2) (kgrad u v g w e 3))

/-- The four groups' parts of the gain's gradient, side by side. -/
def kside (x : Fin 4 → FVec Ideal S1x128 .f32) : FVec Ideal S1x512 .f32 :=
  addf (addf (addf
    (concatenate S1x512 1 [⟨S1x384, broadcast S1x384 (Scalar.ofBits (F := Ideal) .f32 0x00000000#32)⟩, ⟨S1x128, x 3⟩] concatenates_S1x384_S1x128_S1x512_d1)
    (concatenate S1x512 1 [⟨S1x384, concatenate S1x384 1 [⟨S1x256, broadcast S1x256 (Scalar.ofBits (F := Ideal) .f32 0x00000000#32)⟩, ⟨S1x128, x 2⟩] concatenates_S1x256_S1x128_S1x384_d1⟩,
      ⟨S1x128, broadcast S1x128 (Scalar.ofBits (F := Ideal) .f32 0x00000000#32)⟩] concatenates_S1x384_S1x128_S1x512_d1))
    (concatenate S1x512 1 [⟨S1x256, concatenate S1x256 1 [⟨S1x128, broadcast S1x128 (Scalar.ofBits (F := Ideal) .f32 0x00000000#32)⟩, ⟨S1x128, x 1⟩] concatenates_S1x128_S1x128_S1x256_d1⟩,
      ⟨S1x256, broadcast S1x256 (Scalar.ofBits (F := Ideal) .f32 0x00000000#32)⟩] concatenates_S1x256_S1x256_S1x512_d1))
    (concatenate S1x512 1 [⟨S1x128, x 0⟩, ⟨S1x384, broadcast S1x384 (Scalar.ofBits (F := Ideal) .f32 0x00000000#32)⟩] concatenates_S1x128_S1x384_S1x512_d1)
def kdgs : FVec Ideal S1x512 .f32 := kside fun h => kdg (heads (kcut v) h) (kback u w e h)

/-- A chunk's part of a group's weights' gradient, and its place among the four. -/
def kpart (x : FVec Ideal S128x128 .f32) (y : FVec Ideal S128x128 .f32) : FVec Ideal S1x128x128 .f32 :=
  shapeCast S1x128x128 (extf .f32 (truncf .bf16 (matmul dot_S128x128_S128x128_S128x128_1_1_0_0_n_n none x (truncf .bf16 y bitsLt_bf16_f32) (constant S128x128 .f32 0x00000000#32)) bitsLt_bf16_f32) bitsLt_bf16_f32)
    shapeCasts_S128x128_S1x128x128
def kslot (x : FVec Ideal S1x128x128 .f32) : Fin 4 → FVec Ideal S4x128x128 .f32 :=
  ![concatenate S4x128x128 0 [⟨S1x128x128, x⟩, ⟨S3x128x128, broadcast S3x128x128 (Scalar.ofBits (F := Ideal) .f32 0x00000000#32)⟩] concatenates_S1x128x128_S3x128x128_S4x128x128_d0,
    concatenate S4x128x128 0 [⟨S2x128x128, concatenate S2x128x128 0 [⟨S1x128x128, broadcast S1x128x128 (Scalar.ofBits (F := Ideal) .f32 0x00000000#32)⟩, ⟨S1x128x128, x⟩] concatenates_S1x128x128_S1x128x128_S2x128x128_d0⟩,
      ⟨S2x128x128, broadcast S2x128x128 (Scalar.ofBits (F := Ideal) .f32 0x00000000#32)⟩] concatenates_S2x128x128_S2x128x128_S4x128x128_d0,
    concatenate S4x128x128 0 [⟨S3x128x128, concatenate S3x128x128 0 [⟨S2x128x128, broadcast S2x128x128 (Scalar.ofBits (F := Ideal) .f32 0x00000000#32)⟩, ⟨S1x128x128, x⟩] concatenates_S2x128x128_S1x128x128_S3x128x128_d0⟩,
      ⟨S1x128x128, broadcast S1x128x128 (Scalar.ofBits (F := Ideal) .f32 0x00000000#32)⟩] concatenates_S3x128x128_S1x128x128_S4x128x128_d0,
    concatenate S4x128x128 0 [⟨S3x128x128, broadcast S3x128x128 (Scalar.ofBits (F := Ideal) .f32 0x00000000#32)⟩, ⟨S1x128x128, x⟩] concatenates_S3x128x128_S1x128x128_S4x128x128_d0]
def kchunkPart (h : Fin 4) (n : Fin 2) : FVec Ideal S1x128x128 .f32 := kpart (chunks (klift u e h) n) (chunks (ky (heads (kcut v) h) (gains g h)) n)
def kdw : FVec Ideal S4x128x128 .f32 :=
  addf (addf (addf (addf (addf (addf (addf (kslot (kchunkPart u v g e 3 1) 3) (kslot (kchunkPart u v g e 3 0) 3)) (kslot (kchunkPart u v g e 2 1) 2)) (kslot (kchunkPart u v g e 2 0) 2))
    (kslot (kchunkPart u v g e 1 1) 1)) (kslot (kchunkPart u v g e 1 0) 1)) (kslot (kchunkPart u v g e 0 1) 0)) (kslot (kchunkPart u v g e 0 0) 0)

def ktotal (x : FVec Ideal S128x128 .f32) : FVec Ideal S128x1 .f32 :=
  shapeCast S128x1 (multiReduction .add [1] S128 x 0x00000000#32 reduces_S128x128_S128 (.inl rfl) rfl) shapeCasts_S128_S128x1
def kdb (h : Fin 4) : FVec Ideal S128x1 .f32 := addf (ktotal (chunks (klift u e h) 1)) (ktotal (chunks (klift u e h) 0))

/-! Read at an index. -/
theorem kbend_apply (r : Fin 256) (j : Fin 512) : kbend u (ix2 r j) = bend (u (ix2 r j)) := by
  pointwise [kbend]
  rfl
theorem kbendGrad_apply (r : Fin 256) (j : Fin 512) : kbendGrad u d (ix2 r j) = bendGrad (u (ix2 r j)) (d (ix2 r j)) := by
  pointwise [kbendGrad]
  rw [kbend_apply]
  rfl
theorem kcutGrad_apply (r : Fin 256) (j : Fin 512) : kcutGrad u d (ix2 r j) = cutGrad (u (ix2 r j)) (d (ix2 r j)) := by
  pointwise [kcutGrad]
  rw [kbend_apply, kbendGrad_apply]
  rfl
theorem kdu_apply (n : Fin 2) (t : Fin 128) (h : Fin 4) (k : Fin 128) :
    kdu u v g w b e (ix2 (at2 n t) (hc h k)) = cutGrad (u (ix2 (at2 n t) (hc h k))) (e (ix2 (at2 n t) (hc h k))
      * mixed (fun s => w (ix3 h t s)) (fun s => nm width (fun d => cut (v (ix2 (at2 n s) (hc h d)))) k * g (ix2 0 (hc h k))) (b h (ix2 t 0))) := by
  rw [← kgroup_apply, ← kfour_apply (kgroup v g w b), kdu, kcutGrad_apply]
  refine congrArg _ ?_
  pointwise
theorem klift_apply (h : Fin 4) (r : Fin 256) (k : Fin 128) : klift u e h (ix2 r k) = cut (u (ix2 r (hc h k))) * e (ix2 r (hc h k)) := by
  rw [klift, heads_apply, ← kcut_apply]
  pointwise
theorem kpull_apply (x : FVec Ideal S128x128 .f32) (wt : FVec Ideal S1x128x128 .f32) (s k : Fin 128) :
    kpull x wt (ix2 s k) = ∑ t, x (ix2 t k) * wt (ix3 0 t s) := by
  pointwise [kpull]
theorem ksum_apply (x : Fin 2 → FVec Ideal S128x128 .f32) (n : Fin 2) (s k : Fin 128) : ksum (x 0) (x 1) (ix2 (at2 n s) k) = x n (ix2 s k) := by
  have hs := s.isLt
  match n with
  | 0 | 1 =>
    pointwise [ksum, at2]
    try simp only [zero_add, add_zero]
theorem kback_apply (h : Fin 4) (n : Fin 2) (s k : Fin 128) :
    kback u w e h (ix2 (at2 n s) k) = ∑ t, cut (u (ix2 (at2 n t) (hc h k))) * e (ix2 (at2 n t) (hc h k)) * w (ix3 h t s) := by
  refine (ksum_apply (fun n => kpull (chunks (klift u e h) n) (weights w h)) n s k).trans ?_
  simp only [kpull_apply, chunks_apply, klift_apply, weights_apply]
theorem kdv_apply (r : Fin 256) (h : Fin 4) (k : Fin 128) : kdv u v g w e (ix2 r (hc h k))
    = cutGrad (v (ix2 r (hc h k))) (gr width (fun d => cut (v (ix2 r (hc h d)))) (row (kback u w e h) r) (fun d => g (ix2 0 (hc h d))) k) := by
  rw [kdv, kcutGrad_apply]
  refine congrArg _ ((kjoin_apply (kgrad u v g w e) h r k).trans ?_)
  rw [kgrad, kgr_apply, row_cut, show row (gains g h) 0 = _ from funext fun d => gains_apply g h d]
theorem kside_apply (x : Fin 4 → FVec Ideal S1x128 .f32) (h : Fin 4) (k : Fin 128) : kside x (ix2 0 (hc h k)) = x h (ix2 0 k) := by
  have hk := k.isLt
  match h with
  | 0 | 1 | 2 | 3 =>
    pointwise [kside, hc]
    try (split_ifs <;> first | (exfalso; omega) | simp only [zero_add, add_zero])
theorem kdgs_apply (h : Fin 4) (k : Fin 128) : kdgs u v w e (ix2 0 (hc h k))
    = ∑ r : Fin 256, nm width (fun d => cut (v (ix2 r (hc h d)))) k * kback u w e h (ix2 r k) := by
  rw [kdgs, kside_apply, kdg_apply]
  simp only [row_cut]
theorem kpart_apply (x y : FVec Ideal S128x128 .f32) (t s : Fin 128) : kpart x y (ix3 0 t s) = ∑ k, x (ix2 t k) * y (ix2 s k) := by
  pointwise [kpart]
theorem kslot_apply (x : FVec Ideal S1x128x128 .f32) (i h : Fin 4) (t s : Fin 128) : kslot x i (ix3 h t s) = if i = h then x (ix3 0 t s) else 0 := by
  match i, h with
  | 0, 0 | 0, 1 | 0, 2 | 0, 3 | 1, 0 | 1, 1 | 1, 2 | 1, 3 | 2, 0 | 2, 1 | 2, 2 | 2, 3 | 3, 0 | 3, 1 | 3, 2 | 3, 3 => pointwise [kslot]; try simp
theorem kchunkPart_apply (h : Fin 4) (n : Fin 2) (t s : Fin 128) : kchunkPart u v g e h n (ix3 0 t s)
    = ∑ k, cut (u (ix2 (at2 n t) (hc h k))) * e (ix2 (at2 n t) (hc h k)) * (nm width (fun d => cut (v (ix2 (at2 n s) (hc h d)))) k * g (ix2 0 (hc h k))) := by
  rw [kchunkPart, kpart_apply]
  simp only [chunks_apply, klift_apply, ky_apply, row_cut, gains_apply]
theorem kdw_apply (h : Fin 4) (t s : Fin 128) : kdw u v g e (ix3 h t s) = ∑ n : Fin 2, kchunkPart u v g e h n (ix3 0 t s) := by
  rw [Fin.sum_univ_two, add_comm, kdw]
  simp only [show ∀ x y : FVec Ideal S4x128x128 .f32, ∀ i, addf x y i = x i + y i from fun _ _ _ => rfl, kslot_apply]
  match h with
  | 0 | 1 | 2 | 3 => simp
theorem ktotal_apply (x : FVec Ideal S128x128 .f32) (t : Fin 128) : ktotal x (ix2 t 0) = ∑ k, x (ix2 t k) := by
  pointwise [ktotal]
theorem kdb_apply (h : Fin 4) (t : Fin 128) : kdb u e h (ix2 t 0) = ∑ n : Fin 2, ∑ k : Fin 128, cut (u (ix2 (at2 n t) (hc h k))) * e (ix2 (at2 n t) (hc h k)) := by
  rw [Fin.sum_univ_two, add_comm]
  simp only [← klift_apply, ← chunks_apply, ← ktotal_apply]
  rfl
end
end Cert.SgateBwdIdeal.Hand
end
-- ==== Proof.SgateBwdArrays.lean ====
/-
  The gradients of the spatial gating are the reference's: two are written block by block, and six are summed over the grid points.
-/
module

public import proofs.«01_k».proof.Proof.SgateBwdBlocks

@[expose] public section

set_option maxRecDepth 16384

noncomputable section

namespace Cert.SgateBwdIdeal.Hand

open Cert.SgateBwdIdeal Cert.SgateBwdIdeal.Gen Idealize.ShloMosaic Idealize.ShloMosaic.TcCoe Idealize.SL.Sem
open Cert.Proof.Norm Cert.Proof.Gating
open Cert.HgGateBwdIdeal.Hand (rowOf rowOf_val row sum_rows)
open Cert.SgateFwdIdeal.Hand (at2 chunkOf row_chunk)
open Cert.SgateFwdRefIdeal.Hand (at_ col shift crow nrow)
open Cert.SgateBwdRefIdeal.Hand (lift rback rback_apply du dv dg dw db du_apply dv_apply dg_apply dw_apply db_apply)
open scoped BigOperators

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx8 : ∀ t : Fin cfg0.N, win0_8.index t = ![t.val, 0] := (by decide +kernel : ∀ t : Fin grid0.N, win0_8.index t = ![t.val, 0])
theorem idx9 : ∀ t : Fin cfg0.N, win0_9.index t = ![t.val, 0] := (by decide +kernel : ∀ t : Fin grid0.N, win0_9.index t = ![t.val, 0])
theorem idx10 : ∀ t : Fin cfg0.N, win0_10.index t = ![t.val, 0] := (by decide +kernel : ∀ t : Fin grid0.N, win0_10.index t = ![t.val, 0])
theorem idx2 : ∀ t : Fin cfg0.N, win0_2.index t = ![0, 0] := (by decide +kernel : ∀ t : Fin grid0.N, win0_2.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx11 : ∀ t : Fin cfg0.N, win0_11.index t = ![0, 0] := (by decide +kernel : ∀ t : Fin grid0.N, win0_11.index t = ![0, 0])
theorem idx13 : ∀ t : Fin cfg0.N, win0_13.index t = ![0, 0] := (by decide +kernel : ∀ t : Fin grid0.N, win0_13.index t = ![0, 0])
theorem idx14 : ∀ t : Fin cfg0.N, win0_14.index t = ![0, 0] := (by decide +kernel : ∀ t : Fin grid0.N, win0_14.index t = ![0, 0])
theorem idx15 : ∀ t : Fin cfg0.N, win0_15.index t = ![0, 0] := (by decide +kernel : ∀ t : Fin grid0.N, win0_15.index t = ![0, 0])
theorem idx16 : ∀ t : Fin cfg0.N, win0_16.index t = ![0, 0] := (by decide +kernel : ∀ t : Fin grid0.N, win0_16.index t = ![0, 0])
theorem idx3 : ∀ t : Fin cfg0.N, win0_3.index t = ![0, 0, 0] := (by decide +kernel : ∀ t : Fin grid0.N, win0_3.index t = ![0, 0, 0])
theorem idx12 : ∀ t : Fin cfg0.N, win0_12.index t = ![0, 0, 0] := (by decide +kernel : ∀ t : Fin grid0.N, win0_12.index t = ![0, 0, 0])
theorem flush11 : ∀ t : Fin cfg0.N, (cfg0.win 11).flush t = true → t.val % 17 = 16 := by decide +kernel
theorem flush12 : ∀ t : Fin cfg0.N, (cfg0.win 12).flush t = true → t.val % 17 = 16 := by decide +kernel
theorem flush13 : ∀ t : Fin cfg0.N, (cfg0.win 13).flush t = true → t.val % 17 = 16 := by decide +kernel
theorem flush14 : ∀ t : Fin cfg0.N, (cfg0.win 14).flush t = true → t.val % 17 = 16 := by decide +kernel
theorem flush15 : ∀ t : Fin cfg0.N, (cfg0.win 15).flush t = true → t.val % 17 = 16 := by decide +kernel
theorem flush16 : ∀ t : Fin cfg0.N, (cfg0.win 16).flush t = true → t.val % 17 = 16 := by decide +kernel

/-- A row of the block is a row of one of its chunks, and a column is a column of one of the groups. -/
theorem chunk_row (r : Fin 256) : ∃ (n : Fin 2) (s : Fin 128), r = at2 n s :=
  ⟨⟨r.val / 128, by omega⟩, ⟨r.val % 128, by omega⟩, Fin.ext (by simp only [at2]; omega)⟩
def groupOf (j : Fin 512) : Fin 4 := ⟨j.val / 128, by omega⟩
def laneOf (j : Fin 512) : Fin 128 := ⟨j.val % 128, by omega⟩
theorem group_column (j : Fin 512) : j = hc (groupOf j) (laneOf j) := Fin.ext (by simp only [hc, groupOf, laneOf]; omega)
theorem sum_chunks (f : Fin 34 → EReal) : ∑ p ∈ Finset.range 17, ∑ n : Fin 2, f (chunkOf p n) = ∑ n : Fin 34, f n := by
  rw [Finset.sum_range, Fin.sum_univ_tiles 17 2 rfl]
  refine Finset.sum_congr rfl fun p _ => Finset.sum_congr rfl fun n _ => congrArg f (Fin.ext ?_)
  rw [chunkOf, dif_pos p.isLt]

section
variable (m : (ℓ : Loc nD τ sig) → Buf (Elt Ideal) ℓ) (c : Dev nD)

def A0 : FVec Ideal S4352x512 .f32 := m ((c.tc : Thread nD τ).loc main_arg0)
def A1 : FVec Ideal S4352x512 .f32 := m ((c.tc : Thread nD τ).loc main_arg1)
def A2 : FVec Ideal S1x512 .f32 := m ((c.tc : Thread nD τ).loc main_arg2)
def A3 : FVec Ideal S4x128x128 .f32 := m ((c.tc : Thread nD τ).loc main_arg3)
def A4 : FVec Ideal S128x1 .f32 := m ((c.tc : Thread nD τ).loc main_arg4)
def A5 : FVec Ideal S128x1 .f32 := m ((c.tc : Thread nD τ).loc main_arg5)
def A6 : FVec Ideal S128x1 .f32 := m ((c.tc : Thread nD τ).loc main_arg6)
def A7 : FVec Ideal S128x1 .f32 := m ((c.tc : Thread nD τ).loc main_arg7)
def A8 : FVec Ideal S4352x512 .bf16 := m ((c.tc : Thread nD τ).loc main_arg8)

def uB (t : Fin cfg0.N) : FVec Ideal S256x512 .f32 := iblk m c 0 t
def vB (t : Fin cfg0.N) : FVec Ideal S256x512 .f32 := iblk m c 1 t
def gB (t : Fin cfg0.N) : FVec Ideal S1x512 .f32 := iblk m c 2 t
def wB (t : Fin cfg0.N) : FVec Ideal S4x128x128 .f32 := iblk m c 3 t
def bB (t : Fin cfg0.N) (h : Fin 4) : FVec Ideal S128x1 .f32 := ![(iblk m c 4 t : FVec Ideal S128x1 .f32), (iblk m c 5 t : FVec Ideal S128x1 .f32), (iblk m c 6 t : FVec Ideal S128x1 .f32), (iblk m c 7 t : FVec Ideal S128x1 .f32)] h
def eB (t : Fin cfg0.N) : FVec Ideal S256x512 .bf16 := iblk m c 8 t

theorem uB_apply (t : Fin cfg0.N) (r : Fin 256) (j : Fin 512) : uB m c t (ix2 r j) = A0 m c (ix2 (rowOf t.val r) j) := by
  have ht : t.val < 17 := lt_of_lt_of_eq t.isLt N_0
  rw [A0, uB]
  blk_ext [iblk, V, idx0 t] <;> simp only [rowOf_val ht] <;> omega
theorem vB_apply (t : Fin cfg0.N) (r : Fin 256) (j : Fin 512) : vB m c t (ix2 r j) = A1 m c (ix2 (rowOf t.val r) j) := by
  have ht : t.val < 17 := lt_of_lt_of_eq t.isLt N_0
  rw [A1, vB]
  blk_ext [iblk, V, idx1 t] <;> simp only [rowOf_val ht] <;> omega
theorem gB_apply (t : Fin cfg0.N) (j : Fin 512) : gB m c t (ix2 0 j) = A2 m c (ix2 0 j) := by
  rw [A2, gB]
  blk_ext [iblk, V, idx2 t] <;> omega
theorem wB_apply (t : Fin cfg0.N) (h : Fin 4) (i j : Fin 128) : wB m c t (ix3 h i j) = A3 m c (ix3 h i j) := by
  rw [A3, wB]
  blk_ext [iblk, V, idx3 t] <;> omega
theorem bB_apply (t : Fin cfg0.N) (h : Fin 4) (i : Fin 128) :
    bB m c t h (ix2 i 0) = Cert.SgateFwdRefIdeal.Hand.shift (A4 m c) (A5 m c) (A6 m c) (A7 m c) h (ix2 i 0) := by
  match h with
  | 0 =>
    show (iblk m c 4 t : FVec Ideal S128x1 .f32) (ix2 i 0) = A4 m c (ix2 i 0)
    rw [A4]
    blk_ext [iblk, V, idx4 t] <;> omega
  | 1 =>
    show (iblk m c 5 t : FVec Ideal S128x1 .f32) (ix2 i 0) = A5 m c (ix2 i 0)
    rw [A5]
    blk_ext [iblk, V, idx5 t] <;> omega
  | 2 =>
    show (iblk m c 6 t : FVec Ideal S128x1 .f32) (ix2 i 0) = A6 m c (ix2 i 0)
    rw [A6]
    blk_ext [iblk, V, idx6 t] <;> omega
  | 3 =>
    show (iblk m c 7 t : FVec Ideal S128x1 .f32) (ix2 i 0) = A7 m c (ix2 i 0)
    rw [A7]
    blk_ext [iblk, V, idx7 t] <;> omega

theorem eB_apply (t : Fin cfg0.N) (r : Fin 256) (j : Fin 512) : eB m c t (ix2 r j) = A8 m c (ix2 (rowOf t.val r) j) := by
  have ht : t.val < 17 := lt_of_lt_of_eq t.isLt N_0
  rw [A8, eB]
  blk_ext [iblk, V, idx8 t] <;> simp only [rowOf_val ht] <;> omega
theorem cut_row (t : Fin cfg0.N) (r : Fin 256) (h : Fin 4) : (fun d => cut (vB m c t (ix2 r (hc h d)))) = crow (A1 m c) (rowOf t.val r) h :=
  funext fun d => congrArg cut (vB_apply m c t r (hc h d))
theorem back_row (t : Fin cfg0.N) (r : Fin 256) (h : Fin 4) :
    row (kback (uB m c t) (wB m c t) (eB m c t) h) r = fun k => rback (A0 m c) (A3 m c) (A8 m c) (ix3 (rowOf t.val r) h k) := by
  have ht : t.val < 17 := lt_of_lt_of_eq t.isLt N_0
  obtain ⟨n, s, rfl⟩ := chunk_row r
  funext k
  rw [row, kback_apply, row_chunk ht, rback_apply]
  simp only [uB_apply, eB_apply, wB_apply, row_chunk ht]
  rfl

/-! The two results that are written block by block. -/
theorem first (t : Fin cfg0.N) (p : t.val % 17 = 0) : ¬ 1 ≤ t.val := by
  have ht : t.val < 17 := lt_of_lt_of_eq t.isLt N_0
  omega
theorem later (t : Fin cfg0.N) (p : ¬ t.val % 17 = 0) : 1 ≤ t.val := by omega

def duB (t : Fin cfg0.N) : FVec Ideal S256x512 .f32 := kdu (uB m c t) (vB m c t) (gB m c t) (wB m c t) (bB m c t) (eB m c t)
def dvB (t : Fin cfg0.N) : FVec Ideal S256x512 .f32 := kdv (uB m c t) (vB m c t) (gB m c t) (wB m c t) (eB m c t)
def dgB (t : Fin cfg0.N) : FVec Ideal S1x512 .f32 := kdgs (uB m c t) (vB m c t) (wB m c t) (eB m c t)
def dwB (t : Fin cfg0.N) : FVec Ideal S4x128x128 .f32 := kdw (uB m c t) (vB m c t) (gB m c t) (eB m c t)
def dbB (t : Fin cfg0.N) (h : Fin 4) : FVec Ideal S128x1 .f32 := kdb (uB m c t) (eB m c t) h

set_option maxHeartbeats 1600000 in
theorem du_out (t : Fin cfg0.N) (y : S256x512.Idx) : (outsAt0 m c t.val t.isLt).1 y = duB m c t y := by
  by_cases p : t.val % 17 = 0
  · rw [outsAt0_A m c t p (first t p) p (first t p) p (first t p) p (first t p) p (first t p) p (first t p)]
    frame_out
    exact congrFun (show _ = duB m c t from rfl) y
  · rw [outsAt0_B m c t p (later t p) p (later t p) p (later t p) p (later t p) p (later t p) p (later t p)]
    frame_out
    exact congrFun (show _ = duB m c t from rfl) y
theorem dv_out (t : Fin cfg0.N) (y : S256x512.Idx) : (outsAt0 m c t.val t.isLt).2.1 y = dvB m c t y := by
  by_cases p : t.val % 17 = 0
  · rw [outsAt0_A m c t p (first t p) p (first t p) p (first t p) p (first t p) p (first t p) p (first t p)]
    frame_out
    exact congrFun (show _ = dvB m c t from rfl) y
  · rw [outsAt0_B m c t p (later t p) p (later t p) p (later t p) p (later t p) p (later t p) p (later t p)]
    frame_out
    exact congrFun (show _ = dvB m c t from rfl) y
theorem duB_apply (t : Fin cfg0.N) (r : Fin 256) (j : Fin 512) :
    duB m c t (ix2 r j) = du (A0 m c) (A1 m c) (A2 m c) (A3 m c) (A4 m c) (A5 m c) (A6 m c) (A7 m c) (A8 m c) (ix2 (rowOf t.val r) j) := by
  have ht : t.val < 17 := lt_of_lt_of_eq t.isLt N_0
  obtain ⟨n, s, rfl⟩ := chunk_row r
  rw [group_column j, row_chunk ht]
  refine Eq.trans ?_ (du_apply _ _ _ _ _ _ _ _ _ _ s _ _).symm
  rw [duB, kdu_apply]
  simp only [cut_row]
  simp only [uB_apply, gB_apply, wB_apply, bB_apply, eB_apply, row_chunk ht]
  rfl
theorem dvB_apply (t : Fin cfg0.N) (r : Fin 256) (j : Fin 512) :
    dvB m c t (ix2 r j) = dv (A0 m c) (A1 m c) (A2 m c) (A3 m c) (A8 m c) (ix2 (rowOf t.val r) j) := by
  rw [group_column j]
  refine Eq.trans ?_ (dv_apply _ _ _ _ _ _ _ _).symm
  rw [dvB, kdv_apply, cut_row, back_row]
  simp only [vB_apply, gB_apply]
  rfl

/-! What a grid point adds to each of the six sums. -/
def termG (r : Fin 4352) (j : Fin 512) : EReal :=
  nm width (crow (A1 m c) r (groupOf j)) (laneOf j) * rback (A0 m c) (A3 m c) (A8 m c) (ix3 r (groupOf j) (laneOf j))
def termW (n : Fin 34) (h : Fin 4) (t s : Fin 128) : EReal :=
  ∑ k : Fin 128, lift (A0 m c) (A8 m c) (at_ n t) (col h k) * nrow (A1 m c) (A2 m c) (at_ n s) h k
def termB (n : Fin 34) (h : Fin 4) (t : Fin 128) : EReal := ∑ k : Fin 128, lift (A0 m c) (A8 m c) (at_ n t) (col h k)
def addG (n : ℕ) (y : S1x512.Idx) : EReal := ∑ r : Fin 256, termG m c (rowOf n r) (y 1)
def addW (n : ℕ) (y : S4x128x128.Idx) : EReal := ∑ a : Fin 2, termW m c (chunkOf n a) (y 0) (y 1) (y 2)
def addB (h : Fin 4) (n : ℕ) (y : S128x1.Idx) : EReal := ∑ a : Fin 2, termB m c (chunkOf n a) h (y 0)

theorem dgB_apply (t : Fin cfg0.N) (j : Fin 512) : dgB m c t (ix2 0 j) = addG m c t.val (ix2 0 j) := by
  show _ = ∑ r : Fin 256, termG m c (rowOf t.val r) j
  conv_lhs => rw [group_column j]
  rw [dgB, kdgs_apply]
  refine Finset.sum_congr rfl fun r _ => ?_
  rw [cut_row, termG]
  exact congrArg (_ * ·) (congrFun (back_row m c t r (groupOf j)) (laneOf j))
theorem dwB_apply (t : Fin cfg0.N) (h : Fin 4) (i s : Fin 128) : dwB m c t (ix3 h i s) = addW m c t.val (ix3 h i s) := by
  have ht : t.val < 17 := lt_of_lt_of_eq t.isLt N_0
  show _ = ∑ a : Fin 2, termW m c (chunkOf t.val a) h i s
  rw [dwB, kdw_apply]
  refine Finset.sum_congr rfl fun a _ => ?_
  rw [kchunkPart_apply, cut_row]
  simp only [uB_apply, eB_apply, gB_apply, row_chunk ht]
  rfl
theorem dbB_apply (t : Fin cfg0.N) (h : Fin 4) (i : Fin 128) : dbB m c t h (ix2 i 0) = addB m c h t.val (ix2 i 0) := by
  have ht : t.val < 17 := lt_of_lt_of_eq t.isLt N_0
  show _ = ∑ a : Fin 2, termB m c (chunkOf t.val a) h i
  rw [dbB, kdb_apply]
  simp only [uB_apply, eB_apply, row_chunk ht]
  rfl

theorem column_of (y : S1x512.Idx) : ∃ j : Fin 512, y = (ix2 0 j : S1x512.Idx) :=
  ⟨y 1, (ix2_eta y).symm.trans (congrArg₂ ix2 (Subsingleton.elim (α := Fin 1) _ _) rfl)⟩
theorem row_of (y : S128x1.Idx) : ∃ i : Fin 128, y = (ix2 i 0 : S128x1.Idx) :=
  ⟨y 0, (ix2_eta y).symm.trans (congrArg₂ ix2 rfl (Subsingleton.elim (α := Fin 1) _ _))⟩
theorem entry_of (y : S4x128x128.Idx) : ∃ (h : Fin 4) (i s : Fin 128), y = (ix3 h i s : S4x128x128.Idx) := ⟨y 0, y 1, y 2, (ix3_eta y).symm⟩

theorem pay113_apply (x y : FVec Ideal S1x512 .f32) (j : Fin 512) : k0_pay113 (F := Ideal) x y (ix2 0 j) = y (ix2 0 j) + x (ix2 0 j) := by
  pointwise [k0_pay113]
theorem pay114_apply (x y : FVec Ideal S4x128x128 .f32) (h : Fin 4) (i s : Fin 128) : k0_pay114 (F := Ideal) x y (ix3 h i s) = y (ix3 h i s) + x (ix3 h i s) := by
  pointwise [k0_pay114]
theorem pay115_apply (x y : FVec Ideal S128x1 .f32) (i : Fin 128) : k0_pay115 (F := Ideal) x y (ix2 i 0) = y (ix2 i 0) + x (ix2 i 0) := by
  pointwise [k0_pay115]

theorem dg_reset (t : Fin cfg0.N) (p : t.val % 17 = 0) (y : S1x512.Idx) : (outsAt0 m c t.val t.isLt).2.2.1 y = (fun _ => 0) y + addG m c t.val y := by
  obtain ⟨j, rfl⟩ := column_of y
  rw [outsAt0_A m c t p (first t p) p (first t p) p (first t p) p (first t p) p (first t p) p (first t p), zero_add, ← dgB_apply]
  frame_out
  exact congrFun (show _ = dgB m c t from rfl) _
theorem dg_step (t : Fin cfg0.N) (p : ¬ t.val % 17 = 0) (y : S1x512.Idx) :
    (outsAt0 m c t.val t.isLt).2.2.1 y = (outsAt0 m c (t.val - 1) (Nat.lt_of_le_of_lt (Nat.sub_le _ _) t.isLt)).2.2.1 y + addG m c t.val y := by
  obtain ⟨j, rfl⟩ := column_of y
  rw [outsAt0_B m c t p (later t p) p (later t p) p (later t p) p (later t p) p (later t p) p (later t p), ← dgB_apply]
  frame_out
  refine (congrFun (congrArg₂ k0_pay113 (show _ = dgB m c t from rfl) rfl) _).trans ?_
  exact pay113_apply (dgB m c t) (outsAt0 m c (t.val - 1) (Nat.lt_of_le_of_lt (Nat.sub_le _ _) t.isLt)).2.2.1 j
set_option maxHeartbeats 1600000 in
theorem dw_reset (t : Fin cfg0.N) (p : t.val % 17 = 0) (y : S4x128x128.Idx) : (outsAt0 m c t.val t.isLt).2.2.2.1 y = (fun _ => 0) y + addW m c t.val y := by
  obtain ⟨h, i, s, rfl⟩ := entry_of y
  rw [outsAt0_A m c t p (first t p) p (first t p) p (first t p) p (first t p) p (first t p) p (first t p), zero_add, ← dwB_apply]
  frame_out
  exact congrFun (show _ = dwB m c t from rfl) _
set_option maxHeartbeats 1600000 in
theorem dw_step (t : Fin cfg0.N) (p : ¬ t.val % 17 = 0) (y : S4x128x128.Idx) :
    (outsAt0 m c t.val t.isLt).2.2.2.1 y = (outsAt0 m c (t.val - 1) (Nat.lt_of_le_of_lt (Nat.sub_le _ _) t.isLt)).2.2.2.1 y + addW m c t.val y := by
  obtain ⟨h, i, s, rfl⟩ := entry_of y
  rw [outsAt0_B m c t p (later t p) p (later t p) p (later t p) p (later t p) p (later t p) p (later t p), ← dwB_apply]
  frame_out
  refine (congrFun (congrArg₂ k0_pay114 (show _ = dwB m c t from rfl) rfl) _).trans ?_
  exact pay114_apply (dwB m c t) (outsAt0 m c (t.val - 1) (Nat.lt_of_le_of_lt (Nat.sub_le _ _) t.isLt)).2.2.2.1 h i s

/-- The four groups' shifts' gradients, as one grid point leaves them. -/
def dbs (n : ℕ) (l : n < cfg0.N) : Fin 4 → FVec Ideal S128x1 .f32 :=
  ![(outsAt0 m c n l).2.2.2.2.1, (outsAt0 m c n l).2.2.2.2.2.1, (outsAt0 m c n l).2.2.2.2.2.2.1, (outsAt0 m c n l).2.2.2.2.2.2.2]
theorem db_reset (h : Fin 4) (t : Fin cfg0.N) (p : t.val % 17 = 0) (y : S128x1.Idx) : dbs m c t.val t.isLt h y = (fun _ => 0) y + addB m c h t.val y := by
  obtain ⟨i, rfl⟩ := row_of y
  rw [zero_add, ← dbB_apply]
  match h with
  | 0 =>
    show (outsAt0 m c t.val t.isLt).2.2.2.2.1 _ = _
    rw [outsAt0_A m c t p (first t p) p (first t p) p (first t p) p (first t p) p (first t p) p (first t p)]
    frame_out
    exact congrFun (show _ = dbB m c t 0 from rfl) _
  | 1 =>
    show (outsAt0 m c t.val t.isLt).2.2.2.2.2.1 _ = _
    rw [outsAt0_A m c t p (first t p) p (first t p) p (first t p) p (first t p) p (first t p) p (first t p)]
    frame_out
    exact congrFun (show _ = dbB m c t 1 from rfl) _
  | 2 =>
    show (outsAt0 m c t.val t.isLt).2.2.2.2.2.2.1 _ = _
    rw [outsAt0_A m c t p (first t p) p (first t p) p (first t p) p (first t p) p (first t p) p (first t p)]
    frame_out
    exact congrFun (show _ = dbB m c t 2 from rfl) _
  | 3 =>
    show (outsAt0 m c t.val t.isLt).2.2.2.2.2.2.2 _ = _
    rw [outsAt0_A m c t p (first t p) p (first t p) p (first t p) p (first t p) p (first t p) p (first t p)]
    frame_out
    exact congrFun (show _ = dbB m c t 3 from rfl) _
theorem db_step (h : Fin 4) (t : Fin cfg0.N) (p : ¬ t.val % 17 = 0) (y : S128x1.Idx) :
    dbs m c t.val t.isLt h y = dbs m c (t.val - 1) (Nat.lt_of_le_of_lt (Nat.sub_le _ _) t.isLt) h y + addB m c h t.val y := by
  obtain ⟨i, rfl⟩ := row_of y
  rw [← dbB_apply]
  refine Eq.trans ?_ (pay115_apply (dbB m c t h) (dbs m c (t.val - 1) (Nat.lt_of_le_of_lt (Nat.sub_le _ _) t.isLt) h) i)
  match h with
  | 0 =>
    show (outsAt0 m c t.val t.isLt).2.2.2.2.1 _ = _
    rw [outsAt0_B m c t p (later t p) p (later t p) p (later t p) p (later t p) p (later t p) p (later t p)]
    frame_out
    exact congrFun (congrArg₂ k0_pay115 (show _ = dbB m c t 0 from rfl) rfl) _
  | 1 =>
    show (outsAt0 m c t.val t.isLt).2.2.2.2.2.1 _ = _
    rw [outsAt0_B m c t p (later t p) p (later t p) p (later t p) p (later t p) p (later t p) p (later t p)]
    frame_out
    exact congrFun (congrArg₂ k0_pay115 (show _ = dbB m c t 1 from rfl) rfl) _
  | 2 =>
    show (outsAt0 m c t.val t.isLt).2.2.2.2.2.2.1 _ = _
    rw [outsAt0_B m c t p (later t p) p (later t p) p (later t p) p (later t p) p (later t p) p (later t p)]
    frame_out
    exact congrFun (congrArg₂ k0_pay115 (show _ = dbB m c t 2 from rfl) rfl) _
  | 3 =>
    show (outsAt0 m c t.val t.isLt).2.2.2.2.2.2.2 _ = _
    rw [outsAt0_B m c t p (later t p) p (later t p) p (later t p) p (later t p) p (later t p) p (later t p)]
    frame_out
    exact congrFun (congrArg₂ k0_pay115 (show _ = dbB m c t 3 from rfl) rfl) _

/-! Where a block of each result lands. -/
theorem place9 (t : Fin cfg0.N) (r : Fin 256) (j : Fin 512) (R : FVec Ideal S4352x512 .f32) :
    R ((win0_9.blk t).view.emb (ix2 r j : S256x512.Idx)) = R (ix2 (rowOf t.val r) j) := by
  have ht : t.val < 17 := lt_of_lt_of_eq t.isLt N_0
  blk_ext [idx9 t] <;> simp only [rowOf_val ht] <;> omega
theorem place10 (t : Fin cfg0.N) (r : Fin 256) (j : Fin 512) (R : FVec Ideal S4352x512 .f32) :
    R ((win0_10.blk t).view.emb (ix2 r j : S256x512.Idx)) = R (ix2 (rowOf t.val r) j) := by
  have ht : t.val < 17 := lt_of_lt_of_eq t.isLt N_0
  blk_ext [idx10 t] <;> simp only [rowOf_val ht] <;> omega
theorem place11 (t : Fin cfg0.N) (j : Fin 512) (R : FVec Ideal S1x512 .f32) : R ((win0_11.blk t).view.emb (ix2 0 j : S1x512.Idx)) = R (ix2 0 j) := by
  blk_ext [idx11 t] <;> omega
theorem place12 (t : Fin cfg0.N) (h : Fin 4) (i s : Fin 128) (R : FVec Ideal S4x128x128 .f32) :
    R ((win0_12.blk t).view.emb (ix3 h i s : S4x128x128.Idx)) = R (ix3 h i s) := by
  blk_ext [idx12 t] <;> omega
theorem place13 (t : Fin cfg0.N) (i : Fin 128) (R : FVec Ideal S128x1 .f32) : R ((win0_13.blk t).view.emb (ix2 i 0 : S128x1.Idx)) = R (ix2 i 0) := by
  blk_ext [idx13 t] <;> omega
theorem place14 (t : Fin cfg0.N) (i : Fin 128) (R : FVec Ideal S128x1 .f32) : R ((win0_14.blk t).view.emb (ix2 i 0 : S128x1.Idx)) = R (ix2 i 0) := by
  blk_ext [idx14 t] <;> omega
theorem place15 (t : Fin cfg0.N) (i : Fin 128) (R : FVec Ideal S128x1 .f32) : R ((win0_15.blk t).view.emb (ix2 i 0 : S128x1.Idx)) = R (ix2 i 0) := by
  blk_ext [idx15 t] <;> omega
theorem place16 (t : Fin cfg0.N) (i : Fin 128) (R : FVec Ideal S128x1 .f32) : R ((win0_16.blk t).view.emb (ix2 i 0 : S128x1.Idx)) = R (ix2 i 0) := by
  blk_ext [idx16 t] <;> omega

theorem array_du : (dats m 0 c).arrAt 9 cfg0.N = du (A0 m c) (A1 m c) (A2 m c) (A3 m c) (A4 m c) (A5 m c) (A6 m c) (A7 m c) (A8 m c) := by
  refine (dats m 0 c).arrAt_eq_of_covers 9 _ (by decide +kernel) fun t hf y => ?_
  blk_simp
  obtain ⟨r, j, rfl⟩ : ∃ (r : Fin 256) (j : Fin 512), y = (ix2 r j : S256x512.Idx) := ⟨_, _, (ix2_eta y).symm⟩
  refine Eq.trans ?_ (place9 t r j _).symm
  rw [after0_9]
  exact (du_out m c t _).trans (duB_apply m c t r j)
theorem array_dv : (dats m 0 c).arrAt 10 cfg0.N = dv (A0 m c) (A1 m c) (A2 m c) (A3 m c) (A8 m c) := by
  refine (dats m 0 c).arrAt_eq_of_covers 10 _ (by decide +kernel) fun t hf y => ?_
  blk_simp
  obtain ⟨r, j, rfl⟩ : ∃ (r : Fin 256) (j : Fin 512), y = (ix2 r j : S256x512.Idx) := ⟨_, _, (ix2_eta y).symm⟩
  refine Eq.trans ?_ (place10 t r j _).symm
  rw [after0_10]
  exact (dv_out m c t _).trans (dvB_apply m c t r j)
theorem array_dg : (dats m 0 c).arrAt 11 cfg0.N = dg (A0 m c) (A1 m c) (A3 m c) (A8 m c) := by
  refine (dats m 0 c).arrAt_eq_of_covers 11 _ (by decide +kernel) fun t hf y => ?_
  blk_simp
  have ht : t.val < 17 := lt_of_lt_of_eq t.isLt N_0
  have hr : t.val % 17 = 16 := flush11 t hf
  obtain ⟨j, rfl⟩ : ∃ j : Fin 512, y = (ix2 0 j : S1x512.Idx) := column_of y
  refine Eq.trans ?_ (place11 t j _).symm
  rw [after0_11]
  refine (Pipeline.eq_sum_of_reset_step_apply_of_mod (fun n h => (outsAt0 m c n h).2.2.1) 17 (fun _ => (0 : EReal)) (addG m c)
    (dg_reset m c) (dg_step m c) t hr (ix2 0 j)).trans ?_
  refine Eq.trans ?_ ((congrArg (fun j => dg (A0 m c) (A1 m c) (A3 m c) (A8 m c) (ix2 0 j)) (group_column j)).trans (dg_apply _ _ _ _ _ _)).symm
  rw [zero_add, ← sum_rows]
  refine Finset.sum_congr rfl fun n _ => ?_
  rw [show 17 * (t.val / 17) + n = n by omega, addG]
  rfl
theorem array_dw : (dats m 0 c).arrAt 12 cfg0.N = dw (A0 m c) (A1 m c) (A2 m c) (A8 m c) := by
  refine (dats m 0 c).arrAt_eq_of_covers 12 _ (by decide +kernel) fun t hf y => ?_
  blk_simp
  have ht : t.val < 17 := lt_of_lt_of_eq t.isLt N_0
  have hr : t.val % 17 = 16 := flush12 t hf
  obtain ⟨h, i, s, rfl⟩ : ∃ (h : Fin 4) (i s : Fin 128), y = (ix3 h i s : S4x128x128.Idx) := entry_of y
  refine Eq.trans ?_ (place12 t h i s _).symm
  rw [after0_12]
  refine (Pipeline.eq_sum_of_reset_step_apply_of_mod (fun n h => (outsAt0 m c n h).2.2.2.1) 17 (fun _ => (0 : EReal)) (addW m c)
    (dw_reset m c) (dw_step m c) t hr (ix3 h i s)).trans ?_
  rw [zero_add, dw_apply, ← sum_chunks]
  refine Finset.sum_congr rfl fun n _ => ?_
  rw [show 17 * (t.val / 17) + n = n by omega, addW]
  rfl
theorem db_total (h : Fin 4) (t : Fin cfg0.N) (hr : t.val % 17 = 16) (i : Fin 128) : dbs m c t.val t.isLt h (ix2 i 0) = db (A0 m c) (A8 m c) h (ix2 i 0) := by
  have ht : t.val < 17 := lt_of_lt_of_eq t.isLt N_0
  refine (Pipeline.eq_sum_of_reset_step_apply_of_mod (fun n l => dbs m c n l h) 17 (fun _ => (0 : EReal)) (addB m c h)
    (db_reset m c h) (db_step m c h) t hr (ix2 i 0)).trans ?_
  rw [zero_add, db_apply, ← sum_chunks]
  refine Finset.sum_congr rfl fun n _ => ?_
  rw [show 17 * (t.val / 17) + n = n by omega, addB]
  rfl
theorem array_db0 : (dats m 0 c).arrAt 13 cfg0.N = db (A0 m c) (A8 m c) 0 := by
  refine (dats m 0 c).arrAt_eq_of_covers 13 _ (by decide +kernel) fun t hf y => ?_
  blk_simp
  obtain ⟨i, rfl⟩ : ∃ i : Fin 128, y = (ix2 i 0 : S128x1.Idx) := row_of y
  refine Eq.trans ?_ (place13 t i _).symm
  rw [after0_13]
  exact db_total m c 0 t (flush13 t hf) i
theorem array_db1 : (dats m 0 c).arrAt 14 cfg0.N = db (A0 m c) (A8 m c) 1 := by
  refine (dats m 0 c).arrAt_eq_of_covers 14 _ (by decide +kernel) fun t hf y => ?_
  blk_simp
  obtain ⟨i, rfl⟩ : ∃ i : Fin 128, y = (ix2 i 0 : S128x1.Idx) := row_of y
  refine Eq.trans ?_ (place14 t i _).symm
  rw [after0_14]
  exact db_total m c 1 t (flush14 t hf) i
theorem array_db2 : (dats m 0 c).arrAt 15 cfg0.N = db (A0 m c) (A8 m c) 2 := by
  refine (dats m 0 c).arrAt_eq_of_covers 15 _ (by decide +kernel) fun t hf y => ?_
  blk_simp
  obtain ⟨i, rfl⟩ : ∃ i : Fin 128, y = (ix2 i 0 : S128x1.Idx) := row_of y
  refine Eq.trans ?_ (place15 t i _).symm
  rw [after0_15]
  exact db_total m c 2 t (flush15 t hf) i
theorem array_db3 : (dats m 0 c).arrAt 16 cfg0.N = db (A0 m c) (A8 m c) 3 := by
  refine (dats m 0 c).arrAt_eq_of_covers 16 _ (by decide +kernel) fun t hf y => ?_
  blk_simp
  obtain ⟨i, rfl⟩ : ∃ i : Fin 128, y = (ix2 i 0 : S128x1.Idx) := row_of y
  refine Eq.trans ?_ (place16 t i _).symm
  rw [after0_16]
  exact db_total m c 3 t (flush16 t hf) i

/-! The reference's results on the same arguments. -/
section
variable {m c} {u v : FVec Ideal S4352x512 .f32} {g : FVec Ideal S1x512 .f32} {w : FVec Ideal S4x128x128 .f32} {b0 b1 b2 b3 : FVec Ideal S128x1 .f32} {e : FVec Ideal S4352x512 .bf16}
variable (hu : u = A0 m c) (hv : v = A1 m c) (hg : g = A2 m c) (hw : w = A3 m c) (h0 : b0 = A4 m c) (h1 : b1 = A5 m c) (h2 : b2 = A6 m c) (h3 : b3 = A7 m c) (he : e = A8 m c)

include hu hv hg hw h0 h1 h2 h3 he in
theorem same_du : du u v g w b0 b1 b2 b3 e = (dats m 0 c).arrAt 9 cfg0.N := by rw [hu, hv, hg, hw, h0, h1, h2, h3, he, array_du]
include hu hv hg hw he in
theorem same_dv : dv u v g w e = (dats m 0 c).arrAt 10 cfg0.N := by rw [hu, hv, hg, hw, he, array_dv]
include hu hv hw he in
theorem same_dg : dg u v w e = (dats m 0 c).arrAt 11 cfg0.N := by rw [hu, hv, hw, he, array_dg]
include hu hv hg he in
theorem same_dw : dw u v g e = (dats m 0 c).arrAt 12 cfg0.N := by rw [hu, hv, hg, he, array_dw]
include hu he in
theorem same_db0 : db u e 0 = (dats m 0 c).arrAt 13 cfg0.N := by rw [hu, he, array_db0]
include hu he in
theorem same_db1 : db u e 1 = (dats m 0 c).arrAt 14 cfg0.N := by rw [hu, he, array_db1]
include hu he in
theorem same_db2 : db u e 2 = (dats m 0 c).arrAt 15 cfg0.N := by rw [hu, he, array_db2]
include hu he in
theorem same_db3 : db u e 3 = (dats m 0 c).arrAt 16 cfg0.N := by rw [hu, he, array_db3]
end
end
end Cert.SgateBwdIdeal.Hand
end
-- ==== Proof.ModNormStages.lean ====
/-
  The blocks' modulated norm, of one block of rows and of the reference's whole array, read in coordinates. The latent rows
  take one segment's vectors and the context rows the other's.
-/
module

public import proofs.«01_k».proof.Proof.Gen.ResidFwdRefIdeal.Run
public import proofs.«01_k».proof.Proof.FinalBlocks

@[expose] public section

set_option maxRecDepth 16384

noncomputable section

namespace Cert.Proof.Modulated

open Idealize.ShloMosaic Cert.Proof.Norm Cert.Proof.Final
open scoped BigOperators

/-- The norm of the row `o` with gain `g`, shifted by `a` and scaled by `1 + b`. -/
def normed (o g a b : Fin 2048 → EReal) (d : Fin 2048) : EReal := nm wide o d * g d * (1 + b d) + a d

/-- A row's segment: the latent rows come first. -/
def seg (r : Fin 4352) : Fin 2 := if r.val < 4096 then 0 else 1

/-- The array's row that a grid point's row stands for. -/
def rowOf (t : ℕ) (r : Fin 256) : Fin 4352 := if h : t < 17 then ⟨t * 256 + r.val, by omega⟩ else 0
theorem rowOf_val {t : ℕ} (h : t < 17) (r : Fin 256) : (rowOf t r).val = t * 256 + r.val := by rw [rowOf, dif_pos h]
/-- A grid point's rows all lie in one segment. -/
theorem seg_rowOf {t : ℕ} (h : t < 17) (r : Fin 256) : (seg (rowOf t r)).val = if t < 16 then 0 else 1 := by
  rw [seg, rowOf_val h]
  by_cases p : t < 16
  · rw [if_pos p, if_pos (by omega)]; rfl
  · rw [if_neg p, if_neg (by omega)]; rfl

section
open Cert.FinalBwdIdeal Cert.FinalBwdIdeal.Gen Cert.FinalBwdIdeal.Hand Idealize.ShloMosaic.TcCoe Idealize.SL.Sem
variable (o : FVec Ideal S256x2048 .f32) (g a b : FVec Ideal S1x2048 .f32)

def krms : FVec Ideal S256x1 .f32 :=
  rsqrt (addf (kmean (ksum (mulf o o))) (broadcast S256x1 (Scalar.ofBits (F := Ideal) .f32 0x358637BD#32)))
def kmod : FVec Ideal S256x2048 .f32 :=
  addf (mulf (mulf (mulf o (kover (krms o))) (kdown g)) (kdown (addf (broadcast S1x2048 (Scalar.ofBits (F := Ideal) .f32 0x3F800000#32)) b))) (kdown a)

theorem krms_apply (r : Fin 256) : krms o (ix2 r 0) = rs wide (row o r) := by
  pointwise [krms]
  rw [kmean_apply, ksum_apply]
  pointwise
  rfl
theorem kmod_apply (r : Fin 256) (d : Fin 2048) : kmod o g a b (ix2 r d) = normed (row o r) (gain g) (gain a) (gain b) d := by
  pointwise [kmod]
  rw [kover_apply, krms_apply, kdown_apply, kdown_apply, kdown_apply]
  pointwise
  rfl
end

section
open Cert.ResidFwdRefIdeal Cert.ResidFwdRefIdeal.Gen Idealize.ShloMosaic.TcCoe Idealize.SL.Sem Idealize.ShloMosaic.StableHlo
variable (o : FVec Ideal S4352x2048 .f32) (g : FVec Ideal S1x2048 .f32) (a b v : FVec Ideal S2x2048 .f32)

/-- Each row's vector. -/
def xrows : FVec Ideal S4352x2048 .f32 :=
  concatenate S4352x2048 0 [⟨S4096x2048, (broadcastInDim S4096x2048 ![0, 1] bcast_S1x2048_S4096x2048_0_1 (extractStridedSlice S1x2048 ![0, 0] v slices_S2x2048_S1x2048_0_0))⟩,
    ⟨S256x2048, (broadcastInDim S256x2048 ![0, 1] bcast_S1x2048_S256x2048_0_1 (extractStridedSlice S1x2048 ![1, 0] v slices_S2x2048_S1x2048_1_0))⟩] concatenates_S4096x2048_S256x2048_S4352x2048_d0
def xrms : FVec Ideal S4352x1 .f32 :=
  Host.rsqrt (addf (Host.divf (broadcastInDim S4352x1 ![0] bcast_S4352_S4352x1_0 (Host.reduceAdd (mulf o o) (constant S_ .f32 0x00000000#32) reducesTo_S4352x2048_S4352_d1 h_S_))
    (broadcastInDim S4352x1 ![] bcast_S_S4352x1 (constant S_ .f32 0x45000000#32))) (broadcastInDim S4352x1 ![] bcast_S_S4352x1 (constant S_ .f32 0x358637BD#32)))
def xgain : FVec Ideal S4352x2048 .f32 :=
  broadcastInDim S4352x2048 ![0, 1] bcast_S1x2048_S4352x2048_0_1 (broadcastInDim S1x2048 ![1] bcast_S2048_S1x2048_1 (shapeCast _ g shapeCasts_S1x2048_S2048))
def xmod : FVec Ideal S4352x2048 .f32 :=
  addf (mulf (mulf (mulf o (broadcastInDim S4352x2048 ![0, 1] bcast_S4352x1_S4352x2048_0_1 (xrms o))) (xgain g))
    (addf (broadcastInDim S4352x2048 ![] bcast_S_S4352x2048 (constant S_ .f32 0x3F800000#32)) (xrows b))) (xrows a)

def xrow (r : Fin 4352) (d : Fin 2048) : EReal := o (ix2 r d)
/-- A segment's vector. -/
def vec (s : Fin 2) (d : Fin 2048) : EReal := v (ix2 s d)

theorem xrows_apply (r : Fin 4352) (d : Fin 2048) : xrows v (ix2 r d) = vec v (seg r) d := by
  pointwise [xrows]
  rw [vec, seg]
  split_ifs <;> rfl
theorem xrms_apply (r : Fin 4352) : xrms o (ix2 r 0) = rs wide (xrow o r) := by
  pointwise [xrms]
  rfl
theorem xgain_apply (r : Fin 4352) (d : Fin 2048) : xgain g (ix2 r d) = g (ix2 0 d) := by pointwise [xgain]
theorem xmod_apply (r : Fin 4352) (d : Fin 2048) :
    xmod o g a b (ix2 r d) = normed (xrow o r) (fun d => g (ix2 0 d)) (vec a (seg r)) (vec b (seg r)) d := by
  pointwise [xmod]
  rw [xrms_apply, xgain_apply, xrows_apply, xrows_apply]
  rfl
end

end Cert.Proof.Modulated
end
-- ==== Proof.ResidFwdArrays.lean ====
/-
  The residual and its modulated norm are the reference's: each grid point takes one block of rows of one segment.
-/
module

public import proofs.«01_k».proof.Proof.Gen.ResidFwdIdeal.Value
public import proofs.«01_k».proof.Proof.Gen.ResidFwdRefIdeal.Run
public import proofs.«01_k».proof.Proof.ModNormStages

@[expose] public section

set_option maxRecDepth 16384

noncomputable section

namespace Cert.ResidFwdIdeal.Hand

open Cert.ResidFwdIdeal Cert.ResidFwdIdeal.Gen Idealize.ShloMosaic Idealize.ShloMosaic.TcCoe Idealize.SL.Sem
open Cert.Proof.Norm Cert.Proof.Final Cert.Proof.Modulated
open Cert.FinalBwdIdeal.Hand (kdown kdown_apply row gain)
open scoped BigOperators

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![if t.val < 16 then 0 else 1, 0, 0] :=
  (by decide +kernel : ∀ t : Fin grid0.N, win0_2.index t = ![if t.val < 16 then 0 else 1, 0, 0])
theorem idx3 : ∀ t : Fin cfg0.N, win0_3.index t = ![0, 0] := (by decide +kernel : ∀ t : Fin grid0.N, win0_3.index t = ![0, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])

section
variable (x y : FVec Ideal S256x2048 .f32) (w : FVec Ideal S1x3x2048 .f32) (g : FVec Ideal S1x2048 .f32)

/-! The block's gate, shift and scale. -/
def kgate : FVec Ideal S1x2048 .f32 := extractStridedSlice S1x2048 ![0, 0] (k0_pay1 (F := Ideal) w) slices_S3x2048_o0_0_S1x2048
def kshift : FVec Ideal S1x2048 .f32 := extractStridedSlice S1x2048 ![1, 0] (k0_pay1 (F := Ideal) w) slices_S3x2048_o1_0_S1x2048
def kscale : FVec Ideal S1x2048 .f32 := extractStridedSlice S1x2048 ![2, 0] (k0_pay1 (F := Ideal) w) slices_S3x2048_o2_0_S1x2048
def kres : FVec Ideal S256x2048 .f32 := addf x (mulf (kdown (kgate w)) y)
def kout : FVec Ideal S256x2048 .bf16 := truncf .bf16 (kmod (kres x y w) g (kshift w) (kscale w)) bitsLt_bf16_f32

theorem pay2_eq : k0_pay2 (F := Ideal) x y w = kres x y w := rfl
theorem pay3_eq : k0_pay3 (F := Ideal) x y w g = kout x y w g := rfl

theorem kgate_apply (d : Fin 2048) : kgate w (ix2 0 d) = w (ix3 0 0 d) := by pointwise [kgate, k0_pay1]
theorem kshift_apply (d : Fin 2048) : kshift w (ix2 0 d) = w (ix3 0 1 d) := by pointwise [kshift, k0_pay1]
theorem kscale_apply (d : Fin 2048) : kscale w (ix2 0 d) = w (ix3 0 2 d) := by pointwise [kscale, k0_pay1]
theorem kres_apply (r : Fin 256) (d : Fin 2048) : kres x y w (ix2 r d) = res (row x r) (row y r) (gain (kgate w)) d := by
  pointwise [kres]
  rw [kdown_apply]
  rfl
theorem row_kres (r : Fin 256) : row (kres x y w) r = res (row x r) (row y r) (gain (kgate w)) := funext fun d => kres_apply x y w r d
theorem kout_apply (r : Fin 256) (d : Fin 2048) :
    kout x y w g (ix2 r d) = normed (res (row x r) (row y r) (gain (kgate w))) (gain g) (gain (kshift w)) (gain (kscale w)) d := by
  pointwise [kout]
  rw [kmod_apply, row_kres]
end

section
open Cert.ResidFwdRefIdeal Cert.ResidFwdRefIdeal.Gen Idealize.ShloMosaic.StableHlo
variable (x y : FVec Ideal Cert.ResidFwdRefIdeal.S4352x2048 .f32) (w : FVec Ideal Cert.ResidFwdRefIdeal.S2x3x2048 .f32) (g : FVec Ideal Cert.ResidFwdRefIdeal.S1x2048 .f32)

/-! The reference's gates, shifts and scales, one of each to a segment. -/
def xgate : FVec Ideal S2x2048 .f32 :=
  shapeCast _ (extractStridedSlice S2x1x2048 ![0, 0, 0] w slices_S2x3x2048_S2x1x2048_0_0_0) shapeCasts_S2x1x2048_S2x2048
def xtwo : FVec Ideal S2x2x2048 .f32 := extractStridedSlice S2x2x2048 ![0, 1, 0] w slices_S2x3x2048_S2x2x2048_0_1_0
def xshift : FVec Ideal S2x2048 .f32 :=
  shapeCast _ (extractStridedSlice S2x1x2048 ![0, 0, 0] (xtwo w) slices_S2x2x2048_S2x1x2048_0_0_0) shapeCasts_S2x1x2048_S2x2048
def xscale : FVec Ideal S2x2048 .f32 :=
  shapeCast _ (extractStridedSlice S2x1x2048 ![0, 1, 0] (xtwo w) slices_S2x2x2048_S2x1x2048_0_1_0) shapeCasts_S2x1x2048_S2x2048
def xres : FVec Ideal Cert.ResidFwdRefIdeal.S4352x2048 .f32 := addf x (mulf (xrows (xgate w)) y)
def xout : FVec Ideal Cert.ResidFwdRefIdeal.S4352x2048 .bf16 := truncf .bf16 (xmod (xres x y w) g (xshift w) (xscale w)) Cert.ResidFwdRefIdeal.Gen.bitsLt_bf16_f32

theorem xgate_apply (s : Fin 2) (d : Fin 2048) : xgate w (ix2 s d) = w (ix3 s 0 d) := by pointwise [xgate]
theorem xshift_apply (s : Fin 2) (d : Fin 2048) : xshift w (ix2 s d) = w (ix3 s 1 d) := by pointwise [xshift, xtwo]
theorem xscale_apply (s : Fin 2) (d : Fin 2048) : xscale w (ix2 s d) = w (ix3 s 2 d) := by pointwise [xscale, xtwo]
theorem xres_apply (r : Fin 4352) (d : Fin 2048) : xres x y w (ix2 r d) = res (xrow x r) (xrow y r) (vec (xgate w) (seg r)) d := by
  pointwise [xres]
  rw [xrows_apply]
  rfl
theorem xrow_xres (r : Fin 4352) : xrow (xres x y w) r = res (xrow x r) (xrow y r) (vec (xgate w) (seg r)) := funext fun d => xres_apply x y w r d
theorem xout_apply (r : Fin 4352) (d : Fin 2048) : xout x y w g (ix2 r d)
    = normed (res (xrow x r) (xrow y r) (vec (xgate w) (seg r))) (fun d => g (ix2 0 d)) (vec (xshift w) (seg r)) (vec (xscale w) (seg r)) d := by
  pointwise [xout]
  rw [xmod_apply, xrow_xres]
end

section
variable (m : (ℓ : Loc nD τ sig) → Buf (Elt Ideal) ℓ) (c : Dev nD)

def A0 : FVec Ideal S4352x2048 .f32 := m ((c.tc : Thread nD τ).loc main_arg0)
def A1 : FVec Ideal S4352x2048 .f32 := m ((c.tc : Thread nD τ).loc main_arg1)
def A2 : FVec Ideal S2x3x2048 .f32 := m ((c.tc : Thread nD τ).loc main_arg2)
def A3 : FVec Ideal S1x2048 .f32 := m ((c.tc : Thread nD τ).loc main_arg3)

def xB (t : Fin cfg0.N) : FVec Ideal S256x2048 .f32 := iblk m c 0 t
def yB (t : Fin cfg0.N) : FVec Ideal S256x2048 .f32 := iblk m c 1 t
def wB (t : Fin cfg0.N) : FVec Ideal S1x3x2048 .f32 := iblk m c 2 t
def gB (t : Fin cfg0.N) : FVec Ideal S1x2048 .f32 := iblk m c 3 t

theorem xB_row (t : Fin cfg0.N) (r : Fin 256) : row (xB m c t) r = xrow (A0 m c) (rowOf t.val r) := by
  have ht : t.val < 17 := lt_of_lt_of_eq t.isLt N_0
  funext d
  rw [row, xrow, A0, xB]
  blk_ext [iblk, V, idx0 t] <;> simp only [rowOf_val ht] <;> omega
theorem yB_row (t : Fin cfg0.N) (r : Fin 256) : row (yB m c t) r = xrow (A1 m c) (rowOf t.val r) := by
  have ht : t.val < 17 := lt_of_lt_of_eq t.isLt N_0
  funext d
  rw [row, xrow, A1, yB]
  blk_ext [iblk, V, idx1 t] <;> simp only [rowOf_val ht] <;> omega
theorem wB_apply (t : Fin cfg0.N) (r : Fin 256) (k : Fin 3) (d : Fin 2048) : wB m c t (ix3 0 k d) = A2 m c (ix3 (seg (rowOf t.val r)) k d) := by
  have ht : t.val < 17 := lt_of_lt_of_eq t.isLt N_0
  rw [A2, wB]
  blk_ext [iblk, V, idx2 t] <;> simp only [seg_rowOf ht] <;> omega
theorem gB_gain (t : Fin cfg0.N) : gain (gB m c t) = fun d => A3 m c (ix2 0 d) := by
  funext d
  rw [gain, A3, gB]
  blk_ext [iblk, V, idx3 t] <;> omega

theorem gate_eq (t : Fin cfg0.N) (r : Fin 256) : gain (kgate (wB m c t)) = vec (xgate (A2 m c)) (seg (rowOf t.val r)) := by
  funext d
  rw [gain, vec, kgate_apply, xgate_apply, wB_apply m c t r]
theorem shift_eq (t : Fin cfg0.N) (r : Fin 256) : gain (kshift (wB m c t)) = vec (xshift (A2 m c)) (seg (rowOf t.val r)) := by
  funext d
  rw [gain, vec, kshift_apply, xshift_apply, wB_apply m c t r]
theorem scale_eq (t : Fin cfg0.N) (r : Fin 256) : gain (kscale (wB m c t)) = vec (xscale (A2 m c)) (seg (rowOf t.val r)) := by
  funext d
  rw [gain, vec, kscale_apply, xscale_apply, wB_apply m c t r]

theorem place4 (t : Fin cfg0.N) (r : Fin 256) (d : Fin 2048) (R : FVec Ideal S4352x2048 .f32) :
    R ((win0_4.blk t).view.emb (ix2 r d : S256x2048.Idx)) = R (ix2 (rowOf t.val r) d) := by
  have ht : t.val < 17 := lt_of_lt_of_eq t.isLt N_0
  blk_ext [idx4 t] <;> simp only [rowOf_val ht] <;> omega
theorem place5 (t : Fin cfg0.N) (r : Fin 256) (d : Fin 2048) (R : FVec Ideal S4352x2048 .bf16) :
    R ((win0_5.blk t).view.emb (ix2 r d : S256x2048.Idx)) = R (ix2 (rowOf t.val r) d) := by
  have ht : t.val < 17 := lt_of_lt_of_eq t.isLt N_0
  blk_ext [idx5 t] <;> simp only [rowOf_val ht] <;> omega

theorem out4 (t : Fin cfg0.N) (i : S256x2048.Idx) :
    out0_4 (iblk m c 0 t) (iblk m c 1 t) (iblk m c 2 t) (iblk m c 3 t) i = kres (xB m c t) (yB m c t) (wB m c t) i := by
  frame_out
  exact congrFun (pay2_eq (xB m c t) (yB m c t) (wB m c t)) i
theorem out5 (t : Fin cfg0.N) (i : S256x2048.Idx) :
    out0_5 (iblk m c 0 t) (iblk m c 1 t) (iblk m c 2 t) (iblk m c 3 t) i = kout (xB m c t) (yB m c t) (wB m c t) (gB m c t) i := by
  frame_out
  exact congrFun (pay3_eq (xB m c t) (yB m c t) (wB m c t) (gB m c t)) i

theorem array_res : (dats m 0 c).arrAt 4 cfg0.N = xres (A0 m c) (A1 m c) (A2 m c) := by
  refine (dats m 0 c).arrAt_eq_of_covers 4 _ (by decide +kernel) fun t hf i => ?_
  blk_simp
  obtain ⟨r, d, rfl⟩ : ∃ (r : Fin 256) (d : Fin 2048), i = (ix2 r d : S256x2048.Idx) := ⟨_, _, (ix2_eta i).symm⟩
  refine Eq.trans ?_ (place4 t r d _).symm
  rw [after0_4]
  refine (out4 m c t _).trans ?_
  rw [kres_apply, xres_apply, xB_row, yB_row, gate_eq m c t r]
theorem array_out : (dats m 0 c).arrAt 5 cfg0.N = xout (A0 m c) (A1 m c) (A2 m c) (A3 m c) := by
  refine (dats m 0 c).arrAt_eq_of_covers 5 _ (by decide +kernel) fun t hf i => ?_
  blk_simp
  obtain ⟨r, d, rfl⟩ : ∃ (r : Fin 256) (d : Fin 2048), i = (ix2 r d : S256x2048.Idx) := ⟨_, _, (ix2_eta i).symm⟩
  refine Eq.trans ?_ (place5 t r d _).symm
  rw [after0_5]
  refine (out5 m c t _).trans ?_
  rw [kout_apply, xout_apply, xB_row, yB_row, gate_eq m c t r, shift_eq m c t r, scale_eq m c t r, gB_gain]

theorem same_res {m c} {x y : FVec Ideal S4352x2048 .f32} {w : FVec Ideal S2x3x2048 .f32}
    (hx : x = A0 m c) (hy : y = A1 m c) (hw : w = A2 m c) : xres x y w = (dats m 0 c).arrAt 4 cfg0.N := by rw [hx, hy, hw, array_res]
theorem same_out {m c} {x y : FVec Ideal S4352x2048 .f32} {w : FVec Ideal S2x3x2048 .f32} {g : FVec Ideal S1x2048 .f32}
    (hx : x = A0 m c) (hy : y = A1 m c) (hw : w = A2 m c) (hg : g = A3 m c) : xout x y w g = (dats m 0 c).arrAt 5 cfg0.N := by
  rw [hx, hy, hw, hg, array_out]
end
end Cert.ResidFwdIdeal.Hand
end
-- ==== Proof.ModNormFwdArrays.lean ====
/-
  The first block's modulated norm is the reference's: each grid point takes one block of rows of one segment.
-/
module

public import proofs.«01_k».proof.Proof.Gen.ModNormFwdIdeal.Value
public import proofs.«01_k».proof.Proof.Gen.ModNormFwdRefIdeal.Run
public import proofs.«01_k».proof.Proof.ModNormStages

@[expose] public section

set_option maxRecDepth 16384

noncomputable section

namespace Cert.ModNormFwdIdeal.Hand

open Cert.ModNormFwdIdeal Cert.ModNormFwdIdeal.Gen Idealize.ShloMosaic Idealize.ShloMosaic.TcCoe Idealize.SL.Sem
open Cert.Proof.Norm Cert.Proof.Final Cert.Proof.Modulated
open Cert.FinalBwdIdeal.Hand (kdown kdown_apply row gain)
open scoped BigOperators

theorem idx0 : ∀ t : Fin cfg0.N, win0_0.index t = ![t.val, 0] := (by decide +kernel : ∀ t : Fin grid0.N, win0_0.index t = ![t.val, 0])
theorem idx1 : ∀ t : Fin cfg0.N, win0_1.index t = ![if t.val < 16 then 0 else 1, 0, 0] :=
  (by decide +kernel : ∀ t : Fin grid0.N, win0_1.index t = ![if t.val < 16 then 0 else 1, 0, 0])
theorem idx2 : ∀ t : Fin cfg0.N, win0_2.index t = ![0, 0] := (by decide +kernel : ∀ t : Fin grid0.N, win0_2.index t = ![0, 0])
theorem idx3 : ∀ t : Fin cfg0.N, win0_3.index t = ![t.val, 0] := (by decide +kernel : ∀ t : Fin grid0.N, win0_3.index t = ![t.val, 0])

section
variable (x : FVec Ideal S256x2048 .f32) (w : FVec Ideal S1x2x2048 .f32) (g : FVec Ideal S1x2048 .f32)

/-! The block's shift and scale. -/
def kshift : FVec Ideal S1x2048 .f32 := extractStridedSlice S1x2048 ![0, 0] (shapeCast S2x2048 w shapeCasts_S1x2x2048_S2x2048) slices_S2x2048_o0_0_S1x2048
def kscale : FVec Ideal S1x2048 .f32 := extractStridedSlice S1x2048 ![1, 0] (shapeCast S2x2048 w shapeCasts_S1x2x2048_S2x2048) slices_S2x2048_o1_0_S1x2048
def kout : FVec Ideal S256x2048 .bf16 := truncf .bf16 (kmod x g (kshift w) (kscale w)) bitsLt_bf16_f32

theorem pay1_eq : k0_pay1 (F := Ideal) x w g = kout x w g := rfl

theorem kshift_apply (d : Fin 2048) : kshift w (ix2 0 d) = w (ix3 0 0 d) := by pointwise [kshift]
theorem kscale_apply (d : Fin 2048) : kscale w (ix2 0 d) = w (ix3 0 1 d) := by pointwise [kscale]
theorem kout_apply (r : Fin 256) (d : Fin 2048) :
    kout x w g (ix2 r d) = normed (row x r) (gain g) (gain (kshift w)) (gain (kscale w)) d := by
  pointwise [kout]
  rw [kmod_apply]
end

section
open Cert.ModNormFwdRefIdeal Cert.ModNormFwdRefIdeal.Gen Idealize.ShloMosaic.StableHlo
variable (x : FVec Ideal Cert.ModNormFwdRefIdeal.S4352x2048 .f32) (w : FVec Ideal Cert.ModNormFwdRefIdeal.S2x2x2048 .f32) (g : FVec Ideal Cert.ModNormFwdRefIdeal.S1x2048 .f32)

/-! The reference's shifts and scales, one of each to a segment. -/
def xshift : FVec Ideal Cert.ModNormFwdRefIdeal.S2x2048 .f32 :=
  shapeCast _ (extractStridedSlice S2x1x2048 ![0, 0, 0] w slices_S2x2x2048_S2x1x2048_0_0_0) shapeCasts_S2x1x2048_S2x2048
def xscale : FVec Ideal Cert.ModNormFwdRefIdeal.S2x2048 .f32 :=
  shapeCast _ (extractStridedSlice S2x1x2048 ![0, 1, 0] w slices_S2x2x2048_S2x1x2048_0_1_0) shapeCasts_S2x1x2048_S2x2048
def xout : FVec Ideal Cert.ModNormFwdRefIdeal.S4352x2048 .bf16 := truncf .bf16 (xmod x g (xshift w) (xscale w)) Cert.ModNormFwdRefIdeal.Gen.bitsLt_bf16_f32

theorem xshift_apply (s : Fin 2) (d : Fin 2048) : xshift w (ix2 s d) = w (ix3 s 0 d) := by pointwise [xshift]
theorem xscale_apply (s : Fin 2) (d : Fin 2048) : xscale w (ix2 s d) = w (ix3 s 1 d) := by pointwise [xscale]
theorem xout_apply (r : Fin 4352) (d : Fin 2048) :
    xout x w g (ix2 r d) = normed (xrow x r) (fun d => g (ix2 0 d)) (vec (xshift w) (seg r)) (vec (xscale w) (seg r)) d := by
  pointwise [xout]
  rw [xmod_apply]
end

section
variable (m : (ℓ : Loc nD τ sig) → Buf (Elt Ideal) ℓ) (c : Dev nD)

def A0 : FVec Ideal S4352x2048 .f32 := m ((c.tc : Thread nD τ).loc main_arg0)
def A1 : FVec Ideal S2x2x2048 .f32 := m ((c.tc : Thread nD τ).loc main_arg1)
def A2 : FVec Ideal S1x2048 .f32 := m ((c.tc : Thread nD τ).loc main_arg2)

def xB (t : Fin cfg0.N) : FVec Ideal S256x2048 .f32 := iblk m c 0 t
def wB (t : Fin cfg0.N) : FVec Ideal S1x2x2048 .f32 := iblk m c 1 t
def gB (t : Fin cfg0.N) : FVec Ideal S1x2048 .f32 := iblk m c 2 t

theorem xB_row (t : Fin cfg0.N) (r : Fin 256) : row (xB m c t) r = xrow (A0 m c) (rowOf t.val r) := by
  have ht : t.val < 17 := lt_of_lt_of_eq t.isLt N_0
  funext d
  rw [row, xrow, A0, xB]
  blk_ext [iblk, V, idx0 t] <;> simp only [rowOf_val ht] <;> omega
theorem wB_apply (t : Fin cfg0.N) (r : Fin 256) (k : Fin 2) (d : Fin 2048) : wB m c t (ix3 0 k d) = A1 m c (ix3 (seg (rowOf t.val r)) k d) := by
  have ht : t.val < 17 := lt_of_lt_of_eq t.isLt N_0
  rw [A1, wB]
  blk_ext [iblk, V, idx1 t] <;> simp only [seg_rowOf ht] <;> omega
theorem gB_gain (t : Fin cfg0.N) : gain (gB m c t) = fun d => A2 m c (ix2 0 d) := by
  funext d
  rw [gain, A2, gB]
  blk_ext [iblk, V, idx2 t] <;> omega

theorem shift_eq (t : Fin cfg0.N) (r : Fin 256) : gain (kshift (wB m c t)) = vec (xshift (A1 m c)) (seg (rowOf t.val r)) := by
  funext d
  rw [gain, vec, kshift_apply, xshift_apply, wB_apply m c t r]
theorem scale_eq (t : Fin cfg0.N) (r : Fin 256) : gain (kscale (wB m c t)) = vec (xscale (A1 m c)) (seg (rowOf t.val r)) := by
  funext d
  rw [gain, vec, kscale_apply, xscale_apply, wB_apply m c t r]

theorem place3 (t : Fin cfg0.N) (r : Fin 256) (d : Fin 2048) (R : FVec Ideal S4352x2048 .bf16) :
    R ((win0_3.blk t).view.emb (ix2 r d : S256x2048.Idx)) = R (ix2 (rowOf t.val r) d) := by
  have ht : t.val < 17 := lt_of_lt_of_eq t.isLt N_0
  blk_ext [idx3 t] <;> simp only [rowOf_val ht] <;> omega

theorem out3 (t : Fin cfg0.N) (i : S256x2048.Idx) :
    out0_3 (iblk m c 0 t) (iblk m c 1 t) (iblk m c 2 t) i = kout (xB m c t) (wB m c t) (gB m c t) i := by
  frame_out
  exact congrFun (pay1_eq (xB m c t) (wB m c t) (gB m c t)) i

theorem array : (dats m 0 c).arrAt 3 cfg0.N = xout (A0 m c) (A1 m c) (A2 m c) := by
  refine (dats m 0 c).arrAt_eq_of_covers 3 _ (by decide +kernel) fun t hf i => ?_
  blk_simp
  obtain ⟨r, d, rfl⟩ : ∃ (r : Fin 256) (d : Fin 2048), i = (ix2 r d : S256x2048.Idx) := ⟨_, _, (ix2_eta i).symm⟩
  refine Eq.trans ?_ (place3 t r d _).symm
  rw [after0_3]
  refine (out3 m c t _).trans ?_
  rw [kout_apply, xout_apply, xB_row, shift_eq m c t r, scale_eq m c t r, gB_gain]

theorem same {m c} {x : FVec Ideal S4352x2048 .f32} {w : FVec Ideal S2x2x2048 .f32} {g : FVec Ideal S1x2048 .f32}
    (hx : x = A0 m c) (hw : w = A1 m c) (hg : g = A2 m c) : xout x w g = (dats m 0 c).arrAt 3 cfg0.N := by rw [hx, hw, hg, array]
end
end Cert.ModNormFwdIdeal.Hand
end
-- ==== Proof.lean ====
/-
  The claims: each program runs and keeps its arguments, and the kernels' results over the extended reals are the
  reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.AttnArrays
public import proofs.«01_k».proof.Proof.AttnFinite
public import Idealize.ShloMosaic.Lib.Claim
public import Idealize.ShloMosaic.Adequacy
public import Idealize.ShloMosaic.Init
public import proofs.«01_k».proof.Proof.Gen.UpGradA.Frame
public import proofs.«01_k».proof.Proof.Gen.UpGradAIdeal.Value
public import proofs.«01_k».proof.Proof.Gen.UpGradARefIdeal.Run
public import proofs.«01_k».proof.Proof.Gen.UpGradW.Frame
public import proofs.«01_k».proof.Proof.Gen.UpGradWIdeal.Value
public import proofs.«01_k».proof.Proof.Gen.UpGradWRefIdeal.Run
public import proofs.«01_k».proof.Proof.Gen.DownGradA.Frame
public import proofs.«01_k».proof.Proof.Gen.DownGradAIdeal.Value
public import proofs.«01_k».proof.Proof.Gen.DownGradARefIdeal.Run
public import proofs.«01_k».proof.Proof.Gen.DownGradW.Frame
public import proofs.«01_k».proof.Proof.Gen.DownGradWIdeal.Value
public import proofs.«01_k».proof.Proof.Gen.DownGradWRefIdeal.Run
public import proofs.«01_k».proof.Proof.Gen.InGradA.Frame
public import proofs.«01_k».proof.Proof.Gen.InGradAIdeal.Value
public import proofs.«01_k».proof.Proof.Gen.InGradARefIdeal.Run
public import proofs.«01_k».proof.Proof.Gen.InGradW.Frame
public import proofs.«01_k».proof.Proof.Gen.InGradWIdeal.Value
public import proofs.«01_k».proof.Proof.Gen.InGradWRefIdeal.Run
public import proofs.«01_k».proof.Proof.Gen.OutGradA.Frame
public import proofs.«01_k».proof.Proof.Gen.OutGradAIdeal.Value
public import proofs.«01_k».proof.Proof.Gen.OutGradARefIdeal.Run
public import proofs.«01_k».proof.Proof.Gen.OutGradW.Frame
public import proofs.«01_k».proof.Proof.Gen.OutGradWIdeal.Value
public import proofs.«01_k».proof.Proof.Gen.OutGradWRefIdeal.Run
public import proofs.«01_k».proof.Proof.Gen.UpFwd.Frame
public import proofs.«01_k».proof.Proof.Gen.UpFwdIdeal.Value
public import proofs.«01_k».proof.Proof.Gen.UpFwdRefIdeal.Run
public import proofs.«01_k».proof.Proof.Gen.DownFwd.Frame
public import proofs.«01_k».proof.Proof.Gen.DownFwdIdeal.Value
public import proofs.«01_k».proof.Proof.Gen.DownFwdRefIdeal.Run
public import proofs.«01_k».proof.Proof.Gen.InFwd.Frame
public import proofs.«01_k».proof.Proof.Gen.InFwdIdeal.Value
public import proofs.«01_k».proof.Proof.Gen.InFwdRefIdeal.Run
public import proofs.«01_k».proof.Proof.Gen.OutFwd.Frame
public import proofs.«01_k».proof.Proof.Gen.OutFwdIdeal.Value
public import proofs.«01_k».proof.Proof.Gen.OutFwdRefIdeal.Run
public import proofs.«01_k».proof.Proof.UpGradA
public import proofs.«01_k».proof.Proof.UpGradW
public import proofs.«01_k».proof.Proof.DownGradA
public import proofs.«01_k».proof.Proof.DownGradW
public import proofs.«01_k».proof.Proof.InGradA
public import proofs.«01_k».proof.Proof.InGradW
public import proofs.«01_k».proof.Proof.OutGradA
public import proofs.«01_k».proof.Proof.OutGradW
public import proofs.«01_k».proof.Proof.UpFwd
public import proofs.«01_k».proof.Proof.DownFwd
public import proofs.«01_k».proof.Proof.InFwd
public import proofs.«01_k».proof.Proof.OutFwd
public import proofs.«01_k».proof.Proof.Gen.AttnFwd.Frame
public import proofs.«01_k».proof.Proof.Gen.AttnFwdIdeal.Value
public import proofs.«01_k».proof.Proof.Gen.AttnFwdRefIdeal.Run
public import proofs.«01_k».proof.Proof.AttnFwdArrays
public import proofs.«01_k».proof.Proof.Gen.Pre_finite_conv
public import proofs.«01_k».proof.Proof.ConvFinite
public import proofs.«01_k».proof.Proof.ConvFwdArrays
public import proofs.«01_k».proof.Proof.HgArrays
public import proofs.«01_k».proof.Proof.FinalArrays
public import proofs.«01_k».proof.Proof.HgFwdArrays
public import proofs.«01_k».proof.Proof.FinalFwdArrays
public import proofs.«01_k».proof.Proof.QkBwdArrays
public import proofs.«01_k».proof.Proof.QkFwdArrays
public import proofs.«01_k».proof.Proof.SgateFwdArrays
public import proofs.«01_k».proof.Proof.SgateBwdArrays
public import proofs.«01_k».proof.Proof.ResidFwdArrays
public import proofs.«01_k».proof.Proof.ModNormFwdArrays
public import proofs.«01_k».proof.Proof.Gen.ConvBwd.Frame
public import proofs.«01_k».proof.Proof.Gen.ConvBwdIdeal.Value
public import proofs.«01_k».proof.Proof.Gen.ConvBwdRefIdeal.Run
public import proofs.«01_k».proof.Proof.Gen.ConvFwd.Frame
public import proofs.«01_k».proof.Proof.Gen.ConvFwdIdeal.Value
public import proofs.«01_k».proof.Proof.Gen.ConvFwdRefIdeal.Run
public import proofs.«01_k».proof.Proof.Gen.HgGateBwd.Frame
public import proofs.«01_k».proof.Proof.Gen.HgGateBwdIdeal.Value
public import proofs.«01_k».proof.Proof.Gen.HgGateBwdRefIdeal.Run
public import proofs.«01_k».proof.Proof.Gen.FinalBwd.Frame
public import proofs.«01_k».proof.Proof.Gen.FinalBwdIdeal.Value
public import proofs.«01_k».proof.Proof.Gen.FinalBwdRefIdeal.Run
public import proofs.«01_k».proof.Proof.Gen.HgGateFwd.Frame
public import proofs.«01_k».proof.Proof.Gen.HgGateFwdIdeal.Value
public import proofs.«01_k».proof.Proof.Gen.HgGateFwdRefIdeal.Run
public import proofs.«01_k».proof.Proof.Gen.FinalFwd.Frame
public import proofs.«01_k».proof.Proof.Gen.FinalFwdIdeal.Value
public import proofs.«01_k».proof.Proof.Gen.FinalFwdRefIdeal.Run
public import proofs.«01_k».proof.Proof.Gen.ResidFwd.Frame
public import proofs.«01_k».proof.Proof.Gen.ResidFwdIdeal.Value
public import proofs.«01_k».proof.Proof.Gen.ResidFwdRefIdeal.Run
public import proofs.«01_k».proof.Proof.Gen.ModNormFwd.Frame
public import proofs.«01_k».proof.Proof.Gen.ModNormFwdIdeal.Value
public import proofs.«01_k».proof.Proof.Gen.ModNormFwdRefIdeal.Run
public import proofs.«01_k».proof.Proof.Gen.QkBwd.Frame
public import proofs.«01_k».proof.Proof.Gen.QkBwdIdeal.Value
public import proofs.«01_k».proof.Proof.Gen.QkBwdRefIdeal.Run
public import proofs.«01_k».proof.Proof.Gen.QkFwd.Frame
public import proofs.«01_k».proof.Proof.Gen.QkFwdIdeal.Value
public import proofs.«01_k».proof.Proof.Gen.QkFwdRefIdeal.Run
public import proofs.«01_k».proof.Proof.Gen.SgateBwd.Frame
public import proofs.«01_k».proof.Proof.Gen.SgateBwdIdeal.Value
public import proofs.«01_k».proof.Proof.Gen.SgateBwdRefIdeal.Run
public import proofs.«01_k».proof.Proof.Gen.SgateFwd.Frame
public import proofs.«01_k».proof.Proof.Gen.SgateFwdIdeal.Value
public import proofs.«01_k».proof.Proof.Gen.SgateFwdRefIdeal.Run

@[expose] public section

set_option maxRecDepth 16384

noncomputable section

namespace Cert.Proof

open Idealize.ShloMosaic Idealize.SL.Sem Cert.Kernel

set_option maxHeartbeats 1600000 in
theorem attention_algebraic : Cert.algebraic_KernelIdeal_ReferenceIdeal_pre_finite
    (hKernelIdeal := Cert.KernelIdeal.Gen.facts) (hReferenceIdeal := Cert.ReferenceIdeal.Gen.facts) (hPre_finite := Cert.Pre_finite.Gen.facts) := by
  pair_intro
  · run_from Cert.KernelIdeal.Value.run_blocks m g
  · run_from Cert.ReferenceIdeal.Value.run m' g'
    · rw [Cert.ReferenceIdeal.AttnR.res_dq, (hagree c).1, (hagree c).2.1, (hagree c).2.2.1, (hagree c).2.2.2]
      exact (Cert.KernelIdeal.AttnK.array_dq (Cert.KernelIdeal.AttnK.finite_of_pre hpre c)).symm
    · rw [Cert.ReferenceIdeal.AttnR.res_dk, (hagree c).1, (hagree c).2.1, (hagree c).2.2.1, (hagree c).2.2.2]
      exact (Cert.KernelIdeal.AttnK.array_dk (Cert.KernelIdeal.AttnK.finite_of_pre hpre c)).symm
    · rw [Cert.ReferenceIdeal.AttnR.res_dv, (hagree c).1, (hagree c).2.1, (hagree c).2.2.2]
      exact (Cert.KernelIdeal.AttnK.array_dv (Cert.KernelIdeal.AttnK.finite_of_pre hpre c)).symm

/-- The reference runs, keeps its arguments, and has no semaphore to leave raised. -/
theorem reference_frame : Cert.quiescent_ReferenceIdeal (hReferenceIdeal := Cert.ReferenceIdeal.Gen.facts) := fun m g _ =>
  (θ_run _ _ _).mono (fun r h => ⟨fun c => (h c).2.2.2, sem_eq_zero_of_no_sems rfl r.2⟩) (Cert.ReferenceIdeal.Value.run (F := Ideal) m g)

theorem UpGradA_reference_frame : Cert.quiescent_UpGradARefIdeal (hUpGradARefIdeal := Cert.UpGradARefIdeal.Gen.facts) := fun m g _ =>
  (θ_run _ _ _).mono (fun r h => ⟨fun c => (h c).2, sem_eq_zero_of_no_sems rfl r.2⟩) (Cert.UpGradARefIdeal.Value.run (F := Ideal) m g)

theorem UpGradA_algebraic : Cert.algebraic_UpGradAIdeal_UpGradARefIdeal (hUpGradAIdeal := Cert.UpGradAIdeal.Gen.facts) (hUpGradARefIdeal := Cert.UpGradARefIdeal.Gen.facts) := by
  pair_intro
  · run_from Cert.UpGradAIdeal.Value.run_blocks m g
  · run_from Cert.UpGradARefIdeal.Value.run m' g'
    exact (Cert.UpGradAIdeal.Hand.reference ..).trans (Cert.UpGradAIdeal.Hand.array m c).symm

theorem UpGradW_reference_frame : Cert.quiescent_UpGradWRefIdeal (hUpGradWRefIdeal := Cert.UpGradWRefIdeal.Gen.facts) := fun m g _ =>
  (θ_run _ _ _).mono (fun r h => ⟨fun c => (h c).2, sem_eq_zero_of_no_sems rfl r.2⟩) (Cert.UpGradWRefIdeal.Value.run (F := Ideal) m g)

theorem UpGradW_algebraic : Cert.algebraic_UpGradWIdeal_UpGradWRefIdeal (hUpGradWIdeal := Cert.UpGradWIdeal.Gen.facts) (hUpGradWRefIdeal := Cert.UpGradWRefIdeal.Gen.facts) := by
  pair_intro
  · run_from Cert.UpGradWIdeal.Value.run_blocks m g
  · run_from Cert.UpGradWRefIdeal.Value.run m' g'
    exact (Cert.UpGradWIdeal.Hand.reference ..).trans (Cert.UpGradWIdeal.Hand.array m c).symm

theorem DownGradA_reference_frame : Cert.quiescent_DownGradARefIdeal (hDownGradARefIdeal := Cert.DownGradARefIdeal.Gen.facts) := fun m g _ =>
  (θ_run _ _ _).mono (fun r h => ⟨fun c => (h c).2, sem_eq_zero_of_no_sems rfl r.2⟩) (Cert.DownGradARefIdeal.Value.run (F := Ideal) m g)

theorem DownGradA_algebraic : Cert.algebraic_DownGradAIdeal_DownGradARefIdeal (hDownGradAIdeal := Cert.DownGradAIdeal.Gen.facts) (hDownGradARefIdeal := Cert.DownGradARefIdeal.Gen.facts) := by
  pair_intro
  · run_from Cert.DownGradAIdeal.Value.run_blocks m g
  · run_from Cert.DownGradARefIdeal.Value.run m' g'
    exact (Cert.DownGradAIdeal.Hand.reference ..).trans (Cert.DownGradAIdeal.Hand.array m c).symm

theorem DownGradW_reference_frame : Cert.quiescent_DownGradWRefIdeal (hDownGradWRefIdeal := Cert.DownGradWRefIdeal.Gen.facts) := fun m g _ =>
  (θ_run _ _ _).mono (fun r h => ⟨fun c => (h c).2, sem_eq_zero_of_no_sems rfl r.2⟩) (Cert.DownGradWRefIdeal.Value.run (F := Ideal) m g)

theorem DownGradW_algebraic : Cert.algebraic_DownGradWIdeal_DownGradWRefIdeal (hDownGradWIdeal := Cert.DownGradWIdeal.Gen.facts) (hDownGradWRefIdeal := Cert.DownGradWRefIdeal.Gen.facts) := by
  pair_intro
  · run_from Cert.DownGradWIdeal.Value.run_blocks m g
  · run_from Cert.DownGradWRefIdeal.Value.run m' g'
    exact (Cert.DownGradWIdeal.Hand.reference ..).trans (Cert.DownGradWIdeal.Hand.array m c).symm

theorem InGradA_reference_frame : Cert.quiescent_InGradARefIdeal (hInGradARefIdeal := Cert.InGradARefIdeal.Gen.facts) := fun m g _ =>
  (θ_run _ _ _).mono (fun r h => ⟨fun c => (h c).2, sem_eq_zero_of_no_sems rfl r.2⟩) (Cert.InGradARefIdeal.Value.run (F := Ideal) m g)

theorem InGradA_algebraic : Cert.algebraic_InGradAIdeal_InGradARefIdeal (hInGradAIdeal := Cert.InGradAIdeal.Gen.facts) (hInGradARefIdeal := Cert.InGradARefIdeal.Gen.facts) := by
  pair_intro
  · run_from Cert.InGradAIdeal.Value.run_blocks m g
  · run_from Cert.InGradARefIdeal.Value.run m' g'
    exact (Cert.InGradAIdeal.Hand.reference ..).trans (Cert.InGradAIdeal.Hand.array m c).symm

theorem InGradW_reference_frame : Cert.quiescent_InGradWRefIdeal (hInGradWRefIdeal := Cert.InGradWRefIdeal.Gen.facts) := fun m g _ =>
  (θ_run _ _ _).mono (fun r h => ⟨fun c => (h c).2, sem_eq_zero_of_no_sems rfl r.2⟩) (Cert.InGradWRefIdeal.Value.run (F := Ideal) m g)

theorem InGradW_algebraic : Cert.algebraic_InGradWIdeal_InGradWRefIdeal (hInGradWIdeal := Cert.InGradWIdeal.Gen.facts) (hInGradWRefIdeal := Cert.InGradWRefIdeal.Gen.facts) := by
  pair_intro
  · run_from Cert.InGradWIdeal.Value.run_blocks m g
  · run_from Cert.InGradWRefIdeal.Value.run m' g'
    exact (Cert.InGradWIdeal.Hand.reference ..).trans (Cert.InGradWIdeal.Hand.array m c).symm

theorem OutGradA_reference_frame : Cert.quiescent_OutGradARefIdeal (hOutGradARefIdeal := Cert.OutGradARefIdeal.Gen.facts) := fun m g _ =>
  (θ_run _ _ _).mono (fun r h => ⟨fun c => (h c).2, sem_eq_zero_of_no_sems rfl r.2⟩) (Cert.OutGradARefIdeal.Value.run (F := Ideal) m g)

theorem OutGradA_algebraic : Cert.algebraic_OutGradAIdeal_OutGradARefIdeal (hOutGradAIdeal := Cert.OutGradAIdeal.Gen.facts) (hOutGradARefIdeal := Cert.OutGradARefIdeal.Gen.facts) := by
  pair_intro
  · run_from Cert.OutGradAIdeal.Value.run_blocks m g
  · run_from Cert.OutGradARefIdeal.Value.run m' g'
    exact (Cert.OutGradAIdeal.Hand.reference ..).trans (Cert.OutGradAIdeal.Hand.array m c).symm

theorem OutGradW_reference_frame : Cert.quiescent_OutGradWRefIdeal (hOutGradWRefIdeal := Cert.OutGradWRefIdeal.Gen.facts) := fun m g _ =>
  (θ_run _ _ _).mono (fun r h => ⟨fun c => (h c).2, sem_eq_zero_of_no_sems rfl r.2⟩) (Cert.OutGradWRefIdeal.Value.run (F := Ideal) m g)

theorem OutGradW_algebraic : Cert.algebraic_OutGradWIdeal_OutGradWRefIdeal (hOutGradWIdeal := Cert.OutGradWIdeal.Gen.facts) (hOutGradWRefIdeal := Cert.OutGradWRefIdeal.Gen.facts) := by
  pair_intro
  · run_from Cert.OutGradWIdeal.Value.run_blocks m g
  · run_from Cert.OutGradWRefIdeal.Value.run m' g'
    exact (Cert.OutGradWIdeal.Hand.reference ..).trans (Cert.OutGradWIdeal.Hand.array m c).symm

theorem UpFwd_reference_frame : Cert.quiescent_UpFwdRefIdeal (hUpFwdRefIdeal := Cert.UpFwdRefIdeal.Gen.facts) := fun m g _ =>
  (θ_run _ _ _).mono (fun r h => ⟨fun c => (h c).2, sem_eq_zero_of_no_sems rfl r.2⟩) (Cert.UpFwdRefIdeal.Value.run (F := Ideal) m g)

theorem UpFwd_algebraic : Cert.algebraic_UpFwdIdeal_UpFwdRefIdeal (hUpFwdIdeal := Cert.UpFwdIdeal.Gen.facts) (hUpFwdRefIdeal := Cert.UpFwdRefIdeal.Gen.facts) := by
  pair_intro
  · run_from Cert.UpFwdIdeal.Value.run_blocks m g
  · run_from Cert.UpFwdRefIdeal.Value.run m' g'
    exact (Cert.UpFwdIdeal.Hand.reference ..).trans (Cert.UpFwdIdeal.Hand.array m c).symm

theorem DownFwd_reference_frame : Cert.quiescent_DownFwdRefIdeal (hDownFwdRefIdeal := Cert.DownFwdRefIdeal.Gen.facts) := fun m g _ =>
  (θ_run _ _ _).mono (fun r h => ⟨fun c => (h c).2, sem_eq_zero_of_no_sems rfl r.2⟩) (Cert.DownFwdRefIdeal.Value.run (F := Ideal) m g)

theorem DownFwd_algebraic : Cert.algebraic_DownFwdIdeal_DownFwdRefIdeal (hDownFwdIdeal := Cert.DownFwdIdeal.Gen.facts) (hDownFwdRefIdeal := Cert.DownFwdRefIdeal.Gen.facts) := by
  pair_intro
  · run_from Cert.DownFwdIdeal.Value.run_blocks m g
  · run_from Cert.DownFwdRefIdeal.Value.run m' g'
    exact (Cert.DownFwdIdeal.Hand.reference ..).trans (Cert.DownFwdIdeal.Hand.array m c).symm

theorem InFwd_reference_frame : Cert.quiescent_InFwdRefIdeal (hInFwdRefIdeal := Cert.InFwdRefIdeal.Gen.facts) := fun m g _ =>
  (θ_run _ _ _).mono (fun r h => ⟨fun c => (h c).2, sem_eq_zero_of_no_sems rfl r.2⟩) (Cert.InFwdRefIdeal.Value.run (F := Ideal) m g)

theorem InFwd_algebraic : Cert.algebraic_InFwdIdeal_InFwdRefIdeal (hInFwdIdeal := Cert.InFwdIdeal.Gen.facts) (hInFwdRefIdeal := Cert.InFwdRefIdeal.Gen.facts) := by
  pair_intro
  · run_from Cert.InFwdIdeal.Value.run_blocks m g
  · run_from Cert.InFwdRefIdeal.Value.run m' g'
    exact (Cert.InFwdIdeal.Hand.reference ..).trans (Cert.InFwdIdeal.Hand.array m c).symm

theorem OutFwd_reference_frame : Cert.quiescent_OutFwdRefIdeal (hOutFwdRefIdeal := Cert.OutFwdRefIdeal.Gen.facts) := fun m g _ =>
  (θ_run _ _ _).mono (fun r h => ⟨fun c => (h c).2, sem_eq_zero_of_no_sems rfl r.2⟩) (Cert.OutFwdRefIdeal.Value.run (F := Ideal) m g)

theorem OutFwd_algebraic : Cert.algebraic_OutFwdIdeal_OutFwdRefIdeal (hOutFwdIdeal := Cert.OutFwdIdeal.Gen.facts) (hOutFwdRefIdeal := Cert.OutFwdRefIdeal.Gen.facts) := by
  pair_intro
  · run_from Cert.OutFwdIdeal.Value.run_blocks m g
  · run_from Cert.OutFwdRefIdeal.Value.run m' g'
    exact (Cert.OutFwdIdeal.Hand.reference ..).trans (Cert.OutFwdIdeal.Hand.array m c).symm

theorem AttnFwd_reference_frame : Cert.quiescent_AttnFwdRefIdeal (hAttnFwdRefIdeal := Cert.AttnFwdRefIdeal.Gen.facts) := fun m g _ =>
  (θ_run _ _ _).mono (fun r h => ⟨fun c => (h c).2.2, sem_eq_zero_of_no_sems rfl r.2⟩) (Cert.AttnFwdRefIdeal.Value.run (F := Ideal) m g)

set_option maxHeartbeats 1600000 in
theorem AttnFwd_algebraic : Cert.algebraic_AttnFwdIdeal_AttnFwdRefIdeal_pre_finite_qkv
    (hAttnFwdIdeal := Cert.AttnFwdIdeal.Gen.facts) (hAttnFwdRefIdeal := Cert.AttnFwdRefIdeal.Gen.facts) (hPre_finite_qkv := Cert.Pre_finite_qkv.Gen.facts) := by
  pair_intro
  · run_from Cert.AttnFwdIdeal.Value.run_blocks m g
  · run_from Cert.AttnFwdRefIdeal.Value.run m' g'
    · rw [Cert.AttnFwdRefIdeal.Hand.reference_out, (hagree c).1, (hagree c).2.1, (hagree c).2.2]
      exact (Cert.AttnFwdIdeal.Hand.array_out (Cert.AttnFwdIdeal.Hand.finite_of_pre hpre c)).symm
    · rw [Cert.AttnFwdRefIdeal.Hand.reference_lse, (hagree c).1, (hagree c).2.1]
      exact (Cert.AttnFwdIdeal.Hand.array_lse _ _).symm

theorem ConvBwd_reference_frame : Cert.quiescent_ConvBwdRefIdeal (hConvBwdRefIdeal := Cert.ConvBwdRefIdeal.Gen.facts) := fun m g _ =>
  (θ_run _ _ _).mono (fun r h => ⟨fun c => (h c).2.2.2.2.2.2, sem_eq_zero_of_no_sems rfl r.2⟩) (Cert.ConvBwdRefIdeal.Value.run (F := Ideal) m g)

theorem ConvBwd_algebraic : Cert.algebraic_ConvBwdIdeal_ConvBwdRefIdeal_pre_finite_conv
    (hConvBwdIdeal := Cert.ConvBwdIdeal.Gen.facts) (hConvBwdRefIdeal := Cert.ConvBwdRefIdeal.Gen.facts) (hPre_finite_conv := Cert.Pre_finite_conv.Gen.facts) := by
  pair_intro
  · run_from Cert.ConvBwdIdeal.Value.run_blocks m g
  · have agree (c : Dev Cert.ConvBwdIdeal.nD) : Cert.ConvBwdIdeal.Hand.Agree m c (Idealize.ShloMosaic.StableHlo.launchContents m' c) :=
      ⟨(hagree c).1, (hagree c).2.1, (hagree c).2.2.1, (hagree c).2.2.2⟩
    run_from Cert.ConvBwdRefIdeal.Value.run m' g'
    · exact (Cert.ConvBwdIdeal.Hand.array7 (agree c) (Cert.ConvBwdIdeal.Hand.finite_of_pre hpre (agree c))).symm
    · exact (Cert.ConvBwdIdeal.Hand.array8 (agree c)).symm
    · exact (Cert.ConvBwdIdeal.Hand.array9 (agree c) (Cert.ConvBwdIdeal.Hand.finite_of_pre hpre (agree c))).symm
    · exact (Cert.ConvBwdIdeal.Hand.array10 (agree c)).symm
    · exact (Cert.ConvBwdIdeal.Hand.array11 (agree c) (Cert.ConvBwdIdeal.Hand.finite_of_pre hpre (agree c))).symm
    · exact (Cert.ConvBwdIdeal.Hand.array12 (agree c)).symm

theorem ConvFwd_reference_frame : Cert.quiescent_ConvFwdRefIdeal (hConvFwdRefIdeal := Cert.ConvFwdRefIdeal.Gen.facts) := fun m g _ =>
  (θ_run _ _ _).mono (fun r h => ⟨fun c => (h c).2, sem_eq_zero_of_no_sems rfl r.2⟩) (Cert.ConvFwdRefIdeal.Value.run (F := Ideal) m g)

theorem ConvFwd_algebraic : Cert.algebraic_ConvFwdIdeal_ConvFwdRefIdeal (hConvFwdIdeal := Cert.ConvFwdIdeal.Gen.facts) (hConvFwdRefIdeal := Cert.ConvFwdRefIdeal.Gen.facts) := by
  pair_intro
  · run_from Cert.ConvFwdIdeal.Value.run_blocks m g
  · run_from Cert.ConvFwdRefIdeal.Value.run m' g'
    rw [Cert.ConvFwdIdeal.Hand.reference, (hagree c).1, (hagree c).2.1, (hagree c).2.2]
    exact (Cert.ConvFwdIdeal.Hand.array m c).symm

theorem HgGateBwd_reference_frame : Cert.quiescent_HgGateBwdRefIdeal (hHgGateBwdRefIdeal := Cert.HgGateBwdRefIdeal.Gen.facts) := fun m g _ =>
  (θ_run _ _ _).mono (fun r h => ⟨fun c => (h c).2.2.2.2, sem_eq_zero_of_no_sems rfl r.2⟩) (Cert.HgGateBwdRefIdeal.Value.run (F := Ideal) m g)

set_option maxRecDepth 16384 in
theorem HgGateBwd_algebraic : Cert.algebraic_HgGateBwdIdeal_HgGateBwdRefIdeal
    (hHgGateBwdIdeal := Cert.HgGateBwdIdeal.Gen.facts) (hHgGateBwdRefIdeal := Cert.HgGateBwdRefIdeal.Gen.facts) := by
  pair_intro
  · run_from Cert.HgGateBwdIdeal.Value.run_blocks m g
  · run_from Cert.HgGateBwdRefIdeal.Value.run m' g'
    · exact Cert.HgGateBwdIdeal.Hand.same_do (hagree c).1 (hagree c).2.1 (hagree c).2.2.1 (hagree c).2.2.2.1 (hagree c).2.2.2.2
    · exact Cert.HgGateBwdIdeal.Hand.same_do_again (hagree c).1 (hagree c).2.1 (hagree c).2.2.1 (hagree c).2.2.2.1 (hagree c).2.2.2.2
    · exact Cert.HgGateBwdIdeal.Hand.same_dz rfl rfl rfl rfl rfl
    · exact Cert.HgGateBwdIdeal.Hand.same_dg rfl rfl rfl rfl

theorem FinalBwd_reference_frame : Cert.quiescent_FinalBwdRefIdeal (hFinalBwdRefIdeal := Cert.FinalBwdRefIdeal.Gen.facts) := fun m g _ =>
  (θ_run _ _ _).mono (fun r h => ⟨fun c => (h c).2.2.2.2, sem_eq_zero_of_no_sems rfl r.2⟩) (Cert.FinalBwdRefIdeal.Value.run (F := Ideal) m g)

set_option maxRecDepth 16384 in
theorem FinalBwd_algebraic : Cert.algebraic_FinalBwdIdeal_FinalBwdRefIdeal
    (hFinalBwdIdeal := Cert.FinalBwdIdeal.Gen.facts) (hFinalBwdRefIdeal := Cert.FinalBwdRefIdeal.Gen.facts) := by
  pair_intro
  · run_from Cert.FinalBwdIdeal.Value.run_blocks m g
  · refine θ_run_mono (Cert.FinalBwdRefIdeal.Hand.run_stages m' g') fun r hr c => ?_
    have hc := hr c
    exact ⟨hc.1.trans (Cert.FinalBwdIdeal.Hand.same_dx (hagree c).1 (hagree c).2.1 (hagree c).2.2.1 (hagree c).2.2.2.1 (hagree c).2.2.2.2.1 (hagree c).2.2.2.2.2),
      hc.2.1.trans (Cert.FinalBwdIdeal.Hand.same_dy (hagree c).1 (hagree c).2.1 (hagree c).2.2.1 (hagree c).2.2.2.1 (hagree c).2.2.2.2.1 (hagree c).2.2.2.2.2),
      hc.2.2.1.trans (Cert.FinalBwdIdeal.Hand.same_ds (hagree c).1 (hagree c).2.1 (hagree c).2.2.1 (hagree c).2.2.2.1 (hagree c).2.2.2.2.1 (hagree c).2.2.2.2.2),
      hc.2.2.2.1.trans (Cert.FinalBwdIdeal.Hand.same_dg (hagree c).1 (hagree c).2.1 (hagree c).2.2.1 (hagree c).2.2.2.1 (hagree c).2.2.2.2.1 (hagree c).2.2.2.2.2), hc.2.2.2.2⟩

theorem HgGateFwd_reference_frame : Cert.quiescent_HgGateFwdRefIdeal (hHgGateFwdRefIdeal := Cert.HgGateFwdRefIdeal.Gen.facts) := fun m g _ =>
  (θ_run _ _ _).mono (fun r h => ⟨fun c => (h c).2, sem_eq_zero_of_no_sems rfl r.2⟩) (Cert.HgGateFwdRefIdeal.Value.run (F := Ideal) m g)

set_option maxRecDepth 16384 in
theorem HgGateFwd_algebraic : Cert.algebraic_HgGateFwdIdeal_HgGateFwdRefIdeal
    (hHgGateFwdIdeal := Cert.HgGateFwdIdeal.Gen.facts) (hHgGateFwdRefIdeal := Cert.HgGateFwdRefIdeal.Gen.facts) := by
  pair_intro
  · run_from Cert.HgGateFwdIdeal.Value.run_blocks m g
  · run_from Cert.HgGateFwdRefIdeal.Value.run m' g'
    exact Cert.HgGateFwdIdeal.Hand.same rfl rfl rfl rfl

theorem FinalFwd_reference_frame : Cert.quiescent_FinalFwdRefIdeal (hFinalFwdRefIdeal := Cert.FinalFwdRefIdeal.Gen.facts) := fun m g _ =>
  (θ_run _ _ _).mono (fun r h => ⟨fun c => (h c).2, sem_eq_zero_of_no_sems rfl r.2⟩) (Cert.FinalFwdRefIdeal.Value.run (F := Ideal) m g)

set_option maxRecDepth 16384 in
theorem FinalFwd_algebraic : Cert.algebraic_FinalFwdIdeal_FinalFwdRefIdeal
    (hFinalFwdIdeal := Cert.FinalFwdIdeal.Gen.facts) (hFinalFwdRefIdeal := Cert.FinalFwdRefIdeal.Gen.facts) := by
  pair_intro
  · run_from Cert.FinalFwdIdeal.Value.run_blocks m g
  · run_from Cert.FinalFwdRefIdeal.Value.run m' g'
    exact Cert.FinalFwdIdeal.Hand.same rfl rfl rfl rfl rfl

theorem ResidFwd_reference_frame : Cert.quiescent_ResidFwdRefIdeal (hResidFwdRefIdeal := Cert.ResidFwdRefIdeal.Gen.facts) := fun m g _ =>
  (θ_run _ _ _).mono (fun r h => ⟨fun c => (h c).2.2, sem_eq_zero_of_no_sems rfl r.2⟩) (Cert.ResidFwdRefIdeal.Value.run (F := Ideal) m g)

set_option maxRecDepth 16384 in
theorem ResidFwd_algebraic : Cert.algebraic_ResidFwdIdeal_ResidFwdRefIdeal
    (hResidFwdIdeal := Cert.ResidFwdIdeal.Gen.facts) (hResidFwdRefIdeal := Cert.ResidFwdRefIdeal.Gen.facts) := by
  pair_intro
  · run_from Cert.ResidFwdIdeal.Value.run_blocks m g
  · run_from Cert.ResidFwdRefIdeal.Value.run m' g'
    · exact Cert.ResidFwdIdeal.Hand.same_res rfl rfl (hagree c).2.2.1
    · exact Cert.ResidFwdIdeal.Hand.same_out (hagree c).1 (hagree c).2.1 (hagree c).2.2.1 (hagree c).2.2.2

theorem ModNormFwd_reference_frame : Cert.quiescent_ModNormFwdRefIdeal (hModNormFwdRefIdeal := Cert.ModNormFwdRefIdeal.Gen.facts) := fun m g _ =>
  (θ_run _ _ _).mono (fun r h => ⟨fun c => (h c).2, sem_eq_zero_of_no_sems rfl r.2⟩) (Cert.ModNormFwdRefIdeal.Value.run (F := Ideal) m g)

set_option maxRecDepth 16384 in
theorem ModNormFwd_algebraic : Cert.algebraic_ModNormFwdIdeal_ModNormFwdRefIdeal
    (hModNormFwdIdeal := Cert.ModNormFwdIdeal.Gen.facts) (hModNormFwdRefIdeal := Cert.ModNormFwdRefIdeal.Gen.facts) := by
  pair_intro
  · run_from Cert.ModNormFwdIdeal.Value.run_blocks m g
  · run_from Cert.ModNormFwdRefIdeal.Value.run m' g'
    exact Cert.ModNormFwdIdeal.Hand.same rfl (hagree c).2.1 rfl

theorem QkBwd_reference_frame : Cert.quiescent_QkBwdRefIdeal (hQkBwdRefIdeal := Cert.QkBwdRefIdeal.Gen.facts) := fun m g _ =>
  (θ_run _ _ _).mono (fun r h => ⟨fun c => (h c).2.2.2.2.2, sem_eq_zero_of_no_sems rfl r.2⟩) (Cert.QkBwdRefIdeal.Value.run (F := Ideal) m g)

set_option maxRecDepth 16384 in
theorem QkBwd_algebraic : Cert.algebraic_QkBwdIdeal_QkBwdRefIdeal
    (hQkBwdIdeal := Cert.QkBwdIdeal.Gen.facts) (hQkBwdRefIdeal := Cert.QkBwdRefIdeal.Gen.facts) := by
  pair_intro
  · run_from Cert.QkBwdIdeal.Value.run_blocks m g
  · run_from Cert.QkBwdRefIdeal.Value.run m' g'
    · exact Cert.QkBwdIdeal.Hand.same_dq (hagree c).1 (hagree c).2.2.2.1 (hagree c).2.2.2.2.1 (hagree c).2.2.2.2.2.1 (hagree c).2.2.2.2.2.2.2.1
    · exact Cert.QkBwdIdeal.Hand.same_dk (hagree c).2.1 (hagree c).2.2.2.1 (hagree c).2.2.2.2.1 (hagree c).2.2.2.2.2.2.1 (hagree c).2.2.2.2.2.2.2.2.1
    · exact Cert.QkBwdIdeal.Hand.same_dv rfl
    · exact Cert.QkBwdIdeal.Hand.same_dqg (hagree c).1 (hagree c).2.2.2.1 (hagree c).2.2.2.2.1 (hagree c).2.2.2.2.2.2.2.1
    · exact Cert.QkBwdIdeal.Hand.same_dkg (hagree c).2.1 (hagree c).2.2.2.1 (hagree c).2.2.2.2.1 (hagree c).2.2.2.2.2.2.2.2.1

theorem QkFwd_reference_frame : Cert.quiescent_QkFwdRefIdeal (hQkFwdRefIdeal := Cert.QkFwdRefIdeal.Gen.facts) := fun m g _ =>
  (θ_run _ _ _).mono (fun r h => ⟨fun c => (h c).2.2.2, sem_eq_zero_of_no_sems rfl r.2⟩) (Cert.QkFwdRefIdeal.Value.run (F := Ideal) m g)

set_option maxRecDepth 16384 in
theorem QkFwd_algebraic : Cert.algebraic_QkFwdIdeal_QkFwdRefIdeal
    (hQkFwdIdeal := Cert.QkFwdIdeal.Gen.facts) (hQkFwdRefIdeal := Cert.QkFwdRefIdeal.Gen.facts) := by
  pair_intro
  · run_from Cert.QkFwdIdeal.Value.run_blocks m g
  · run_from Cert.QkFwdRefIdeal.Value.run m' g'
    · exact Cert.QkFwdIdeal.Hand.same_q (hagree c).1 (hagree c).2.2.2.1 (hagree c).2.2.2.2.1 (hagree c).2.2.2.2.2.1
    · exact Cert.QkFwdIdeal.Hand.same_k (hagree c).2.1 (hagree c).2.2.2.1 (hagree c).2.2.2.2.1 (hagree c).2.2.2.2.2.2
    · exact Cert.QkFwdIdeal.Hand.same_v rfl

theorem SgateFwd_reference_frame : Cert.quiescent_SgateFwdRefIdeal (hSgateFwdRefIdeal := Cert.SgateFwdRefIdeal.Gen.facts) := fun m g _ =>
  (θ_run _ _ _).mono (fun r h => ⟨fun c => (h c).2, sem_eq_zero_of_no_sems rfl r.2⟩) (Cert.SgateFwdRefIdeal.Value.run (F := Ideal) m g)

set_option maxRecDepth 16384 in
theorem SgateFwd_algebraic : Cert.algebraic_SgateFwdIdeal_SgateFwdRefIdeal
    (hSgateFwdIdeal := Cert.SgateFwdIdeal.Gen.facts) (hSgateFwdRefIdeal := Cert.SgateFwdRefIdeal.Gen.facts) := by
  pair_intro
  · run_from Cert.SgateFwdIdeal.Value.run_blocks m g
  · run_from Cert.SgateFwdRefIdeal.Value.run m' g'
    exact Cert.SgateFwdIdeal.Hand.same (hagree c).1 (hagree c).2.1 (hagree c).2.2.1 (hagree c).2.2.2.1 (hagree c).2.2.2.2.1 (hagree c).2.2.2.2.2.1
      (hagree c).2.2.2.2.2.2.1 (hagree c).2.2.2.2.2.2.2

theorem SgateBwd_reference_frame : Cert.quiescent_SgateBwdRefIdeal (hSgateBwdRefIdeal := Cert.SgateBwdRefIdeal.Gen.facts) := fun m g _ =>
  (θ_run _ _ _).mono (fun r h => ⟨fun c => (h c).2.2.2.2.2.2.2.2, sem_eq_zero_of_no_sems rfl r.2⟩) (Cert.SgateBwdRefIdeal.Value.run (F := Ideal) m g)

set_option maxRecDepth 16384 in
theorem SgateBwd_algebraic : Cert.algebraic_SgateBwdIdeal_SgateBwdRefIdeal
    (hSgateBwdIdeal := Cert.SgateBwdIdeal.Gen.facts) (hSgateBwdRefIdeal := Cert.SgateBwdRefIdeal.Gen.facts) := by
  pair_intro
  · run_from Cert.SgateBwdIdeal.Value.run_blocks m g
  · run_from Cert.SgateBwdRefIdeal.Value.run m' g'
    · exact Cert.SgateBwdIdeal.Hand.same_du (hagree c).1 (hagree c).2.1 (hagree c).2.2.1 (hagree c).2.2.2.1
        (hagree c).2.2.2.2.1 (hagree c).2.2.2.2.2.1 (hagree c).2.2.2.2.2.2.1 (hagree c).2.2.2.2.2.2.2.1 (hagree c).2.2.2.2.2.2.2.2
    · exact Cert.SgateBwdIdeal.Hand.same_dv (hagree c).1 (hagree c).2.1 (hagree c).2.2.1 (hagree c).2.2.2.1 (hagree c).2.2.2.2.2.2.2.2
    · exact Cert.SgateBwdIdeal.Hand.same_dg rfl rfl rfl rfl
    · exact Cert.SgateBwdIdeal.Hand.same_dw rfl rfl rfl rfl
    · exact Cert.SgateBwdIdeal.Hand.same_db0 rfl rfl
    · exact Cert.SgateBwdIdeal.Hand.same_db1 rfl rfl
    · exact Cert.SgateBwdIdeal.Hand.same_db2 rfl rfl
    · exact Cert.SgateBwdIdeal.Hand.same_db3 rfl rfl

theorem claim : Cert.Claim := ⟨Cert.Kernel.Gen.facts, Cert.KernelIdeal.Gen.facts, Cert.ReferenceIdeal.Gen.facts, Cert.UpGradA.Gen.facts, Cert.UpGradAIdeal.Gen.facts, Cert.UpGradARefIdeal.Gen.facts, Cert.UpGradW.Gen.facts, Cert.UpGradWIdeal.Gen.facts, Cert.UpGradWRefIdeal.Gen.facts, Cert.DownGradA.Gen.facts, Cert.DownGradAIdeal.Gen.facts, Cert.DownGradARefIdeal.Gen.facts, Cert.DownGradW.Gen.facts, Cert.DownGradWIdeal.Gen.facts, Cert.DownGradWRefIdeal.Gen.facts, Cert.InGradA.Gen.facts, Cert.InGradAIdeal.Gen.facts, Cert.InGradARefIdeal.Gen.facts, Cert.InGradW.Gen.facts, Cert.InGradWIdeal.Gen.facts, Cert.InGradWRefIdeal.Gen.facts, Cert.OutGradA.Gen.facts, Cert.OutGradAIdeal.Gen.facts, Cert.OutGradARefIdeal.Gen.facts, Cert.OutGradW.Gen.facts, Cert.OutGradWIdeal.Gen.facts, Cert.OutGradWRefIdeal.Gen.facts, Cert.UpFwd.Gen.facts, Cert.UpFwdIdeal.Gen.facts, Cert.UpFwdRefIdeal.Gen.facts, Cert.DownFwd.Gen.facts, Cert.DownFwdIdeal.Gen.facts, Cert.DownFwdRefIdeal.Gen.facts, Cert.InFwd.Gen.facts, Cert.InFwdIdeal.Gen.facts, Cert.InFwdRefIdeal.Gen.facts, Cert.OutFwd.Gen.facts, Cert.OutFwdIdeal.Gen.facts, Cert.OutFwdRefIdeal.Gen.facts, Cert.AttnFwd.Gen.facts, Cert.AttnFwdIdeal.Gen.facts, Cert.AttnFwdRefIdeal.Gen.facts, Cert.ConvBwd.Gen.facts, Cert.ConvBwdIdeal.Gen.facts, Cert.ConvBwdRefIdeal.Gen.facts, Cert.ConvFwd.Gen.facts, Cert.ConvFwdIdeal.Gen.facts, Cert.ConvFwdRefIdeal.Gen.facts, Cert.HgGateBwd.Gen.facts, Cert.HgGateBwdIdeal.Gen.facts, Cert.HgGateBwdRefIdeal.Gen.facts, Cert.FinalBwd.Gen.facts, Cert.FinalBwdIdeal.Gen.facts, Cert.FinalBwdRefIdeal.Gen.facts, Cert.HgGateFwd.Gen.facts, Cert.HgGateFwdIdeal.Gen.facts, Cert.HgGateFwdRefIdeal.Gen.facts, Cert.FinalFwd.Gen.facts, Cert.FinalFwdIdeal.Gen.facts, Cert.FinalFwdRefIdeal.Gen.facts, Cert.ResidFwd.Gen.facts, Cert.ResidFwdIdeal.Gen.facts, Cert.ResidFwdRefIdeal.Gen.facts, Cert.ModNormFwd.Gen.facts, Cert.ModNormFwdIdeal.Gen.facts, Cert.ModNormFwdRefIdeal.Gen.facts, Cert.QkBwd.Gen.facts, Cert.QkBwdIdeal.Gen.facts, Cert.QkBwdRefIdeal.Gen.facts, Cert.QkFwd.Gen.facts, Cert.QkFwdIdeal.Gen.facts, Cert.QkFwdRefIdeal.Gen.facts, Cert.SgateFwd.Gen.facts, Cert.SgateFwdIdeal.Gen.facts, Cert.SgateFwdRefIdeal.Gen.facts, Cert.SgateBwd.Gen.facts, Cert.SgateBwdIdeal.Gen.facts, Cert.SgateBwdRefIdeal.Gen.facts, Cert.Pre_finite.Gen.facts, Cert.Pre_finite_qkv.Gen.facts, Cert.Pre_finite_conv.Gen.facts,
  fun m g _ => by run_from Cert.Kernel.Gen.frame m g,
  fun m g _ => by run_from Cert.KernelIdeal.Gen.frame m g,
  fun m g _ => by run_from Cert.KernelIdeal.Gen.frame m g,
  reference_frame,
  fun m g _ => reference_frame m g trivial,
  fun m g _ => by run_from Cert.UpGradA.Gen.frame m g, fun m g _ => by run_from Cert.UpGradAIdeal.Gen.frame m g, UpGradA_reference_frame,
  fun m g _ => by run_from Cert.UpGradW.Gen.frame m g, fun m g _ => by run_from Cert.UpGradWIdeal.Gen.frame m g, UpGradW_reference_frame,
  fun m g _ => by run_from Cert.DownGradA.Gen.frame m g, fun m g _ => by run_from Cert.DownGradAIdeal.Gen.frame m g, DownGradA_reference_frame,
  fun m g _ => by run_from Cert.DownGradW.Gen.frame m g, fun m g _ => by run_from Cert.DownGradWIdeal.Gen.frame m g, DownGradW_reference_frame,
  fun m g _ => by run_from Cert.InGradA.Gen.frame m g, fun m g _ => by run_from Cert.InGradAIdeal.Gen.frame m g, InGradA_reference_frame,
  fun m g _ => by run_from Cert.InGradW.Gen.frame m g, fun m g _ => by run_from Cert.InGradWIdeal.Gen.frame m g, InGradW_reference_frame,
  fun m g _ => by run_from Cert.OutGradA.Gen.frame m g, fun m g _ => by run_from Cert.OutGradAIdeal.Gen.frame m g, OutGradA_reference_frame,
  fun m g _ => by run_from Cert.OutGradW.Gen.frame m g, fun m g _ => by run_from Cert.OutGradWIdeal.Gen.frame m g, OutGradW_reference_frame,
  fun m g _ => by run_from Cert.UpFwd.Gen.frame m g, fun m g _ => by run_from Cert.UpFwdIdeal.Gen.frame m g, UpFwd_reference_frame,
  fun m g _ => by run_from Cert.DownFwd.Gen.frame m g, fun m g _ => by run_from Cert.DownFwdIdeal.Gen.frame m g, DownFwd_reference_frame,
  fun m g _ => by run_from Cert.InFwd.Gen.frame m g, fun m g _ => by run_from Cert.InFwdIdeal.Gen.frame m g, InFwd_reference_frame,
  fun m g _ => by run_from Cert.OutFwd.Gen.frame m g, fun m g _ => by run_from Cert.OutFwdIdeal.Gen.frame m g, OutFwd_reference_frame,
  fun m g _ => by run_from Cert.AttnFwd.Gen.frame m g, fun m g _ => by run_from Cert.AttnFwdIdeal.Gen.frame m g,
  fun m g _ => by run_from Cert.AttnFwdIdeal.Gen.frame m g, AttnFwd_reference_frame, fun m g _ => AttnFwd_reference_frame m g trivial,
  fun m g _ => by run_from Cert.ConvBwd.Gen.frame m g, fun m g _ => by run_from Cert.ConvBwdIdeal.Gen.frame m g,
  fun m g _ => by run_from Cert.ConvBwdIdeal.Gen.frame m g, ConvBwd_reference_frame, fun m g _ => ConvBwd_reference_frame m g trivial,
  fun m g _ => by run_from Cert.ConvFwd.Gen.frame m g, fun m g _ => by run_from Cert.ConvFwdIdeal.Gen.frame m g, ConvFwd_reference_frame,
  fun m g _ => by run_from Cert.HgGateBwd.Gen.frame m g, fun m g _ => by run_from Cert.HgGateBwdIdeal.Gen.frame m g, HgGateBwd_reference_frame,
  fun m g _ => by run_from Cert.FinalBwd.Gen.frame m g, fun m g _ => by run_from Cert.FinalBwdIdeal.Gen.frame m g, FinalBwd_reference_frame,
  fun m g _ => by run_from Cert.HgGateFwd.Gen.frame m g, fun m g _ => by run_from Cert.HgGateFwdIdeal.Gen.frame m g, HgGateFwd_reference_frame,
  fun m g _ => by run_from Cert.FinalFwd.Gen.frame m g, fun m g _ => by run_from Cert.FinalFwdIdeal.Gen.frame m g, FinalFwd_reference_frame,
  fun m g _ => by run_from Cert.ResidFwd.Gen.frame m g, fun m g _ => by run_from Cert.ResidFwdIdeal.Gen.frame m g, ResidFwd_reference_frame,
  fun m g _ => by run_from Cert.ModNormFwd.Gen.frame m g, fun m g _ => by run_from Cert.ModNormFwdIdeal.Gen.frame m g, ModNormFwd_reference_frame,
  fun m g _ => by run_from Cert.QkBwd.Gen.frame m g, fun m g _ => by run_from Cert.QkBwdIdeal.Gen.frame m g, QkBwd_reference_frame,
  fun m g _ => by run_from Cert.QkFwd.Gen.frame m g, fun m g _ => by run_from Cert.QkFwdIdeal.Gen.frame m g, QkFwd_reference_frame,
  fun m g _ => by run_from Cert.SgateFwd.Gen.frame m g, fun m g _ => by run_from Cert.SgateFwdIdeal.Gen.frame m g, SgateFwd_reference_frame,
  fun m g _ => by run_from Cert.SgateBwd.Gen.frame m g, fun m g _ => by run_from Cert.SgateBwdIdeal.Gen.frame m g, SgateBwd_reference_frame,
  trivial, attention_algebraic,
  trivial, UpGradA_algebraic,
  trivial, UpGradW_algebraic,
  trivial, DownGradA_algebraic,
  trivial, DownGradW_algebraic,
  trivial, InGradA_algebraic,
  trivial, InGradW_algebraic,
  trivial, OutGradA_algebraic,
  trivial, OutGradW_algebraic,
  trivial, UpFwd_algebraic,
  trivial, DownFwd_algebraic,
  trivial, InFwd_algebraic,
  trivial, OutFwd_algebraic,
  trivial, AttnFwd_algebraic,
  trivial, ConvBwd_algebraic,
  trivial, ConvFwd_algebraic,
  trivial, HgGateBwd_algebraic,
  trivial, FinalBwd_algebraic,
  trivial, HgGateFwd_algebraic,
  trivial, FinalFwd_algebraic,
  trivial, ResidFwd_algebraic,
  trivial, ModNormFwd_algebraic,
  trivial, QkBwd_algebraic,
  trivial, QkFwd_algebraic,
  trivial, SgateFwd_algebraic,
  trivial, SgateBwd_algebraic⟩

end Cert.Proof

end
